-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
      ∧ m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
      ∧ m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)
      ∧ m' ((c.tc : Thread Cert.FirstReferenceIdeal.nD Cert.FirstReferenceIdeal.τ).loc Cert.FirstReferenceIdeal.main_arg11) = m ((c.tc : Thread Cert.FirstIdeal.nD Cert.FirstIdeal.τ).loc Cert.FirstIdeal.main_arg11)) →
    ∃ (v0 : (c : Dev Cert.FirstIdeal.nD) → Buf (Elt Ideal) ((c.tc : Thread Cert.FirstIdeal.nD Cert.FirstIdeal.τ).loc Cert.FirstIdeal.main_v6_0)) (v1 : (c : Dev Cert.FirstIdeal.nD) → Buf (Elt Ideal) ((c.tc : Thread Cert.FirstIdeal.nD Cert.FirstIdeal.τ).loc Cert.FirstIdeal.main_v6_4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v6_0) = v0 c
          ∧ r.2.mem ((c.tc : Thread Cert.FirstIdeal.nD Cert.FirstIdeal.τ).loc Cert.FirstIdeal.main_v6_4) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v56) = v0 c
          ∧ r.2.mem ((c.tc : Thread Cert.FirstReferenceIdeal.nD Cert.FirstReferenceIdeal.τ).loc Cert.FirstReferenceIdeal.main_v57) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts),
    quiescent_Kernel (hKernel := hKernel)
    ∧ quiescent_KernelIdeal (hKernelIdeal := hKernelIdeal)
    ∧ quiescent_ReferenceIdeal (hReferenceIdeal := hReferenceIdeal)
    ∧ quiescent_First (hFirst := hFirst)
    ∧ quiescent_FirstIdeal (hFirstIdeal := hFirstIdeal)
    ∧ quiescent_FirstReferenceIdeal (hFirstReferenceIdeal := hFirstReferenceIdeal)
    ∧ preserves_Kernel_KernelIdeal
    ∧ algebraic_KernelIdeal_ReferenceIdeal (hKernelIdeal := hKernelIdeal) (hReferenceIdeal := hReferenceIdeal)
    ∧ preserves_First_FirstIdeal
    ∧ algebraic_FirstIdeal_FirstReferenceIdeal (hFirstIdeal := hFirstIdeal) (hFirstReferenceIdeal := hFirstReferenceIdeal)
-- ==== Kernel.lean ====
abbrev S8x2048x1024 : Shape := ⟨3, ![8, 2048, 1024]⟩
abbrev S8x6144 : Shape := ⟨2, ![8, 6144]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S3 : Shape := ⟨1, ![3]⟩
abbrev S1 : Shape := ⟨1, ![1]⟩
abbrev S_ : Shape := ⟨0, ![]⟩
abbrev S2x1024x1024 : Shape := ⟨3, ![2, 1024, 1024]⟩
abbrev S2 : Shape := ⟨1, ![2]⟩
abbrev S1x1024x1024 : Shape := ⟨3, ![1, 1024, 1024]⟩
abbrev S1024x1 : Shape := ⟨2, ![1024, 1]⟩
abbrev S8x3072 : Shape := ⟨2, ![8, 3072]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S8x6144, .f32⟩
  | .local _ .vmem, ⟨1, _⟩ => ⟨S1x1024, .f32⟩
  | .local _ .vmem, ⟨2, _⟩ => ⟨S1x1024, .f32⟩
  | .local _ .vmem, ⟨3, _⟩ => ⟨S1024x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S2x1024x1024, .f32⟩
  | .local _ .vmem, ⟨8, _⟩ => ⟨S2x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scoped0 : Ref sig .tc := ⟨.vmem, 7, rfl⟩
abbrev cc0_scoped2 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_18_r0 : BitVec 32 := 0#32
  let c2_i32_19_r0 : BitVec 32 := 2#32
  let v25_r0 : BitVec 32 := Scalar.remui c0_i32_18_r0 c2_i32_19_r0
  ![v25_r0.toNat]
def k0_off2 : Fin 3 → Nat :=
  let c0_i32_18_r0 : BitVec 32 := 0#32
  let c2_i32_19_r0 : BitVec 32 := 2#32
  let v25_r0 : BitVec 32 := Scalar.remui c0_i32_18_r0 c2_i32_19_r0
  let c0_i32_21_r0 : BitVec 32 := 0#32
  let c0_i32_22_r0 : BitVec 32 := 0#32
  ![v25_r0.toNat, 0, 0]
def k0_off3 : Fin 2 → Nat :=
  let c1024_i32_r0 : BitVec 32 := 1024#32
  let c0_i32_20_r0 : BitVec 32 := 0#32
  let c15_i32_r0 : BitVec 32 := 15#32
  let v26_r0 : BitVec 32 := Scalar.minsi c0_i32_20_r0 c15_i32_r0
  let v27_r0 : BitVec 32 := Scalar.muli c1024_i32_r0 v26_r0
  let c0_i32_23_r0 : BitVec 32 := 0#32
  ![v27_r0.toNat, 0]
@[reducible] def k0_t1_loop : Scf.Loop 32 :=
  let c0_i32_30_r0 : BitVec 32 := 0#32
  let c17_i32_31_r0 : BitVec 32 := 17#32
  let v34_r0 : BitVec 32 := Scalar.addi c0_i32_30_r0 c17_i32_31_r0
  let c1_i32_32_r0 : BitVec 32 := 1#32
  ⟨c0_i32_30_r0, v34_r0, c1_i32_32_r0⟩
def k0_off4 (arg14_r0 : BitVec 32) : Fin 1 → Nat :=
  let c2_i32_124_r0 : BitVec 32 := 2#32
  let v163_r0 : BitVec 32 := Scalar.remui arg14_r0 c2_i32_124_r0
  ![v163_r0.toNat]
def k0_cond1 (k0_t1 : Fin k0_t1_loop.trips) (arg18_r0 : BitVec 32) : BitVec 1 :=
  let c0_i32_63_r0 : BitVec 32 := 0#32
  let v67_r0 : BitVec 32 := Scalar.addi arg18_r0 c0_i32_63_r0
  let c15_i32_79_r0 : BitVec 32 := 15#32
  let v83_r0 : BitVec 32 := Scalar.minsi v67_r0 c15_i32_79_r0
  let true_70_r0 : BitVec 1 := 1#1
  let c1_i32_69_r0 : BitVec 32 := 1#32
  let v73_r0 : BitVec 32 := Scalar.addi arg18_r0 c1_i32_69_r0
  let v74_r0 : BitVec 32 := Scalar.select true_70_r0 v73_r0 arg18_r0
  let c17_i32_71_r0 : BitVec 32 := 17#32
  let v75_r0 : BitVec 1 := Scalar.cmpi .eq v74_r0 c17_i32_71_r0
  let c0_i32_72_r0 : BitVec 32 := 0#32
  let v76_r0 : BitVec 32 := Scalar.select v75_r0 c0_i32_72_r0 v74_r0
  let c0_i32_73_r0 : BitVec 32 := 0#32
  let v77_r0 : BitVec 32 := Scalar.addi v76_r0 c0_i32_73_r0
  let c15_i32_80_r0 : BitVec 32 := 15#32
  let v84_r0 : BitVec 32 := Scalar.minsi v77_r0 c15_i32_80_r0
  let v85_r0 : BitVec 1 := Scalar.cmpi .ne v83_r0 v84_r0
  let c0_i32_30_r0 : BitVec 32 := 0#32
  let c1_i32_32_r0 : BitVec 32 := 1#32
  let arg13_r0 : BitVec 32 := Scf.iv c0_i32_30_r0 c1_i32_32_r0 k0_t1
  let c16_i32_81_r0 : BitVec 32 := 16#32
  let v86_r0 : BitVec 1 := Scalar.cmpi .sge arg13_r0 c16_i32_81_r0
  let true_82_r0 : BitVec 1 := 1#1
  let v87_r0 : BitVec 1 := Scalar.xori v86_r0 true_82_r0
  let v88_r0 : BitVec 1 := Scalar.andi v85_r0 v87_r0
  let true_83_r0 : BitVec 1 := 1#1
  let v89_r0 : BitVec 1 := Scalar.andi v88_r0 true_83_r0
  let v90_r0 : BitVec 32 := Scalar.extui v89_r0
  let c0_i32_84_r0 : BitVec 32 := 0#32
  let v91_r0 : BitVec 1 := Scalar.cmpi .ne v90_r0 c0_i32_84_r0
  v91_r0

def k0_off5 (arg14_r0 : BitVec 32) : Fin 3 → Nat :=
  let c2_i32_124_r0 : BitVec 32 := 2#32
  let v163_r0 : BitVec 32 := Scalar.remui arg14_r0 c2_i32_124_r0
  let c0_i32_127_r0 : BitVec 32 := 0#32
  let c0_i32_128_r0 : BitVec 32 := 0#32
  ![v163_r0.toNat, 0, 0]
def k0_off6 (arg18_r0 : BitVec 32) : Fin 2 → Nat :=
  let c1024_i32_126_r0 : BitVec 32 := 1024#32
  let true_70_r0 : BitVec 1 := 1#1
  let c1_i32_69_r0 : BitVec 32 := 1#32
  let v73_r0 : BitVec 32 := Scalar.addi arg18_r0 c1_i32_69_r0
  let v74_r0 : BitVec 32 := Scalar.select true_70_r0 v73_r0 arg18_r0
  let c17_i32_71_r0 : BitVec 32 := 17#32
  let v75_r0 : BitVec 1 := Scalar.cmpi .eq v74_r0 c17_i32_71_r0
  let c0_i32_72_r0 : BitVec 32 := 0#32
  let v76_r0 : BitVec 32 := Scalar.select v75_r0 c0_i32_72_r0 v74_r0
  let c0_i32_73_r0 : BitVec 32 := 0#32
  let v77_r0 : BitVec 32 := Scalar.addi v76_r0 c0_i32_73_r0
  let c15_i32_125_r0 : BitVec 32 := 15#32
  let v164_r0 : BitVec 32 := Scalar.minsi v77_r0 c15_i32_125_r0
  let v165_r0 : BitVec 32 := Scalar.muli c1024_i32_126_r0 v164_r0
  let c0_i32_129_r0 : BitVec 32 := 0#32
  ![v165_r0.toNat, 0]
def k0_off7 (arg15_r0 : BitVec 32) : Fin 1 → Nat :=
  let c2_i32_126_r0 : BitVec 32 := 2#32
  let v165_r0 : BitVec 32 := Scalar.remui arg15_r0 c2_i32_126_r0
  ![v165_r0.toNat]
def k0_cond2 (k0_t1 : Fin k0_t1_loop.trips) (arg18_r0 : BitVec 32) : BitVec 1 :=
  let c0_i32_63_r0 : BitVec 32 := 0#32
  let v67_r0 : BitVec 32 := Scalar.addi arg18_r0 c0_i32_63_r0
  let c15_i32_79_r0 : BitVec 32 := 15#32
  let v83_r0 : BitVec 32 := Scalar.minsi v67_r0 c15_i32_79_r0
  let true_65_r0 : BitVec 1 := 1#1
  let c1_i32_64_r0 : BitVec 32 := 1#32
  let v68_r0 : BitVec 32 := Scalar.subi arg18_r0 c1_i32_64_r0
  let v69_r0 : BitVec 32 := Scalar.select true_65_r0 v68_r0 arg18_r0
  let c_m1_i32_66_r0 : BitVec 32 := 4294967295#32
  let v70_r0 : BitVec 1 := Scalar.cmpi .eq v69_r0 c_m1_i32_66_r0
  let c16_i32_67_r0 : BitVec 32 := 16#32
  let v71_r0 : BitVec 32 := Scalar.select v70_r0 c16_i32_67_r0 v69_r0
  let c0_i32_68_r0 : BitVec 32 := 0#32
  let v72_r0 : BitVec 32 := Scalar.addi v71_r0 c0_i32_68_r0
  let c15_i32_93_r0 : BitVec 32 := 15#32
  let v103_r0 : BitVec 32 := Scalar.minsi v72_r0 c15_i32_93_r0
  let v104_r0 : BitVec 1 := Scalar.cmpi .ne v83_r0 v103_r0
  let c0_i32_30_r0 : BitVec 32 := 0#32
  let c1_i32_32_r0 : BitVec 32 := 1#32
  let arg13_r0 : BitVec 32 := Scf.iv c0_i32_30_r0 c1_i32_32_r0 k0_t1
  let c0_i32_61_r0 : BitVec 32 := 0#32
  let v65_r0 : BitVec 1 := Scalar.cmpi .eq arg13_r0 c0_i32_61_r0
  let v105_r0 : BitVec 1 := Scalar.ori v104_r0 v65_r0
  let c0_i32_94_r0 : BitVec 32 := 0#32
  let v106_r0 : BitVec 1 := Scalar.cmpi .sge arg13_r0 c0_i32_94_r0
  let v107_r0 : BitVec 1 := Scalar.andi v105_r0 v106_r0
  let v108_r0 : BitVec 32 := Scalar.extui v107_r0
  let c0_i32_95_r0 : BitVec 32 := 0#32
  let v109_r0 : BitVec 1 := Scalar.cmpi .ne v108_r0 c0_i32_95_r0
  v109_r0

def k0_off8 (arg15_r0 : BitVec 32) : Fin 3 → Nat :=
  let c2_i32_126_r0 : BitVec 32 := 2#32
  let v165_r0 : BitVec 32 := Scalar.remui arg15_r0 c2_i32_126_r0
  let c0_i32_127_r0 : BitVec 32 := 0#32
  let c0_i32_128_r0 : BitVec 32 := 0#32
  ![v165_r0.toNat, 0, 0]
def k0_off9 (arg18_r0 : BitVec 32) : Fin 2 → Nat :=
  let c1024_i32_125_r0 : BitVec 32 := 1024#32
  let c0_i32_63_r0 : BitVec 32 := 0#32
  let v67_r0 : BitVec 32 := Scalar.addi arg18_r0 c0_i32_63_r0
  let c15_i32_124_r0 : BitVec 32 := 15#32
  let v163_r0 : BitVec 32 := Scalar.minsi v67_r0 c15_i32_124_r0
  let v164_r0 : BitVec 32 := Scalar.muli c1024_i32_125_r0 v163_r0
  let c0_i32_129_r0 : BitVec 32 := 0#32
  ![v164_r0.toNat, 0]
def k0_off10 (arg16_r0 : BitVec 32) : Fin 3 → Nat :=
  let c2_i32_101_r0 : BitVec 32 := 2#32
  let v119_r0 : BitVec 32 := Scalar.remui arg16_r0 c2_i32_101_r0
  let v188_r0 : Index := Scalar.indexCast v119_r0
  let c0_135_r0 : Index := 0#32
  let c0_136_r0 : Index := 0#32
  ![v188_r0.toNat, 0, 0]
def k0_cond5 (arg18_r0 : BitVec 32) : BitVec 1 :=
  let c0_i32_63_r0 : BitVec 32 := 0#32
  let v67_r0 : BitVec 32 := Scalar.addi arg18_r0 c0_i32_63_r0
  let c16_i32_104_r0 : BitVec 32 := 16#32
  let v123_r0 : BitVec 1 := Scalar.cmpi .slt v67_r0 c16_i32_104_r0
  let v124_r0 : BitVec 32 := Scalar.extui v123_r0
  let c0_i32_105_r0 : BitVec 32 := 0#32
  let v125_r0 : BitVec 1 := Scalar.cmpi .ne v124_r0 c0_i32_105_r0
  v125_r0

def k0_off11 (arg15_r0 : BitVec 32) : Fin 3 → Nat :=
  let c2_i32_100_r0 : BitVec 32 := 2#32
  let v118_r0 : BitVec 32 := Scalar.remui arg15_r0 c2_i32_100_r0
  let v192_r0 : Index := Scalar.indexCast v118_r0
  let c0_137_r0 : Index := 0#32
  let c0_138_r0 : Index := 0#32
  ![v192_r0.toNat, 0, 0]
def k0_off12 (arg18_r0 : BitVec 32) : Fin 2 → Nat :=
  let c0_i32_63_r0 : BitVec 32 := 0#32
  let v67_r0 : BitVec 32 := Scalar.addi arg18_r0 c0_i32_63_r0
  let c0_i32_140_r0 : BitVec 32 := 0#32
  let v196_r0 : BitVec 1 := Scalar.cmpi .sgt v67_r0 c0_i32_140_r0
  let v197_r0 : BitVec 32 := Scalar.extui v196_r0
  let c0_i32_141_r0 : BitVec 32 := 0#32
  let v198_r0 : BitVec 1 := Scalar.cmpi .slt v67_r0 c0_i32_141_r0
  let v199_r0 : BitVec 32 := Scalar.extui v198_r0
  let v200_r0 : BitVec 32 := Scalar.subi v197_r0 v199_r0
  let c2_i32_139_r0 : BitVec 32 := 2#32
  let c0_i32_142_r0 : BitVec 32 := 0#32
  let v201_r0 : BitVec 1 := Scalar.cmpi .sgt c2_i32_139_r0 c0_i32_142_r0
  let v202_r0 : BitVec 32 := Scalar.extui v201_r0
  let c0_i32_143_r0 : BitVec 32 := 0#32
  let v203_r0 : BitVec 1 := Scalar.cmpi .slt c2_i32_139_r0 c0_i32_143_r0
  let v204_r0 : BitVec 32 := Scalar.extui v203_r0
  let v205_r0 : BitVec 32 := Scalar.subi v202_r0 v204_r0
  let v206_r0 : BitVec 1 := Scalar.cmpi .ne v200_r0 v205_r0
  let v207_r0 : BitVec 32 := Scalar.remsi v67_r0 c2_i32_139_r0
  let c0_i32_144_r0 : BitVec 32 := 0#32
  let v208_r0 : BitVec 1 := Scalar.cmpi .ne v207_r0 c0_i32_144_r0
  let v209_r0 : BitVec 1 := Scalar.andi v206_r0 v208_r0
  let v195_r0 : BitVec 32 := Scalar.divsi v67_r0 c2_i32_139_r0
  let c1_i32_145_r0 : BitVec 32 := 1#32
  let v210_r0 : BitVec 32 := Scalar.subi v195_r0 c1_i32_145_r0
  let v211_r0 : BitVec 32 := Scalar.select v209_r0 v210_r0 v195_r0
  let v213_r0 : Index := Scalar.indexCast v211_r0
  let c0_147_r0 : Index := 0#32
  ![v213_r0.toNat, 0]
def k0_off13 (arg18_r0 : BitVec 32) : Fin 2 → Nat :=
  let c0_i32_63_r0 : BitVec 32 := 0#32
  let v67_r0 : BitVec 32 := Scalar.addi arg18_r0 c0_i32_63_r0
  let c0_i32_149_r0 : BitVec 32 := 0#32
  let v216_r0 : BitVec 1 := Scalar.cmpi .sgt v67_r0 c0_i32_149_r0
  let v217_r0 : BitVec 32 := Scalar.extui v216_r0
  let c0_i32_150_r0 : BitVec 32 := 0#32
  let v218_r0 : BitVec 1 := Scalar.cmpi .slt v67_r0 c0_i32_150_r0
  let v219_r0 : BitVec 32 := Scalar.extui v218_r0
  let v220_r0 : BitVec 32 := Scalar.subi v217_r0 v219_r0
  let c2_i32_148_r0 : BitVec 32 := 2#32
  let c0_i32_151_r0 : BitVec 32 := 0#32
  let v221_r0 : BitVec 1 := Scalar.cmpi .sgt c2_i32_148_r0 c0_i32_151_r0
  let v222_r0 : BitVec 32 := Scalar.extui v221_r0
  let c0_i32_152_r0 : BitVec 32 := 0#32
  let v223_r0 : BitVec 1 := Scalar.cmpi .slt c2_i32_148_r0 c0_i32_152_r0
  let v224_r0 : BitVec 32 := Scalar.extui v223_r0
  let v225_r0 : BitVec 32 := Scalar.subi v222_r0 v224_r0
  let v226_r0 : BitVec 1 := Scalar.cmpi .ne v220_r0 v225_r0
  let v227_r0 : BitVec 32 := Scalar.remsi v67_r0 c2_i32_148_r0
  let c0_i32_153_r0 : BitVec 32 := 0#32
  let v228_r0 : BitVec 1 := Scalar.cmpi .ne v227_r0 c0_i32_153_r0
  let v229_r0 : BitVec 1 := Scalar.andi v226_r0 v228_r0
  let v215_r0 : BitVec 32 := Scalar.divsi v67_r0 c2_i32_148_r0
  let c1_i32_154_r0 : BitVec 32 := 1#32
  let v230_r0 : BitVec 32 := Scalar.subi v215_r0 c1_i32_154_r0
  let v231_r0 : BitVec 32 := Scalar.select v229_r0 v230_r0 v215_r0
  let v233_r0 : Index := Scalar.indexCast v231_r0
  let c1024_r0 : Index := 1024#32
  ![v233_r0.toNat, 1024]
def k0_off14 (arg18_r0 : BitVec 32) : Fin 2 → Nat :=
  let c0_i32_63_r0 : BitVec 32 := 0#32
  let v67_r0 : BitVec 32 := Scalar.addi arg18_r0 c0_i32_63_r0
  let c0_i32_158_r0 : BitVec 32 := 0#32
  let v236_r0 : BitVec 1 := Scalar.cmpi .sgt v67_r0 c0_i32_158_r0
  let v237_r0 : BitVec 32 := Scalar.extui v236_r0
  let c0_i32_159_r0 : BitVec 32 := 0#32
  let v238_r0 : BitVec 1 := Scalar.cmpi .slt v67_r0 c0_i32_159_r0
  let v239_r0 : BitVec 32 := Scalar.extui v238_r0
  let v240_r0 : BitVec 32 := Scalar.subi v237_r0 v239_r0
  let c2_i32_157_r0 : BitVec 32 := 2#32
  let c0_i32_160_r0 : BitVec 32 := 0#32
  let v241_r0 : BitVec 1 := Scalar.cmpi .sgt c2_i32_157_r0 c0_i32_160_r0
  let v242_r0 : BitVec 32 := Scalar.extui v241_r0
  let c0_i32_161_r0 : BitVec 32 := 0#32
  let v243_r0 : BitVec 1 := Scalar.cmpi .slt c2_i32_157_r0 c0_i32_161_r0
  let v244_r0 : BitVec 32 := Scalar.extui v243_r0
  let v245_r0 : BitVec 32 := Scalar.subi v242_r0 v244_r0
  let v246_r0 : BitVec 1 := Scalar.cmpi .ne v240_r0 v245_r0
  let v247_r0 : BitVec 32 := Scalar.remsi v67_r0 c2_i32_157_r0
  let c0_i32_162_r0 : BitVec 32 := 0#32
  let v248_r0 : BitVec 1 := Scalar.cmpi .ne v247_r0 c0_i32_162_r0
  let v249_r0 : BitVec 1 := Scalar.andi v246_r0 v248_r0
  let v235_r0 : BitVec 32 := Scalar.divsi v67_r0 c2_i32_157_r0
  let c1_i32_163_r0 : BitVec 32 := 1#32
  let v250_r0 : BitVec 32 := Scalar.subi v235_r0 c1_i32_163_r0
  let v251_r0 : BitVec 32 := Scalar.select v249_r0 v250_r0 v235_r0
  let v253_r0 : Index := Scalar.indexCast v251_r0
  let c2048_r0 : Index := 2048#32
  ![v253_r0.toNat, 2048]
def k0_off15 (arg16_r0 : BitVec 32) : Fin 3 → Nat :=
  let c2_i32_101_r0 : BitVec 32 := 2#32
  let v119_r0 : BitVec 32 := Scalar.remui arg16_r0 c2_i32_101_r0
  let v188_r0 : Index := Scalar.indexCast v119_r0
  let c0_135_r0 : Index := 0#32
  let c0_136_r0 : Index := 0#32
  ![v188_r0.toNat, 0, 0]
def k0_cond6 (arg18_r0 : BitVec 32) : BitVec 1 :=
  let c0_i32_63_r0 : BitVec 32 := 0#32
  let v67_r0 : BitVec 32 := Scalar.addi arg18_r0 c0_i32_63_r0
  let c16_i32_106_r0 : BitVec 32 := 16#32
  let v126_r0 : BitVec 1 := Scalar.cmpi .eq v67_r0 c16_i32_106_r0
  let v127_r0 : BitVec 32 := Scalar.extui v126_r0
  let c0_i32_107_r0 : BitVec 32 := 0#32
  let v128_r0 : BitVec 1 := Scalar.cmpi .ne v127_r0 c0_i32_107_r0
  v128_r0

def k0_off16 (arg16_r0 : BitVec 32) : Fin 1 → Nat :=
  let c2_i32_124_r0 : BitVec 32 := 2#32
  let v163_r0 : BitVec 32 := Scalar.remui arg16_r0 c2_i32_124_r0
  ![v163_r0.toNat]
def k0_cond8 (k0_t1 : Fin k0_t1_loop.trips) (arg18_r0 : BitVec 32) : BitVec 1 :=
  let c0_i32_63_r0 : BitVec 32 := 0#32
  let v67_r0 : BitVec 32 := Scalar.addi arg18_r0 c0_i32_63_r0
  let c1_i32_87_r0 : BitVec 32 := 1#32
  let v95_r0 : BitVec 32 := Scalar.subi v67_r0 c1_i32_87_r0
  let c0_i32_88_r0 : BitVec 32 := 0#32
  let v96_r0 : BitVec 32 := Scalar.maxsi v95_r0 c0_i32_88_r0
  let true_70_r0 : BitVec 1 := 1#1
  let c1_i32_69_r0 : BitVec 32 := 1#32
  let v73_r0 : BitVec 32 := Scalar.addi arg18_r0 c1_i32_69_r0
  let v74_r0 : BitVec 32 := Scalar.select true_70_r0 v73_r0 arg18_r0
  let c17_i32_71_r0 : BitVec 32 := 17#32
  let v75_r0 : BitVec 1 := Scalar.cmpi .eq v74_r0 c17_i32_71_r0
  let c0_i32_72_r0 : BitVec 32 := 0#32
  let v76_r0 : BitVec 32 := Scalar.select v75_r0 c0_i32_72_r0 v74_r0
  let c0_i32_73_r0 : BitVec 32 := 0#32
  let v77_r0 : BitVec 32 := Scalar.addi v76_r0 c0_i32_73_r0
  let c1_i32_89_r0 : BitVec 32 := 1#32
  let v97_r0 : BitVec 32 := Scalar.subi v77_r0 c1_i32_89_r0
  let c0_i32_90_r0 : BitVec 32 := 0#32
  let v98_r0 : BitVec 32 := Scalar.maxsi v97_r0 c0_i32_90_r0
  let v134_r0 : BitVec 1 := Scalar.cmpi .ne v96_r0 v98_r0
  let c0_i32_30_r0 : BitVec 32 := 0#32
  let c1_i32_32_r0 : BitVec 32 := 1#32
  let arg13_r0 : BitVec 32 := Scf.iv c0_i32_30_r0 c1_i32_32_r0 k0_t1
  let c16_i32_62_r0 : BitVec 32 := 16#32
  let v66_r0 : BitVec 1 := Scalar.cmpi .eq arg13_r0 c16_i32_62_r0
  let v135_r0 : BitVec 1 := Scalar.ori v134_r0 v66_r0
  let v136_r0 : BitVec 32 := Scalar.extui v135_r0
  let c0_i32_109_r0 : BitVec 32 := 0#32
  let v137_r0 : BitVec 1 := Scalar.cmpi .ne v136_r0 c0_i32_109_r0
  v137_r0

def k0_off17 (arg18_r0 : BitVec 32) : Fin 2 → Nat :=
  let c1024_i32_127_r0 : BitVec 32 := 1024#32
  let c0_i32_63_r0 : BitVec 32 := 0#32
  let v67_r0 : BitVec 32 := Scalar.addi arg18_r0 c0_i32_63_r0
  let c1_i32_125_r0 : BitVec 32 := 1#32
  let v164_r0 : BitVec 32 := Scalar.subi v67_r0 c1_i32_125_r0
  let c0_i32_126_r0 : BitVec 32 := 0#32
  let v165_r0 : BitVec 32 := Scalar.maxsi v164_r0 c0_i32_126_r0
  let v166_r0 : BitVec 32 := Scalar.muli c1024_i32_127_r0 v165_r0
  let c0_i32_128_r0 : BitVec 32 := 0#32
  ![v166_r0.toNat, 0]
def k0_off18 (arg16_r0 : BitVec 32) : Fin 3 → Nat :=
  let c2_i32_124_r0 : BitVec 32 := 2#32
  let v163_r0 : BitVec 32 := Scalar.remui arg16_r0 c2_i32_124_r0
  let c0_i32_129_r0 : BitVec 32 := 0#32
  let c0_i32_130_r0 : BitVec 32 := 0#32
  ![v163_r0.toNat, 0, 0]
def k0_off19 (arg17_r0 : BitVec 32) : Fin 1 → Nat :=
  let c2_i32_124_r0 : BitVec 32 := 2#32
  let v163_r0 : BitVec 32 := Scalar.remui arg17_r0 c2_i32_124_r0
  ![v163_r0.toNat]
def k0_cond10 (k0_t1 : Fin k0_t1_loop.trips) (arg18_r0 : BitVec 32) : BitVec 1 :=
  let c0_i32_63_r0 : BitVec 32 := 0#32
  let v67_r0 : BitVec 32 := Scalar.addi arg18_r0 c0_i32_63_r0
  let c1_i32_87_r0 : BitVec 32 := 1#32
  let v95_r0 : BitVec 32 := Scalar.subi v67_r0 c1_i32_87_r0
  let c0_i32_88_r0 : BitVec 32 := 0#32
  let v96_r0 : BitVec 32 := Scalar.maxsi v95_r0 c0_i32_88_r0
  let true_65_r0 : BitVec 1 := 1#1
  let c1_i32_64_r0 : BitVec 32 := 1#32
  let v68_r0 : BitVec 32 := Scalar.subi arg18_r0 c1_i32_64_r0
  let v69_r0 : BitVec 32 := Scalar.select true_65_r0 v68_r0 arg18_r0
  let c_m1_i32_66_r0 : BitVec 32 := 4294967295#32
  let v70_r0 : BitVec 1 := Scalar.cmpi .eq v69_r0 c_m1_i32_66_r0
  let c16_i32_67_r0 : BitVec 32 := 16#32
  let v71_r0 : BitVec 32 := Scalar.select v70_r0 c16_i32_67_r0 v69_r0
  let c0_i32_68_r0 : BitVec 32 := 0#32
  let v72_r0 : BitVec 32 := Scalar.addi v71_r0 c0_i32_68_r0
  let c1_i32_96_r0 : BitVec 32 := 1#32
  let v110_r0 : BitVec 32 := Scalar.subi v72_r0 c1_i32_96_r0
  let c0_i32_97_r0 : BitVec 32 := 0#32
  let v111_r0 : BitVec 32 := Scalar.maxsi v110_r0 c0_i32_97_r0
  let v147_r0 : BitVec 1 := Scalar.cmpi .ne v96_r0 v111_r0
  let c0_i32_30_r0 : BitVec 32 := 0#32
  let c1_i32_32_r0 : BitVec 32 := 1#32
  let arg13_r0 : BitVec 32 := Scf.iv c0_i32_30_r0 c1_i32_32_r0 k0_t1
  let c0_i32_61_r0 : BitVec 32 := 0#32
  let v65_r0 : BitVec 1 := Scalar.cmpi .eq arg13_r0 c0_i32_61_r0
  let true_115_r0 : BitVec 1 := 1#1
  let v148_r0 : BitVec 1 := Scalar.xori v65_r0 true_115_r0
  let v149_r0 : BitVec 1 := Scalar.andi v147_r0 v148_r0
  let v150_r0 : BitVec 32 := Scalar.extui v149_r0
  let c0_i32_116_r0 : BitVec 32 := 0#32
  let v151_r0 : BitVec 1 := Scalar.cmpi .ne v150_r0 c0_i32_116_r0
  v151_r0

def k0_off20 (arg18_r0 : BitVec 32) : Fin 2 → Nat :=
  let c1024_i32_127_r0 : BitVec 32 := 1024#32
  let true_65_r0 : BitVec 1 := 1#1
  let c1_i32_64_r0 : BitVec 32 := 1#32
  let v68_r0 : BitVec 32 := Scalar.subi arg18_r0 c1_i32_64_r0
  let v69_r0 : BitVec 32 := Scalar.select true_65_r0 v68_r0 arg18_r0
  let c_m1_i32_66_r0 : BitVec 32 := 4294967295#32
  let v70_r0 : BitVec 1 := Scalar.cmpi .eq v69_r0 c_m1_i32_66_r0
  let c16_i32_67_r0 : BitVec 32 := 16#32
  let v71_r0 : BitVec 32 := Scalar.select v70_r0 c16_i32_67_r0 v69_r0
  let c0_i32_68_r0 : BitVec 32 := 0#32
  let v72_r0 : BitVec 32 := Scalar.addi v71_r0 c0_i32_68_r0
  let c1_i32_125_r0 : BitVec 32 := 1#32
  let v164_r0 : BitVec 32 := Scalar.subi v72_r0 c1_i32_125_r0
  let c0_i32_126_r0 : BitVec 32 := 0#32
  let v165_r0 : BitVec 32 := Scalar.maxsi v164_r0 c0_i32_126_r0
  let v166_r0 : BitVec 32 := Scalar.muli c1024_i32_127_r0 v165_r0
  let c0_i32_128_r0 : BitVec 32 := 0#32
  ![v166_r0.toNat, 0]
def k0_off21 (arg17_r0 : BitVec 32) : Fin 3 → Nat :=
  let c2_i32_124_r0 : BitVec 32 := 2#32
  let v163_r0 : BitVec 32 := Scalar.remui arg17_r0 c2_i32_124_r0
  let c0_i32_129_r0 : BitVec 32 := 0#32
  let c0_i32_130_r0 : BitVec 32 := 0#32
  ![v163_r0.toNat, 0, 0]

def k0_chk1 (k0_t1 : Fin k0_t1_loop.trips) (arg14_r0 : BitVec 32) (arg15_r0 : BitVec 32) (arg16_r0 : BitVec 32) (arg17_r0 : BitVec 32) (arg18_r0 : BitVec 32) : Prop :=
  (∀ (k0_h1 : k0_cond1 k0_t1 arg18_r0 = 1#1), ∀ a, (k0_off4 arg14_r0) a + S1.size a ≤ S2.size a) ∧
  (∀ (k0_h1 : k0_cond1 k0_t1 arg18_r0 = 1#1), ∀ a, (k0_off5 arg14_r0) a + S1x1024x1024.size a ≤ S2x1024x1024.size a) ∧
  (∀ (k0_h1 : k0_cond1 k0_t1 arg18_r0 = 1#1), ∀ a, (k0_off6 arg18_r0) a + S1024x1024.size a ≤ S16384x1024.size a) ∧
  (∀ (k0_h2 : k0_cond2 k0_t1 arg18_r0 = 1#1), ∀ a, (k0_off7 arg15_r0) a + S1.size a ≤ S2.size a) ∧
  (∀ (k0_h2 : k0_cond2 k0_t1 arg18_r0 = 1#1), ∀ a, (k0_off8 arg15_r0) a + S1x1024x1024.size a ≤ S2x1024x1024.size a) ∧
  (∀ (k0_h2 : k0_cond2 k0_t1 arg18_r0 = 1#1), ∀ a, (k0_off9 arg18_r0) a + S1024x1024.size a ≤ S16384x1024.size a) ∧
  (∀ (k0_h5 : k0_cond5 arg18_r0 = 1#1), ∀ a, (k0_off10 arg16_r0) a + S1x1024x1024.size a ≤ S2x1024x1024.size a) ∧
  (∀ (k0_h5 : k0_cond5 arg18_r0 = 1#1), ∀ a, (k0_off11 arg15_r0) a + S1x1024x1024.size a ≤ S2x1024x1024.size a) ∧
  (∀ (k0_h5 : k0_cond5 arg18_r0 = 1#1), ∀ a, (k0_off12 arg18_r0) a + S1x1024.size a ≤ S8x3072.size a) ∧
  (∀ (k0_h5 : k0_cond5 arg18_r0 = 1#1), ∀ a, (k0_off13 arg18_r0) a + S1x1024.size a ≤ S8x3072.size a) ∧
  (∀ (k0_h5 : k0_cond5 arg18_r0 = 1#1), ∀ a, (k0_off14 arg18_r0) a + S1x1024.size a ≤ S8x3072.size a) ∧
  (∀ (k0_h6 : k0_cond6 arg18_r0 = 1#1), ∀ a, (k0_off15 arg16_r0) a + S1x1024x1024.size a ≤ S2x1024x1024.size a) ∧
  (∀ (k0_h8 : k0_cond8 k0_t1 arg18_r0 = 1#1), ∀ a, (k0_off16 arg16_r0) a + S1.size a ≤ S2.size a) ∧
  (∀ (k0_h8 : k0_cond8 k0_t1 arg18_r0 = 1#1), ∀ a, (k0_off17 arg18_r0) a + S1024x1024.size a ≤ S16384x1024.size a) ∧
  (∀ (k0_h8 : k0_cond8 k0_t1 arg18_r0 = 1#1), ∀ a, (k0_off18 arg16_r0) a + S1x1024x1024.size a ≤ S2x1024x1024.size a) ∧
  (∀ (k0_h10 : k0_cond10 k0_t1 arg18_r0 = 1#1), ∀ a, (k0_off19 arg17_r0) a + S1.size a ≤ S2.size a) ∧
  (∀ (k0_h10 : k0_cond10 k0_t1 arg18_r0 = 1#1), ∀ a, (k0_off20 arg18_r0) a + S1024x1024.size a ≤ S16384x1024.size a) ∧
  (∀ (k0_h10 : k0_cond10 k0_t1 arg18_r0 = 1#1), ∀ a, (k0_off21 arg17_r0) a + S1x1024x1024.size a ≤ S2x1024x1024.size a)
theorem k0_off4_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off4 arg14_r0) a + S1.size a ≤ S2.size a := fun k0_t1 arg14_r0 arg15_r0 arg16_r0 arg17_r0 arg18_r0 k0_hw1 k0_h1 => k0_hw1.1 k0_h1
theorem k0_off5_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off5 arg14_r0) a + S1x1024x1024.size a ≤ S2x1024x1024.size a := fun k0_t1 arg14_r0 arg15_r0 arg16_r0 arg17_r0 arg18_r0 k0_hw1 k0_h1 => k0_hw1.2.1 k0_h1
theorem k0_off6_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off6 arg18_r0) a + S1024x1024.size a ≤ S16384x1024.size a := fun k0_t1 arg14_r0 arg15_r0 arg16_r0 arg17_r0 arg18_r0 k0_hw1 k0_h1 => k0_hw1.2.2.1 k0_h1
theorem k0_off7_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off7 arg15_r0) a + S1.size a ≤ S2.size a := fun k0_t1 arg14_r0 arg15_r0 arg16_r0 arg17_r0 arg18_r0 k0_hw1 k0_h2 => k0_hw1.2.2.2.1 k0_h2
theorem k0_off8_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off8 arg15_r0) a + S1x1024x1024.size a ≤ S2x1024x1024.size a := fun k0_t1 arg14_r0 arg15_r0 arg16_r0 arg17_r0 arg18_r0 k0_hw1 k0_h2 => k0_hw1.2.2.2.2.1 k0_h2
theorem k0_off9_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off9 arg18_r0) a + S1024x1024.size a ≤ S16384x1024.size a := fun k0_t1 arg14_r0 arg15_r0 arg16_r0 arg17_r0 arg18_r0 k0_hw1 k0_h2 => k0_hw1.2.2.2.2.2.1 k0_h2
theorem k0_off10_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 arg18_r0 = 1#1), ∀ a, (k0_off10 arg16_r0) a + S1x1024x1024.size a ≤ S2x1024x1024.size a := fun k0_t1 arg14_r0 arg15_r0 arg16_r0 arg17_r0 arg18_r0 k0_hw1 k0_h5 => k0_hw1.2.2.2.2.2.2.1 k0_h5
theorem k0_off11_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 arg18_r0 = 1#1), ∀ a, (k0_off11 arg15_r0) a + S1x1024x1024.size a ≤ S2x1024x1024.size a := fun k0_t1 arg14_r0 arg15_r0 arg16_r0 arg17_r0 arg18_r0 k0_hw1 k0_h5 => k0_hw1.2.2.2.2.2.2.2.1 k0_h5
theorem k0_off12_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 arg18_r0 = 1#1), ∀ a, (k0_off12 arg18_r0) a + S1x1024.size a ≤ S8x3072.size a := fun k0_t1 arg14_r0 arg15_r0 arg16_r0 arg17_r0 arg18_r0 k0_hw1 k0_h5 => k0_hw1.2.2.2.2.2.2.2.2.1 k0_h5
theorem k0_off13_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 arg18_r0 = 1#1), ∀ a, (k0_off13 arg18_r0) a + S1x1024.size a ≤ S8x3072.size a := fun k0_t1 arg14_r0 arg15_r0 arg16_r0 arg17_r0 arg18_r0 k0_hw1 k0_h5 => k0_hw1.2.2.2.2.2.2.2.2.2.1 k0_h5
theorem k0_off14_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 arg18_r0 = 1#1), ∀ a, (k0_off14 arg18_r0) a + S1x1024.size a ≤ S8x3072.size a := fun k0_t1 arg14_r0 arg15_r0 arg16_r0 arg17_r0 arg18_r0 k0_hw1 k0_h5 => k0_hw1.2.2.2.2.2.2.2.2.2.2.1 k0_h5
theorem k0_off15_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h6 : k0_cond6 arg18_r0 = 1#1), ∀ a, (k0_off15 arg16_r0) a + S1x1024x1024.size a ≤ S2x1024x1024.size a := fun k0_t1 arg14_r0 arg15_r0 arg16_r0 arg17_r0 arg18_r0 k0_hw1 k0_h6 => k0_hw1.2.2.2.2.2.2.2.2.2.2.2.1 k0_h6
theorem k0_off16_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h8 : k0_cond8 k0_t1 arg18_r0 = 1#1), ∀ a, (k0_off16 arg16_r0) a + S1.size a ≤ S2.size a := fun k0_t1 arg14_r0 arg15_r0 arg16_r0 arg17_r0 arg18_r0 k0_hw1 k0_h8 => k0_hw1.2.2.2.2.2.2.2.2.2.2.2.2.1 k0_h8
theorem k0_off17_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h8 : k0_cond8 k0_t1 arg18_r0 = 1#1), ∀ a, (k0_off17 arg18_r0) a + S1024x1024.size a ≤ S16384x1024.size a := fun k0_t1 arg14_r0 arg15_r0 arg16_r0 arg17_r0 arg18_r0 k0_hw1 k0_h8 => k0_hw1.2.2.2.2.2.2.2.2.2.2.2.2.2.1 k0_h8
theorem k0_off18_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h8 : k0_cond8 k0_t1 arg18_r0 = 1#1), ∀ a, (k0_off18 arg16_r0) a + S1x1024x1024.size a ≤ S2x1024x1024.size a := fun k0_t1 arg14_r0 arg15_r0 arg16_r0 arg17_r0 arg18_r0 k0_hw1 k0_h8 => k0_hw1.2.2.2.2.2.2.2.2.2.2.2.2.2.2.1 k0_h8
theorem k0_off19_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h10 : k0_cond10 k0_t1 arg18_r0 = 1#1), ∀ a, (k0_off19 arg17_r0) a + S1.size a ≤ S2.size a := fun k0_t1 arg14_r0 arg15_r0 arg16_r0 arg17_r0 arg18_r0 k0_hw1 k0_h10 => k0_hw1.2.2.2.2.2.2.2.2.2.2.2.2.2.2.2.1 k0_h10
theorem k0_off20_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h10 : k0_cond10 k0_t1 arg18_r0 = 1#1), ∀ a, (k0_off20 arg18_r0) a + S1024x1024.size a ≤ S16384x1024.size a := fun k0_t1 arg14_r0 arg15_r0 arg16_r0 arg17_r0 arg18_r0 k0_hw1 k0_h10 => k0_hw1.2.2.2.2.2.2.2.2.2.2.2.2.2.2.2.2.1 k0_h10
theorem k0_off21_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h10 : k0_cond10 k0_t1 arg18_r0 = 1#1), ∀ a, (k0_off21 arg17_r0) a + S1x1024x1024.size a ≤ S2x1024x1024.size a := fun k0_t1 arg14_r0 arg15_r0 arg16_r0 arg17_r0 arg18_r0 k0_hw1 k0_h10 => k0_hw1.2.2.2.2.2.2.2.2.2.2.2.2.2.2.2.2.2 k0_h10

def k0_off22 (v35_3_r0 : BitVec 32) : Fin 1 → Nat :=
  let c2_i32_54_r0 : BitVec 32 := 2#32
  let v56_r0 : BitVec 32 := Scalar.remui v35_3_r0 c2_i32_54_r0
  ![v56_r0.toNat]

def k0_off23 (v35_4_r0 : BitVec 32) : Fin 2 → Nat :=
  let c1024_i32_57_r0 : BitVec 32 := 1024#32
  let true_35_r0 : BitVec 1 := 1#1
  let c1_i32_34_r0 : BitVec 32 := 1#32
  let v36_r0 : BitVec 32 := Scalar.subi v35_4_r0 c1_i32_34_r0
  let v37_r0 : BitVec 32 := Scalar.select true_35_r0 v36_r0 v35_4_r0
  let c_m1_i32_36_r0 : BitVec 32 := 4294967295#32
  let v38_r0 : BitVec 1 := Scalar.cmpi .eq v37_r0 c_m1_i32_36_r0
  let c16_i32_37_r0 : BitVec 32 := 16#32
  let v39_r0 : BitVec 32 := Scalar.select v38_r0 c16_i32_37_r0 v37_r0
  let c0_i32_38_r0 : BitVec 32 := 0#32
  let v40_r0 : BitVec 32 := Scalar.addi v39_r0 c0_i32_38_r0
  let c1_i32_55_r0 : BitVec 32 := 1#32
  let v57_r0 : BitVec 32 := Scalar.subi v40_r0 c1_i32_55_r0
  let c0_i32_56_r0 : BitVec 32 := 0#32
  let v58_r0 : BitVec 32 := Scalar.maxsi v57_r0 c0_i32_56_r0
  let v59_r0 : BitVec 32 := Scalar.muli c1024_i32_57_r0 v58_r0
  let c0_i32_58_r0 : BitVec 32 := 0#32
  ![v59_r0.toNat, 0]

def k0_chk3 (v35_4_r0 : BitVec 32) : Prop :=
  (∀ a, (k0_off23 v35_4_r0) a + S1024x1024.size a ≤ S16384x1024.size a)
theorem k0_off23_inb : ∀ (v35_4_r0 : BitVec 32) (k0_hw3 : k0_chk3 v35_4_r0), ∀ a, (k0_off23 v35_4_r0) a + S1024x1024.size a ≤ S16384x1024.size a := fun v35_4_r0 k0_hw3 => k0_hw3

def k0_off24 (v35_3_r0 : BitVec 32) : Fin 3 → Nat :=
  let c2_i32_54_r0 : BitVec 32 := 2#32
  let v56_r0 : BitVec 32 := Scalar.remui v35_3_r0 c2_i32_54_r0
  let c0_i32_59_r0 : BitVec 32 := 0#32
  let c0_i32_60_r0 : BitVec 32 := 0#32
  ![v56_r0.toNat, 0, 0]

def k0_chk2 (v35_3_r0 : BitVec 32) : Prop :=
  (∀ a, (k0_off22 v35_3_r0) a + S1.size a ≤ S2.size a) ∧
  (∀ a, (k0_off24 v35_3_r0) a + S1x1024x1024.size a ≤ S2x1024x1024.size a)
theorem k0_off22_inb : ∀ (v35_3_r0 : BitVec 32) (k0_hw2 : k0_chk2 v35_3_r0), ∀ a, (k0_off22 v35_3_r0) a + S1.size a ≤ S2.size a := fun v35_3_r0 k0_hw2 => k0_hw2.1
theorem k0_off24_inb : ∀ (v35_3_r0 : BitVec 32) (k0_hw2 : k0_chk2 v35_3_r0), ∀ a, (k0_off24 v35_3_r0) a + S1x1024x1024.size a ≤ S2x1024x1024.size a := fun v35_3_r0 k0_hw2 => k0_hw2.2

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x2048x1024 : Shape := ⟨3, ![8, 2048, 1024]⟩
abbrev S8x6144 : Shape := ⟨2, ![8, 6144]⟩
abbrev S1024x2816 : Shape := ⟨2, ![1024, 2816]⟩
abbrev S2816x1024 : Shape := ⟨2, ![2816, 1024]⟩
abbrev S1024 : Shape := ⟨1, ![1024]⟩
abbrev S8x3072 : Shape := ⟨2, ![8, 3072]⟩
abbrev S8x1024 : Shape := ⟨2, ![8, 1024]⟩
abbrev S8x1x1024 : Shape := ⟨3, ![8, 1, 1024]⟩
abbrev S_ : Shape := ⟨0, ![]⟩
abbrev S8x2048x2816 : Shape := ⟨3, ![8, 2048, 2816]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x3072, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x2048x1024, .f32⟩
  | .hbm, ⟨16, _⟩ => ⟨S8x2048x1024, .f32⟩
  | .hbm, ⟨17, _⟩ => ⟨S8x1x1024, .f32⟩
  | .hbm, ⟨18, _⟩ => ⟨S8x2048x1024, .f32⟩
  | .hbm, ⟨19, _⟩ => ⟨S8x2048x1024, .f32⟩
  | .hbm, ⟨20, _⟩ => ⟨S8x2048x2816, .f32⟩
  | .hbm, ⟨21, _⟩ => ⟨S8x2048x2816, .f32⟩
  | .hbm, ⟨22, _⟩ => ⟨S8x2048x2816, .f32⟩
  | .hbm, ⟨23, _⟩ => ⟨S_, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x1x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== First.lean ====
abbrev S8x2048x1024 : Shape := ⟨3, ![8, 2048, 1024]⟩
abbrev S8x1024 : Shape := ⟨2, ![8, 1024]⟩
abbrev S1024x9216 : Shape := ⟨2, ![1024, 9216]⟩
abbrev S9216 : Shape := ⟨1, ![9216]⟩
abbrev S1024x2816 : Shape := ⟨2, ![1024, 2816]⟩
abbrev S2816x1024 : Shape := ⟨2, ![2816, 1024]⟩
abbrev S1024 : Shape := ⟨1, ![1024]⟩
abbrev S1024x1280 : Shape := ⟨2, ![1024, 1280]⟩
abbrev S4x128x128 : Shape := ⟨3, ![4, 128, 128]⟩
abbrev S1024x1024 : Shape := ⟨2, ![1024, 1024]⟩
abbrev S16384x1024 : Shape := ⟨2, ![16384, 1024]⟩
abbrev S512x128 : Shape := ⟨2, ![512, 128]⟩
abbrev S1x9216 : Shape := ⟨2, ![1, 9216]⟩
abbrev S1x1024 : Shape := ⟨2, ![1, 1024]⟩
abbrev S8x6144 : Shape := ⟨2, ![8, 6144]⟩
abbrev S8x3072 : Shape := ⟨2, ![8, 3072]⟩
abbrev S2x1024x384 : Shape := ⟨3, ![2, 1024, 384]⟩
abbrev S2 : Shape := ⟨1, ![2]⟩
abbrev S2x1x384 : Shape := ⟨3, ![2, 1, 384]⟩
abbrev S2x128x2816 : Shape := ⟨3, ![2, 128, 2816]⟩
abbrev S2x352x1024 : Shape := ⟨3, ![2, 352, 1024]⟩
abbrev S_ : Shape := ⟨0, ![]⟩
abbrev S1 : Shape := ⟨1, ![1]⟩
abbrev S1x1024x384 : Shape := ⟨3, ![1, 1024, 384]⟩
abbrev S1024x384 : Shape := ⟨2, ![1024, 384]⟩
abbrev S1x1x384 : Shape := ⟨3, ![1, 1, 384]⟩
abbrev S1x384 : Shape := ⟨2, ![1, 384]⟩
abbrev S1x128x2816 : Shape := ⟨3, ![1, 128, 2816]⟩
abbrev S128x2816 : Shape := ⟨2, ![128, 2816]⟩
abbrev S1x352x1024 : Shape := ⟨3, ![1, 352, 1024]⟩
abbrev S352x1024 : Shape := ⟨2, ![352, 1024]⟩
abbrev S8x384 : Shape := ⟨2, ![8, 384]⟩
abbrev S2x1024x1024 : Shape := ⟨3, ![2, 1024, 1024]⟩
abbrev S2x64x1280 : Shape := ⟨3, ![2, 64, 1280]⟩
abbrev S2x32x128 : Shape := ⟨3, ![2, 32, 128]⟩
abbrev S2x64x1024 : Shape := ⟨3, ![2, 64, 1024]⟩
abbrev S2x8x384 : Shape := ⟨3, ![2, 8, 384]⟩
abbrev S1x1024x1024 : Shape := ⟨3, ![1, 1024, 1024]⟩
abbrev S1x64x1280 : Shape := ⟨3, ![1, 64, 1280]⟩
abbrev S64x1280 : Shape := ⟨2, ![64, 1280]⟩
abbrev S1x32x128 : Shape := ⟨3, ![1, 32, 128]⟩
abbrev S32x128 : Shape := ⟨2, ![32, 128]⟩
abbrev S1x64x1024 : Shape := ⟨3, ![1, 64, 1024]⟩
abbrev S64x1024 : Shape := ⟨2, ![64, 1024]⟩
abbrev S1024x1 : Shape := ⟨2, ![1024, 1]⟩
abbrev S1x8x384 : Shape := ⟨3, ![1, 8, 384]⟩

abbrev nBuf : Space → Nat
  | .hbm => 23
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024x9216, .f32⟩
  | .hbm, ⟨3, _⟩ => ⟨S9216, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x1280, .f32⟩
  | .hbm, ⟨10, _⟩ => ⟨S4x128x128, .f32⟩
  | .hbm, ⟨11, _⟩ => ⟨S1024x1024, .f32⟩
  | .hbm, ⟨12, _⟩ => ⟨S16384x1024, .f32⟩
  | .hbm, ⟨13, _⟩ => ⟨S512x128, .f32⟩
  | .hbm, ⟨14, _⟩ => ⟨S1x9216, .f32⟩
  | .hbm, ⟨15, _⟩ => ⟨S1x9216, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S1024x1280, .bf16⟩
  | .hbm, ⟨20, _⟩ => ⟨S512x128, .bf16⟩
  | .hbm, ⟨21, _⟩ => ⟨S1024x1024, .bf16⟩
  | .hbm, ⟨22, _⟩ => ⟨S8x6144, .f32⟩
  | .local _ .vmem, ⟨0, _⟩ => ⟨S1x1024, .f32⟩
  | .local _ .vmem, ⟨1, _⟩ => ⟨S1x1024, .f32⟩
  | .local _ .vmem, ⟨2, _⟩ => ⟨S1024x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S8x3072, .f32⟩
  | .local _ .vmem, ⟨7, _⟩ => ⟨S8x1024, .f32⟩
  | .local _ .vmem, ⟨8, _⟩ => ⟨S2x1024x384, .f32⟩
  | .local _ .vmem, ⟨9, _⟩ => ⟨S2x1x384, .f32⟩
  | .local _ .vmem, ⟨10, _⟩ => ⟨S2x128x2816, .f32⟩
  | .local _ .vmem, ⟨11, _⟩ => ⟨S2x128x2816, .f32⟩
  | .local _ .vmem, ⟨12, _⟩ => ⟨S2x352x1024, .f32⟩
  | .local _ .vmem, ⟨13, _⟩ => ⟨S2x1024x1024, .f32⟩
  | .local _ .vmem, ⟨14, _⟩ => ⟨S2x64x1280, .f32⟩
  | .local _ .vmem, ⟨15, _⟩ => ⟨S2x32x128, .f32⟩
  | .local _ .vmem, ⟨16, _⟩ => ⟨S2x64x1024, .f32⟩
  | .local _ .vmem, ⟨17, _⟩ => ⟨S8x1024, .f32⟩
  | .local _ .vmem, ⟨18, _⟩ => ⟨S2x1024x384, .f32⟩
  | .local _ .vmem, ⟨19, _⟩ => ⟨S2x1x384, .f32⟩
  | .local _ .vmem, ⟨20, _⟩ => ⟨S2x1024x1024, .f32⟩
  | .local _ .vmem, ⟨21, _⟩ => ⟨S2x64x1280, .bf16⟩
  | .local _ .vmem, ⟨22, _⟩ => ⟨S2x32x128, .bf16⟩
  | .local _ .vmem, ⟨23, _⟩ => ⟨S2x64x1024, .bf16⟩
  | .local _ .vmem, ⟨24, _⟩ => ⟨S2x8x384, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scoped0 : Ref sig .tc := ⟨.vmem, 7, rfl⟩
abbrev cc0_scoped1 : Ref sig .tc := ⟨.vmem, 8, rfl⟩
abbrev cc0_scoped3 : Ref sig .tc := ⟨.vmem, 9, rfl⟩
abbrev cc0_scoped5 : Ref sig .tc := ⟨.vmem, 10, rfl⟩
abbrev cc0_scoped7 : Ref sig .tc := ⟨.vmem, 11, rfl⟩
abbrev cc0_scoped9 : Ref sig .tc := ⟨.vmem, 12, rfl⟩
abbrev cc0_scoped12 : Ref sig .tc := ⟨.vmem, 13, rfl⟩
abbrev cc0_scoped14 : Ref sig .tc := ⟨.vmem, 14, rfl⟩
abbrev cc0_scoped16 : Ref sig .tc := ⟨.vmem, 15, rfl⟩
abbrev cc0_scoped18 : Ref sig .tc := ⟨.vmem, 16, rfl⟩
abbrev cc0_scoped20 : Ref sig .tc := ⟨.vmem, 17, rfl⟩
abbrev cc0_scoped21 : Ref sig .tc := ⟨.vmem, 18, rfl⟩
abbrev cc0_scoped23 : Ref sig .tc := ⟨.vmem, 19, rfl⟩
abbrev cc0_scoped25 : Ref sig .tc := ⟨.vmem, 20, rfl⟩
abbrev cc0_scoped27 : Ref sig .tc := ⟨.vmem, 21, rfl⟩
abbrev cc0_scoped29 : Ref sig .tc := ⟨.vmem, 22, rfl⟩
abbrev cc0_scoped31 : Ref sig .tc := ⟨.vmem, 23, rfl⟩
abbrev cc0_scoped33 : Ref sig .tc := ⟨.vmem, 24, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c2_i32_r0 : BitVec 32 := 2#32
  let v22_r0 : BitVec 32 := Scalar.remui c0_i32_17_r0 c2_i32_r0
  ![v22_r0.toNat]
def k0_off2 : Fin 3 → Nat :=
  let c0_i32_17_r0 : BitVec 32 := 0#32
  let c2_i32_r0 : BitVec 32 := 2#32
  let v22_r0 : BitVec 32 := Scalar.remui c0_i32_17_r0 c2_i32_r0
  let c0_i32_20_r0 : BitVec 32 := 0#32
  let c0_i32_21_r0 : BitVec 32 := 0#32
  ![v22_r0.toNat, 0, 0]
def k0_off3 : Fin 2 → Nat :=
  let c0_i32_22_r0 : BitVec 32 := 0#32
  let c384_i32_r0 : BitVec 32 := 384#32
  let c0_i32_18_r0 : BitVec 32 := 0#32
  let c7_i32_19_r0 : BitVec 32 := 7#32
  let v23_r0 : BitVec 32 := Scalar.minsi c0_i32_18_r0 c7_i32_19_r0
  let v24_r0 : BitVec 32 := Scalar.muli c384_i32_r0 v23_r0
  ![0, v24_r0.toNat]
def k0_off4 : Fin 3 → Nat :=
  let c0_i32_25_r0 : BitVec 32 := 0#32
  let c2_i32_26_r0 : BitVec 32 := 2#32
  let v31_r0 : BitVec 32 := Scalar.remui c0_i32_25_r0 c2_i32_26_r0
  let c0_i32_30_r0 : BitVec 32 := 0#32
  let c0_i32_31_r0 : BitVec 32 := 0#32
  ![v31_r0.toNat, 0, 0]
def k0_off5 : Fin 2 → Nat :=
  let c0_i32_32_r0 : BitVec 32 := 0#32
  let c384_i32_29_r0 : BitVec 32 := 384#32
  let c0_i32_27_r0 : BitVec 32 := 0#32
  let c7_i32_28_r0 : BitVec 32 := 7#32
  let v32_r0 : BitVec 32 := Scalar.minsi c0_i32_27_r0 c7_i32_28_r0
  let v33_r0 : BitVec 32 := Scalar.muli c384_i32_29_r0 v32_r0
  ![0, v33_r0.toNat]
def k0_off6 : Fin 3 → Nat :=
  let c0_i32_35_r0 : BitVec 32 := 0#32
  let c2_i32_36_r0 : BitVec 32 := 2#32
  let v40_r0 : BitVec 32 := Scalar.remui c0_i32_35_r0 c2_i32_36_r0
  let c0_i32_37_r0 : BitVec 32 := 0#32
  let c0_i32_38_r0 : BitVec 32 := 0#32
  ![v40_r0.toNat, 0, 0]
def k0_off7 : Fin 3 → Nat :=
  let c0_i32_51_r0 : BitVec 32 := 0#32
  let c2_i32_52_r0 : BitVec 32 := 2#32
  let v54_r0 : BitVec 32 := Scalar.remui c0_i32_51_r0 c2_i32_52_r0
  let c0_i32_53_r0 : BitVec 32 := 0#32
  let c0_i32_54_r0 : BitVec 32 := 0#32
  ![v54_r0.toNat, 0, 0]
@[reducible] def k0_t1_loop : Scf.Loop 32 :=
  let c0_i32_67_r0 : BitVec 32 := 0#32
  let c8_i32_68_r0 : BitVec 32 := 8#32
  let v61_r0 : BitVec 32 := Scalar.addi c0_i32_67_r0 c8_i32_68_r0
  let c1_i32_69_r0 : BitVec 32 := 1#32
  ⟨c0_i32_67_r0, v61_r0, c1_i32_69_r0⟩
def k0_off8 (arg27_r0 : BitVec 32) : Fin 1 → Nat :=
  let c2_i32_217_r0 : BitVec 32 := 2#32
  let v328_r0 : BitVec 32 := Scalar.remui arg27_r0 c2_i32_217_r0
  ![v328_r0.toNat]
def k0_cond1 (k0_t1 : Fin k0_t1_loop.trips) (arg37_r0 : BitVec 32) : BitVec 1 :=
  let c0_i32_93_r0 : BitVec 32 := 0#32
  let v85_r0 : BitVec 32 := Scalar.addi arg37_r0 c0_i32_93_r0
  let c7_i32_109_r0 : BitVec 32 := 7#32
  let v101_r0 : BitVec 32 := Scalar.minsi v85_r0 c7_i32_109_r0
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let c7_i32_110_r0 : BitVec 32 := 7#32
  let v102_r0 : BitVec 32 := Scalar.minsi v95_r0 c7_i32_110_r0
  let v103_r0 : BitVec 1 := Scalar.cmpi .ne v101_r0 v102_r0
  let c0_i32_67_r0 : BitVec 32 := 0#32
  let c1_i32_69_r0 : BitVec 32 := 1#32
  let arg25_r0 : BitVec 32 := Scf.iv c0_i32_67_r0 c1_i32_69_r0 k0_t1
  let c7_i32_111_r0 : BitVec 32 := 7#32
  let v104_r0 : BitVec 1 := Scalar.cmpi .sge arg25_r0 c7_i32_111_r0
  let true_112_r0 : BitVec 1 := 1#1
  let v105_r0 : BitVec 1 := Scalar.xori v104_r0 true_112_r0
  let v106_r0 : BitVec 1 := Scalar.andi v103_r0 v105_r0
  let true_113_r0 : BitVec 1 := 1#1
  let v107_r0 : BitVec 1 := Scalar.andi v106_r0 true_113_r0
  let v108_r0 : BitVec 32 := Scalar.extui v107_r0
  let c0_i32_114_r0 : BitVec 32 := 0#32
  let v109_r0 : BitVec 1 := Scalar.cmpi .ne v108_r0 c0_i32_114_r0
  v109_r0

def k0_off9 (arg27_r0 : BitVec 32) : Fin 3 → Nat :=
  let c2_i32_217_r0 : BitVec 32 := 2#32
  let v328_r0 : BitVec 32 := Scalar.remui arg27_r0 c2_i32_217_r0
  let c0_i32_220_r0 : BitVec 32 := 0#32
  let c0_i32_221_r0 : BitVec 32 := 0#32
  ![v328_r0.toNat, 0, 0]
def k0_off10 (arg37_r0 : BitVec 32) : Fin 2 → Nat :=
  let c0_i32_222_r0 : BitVec 32 := 0#32
  let c384_i32_219_r0 : BitVec 32 := 384#32
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let c7_i32_218_r0 : BitVec 32 := 7#32
  let v329_r0 : BitVec 32 := Scalar.minsi v95_r0 c7_i32_218_r0
  let v330_r0 : BitVec 32 := Scalar.muli c384_i32_219_r0 v329_r0
  ![0, v330_r0.toNat]
def k0_off11 (arg29_r0 : BitVec 32) : Fin 1 → Nat :=
  let c2_i32_217_r0 : BitVec 32 := 2#32
  let v328_r0 : BitVec 32 := Scalar.remui arg29_r0 c2_i32_217_r0
  ![v328_r0.toNat]
def k0_cond2 (k0_t1 : Fin k0_t1_loop.trips) (arg37_r0 : BitVec 32) : BitVec 1 :=
  let c0_i32_93_r0 : BitVec 32 := 0#32
  let v85_r0 : BitVec 32 := Scalar.addi arg37_r0 c0_i32_93_r0
  let c7_i32_117_r0 : BitVec 32 := 7#32
  let v113_r0 : BitVec 32 := Scalar.minsi v85_r0 c7_i32_117_r0
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let c7_i32_118_r0 : BitVec 32 := 7#32
  let v114_r0 : BitVec 32 := Scalar.minsi v95_r0 c7_i32_118_r0
  let v115_r0 : BitVec 1 := Scalar.cmpi .ne v113_r0 v114_r0
  let c0_i32_67_r0 : BitVec 32 := 0#32
  let c1_i32_69_r0 : BitVec 32 := 1#32
  let arg25_r0 : BitVec 32 := Scf.iv c0_i32_67_r0 c1_i32_69_r0 k0_t1
  let c7_i32_119_r0 : BitVec 32 := 7#32
  let v116_r0 : BitVec 1 := Scalar.cmpi .sge arg25_r0 c7_i32_119_r0
  let true_120_r0 : BitVec 1 := 1#1
  let v117_r0 : BitVec 1 := Scalar.xori v116_r0 true_120_r0
  let v118_r0 : BitVec 1 := Scalar.andi v115_r0 v117_r0
  let true_121_r0 : BitVec 1 := 1#1
  let v119_r0 : BitVec 1 := Scalar.andi v118_r0 true_121_r0
  let v120_r0 : BitVec 32 := Scalar.extui v119_r0
  let c0_i32_122_r0 : BitVec 32 := 0#32
  let v121_r0 : BitVec 1 := Scalar.cmpi .ne v120_r0 c0_i32_122_r0
  v121_r0

def k0_off12 (arg29_r0 : BitVec 32) : Fin 3 → Nat :=
  let c2_i32_217_r0 : BitVec 32 := 2#32
  let v328_r0 : BitVec 32 := Scalar.remui arg29_r0 c2_i32_217_r0
  let c0_i32_220_r0 : BitVec 32 := 0#32
  let c0_i32_221_r0 : BitVec 32 := 0#32
  ![v328_r0.toNat, 0, 0]
def k0_off13 (arg37_r0 : BitVec 32) : Fin 2 → Nat :=
  let c0_i32_222_r0 : BitVec 32 := 0#32
  let c384_i32_219_r0 : BitVec 32 := 384#32
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let c7_i32_218_r0 : BitVec 32 := 7#32
  let v329_r0 : BitVec 32 := Scalar.minsi v95_r0 c7_i32_218_r0
  let v330_r0 : BitVec 32 := Scalar.muli c384_i32_219_r0 v329_r0
  ![0, v330_r0.toNat]
def k0_off14 (arg31_r0 : BitVec 32) : Fin 1 → Nat :=
  let c2_i32_217_r0 : BitVec 32 := 2#32
  let v328_r0 : BitVec 32 := Scalar.remui arg31_r0 c2_i32_217_r0
  ![v328_r0.toNat]
def k0_cond3 (k0_t1 : Fin k0_t1_loop.trips) (arg37_r0 : BitVec 32) : BitVec 1 :=
  let c0_i32_93_r0 : BitVec 32 := 0#32
  let v85_r0 : BitVec 32 := Scalar.addi arg37_r0 c0_i32_93_r0
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v125_r0 : BitVec 1 := Scalar.cmpi .ne v85_r0 v95_r0
  let c0_i32_67_r0 : BitVec 32 := 0#32
  let c1_i32_69_r0 : BitVec 32 := 1#32
  let arg25_r0 : BitVec 32 := Scf.iv c0_i32_67_r0 c1_i32_69_r0 k0_t1
  let c7_i32_125_r0 : BitVec 32 := 7#32
  let v126_r0 : BitVec 1 := Scalar.cmpi .sge arg25_r0 c7_i32_125_r0
  let true_126_r0 : BitVec 1 := 1#1
  let v127_r0 : BitVec 1 := Scalar.xori v126_r0 true_126_r0
  let v128_r0 : BitVec 1 := Scalar.andi v125_r0 v127_r0
  let true_127_r0 : BitVec 1 := 1#1
  let v129_r0 : BitVec 1 := Scalar.andi v128_r0 true_127_r0
  let v130_r0 : BitVec 32 := Scalar.extui v129_r0
  let c0_i32_128_r0 : BitVec 32 := 0#32
  let v131_r0 : BitVec 1 := Scalar.cmpi .ne v130_r0 c0_i32_128_r0
  v131_r0

def k0_off15 (arg31_r0 : BitVec 32) : Fin 3 → Nat :=
  let c2_i32_217_r0 : BitVec 32 := 2#32
  let v328_r0 : BitVec 32 := Scalar.remui arg31_r0 c2_i32_217_r0
  let c0_i32_219_r0 : BitVec 32 := 0#32
  let c0_i32_220_r0 : BitVec 32 := 0#32
  ![v328_r0.toNat, 0, 0]
def k0_off16 (arg37_r0 : BitVec 32) : Fin 2 → Nat :=
  let c128_i32_218_r0 : BitVec 32 := 128#32
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v329_r0 : BitVec 32 := Scalar.muli c128_i32_218_r0 v95_r0
  let c0_i32_221_r0 : BitVec 32 := 0#32
  ![v329_r0.toNat, 0]
def k0_off17 (arg33_r0 : BitVec 32) : Fin 1 → Nat :=
  let c2_i32_217_r0 : BitVec 32 := 2#32
  let v328_r0 : BitVec 32 := Scalar.remui arg33_r0 c2_i32_217_r0
  ![v328_r0.toNat]
def k0_cond4 (k0_t1 : Fin k0_t1_loop.trips) (arg37_r0 : BitVec 32) : BitVec 1 :=
  let c0_i32_93_r0 : BitVec 32 := 0#32
  let v85_r0 : BitVec 32 := Scalar.addi arg37_r0 c0_i32_93_r0
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v135_r0 : BitVec 1 := Scalar.cmpi .ne v85_r0 v95_r0
  let c0_i32_67_r0 : BitVec 32 := 0#32
  let c1_i32_69_r0 : BitVec 32 := 1#32
  let arg25_r0 : BitVec 32 := Scf.iv c0_i32_67_r0 c1_i32_69_r0 k0_t1
  let c7_i32_131_r0 : BitVec 32 := 7#32
  let v136_r0 : BitVec 1 := Scalar.cmpi .sge arg25_r0 c7_i32_131_r0
  let true_132_r0 : BitVec 1 := 1#1
  let v137_r0 : BitVec 1 := Scalar.xori v136_r0 true_132_r0
  let v138_r0 : BitVec 1 := Scalar.andi v135_r0 v137_r0
  let true_133_r0 : BitVec 1 := 1#1
  let v139_r0 : BitVec 1 := Scalar.andi v138_r0 true_133_r0
  let v140_r0 : BitVec 32 := Scalar.extui v139_r0
  let c0_i32_134_r0 : BitVec 32 := 0#32
  let v141_r0 : BitVec 1 := Scalar.cmpi .ne v140_r0 c0_i32_134_r0
  v141_r0

def k0_off18 (arg33_r0 : BitVec 32) : Fin 3 → Nat :=
  let c2_i32_217_r0 : BitVec 32 := 2#32
  let v328_r0 : BitVec 32 := Scalar.remui arg33_r0 c2_i32_217_r0
  let c0_i32_219_r0 : BitVec 32 := 0#32
  let c0_i32_220_r0 : BitVec 32 := 0#32
  ![v328_r0.toNat, 0, 0]
def k0_off19 (arg37_r0 : BitVec 32) : Fin 2 → Nat :=
  let c128_i32_218_r0 : BitVec 32 := 128#32
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v329_r0 : BitVec 32 := Scalar.muli c128_i32_218_r0 v95_r0
  let c0_i32_221_r0 : BitVec 32 := 0#32
  ![v329_r0.toNat, 0]
def k0_off20 (arg35_r0 : BitVec 32) : Fin 1 → Nat :=
  let c2_i32_217_r0 : BitVec 32 := 2#32
  let v328_r0 : BitVec 32 := Scalar.remui arg35_r0 c2_i32_217_r0
  ![v328_r0.toNat]
def k0_cond5 (k0_t1 : Fin k0_t1_loop.trips) (arg37_r0 : BitVec 32) : BitVec 1 :=
  let c0_i32_93_r0 : BitVec 32 := 0#32
  let v85_r0 : BitVec 32 := Scalar.addi arg37_r0 c0_i32_93_r0
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v145_r0 : BitVec 1 := Scalar.cmpi .ne v85_r0 v95_r0
  let c0_i32_67_r0 : BitVec 32 := 0#32
  let c1_i32_69_r0 : BitVec 32 := 1#32
  let arg25_r0 : BitVec 32 := Scf.iv c0_i32_67_r0 c1_i32_69_r0 k0_t1
  let c7_i32_137_r0 : BitVec 32 := 7#32
  let v146_r0 : BitVec 1 := Scalar.cmpi .sge arg25_r0 c7_i32_137_r0
  let true_138_r0 : BitVec 1 := 1#1
  let v147_r0 : BitVec 1 := Scalar.xori v146_r0 true_138_r0
  let v148_r0 : BitVec 1 := Scalar.andi v145_r0 v147_r0
  let true_139_r0 : BitVec 1 := 1#1
  let v149_r0 : BitVec 1 := Scalar.andi v148_r0 true_139_r0
  let v150_r0 : BitVec 32 := Scalar.extui v149_r0
  let c0_i32_140_r0 : BitVec 32 := 0#32
  let v151_r0 : BitVec 1 := Scalar.cmpi .ne v150_r0 c0_i32_140_r0
  v151_r0

def k0_off21 (arg35_r0 : BitVec 32) : Fin 3 → Nat :=
  let c2_i32_217_r0 : BitVec 32 := 2#32
  let v328_r0 : BitVec 32 := Scalar.remui arg35_r0 c2_i32_217_r0
  let c0_i32_219_r0 : BitVec 32 := 0#32
  let c0_i32_220_r0 : BitVec 32 := 0#32
  ![v328_r0.toNat, 0, 0]
def k0_off22 (arg37_r0 : BitVec 32) : Fin 2 → Nat :=
  let c352_i32_218_r0 : BitVec 32 := 352#32
  let true_100_r0 : BitVec 1 := 1#1
  let c1_i32_99_r0 : BitVec 32 := 1#32
  let v91_r0 : BitVec 32 := Scalar.addi arg37_r0 c1_i32_99_r0
  let v92_r0 : BitVec 32 := Scalar.select true_100_r0 v91_r0 arg37_r0
  let c8_i32_101_r0 : BitVec 32 := 8#32
  let v93_r0 : BitVec 1 := Scalar.cmpi .eq v92_r0 c8_i32_101_r0
  let c0_i32_102_r0 : BitVec 32 := 0#32
  let v94_r0 : BitVec 32 := Scalar.select v93_r0 c0_i32_102_r0 v92_r0
  let c0_i32_103_r0 : BitVec 32 := 0#32
  let v95_r0 : BitVec 32 := Scalar.addi v94_r0 c0_i32_103_r0
  let v329_r0 : BitVec 32 := Scalar.muli c352_i32_218_r0 v95_r0
  let c0_i32_221_r0 : BitVec 32 := 0#32
  ![v329_r0.toNat, 0]
def k0_off23 (arg28_r0 : BitVec 32) : Fin 1 → Nat :=
  let c2_i32_219_r0 : BitVec 32 := 2#32
  let v330_r0 : BitVec 32 := Scalar.remui arg28_r0 c2_i32_219_r0
  ![v330_r0.toNat]
def k0_cond6 (k0_t1 : Fin k0_t1_loop.trips) (arg37_r0 : BitVec 32) : BitVec 1 :=
  let c0_i32_93_r0 : BitVec 32 := 0#32
  let v85_r0 : BitVec 32 := Scalar.addi arg37_r0 c0_i32_93_r0
  let c7_i32_109_r0 : BitVec 32 := 7#32
  let v101_r0 : BitVec 32 := Scalar.minsi v85_r0 c7_i32_109_r0
  let true_95_r0 : BitVec 1 := 1#1
  let c1_i32_94_r0 : BitVec 32 := 1#32
  let v86_r0 : BitVec 32 := Scalar.subi arg37_r0 c1_i32_94_r0
  let v87_r0 : BitVec 32 := Scalar.select true_95_r0 v86_r0 arg37_r0
  let c_m1_i32_96_r0 : BitVec 32 := 4294967295#32
  let v88_r0 : BitVec 1 := Scalar.cmpi .eq v87_r0 c_m1_i32_96_r0
  let c7_i32_97_r0 : BitVec 32 := 7#32
  let v89_r0 : BitVec 32 := Scalar.select v88_r0 c7_i32_97_r0 v87_r0
  let c0_i32_98_r0 : BitVec 32 := 0#32
  let v90_r0 : BitVec 32 := Scalar.addi v89_r0 c0_i32_98_r0
  let c7_i32_143_r0 : BitVec 32 := 7#32
  let v155_r0 : BitVec 32 := Scalar.minsi v90_r0 c7_i32_143_r0
  let v156_r0 : BitVec 1 := Scalar.cmpi .ne v101_r0 v155_r0
  let c0_i32_67_r0 : BitVec 32 := 0#32
  let c1_i32_69_r0 : BitVec 32 := 1#32
  let arg25_r0 : BitVec 32 := Scf.iv c0_i32_67_r0 c1_i32_69_r0 k0_t1
  let c0_i32_91_r0 : BitVec 32 := 0#32
  let v83_r0 : BitVec 1 := Scalar.cmpi .eq arg25_r0 c0_i32_91_r0
  let v157_r0 : BitVec 1 := Scalar.ori v156_r0 v83_r0
  let c0_i32_144_r0 : BitVec 32 := 0#32
  let v158_r0 : BitVec 1 := Scalar.cmpi .sge arg25_r0 c0_i32_144_r0
  let v159_r0 : BitVec 1 := Scalar.andi v157_r0 v158_r0
  let v160_r0 : BitVec 32 := Scalar.extui v159_r0
  let c0_i32_145_r0 : BitVec 32 := 0#32
  let v161_r0 : BitVec 1 := Scalar.cmpi .ne v160_r0 c0_i32_145_r0
  v161_r0

def k0_off24 (arg28_r0 : BitVec 32) : Fin 3 → Nat :=
  let c2_i32_219_r0 : BitVec 32 := 2#32
  let v330_r0 : BitVec 32 := Scalar.remui arg28_r0 c2_i32_219_r0
  let c0_i32_220_r0 : BitVec 32 := 0#32
  let c0_i32_221_r0 : BitVec 32 := 0#32
  ![v330_r0.toNat, 0, 0]
def k0_off25 (arg37_r0 : BitVec 32) : Fin 2 → Nat :=
  let c0_i32_222_r0 : BitVec 32 := 0#32
  let c384_i32_218_r0 : BitVec 32 := 384#32
  let c0_i32_93_r0 : BitVec 32 := 0#32
  let v85_r0 : BitVec 32 := Scalar.addi arg37_r0 c0_i32_93_r0
  let c7_i32_217_r0 : BitVec 32 := 7#32
  let v328_r0 : BitVec 32 := Scalar.minsi v85_r0 c7_i32_217_r0
  let v329_r0 : BitVec 32 := Scalar.muli c384_i32_218_r0 v328_r0
  ![0, v329_r0.toNat]
def k0_off26 (arg30_r0 : BitVec 32) : Fin 1 → Nat :=
  let c2_i32_219_r0 : BitVec 32 := 2#32
  let v330_r0 : BitVec 32 := Scalar.remui arg30_r0 c2_i32_219_r0
  ![v330_r0.toNat]
def k0_cond7 (k0_t1 : Fin k0_t1_loop.trips) (arg37_r0 : BitVec 32) : BitVec 1 :=
  let c0_i32_93_r0 : BitVec 32 := 0#32
  let v85_r0 : BitVec 32 := Scalar.addi arg37_r0 c0_i32_93_r0
  let c7_i32_117_r0 : BitVec 32 := 7#32
  let v113_r0 : BitVec 32 := Scalar.minsi v85_r0 c7_i32_117_r0
  let true_95_r0 : BitVec 1 := 1#1
  let c1_i32_94_r0 : BitVec 32 := 1#32
  let v86_r0 : BitVec 32 := Scalar.subi arg37_r0 c1_i32_94_r0
  let v87_r0 : BitVec 32 := Scalar.select true_95_r0 v86_r0 arg37_r0
  let c_m1_i32_96_r0 : BitVec 32 := 4294967295#32
  let v88_r0 : BitVec 1 := Scalar.cmpi .eq v87_r0 c_m1_i32_96_r0
  let c7_i32_97_r0 : BitVec 32 := 7#32
  let v89_r0 : BitVec 32 := Scalar.select v88_r0 c7_i32_97_r0 v87_r0
  let c0_i32_98_r0 : BitVec 32 := 0#32
  let v90_r0 : BitVec 32 := Scalar.addi v89_r0 c0_i32_98_r0
  let c7_i32_146_r0 : BitVec 32 := 7#32
  let v162_r0 : BitVec 32 := Scalar.minsi v90_r0 c7_i32_146_r0
  let v163_r0 : BitVec 1 := Scalar.cmpi .ne v113_r0 v162_r0
  let c0_i32_67_r0 : BitVec 32 := 0#32
  let c1_i32_69_r0 : BitVec 32 := 1#32
  let arg25_r0 : BitVec 32 := Scf.iv c0_i32_67_r0 c1_i32_69_r0 k0_t1
  let c0_i32_91_r0 : BitVec 32 := 0#32
  let v83_r0 : BitVec 1 := Scalar.cmpi .eq arg25_r0 c0_i32_91_r0
  let v164_r0 : BitVec 1 := Scalar.ori v163_r0 v83_r0
  let c0_i32_147_r0 : BitVec 32 := 0#32
  let v165_r0 : BitVec 1 := Scalar.cmpi .sge arg25_r0 c0_i32_147_r0
  let v166_r0 : BitVec 1 := Scalar.andi v164_r0 v165_r0
  let v167_r0 : BitVec 32 := Scalar.extui v166_r0
  let c0_i32_148_r0 : BitVec 32 := 0#32
  let v168_r0 : BitVec 1 := Scalar.cmpi .ne v167_r0 c0_i32_148_r0
  v168_r0

def k0_off27 (arg30_r0 : BitVec 32) : Fin 3 → Nat :=
  let c2_i32_219_r0 : BitVec 32 := 2#32
  let v330_r0 : BitVec 32 := Scalar.remui arg30_r0 c2_i32_219_r0
  let c0_i32_220_r0 : BitVec 32 := 0#32
  let c0_i32_221_r0 : BitVec 32 := 0#32
  ![v330_r0.toNat, 0, 0]
def k0_off28 (arg37_r0 : BitVec 32) : Fin 2 → Nat :=
  let c0_i32_222_r0 : BitVec 32 := 0#32
  let c384_i32_218_r0 : BitVec 32 := 384#32
  let c0_i32_93_r0 : BitVec 32 := 0#32
  let v85_r0 : BitVec 32 := Scalar.addi arg37_r0 c0_i32_93_r0
  let c7_i32_217_r0 : BitVec 32 := 7#32
  let v328_r0 : BitVec 32 := Scalar.minsi v85_r0 c7_i32_217_r0
  let v329_r0 : BitVec 32 := Scalar.muli c384_i32_218_r0 v328_r0
  ![0, v329_r0.toNat]
def k0_off29 (arg32_r0 : BitVec 32) : Fin 1 → Nat :=
  let c2_i32_218_r0 : BitVec 32 := 2#32
  let v329_r0 : BitVec 32 := Scalar.remui arg32_r0 c2_i32_218_r0
  ![v329_r0.toNat]
def k0_cond8 (k0_t1 : Fin k0_t1_loop.trips) (arg37_r0 : BitVec 32) : BitVec 1 :=
  let c0_i32_93_r0 : BitVec 32 := 0#32
  let v85_r0 : BitVec 32 := Scalar.addi arg37_r0 c0_i32_93_r0
  let true_95_r0 : BitVec 1 := 1#1
  let c1_i32_94_r0 : BitVec 32 := 1#32
  let v86_r0 : BitVec 32 := Scalar.subi arg37_r0 c1_i32_94_r0
  let v87_r0 : BitVec 32 := Scalar.select true_95_r0 v86_r0 arg37_r0
  let c_m1_i32_96_r0 : BitVec 32 := 4294967295#32
  let v88_r0 : BitVec 1 := Scalar.cmpi .eq v87_r0 c_m1_i32_96_r0
  let c7_i32_97_r0 : BitVec 32 := 7#32
  let v89_r0 : BitVec 32 := Scalar.select v88_r0 c7_i32_97_r0 v87_r0
  let c0_i32_98_r0 : BitVec 32 := 0#32
  let v90_r0 : BitVec 32 := Scalar.addi v89_r0 c0_i32_98_r0
  let v169_r0 : BitVec 1 := Scalar.cmpi .ne v85_r0 v90_r0
  let c0_i32_67_r0 : BitVec 32 := 0#32
  let c1_i32_69_r0 : BitVec 32 := 1#32
  let arg25_r0 : BitVec 32 := Scf.iv c0_i32_67_r0 c1_i32_69_r0 k0_t1
  let c0_i32_91_r0 : BitVec 32 := 0#32
  let v83_r0 : BitVec 1 := Scalar.cmpi .eq arg25_r0 c0_i32_91_r0
  let v170_r0 : BitVec 1 := Scalar.ori v169_r0 v83_r0
  let c0_i32_149_r0 : BitVec 32 := 0#32
  let v171_r0 : BitVec 1 := Scalar.cmpi .sge arg25_r0 c0_i32_149_r0
  let v172_r0 : BitVec 1 := Scalar.andi v170_r0 v171_r0
  let v173_r0 : BitVec 32 := Scalar.extui v172_r0
  let c0_i32_150_r0 : BitVec 32 := 0#32
  let v174_r0 : BitVec 1 := Scalar.cmpi .ne v173_r0 c0_i32_150_r0
  v174_r0

def k0_off30 (arg32_r0 : BitVec 32) : Fin 3 → Nat :=
  let c2_i32_218_r0 : BitVec 32 := 2#32
  let v329_r0 : BitVec 32 := Scalar.remui arg32_r0 c2_i32_218_r0
  let c0_i32_219_r0 : BitVec 32 := 0#32
  let c0_i32_220_r0 : BitVec 32 := 0#32
  ![v329_r0.toNat, 0, 0]
def k0_off31 (arg37_r0 : BitVec 32) : Fin 2 → Nat :=
  let c128_i32_217_r0 : BitVec 32 := 128#32
  let c0_i32_93_r0 : BitVec 32 := 0#32
  let v85_r0 : BitVec 32 := Scalar.addi arg37_r0 c0_i32_93_r0
  let v328_r0 : BitVec 32 := Scalar.muli c128_i32_217_r0 v85_r0
  let c0_i32_221_r0 : BitVec 32 := 0#32
  ![v328_r0.toNat, 0]
def k0_off32 (arg34_r0 : BitVec 32) : Fin 1 → Nat :=
  let c2_i32_218_r0 : BitVec 32 := 2#32
  let v329_r0 : BitVec 32 := Scalar.remui arg34_r0 c2_i32_218_r0
  ![v329_r0.toNat]
def k0_cond9 (k0_t1 : Fin k0_t1_loop.trips) (arg37_r0 : BitVec 32) : BitVec 1 :=
  let c0_i32_93_r0 : BitVec 32 := 0#32
  let v85_r0 : BitVec 32 := Scalar.addi arg37_r0 c0_i32_93_r0
  let true_95_r0 : BitVec 1 := 1#1
  let c1_i32_94_r0 : BitVec 32 := 1#32
  let v86_r0 : BitVec 32 := Scalar.subi arg37_r0 c1_i32_94_r0
  let v87_r0 : BitVec 32 := Scalar.select true_95_r0 v86_r0 arg37_r0
  let c_m1_i32_96_r0 : BitVec 32 := 4294967295#32
  let v88_r0 : BitVec 1 := Scalar.cmpi .eq v87_r0 c_m1_i32_96_r0
  let c7_i32_97_r0 : BitVec 32 := 7#32
  let v89_r0 : BitVec 32 := Scalar.select v88_r0 c7_i32_97_r0 v87_r0
  let c0_i32_98_r0 : BitVec 32 := 0#32
  let v90_r0 : BitVec 32 := Scalar.addi v89_r0 c0_i32_98_r0
  let v175_r0 : BitVec 1 := Scalar.cmpi .ne v85_r0 v90_r0
  let c0_i32_67_r0 : BitVec 32 := 0#32
  let c1_i32_69_r0 : BitVec 32 := 1#32
  let arg25_r0 : BitVec 32 := Scf.iv c0_i32_67_r0 c1_i32_69_r0 k0_t1
  let c0_i32_91_r0 : BitVec 32 := 0#32
  let v83_r0 : BitVec 1 := Scalar.cmpi .eq arg25_r0 c0_i32_91_r0
  let v176_r0 : BitVec 1 := Scalar.ori v175_r0 v83_r0
  let c0_i32_151_r0 : BitVec 32 := 0#32
  let v177_r0 : BitVec 1 := Scalar.cmpi .sge arg25_r0 c0_i32_151_r0
  let v178_r0 : BitVec 1 := Scalar.andi v176_r0 v177_r0
  let v179_r0 : BitVec 32 := Scalar.extui v178_r0
  let c0_i32_152_r0 : BitVec 32 := 0#32
  let v180_r0 : BitVec 1 := Scalar.cmpi .ne v179_r0 c0_i32_152_r0
  v180_r0

def k0_off33 (arg34_r0 : BitVec 32) : Fin 3 → Nat :=
  let c2_i32_218_r0 : BitVec 32 := 2#32
  let v329_r0 : BitVec 32 := Scalar.remui arg34_r0 c2_i32_218_r0
  let c0_i32_219_r0 : BitVec 32 := 0#32
  let c0_i32_220_r0 : BitVec 32 := 0#32
  ![v329_r0.toNat, 0, 0]
def k0_off34 (arg37_r0 : BitVec 32) : Fin 2 → Nat :=
  let c128_i32_217_r0 : BitVec 32 := 128#32
  let c0_i32_93_r0 : BitVec 32 := 0#32
  let v85_r0 : BitVec 32 := Scalar.addi arg37_r0 c0_i32_93_r0
  let v328_r0 : BitVec 32 := Scalar.muli c128_i32_217_r0 v85_r0
  let c0_i32_221_r0 : BitVec 32 := 0#32
  ![v328_r0.toNat, 0]
def k0_off35 (arg36_r0 : BitVec 32) : Fin 1 → Nat :=
  let c2_i32_218_r0 : BitVec 32 := 2#32
  let v329_r0 : BitVec 32 := Scalar.remui arg36_r0 c2_i32_218_r0
  ![v329_r0.toNat]
def k0_cond10 (k0_t1 : Fin k0_t1_loop.trips) (arg37_r0 : BitVec 32) : BitVec 1 :=
  let c0_i32_93_r0 : BitVec 32 := 0#32
  let v85_r0 : BitVec 32 := Scalar.addi arg37_r0 c0_i32_93_r0
  let true_95_r0 : BitVec 1 := 1#1
  let c1_i32_94_r0 : BitVec 32 := 1#32
  let v86_r0 : BitVec 32 := Scalar.subi arg37_r0 c1_i32_94_r0
  let v87_r0 : BitVec 32 := Scalar.select true_95_r0 v86_r0 arg37_r0
  let c_m1_i32_96_r0 : BitVec 32 := 4294967295#32
  let v88_r0 : BitVec 1 := Scalar.cmpi .eq v87_r0 c_m1_i32_96_r0
  let c7_i32_97_r0 : BitVec 32 := 7#32
  let v89_r0 : BitVec 32 := Scalar.select v88_r0 c7_i32_97_r0 v87_r0
  let c0_i32_98_r0 : BitVec 32 := 0#32
  let v90_r0 : BitVec 32 := Scalar.addi v89_r0 c0_i32_98_r0
  let v181_r0 : BitVec 1 := Scalar.cmpi .ne v85_r0 v90_r0
  let c0_i32_67_r0 : BitVec 32 := 0#32
  let c1_i32_69_r0 : BitVec 32 := 1#32
  let arg25_r0 : BitVec 32 := Scf.iv c0_i32_67_r0 c1_i32_69_r0 k0_t1
  let c0_i32_91_r0 : BitVec 32 := 0#32
  let v83_r0 : BitVec 1 := Scalar.cmpi .eq arg25_r0 c0_i32_91_r0
  let v182_r0 : BitVec 1 := Scalar.ori v181_r0 v83_r0
  let c0_i32_153_r0 : BitVec 32 := 0#32
  let v183_r0 : BitVec 1 := Scalar.cmpi .sge arg25_r0 c0_i32_153_r0
  let v184_r0 : BitVec 1 := Scalar.andi v182_r0 v183_r0
  let v185_r0 : BitVec 32 := Scalar.extui v184_r0
  let c0_i32_154_r0 : BitVec 32 := 0#32
  let v186_r0 : BitVec 1 := Scalar.cmpi .ne v185_r0 c0_i32_154_r0
  v186_r0

def k0_off36 (arg36_r0 : BitVec 32) : Fin 3 → Nat :=
  let c2_i32_218_r0 : BitVec 32 := 2#32
  let v329_r0 : BitVec 32 := Scalar.remui arg36_r0 c2_i32_218_r0
  let c0_i32_219_r0 : BitVec 32 := 0#32
  let c0_i32_220_r0 : BitVec 32 := 0#32
  ![v329_r0.toNat, 0, 0]
def k0_off37 (arg37_r0 : BitVec 32) : Fin 2 → Nat :=
  let c352_i32_217_r0 : BitVec 32 := 352#32
  let c0_i32_93_r0 : BitVec 32 := 0#32
  let v85_r0 : BitVec 32 := Scalar.addi arg37_r0 c0_i32_93_r0
  let v328_r0 : BitVec 32 := Scalar.muli c352_i32_217_r0 v85_r0
  let c0_i32_221_r0 : BitVec 32 := 0#32
  ![v328_r0.toNat, 0]
def k0_off38 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond11 (arg37_r0 : BitVec 32) : BitVec 1 :=
  let c0_i32_93_r0 : BitVec 32 := 0#32
  let v85_r0 : BitVec 32 := Scalar.addi arg37_r0 c0_i32_93_r0
  let c0_i32_160_r0 : BitVec 32 := 0#32
  let v192_r0 : BitVec 1 := Scalar.cmpi .eq v85_r0 c0_i32_160_r0
  let v193_r0 : BitVec 32 := Scalar.extui v192_r0
  let c0_i32_161_r0 : BitVec 32 := 0#32
  let v194_r0 : BitVec 1 := Scalar.cmpi .ne v193_r0 c0_i32_161_r0
  v194_r0

def k0_off39 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off40 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond12 (arg37_r0 : BitVec 32) : BitVec 1 :=
  let c0_i32_93_r0 : BitVec 32 := 0#32
  let v85_r0 : BitVec 32 := Scalar.addi arg37_r0 c0_i32_93_r0
  let c1_i32_162_r0 : BitVec 32 := 1#32
  let v195_r0 : BitVec 1 := Scalar.cmpi .eq v85_r0 c1_i32_162_r0
  let v196_r0 : BitVec 32 := Scalar.extui v195_r0
  let c0_i32_163_r0 : BitVec 32 := 0#32
  let v197_r0 : BitVec 1 := Scalar.cmpi .ne v196_r0 c0_i32_163_r0
  v197_r0

def k0_off41 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off42 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond13 (arg37_r0 : BitVec 32) : BitVec 1 :=
  let c0_i32_93_r0 : BitVec 32 := 0#32
  let v85_r0 : BitVec 32 := Scalar.addi arg37_r0 c0_i32_93_r0
  let c2_i32_164_r0 : BitVec 32 := 2#32
  let v198_r0 : BitVec 1 := Scalar.cmpi .eq v85_r0 c2_i32_164_r0
  let v199_r0 : BitVec 32 := Scalar.extui v198_r0
  let c0_i32_165_r0 : BitVec 32 := 0#32
  let v200_r0 : BitVec 1 := Scalar.cmpi .ne v199_r0 c0_i32_165_r0
  v200_r0

def k0_off43 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off44 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond14 (arg37_r0 : BitVec 32) : BitVec 1 :=
  let c0_i32_93_r0 : BitVec 32 := 0#32
  let v85_r0 : BitVec 32 := Scalar.addi arg37_r0 c0_i32_93_r0
  let c3_i32_r0 : BitVec 32 := 3#32
  let v201_r0 : BitVec 1 := Scalar.cmpi .eq v85_r0 c3_i32_r0
  let v202_r0 : BitVec 32 := Scalar.extui v201_r0
  let c0_i32_166_r0 : BitVec 32 := 0#32
  let v203_r0 : BitVec 1 := Scalar.cmpi .ne v202_r0 c0_i32_166_r0
  v203_r0

def k0_off45 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off46 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond15 (arg37_r0 : BitVec 32) : BitVec 1 :=
  let c0_i32_93_r0 : BitVec 32 := 0#32
  let v85_r0 : BitVec 32 := Scalar.addi arg37_r0 c0_i32_93_r0
  let c4_i32_r0 : BitVec 32 := 4#32
  let v204_r0 : BitVec 1 := Scalar.cmpi .eq v85_r0 c4_i32_r0
  let v205_r0 : BitVec 32 := Scalar.extui v204_r0
  let c0_i32_167_r0 : BitVec 32 := 0#32
  let v206_r0 : BitVec 1 := Scalar.cmpi .ne v205_r0 c0_i32_167_r0
  v206_r0

def k0_off47 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off48 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond16 (arg37_r0 : BitVec 32) : BitVec 1 :=
  let c0_i32_93_r0 : BitVec 32 := 0#32
  let v85_r0 : BitVec 32 := Scalar.addi arg37_r0 c0_i32_93_r0
  let c5_i32_r0 : BitVec 32 := 5#32
  let v207_r0 : BitVec 1 := Scalar.cmpi .eq v85_r0 c5_i32_r0
  let v208_r0 : BitVec 32 := Scalar.extui v207_r0
  let c0_i32_168_r0 : BitVec 32 := 0#32
  let v209_r0 : BitVec 1 := Scalar.cmpi .ne v208_r0 c0_i32_168_r0
  v209_r0

def k0_off49 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off50 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond17 (arg37_r0 : BitVec 32) : BitVec 1 :=
  let c0_i32_93_r0 : BitVec 32 := 0#32
  let v85_r0 : BitVec 32 := Scalar.addi arg37_r0 c0_i32_93_r0
  let c6_i32_r0 : BitVec 32 := 6#32
  let v210_r0 : BitVec 1 := Scalar.cmpi .eq v85_r0 c6_i32_r0
  let v211_r0 : BitVec 32 := Scalar.extui v210_r0
  let c0_i32_169_r0 : BitVec 32 := 0#32
  let v212_r0 : BitVec 1 := Scalar.cmpi .ne v211_r0 c0_i32_169_r0
  v212_r0

def k0_off51 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off52 (arg28_r0 : BitVec 32) : Fin 3 → Nat :=
  let c2_i32_155_r0 : BitVec 32 := 2#32
  let v187_r0 : BitVec 32 := Scalar.remui arg28_r0 c2_i32_155_r0
  let v332_r0 : Index := Scalar.indexCast v187_r0
  let c0_219_r0 : Index := 0#32
  let c0_220_r0 : Index := 0#32
  ![v332_r0.toNat, 0, 0]
def k0_cond18 (arg37_r0 : BitVec 32) : BitVec 1 :=
  let c0_i32_93_r0 : BitVec 32 := 0#32
  let v85_r0 : BitVec 32 := Scalar.addi arg37_r0 c0_i32_93_r0
  let c7_i32_170_r0 : BitVec 32 := 7#32
  let v213_r0 : BitVec 1 := Scalar.cmpi .eq v85_r0 c7_i32_170_r0
  let v214_r0 : BitVec 32 := Scalar.extui v213_r0
  let c0_i32_171_r0 : BitVec 32 := 0#32
  let v215_r0 : BitVec 1 := Scalar.cmpi .ne v214_r0 c0_i32_171_r0
  v215_r0

def k0_off53 (arg30_r0 : BitVec 32) : Fin 3 → Nat :=
  let c2_i32_156_r0 : BitVec 32 := 2#32
  let v188_r0 : BitVec 32 := Scalar.remui arg30_r0 c2_i32_156_r0
  let v337_r0 : Index := Scalar.indexCast v188_r0
  let c0_222_r0 : Index := 0#32
  let c0_223_r0 : Index := 0#32
  ![v337_r0.toNat, 0, 0]
def k0_off54 (arg32_r0 : BitVec 32) : Fin 3 → Nat :=
  let c2_i32_157_r0 : BitVec 32 := 2#32
  let v189_r0 : BitVec 32 := Scalar.remui arg32_r0 c2_i32_157_r0
  let v216_r0 : Index := Scalar.indexCast v189_r0
  let c0_172_r0 : Index := 0#32
  let c0_173_r0 : Index := 0#32
  ![v216_r0.toNat, 0, 0]

def k0_chk2 (arg32_r0 : BitVec 32) : Prop :=
  (∀ a, (k0_off54 arg32_r0) a + S1x128x2816.size a ≤ S2x128x2816.size a)
theorem k0_off54_inb : ∀ (arg32_r0 : BitVec 32) (k0_hw2 : k0_chk2 arg32_r0), ∀ a, (k0_off54 arg32_r0) a + S1x128x2816.size a ≤ S2x128x2816.size a := fun arg32_r0 k0_hw2 => k0_hw2

def k0_mult1 (arg37_r0 : BitVec 32) : BitVec 32 :=
  let c0_i32_93_r0 : BitVec 32 := 0#32
  let v85_r0 : BitVec 32 := Scalar.addi arg37_r0 c0_i32_93_r0
  let c128_i32_r0 : BitVec 32 := 128#32
  let v220_r0 : BitVec 32 := Scalar.muli v85_r0 c128_i32_r0
  v220_r0
def k0_off55 (arg37_r0 : BitVec 32) : Fin 2 → Nat :=
  let c0_i32_93_r0 : BitVec 32 := 0#32
  let v85_r0 : BitVec 32 := Scalar.addi arg37_r0 c0_i32_93_r0
  let c128_i32_r0 : BitVec 32 := 128#32
  let v220_r0 : BitVec 32 := Scalar.muli v85_r0 c128_i32_r0
  let v221_r0 : BitVec 32 := v220_r0
  let v222_r0 : Index := Scalar.indexCast v221_r0
  let c0_174_r0 : Index := 0#32
  ![v222_r0.toNat, 0]
def k0_off56 (arg34_r0 : BitVec 32) : Fin 3 → Nat :=
  let c2_i32_158_r0 : BitVec 32 := 2#32
  let v190_r0 : BitVec 32 := Scalar.remui arg34_r0 c2_i32_158_r0
  let v226_r0 : Index := Scalar.indexCast v190_r0
  let c0_175_r0 : Index := 0#32
  let c0_176_r0 : Index := 0#32
  ![v226_r0.toNat, 0, 0]

def k0_chk3 (arg34_r0 : BitVec 32) : Prop :=
  (∀ a, (k0_off56 arg34_r0) a + S1x128x2816.size a ≤ S2x128x2816.size a)
theorem k0_off56_inb : ∀ (arg34_r0 : BitVec 32) (k0_hw3 : k0_chk3 arg34_r0), ∀ a, (k0_off56 arg34_r0) a + S1x128x2816.size a ≤ S2x128x2816.size a := fun arg34_r0 k0_hw3 => k0_hw3

def k0_mult2 (arg37_r0 : BitVec 32) : BitVec 32 :=
  let c0_i32_93_r0 : BitVec 32 := 0#32
  let v85_r0 : BitVec 32 := Scalar.addi arg37_r0 c0_i32_93_r0
  let c128_i32_177_r0 : BitVec 32 := 128#32
  let v230_r0 : BitVec 32 := Scalar.muli v85_r0 c128_i32_177_r0
  v230_r0
def k0_off57 (arg36_r0 : BitVec 32) : Fin 3 → Nat :=
  let c2_i32_159_r0 : BitVec 32 := 2#32
  let v191_r0 : BitVec 32 := Scalar.remui arg36_r0 c2_i32_159_r0
  let v236_r0 : Index := Scalar.indexCast v191_r0
  let c0_179_r0 : Index := 0#32
  let c0_180_r0 : Index := 0#32
  ![v236_r0.toNat, 0, 0]

def k0_chk4 (arg36_r0 : BitVec 32) : Prop :=
  (∀ a, (k0_off57 arg36_r0) a + S1x352x1024.size a ≤ S2x352x1024.size a)
theorem k0_off57_inb : ∀ (arg36_r0 : BitVec 32) (k0_hw4 : k0_chk4 arg36_r0), ∀ a, (k0_off57 arg36_r0) a + S1x352x1024.size a ≤ S2x352x1024.size a := fun arg36_r0 k0_hw4 => k0_hw4

def k0_mult3 (arg37_r0 : BitVec 32) : BitVec 32 :=
  let c0_i32_93_r0 : BitVec 32 := 0#32
  let v85_r0 : BitVec 32 := Scalar.addi arg37_r0 c0_i32_93_r0
  let c352_i32_r0 : BitVec 32 := 352#32
  let v240_r0 : BitVec 32 := Scalar.muli v85_r0 c352_i32_r0
  v240_r0
def k0_off58 (arg37_r0 : BitVec 32) : Fin 2 → Nat :=
  let c0_i32_93_r0 : BitVec 32 := 0#32
  let v85_r0 : BitVec 32 := Scalar.addi arg37_r0 c0_i32_93_r0
  let c352_i32_r0 : BitVec 32 := 352#32
  let v240_r0 : BitVec 32 := Scalar.muli v85_r0 c352_i32_r0
  let v241_r0 : BitVec 32 := v240_r0
  let v242_r0 : Index := Scalar.indexCast v241_r0
  let c0_181_r0 : Index := 0#32
  ![v242_r0.toNat, 0]

def k0_chk1_0 (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) : Prop :=
  (∀ (k0_h1 : k0_cond1 k0_t1 arg37_r0 = 1#1), ∀ a, (k0_off8 arg27_r0) a + S1.size a ≤ S2.size a) ∧
  (∀ (k0_h1 : k0_cond1 k0_t1 arg37_r0 = 1#1), ∀ a, (k0_off9 arg27_r0) a + S1x1024x384.size a ≤ S2x1024x384.size a) ∧
  (∀ (k0_h1 : k0_cond1 k0_t1 arg37_r0 = 1#1), ∀ a, (k0_off10 arg37_r0) a + S1024x384.size a ≤ S1024x9216.size a) ∧
  (∀ (k0_h2 : k0_cond2 k0_t1 arg37_r0 = 1#1), ∀ a, (k0_off11 arg29_r0) a + S1.size a ≤ S2.size a) ∧
  (∀ (k0_h2 : k0_cond2 k0_t1 arg37_r0 = 1#1), ∀ a, (k0_off12 arg29_r0) a + S1x1x384.size a ≤ S2x1x384.size a) ∧
  (∀ (k0_h2 : k0_cond2 k0_t1 arg37_r0 = 1#1), ∀ a, (k0_off13 arg37_r0) a + S1x384.size a ≤ S1x9216.size a) ∧
  (∀ (k0_h3 : k0_cond3 k0_t1 arg37_r0 = 1#1), ∀ a, (k0_off14 arg31_r0) a + S1.size a ≤ S2.size a) ∧
  (∀ (k0_h3 : k0_cond3 k0_t1 arg37_r0 = 1#1), ∀ a, (k0_off15 arg31_r0) a + S1x128x2816.size a ≤ S2x128x2816.size a) ∧
  (∀ (k0_h3 : k0_cond3 k0_t1 arg37_r0 = 1#1), ∀ a, (k0_off16 arg37_r0) a + S128x2816.size a ≤ S1024x2816.size a) ∧
  (∀ (k0_h4 : k0_cond4 k0_t1 arg37_r0 = 1#1), ∀ a, (k0_off17 arg33_r0) a + S1.size a ≤ S2.size a) ∧
  (∀ (k0_h4 : k0_cond4 k0_t1 arg37_r0 = 1#1), ∀ a, (k0_off18 arg33_r0) a + S1x128x2816.size a ≤ S2x128x2816.size a) ∧
  (∀ (k0_h4 : k0_cond4 k0_t1 arg37_r0 = 1#1), ∀ a, (k0_off19 arg37_r0) a + S128x2816.size a ≤ S1024x2816.size a) ∧
  (∀ (k0_h5 : k0_cond5 k0_t1 arg37_r0 = 1#1), ∀ a, (k0_off20 arg35_r0) a + S1.size a ≤ S2.size a) ∧
  (∀ (k0_h5 : k0_cond5 k0_t1 arg37_r0 = 1#1), ∀ a, (k0_off21 arg35_r0) a + S1x352x1024.size a ≤ S2x352x1024.size a) ∧
  (∀ (k0_h5 : k0_cond5 k0_t1 arg37_r0 = 1#1), ∀ a, (k0_off22 arg37_r0) a + S352x1024.size a ≤ S2816x1024.size a) ∧
  (∀ (k0_h6 : k0_cond6 k0_t1 arg37_r0 = 1#1), ∀ a, (k0_off23 arg28_r0) a + S1.size a ≤ S2.size a) ∧
  (∀ (k0_h6 : k0_cond6 k0_t1 arg37_r0 = 1#1), ∀ a, (k0_off24 arg28_r0) a + S1x1024x384.size a ≤ S2x1024x384.size a) ∧
  (∀ (k0_h6 : k0_cond6 k0_t1 arg37_r0 = 1#1), ∀ a, (k0_off25 arg37_r0) a + S1024x384.size a ≤ S1024x9216.size a) ∧
  (∀ (k0_h7 : k0_cond7 k0_t1 arg37_r0 = 1#1), ∀ a, (k0_off26 arg30_r0) a + S1.size a ≤ S2.size a) ∧
  (∀ (k0_h7 : k0_cond7 k0_t1 arg37_r0 = 1#1), ∀ a, (k0_off27 arg30_r0) a + S1x1x384.size a ≤ S2x1x384.size a) ∧
  (∀ (k0_h7 : k0_cond7 k0_t1 arg37_r0 = 1#1), ∀ a, (k0_off28 arg37_r0) a + S1x384.size a ≤ S1x9216.size a) ∧
  (∀ (k0_h8 : k0_cond8 k0_t1 arg37_r0 = 1#1), ∀ a, (k0_off29 arg32_r0) a + S1.size a ≤ S2.size a) ∧
  (∀ (k0_h8 : k0_cond8 k0_t1 arg37_r0 = 1#1), ∀ a, (k0_off30 arg32_r0) a + S1x128x2816.size a ≤ S2x128x2816.size a) ∧
  (∀ (k0_h8 : k0_cond8 k0_t1 arg37_r0 = 1#1), ∀ a, (k0_off31 arg37_r0) a + S128x2816.size a ≤ S1024x2816.size a) ∧
  (∀ (k0_h9 : k0_cond9 k0_t1 arg37_r0 = 1#1), ∀ a, (k0_off32 arg34_r0) a + S1.size a ≤ S2.size a) ∧
  (∀ (k0_h9 : k0_cond9 k0_t1 arg37_r0 = 1#1), ∀ a, (k0_off33 arg34_r0) a + S1x128x2816.size a ≤ S2x128x2816.size a) ∧
  (∀ (k0_h9 : k0_cond9 k0_t1 arg37_r0 = 1#1), ∀ a, (k0_off34 arg37_r0) a + S128x2816.size a ≤ S1024x2816.size a) ∧
  (∀ (k0_h10 : k0_cond10 k0_t1 arg37_r0 = 1#1), ∀ a, (k0_off35 arg36_r0) a + S1.size a ≤ S2.size a) ∧
  (∀ (k0_h10 : k0_cond10 k0_t1 arg37_r0 = 1#1), ∀ a, (k0_off36 arg36_r0) a + S1x352x1024.size a ≤ S2x352x1024.size a) ∧
  (∀ (k0_h10 : k0_cond10 k0_t1 arg37_r0 = 1#1), ∀ a, (k0_off37 arg37_r0) a + S352x1024.size a ≤ S2816x1024.size a) ∧
  (∀ (k0_h11 : k0_cond11 arg37_r0 = 1#1), ∀ a, (k0_off38 arg28_r0) a + S1x1024x384.size a ≤ S2x1024x384.size a) ∧
  (∀ (k0_h11 : k0_cond11 arg37_r0 = 1#1), ∀ a, (k0_off39 arg30_r0) a + S1x1x384.size a ≤ S2x1x384.size a)
def k0_chk1_1 (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) : Prop :=
  (∀ (k0_h12 : k0_cond12 arg37_r0 = 1#1), ∀ a, (k0_off40 arg28_r0) a + S1x1024x384.size a ≤ S2x1024x384.size a) ∧
  (∀ (k0_h12 : k0_cond12 arg37_r0 = 1#1), ∀ a, (k0_off41 arg30_r0) a + S1x1x384.size a ≤ S2x1x384.size a) ∧
  (∀ (k0_h13 : k0_cond13 arg37_r0 = 1#1), ∀ a, (k0_off42 arg28_r0) a + S1x1024x384.size a ≤ S2x1024x384.size a) ∧
  (∀ (k0_h13 : k0_cond13 arg37_r0 = 1#1), ∀ a, (k0_off43 arg30_r0) a + S1x1x384.size a ≤ S2x1x384.size a) ∧
  (∀ (k0_h14 : k0_cond14 arg37_r0 = 1#1), ∀ a, (k0_off44 arg28_r0) a + S1x1024x384.size a ≤ S2x1024x384.size a) ∧
  (∀ (k0_h14 : k0_cond14 arg37_r0 = 1#1), ∀ a, (k0_off45 arg30_r0) a + S1x1x384.size a ≤ S2x1x384.size a) ∧
  (∀ (k0_h15 : k0_cond15 arg37_r0 = 1#1), ∀ a, (k0_off46 arg28_r0) a + S1x1024x384.size a ≤ S2x1024x384.size a) ∧
  (∀ (k0_h15 : k0_cond15 arg37_r0 = 1#1), ∀ a, (k0_off47 arg30_r0) a + S1x1x384.size a ≤ S2x1x384.size a) ∧
  (∀ (k0_h16 : k0_cond16 arg37_r0 = 1#1), ∀ a, (k0_off48 arg28_r0) a + S1x1024x384.size a ≤ S2x1024x384.size a) ∧
  (∀ (k0_h16 : k0_cond16 arg37_r0 = 1#1), ∀ a, (k0_off49 arg30_r0) a + S1x1x384.size a ≤ S2x1x384.size a) ∧
  (∀ (k0_h17 : k0_cond17 arg37_r0 = 1#1), ∀ a, (k0_off50 arg28_r0) a + S1x1024x384.size a ≤ S2x1024x384.size a) ∧
  (∀ (k0_h17 : k0_cond17 arg37_r0 = 1#1), ∀ a, (k0_off51 arg30_r0) a + S1x1x384.size a ≤ S2x1x384.size a) ∧
  (∀ (k0_h18 : k0_cond18 arg37_r0 = 1#1), ∀ a, (k0_off52 arg28_r0) a + S1x1024x384.size a ≤ S2x1024x384.size a) ∧
  (∀ (k0_h18 : k0_cond18 arg37_r0 = 1#1), ∀ a, (k0_off53 arg30_r0) a + S1x1x384.size a ≤ S2x1x384.size a) ∧
  (128 ∣ (k0_mult1 arg37_r0).toNat) ∧
  (∀ a, (k0_off55 arg37_r0) a + S128x2816.size a ≤ S1024x2816.size a) ∧
  (∀ (hinb : ∀ a, (k0_off55 arg37_r0) a + S128x2816.size a ≤ S1024x2816.size a), (Rect.unit (s := S1024x2816) (k0_off55 arg37_r0) S128x2816.size hinb).PackedRows (EltTy.packing .bf16)) ∧
  (128 ∣ (k0_mult2 arg37_r0).toNat) ∧
  (352 ∣ (k0_mult3 arg37_r0).toNat) ∧
  (∀ a, (k0_off58 arg37_r0) a + S352x1024.size a ≤ S2816x1024.size a) ∧
  (∀ (hinb : ∀ a, (k0_off58 arg37_r0) a + S352x1024.size a ≤ S2816x1024.size a), (Rect.unit (s := S2816x1024) (k0_off58 arg37_r0) S352x1024.size hinb).PackedRows (EltTy.packing .bf16))
def k0_chk1 (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) : Prop :=
  k0_chk1_0 k0_t1 arg27_r0 arg28_r0 arg29_r0 arg30_r0 arg31_r0 arg32_r0 arg33_r0 arg34_r0 arg35_r0 arg36_r0 arg37_r0 ∧
  k0_chk1_1 k0_t1 arg27_r0 arg28_r0 arg29_r0 arg30_r0 arg31_r0 arg32_r0 arg33_r0 arg34_r0 arg35_r0 arg36_r0 arg37_r0
theorem k0_off8_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h1 : k0_cond1 k0_t1 arg37_r0 = 1#1), ∀ a, (k0_off8 arg27_r0) a + S1.size a ≤ S2.size a := fun k0_t1 arg27_r0 arg28_r0 arg29_r0 arg30_r0 arg31_r0 arg32_r0 arg33_r0 arg34_r0 arg35_r0 arg36_r0 arg37_r0 k0_hw1 k0_h1 => k0_hw1.1.1 k0_h1
theorem k0_off9_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h1 : k0_cond1 k0_t1 arg37_r0 = 1#1), ∀ a, (k0_off9 arg27_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h1 => k0_hw1.1.2.1 k0_h1
theorem k0_off10_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h1 : k0_cond1 k0_t1 arg37_r0 = 1#1), ∀ a, (k0_off10 arg37_r0) a + S1024x384.size a ≤ S1024x9216.size a := fun k0_t1 arg27_r0 arg28_r0 arg29_r0 arg30_r0 arg31_r0 arg32_r0 arg33_r0 arg34_r0 arg35_r0 arg36_r0 arg37_r0 k0_hw1 k0_h1 => k0_hw1.1.2.2.1 k0_h1
theorem k0_off11_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h2 : k0_cond2 k0_t1 arg37_r0 = 1#1), ∀ a, (k0_off11 arg29_r0) a + S1.size a ≤ S2.size a := fun k0_t1 arg27_r0 arg28_r0 arg29_r0 arg30_r0 arg31_r0 arg32_r0 arg33_r0 arg34_r0 arg35_r0 arg36_r0 arg37_r0 k0_hw1 k0_h2 => k0_hw1.1.2.2.2.1 k0_h2
theorem k0_off12_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h2 : k0_cond2 k0_t1 arg37_r0 = 1#1), ∀ a, (k0_off12 arg29_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h2 => k0_hw1.1.2.2.2.2.1 k0_h2
theorem k0_off13_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h2 : k0_cond2 k0_t1 arg37_r0 = 1#1), ∀ a, (k0_off13 arg37_r0) a + S1x384.size a ≤ S1x9216.size a := fun k0_t1 arg27_r0 arg28_r0 arg29_r0 arg30_r0 arg31_r0 arg32_r0 arg33_r0 arg34_r0 arg35_r0 arg36_r0 arg37_r0 k0_hw1 k0_h2 => k0_hw1.1.2.2.2.2.2.1 k0_h2
theorem k0_off14_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h3 : k0_cond3 k0_t1 arg37_r0 = 1#1), ∀ a, (k0_off14 arg31_r0) a + S1.size a ≤ S2.size a := fun k0_t1 arg27_r0 arg28_r0 arg29_r0 arg30_r0 arg31_r0 arg32_r0 arg33_r0 arg34_r0 arg35_r0 arg36_r0 arg37_r0 k0_hw1 k0_h3 => k0_hw1.1.2.2.2.2.2.2.1 k0_h3
theorem k0_off15_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h3 : k0_cond3 k0_t1 arg37_r0 = 1#1), ∀ a, (k0_off15 arg31_r0) a + S1x128x2816.size a ≤ S2x128x2816.size a := fun k0_t1 arg27_r0 arg28_r0 arg29_r0 arg30_r0 arg31_r0 arg32_r0 arg33_r0 arg34_r0 arg35_r0 arg36_r0 arg37_r0 k0_hw1 k0_h3 => k0_hw1.1.2.2.2.2.2.2.2.1 k0_h3
theorem k0_off16_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h3 : k0_cond3 k0_t1 arg37_r0 = 1#1), ∀ a, (k0_off16 arg37_r0) a + S128x2816.size a ≤ S1024x2816.size a := fun k0_t1 arg27_r0 arg28_r0 arg29_r0 arg30_r0 arg31_r0 arg32_r0 arg33_r0 arg34_r0 arg35_r0 arg36_r0 arg37_r0 k0_hw1 k0_h3 => k0_hw1.1.2.2.2.2.2.2.2.2.1 k0_h3
theorem k0_off17_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h4 : k0_cond4 k0_t1 arg37_r0 = 1#1), ∀ a, (k0_off17 arg33_r0) a + S1.size a ≤ S2.size a := fun k0_t1 arg27_r0 arg28_r0 arg29_r0 arg30_r0 arg31_r0 arg32_r0 arg33_r0 arg34_r0 arg35_r0 arg36_r0 arg37_r0 k0_hw1 k0_h4 => k0_hw1.1.2.2.2.2.2.2.2.2.2.1 k0_h4
theorem k0_off18_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h4 : k0_cond4 k0_t1 arg37_r0 = 1#1), ∀ a, (k0_off18 arg33_r0) a + S1x128x2816.size a ≤ S2x128x2816.size a := fun k0_t1 arg27_r0 arg28_r0 arg29_r0 arg30_r0 arg31_r0 arg32_r0 arg33_r0 arg34_r0 arg35_r0 arg36_r0 arg37_r0 k0_hw1 k0_h4 => k0_hw1.1.2.2.2.2.2.2.2.2.2.2.1 k0_h4
theorem k0_off19_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h4 : k0_cond4 k0_t1 arg37_r0 = 1#1), ∀ a, (k0_off19 arg37_r0) a + S128x2816.size a ≤ S1024x2816.size a := fun k0_t1 arg27_r0 arg28_r0 arg29_r0 arg30_r0 arg31_r0 arg32_r0 arg33_r0 arg34_r0 arg35_r0 arg36_r0 arg37_r0 k0_hw1 k0_h4 => k0_hw1.1.2.2.2.2.2.2.2.2.2.2.2.1 k0_h4
theorem k0_off20_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h5 : k0_cond5 k0_t1 arg37_r0 = 1#1), ∀ a, (k0_off20 arg35_r0) a + S1.size a ≤ S2.size a := fun k0_t1 arg27_r0 arg28_r0 arg29_r0 arg30_r0 arg31_r0 arg32_r0 arg33_r0 arg34_r0 arg35_r0 arg36_r0 arg37_r0 k0_hw1 k0_h5 => k0_hw1.1.2.2.2.2.2.2.2.2.2.2.2.2.1 k0_h5
theorem k0_off21_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h5 : k0_cond5 k0_t1 arg37_r0 = 1#1), ∀ a, (k0_off21 arg35_r0) a + S1x352x1024.size a ≤ S2x352x1024.size a := fun k0_t1 arg27_r0 arg28_r0 arg29_r0 arg30_r0 arg31_r0 arg32_r0 arg33_r0 arg34_r0 arg35_r0 arg36_r0 arg37_r0 k0_hw1 k0_h5 => k0_hw1.1.2.2.2.2.2.2.2.2.2.2.2.2.2.1 k0_h5
theorem k0_off22_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h5 : k0_cond5 k0_t1 arg37_r0 = 1#1), ∀ a, (k0_off22 arg37_r0) a + S352x1024.size a ≤ S2816x1024.size a := fun k0_t1 arg27_r0 arg28_r0 arg29_r0 arg30_r0 arg31_r0 arg32_r0 arg33_r0 arg34_r0 arg35_r0 arg36_r0 arg37_r0 k0_hw1 k0_h5 => k0_hw1.1.2.2.2.2.2.2.2.2.2.2.2.2.2.2.1 k0_h5
theorem k0_off23_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h6 : k0_cond6 k0_t1 arg37_r0 = 1#1), ∀ a, (k0_off23 arg28_r0) a + S1.size a ≤ S2.size a := fun k0_t1 arg27_r0 arg28_r0 arg29_r0 arg30_r0 arg31_r0 arg32_r0 arg33_r0 arg34_r0 arg35_r0 arg36_r0 arg37_r0 k0_hw1 k0_h6 => k0_hw1.1.2.2.2.2.2.2.2.2.2.2.2.2.2.2.2.1 k0_h6
theorem k0_off24_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h6 : k0_cond6 k0_t1 arg37_r0 = 1#1), ∀ a, (k0_off24 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h6 => k0_hw1.1.2.2.2.2.2.2.2.2.2.2.2.2.2.2.2.2.1 k0_h6
theorem k0_off25_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h6 : k0_cond6 k0_t1 arg37_r0 = 1#1), ∀ a, (k0_off25 arg37_r0) a + S1024x384.size a ≤ S1024x9216.size a := fun k0_t1 arg27_r0 arg28_r0 arg29_r0 arg30_r0 arg31_r0 arg32_r0 arg33_r0 arg34_r0 arg35_r0 arg36_r0 arg37_r0 k0_hw1 k0_h6 => k0_hw1.1.2.2.2.2.2.2.2.2.2.2.2.2.2.2.2.2.2.1 k0_h6
theorem k0_off26_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h7 : k0_cond7 k0_t1 arg37_r0 = 1#1), ∀ a, (k0_off26 arg30_r0) a + S1.size a ≤ S2.size a := fun k0_t1 arg27_r0 arg28_r0 arg29_r0 arg30_r0 arg31_r0 arg32_r0 arg33_r0 arg34_r0 arg35_r0 arg36_r0 arg37_r0 k0_hw1 k0_h7 => k0_hw1.1.2.2.2.2.2.2.2.2.2.2.2.2.2.2.2.2.2.2.1 k0_h7
theorem k0_off27_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h7 : k0_cond7 k0_t1 arg37_r0 = 1#1), ∀ a, (k0_off27 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h7 => k0_hw1.1.2.2.2.2.2.2.2.2.2.2.2.2.2.2.2.2.2.2.2.1 k0_h7
theorem k0_off28_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h7 : k0_cond7 k0_t1 arg37_r0 = 1#1), ∀ a, (k0_off28 arg37_r0) a + S1x384.size a ≤ S1x9216.size a := fun k0_t1 arg27_r0 arg28_r0 arg29_r0 arg30_r0 arg31_r0 arg32_r0 arg33_r0 arg34_r0 arg35_r0 arg36_r0 arg37_r0 k0_hw1 k0_h7 => k0_hw1.1.2.2.2.2.2.2.2.2.2.2.2.2.2.2.2.2.2.2.2.2.1 k0_h7
theorem k0_off29_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h8 : k0_cond8 k0_t1 arg37_r0 = 1#1), ∀ a, (k0_off29 arg32_r0) a + S1.size a ≤ S2.size a := fun k0_t1 arg27_r0 arg28_r0 arg29_r0 arg30_r0 arg31_r0 arg32_r0 arg33_r0 arg34_r0 arg35_r0 arg36_r0 arg37_r0 k0_hw1 k0_h8 => k0_hw1.1.2.2.2.2.2.2.2.2.2.2.2.2.2.2.2.2.2.2.2.2.2.1 k0_h8
theorem k0_off30_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h8 : k0_cond8 k0_t1 arg37_r0 = 1#1), ∀ a, (k0_off30 arg32_r0) a + S1x128x2816.size a ≤ S2x128x2816.size a := fun k0_t1 arg27_r0 arg28_r0 arg29_r0 arg30_r0 arg31_r0 arg32_r0 arg33_r0 arg34_r0 arg35_r0 arg36_r0 arg37_r0 k0_hw1 k0_h8 => k0_hw1.1.2.2.2.2.2.2.2.2.2.2.2.2.2.2.2.2.2.2.2.2.2.2.1 k0_h8
theorem k0_off31_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h8 : k0_cond8 k0_t1 arg37_r0 = 1#1), ∀ a, (k0_off31 arg37_r0) a + S128x2816.size a ≤ S1024x2816.size a := fun k0_t1 arg27_r0 arg28_r0 arg29_r0 arg30_r0 arg31_r0 arg32_r0 arg33_r0 arg34_r0 arg35_r0 arg36_r0 arg37_r0 k0_hw1 k0_h8 => k0_hw1.1.2.2.2.2.2.2.2.2.2.2.2.2.2.2.2.2.2.2.2.2.2.2.2.1 k0_h8
theorem k0_off32_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h9 : k0_cond9 k0_t1 arg37_r0 = 1#1), ∀ a, (k0_off32 arg34_r0) a + S1.size a ≤ S2.size a := fun k0_t1 arg27_r0 arg28_r0 arg29_r0 arg30_r0 arg31_r0 arg32_r0 arg33_r0 arg34_r0 arg35_r0 arg36_r0 arg37_r0 k0_hw1 k0_h9 => k0_hw1.1.2.2.2.2.2.2.2.2.2.2.2.2.2.2.2.2.2.2.2.2.2.2.2.2.1 k0_h9
theorem k0_off33_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h9 : k0_cond9 k0_t1 arg37_r0 = 1#1), ∀ a, (k0_off33 arg34_r0) a + S1x128x2816.size a ≤ S2x128x2816.size a := fun k0_t1 arg27_r0 arg28_r0 arg29_r0 arg30_r0 arg31_r0 arg32_r0 arg33_r0 arg34_r0 arg35_r0 arg36_r0 arg37_r0 k0_hw1 k0_h9 => k0_hw1.1.2.2.2.2.2.2.2.2.2.2.2.2.2.2.2.2.2.2.2.2.2.2.2.2.2.1 k0_h9
theorem k0_off34_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h9 : k0_cond9 k0_t1 arg37_r0 = 1#1), ∀ a, (k0_off34 arg37_r0) a + S128x2816.size a ≤ S1024x2816.size a := fun k0_t1 arg27_r0 arg28_r0 arg29_r0 arg30_r0 arg31_r0 arg32_r0 arg33_r0 arg34_r0 arg35_r0 arg36_r0 arg37_r0 k0_hw1 k0_h9 => k0_hw1.1.2.2.2.2.2.2.2.2.2.2.2.2.2.2.2.2.2.2.2.2.2.2.2.2.2.2.1 k0_h9
theorem k0_off35_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h10 : k0_cond10 k0_t1 arg37_r0 = 1#1), ∀ a, (k0_off35 arg36_r0) a + S1.size a ≤ S2.size a := fun k0_t1 arg27_r0 arg28_r0 arg29_r0 arg30_r0 arg31_r0 arg32_r0 arg33_r0 arg34_r0 arg35_r0 arg36_r0 arg37_r0 k0_hw1 k0_h10 => k0_hw1.1.2.2.2.2.2.2.2.2.2.2.2.2.2.2.2.2.2.2.2.2.2.2.2.2.2.2.2.1 k0_h10
theorem k0_off36_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h10 : k0_cond10 k0_t1 arg37_r0 = 1#1), ∀ a, (k0_off36 arg36_r0) a + S1x352x1024.size a ≤ S2x352x1024.size a := fun k0_t1 arg27_r0 arg28_r0 arg29_r0 arg30_r0 arg31_r0 arg32_r0 arg33_r0 arg34_r0 arg35_r0 arg36_r0 arg37_r0 k0_hw1 k0_h10 => k0_hw1.1.2.2.2.2.2.2.2.2.2.2.2.2.2.2.2.2.2.2.2.2.2.2.2.2.2.2.2.2.1 k0_h10
theorem k0_off37_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h10 : k0_cond10 k0_t1 arg37_r0 = 1#1), ∀ a, (k0_off37 arg37_r0) a + S352x1024.size a ≤ S2816x1024.size a := fun k0_t1 arg27_r0 arg28_r0 arg29_r0 arg30_r0 arg31_r0 arg32_r0 arg33_r0 arg34_r0 arg35_r0 arg36_r0 arg37_r0 k0_hw1 k0_h10 => k0_hw1.1.2.2.2.2.2.2.2.2.2.2.2.2.2.2.2.2.2.2.2.2.2.2.2.2.2.2.2.2.2.1 k0_h10
theorem k0_off38_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h11 : k0_cond11 arg37_r0 = 1#1), ∀ a, (k0_off38 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h11 => k0_hw1.1.2.2.2.2.2.2.2.2.2.2.2.2.2.2.2.2.2.2.2.2.2.2.2.2.2.2.2.2.2.2.1 k0_h11
theorem k0_off39_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h11 : k0_cond11 arg37_r0 = 1#1), ∀ a, (k0_off39 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h11 => k0_hw1.1.2.2.2.2.2.2.2.2.2.2.2.2.2.2.2.2.2.2.2.2.2.2.2.2.2.2.2.2.2.2.2 k0_h11
theorem k0_off40_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h12 : k0_cond12 arg37_r0 = 1#1), ∀ a, (k0_off40 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h12 => k0_hw1.2.1 k0_h12
theorem k0_off41_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h12 : k0_cond12 arg37_r0 = 1#1), ∀ a, (k0_off41 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h12 => k0_hw1.2.2.1 k0_h12
theorem k0_off42_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h13 : k0_cond13 arg37_r0 = 1#1), ∀ a, (k0_off42 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h13 => k0_hw1.2.2.2.1 k0_h13
theorem k0_off43_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h13 : k0_cond13 arg37_r0 = 1#1), ∀ a, (k0_off43 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h13 => k0_hw1.2.2.2.2.1 k0_h13
theorem k0_off44_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h14 : k0_cond14 arg37_r0 = 1#1), ∀ a, (k0_off44 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h14 => k0_hw1.2.2.2.2.2.1 k0_h14
theorem k0_off45_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h14 : k0_cond14 arg37_r0 = 1#1), ∀ a, (k0_off45 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h14 => k0_hw1.2.2.2.2.2.2.1 k0_h14
theorem k0_off46_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h15 : k0_cond15 arg37_r0 = 1#1), ∀ a, (k0_off46 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h15 => k0_hw1.2.2.2.2.2.2.2.1 k0_h15
theorem k0_off47_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h15 : k0_cond15 arg37_r0 = 1#1), ∀ a, (k0_off47 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h15 => k0_hw1.2.2.2.2.2.2.2.2.1 k0_h15
theorem k0_off48_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h16 : k0_cond16 arg37_r0 = 1#1), ∀ a, (k0_off48 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h16 => k0_hw1.2.2.2.2.2.2.2.2.2.1 k0_h16
theorem k0_off49_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h16 : k0_cond16 arg37_r0 = 1#1), ∀ a, (k0_off49 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h16 => k0_hw1.2.2.2.2.2.2.2.2.2.2.1 k0_h16
theorem k0_off50_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h17 : k0_cond17 arg37_r0 = 1#1), ∀ a, (k0_off50 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h17 => k0_hw1.2.2.2.2.2.2.2.2.2.2.2.1 k0_h17
theorem k0_off51_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h17 : k0_cond17 arg37_r0 = 1#1), ∀ a, (k0_off51 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h17 => k0_hw1.2.2.2.2.2.2.2.2.2.2.2.2.1 k0_h17
theorem k0_off52_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h18 : k0_cond18 arg37_r0 = 1#1), ∀ a, (k0_off52 arg28_r0) a + S1x1024x384.size a ≤ S2x1024x384.size a := fun k0_t1 arg27_r0 arg28_r0 arg29_r0 arg30_r0 arg31_r0 arg32_r0 arg33_r0 arg34_r0 arg35_r0 arg36_r0 arg37_r0 k0_hw1 k0_h18 => k0_hw1.2.2.2.2.2.2.2.2.2.2.2.2.2.1 k0_h18
theorem k0_off53_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ (k0_h18 : k0_cond18 arg37_r0 = 1#1), ∀ a, (k0_off53 arg30_r0) a + S1x1x384.size a ≤ S2x1x384.size a := fun k0_t1 arg27_r0 arg28_r0 arg29_r0 arg30_r0 arg31_r0 arg32_r0 arg33_r0 arg34_r0 arg35_r0 arg36_r0 arg37_r0 k0_hw1 k0_h18 => k0_hw1.2.2.2.2.2.2.2.2.2.2.2.2.2.2.1 k0_h18
theorem k0_mult1_dvd : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), 128 ∣ (k0_mult1 arg37_r0).toNat := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.1
theorem k0_off55_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ a, (k0_off55 arg37_r0) a + S128x2816.size a ≤ S1024x2816.size a := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.1
theorem k0_off55_packedbf16 : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), (Rect.unit (s := S1024x2816) (k0_off55 arg37_r0) S128x2816.size (k0_off55_inb k0_t1 arg27_r0 arg28_r0 arg29_r0 arg30_r0 arg31_r0 arg32_r0 arg33_r0 arg34_r0 arg35_r0 arg36_r0 arg37_r0 k0_hw1)).PackedRows (EltTy.packing .bf16) := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.2.1 (k0_off55_inb k0_t1 arg27_r0 arg28_r0 arg29_r0 arg30_r0 arg31_r0 arg32_r0 arg33_r0 arg34_r0 arg35_r0 arg36_r0 arg37_r0 k0_hw1)
theorem k0_mult2_dvd : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), 128 ∣ (k0_mult2 arg37_r0).toNat := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.2.2.1
theorem k0_mult3_dvd : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), 352 ∣ (k0_mult3 arg37_r0).toNat := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.2.2.2.1
theorem k0_off58_inb : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), ∀ a, (k0_off58 arg37_r0) a + S352x1024.size a ≤ S2816x1024.size a := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.2.2.2.2.1
theorem k0_off58_packedbf16 : ∀ (k0_t1 : Fin k0_t1_loop.trips) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg27_r0 arg28_r0 arg29_r0 arg30_r0 arg31_r0 arg32_r0 arg33_r0 arg34_r0 arg35_r0 arg36_r0 arg37_r0), (Rect.unit (s := S2816x1024) (k0_off58 arg37_r0) S352x1024.size (k0_off58_inb k0_t1 arg27_r0 arg28_r0 arg29_r0 arg30_r0 arg31_r0 arg32_r0 arg33_r0 arg34_r0 arg35_r0 arg36_r0 arg37_r0 k0_hw1)).PackedRows (EltTy.packing .bf16) := fun k0_t1 arg27_r0 arg28_r0 arg29_r0 arg30_r0 arg31_r0 arg32_r0 arg33_r0 arg34_r0 arg35_r0 arg36_r0 arg37_r0 k0_hw1 => k0_hw1.2.2.2.2.2.2.2.2.2.2.2.2.2.2.2.2.2.2.2.2.2 (k0_off58_inb k0_t1 arg27_r0 arg28_r0 arg29_r0 arg30_r0 arg31_r0 arg32_r0 arg33_r0 arg34_r0 arg35_r0 arg36_r0 arg37_r0 k0_hw1)

def k0_off59 : Fin 3 → Nat :=
  let c0_i32_23_r2 : BitVec 32 := 0#32
  let c2_i32_r2 : BitVec 32 := 2#32
  let v28_r2 : BitVec 32 := Scalar.remui c0_i32_23_r2 c2_i32_r2
  let c0_i32_25_r2 : BitVec 32 := 0#32
  let c0_i32_26_r2 : BitVec 32 := 0#32
  ![v28_r2.toNat, 0, 0]
def k0_off60 : Fin 2 → Nat :=
  let c1024_i32_r2 : BitVec 32 := 1024#32
  let c0_i32_24_r2 : BitVec 32 := 0#32
  let c15_i32_r2 : BitVec 32 := 15#32
  let v29_r2 : BitVec 32 := Scalar.minsi c0_i32_24_r2 c15_i32_r2
  let v30_r2 : BitVec 32 := Scalar.muli c1024_i32_r2 v29_r2
  let c0_i32_27_r2 : BitVec 32 := 0#32
  ![v30_r2.toNat, 0]
def k0_off61 : Fin 3 → Nat :=
  let c0_i32_30_r2 : BitVec 32 := 0#32
  let c2_i32_31_r2 : BitVec 32 := 2#32
  let v37_r2 : BitVec 32 := Scalar.remui c0_i32_30_r2 c2_i32_31_r2
  let c0_i32_34_r2 : BitVec 32 := 0#32
  let c0_i32_35_r2 : BitVec 32 := 0#32
  ![v37_r2.toNat, 0, 0]
def k0_off62 : Fin 2 → Nat :=
  let c64_i32_r2 : BitVec 32 := 64#32
  let c0_i32_32_r2 : BitVec 32 := 0#32
  let c15_i32_33_r2 : BitVec 32 := 15#32
  let v38_r2 : BitVec 32 := Scalar.minsi c0_i32_32_r2 c15_i32_33_r2
  let v39_r2 : BitVec 32 := Scalar.muli c64_i32_r2 v38_r2
  let c0_i32_36_r2 : BitVec 32 := 0#32
  ![v39_r2.toNat, 0]
def k0_off63 : Fin 3 → Nat :=
  let c0_i32_39_r2 : BitVec 32 := 0#32
  let c2_i32_40_r2 : BitVec 32 := 2#32
  let v46_r2 : BitVec 32 := Scalar.remui c0_i32_39_r2 c2_i32_40_r2
  let c0_i32_43_r2 : BitVec 32 := 0#32
  let c0_i32_44_r2 : BitVec 32 := 0#32
  ![v46_r2.toNat, 0, 0]
def k0_off64 : Fin 2 → Nat :=
  let c32_i32_r2 : BitVec 32 := 32#32
  let c0_i32_41_r2 : BitVec 32 := 0#32
  let c15_i32_42_r2 : BitVec 32 := 15#32
  let v47_r2 : BitVec 32 := Scalar.minsi c0_i32_41_r2 c15_i32_42_r2
  let v48_r2 : BitVec 32 := Scalar.muli c32_i32_r2 v47_r2
  let c0_i32_45_r2 : BitVec 32 := 0#32
  ![v48_r2.toNat, 0]
def k0_off65 : Fin 3 → Nat :=
  let c0_i32_48_r2 : BitVec 32 := 0#32
  let c2_i32_49_r2 : BitVec 32 := 2#32
  let v55_r2 : BitVec 32 := Scalar.remui c0_i32_48_r2 c2_i32_49_r2
  let c0_i32_53_r2 : BitVec 32 := 0#32
  let c0_i32_54_r2 : BitVec 32 := 0#32
  ![v55_r2.toNat, 0, 0]
def k0_off66 : Fin 2 → Nat :=
  let c64_i32_52_r2 : BitVec 32 := 64#32
  let c0_i32_50_r2 : BitVec 32 := 0#32
  let c15_i32_51_r2 : BitVec 32 := 15#32
  let v56_r2 : BitVec 32 := Scalar.minsi c0_i32_50_r2 c15_i32_51_r2
  let v57_r2 : BitVec 32 := Scalar.muli c64_i32_52_r2 v56_r2
  let c0_i32_55_r2 : BitVec 32 := 0#32
  ![v57_r2.toNat, 0]
def k0_off67 : Fin 2 → Nat :=
  let c0_i32_64_r2 : BitVec 32 := 0#32
  let c384_i32_r2 : BitVec 32 := 384#32
  let c8_i32_r2 : BitVec 32 := 8#32
  let c0_i32_60_r2 : BitVec 32 := 0#32
  let c15_i32_61_r2 : BitVec 32 := 15#32
  let v65_r2 : BitVec 32 := Scalar.minsi c0_i32_60_r2 c15_i32_61_r2
  let v66_r2 : BitVec 32 := Scalar.addi c8_i32_r2 v65_r2
  let v67_r2 : BitVec 32 := Scalar.muli c384_i32_r2 v66_r2
  ![0, v67_r2.toNat]
def k0_off68 : Fin 2 → Nat :=
  let c0_i32_75_r2 : BitVec 32 := 0#32
  let c384_i32_72_r2 : BitVec 32 := 384#32
  let c8_i32_71_r2 : BitVec 32 := 8#32
  let c0_i32_69_r2 : BitVec 32 := 0#32
  let c15_i32_70_r2 : BitVec 32 := 15#32
  let v75_r2 : BitVec 32 := Scalar.minsi c0_i32_69_r2 c15_i32_70_r2
  let v76_r2 : BitVec 32 := Scalar.addi c8_i32_71_r2 v75_r2
  let v77_r2 : BitVec 32 := Scalar.muli c384_i32_72_r2 v76_r2
  ![0, v77_r2.toNat]
@[reducible] def k0_t2_loop : Scf.Loop 32 :=
  let c0_i32_97_r2 : BitVec 32 := 0#32
  let c17_i32_98_r2 : BitVec 32 := 17#32
  let v84_r2 : BitVec 32 := Scalar.addi c0_i32_97_r2 c17_i32_98_r2
  let c1_i32_99_r2 : BitVec 32 := 1#32
  ⟨c0_i32_97_r2, v84_r2, c1_i32_99_r2⟩
def k0_off69 (arg26_r2 : BitVec 32) : Fin 1 → Nat :=
  let c2_i32_362_r2 : BitVec 32 := 2#32
  let v533_r2 : BitVec 32 := Scalar.remui arg26_r2 c2_i32_362_r2
  ![v533_r2.toNat]
def k0_cond29 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_170_r2 : BitVec 32 := 15#32
  let v165_r2 : BitVec 32 := Scalar.minsi v149_r2 c15_i32_170_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_171_r2 : BitVec 32 := 15#32
  let v166_r2 : BitVec 32 := Scalar.minsi v159_r2 c15_i32_171_r2
  let v167_r2 : BitVec 1 := Scalar.cmpi .ne v165_r2 v166_r2
  let c0_i32_97_r2 : BitVec 32 := 0#32
  let c1_i32_99_r2 : BitVec 32 := 1#32
  let arg25_r2 : BitVec 32 := Scf.iv c0_i32_97_r2 c1_i32_99_r2 k0_t2
  let c16_i32_172_r2 : BitVec 32 := 16#32
  let v168_r2 : BitVec 1 := Scalar.cmpi .sge arg25_r2 c16_i32_172_r2
  let true_173_r2 : BitVec 1 := 1#1
  let v169_r2 : BitVec 1 := Scalar.xori v168_r2 true_173_r2
  let v170_r2 : BitVec 1 := Scalar.andi v167_r2 v169_r2
  let true_174_r2 : BitVec 1 := 1#1
  let v171_r2 : BitVec 1 := Scalar.andi v170_r2 true_174_r2
  let v172_r2 : BitVec 32 := Scalar.extui v171_r2
  let c0_i32_175_r2 : BitVec 32 := 0#32
  let v173_r2 : BitVec 1 := Scalar.cmpi .ne v172_r2 c0_i32_175_r2
  v173_r2

def k0_off70 (arg26_r2 : BitVec 32) : Fin 3 → Nat :=
  let c2_i32_362_r2 : BitVec 32 := 2#32
  let v533_r2 : BitVec 32 := Scalar.remui arg26_r2 c2_i32_362_r2
  let c0_i32_365_r2 : BitVec 32 := 0#32
  let c0_i32_366_r2 : BitVec 32 := 0#32
  ![v533_r2.toNat, 0, 0]
def k0_off71 (arg49_r2 : BitVec 32) : Fin 2 → Nat :=
  let c1024_i32_364_r2 : BitVec 32 := 1024#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.muli c1024_i32_364_r2 v534_r2
  let c0_i32_367_r2 : BitVec 32 := 0#32
  ![v535_r2.toNat, 0]
def k0_off72 (arg28_r2 : BitVec 32) : Fin 1 → Nat :=
  let c2_i32_362_r2 : BitVec 32 := 2#32
  let v533_r2 : BitVec 32 := Scalar.remui arg28_r2 c2_i32_362_r2
  ![v533_r2.toNat]
def k0_cond30 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_178_r2 : BitVec 32 := 15#32
  let v177_r2 : BitVec 32 := Scalar.minsi v149_r2 c15_i32_178_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_179_r2 : BitVec 32 := 15#32
  let v178_r2 : BitVec 32 := Scalar.minsi v159_r2 c15_i32_179_r2
  let v179_r2 : BitVec 1 := Scalar.cmpi .ne v177_r2 v178_r2
  let c0_i32_97_r2 : BitVec 32 := 0#32
  let c1_i32_99_r2 : BitVec 32 := 1#32
  let arg25_r2 : BitVec 32 := Scf.iv c0_i32_97_r2 c1_i32_99_r2 k0_t2
  let c16_i32_180_r2 : BitVec 32 := 16#32
  let v180_r2 : BitVec 1 := Scalar.cmpi .sge arg25_r2 c16_i32_180_r2
  let true_181_r2 : BitVec 1 := 1#1
  let v181_r2 : BitVec 1 := Scalar.xori v180_r2 true_181_r2
  let v182_r2 : BitVec 1 := Scalar.andi v179_r2 v181_r2
  let true_182_r2 : BitVec 1 := 1#1
  let v183_r2 : BitVec 1 := Scalar.andi v182_r2 true_182_r2
  let v184_r2 : BitVec 32 := Scalar.extui v183_r2
  let c0_i32_183_r2 : BitVec 32 := 0#32
  let v185_r2 : BitVec 1 := Scalar.cmpi .ne v184_r2 c0_i32_183_r2
  v185_r2

def k0_off73 (arg28_r2 : BitVec 32) : Fin 3 → Nat :=
  let c2_i32_362_r2 : BitVec 32 := 2#32
  let v533_r2 : BitVec 32 := Scalar.remui arg28_r2 c2_i32_362_r2
  let c0_i32_365_r2 : BitVec 32 := 0#32
  let c0_i32_366_r2 : BitVec 32 := 0#32
  ![v533_r2.toNat, 0, 0]
def k0_off74 (arg49_r2 : BitVec 32) : Fin 2 → Nat :=
  let c64_i32_364_r2 : BitVec 32 := 64#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.muli c64_i32_364_r2 v534_r2
  let c0_i32_367_r2 : BitVec 32 := 0#32
  ![v535_r2.toNat, 0]
def k0_off75 (arg30_r2 : BitVec 32) : Fin 1 → Nat :=
  let c2_i32_362_r2 : BitVec 32 := 2#32
  let v533_r2 : BitVec 32 := Scalar.remui arg30_r2 c2_i32_362_r2
  ![v533_r2.toNat]
def k0_cond31 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_186_r2 : BitVec 32 := 15#32
  let v189_r2 : BitVec 32 := Scalar.minsi v149_r2 c15_i32_186_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_187_r2 : BitVec 32 := 15#32
  let v190_r2 : BitVec 32 := Scalar.minsi v159_r2 c15_i32_187_r2
  let v191_r2 : BitVec 1 := Scalar.cmpi .ne v189_r2 v190_r2
  let c0_i32_97_r2 : BitVec 32 := 0#32
  let c1_i32_99_r2 : BitVec 32 := 1#32
  let arg25_r2 : BitVec 32 := Scf.iv c0_i32_97_r2 c1_i32_99_r2 k0_t2
  let c16_i32_188_r2 : BitVec 32 := 16#32
  let v192_r2 : BitVec 1 := Scalar.cmpi .sge arg25_r2 c16_i32_188_r2
  let true_189_r2 : BitVec 1 := 1#1
  let v193_r2 : BitVec 1 := Scalar.xori v192_r2 true_189_r2
  let v194_r2 : BitVec 1 := Scalar.andi v191_r2 v193_r2
  let true_190_r2 : BitVec 1 := 1#1
  let v195_r2 : BitVec 1 := Scalar.andi v194_r2 true_190_r2
  let v196_r2 : BitVec 32 := Scalar.extui v195_r2
  let c0_i32_191_r2 : BitVec 32 := 0#32
  let v197_r2 : BitVec 1 := Scalar.cmpi .ne v196_r2 c0_i32_191_r2
  v197_r2

def k0_off76 (arg30_r2 : BitVec 32) : Fin 3 → Nat :=
  let c2_i32_362_r2 : BitVec 32 := 2#32
  let v533_r2 : BitVec 32 := Scalar.remui arg30_r2 c2_i32_362_r2
  let c0_i32_365_r2 : BitVec 32 := 0#32
  let c0_i32_366_r2 : BitVec 32 := 0#32
  ![v533_r2.toNat, 0, 0]
def k0_off77 (arg49_r2 : BitVec 32) : Fin 2 → Nat :=
  let c32_i32_364_r2 : BitVec 32 := 32#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.muli c32_i32_364_r2 v534_r2
  let c0_i32_367_r2 : BitVec 32 := 0#32
  ![v535_r2.toNat, 0]
def k0_off78 (arg32_r2 : BitVec 32) : Fin 1 → Nat :=
  let c2_i32_362_r2 : BitVec 32 := 2#32
  let v533_r2 : BitVec 32 := Scalar.remui arg32_r2 c2_i32_362_r2
  ![v533_r2.toNat]
def k0_cond32 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_194_r2 : BitVec 32 := 15#32
  let v201_r2 : BitVec 32 := Scalar.minsi v149_r2 c15_i32_194_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_195_r2 : BitVec 32 := 15#32
  let v202_r2 : BitVec 32 := Scalar.minsi v159_r2 c15_i32_195_r2
  let v203_r2 : BitVec 1 := Scalar.cmpi .ne v201_r2 v202_r2
  let c0_i32_97_r2 : BitVec 32 := 0#32
  let c1_i32_99_r2 : BitVec 32 := 1#32
  let arg25_r2 : BitVec 32 := Scf.iv c0_i32_97_r2 c1_i32_99_r2 k0_t2
  let c16_i32_196_r2 : BitVec 32 := 16#32
  let v204_r2 : BitVec 1 := Scalar.cmpi .sge arg25_r2 c16_i32_196_r2
  let true_197_r2 : BitVec 1 := 1#1
  let v205_r2 : BitVec 1 := Scalar.xori v204_r2 true_197_r2
  let v206_r2 : BitVec 1 := Scalar.andi v203_r2 v205_r2
  let true_198_r2 : BitVec 1 := 1#1
  let v207_r2 : BitVec 1 := Scalar.andi v206_r2 true_198_r2
  let v208_r2 : BitVec 32 := Scalar.extui v207_r2
  let c0_i32_199_r2 : BitVec 32 := 0#32
  let v209_r2 : BitVec 1 := Scalar.cmpi .ne v208_r2 c0_i32_199_r2
  v209_r2

def k0_off79 (arg32_r2 : BitVec 32) : Fin 3 → Nat :=
  let c2_i32_362_r2 : BitVec 32 := 2#32
  let v533_r2 : BitVec 32 := Scalar.remui arg32_r2 c2_i32_362_r2
  let c0_i32_365_r2 : BitVec 32 := 0#32
  let c0_i32_366_r2 : BitVec 32 := 0#32
  ![v533_r2.toNat, 0, 0]
def k0_off80 (arg49_r2 : BitVec 32) : Fin 2 → Nat :=
  let c64_i32_364_r2 : BitVec 32 := 64#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.muli c64_i32_364_r2 v534_r2
  let c0_i32_367_r2 : BitVec 32 := 0#32
  ![v535_r2.toNat, 0]
def k0_off81 (arg35_r2 : BitVec 32) : Fin 1 → Nat :=
  let c2_i32_362_r2 : BitVec 32 := 2#32
  let v533_r2 : BitVec 32 := Scalar.remui arg35_r2 c2_i32_362_r2
  ![v533_r2.toNat]
def k0_cond33 (k0_t2 : Fin k0_t2_loop.trips) (arg49_r2 : BitVec 32) : BitVec 1 :=
  let c8_i32_203_r2 : BitVec 32 := 8#32
  let c0_i32_154_r2 : BitVec 32 := 0#32
  let v149_r2 : BitVec 32 := Scalar.addi arg49_r2 c0_i32_154_r2
  let c15_i32_202_r2 : BitVec 32 := 15#32
  let v213_r2 : BitVec 32 := Scalar.minsi v149_r2 c15_i32_202_r2
  let v214_r2 : BitVec 32 := Scalar.addi c8_i32_203_r2 v213_r2
  let c8_i32_205_r2 : BitVec 32 := 8#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_204_r2 : BitVec 32 := 15#32
  let v215_r2 : BitVec 32 := Scalar.minsi v159_r2 c15_i32_204_r2
  let v216_r2 : BitVec 32 := Scalar.addi c8_i32_205_r2 v215_r2
  let v217_r2 : BitVec 1 := Scalar.cmpi .ne v214_r2 v216_r2
  let c0_i32_97_r2 : BitVec 32 := 0#32
  let c1_i32_99_r2 : BitVec 32 := 1#32
  let arg25_r2 : BitVec 32 := Scf.iv c0_i32_97_r2 c1_i32_99_r2 k0_t2
  let c16_i32_206_r2 : BitVec 32 := 16#32
  let v218_r2 : BitVec 1 := Scalar.cmpi .sge arg25_r2 c16_i32_206_r2
  let true_207_r2 : BitVec 1 := 1#1
  let v219_r2 : BitVec 1 := Scalar.xori v218_r2 true_207_r2
  let v220_r2 : BitVec 1 := Scalar.andi v217_r2 v219_r2
  let true_208_r2 : BitVec 1 := 1#1
  let v221_r2 : BitVec 1 := Scalar.andi v220_r2 true_208_r2
  let v222_r2 : BitVec 32 := Scalar.extui v221_r2
  let c0_i32_209_r2 : BitVec 32 := 0#32
  let v223_r2 : BitVec 1 := Scalar.cmpi .ne v222_r2 c0_i32_209_r2
  v223_r2

def k0_off82 (arg35_r2 : BitVec 32) : Fin 3 → Nat :=
  let c2_i32_362_r2 : BitVec 32 := 2#32
  let v533_r2 : BitVec 32 := Scalar.remui arg35_r2 c2_i32_362_r2
  let c0_i32_366_r2 : BitVec 32 := 0#32
  let c0_i32_367_r2 : BitVec 32 := 0#32
  ![v533_r2.toNat, 0, 0]
def k0_off83 (arg49_r2 : BitVec 32) : Fin 2 → Nat :=
  let c0_i32_368_r2 : BitVec 32 := 0#32
  let c384_i32_365_r2 : BitVec 32 := 384#32
  let c8_i32_364_r2 : BitVec 32 := 8#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.addi c8_i32_364_r2 v534_r2
  let v536_r2 : BitVec 32 := Scalar.muli c384_i32_365_r2 v535_r2
  ![0, v536_r2.toNat]
def k0_off84 (arg37_r2 : BitVec 32) : Fin 1 → Nat :=
  let c2_i32_362_r2 : BitVec 32 := 2#32
  let v533_r2 : BitVec 32 := Scalar.remui arg37_r2 c2_i32_362_r2
  ![v533_r2.toNat]
def k0_cond34 (k0_t2 : Fin k0_t2_loop.trips) (arg49_r2 : BitVec 32) : BitVec 1 :=
  let c8_i32_213_r2 : BitVec 32 := 8#32
  let c0_i32_154_r2 : BitVec 32 := 0#32
  let v149_r2 : BitVec 32 := Scalar.addi arg49_r2 c0_i32_154_r2
  let c15_i32_212_r2 : BitVec 32 := 15#32
  let v227_r2 : BitVec 32 := Scalar.minsi v149_r2 c15_i32_212_r2
  let v228_r2 : BitVec 32 := Scalar.addi c8_i32_213_r2 v227_r2
  let c8_i32_215_r2 : BitVec 32 := 8#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_214_r2 : BitVec 32 := 15#32
  let v229_r2 : BitVec 32 := Scalar.minsi v159_r2 c15_i32_214_r2
  let v230_r2 : BitVec 32 := Scalar.addi c8_i32_215_r2 v229_r2
  let v231_r2 : BitVec 1 := Scalar.cmpi .ne v228_r2 v230_r2
  let c0_i32_97_r2 : BitVec 32 := 0#32
  let c1_i32_99_r2 : BitVec 32 := 1#32
  let arg25_r2 : BitVec 32 := Scf.iv c0_i32_97_r2 c1_i32_99_r2 k0_t2
  let c16_i32_216_r2 : BitVec 32 := 16#32
  let v232_r2 : BitVec 1 := Scalar.cmpi .sge arg25_r2 c16_i32_216_r2
  let true_217_r2 : BitVec 1 := 1#1
  let v233_r2 : BitVec 1 := Scalar.xori v232_r2 true_217_r2
  let v234_r2 : BitVec 1 := Scalar.andi v231_r2 v233_r2
  let true_218_r2 : BitVec 1 := 1#1
  let v235_r2 : BitVec 1 := Scalar.andi v234_r2 true_218_r2
  let v236_r2 : BitVec 32 := Scalar.extui v235_r2
  let c0_i32_219_r2 : BitVec 32 := 0#32
  let v237_r2 : BitVec 1 := Scalar.cmpi .ne v236_r2 c0_i32_219_r2
  v237_r2

def k0_off85 (arg37_r2 : BitVec 32) : Fin 3 → Nat :=
  let c2_i32_362_r2 : BitVec 32 := 2#32
  let v533_r2 : BitVec 32 := Scalar.remui arg37_r2 c2_i32_362_r2
  let c0_i32_366_r2 : BitVec 32 := 0#32
  let c0_i32_367_r2 : BitVec 32 := 0#32
  ![v533_r2.toNat, 0, 0]
def k0_off86 (arg49_r2 : BitVec 32) : Fin 2 → Nat :=
  let c0_i32_368_r2 : BitVec 32 := 0#32
  let c384_i32_365_r2 : BitVec 32 := 384#32
  let c8_i32_364_r2 : BitVec 32 := 8#32
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_363_r2 : BitVec 32 := 15#32
  let v534_r2 : BitVec 32 := Scalar.minsi v159_r2 c15_i32_363_r2
  let v535_r2 : BitVec 32 := Scalar.addi c8_i32_364_r2 v534_r2
  let v536_r2 : BitVec 32 := Scalar.muli c384_i32_365_r2 v535_r2
  ![0, v536_r2.toNat]
def k0_off87 (arg27_r2 : BitVec 32) : Fin 1 → Nat :=
  let c2_i32_364_r2 : BitVec 32 := 2#32
  let v535_r2 : BitVec 32 := Scalar.remui arg27_r2 c2_i32_364_r2
  ![v535_r2.toNat]
def k0_cond35 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_170_r2 : BitVec 32 := 15#32
  let v165_r2 : BitVec 32 := Scalar.minsi v149_r2 c15_i32_170_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_238_r2 : BitVec 32 := 15#32
  let v267_r2 : BitVec 32 := Scalar.minsi v154_r2 c15_i32_238_r2
  let v268_r2 : BitVec 1 := Scalar.cmpi .ne v165_r2 v267_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v269_r2 : BitVec 1 := Scalar.ori v268_r2 v147_r2
  let c0_i32_239_r2 : BitVec 32 := 0#32
  let v270_r2 : BitVec 1 := Scalar.cmpi .sge arg25_r2 c0_i32_239_r2
  let v271_r2 : BitVec 1 := Scalar.andi v269_r2 v270_r2
  let v272_r2 : BitVec 32 := Scalar.extui v271_r2
  let c0_i32_240_r2 : BitVec 32 := 0#32
  let v273_r2 : BitVec 1 := Scalar.cmpi .ne v272_r2 c0_i32_240_r2
  v273_r2

def k0_off88 (arg27_r2 : BitVec 32) : Fin 3 → Nat :=
  let c2_i32_364_r2 : BitVec 32 := 2#32
  let v535_r2 : BitVec 32 := Scalar.remui arg27_r2 c2_i32_364_r2
  let c0_i32_365_r2 : BitVec 32 := 0#32
  let c0_i32_366_r2 : BitVec 32 := 0#32
  ![v535_r2.toNat, 0, 0]
def k0_off89 (arg49_r2 : BitVec 32) : Fin 2 → Nat :=
  let c1024_i32_363_r2 : BitVec 32 := 1024#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.muli c1024_i32_363_r2 v533_r2
  let c0_i32_367_r2 : BitVec 32 := 0#32
  ![v534_r2.toNat, 0]
def k0_off90 (arg29_r2 : BitVec 32) : Fin 1 → Nat :=
  let c2_i32_364_r2 : BitVec 32 := 2#32
  let v535_r2 : BitVec 32 := Scalar.remui arg29_r2 c2_i32_364_r2
  ![v535_r2.toNat]
def k0_cond36 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_178_r2 : BitVec 32 := 15#32
  let v177_r2 : BitVec 32 := Scalar.minsi v149_r2 c15_i32_178_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_241_r2 : BitVec 32 := 15#32
  let v274_r2 : BitVec 32 := Scalar.minsi v154_r2 c15_i32_241_r2
  let v275_r2 : BitVec 1 := Scalar.cmpi .ne v177_r2 v274_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v276_r2 : BitVec 1 := Scalar.ori v275_r2 v147_r2
  let c0_i32_242_r2 : BitVec 32 := 0#32
  let v277_r2 : BitVec 1 := Scalar.cmpi .sge arg25_r2 c0_i32_242_r2
  let v278_r2 : BitVec 1 := Scalar.andi v276_r2 v277_r2
  let v279_r2 : BitVec 32 := Scalar.extui v278_r2
  let c0_i32_243_r2 : BitVec 32 := 0#32
  let v280_r2 : BitVec 1 := Scalar.cmpi .ne v279_r2 c0_i32_243_r2
  v280_r2

def k0_off91 (arg29_r2 : BitVec 32) : Fin 3 → Nat :=
  let c2_i32_364_r2 : BitVec 32 := 2#32
  let v535_r2 : BitVec 32 := Scalar.remui arg29_r2 c2_i32_364_r2
  let c0_i32_365_r2 : BitVec 32 := 0#32
  let c0_i32_366_r2 : BitVec 32 := 0#32
  ![v535_r2.toNat, 0, 0]
def k0_off92 (arg49_r2 : BitVec 32) : Fin 2 → Nat :=
  let c64_i32_363_r2 : BitVec 32 := 64#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.muli c64_i32_363_r2 v533_r2
  let c0_i32_367_r2 : BitVec 32 := 0#32
  ![v534_r2.toNat, 0]
def k0_off93 (arg31_r2 : BitVec 32) : Fin 1 → Nat :=
  let c2_i32_364_r2 : BitVec 32 := 2#32
  let v535_r2 : BitVec 32 := Scalar.remui arg31_r2 c2_i32_364_r2
  ![v535_r2.toNat]
def k0_cond37 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_186_r2 : BitVec 32 := 15#32
  let v189_r2 : BitVec 32 := Scalar.minsi v149_r2 c15_i32_186_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_244_r2 : BitVec 32 := 15#32
  let v281_r2 : BitVec 32 := Scalar.minsi v154_r2 c15_i32_244_r2
  let v282_r2 : BitVec 1 := Scalar.cmpi .ne v189_r2 v281_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v283_r2 : BitVec 1 := Scalar.ori v282_r2 v147_r2
  let c0_i32_245_r2 : BitVec 32 := 0#32
  let v284_r2 : BitVec 1 := Scalar.cmpi .sge arg25_r2 c0_i32_245_r2
  let v285_r2 : BitVec 1 := Scalar.andi v283_r2 v284_r2
  let v286_r2 : BitVec 32 := Scalar.extui v285_r2
  let c0_i32_246_r2 : BitVec 32 := 0#32
  let v287_r2 : BitVec 1 := Scalar.cmpi .ne v286_r2 c0_i32_246_r2
  v287_r2

def k0_off94 (arg31_r2 : BitVec 32) : Fin 3 → Nat :=
  let c2_i32_364_r2 : BitVec 32 := 2#32
  let v535_r2 : BitVec 32 := Scalar.remui arg31_r2 c2_i32_364_r2
  let c0_i32_365_r2 : BitVec 32 := 0#32
  let c0_i32_366_r2 : BitVec 32 := 0#32
  ![v535_r2.toNat, 0, 0]
def k0_off95 (arg49_r2 : BitVec 32) : Fin 2 → Nat :=
  let c32_i32_363_r2 : BitVec 32 := 32#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.muli c32_i32_363_r2 v533_r2
  let c0_i32_367_r2 : BitVec 32 := 0#32
  ![v534_r2.toNat, 0]
def k0_off96 (arg33_r2 : BitVec 32) : Fin 1 → Nat :=
  let c2_i32_364_r2 : BitVec 32 := 2#32
  let v535_r2 : BitVec 32 := Scalar.remui arg33_r2 c2_i32_364_r2
  ![v535_r2.toNat]
def k0_cond38 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_194_r2 : BitVec 32 := 15#32
  let v201_r2 : BitVec 32 := Scalar.minsi v149_r2 c15_i32_194_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_247_r2 : BitVec 32 := 15#32
  let v288_r2 : BitVec 32 := Scalar.minsi v154_r2 c15_i32_247_r2
  let v289_r2 : BitVec 1 := Scalar.cmpi .ne v201_r2 v288_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v290_r2 : BitVec 1 := Scalar.ori v289_r2 v147_r2
  let c0_i32_248_r2 : BitVec 32 := 0#32
  let v291_r2 : BitVec 1 := Scalar.cmpi .sge arg25_r2 c0_i32_248_r2
  let v292_r2 : BitVec 1 := Scalar.andi v290_r2 v291_r2
  let v293_r2 : BitVec 32 := Scalar.extui v292_r2
  let c0_i32_249_r2 : BitVec 32 := 0#32
  let v294_r2 : BitVec 1 := Scalar.cmpi .ne v293_r2 c0_i32_249_r2
  v294_r2

def k0_off97 (arg33_r2 : BitVec 32) : Fin 3 → Nat :=
  let c2_i32_364_r2 : BitVec 32 := 2#32
  let v535_r2 : BitVec 32 := Scalar.remui arg33_r2 c2_i32_364_r2
  let c0_i32_365_r2 : BitVec 32 := 0#32
  let c0_i32_366_r2 : BitVec 32 := 0#32
  ![v535_r2.toNat, 0, 0]
def k0_off98 (arg49_r2 : BitVec 32) : Fin 2 → Nat :=
  let c64_i32_363_r2 : BitVec 32 := 64#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.muli c64_i32_363_r2 v533_r2
  let c0_i32_367_r2 : BitVec 32 := 0#32
  ![v534_r2.toNat, 0]
def k0_off99 (arg36_r2 : BitVec 32) : Fin 1 → Nat :=
  let c2_i32_365_r2 : BitVec 32 := 2#32
  let v536_r2 : BitVec 32 := Scalar.remui arg36_r2 c2_i32_365_r2
  ![v536_r2.toNat]
def k0_cond39 (k0_t2 : Fin k0_t2_loop.trips) (arg49_r2 : BitVec 32) : BitVec 1 :=
  let c8_i32_203_r2 : BitVec 32 := 8#32
  let c0_i32_154_r2 : BitVec 32 := 0#32
  let v149_r2 : BitVec 32 := Scalar.addi arg49_r2 c0_i32_154_r2
  let c15_i32_202_r2 : BitVec 32 := 15#32
  let v213_r2 : BitVec 32 := Scalar.minsi v149_r2 c15_i32_202_r2
  let v214_r2 : BitVec 32 := Scalar.addi c8_i32_203_r2 v213_r2
  let c8_i32_251_r2 : BitVec 32 := 8#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_250_r2 : BitVec 32 := 15#32
  let v295_r2 : BitVec 32 := Scalar.minsi v154_r2 c15_i32_250_r2
  let v296_r2 : BitVec 32 := Scalar.addi c8_i32_251_r2 v295_r2
  let v297_r2 : BitVec 1 := Scalar.cmpi .ne v214_r2 v296_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v298_r2 : BitVec 1 := Scalar.ori v297_r2 v147_r2
  let c0_i32_252_r2 : BitVec 32 := 0#32
  let v299_r2 : BitVec 1 := Scalar.cmpi .sge arg25_r2 c0_i32_252_r2
  let v300_r2 : BitVec 1 := Scalar.andi v298_r2 v299_r2
  let v301_r2 : BitVec 32 := Scalar.extui v300_r2
  let c0_i32_253_r2 : BitVec 32 := 0#32
  let v302_r2 : BitVec 1 := Scalar.cmpi .ne v301_r2 c0_i32_253_r2
  v302_r2

def k0_off100 (arg36_r2 : BitVec 32) : Fin 3 → Nat :=
  let c2_i32_365_r2 : BitVec 32 := 2#32
  let v536_r2 : BitVec 32 := Scalar.remui arg36_r2 c2_i32_365_r2
  let c0_i32_366_r2 : BitVec 32 := 0#32
  let c0_i32_367_r2 : BitVec 32 := 0#32
  ![v536_r2.toNat, 0, 0]
def k0_off101 (arg49_r2 : BitVec 32) : Fin 2 → Nat :=
  let c0_i32_368_r2 : BitVec 32 := 0#32
  let c384_i32_364_r2 : BitVec 32 := 384#32
  let c8_i32_363_r2 : BitVec 32 := 8#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.addi c8_i32_363_r2 v533_r2
  let v535_r2 : BitVec 32 := Scalar.muli c384_i32_364_r2 v534_r2
  ![0, v535_r2.toNat]
def k0_off102 (arg38_r2 : BitVec 32) : Fin 1 → Nat :=
  let c2_i32_365_r2 : BitVec 32 := 2#32
  let v536_r2 : BitVec 32 := Scalar.remui arg38_r2 c2_i32_365_r2
  ![v536_r2.toNat]
def k0_cond40 (k0_t2 : Fin k0_t2_loop.trips) (arg49_r2 : BitVec 32) : BitVec 1 :=
  let c8_i32_213_r2 : BitVec 32 := 8#32
  let c0_i32_154_r2 : BitVec 32 := 0#32
  let v149_r2 : BitVec 32 := Scalar.addi arg49_r2 c0_i32_154_r2
  let c15_i32_212_r2 : BitVec 32 := 15#32
  let v227_r2 : BitVec 32 := Scalar.minsi v149_r2 c15_i32_212_r2
  let v228_r2 : BitVec 32 := Scalar.addi c8_i32_213_r2 v227_r2
  let c8_i32_255_r2 : BitVec 32 := 8#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_254_r2 : BitVec 32 := 15#32
  let v303_r2 : BitVec 32 := Scalar.minsi v154_r2 c15_i32_254_r2
  let v304_r2 : BitVec 32 := Scalar.addi c8_i32_255_r2 v303_r2
  let v305_r2 : BitVec 1 := Scalar.cmpi .ne v228_r2 v304_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let v306_r2 : BitVec 1 := Scalar.ori v305_r2 v147_r2
  let c0_i32_256_r2 : BitVec 32 := 0#32
  let v307_r2 : BitVec 1 := Scalar.cmpi .sge arg25_r2 c0_i32_256_r2
  let v308_r2 : BitVec 1 := Scalar.andi v306_r2 v307_r2
  let v309_r2 : BitVec 32 := Scalar.extui v308_r2
  let c0_i32_257_r2 : BitVec 32 := 0#32
  let v310_r2 : BitVec 1 := Scalar.cmpi .ne v309_r2 c0_i32_257_r2
  v310_r2

def k0_off103 (arg38_r2 : BitVec 32) : Fin 3 → Nat :=
  let c2_i32_365_r2 : BitVec 32 := 2#32
  let v536_r2 : BitVec 32 := Scalar.remui arg38_r2 c2_i32_365_r2
  let c0_i32_366_r2 : BitVec 32 := 0#32
  let c0_i32_367_r2 : BitVec 32 := 0#32
  ![v536_r2.toNat, 0, 0]
def k0_off104 (arg49_r2 : BitVec 32) : Fin 2 → Nat :=
  let c0_i32_368_r2 : BitVec 32 := 0#32
  let c384_i32_364_r2 : BitVec 32 := 384#32
  let c8_i32_363_r2 : BitVec 32 := 8#32
  let c0_i32_154_r2 : BitVec 32 := 0#32
  let v149_r2 : BitVec 32 := Scalar.addi arg49_r2 c0_i32_154_r2
  let c15_i32_362_r2 : BitVec 32 := 15#32
  let v533_r2 : BitVec 32 := Scalar.minsi v149_r2 c15_i32_362_r2
  let v534_r2 : BitVec 32 := Scalar.addi c8_i32_363_r2 v533_r2
  let v535_r2 : BitVec 32 := Scalar.muli c384_i32_364_r2 v534_r2
  ![0, v535_r2.toNat]
def k0_off105 (arg39_r2 : BitVec 32) : Fin 3 → Nat :=
  let c2_i32_277_r2 : BitVec 32 := 2#32
  let v350_r2 : BitVec 32 := Scalar.remui arg39_r2 c2_i32_277_r2
  let v558_r2 : Index := Scalar.indexCast v350_r2
  let c0_373_r2 : Index := 0#32
  let c0_374_r2 : Index := 0#32
  ![v558_r2.toNat, 0, 0]
def k0_cond46 (arg49_r2 : BitVec 32) : BitVec 1 :=
  let c0_i32_154_r2 : BitVec 32 := 0#32
  let v149_r2 : BitVec 32 := Scalar.addi arg49_r2 c0_i32_154_r2
  let c16_i32_282_r2 : BitVec 32 := 16#32
  let v355_r2 : BitVec 1 := Scalar.cmpi .slt v149_r2 c16_i32_282_r2
  let v356_r2 : BitVec 32 := Scalar.extui v355_r2
  let c0_i32_283_r2 : BitVec 32 := 0#32
  let v357_r2 : BitVec 1 := Scalar.cmpi .ne v356_r2 c0_i32_283_r2
  v357_r2

def k0_off106 (arg29_r2 : BitVec 32) : Fin 3 → Nat :=
  let c2_i32_272_r2 : BitVec 32 := 2#32
  let v345_r2 : BitVec 32 := Scalar.remui arg29_r2 c2_i32_272_r2
  let v562_r2 : Index := Scalar.indexCast v345_r2
  let c0_375_r2 : Index := 0#32
  let c0_376_r2 : Index := 0#32
  ![v562_r2.toNat, 0, 0]
def k0_off107 (arg41_r2 : BitVec 32) : Fin 3 → Nat :=
  let c2_i32_278_r2 : BitVec 32 := 2#32
  let v351_r2 : BitVec 32 := Scalar.remui arg41_r2 c2_i32_278_r2
  let v566_r2 : Index := Scalar.indexCast v351_r2
  let c0_377_r2 : Index := 0#32
  let c0_378_r2 : Index := 0#32
  ![v566_r2.toNat, 0, 0]
def k0_off108 (arg31_r2 : BitVec 32) : Fin 3 → Nat :=
  let c2_i32_273_r2 : BitVec 32 := 2#32
  let v346_r2 : BitVec 32 := Scalar.remui arg31_r2 c2_i32_273_r2
  let v570_r2 : Index := Scalar.indexCast v346_r2
  let c0_379_r2 : Index := 0#32
  let c0_380_r2 : Index := 0#32
  ![v570_r2.toNat, 0, 0]
def k0_off109 (arg43_r2 : BitVec 32) : Fin 3 → Nat :=
  let c2_i32_279_r2 : BitVec 32 := 2#32
  let v352_r2 : BitVec 32 := Scalar.remui arg43_r2 c2_i32_279_r2
  let v574_r2 : Index := Scalar.indexCast v352_r2
  let c0_381_r2 : Index := 0#32
  let c0_382_r2 : Index := 0#32
  ![v574_r2.toNat, 0, 0]
def k0_off110 (arg33_r2 : BitVec 32) : Fin 3 → Nat :=
  let c2_i32_274_r2 : BitVec 32 := 2#32
  let v347_r2 : BitVec 32 := Scalar.remui arg33_r2 c2_i32_274_r2
  let v578_r2 : Index := Scalar.indexCast v347_r2
  let c0_383_r2 : Index := 0#32
  let c0_384_r2 : Index := 0#32
  ![v578_r2.toNat, 0, 0]
def k0_off111 (arg45_r2 : BitVec 32) : Fin 3 → Nat :=
  let c2_i32_280_r2 : BitVec 32 := 2#32
  let v353_r2 : BitVec 32 := Scalar.remui arg45_r2 c2_i32_280_r2
  let v582_r2 : Index := Scalar.indexCast v353_r2
  let c0_385_r2 : Index := 0#32
  let c0_386_r2 : Index := 0#32
  ![v582_r2.toNat, 0, 0]
def k0_off112 (arg36_r2 : BitVec 32) : Fin 3 → Nat :=
  let c2_i32_275_r2 : BitVec 32 := 2#32
  let v348_r2 : BitVec 32 := Scalar.remui arg36_r2 c2_i32_275_r2
  let v590_r2 : Index := Scalar.indexCast v348_r2
  let c0_389_r2 : Index := 0#32
  let c0_390_r2 : Index := 0#32
  ![v590_r2.toNat, 0, 0]
def k0_off113 (arg38_r2 : BitVec 32) : Fin 3 → Nat :=
  let c2_i32_276_r2 : BitVec 32 := 2#32
  let v349_r2 : BitVec 32 := Scalar.remui arg38_r2 c2_i32_276_r2
  let v595_r2 : Index := Scalar.indexCast v349_r2
  let c0_392_r2 : Index := 0#32
  let c0_393_r2 : Index := 0#32
  ![v595_r2.toNat, 0, 0]
def k0_off114 (arg47_r2 : BitVec 32) : Fin 3 → Nat :=
  let c2_i32_281_r2 : BitVec 32 := 2#32
  let v354_r2 : BitVec 32 := Scalar.remui arg47_r2 c2_i32_281_r2
  let v600_r2 : Index := Scalar.indexCast v354_r2
  let c0_394_r2 : Index := 0#32
  let c0_395_r2 : Index := 0#32
  ![v600_r2.toNat, 0, 0]
def k0_off115 (arg27_r2 : BitVec 32) : Fin 3 → Nat :=
  let c2_i32_271_r2 : BitVec 32 := 2#32
  let v344_r2 : BitVec 32 := Scalar.remui arg27_r2 c2_i32_271_r2
  let v604_r2 : Index := Scalar.indexCast v344_r2
  let c0_396_r2 : Index := 0#32
  let c0_397_r2 : Index := 0#32
  ![v604_r2.toNat, 0, 0]
def k0_off116 (arg49_r2 : BitVec 32) : Fin 2 → Nat :=
  let c0_i32_154_r2 : BitVec 32 := 0#32
  let v149_r2 : BitVec 32 := Scalar.addi arg49_r2 c0_i32_154_r2
  let c0_i32_399_r2 : BitVec 32 := 0#32
  let v608_r2 : BitVec 1 := Scalar.cmpi .sgt v149_r2 c0_i32_399_r2
  let v609_r2 : BitVec 32 := Scalar.extui v608_r2
  let c0_i32_400_r2 : BitVec 32 := 0#32
  let v610_r2 : BitVec 1 := Scalar.cmpi .slt v149_r2 c0_i32_400_r2
  let v611_r2 : BitVec 32 := Scalar.extui v610_r2
  let v612_r2 : BitVec 32 := Scalar.subi v609_r2 v611_r2
  let c2_i32_398_r2 : BitVec 32 := 2#32
  let c0_i32_401_r2 : BitVec 32 := 0#32
  let v613_r2 : BitVec 1 := Scalar.cmpi .sgt c2_i32_398_r2 c0_i32_401_r2
  let v614_r2 : BitVec 32 := Scalar.extui v613_r2
  let c0_i32_402_r2 : BitVec 32 := 0#32
  let v615_r2 : BitVec 1 := Scalar.cmpi .slt c2_i32_398_r2 c0_i32_402_r2
  let v616_r2 : BitVec 32 := Scalar.extui v615_r2
  let v617_r2 : BitVec 32 := Scalar.subi v614_r2 v616_r2
  let v618_r2 : BitVec 1 := Scalar.cmpi .ne v612_r2 v617_r2
  let v619_r2 : BitVec 32 := Scalar.remsi v149_r2 c2_i32_398_r2
  let c0_i32_403_r2 : BitVec 32 := 0#32
  let v620_r2 : BitVec 1 := Scalar.cmpi .ne v619_r2 c0_i32_403_r2
  let v621_r2 : BitVec 1 := Scalar.andi v618_r2 v620_r2
  let v607_r2 : BitVec 32 := Scalar.divsi v149_r2 c2_i32_398_r2
  let c1_i32_404_r2 : BitVec 32 := 1#32
  let v622_r2 : BitVec 32 := Scalar.subi v607_r2 c1_i32_404_r2
  let v623_r2 : BitVec 32 := Scalar.select v621_r2 v622_r2 v607_r2
  let v624_r2 : Index := Scalar.indexCast v623_r2
  let c0_405_r2 : Index := 0#32
  ![v624_r2.toNat, 0]
def k0_off117 (arg49_r2 : BitVec 32) : Fin 2 → Nat :=
  let c0_i32_154_r2 : BitVec 32 := 0#32
  let v149_r2 : BitVec 32 := Scalar.addi arg49_r2 c0_i32_154_r2
  let c0_i32_407_r2 : BitVec 32 := 0#32
  let v627_r2 : BitVec 1 := Scalar.cmpi .sgt v149_r2 c0_i32_407_r2
  let v628_r2 : BitVec 32 := Scalar.extui v627_r2
  let c0_i32_408_r2 : BitVec 32 := 0#32
  let v629_r2 : BitVec 1 := Scalar.cmpi .slt v149_r2 c0_i32_408_r2
  let v630_r2 : BitVec 32 := Scalar.extui v629_r2
  let v631_r2 : BitVec 32 := Scalar.subi v628_r2 v630_r2
  let c2_i32_406_r2 : BitVec 32 := 2#32
  let c0_i32_409_r2 : BitVec 32 := 0#32
  let v632_r2 : BitVec 1 := Scalar.cmpi .sgt c2_i32_406_r2 c0_i32_409_r2
  let v633_r2 : BitVec 32 := Scalar.extui v632_r2
  let c0_i32_410_r2 : BitVec 32 := 0#32
  let v634_r2 : BitVec 1 := Scalar.cmpi .slt c2_i32_406_r2 c0_i32_410_r2
  let v635_r2 : BitVec 32 := Scalar.extui v634_r2
  let v636_r2 : BitVec 32 := Scalar.subi v633_r2 v635_r2
  let v637_r2 : BitVec 1 := Scalar.cmpi .ne v631_r2 v636_r2
  let v638_r2 : BitVec 32 := Scalar.remsi v149_r2 c2_i32_406_r2
  let c0_i32_411_r2 : BitVec 32 := 0#32
  let v639_r2 : BitVec 1 := Scalar.cmpi .ne v638_r2 c0_i32_411_r2
  let v640_r2 : BitVec 1 := Scalar.andi v637_r2 v639_r2
  let v626_r2 : BitVec 32 := Scalar.divsi v149_r2 c2_i32_406_r2
  let c1_i32_412_r2 : BitVec 32 := 1#32
  let v641_r2 : BitVec 32 := Scalar.subi v626_r2 c1_i32_412_r2
  let v642_r2 : BitVec 32 := Scalar.select v640_r2 v641_r2 v626_r2
  let v643_r2 : Index := Scalar.indexCast v642_r2
  let c1024_r2 : Index := 1024#32
  ![v643_r2.toNat, 1024]
def k0_off118 (arg49_r2 : BitVec 32) : Fin 2 → Nat :=
  let c0_i32_154_r2 : BitVec 32 := 0#32
  let v149_r2 : BitVec 32 := Scalar.addi arg49_r2 c0_i32_154_r2
  let c0_i32_414_r2 : BitVec 32 := 0#32
  let v646_r2 : BitVec 1 := Scalar.cmpi .sgt v149_r2 c0_i32_414_r2
  let v647_r2 : BitVec 32 := Scalar.extui v646_r2
  let c0_i32_415_r2 : BitVec 32 := 0#32
  let v648_r2 : BitVec 1 := Scalar.cmpi .slt v149_r2 c0_i32_415_r2
  let v649_r2 : BitVec 32 := Scalar.extui v648_r2
  let v650_r2 : BitVec 32 := Scalar.subi v647_r2 v649_r2
  let c2_i32_413_r2 : BitVec 32 := 2#32
  let c0_i32_416_r2 : BitVec 32 := 0#32
  let v651_r2 : BitVec 1 := Scalar.cmpi .sgt c2_i32_413_r2 c0_i32_416_r2
  let v652_r2 : BitVec 32 := Scalar.extui v651_r2
  let c0_i32_417_r2 : BitVec 32 := 0#32
  let v653_r2 : BitVec 1 := Scalar.cmpi .slt c2_i32_413_r2 c0_i32_417_r2
  let v654_r2 : BitVec 32 := Scalar.extui v653_r2
  let v655_r2 : BitVec 32 := Scalar.subi v652_r2 v654_r2
  let v656_r2 : BitVec 1 := Scalar.cmpi .ne v650_r2 v655_r2
  let v657_r2 : BitVec 32 := Scalar.remsi v149_r2 c2_i32_413_r2
  let c0_i32_418_r2 : BitVec 32 := 0#32
  let v658_r2 : BitVec 1 := Scalar.cmpi .ne v657_r2 c0_i32_418_r2
  let v659_r2 : BitVec 1 := Scalar.andi v656_r2 v658_r2
  let v645_r2 : BitVec 32 := Scalar.divsi v149_r2 c2_i32_413_r2
  let c1_i32_419_r2 : BitVec 32 := 1#32
  let v660_r2 : BitVec 32 := Scalar.subi v645_r2 c1_i32_419_r2
  let v661_r2 : BitVec 32 := Scalar.select v659_r2 v660_r2 v645_r2
  let v662_r2 : Index := Scalar.indexCast v661_r2
  let c2048_r2 : Index := 2048#32
  ![v662_r2.toNat, 2048]
def k0_off119 (arg39_r2 : BitVec 32) : Fin 3 → Nat :=
  let c2_i32_277_r2 : BitVec 32 := 2#32
  let v350_r2 : BitVec 32 := Scalar.remui arg39_r2 c2_i32_277_r2
  let v558_r2 : Index := Scalar.indexCast v350_r2
  let c0_373_r2 : Index := 0#32
  let c0_374_r2 : Index := 0#32
  ![v558_r2.toNat, 0, 0]
def k0_cond47 (arg49_r2 : BitVec 32) : BitVec 1 :=
  let c0_i32_154_r2 : BitVec 32 := 0#32
  let v149_r2 : BitVec 32 := Scalar.addi arg49_r2 c0_i32_154_r2
  let c16_i32_284_r2 : BitVec 32 := 16#32
  let v358_r2 : BitVec 1 := Scalar.cmpi .eq v149_r2 c16_i32_284_r2
  let v359_r2 : BitVec 32 := Scalar.extui v358_r2
  let c0_i32_285_r2 : BitVec 32 := 0#32
  let v360_r2 : BitVec 1 := Scalar.cmpi .ne v359_r2 c0_i32_285_r2
  v360_r2

def k0_off120 (arg29_r2 : BitVec 32) : Fin 3 → Nat :=
  let c2_i32_272_r2 : BitVec 32 := 2#32
  let v345_r2 : BitVec 32 := Scalar.remui arg29_r2 c2_i32_272_r2
  let v562_r2 : Index := Scalar.indexCast v345_r2
  let c0_375_r2 : Index := 0#32
  let c0_376_r2 : Index := 0#32
  ![v562_r2.toNat, 0, 0]
def k0_off121 (arg41_r2 : BitVec 32) : Fin 3 → Nat :=
  let c2_i32_278_r2 : BitVec 32 := 2#32
  let v351_r2 : BitVec 32 := Scalar.remui arg41_r2 c2_i32_278_r2
  let v566_r2 : Index := Scalar.indexCast v351_r2
  let c0_377_r2 : Index := 0#32
  let c0_378_r2 : Index := 0#32
  ![v566_r2.toNat, 0, 0]
def k0_off122 (arg31_r2 : BitVec 32) : Fin 3 → Nat :=
  let c2_i32_273_r2 : BitVec 32 := 2#32
  let v346_r2 : BitVec 32 := Scalar.remui arg31_r2 c2_i32_273_r2
  let v570_r2 : Index := Scalar.indexCast v346_r2
  let c0_379_r2 : Index := 0#32
  let c0_380_r2 : Index := 0#32
  ![v570_r2.toNat, 0, 0]
def k0_off123 (arg43_r2 : BitVec 32) : Fin 3 → Nat :=
  let c2_i32_279_r2 : BitVec 32 := 2#32
  let v352_r2 : BitVec 32 := Scalar.remui arg43_r2 c2_i32_279_r2
  let v574_r2 : Index := Scalar.indexCast v352_r2
  let c0_381_r2 : Index := 0#32
  let c0_382_r2 : Index := 0#32
  ![v574_r2.toNat, 0, 0]
def k0_off124 (arg33_r2 : BitVec 32) : Fin 3 → Nat :=
  let c2_i32_274_r2 : BitVec 32 := 2#32
  let v347_r2 : BitVec 32 := Scalar.remui arg33_r2 c2_i32_274_r2
  let v578_r2 : Index := Scalar.indexCast v347_r2
  let c0_383_r2 : Index := 0#32
  let c0_384_r2 : Index := 0#32
  ![v578_r2.toNat, 0, 0]
def k0_off125 (arg45_r2 : BitVec 32) : Fin 3 → Nat :=
  let c2_i32_280_r2 : BitVec 32 := 2#32
  let v353_r2 : BitVec 32 := Scalar.remui arg45_r2 c2_i32_280_r2
  let v582_r2 : Index := Scalar.indexCast v353_r2
  let c0_385_r2 : Index := 0#32
  let c0_386_r2 : Index := 0#32
  ![v582_r2.toNat, 0, 0]
def k0_off126 (arg36_r2 : BitVec 32) : Fin 3 → Nat :=
  let c2_i32_275_r2 : BitVec 32 := 2#32
  let v348_r2 : BitVec 32 := Scalar.remui arg36_r2 c2_i32_275_r2
  let v590_r2 : Index := Scalar.indexCast v348_r2
  let c0_389_r2 : Index := 0#32
  let c0_390_r2 : Index := 0#32
  ![v590_r2.toNat, 0, 0]
def k0_off127 (arg38_r2 : BitVec 32) : Fin 3 → Nat :=
  let c2_i32_276_r2 : BitVec 32 := 2#32
  let v349_r2 : BitVec 32 := Scalar.remui arg38_r2 c2_i32_276_r2
  let v595_r2 : Index := Scalar.indexCast v349_r2
  let c0_392_r2 : Index := 0#32
  let c0_393_r2 : Index := 0#32
  ![v595_r2.toNat, 0, 0]
def k0_off128 (arg47_r2 : BitVec 32) : Fin 3 → Nat :=
  let c2_i32_281_r2 : BitVec 32 := 2#32
  let v354_r2 : BitVec 32 := Scalar.remui arg47_r2 c2_i32_281_r2
  let v600_r2 : Index := Scalar.indexCast v354_r2
  let c0_394_r2 : Index := 0#32
  let c0_395_r2 : Index := 0#32
  ![v600_r2.toNat, 0, 0]
def k0_off129 (arg39_r2 : BitVec 32) : Fin 1 → Nat :=
  let c2_i32_362_r2 : BitVec 32 := 2#32
  let v533_r2 : BitVec 32 := Scalar.remui arg39_r2 c2_i32_362_r2
  ![v533_r2.toNat]
def k0_cond54 (k0_t2 : Fin k0_t2_loop.trips) (arg49_r2 : BitVec 32) : BitVec 1 :=
  let c0_i32_154_r2 : BitVec 32 := 0#32
  let v149_r2 : BitVec 32 := Scalar.addi arg49_r2 c0_i32_154_r2
  let c1_i32_222_r2 : BitVec 32 := 1#32
  let v241_r2 : BitVec 32 := Scalar.subi v149_r2 c1_i32_222_r2
  let c0_i32_223_r2 : BitVec 32 := 0#32
  let v242_r2 : BitVec 32 := Scalar.maxsi v241_r2 c0_i32_223_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c1_i32_224_r2 : BitVec 32 := 1#32
  let v243_r2 : BitVec 32 := Scalar.subi v159_r2 c1_i32_224_r2
  let c0_i32_225_r2 : BitVec 32 := 0#32
  let v244_r2 : BitVec 32 := Scalar.maxsi v243_r2 c0_i32_225_r2
  let v391_r2 : BitVec 1 := Scalar.cmpi .ne v242_r2 v244_r2
  let c0_i32_97_r2 : BitVec 32 := 0#32
  let c1_i32_99_r2 : BitVec 32 := 1#32
  let arg25_r2 : BitVec 32 := Scf.iv c0_i32_97_r2 c1_i32_99_r2 k0_t2
  let c16_i32_153_r2 : BitVec 32 := 16#32
  let v148_r2 : BitVec 1 := Scalar.cmpi .eq arg25_r2 c16_i32_153_r2
  let v392_r2 : BitVec 1 := Scalar.ori v391_r2 v148_r2
  let v393_r2 : BitVec 32 := Scalar.extui v392_r2
  let c0_i32_297_r2 : BitVec 32 := 0#32
  let v394_r2 : BitVec 1 := Scalar.cmpi .ne v393_r2 c0_i32_297_r2
  v394_r2

def k0_off130 (arg49_r2 : BitVec 32) : Fin 2 → Nat :=
  let c1024_i32_365_r2 : BitVec 32 := 1024#32
  let c0_i32_154_r2 : BitVec 32 := 0#32
  let v149_r2 : BitVec 32 := Scalar.addi arg49_r2 c0_i32_154_r2
  let c1_i32_363_r2 : BitVec 32 := 1#32
  let v534_r2 : BitVec 32 := Scalar.subi v149_r2 c1_i32_363_r2
  let c0_i32_364_r2 : BitVec 32 := 0#32
  let v535_r2 : BitVec 32 := Scalar.maxsi v534_r2 c0_i32_364_r2
  let v536_r2 : BitVec 32 := Scalar.muli c1024_i32_365_r2 v535_r2
  let c0_i32_366_r2 : BitVec 32 := 0#32
  ![v536_r2.toNat, 0]
def k0_off131 (arg39_r2 : BitVec 32) : Fin 3 → Nat :=
  let c2_i32_362_r2 : BitVec 32 := 2#32
  let v533_r2 : BitVec 32 := Scalar.remui arg39_r2 c2_i32_362_r2
  let c0_i32_367_r2 : BitVec 32 := 0#32
  let c0_i32_368_r2 : BitVec 32 := 0#32
  ![v533_r2.toNat, 0, 0]
def k0_off132 (arg41_r2 : BitVec 32) : Fin 1 → Nat :=
  let c2_i32_362_r2 : BitVec 32 := 2#32
  let v533_r2 : BitVec 32 := Scalar.remui arg41_r2 c2_i32_362_r2
  ![v533_r2.toNat]
def k0_cond55 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_178_r2 : BitVec 32 := 15#32
  let v177_r2 : BitVec 32 := Scalar.minsi v149_r2 c15_i32_178_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_179_r2 : BitVec 32 := 15#32
  let v178_r2 : BitVec 32 := Scalar.minsi v159_r2 c15_i32_179_r2
  let v398_r2 : BitVec 1 := Scalar.cmpi .ne v177_r2 v178_r2
  let c0_i32_97_r2 : BitVec 32 := 0#32
  let c1_i32_99_r2 : BitVec 32 := 1#32
  let arg25_r2 : BitVec 32 := Scf.iv c0_i32_97_r2 c1_i32_99_r2 k0_t2
  let c16_i32_153_r2 : BitVec 32 := 16#32
  let v148_r2 : BitVec 1 := Scalar.cmpi .eq arg25_r2 c16_i32_153_r2
  let v399_r2 : BitVec 1 := Scalar.ori v398_r2 v148_r2
  let v400_r2 : BitVec 32 := Scalar.extui v399_r2
  let c0_i32_300_r2 : BitVec 32 := 0#32
  let v401_r2 : BitVec 1 := Scalar.cmpi .ne v400_r2 c0_i32_300_r2
  v401_r2

def k0_off133 (arg49_r2 : BitVec 32) : Fin 2 → Nat :=
  let c64_i32_364_r2 : BitVec 32 := 64#32
  let c0_i32_154_r2 : BitVec 32 := 0#32
  let v149_r2 : BitVec 32 := Scalar.addi arg49_r2 c0_i32_154_r2
  let c15_i32_363_r2 : BitVec 32 := 15#32
  let v534_r2 : BitVec 32 := Scalar.minsi v149_r2 c15_i32_363_r2
  let v535_r2 : BitVec 32 := Scalar.muli c64_i32_364_r2 v534_r2
  let c0_i32_365_r2 : BitVec 32 := 0#32
  ![v535_r2.toNat, 0]
def k0_off134 (arg41_r2 : BitVec 32) : Fin 3 → Nat :=
  let c2_i32_362_r2 : BitVec 32 := 2#32
  let v533_r2 : BitVec 32 := Scalar.remui arg41_r2 c2_i32_362_r2
  let c0_i32_366_r2 : BitVec 32 := 0#32
  let c0_i32_367_r2 : BitVec 32 := 0#32
  ![v533_r2.toNat, 0, 0]
def k0_off135 (arg43_r2 : BitVec 32) : Fin 1 → Nat :=
  let c2_i32_362_r2 : BitVec 32 := 2#32
  let v533_r2 : BitVec 32 := Scalar.remui arg43_r2 c2_i32_362_r2
  ![v533_r2.toNat]
def k0_cond56 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_186_r2 : BitVec 32 := 15#32
  let v189_r2 : BitVec 32 := Scalar.minsi v149_r2 c15_i32_186_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_187_r2 : BitVec 32 := 15#32
  let v190_r2 : BitVec 32 := Scalar.minsi v159_r2 c15_i32_187_r2
  let v405_r2 : BitVec 1 := Scalar.cmpi .ne v189_r2 v190_r2
  let c0_i32_97_r2 : BitVec 32 := 0#32
  let c1_i32_99_r2 : BitVec 32 := 1#32
  let arg25_r2 : BitVec 32 := Scf.iv c0_i32_97_r2 c1_i32_99_r2 k0_t2
  let c16_i32_153_r2 : BitVec 32 := 16#32
  let v148_r2 : BitVec 1 := Scalar.cmpi .eq arg25_r2 c16_i32_153_r2
  let v406_r2 : BitVec 1 := Scalar.ori v405_r2 v148_r2
  let v407_r2 : BitVec 32 := Scalar.extui v406_r2
  let c0_i32_303_r2 : BitVec 32 := 0#32
  let v408_r2 : BitVec 1 := Scalar.cmpi .ne v407_r2 c0_i32_303_r2
  v408_r2

def k0_off136 (arg49_r2 : BitVec 32) : Fin 2 → Nat :=
  let c32_i32_364_r2 : BitVec 32 := 32#32
  let c0_i32_154_r2 : BitVec 32 := 0#32
  let v149_r2 : BitVec 32 := Scalar.addi arg49_r2 c0_i32_154_r2
  let c15_i32_363_r2 : BitVec 32 := 15#32
  let v534_r2 : BitVec 32 := Scalar.minsi v149_r2 c15_i32_363_r2
  let v535_r2 : BitVec 32 := Scalar.muli c32_i32_364_r2 v534_r2
  let c0_i32_365_r2 : BitVec 32 := 0#32
  ![v535_r2.toNat, 0]
def k0_off137 (arg43_r2 : BitVec 32) : Fin 3 → Nat :=
  let c2_i32_362_r2 : BitVec 32 := 2#32
  let v533_r2 : BitVec 32 := Scalar.remui arg43_r2 c2_i32_362_r2
  let c0_i32_366_r2 : BitVec 32 := 0#32
  let c0_i32_367_r2 : BitVec 32 := 0#32
  ![v533_r2.toNat, 0, 0]
def k0_off138 (arg45_r2 : BitVec 32) : Fin 1 → Nat :=
  let c2_i32_362_r2 : BitVec 32 := 2#32
  let v533_r2 : BitVec 32 := Scalar.remui arg45_r2 c2_i32_362_r2
  ![v533_r2.toNat]
def k0_cond57 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_194_r2 : BitVec 32 := 15#32
  let v201_r2 : BitVec 32 := Scalar.minsi v149_r2 c15_i32_194_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_195_r2 : BitVec 32 := 15#32
  let v202_r2 : BitVec 32 := Scalar.minsi v159_r2 c15_i32_195_r2
  let v412_r2 : BitVec 1 := Scalar.cmpi .ne v201_r2 v202_r2
  let c0_i32_97_r2 : BitVec 32 := 0#32
  let c1_i32_99_r2 : BitVec 32 := 1#32
  let arg25_r2 : BitVec 32 := Scf.iv c0_i32_97_r2 c1_i32_99_r2 k0_t2
  let c16_i32_153_r2 : BitVec 32 := 16#32
  let v148_r2 : BitVec 1 := Scalar.cmpi .eq arg25_r2 c16_i32_153_r2
  let v413_r2 : BitVec 1 := Scalar.ori v412_r2 v148_r2
  let v414_r2 : BitVec 32 := Scalar.extui v413_r2
  let c0_i32_306_r2 : BitVec 32 := 0#32
  let v415_r2 : BitVec 1 := Scalar.cmpi .ne v414_r2 c0_i32_306_r2
  v415_r2

def k0_off139 (arg49_r2 : BitVec 32) : Fin 2 → Nat :=
  let c64_i32_364_r2 : BitVec 32 := 64#32
  let c0_i32_154_r2 : BitVec 32 := 0#32
  let v149_r2 : BitVec 32 := Scalar.addi arg49_r2 c0_i32_154_r2
  let c15_i32_363_r2 : BitVec 32 := 15#32
  let v534_r2 : BitVec 32 := Scalar.minsi v149_r2 c15_i32_363_r2
  let v535_r2 : BitVec 32 := Scalar.muli c64_i32_364_r2 v534_r2
  let c0_i32_365_r2 : BitVec 32 := 0#32
  ![v535_r2.toNat, 0]
def k0_off140 (arg45_r2 : BitVec 32) : Fin 3 → Nat :=
  let c2_i32_362_r2 : BitVec 32 := 2#32
  let v533_r2 : BitVec 32 := Scalar.remui arg45_r2 c2_i32_362_r2
  let c0_i32_366_r2 : BitVec 32 := 0#32
  let c0_i32_367_r2 : BitVec 32 := 0#32
  ![v533_r2.toNat, 0, 0]
def k0_off141 (arg47_r2 : BitVec 32) : Fin 1 → Nat :=
  let c2_i32_362_r2 : BitVec 32 := 2#32
  let v533_r2 : BitVec 32 := Scalar.remui arg47_r2 c2_i32_362_r2
  ![v533_r2.toNat]
def k0_cond58 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_234_r2 : BitVec 32 := 15#32
  let v261_r2 : BitVec 32 := Scalar.minsi v149_r2 c15_i32_234_r2
  let true_161_r2 : BitVec 1 := 1#1
  let c1_i32_160_r2 : BitVec 32 := 1#32
  let v155_r2 : BitVec 32 := Scalar.addi arg49_r2 c1_i32_160_r2
  let v156_r2 : BitVec 32 := Scalar.select true_161_r2 v155_r2 arg49_r2
  let c17_i32_162_r2 : BitVec 32 := 17#32
  let v157_r2 : BitVec 1 := Scalar.cmpi .eq v156_r2 c17_i32_162_r2
  let c0_i32_163_r2 : BitVec 32 := 0#32
  let v158_r2 : BitVec 32 := Scalar.select v157_r2 c0_i32_163_r2 v156_r2
  let c0_i32_164_r2 : BitVec 32 := 0#32
  let v159_r2 : BitVec 32 := Scalar.addi v158_r2 c0_i32_164_r2
  let c15_i32_235_r2 : BitVec 32 := 15#32
  let v262_r2 : BitVec 32 := Scalar.minsi v159_r2 c15_i32_235_r2
  let v419_r2 : BitVec 1 := Scalar.cmpi .ne v261_r2 v262_r2
  let c0_i32_97_r2 : BitVec 32 := 0#32
  let c1_i32_99_r2 : BitVec 32 := 1#32
  let arg25_r2 : BitVec 32 := Scf.iv c0_i32_97_r2 c1_i32_99_r2 k0_t2
  let c16_i32_153_r2 : BitVec 32 := 16#32
  let v148_r2 : BitVec 1 := Scalar.cmpi .eq arg25_r2 c16_i32_153_r2
  let v420_r2 : BitVec 1 := Scalar.ori v419_r2 v148_r2
  let v421_r2 : BitVec 32 := Scalar.extui v420_r2
  let c0_i32_309_r2 : BitVec 32 := 0#32
  let v422_r2 : BitVec 1 := Scalar.cmpi .ne v421_r2 c0_i32_309_r2
  v422_r2

def k0_off142 (arg49_r2 : BitVec 32) : Fin 2 → Nat :=
  let c0_i32_365_r2 : BitVec 32 := 0#32
  let c384_i32_364_r2 : BitVec 32 := 384#32
  let c0_i32_154_r2 : BitVec 32 := 0#32
  let v149_r2 : BitVec 32 := Scalar.addi arg49_r2 c0_i32_154_r2
  let c15_i32_363_r2 : BitVec 32 := 15#32
  let v534_r2 : BitVec 32 := Scalar.minsi v149_r2 c15_i32_363_r2
  let v535_r2 : BitVec 32 := Scalar.muli c384_i32_364_r2 v534_r2
  ![0, v535_r2.toNat]
def k0_off143 (arg47_r2 : BitVec 32) : Fin 3 → Nat :=
  let c2_i32_362_r2 : BitVec 32 := 2#32
  let v533_r2 : BitVec 32 := Scalar.remui arg47_r2 c2_i32_362_r2
  let c0_i32_366_r2 : BitVec 32 := 0#32
  let c0_i32_367_r2 : BitVec 32 := 0#32
  ![v533_r2.toNat, 0, 0]
def k0_off144 (arg40_r2 : BitVec 32) : Fin 1 → Nat :=
  let c2_i32_362_r2 : BitVec 32 := 2#32
  let v533_r2 : BitVec 32 := Scalar.remui arg40_r2 c2_i32_362_r2
  ![v533_r2.toNat]
def k0_cond65 (k0_t2 : Fin k0_t2_loop.trips) (arg49_r2 : BitVec 32) : BitVec 1 :=
  let c0_i32_154_r2 : BitVec 32 := 0#32
  let v149_r2 : BitVec 32 := Scalar.addi arg49_r2 c0_i32_154_r2
  let c1_i32_222_r2 : BitVec 32 := 1#32
  let v241_r2 : BitVec 32 := Scalar.subi v149_r2 c1_i32_222_r2
  let c0_i32_223_r2 : BitVec 32 := 0#32
  let v242_r2 : BitVec 32 := Scalar.maxsi v241_r2 c0_i32_223_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c1_i32_258_r2 : BitVec 32 := 1#32
  let v311_r2 : BitVec 32 := Scalar.subi v154_r2 c1_i32_258_r2
  let c0_i32_259_r2 : BitVec 32 := 0#32
  let v312_r2 : BitVec 32 := Scalar.maxsi v311_r2 c0_i32_259_r2
  let v462_r2 : BitVec 1 := Scalar.cmpi .ne v242_r2 v312_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let true_330_r2 : BitVec 1 := 1#1
  let v463_r2 : BitVec 1 := Scalar.xori v147_r2 true_330_r2
  let v464_r2 : BitVec 1 := Scalar.andi v462_r2 v463_r2
  let v465_r2 : BitVec 32 := Scalar.extui v464_r2
  let c0_i32_331_r2 : BitVec 32 := 0#32
  let v466_r2 : BitVec 1 := Scalar.cmpi .ne v465_r2 c0_i32_331_r2
  v466_r2

def k0_off145 (arg49_r2 : BitVec 32) : Fin 2 → Nat :=
  let c1024_i32_365_r2 : BitVec 32 := 1024#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c1_i32_363_r2 : BitVec 32 := 1#32
  let v534_r2 : BitVec 32 := Scalar.subi v154_r2 c1_i32_363_r2
  let c0_i32_364_r2 : BitVec 32 := 0#32
  let v535_r2 : BitVec 32 := Scalar.maxsi v534_r2 c0_i32_364_r2
  let v536_r2 : BitVec 32 := Scalar.muli c1024_i32_365_r2 v535_r2
  let c0_i32_366_r2 : BitVec 32 := 0#32
  ![v536_r2.toNat, 0]
def k0_off146 (arg40_r2 : BitVec 32) : Fin 3 → Nat :=
  let c2_i32_362_r2 : BitVec 32 := 2#32
  let v533_r2 : BitVec 32 := Scalar.remui arg40_r2 c2_i32_362_r2
  let c0_i32_367_r2 : BitVec 32 := 0#32
  let c0_i32_368_r2 : BitVec 32 := 0#32
  ![v533_r2.toNat, 0, 0]
def k0_off147 (arg42_r2 : BitVec 32) : Fin 1 → Nat :=
  let c2_i32_362_r2 : BitVec 32 := 2#32
  let v533_r2 : BitVec 32 := Scalar.remui arg42_r2 c2_i32_362_r2
  ![v533_r2.toNat]
def k0_cond66 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_178_r2 : BitVec 32 := 15#32
  let v177_r2 : BitVec 32 := Scalar.minsi v149_r2 c15_i32_178_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_241_r2 : BitVec 32 := 15#32
  let v274_r2 : BitVec 32 := Scalar.minsi v154_r2 c15_i32_241_r2
  let v470_r2 : BitVec 1 := Scalar.cmpi .ne v177_r2 v274_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let true_334_r2 : BitVec 1 := 1#1
  let v471_r2 : BitVec 1 := Scalar.xori v147_r2 true_334_r2
  let v472_r2 : BitVec 1 := Scalar.andi v470_r2 v471_r2
  let v473_r2 : BitVec 32 := Scalar.extui v472_r2
  let c0_i32_335_r2 : BitVec 32 := 0#32
  let v474_r2 : BitVec 1 := Scalar.cmpi .ne v473_r2 c0_i32_335_r2
  v474_r2

def k0_off148 (arg49_r2 : BitVec 32) : Fin 2 → Nat :=
  let c64_i32_364_r2 : BitVec 32 := 64#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_363_r2 : BitVec 32 := 15#32
  let v534_r2 : BitVec 32 := Scalar.minsi v154_r2 c15_i32_363_r2
  let v535_r2 : BitVec 32 := Scalar.muli c64_i32_364_r2 v534_r2
  let c0_i32_365_r2 : BitVec 32 := 0#32
  ![v535_r2.toNat, 0]
def k0_off149 (arg42_r2 : BitVec 32) : Fin 3 → Nat :=
  let c2_i32_362_r2 : BitVec 32 := 2#32
  let v533_r2 : BitVec 32 := Scalar.remui arg42_r2 c2_i32_362_r2
  let c0_i32_366_r2 : BitVec 32 := 0#32
  let c0_i32_367_r2 : BitVec 32 := 0#32
  ![v533_r2.toNat, 0, 0]
def k0_off150 (arg44_r2 : BitVec 32) : Fin 1 → Nat :=
  let c2_i32_362_r2 : BitVec 32 := 2#32
  let v533_r2 : BitVec 32 := Scalar.remui arg44_r2 c2_i32_362_r2
  ![v533_r2.toNat]
def k0_cond67 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_186_r2 : BitVec 32 := 15#32
  let v189_r2 : BitVec 32 := Scalar.minsi v149_r2 c15_i32_186_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_244_r2 : BitVec 32 := 15#32
  let v281_r2 : BitVec 32 := Scalar.minsi v154_r2 c15_i32_244_r2
  let v478_r2 : BitVec 1 := Scalar.cmpi .ne v189_r2 v281_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let true_338_r2 : BitVec 1 := 1#1
  let v479_r2 : BitVec 1 := Scalar.xori v147_r2 true_338_r2
  let v480_r2 : BitVec 1 := Scalar.andi v478_r2 v479_r2
  let v481_r2 : BitVec 32 := Scalar.extui v480_r2
  let c0_i32_339_r2 : BitVec 32 := 0#32
  let v482_r2 : BitVec 1 := Scalar.cmpi .ne v481_r2 c0_i32_339_r2
  v482_r2

def k0_off151 (arg49_r2 : BitVec 32) : Fin 2 → Nat :=
  let c32_i32_364_r2 : BitVec 32 := 32#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_363_r2 : BitVec 32 := 15#32
  let v534_r2 : BitVec 32 := Scalar.minsi v154_r2 c15_i32_363_r2
  let v535_r2 : BitVec 32 := Scalar.muli c32_i32_364_r2 v534_r2
  let c0_i32_365_r2 : BitVec 32 := 0#32
  ![v535_r2.toNat, 0]
def k0_off152 (arg44_r2 : BitVec 32) : Fin 3 → Nat :=
  let c2_i32_362_r2 : BitVec 32 := 2#32
  let v533_r2 : BitVec 32 := Scalar.remui arg44_r2 c2_i32_362_r2
  let c0_i32_366_r2 : BitVec 32 := 0#32
  let c0_i32_367_r2 : BitVec 32 := 0#32
  ![v533_r2.toNat, 0, 0]
def k0_off153 (arg46_r2 : BitVec 32) : Fin 1 → Nat :=
  let c2_i32_362_r2 : BitVec 32 := 2#32
  let v533_r2 : BitVec 32 := Scalar.remui arg46_r2 c2_i32_362_r2
  ![v533_r2.toNat]
def k0_cond68 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_194_r2 : BitVec 32 := 15#32
  let v201_r2 : BitVec 32 := Scalar.minsi v149_r2 c15_i32_194_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_247_r2 : BitVec 32 := 15#32
  let v288_r2 : BitVec 32 := Scalar.minsi v154_r2 c15_i32_247_r2
  let v486_r2 : BitVec 1 := Scalar.cmpi .ne v201_r2 v288_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let true_342_r2 : BitVec 1 := 1#1
  let v487_r2 : BitVec 1 := Scalar.xori v147_r2 true_342_r2
  let v488_r2 : BitVec 1 := Scalar.andi v486_r2 v487_r2
  let v489_r2 : BitVec 32 := Scalar.extui v488_r2
  let c0_i32_343_r2 : BitVec 32 := 0#32
  let v490_r2 : BitVec 1 := Scalar.cmpi .ne v489_r2 c0_i32_343_r2
  v490_r2

def k0_off154 (arg49_r2 : BitVec 32) : Fin 2 → Nat :=
  let c64_i32_364_r2 : BitVec 32 := 64#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_363_r2 : BitVec 32 := 15#32
  let v534_r2 : BitVec 32 := Scalar.minsi v154_r2 c15_i32_363_r2
  let v535_r2 : BitVec 32 := Scalar.muli c64_i32_364_r2 v534_r2
  let c0_i32_365_r2 : BitVec 32 := 0#32
  ![v535_r2.toNat, 0]
def k0_off155 (arg46_r2 : BitVec 32) : Fin 3 → Nat :=
  let c2_i32_362_r2 : BitVec 32 := 2#32
  let v533_r2 : BitVec 32 := Scalar.remui arg46_r2 c2_i32_362_r2
  let c0_i32_366_r2 : BitVec 32 := 0#32
  let c0_i32_367_r2 : BitVec 32 := 0#32
  ![v533_r2.toNat, 0, 0]
def k0_off156 (arg48_r2 : BitVec 32) : Fin 1 → Nat :=
  let c2_i32_362_r2 : BitVec 32 := 2#32
  let v533_r2 : BitVec 32 := Scalar.remui arg48_r2 c2_i32_362_r2
  ![v533_r2.toNat]
def k0_cond69 (k0_t2 : Fin k0_t2_loop.trips) (arg49_r2 : BitVec 32) : BitVec 1 :=
  let c0_i32_154_r2 : BitVec 32 := 0#32
  let v149_r2 : BitVec 32 := Scalar.addi arg49_r2 c0_i32_154_r2
  let c15_i32_234_r2 : BitVec 32 := 15#32
  let v261_r2 : BitVec 32 := Scalar.minsi v149_r2 c15_i32_234_r2
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_268_r2 : BitVec 32 := 15#32
  let v337_r2 : BitVec 32 := Scalar.minsi v154_r2 c15_i32_268_r2
  let v494_r2 : BitVec 1 := Scalar.cmpi .ne v261_r2 v337_r2
  let c0_i32_97_r2 : BitVec 32 := 0#32
  let c1_i32_99_r2 : BitVec 32 := 1#32
  let arg25_r2 : BitVec 32 := Scf.iv c0_i32_97_r2 c1_i32_99_r2 k0_t2
  let c0_i32_152_r2 : BitVec 32 := 0#32
  let v147_r2 : BitVec 1 := Scalar.cmpi .eq arg25_r2 c0_i32_152_r2
  let true_346_r2 : BitVec 1 := 1#1
  let v495_r2 : BitVec 1 := Scalar.xori v147_r2 true_346_r2
  let v496_r2 : BitVec 1 := Scalar.andi v494_r2 v495_r2
  let v497_r2 : BitVec 32 := Scalar.extui v496_r2
  let c0_i32_347_r2 : BitVec 32 := 0#32
  let v498_r2 : BitVec 1 := Scalar.cmpi .ne v497_r2 c0_i32_347_r2
  v498_r2

def k0_off157 (arg49_r2 : BitVec 32) : Fin 2 → Nat :=
  let c0_i32_365_r2 : BitVec 32 := 0#32
  let c384_i32_364_r2 : BitVec 32 := 384#32
  let true_156_r2 : BitVec 1 := 1#1
  let c1_i32_155_r2 : BitVec 32 := 1#32
  let v150_r2 : BitVec 32 := Scalar.subi arg49_r2 c1_i32_155_r2
  let v151_r2 : BitVec 32 := Scalar.select true_156_r2 v150_r2 arg49_r2
  let c_m1_i32_157_r2 : BitVec 32 := 4294967295#32
  let v152_r2 : BitVec 1 := Scalar.cmpi .eq v151_r2 c_m1_i32_157_r2
  let c16_i32_158_r2 : BitVec 32 := 16#32
  let v153_r2 : BitVec 32 := Scalar.select v152_r2 c16_i32_158_r2 v151_r2
  let c0_i32_159_r2 : BitVec 32 := 0#32
  let v154_r2 : BitVec 32 := Scalar.addi v153_r2 c0_i32_159_r2
  let c15_i32_363_r2 : BitVec 32 := 15#32
  let v534_r2 : BitVec 32 := Scalar.minsi v154_r2 c15_i32_363_r2
  let v535_r2 : BitVec 32 := Scalar.muli c384_i32_364_r2 v534_r2
  ![0, v535_r2.toNat]
def k0_off158 (arg48_r2 : BitVec 32) : Fin 3 → Nat :=
  let c2_i32_362_r2 : BitVec 32 := 2#32
  let v533_r2 : BitVec 32 := Scalar.remui arg48_r2 c2_i32_362_r2
  let c0_i32_366_r2 : BitVec 32 := 0#32
  let c0_i32_367_r2 : BitVec 32 := 0#32
  ![v533_r2.toNat, 0, 0]

def k0_chk5_0 (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) : Prop :=
  (∀ (k0_h29 : k0_cond29 k0_t2 arg49_r2 = 1#1), ∀ a, (k0_off69 arg26_r2) a + S1.size a ≤ S2.size a) ∧
  (∀ (k0_h29 : k0_cond29 k0_t2 arg49_r2 = 1#1), ∀ a, (k0_off70 arg26_r2) a + S1x1024x1024.size a ≤ S2x1024x1024.size a) ∧
  (∀ (k0_h29 : k0_cond29 k0_t2 arg49_r2 = 1#1), ∀ a, (k0_off71 arg49_r2) a + S1024x1024.size a ≤ S16384x1024.size a) ∧
  (∀ (k0_h30 : k0_cond30 k0_t2 arg49_r2 = 1#1), ∀ a, (k0_off72 arg28_r2) a + S1.size a ≤ S2.size a) ∧
  (∀ (k0_h30 : k0_cond30 k0_t2 arg49_r2 = 1#1), ∀ a, (k0_off73 arg28_r2) a + S1x64x1280.size a ≤ S2x64x1280.size a) ∧
  (∀ (k0_h30 : k0_cond30 k0_t2 arg49_r2 = 1#1), ∀ a, (k0_off74 arg49_r2) a + S64x1280.size a ≤ S1024x1280.size a) ∧
  (∀ (k0_h31 : k0_cond31 k0_t2 arg49_r2 = 1#1), ∀ a, (k0_off75 arg30_r2) a + S1.size a ≤ S2.size a) ∧
  (∀ (k0_h31 : k0_cond31 k0_t2 arg49_r2 = 1#1), ∀ a, (k0_off76 arg30_r2) a + S1x32x128.size a ≤ S2x32x128.size a) ∧
  (∀ (k0_h31 : k0_cond31 k0_t2 arg49_r2 = 1#1), ∀ a, (k0_off77 arg49_r2) a + S32x128.size a ≤ S512x128.size a) ∧
  (∀ (k0_h32 : k0_cond32 k0_t2 arg49_r2 = 1#1), ∀ a, (k0_off78 arg32_r2) a + S1.size a ≤ S2.size a) ∧
  (∀ (k0_h32 : k0_cond32 k0_t2 arg49_r2 = 1#1), ∀ a, (k0_off79 arg32_r2) a + S1x64x1024.size a ≤ S2x64x1024.size a) ∧
  (∀ (k0_h32 : k0_cond32 k0_t2 arg49_r2 = 1#1), ∀ a, (k0_off80 arg49_r2) a + S64x1024.size a ≤ S1024x1024.size a) ∧
  (∀ (k0_h33 : k0_cond33 k0_t2 arg49_r2 = 1#1), ∀ a, (k0_off81 arg35_r2) a + S1.size a ≤ S2.size a) ∧
  (∀ (k0_h33 : k0_cond33 k0_t2 arg49_r2 = 1#1), ∀ a, (k0_off82 arg35_r2) a + S1x1024x384.size a ≤ S2x1024x384.size a) ∧
  (∀ (k0_h33 : k0_cond33 k0_t2 arg49_r2 = 1#1), ∀ a, (k0_off83 arg49_r2) a + S1024x384.size a ≤ S1024x9216.size a) ∧
  (∀ (k0_h34 : k0_cond34 k0_t2 arg49_r2 = 1#1), ∀ a, (k0_off84 arg37_r2) a + S1.size a ≤ S2.size a) ∧
  (∀ (k0_h34 : k0_cond34 k0_t2 arg49_r2 = 1#1), ∀ a, (k0_off85 arg37_r2) a + S1x1x384.size a ≤ S2x1x384.size a) ∧
  (∀ (k0_h34 : k0_cond34 k0_t2 arg49_r2 = 1#1), ∀ a, (k0_off86 arg49_r2) a + S1x384.size a ≤ S1x9216.size a) ∧
  (∀ (k0_h35 : k0_cond35 k0_t2 arg49_r2 = 1#1), ∀ a, (k0_off87 arg27_r2) a + S1.size a ≤ S2.size a) ∧
  (∀ (k0_h35 : k0_cond35 k0_t2 arg49_r2 = 1#1), ∀ a, (k0_off88 arg27_r2) a + S1x1024x1024.size a ≤ S2x1024x1024.size a) ∧
  (∀ (k0_h35 : k0_cond35 k0_t2 arg49_r2 = 1#1), ∀ a, (k0_off89 arg49_r2) a + S1024x1024.size a ≤ S16384x1024.size a) ∧
  (∀ (k0_h36 : k0_cond36 k0_t2 arg49_r2 = 1#1), ∀ a, (k0_off90 arg29_r2) a + S1.size a ≤ S2.size a) ∧
  (∀ (k0_h36 : k0_cond36 k0_t2 arg49_r2 = 1#1), ∀ a, (k0_off91 arg29_r2) a + S1x64x1280.size a ≤ S2x64x1280.size a) ∧
  (∀ (k0_h36 : k0_cond36 k0_t2 arg49_r2 = 1#1), ∀ a, (k0_off92 arg49_r2) a + S64x1280.size a ≤ S1024x1280.size a) ∧
  (∀ (k0_h37 : k0_cond37 k0_t2 arg49_r2 = 1#1), ∀ a, (k0_off93 arg31_r2) a + S1.size a ≤ S2.size a) ∧
  (∀ (k0_h37 : k0_cond37 k0_t2 arg49_r2 = 1#1), ∀ a, (k0_off94 arg31_r2) a + S1x32x128.size a ≤ S2x32x128.size a) ∧
  (∀ (k0_h37 : k0_cond37 k0_t2 arg49_r2 = 1#1), ∀ a, (k0_off95 arg49_r2) a + S32x128.size a ≤ S512x128.size a) ∧
  (∀ (k0_h38 : k0_cond38 k0_t2 arg49_r2 = 1#1), ∀ a, (k0_off96 arg33_r2) a + S1.size a ≤ S2.size a) ∧
  (∀ (k0_h38 : k0_cond38 k0_t2 arg49_r2 = 1#1), ∀ a, (k0_off97 arg33_r2) a + S1x64x1024.size a ≤ S2x64x1024.size a) ∧
  (∀ (k0_h38 : k0_cond38 k0_t2 arg49_r2 = 1#1), ∀ a, (k0_off98 arg49_r2) a + S64x1024.size a ≤ S1024x1024.size a) ∧
  (∀ (k0_h39 : k0_cond39 k0_t2 arg49_r2 = 1#1), ∀ a, (k0_off99 arg36_r2) a + S1.size a ≤ S2.size a) ∧
  (∀ (k0_h39 : k0_cond39 k0_t2 arg49_r2 = 1#1), ∀ a, (k0_off100 arg36_r2) a + S1x1024x384.size a ≤ S2x1024x384.size a)
def k0_chk5_1 (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) : Prop :=
  (∀ (k0_h39 : k0_cond39 k0_t2 arg49_r2 = 1#1), ∀ a, (k0_off101 arg49_r2) a + S1024x384.size a ≤ S1024x9216.size a) ∧
  (∀ (k0_h40 : k0_cond40 k0_t2 arg49_r2 = 1#1), ∀ a, (k0_off102 arg38_r2) a + S1.size a ≤ S2.size a) ∧
  (∀ (k0_h40 : k0_cond40 k0_t2 arg49_r2 = 1#1), ∀ a, (k0_off103 arg38_r2) a + S1x1x384.size a ≤ S2x1x384.size a) ∧
  (∀ (k0_h40 : k0_cond40 k0_t2 arg49_r2 = 1#1), ∀ a, (k0_off104 arg49_r2) a + S1x384.size a ≤ S1x9216.size a) ∧
  (∀ (k0_h46 : k0_cond46 arg49_r2 = 1#1), ∀ a, (k0_off105 arg39_r2) a + S1x1024x1024.size a ≤ S2x1024x1024.size a) ∧
  (∀ (k0_h46 : k0_cond46 arg49_r2 = 1#1), ∀ a, (k0_off106 arg29_r2) a + S1x64x1280.size a ≤ S2x64x1280.size a) ∧
  (∀ (k0_h46 : k0_cond46 arg49_r2 = 1#1), ∀ a, (k0_off107 arg41_r2) a + S1x64x1280.size a ≤ S2x64x1280.size a) ∧
  (∀ (k0_h46 : k0_cond46 arg49_r2 = 1#1), ∀ (hinb : ∀ a, (k0_off107 arg41_r2) a + S1x64x1280.size a ≤ S2x64x1280.size a), (Rect.unit (s := S2x64x1280) (k0_off107 arg41_r2) S1x64x1280.size hinb).PackedRows (EltTy.packing .bf16)) ∧
  (∀ (k0_h46 : k0_cond46 arg49_r2 = 1#1), ∀ a, (k0_off108 arg31_r2) a + S1x32x128.size a ≤ S2x32x128.size a) ∧
  (∀ (k0_h46 : k0_cond46 arg49_r2 = 1#1), ∀ a, (k0_off109 arg43_r2) a + S1x32x128.size a ≤ S2x32x128.size a) ∧
  (∀ (k0_h46 : k0_cond46 arg49_r2 = 1#1), ∀ (hinb : ∀ a, (k0_off109 arg43_r2) a + S1x32x128.size a ≤ S2x32x128.size a), (Rect.unit (s := S2x32x128) (k0_off109 arg43_r2) S1x32x128.size hinb).PackedRows (EltTy.packing .bf16)) ∧
  (∀ (k0_h46 : k0_cond46 arg49_r2 = 1#1), ∀ a, (k0_off110 arg33_r2) a + S1x64x1024.size a ≤ S2x64x1024.size a) ∧
  (∀ (k0_h46 : k0_cond46 arg49_r2 = 1#1), ∀ a, (k0_off111 arg45_r2) a + S1x64x1024.size a ≤ S2x64x1024.size a) ∧
  (∀ (k0_h46 : k0_cond46 arg49_r2 = 1#1), ∀ (hinb : ∀ a, (k0_off111 arg45_r2) a + S1x64x1024.size a ≤ S2x64x1024.size a), (Rect.unit (s := S2x64x1024) (k0_off111 arg45_r2) S1x64x1024.size hinb).PackedRows (EltTy.packing .bf16)) ∧
  (∀ (k0_h46 : k0_cond46 arg49_r2 = 1#1), ∀ a, (k0_off112 arg36_r2) a + S1x1024x384.size a ≤ S2x1024x384.size a) ∧
  (∀ (k0_h46 : k0_cond46 arg49_r2 = 1#1), ∀ a, (k0_off113 arg38_r2) a + S1x1x384.size a ≤ S2x1x384.size a) ∧
  (∀ (k0_h46 : k0_cond46 arg49_r2 = 1#1), ∀ a, (k0_off114 arg47_r2) a + S1x8x384.size a ≤ S2x8x384.size a) ∧
  (∀ (k0_h46 : k0_cond46 arg49_r2 = 1#1), ∀ a, (k0_off115 arg27_r2) a + S1x1024x1024.size a ≤ S2x1024x1024.size a) ∧
  (∀ (k0_h46 : k0_cond46 arg49_r2 = 1#1), ∀ a, (k0_off116 arg49_r2) a + S1x1024.size a ≤ S8x3072.size a) ∧
  (∀ (k0_h46 : k0_cond46 arg49_r2 = 1#1), ∀ a, (k0_off117 arg49_r2) a + S1x1024.size a ≤ S8x3072.size a) ∧
  (∀ (k0_h46 : k0_cond46 arg49_r2 = 1#1), ∀ a, (k0_off118 arg49_r2) a + S1x1024.size a ≤ S8x3072.size a) ∧
  (∀ (k0_h47 : k0_cond47 arg49_r2 = 1#1), ∀ a, (k0_off119 arg39_r2) a + S1x1024x1024.size a ≤ S2x1024x1024.size a) ∧
  (∀ (k0_h47 : k0_cond47 arg49_r2 = 1#1), ∀ a, (k0_off120 arg29_r2) a + S1x64x1280.size a ≤ S2x64x1280.size a) ∧
  (∀ (k0_h47 : k0_cond47 arg49_r2 = 1#1), ∀ a, (k0_off121 arg41_r2) a + S1x64x1280.size a ≤ S2x64x1280.size a) ∧
  (∀ (k0_h47 : k0_cond47 arg49_r2 = 1#1), ∀ (hinb : ∀ a, (k0_off121 arg41_r2) a + S1x64x1280.size a ≤ S2x64x1280.size a), (Rect.unit (s := S2x64x1280) (k0_off121 arg41_r2) S1x64x1280.size hinb).PackedRows (EltTy.packing .bf16)) ∧
  (∀ (k0_h47 : k0_cond47 arg49_r2 = 1#1), ∀ a, (k0_off122 arg31_r2) a + S1x32x128.size a ≤ S2x32x128.size a) ∧
  (∀ (k0_h47 : k0_cond47 arg49_r2 = 1#1), ∀ a, (k0_off123 arg43_r2) a + S1x32x128.size a ≤ S2x32x128.size a) ∧
  (∀ (k0_h47 : k0_cond47 arg49_r2 = 1#1), ∀ (hinb : ∀ a, (k0_off123 arg43_r2) a + S1x32x128.size a ≤ S2x32x128.size a), (Rect.unit (s := S2x32x128) (k0_off123 arg43_r2) S1x32x128.size hinb).PackedRows (EltTy.packing .bf16)) ∧
  (∀ (k0_h47 : k0_cond47 arg49_r2 = 1#1), ∀ a, (k0_off124 arg33_r2) a + S1x64x1024.size a ≤ S2x64x1024.size a) ∧
  (∀ (k0_h47 : k0_cond47 arg49_r2 = 1#1), ∀ a, (k0_off125 arg45_r2) a + S1x64x1024.size a ≤ S2x64x1024.size a) ∧
  (∀ (k0_h47 : k0_cond47 arg49_r2 = 1#1), ∀ (hinb : ∀ a, (k0_off125 arg45_r2) a + S1x64x1024.size a ≤ S2x64x1024.size a), (Rect.unit (s := S2x64x1024) (k0_off125 arg45_r2) S1x64x1024.size hinb).PackedRows (EltTy.packing .bf16)) ∧
  (∀ (k0_h47 : k0_cond47 arg49_r2 = 1#1), ∀ a, (k0_off126 arg36_r2) a + S1x1024x384.size a ≤ S2x1024x384.size a)
def k0_chk5_2 (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) : Prop :=
  (∀ (k0_h47 : k0_cond47 arg49_r2 = 1#1), ∀ a, (k0_off127 arg38_r2) a + S1x1x384.size a ≤ S2x1x384.size a) ∧
  (∀ (k0_h47 : k0_cond47 arg49_r2 = 1#1), ∀ a, (k0_off128 arg47_r2) a + S1x8x384.size a ≤ S2x8x384.size a) ∧
  (∀ (k0_h54 : k0_cond54 k0_t2 arg49_r2 = 1#1), ∀ a, (k0_off129 arg39_r2) a + S1.size a ≤ S2.size a) ∧
  (∀ (k0_h54 : k0_cond54 k0_t2 arg49_r2 = 1#1), ∀ a, (k0_off130 arg49_r2) a + S1024x1024.size a ≤ S16384x1024.size a) ∧
  (∀ (k0_h54 : k0_cond54 k0_t2 arg49_r2 = 1#1), ∀ a, (k0_off131 arg39_r2) a + S1x1024x1024.size a ≤ S2x1024x1024.size a) ∧
  (∀ (k0_h55 : k0_cond55 k0_t2 arg49_r2 = 1#1), ∀ a, (k0_off132 arg41_r2) a + S1.size a ≤ S2.size a) ∧
  (∀ (k0_h55 : k0_cond55 k0_t2 arg49_r2 = 1#1), ∀ a, (k0_off133 arg49_r2) a + S64x1280.size a ≤ S1024x1280.size a) ∧
  (∀ (k0_h55 : k0_cond55 k0_t2 arg49_r2 = 1#1), ∀ a, (k0_off134 arg41_r2) a + S1x64x1280.size a ≤ S2x64x1280.size a) ∧
  (∀ (k0_h55 : k0_cond55 k0_t2 arg49_r2 = 1#1), ∀ (hinb : ∀ a, (k0_off134 arg41_r2) a + S1x64x1280.size a ≤ S2x64x1280.size a), (Rect.unit (s := S2x64x1280) (k0_off134 arg41_r2) S1x64x1280.size hinb).WholeWords (EltTy.packing .bf16)) ∧
  (∀ (k0_h55 : k0_cond55 k0_t2 arg49_r2 = 1#1), ∀ (hinb : ∀ a, (k0_off133 arg49_r2) a + S64x1280.size a ≤ S1024x1280.size a), (Rect.unit (s := S1024x1280) (k0_off133 arg49_r2) S64x1280.size hinb).WholeWords (EltTy.packing .bf16)) ∧
  (∀ (k0_h56 : k0_cond56 k0_t2 arg49_r2 = 1#1), ∀ a, (k0_off135 arg43_r2) a + S1.size a ≤ S2.size a) ∧
  (∀ (k0_h56 : k0_cond56 k0_t2 arg49_r2 = 1#1), ∀ a, (k0_off136 arg49_r2) a + S32x128.size a ≤ S512x128.size a) ∧
  (∀ (k0_h56 : k0_cond56 k0_t2 arg49_r2 = 1#1), ∀ a, (k0_off137 arg43_r2) a + S1x32x128.size a ≤ S2x32x128.size a) ∧
  (∀ (k0_h56 : k0_cond56 k0_t2 arg49_r2 = 1#1), ∀ (hinb : ∀ a, (k0_off137 arg43_r2) a + S1x32x128.size a ≤ S2x32x128.size a), (Rect.unit (s := S2x32x128) (k0_off137 arg43_r2) S1x32x128.size hinb).WholeWords (EltTy.packing .bf16)) ∧
  (∀ (k0_h56 : k0_cond56 k0_t2 arg49_r2 = 1#1), ∀ (hinb : ∀ a, (k0_off136 arg49_r2) a + S32x128.size a ≤ S512x128.size a), (Rect.unit (s := S512x128) (k0_off136 arg49_r2) S32x128.size hinb).WholeWords (EltTy.packing .bf16)) ∧
  (∀ (k0_h57 : k0_cond57 k0_t2 arg49_r2 = 1#1), ∀ a, (k0_off138 arg45_r2) a + S1.size a ≤ S2.size a) ∧
  (∀ (k0_h57 : k0_cond57 k0_t2 arg49_r2 = 1#1), ∀ a, (k0_off139 arg49_r2) a + S64x1024.size a ≤ S1024x1024.size a) ∧
  (∀ (k0_h57 : k0_cond57 k0_t2 arg49_r2 = 1#1), ∀ a, (k0_off140 arg45_r2) a + S1x64x1024.size a ≤ S2x64x1024.size a) ∧
  (∀ (k0_h57 : k0_cond57 k0_t2 arg49_r2 = 1#1), ∀ (hinb : ∀ a, (k0_off140 arg45_r2) a + S1x64x1024.size a ≤ S2x64x1024.size a), (Rect.unit (s := S2x64x1024) (k0_off140 arg45_r2) S1x64x1024.size hinb).WholeWords (EltTy.packing .bf16)) ∧
  (∀ (k0_h57 : k0_cond57 k0_t2 arg49_r2 = 1#1), ∀ (hinb : ∀ a, (k0_off139 arg49_r2) a + S64x1024.size a ≤ S1024x1024.size a), (Rect.unit (s := S1024x1024) (k0_off139 arg49_r2) S64x1024.size hinb).WholeWords (EltTy.packing .bf16)) ∧
  (∀ (k0_h58 : k0_cond58 k0_t2 arg49_r2 = 1#1), ∀ a, (k0_off141 arg47_r2) a + S1.size a ≤ S2.size a) ∧
  (∀ (k0_h58 : k0_cond58 k0_t2 arg49_r2 = 1#1), ∀ a, (k0_off142 arg49_r2) a + S8x384.size a ≤ S8x6144.size a) ∧
  (∀ (k0_h58 : k0_cond58 k0_t2 arg49_r2 = 1#1), ∀ a, (k0_off143 arg47_r2) a + S1x8x384.size a ≤ S2x8x384.size a) ∧
  (∀ (k0_h65 : k0_cond65 k0_t2 arg49_r2 = 1#1), ∀ a, (k0_off144 arg40_r2) a + S1.size a ≤ S2.size a) ∧
  (∀ (k0_h65 : k0_cond65 k0_t2 arg49_r2 = 1#1), ∀ a, (k0_off145 arg49_r2) a + S1024x1024.size a ≤ S16384x1024.size a) ∧
  (∀ (k0_h65 : k0_cond65 k0_t2 arg49_r2 = 1#1), ∀ a, (k0_off146 arg40_r2) a + S1x1024x1024.size a ≤ S2x1024x1024.size a) ∧
  (∀ (k0_h66 : k0_cond66 k0_t2 arg49_r2 = 1#1), ∀ a, (k0_off147 arg42_r2) a + S1.size a ≤ S2.size a) ∧
  (∀ (k0_h66 : k0_cond66 k0_t2 arg49_r2 = 1#1), ∀ a, (k0_off148 arg49_r2) a + S64x1280.size a ≤ S1024x1280.size a) ∧
  (∀ (k0_h66 : k0_cond66 k0_t2 arg49_r2 = 1#1), ∀ a, (k0_off149 arg42_r2) a + S1x64x1280.size a ≤ S2x64x1280.size a) ∧
  (∀ (k0_h66 : k0_cond66 k0_t2 arg49_r2 = 1#1), ∀ (hinb : ∀ a, (k0_off149 arg42_r2) a + S1x64x1280.size a ≤ S2x64x1280.size a), (Rect.unit (s := S2x64x1280) (k0_off149 arg42_r2) S1x64x1280.size hinb).WholeWords (EltTy.packing .bf16)) ∧
  (∀ (k0_h66 : k0_cond66 k0_t2 arg49_r2 = 1#1), ∀ (hinb : ∀ a, (k0_off148 arg49_r2) a + S64x1280.size a ≤ S1024x1280.size a), (Rect.unit (s := S1024x1280) (k0_off148 arg49_r2) S64x1280.size hinb).WholeWords (EltTy.packing .bf16)) ∧
  (∀ (k0_h67 : k0_cond67 k0_t2 arg49_r2 = 1#1), ∀ a, (k0_off150 arg44_r2) a + S1.size a ≤ S2.size a)
def k0_chk5_3 (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) : Prop :=
  (∀ (k0_h67 : k0_cond67 k0_t2 arg49_r2 = 1#1), ∀ a, (k0_off151 arg49_r2) a + S32x128.size a ≤ S512x128.size a) ∧
  (∀ (k0_h67 : k0_cond67 k0_t2 arg49_r2 = 1#1), ∀ a, (k0_off152 arg44_r2) a + S1x32x128.size a ≤ S2x32x128.size a) ∧
  (∀ (k0_h67 : k0_cond67 k0_t2 arg49_r2 = 1#1), ∀ (hinb : ∀ a, (k0_off152 arg44_r2) a + S1x32x128.size a ≤ S2x32x128.size a), (Rect.unit (s := S2x32x128) (k0_off152 arg44_r2) S1x32x128.size hinb).WholeWords (EltTy.packing .bf16)) ∧
  (∀ (k0_h67 : k0_cond67 k0_t2 arg49_r2 = 1#1), ∀ (hinb : ∀ a, (k0_off151 arg49_r2) a + S32x128.size a ≤ S512x128.size a), (Rect.unit (s := S512x128) (k0_off151 arg49_r2) S32x128.size hinb).WholeWords (EltTy.packing .bf16)) ∧
  (∀ (k0_h68 : k0_cond68 k0_t2 arg49_r2 = 1#1), ∀ a, (k0_off153 arg46_r2) a + S1.size a ≤ S2.size a) ∧
  (∀ (k0_h68 : k0_cond68 k0_t2 arg49_r2 = 1#1), ∀ a, (k0_off154 arg49_r2) a + S64x1024.size a ≤ S1024x1024.size a) ∧
  (∀ (k0_h68 : k0_cond68 k0_t2 arg49_r2 = 1#1), ∀ a, (k0_off155 arg46_r2) a + S1x64x1024.size a ≤ S2x64x1024.size a) ∧
  (∀ (k0_h68 : k0_cond68 k0_t2 arg49_r2 = 1#1), ∀ (hinb : ∀ a, (k0_off155 arg46_r2) a + S1x64x1024.size a ≤ S2x64x1024.size a), (Rect.unit (s := S2x64x1024) (k0_off155 arg46_r2) S1x64x1024.size hinb).WholeWords (EltTy.packing .bf16)) ∧
  (∀ (k0_h68 : k0_cond68 k0_t2 arg49_r2 = 1#1), ∀ (hinb : ∀ a, (k0_off154 arg49_r2) a + S64x1024.size a ≤ S1024x1024.size a), (Rect.unit (s := S1024x1024) (k0_off154 arg49_r2) S64x1024.size hinb).WholeWords (EltTy.packing .bf16)) ∧
  (∀ (k0_h69 : k0_cond69 k0_t2 arg49_r2 = 1#1), ∀ a, (k0_off156 arg48_r2) a + S1.size a ≤ S2.size a) ∧
  (∀ (k0_h69 : k0_cond69 k0_t2 arg49_r2 = 1#1), ∀ a, (k0_off157 arg49_r2) a + S8x384.size a ≤ S8x6144.size a) ∧
  (∀ (k0_h69 : k0_cond69 k0_t2 arg49_r2 = 1#1), ∀ a, (k0_off158 arg48_r2) a + S1x8x384.size a ≤ S2x8x384.size a)
def k0_chk5 (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) : Prop :=
  k0_chk5_0 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 ∧
  k0_chk5_1 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 ∧
  k0_chk5_2 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 ∧
  k0_chk5_3 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2
theorem k0_off69_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h29 : k0_cond29 k0_t2 arg49_r2 = 1#1), ∀ a, (k0_off69 arg26_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h29 => k0_hw5.1.1 k0_h29
theorem k0_off70_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h29 : k0_cond29 k0_t2 arg49_r2 = 1#1), ∀ a, (k0_off70 arg26_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h29 => k0_hw5.1.2.1 k0_h29
theorem k0_off71_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h29 : k0_cond29 k0_t2 arg49_r2 = 1#1), ∀ a, (k0_off71 arg49_r2) a + S1024x1024.size a ≤ S16384x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h29 => k0_hw5.1.2.2.1 k0_h29
theorem k0_off72_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h30 : k0_cond30 k0_t2 arg49_r2 = 1#1), ∀ a, (k0_off72 arg28_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h30 => k0_hw5.1.2.2.2.1 k0_h30
theorem k0_off73_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h30 : k0_cond30 k0_t2 arg49_r2 = 1#1), ∀ a, (k0_off73 arg28_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h30 => k0_hw5.1.2.2.2.2.1 k0_h30
theorem k0_off74_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h30 : k0_cond30 k0_t2 arg49_r2 = 1#1), ∀ a, (k0_off74 arg49_r2) a + S64x1280.size a ≤ S1024x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h30 => k0_hw5.1.2.2.2.2.2.1 k0_h30
theorem k0_off75_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h31 : k0_cond31 k0_t2 arg49_r2 = 1#1), ∀ a, (k0_off75 arg30_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h31 => k0_hw5.1.2.2.2.2.2.2.1 k0_h31
theorem k0_off76_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h31 : k0_cond31 k0_t2 arg49_r2 = 1#1), ∀ a, (k0_off76 arg30_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h31 => k0_hw5.1.2.2.2.2.2.2.2.1 k0_h31
theorem k0_off77_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h31 : k0_cond31 k0_t2 arg49_r2 = 1#1), ∀ a, (k0_off77 arg49_r2) a + S32x128.size a ≤ S512x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h31 => k0_hw5.1.2.2.2.2.2.2.2.2.1 k0_h31
theorem k0_off78_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h32 : k0_cond32 k0_t2 arg49_r2 = 1#1), ∀ a, (k0_off78 arg32_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h32 => k0_hw5.1.2.2.2.2.2.2.2.2.2.1 k0_h32
theorem k0_off79_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h32 : k0_cond32 k0_t2 arg49_r2 = 1#1), ∀ a, (k0_off79 arg32_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h32 => k0_hw5.1.2.2.2.2.2.2.2.2.2.2.1 k0_h32
theorem k0_off80_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h32 : k0_cond32 k0_t2 arg49_r2 = 1#1), ∀ a, (k0_off80 arg49_r2) a + S64x1024.size a ≤ S1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h32 => k0_hw5.1.2.2.2.2.2.2.2.2.2.2.2.1 k0_h32
theorem k0_off81_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h33 : k0_cond33 k0_t2 arg49_r2 = 1#1), ∀ a, (k0_off81 arg35_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h33 => k0_hw5.1.2.2.2.2.2.2.2.2.2.2.2.2.1 k0_h33
theorem k0_off82_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h33 : k0_cond33 k0_t2 arg49_r2 = 1#1), ∀ a, (k0_off82 arg35_r2) a + S1x1024x384.size a ≤ S2x1024x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h33 => k0_hw5.1.2.2.2.2.2.2.2.2.2.2.2.2.2.1 k0_h33
theorem k0_off83_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h33 : k0_cond33 k0_t2 arg49_r2 = 1#1), ∀ a, (k0_off83 arg49_r2) a + S1024x384.size a ≤ S1024x9216.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h33 => k0_hw5.1.2.2.2.2.2.2.2.2.2.2.2.2.2.2.1 k0_h33
theorem k0_off84_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h34 : k0_cond34 k0_t2 arg49_r2 = 1#1), ∀ a, (k0_off84 arg37_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h34 => k0_hw5.1.2.2.2.2.2.2.2.2.2.2.2.2.2.2.2.1 k0_h34
theorem k0_off85_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h34 : k0_cond34 k0_t2 arg49_r2 = 1#1), ∀ a, (k0_off85 arg37_r2) a + S1x1x384.size a ≤ S2x1x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h34 => k0_hw5.1.2.2.2.2.2.2.2.2.2.2.2.2.2.2.2.2.1 k0_h34
theorem k0_off86_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h34 : k0_cond34 k0_t2 arg49_r2 = 1#1), ∀ a, (k0_off86 arg49_r2) a + S1x384.size a ≤ S1x9216.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h34 => k0_hw5.1.2.2.2.2.2.2.2.2.2.2.2.2.2.2.2.2.2.1 k0_h34
theorem k0_off87_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h35 : k0_cond35 k0_t2 arg49_r2 = 1#1), ∀ a, (k0_off87 arg27_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h35 => k0_hw5.1.2.2.2.2.2.2.2.2.2.2.2.2.2.2.2.2.2.2.1 k0_h35
theorem k0_off88_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h35 : k0_cond35 k0_t2 arg49_r2 = 1#1), ∀ a, (k0_off88 arg27_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h35 => k0_hw5.1.2.2.2.2.2.2.2.2.2.2.2.2.2.2.2.2.2.2.2.1 k0_h35
theorem k0_off89_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h35 : k0_cond35 k0_t2 arg49_r2 = 1#1), ∀ a, (k0_off89 arg49_r2) a + S1024x1024.size a ≤ S16384x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h35 => k0_hw5.1.2.2.2.2.2.2.2.2.2.2.2.2.2.2.2.2.2.2.2.2.1 k0_h35
theorem k0_off90_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h36 : k0_cond36 k0_t2 arg49_r2 = 1#1), ∀ a, (k0_off90 arg29_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h36 => k0_hw5.1.2.2.2.2.2.2.2.2.2.2.2.2.2.2.2.2.2.2.2.2.2.1 k0_h36
theorem k0_off91_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h36 : k0_cond36 k0_t2 arg49_r2 = 1#1), ∀ a, (k0_off91 arg29_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h36 => k0_hw5.1.2.2.2.2.2.2.2.2.2.2.2.2.2.2.2.2.2.2.2.2.2.2.1 k0_h36
theorem k0_off92_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h36 : k0_cond36 k0_t2 arg49_r2 = 1#1), ∀ a, (k0_off92 arg49_r2) a + S64x1280.size a ≤ S1024x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h36 => k0_hw5.1.2.2.2.2.2.2.2.2.2.2.2.2.2.2.2.2.2.2.2.2.2.2.2.1 k0_h36
theorem k0_off93_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h37 : k0_cond37 k0_t2 arg49_r2 = 1#1), ∀ a, (k0_off93 arg31_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h37 => k0_hw5.1.2.2.2.2.2.2.2.2.2.2.2.2.2.2.2.2.2.2.2.2.2.2.2.2.1 k0_h37
theorem k0_off94_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h37 : k0_cond37 k0_t2 arg49_r2 = 1#1), ∀ a, (k0_off94 arg31_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h37 => k0_hw5.1.2.2.2.2.2.2.2.2.2.2.2.2.2.2.2.2.2.2.2.2.2.2.2.2.2.1 k0_h37
theorem k0_off95_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h37 : k0_cond37 k0_t2 arg49_r2 = 1#1), ∀ a, (k0_off95 arg49_r2) a + S32x128.size a ≤ S512x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h37 => k0_hw5.1.2.2.2.2.2.2.2.2.2.2.2.2.2.2.2.2.2.2.2.2.2.2.2.2.2.2.1 k0_h37
theorem k0_off96_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h38 : k0_cond38 k0_t2 arg49_r2 = 1#1), ∀ a, (k0_off96 arg33_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h38 => k0_hw5.1.2.2.2.2.2.2.2.2.2.2.2.2.2.2.2.2.2.2.2.2.2.2.2.2.2.2.2.1 k0_h38
theorem k0_off97_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h38 : k0_cond38 k0_t2 arg49_r2 = 1#1), ∀ a, (k0_off97 arg33_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h38 => k0_hw5.1.2.2.2.2.2.2.2.2.2.2.2.2.2.2.2.2.2.2.2.2.2.2.2.2.2.2.2.2.1 k0_h38
theorem k0_off98_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h38 : k0_cond38 k0_t2 arg49_r2 = 1#1), ∀ a, (k0_off98 arg49_r2) a + S64x1024.size a ≤ S1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h38 => k0_hw5.1.2.2.2.2.2.2.2.2.2.2.2.2.2.2.2.2.2.2.2.2.2.2.2.2.2.2.2.2.2.1 k0_h38
theorem k0_off99_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h39 : k0_cond39 k0_t2 arg49_r2 = 1#1), ∀ a, (k0_off99 arg36_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h39 => k0_hw5.1.2.2.2.2.2.2.2.2.2.2.2.2.2.2.2.2.2.2.2.2.2.2.2.2.2.2.2.2.2.2.1 k0_h39
theorem k0_off100_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h39 : k0_cond39 k0_t2 arg49_r2 = 1#1), ∀ a, (k0_off100 arg36_r2) a + S1x1024x384.size a ≤ S2x1024x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h39 => k0_hw5.1.2.2.2.2.2.2.2.2.2.2.2.2.2.2.2.2.2.2.2.2.2.2.2.2.2.2.2.2.2.2.2 k0_h39
theorem k0_off101_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h39 : k0_cond39 k0_t2 arg49_r2 = 1#1), ∀ a, (k0_off101 arg49_r2) a + S1024x384.size a ≤ S1024x9216.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h39 => k0_hw5.2.1.1 k0_h39
theorem k0_off102_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h40 : k0_cond40 k0_t2 arg49_r2 = 1#1), ∀ a, (k0_off102 arg38_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h40 => k0_hw5.2.1.2.1 k0_h40
theorem k0_off103_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h40 : k0_cond40 k0_t2 arg49_r2 = 1#1), ∀ a, (k0_off103 arg38_r2) a + S1x1x384.size a ≤ S2x1x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h40 => k0_hw5.2.1.2.2.1 k0_h40
theorem k0_off104_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h40 : k0_cond40 k0_t2 arg49_r2 = 1#1), ∀ a, (k0_off104 arg49_r2) a + S1x384.size a ≤ S1x9216.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h40 => k0_hw5.2.1.2.2.2.1 k0_h40
theorem k0_off105_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off105 arg39_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.1 k0_h46
theorem k0_off106_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off106 arg29_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.1 k0_h46
theorem k0_off107_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off107 arg41_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.1 k0_h46
theorem k0_off107_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), (Rect.unit (s := S2x64x1280) (k0_off107 arg41_r2) S1x64x1280.size (k0_off107_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.1 k0_h46 (k0_off107_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)
theorem k0_off108_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off108 arg31_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.1 k0_h46
theorem k0_off109_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off109 arg43_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.1 k0_h46
theorem k0_off109_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), (Rect.unit (s := S2x32x128) (k0_off109 arg43_r2) S1x32x128.size (k0_off109_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.1 k0_h46 (k0_off109_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)
theorem k0_off110_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off110 arg33_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.1 k0_h46
theorem k0_off111_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off111 arg45_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.1 k0_h46
theorem k0_off111_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), (Rect.unit (s := S2x64x1024) (k0_off111 arg45_r2) S1x64x1024.size (k0_off111_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.1 k0_h46 (k0_off111_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46)
theorem k0_off112_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off112 arg36_r2) a + S1x1024x384.size a ≤ S2x1024x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.1 k0_h46
theorem k0_off113_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off113 arg38_r2) a + S1x1x384.size a ≤ S2x1x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.1 k0_h46
theorem k0_off114_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off114 arg47_r2) a + S1x8x384.size a ≤ S2x8x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.2.1 k0_h46
theorem k0_off115_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off115 arg27_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.2.2.1 k0_h46
theorem k0_off116_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off116 arg49_r2) a + S1x1024.size a ≤ S8x3072.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.2.2.2.1 k0_h46
theorem k0_off117_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off117 arg49_r2) a + S1x1024.size a ≤ S8x3072.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.2.2.2.2.1 k0_h46
theorem k0_off118_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h46 : k0_cond46 arg49_r2 = 1#1), ∀ a, (k0_off118 arg49_r2) a + S1x1024.size a ≤ S8x3072.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h46 => k0_hw5.2.1.2.2.2.2.2.2.2.2.2.2.2.2.2.2.2.2.2.2.2.2.1 k0_h46
theorem k0_off119_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off119 arg39_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.1 k0_h47
theorem k0_off120_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off120 arg29_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.1 k0_h47
theorem k0_off121_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off121 arg41_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.1 k0_h47
theorem k0_off121_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), (Rect.unit (s := S2x64x1280) (k0_off121 arg41_r2) S1x64x1280.size (k0_off121_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.1 k0_h47 (k0_off121_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)
theorem k0_off122_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off122 arg31_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.1 k0_h47
theorem k0_off123_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off123 arg43_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.1 k0_h47
theorem k0_off123_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), (Rect.unit (s := S2x32x128) (k0_off123 arg43_r2) S1x32x128.size (k0_off123_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.2.1 k0_h47 (k0_off123_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)
theorem k0_off124_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off124 arg33_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.2.2.1 k0_h47
theorem k0_off125_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off125 arg45_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.2.2.2.1 k0_h47
theorem k0_off125_packedbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), (Rect.unit (s := S2x64x1024) (k0_off125 arg45_r2) S1x64x1024.size (k0_off125_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)).PackedRows (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.2.2.2.2.1 k0_h47 (k0_off125_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47)
theorem k0_off126_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off126 arg36_r2) a + S1x1024x384.size a ≤ S2x1024x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.1.2.2.2.2.2.2.2.2.2.2.2.2.2.2.2.2.2.2.2.2.2.2.2.2.2.2.2.2.2.2.2 k0_h47
theorem k0_off127_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off127 arg38_r2) a + S1x1x384.size a ≤ S2x1x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.2.1.1 k0_h47
theorem k0_off128_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h47 : k0_cond47 arg49_r2 = 1#1), ∀ a, (k0_off128 arg47_r2) a + S1x8x384.size a ≤ S2x8x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h47 => k0_hw5.2.2.1.2.1 k0_h47
theorem k0_off129_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h54 : k0_cond54 k0_t2 arg49_r2 = 1#1), ∀ a, (k0_off129 arg39_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h54 => k0_hw5.2.2.1.2.2.1 k0_h54
theorem k0_off130_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h54 : k0_cond54 k0_t2 arg49_r2 = 1#1), ∀ a, (k0_off130 arg49_r2) a + S1024x1024.size a ≤ S16384x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h54 => k0_hw5.2.2.1.2.2.2.1 k0_h54
theorem k0_off131_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h54 : k0_cond54 k0_t2 arg49_r2 = 1#1), ∀ a, (k0_off131 arg39_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h54 => k0_hw5.2.2.1.2.2.2.2.1 k0_h54
theorem k0_off132_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h55 : k0_cond55 k0_t2 arg49_r2 = 1#1), ∀ a, (k0_off132 arg41_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55 => k0_hw5.2.2.1.2.2.2.2.2.1 k0_h55
theorem k0_off133_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h55 : k0_cond55 k0_t2 arg49_r2 = 1#1), ∀ a, (k0_off133 arg49_r2) a + S64x1280.size a ≤ S1024x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55 => k0_hw5.2.2.1.2.2.2.2.2.2.1 k0_h55
theorem k0_off134_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h55 : k0_cond55 k0_t2 arg49_r2 = 1#1), ∀ a, (k0_off134 arg41_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55 => k0_hw5.2.2.1.2.2.2.2.2.2.2.1 k0_h55
theorem k0_off134_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h55 : k0_cond55 k0_t2 arg49_r2 = 1#1), (Rect.unit (s := S2x64x1280) (k0_off134 arg41_r2) S1x64x1280.size (k0_off134_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55 => k0_hw5.2.2.1.2.2.2.2.2.2.2.2.1 k0_h55 (k0_off134_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55)
theorem k0_off133_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h55 : k0_cond55 k0_t2 arg49_r2 = 1#1), (Rect.unit (s := S1024x1280) (k0_off133 arg49_r2) S64x1280.size (k0_off133_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55 => k0_hw5.2.2.1.2.2.2.2.2.2.2.2.2.1 k0_h55 (k0_off133_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h55)
theorem k0_off135_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h56 : k0_cond56 k0_t2 arg49_r2 = 1#1), ∀ a, (k0_off135 arg43_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56 => k0_hw5.2.2.1.2.2.2.2.2.2.2.2.2.2.1 k0_h56
theorem k0_off136_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h56 : k0_cond56 k0_t2 arg49_r2 = 1#1), ∀ a, (k0_off136 arg49_r2) a + S32x128.size a ≤ S512x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56 => k0_hw5.2.2.1.2.2.2.2.2.2.2.2.2.2.2.1 k0_h56
theorem k0_off137_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h56 : k0_cond56 k0_t2 arg49_r2 = 1#1), ∀ a, (k0_off137 arg43_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56 => k0_hw5.2.2.1.2.2.2.2.2.2.2.2.2.2.2.2.1 k0_h56
theorem k0_off137_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h56 : k0_cond56 k0_t2 arg49_r2 = 1#1), (Rect.unit (s := S2x32x128) (k0_off137 arg43_r2) S1x32x128.size (k0_off137_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56 => k0_hw5.2.2.1.2.2.2.2.2.2.2.2.2.2.2.2.2.1 k0_h56 (k0_off137_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56)
theorem k0_off136_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h56 : k0_cond56 k0_t2 arg49_r2 = 1#1), (Rect.unit (s := S512x128) (k0_off136 arg49_r2) S32x128.size (k0_off136_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56 => k0_hw5.2.2.1.2.2.2.2.2.2.2.2.2.2.2.2.2.2.1 k0_h56 (k0_off136_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h56)
theorem k0_off138_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h57 : k0_cond57 k0_t2 arg49_r2 = 1#1), ∀ a, (k0_off138 arg45_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57 => k0_hw5.2.2.1.2.2.2.2.2.2.2.2.2.2.2.2.2.2.2.1 k0_h57
theorem k0_off139_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h57 : k0_cond57 k0_t2 arg49_r2 = 1#1), ∀ a, (k0_off139 arg49_r2) a + S64x1024.size a ≤ S1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57 => k0_hw5.2.2.1.2.2.2.2.2.2.2.2.2.2.2.2.2.2.2.2.1 k0_h57
theorem k0_off140_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h57 : k0_cond57 k0_t2 arg49_r2 = 1#1), ∀ a, (k0_off140 arg45_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57 => k0_hw5.2.2.1.2.2.2.2.2.2.2.2.2.2.2.2.2.2.2.2.2.1 k0_h57
theorem k0_off140_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h57 : k0_cond57 k0_t2 arg49_r2 = 1#1), (Rect.unit (s := S2x64x1024) (k0_off140 arg45_r2) S1x64x1024.size (k0_off140_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57 => k0_hw5.2.2.1.2.2.2.2.2.2.2.2.2.2.2.2.2.2.2.2.2.2.1 k0_h57 (k0_off140_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57)
theorem k0_off139_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h57 : k0_cond57 k0_t2 arg49_r2 = 1#1), (Rect.unit (s := S1024x1024) (k0_off139 arg49_r2) S64x1024.size (k0_off139_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57 => k0_hw5.2.2.1.2.2.2.2.2.2.2.2.2.2.2.2.2.2.2.2.2.2.2.1 k0_h57 (k0_off139_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h57)
theorem k0_off141_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h58 : k0_cond58 k0_t2 arg49_r2 = 1#1), ∀ a, (k0_off141 arg47_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h58 => k0_hw5.2.2.1.2.2.2.2.2.2.2.2.2.2.2.2.2.2.2.2.2.2.2.2.1 k0_h58
theorem k0_off142_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h58 : k0_cond58 k0_t2 arg49_r2 = 1#1), ∀ a, (k0_off142 arg49_r2) a + S8x384.size a ≤ S8x6144.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h58 => k0_hw5.2.2.1.2.2.2.2.2.2.2.2.2.2.2.2.2.2.2.2.2.2.2.2.2.1 k0_h58
theorem k0_off143_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h58 : k0_cond58 k0_t2 arg49_r2 = 1#1), ∀ a, (k0_off143 arg47_r2) a + S1x8x384.size a ≤ S2x8x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h58 => k0_hw5.2.2.1.2.2.2.2.2.2.2.2.2.2.2.2.2.2.2.2.2.2.2.2.2.2.1 k0_h58
theorem k0_off144_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h65 : k0_cond65 k0_t2 arg49_r2 = 1#1), ∀ a, (k0_off144 arg40_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h65 => k0_hw5.2.2.1.2.2.2.2.2.2.2.2.2.2.2.2.2.2.2.2.2.2.2.2.2.2.2.1 k0_h65
theorem k0_off145_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h65 : k0_cond65 k0_t2 arg49_r2 = 1#1), ∀ a, (k0_off145 arg49_r2) a + S1024x1024.size a ≤ S16384x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h65 => k0_hw5.2.2.1.2.2.2.2.2.2.2.2.2.2.2.2.2.2.2.2.2.2.2.2.2.2.2.2.1 k0_h65
theorem k0_off146_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h65 : k0_cond65 k0_t2 arg49_r2 = 1#1), ∀ a, (k0_off146 arg40_r2) a + S1x1024x1024.size a ≤ S2x1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h65 => k0_hw5.2.2.1.2.2.2.2.2.2.2.2.2.2.2.2.2.2.2.2.2.2.2.2.2.2.2.2.2.1 k0_h65
theorem k0_off147_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h66 : k0_cond66 k0_t2 arg49_r2 = 1#1), ∀ a, (k0_off147 arg42_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66 => k0_hw5.2.2.1.2.2.2.2.2.2.2.2.2.2.2.2.2.2.2.2.2.2.2.2.2.2.2.2.2.2.1 k0_h66
theorem k0_off148_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h66 : k0_cond66 k0_t2 arg49_r2 = 1#1), ∀ a, (k0_off148 arg49_r2) a + S64x1280.size a ≤ S1024x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66 => k0_hw5.2.2.1.2.2.2.2.2.2.2.2.2.2.2.2.2.2.2.2.2.2.2.2.2.2.2.2.2.2.2.1 k0_h66
theorem k0_off149_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h66 : k0_cond66 k0_t2 arg49_r2 = 1#1), ∀ a, (k0_off149 arg42_r2) a + S1x64x1280.size a ≤ S2x64x1280.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66 => k0_hw5.2.2.1.2.2.2.2.2.2.2.2.2.2.2.2.2.2.2.2.2.2.2.2.2.2.2.2.2.2.2.2.1 k0_h66
theorem k0_off149_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h66 : k0_cond66 k0_t2 arg49_r2 = 1#1), (Rect.unit (s := S2x64x1280) (k0_off149 arg42_r2) S1x64x1280.size (k0_off149_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66 => k0_hw5.2.2.1.2.2.2.2.2.2.2.2.2.2.2.2.2.2.2.2.2.2.2.2.2.2.2.2.2.2.2.2.2.1 k0_h66 (k0_off149_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66)
theorem k0_off148_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h66 : k0_cond66 k0_t2 arg49_r2 = 1#1), (Rect.unit (s := S1024x1280) (k0_off148 arg49_r2) S64x1280.size (k0_off148_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66 => k0_hw5.2.2.1.2.2.2.2.2.2.2.2.2.2.2.2.2.2.2.2.2.2.2.2.2.2.2.2.2.2.2.2.2.2.1 k0_h66 (k0_off148_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h66)
theorem k0_off150_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h67 : k0_cond67 k0_t2 arg49_r2 = 1#1), ∀ a, (k0_off150 arg44_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67 => k0_hw5.2.2.1.2.2.2.2.2.2.2.2.2.2.2.2.2.2.2.2.2.2.2.2.2.2.2.2.2.2.2.2.2.2.2 k0_h67
theorem k0_off151_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h67 : k0_cond67 k0_t2 arg49_r2 = 1#1), ∀ a, (k0_off151 arg49_r2) a + S32x128.size a ≤ S512x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67 => k0_hw5.2.2.2.1 k0_h67
theorem k0_off152_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h67 : k0_cond67 k0_t2 arg49_r2 = 1#1), ∀ a, (k0_off152 arg44_r2) a + S1x32x128.size a ≤ S2x32x128.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67 => k0_hw5.2.2.2.2.1 k0_h67
theorem k0_off152_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h67 : k0_cond67 k0_t2 arg49_r2 = 1#1), (Rect.unit (s := S2x32x128) (k0_off152 arg44_r2) S1x32x128.size (k0_off152_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67 => k0_hw5.2.2.2.2.2.1 k0_h67 (k0_off152_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67)
theorem k0_off151_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h67 : k0_cond67 k0_t2 arg49_r2 = 1#1), (Rect.unit (s := S512x128) (k0_off151 arg49_r2) S32x128.size (k0_off151_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67 => k0_hw5.2.2.2.2.2.2.1 k0_h67 (k0_off151_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h67)
theorem k0_off153_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h68 : k0_cond68 k0_t2 arg49_r2 = 1#1), ∀ a, (k0_off153 arg46_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68 => k0_hw5.2.2.2.2.2.2.2.1 k0_h68
theorem k0_off154_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h68 : k0_cond68 k0_t2 arg49_r2 = 1#1), ∀ a, (k0_off154 arg49_r2) a + S64x1024.size a ≤ S1024x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68 => k0_hw5.2.2.2.2.2.2.2.2.1 k0_h68
theorem k0_off155_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h68 : k0_cond68 k0_t2 arg49_r2 = 1#1), ∀ a, (k0_off155 arg46_r2) a + S1x64x1024.size a ≤ S2x64x1024.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68 => k0_hw5.2.2.2.2.2.2.2.2.2.1 k0_h68
theorem k0_off155_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h68 : k0_cond68 k0_t2 arg49_r2 = 1#1), (Rect.unit (s := S2x64x1024) (k0_off155 arg46_r2) S1x64x1024.size (k0_off155_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68 => k0_hw5.2.2.2.2.2.2.2.2.2.2.1 k0_h68 (k0_off155_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68)
theorem k0_off154_wordsbf16 : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h68 : k0_cond68 k0_t2 arg49_r2 = 1#1), (Rect.unit (s := S1024x1024) (k0_off154 arg49_r2) S64x1024.size (k0_off154_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68)).WholeWords (EltTy.packing .bf16) := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68 => k0_hw5.2.2.2.2.2.2.2.2.2.2.2.1 k0_h68 (k0_off154_inb k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h68)
theorem k0_off156_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h69 : k0_cond69 k0_t2 arg49_r2 = 1#1), ∀ a, (k0_off156 arg48_r2) a + S1.size a ≤ S2.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h69 => k0_hw5.2.2.2.2.2.2.2.2.2.2.2.2.1 k0_h69
theorem k0_off157_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h69 : k0_cond69 k0_t2 arg49_r2 = 1#1), ∀ a, (k0_off157 arg49_r2) a + S8x384.size a ≤ S8x6144.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h69 => k0_hw5.2.2.2.2.2.2.2.2.2.2.2.2.2.1 k0_h69
theorem k0_off158_inb : ∀ (k0_t2 : Fin k0_t2_loop.trips) (arg26_r2 : BitVec 32) (arg27_r2 : BitVec 32) (arg28_r2 : BitVec 32) (arg29_r2 : BitVec 32) (arg30_r2 : BitVec 32) (arg31_r2 : BitVec 32) (arg32_r2 : BitVec 32) (arg33_r2 : BitVec 32) (arg35_r2 : BitVec 32) (arg36_r2 : BitVec 32) (arg37_r2 : BitVec 32) (arg38_r2 : BitVec 32) (arg39_r2 : BitVec 32) (arg40_r2 : BitVec 32) (arg41_r2 : BitVec 32) (arg42_r2 : BitVec 32) (arg43_r2 : BitVec 32) (arg44_r2 : BitVec 32) (arg45_r2 : BitVec 32) (arg46_r2 : BitVec 32) (arg47_r2 : BitVec 32) (arg48_r2 : BitVec 32) (arg49_r2 : BitVec 32) (k0_hw5 : k0_chk5 k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2), ∀ (k0_h69 : k0_cond69 k0_t2 arg49_r2 = 1#1), ∀ a, (k0_off158 arg48_r2) a + S1x8x384.size a ≤ S2x8x384.size a := fun k0_t2 arg26_r2 arg27_r2 arg28_r2 arg29_r2 arg30_r2 arg31_r2 arg32_r2 arg33_r2 arg35_r2 arg36_r2 arg37_r2 arg38_r2 arg39_r2 arg40_r2 arg41_r2 arg42_r2 arg43_r2 arg44_r2 arg45_r2 arg46_r2 arg47_r2 arg48_r2 arg49_r2 k0_hw5 k0_h69 => k0_hw5.2.2.2.2.2.2.2.2.2.2.2.2.2.2 k0_h69

def k0_off159 (v85_14_r2 : BitVec 32) : Fin 1 → Nat :=
  let c2_i32_121_r2 : BitVec 32 := 2#32
  let v106_r2 : BitVec 32 := Scalar.remui v85_14_r2 c2_i32_121_r2
  ![v106_r2.toNat]

def k0_off160 (v85_23_r2 : BitVec 32) : Fin 2 → Nat :=
  let c1024_i32_124_r2 : BitVec 32 := 1024#32
  let true_102_r2 : BitVec 1 := 1#1
  let c1_i32_101_r2 : BitVec 32 := 1#32
  let v86_r2 : BitVec 32 := Scalar.subi v85_23_r2 c1_i32_101_r2
  let v87_r2 : BitVec 32 := Scalar.select true_102_r2 v86_r2 v85_23_r2
  let c_m1_i32_103_r2 : BitVec 32 := 4294967295#32
  let v88_r2 : BitVec 1 := Scalar.cmpi .eq v87_r2 c_m1_i32_103_r2
  let c16_i32_104_r2 : BitVec 32 := 16#32
  let v89_r2 : BitVec 32 := Scalar.select v88_r2 c16_i32_104_r2 v87_r2
  let c0_i32_105_r2 : BitVec 32 := 0#32
  let v90_r2 : BitVec 32 := Scalar.addi v89_r2 c0_i32_105_r2
  let c1_i32_122_r2 : BitVec 32 := 1#32
  let v107_r2 : BitVec 32 := Scalar.subi v90_r2 c1_i32_122_r2
  let c0_i32_123_r2 : BitVec 32 := 0#32
  let v108_r2 : BitVec 32 := Scalar.maxsi v107_r2 c0_i32_123_r2
  let v109_r2 : BitVec 32 := Scalar.muli c1024_i32_124_r2 v108_r2
  let c0_i32_125_r2 : BitVec 32 := 0#32
  ![v109_r2.toNat, 0]

def k0_off161 (v85_14_r2 : BitVec 32) : Fin 3 → Nat :=
  let c2_i32_121_r2 : BitVec 32 := 2#32
  let v106_r2 : BitVec 32 := Scalar.remui v85_14_r2 c2_i32_121_r2
  let c0_i32_126_r2 : BitVec 32 := 0#32
  let c0_i32_127_r2 : BitVec 32 := 0#32
  ![v106_r2.toNat, 0, 0]

def k0_chk6 (v85_14_r2 : BitVec 32) : Prop :=
  (∀ a, (k0_off159 v85_14_r2) a + S1.size a ≤ S2.size a) ∧
  (∀ a, (k0_off161 v85_14_r2) a + S1x1024x1024.size a ≤ S2x1024x1024.size a)
theorem k0_off159_inb : ∀ (v85_14_r2 : BitVec 32) (k0_hw6 : k0_chk6 v85_14_r2), ∀ a, (k0_off159 v85_14_r2) a + S1.size a ≤ S2.size a := fun v85_14_r2 k0_hw6 => k0_hw6.1
theorem k0_off161_inb : ∀ (v85_14_r2 : BitVec 32) (k0_hw6 : k0_chk6 v85_14_r2), ∀ a, (k0_off161 v85_14_r2) a + S1x1024x1024.size a ≤ S2x1024x1024.size a := fun v85_14_r2 k0_hw6 => k0_hw6.2

def k0_off162 (v85_16_r2 : BitVec 32) : Fin 1 → Nat :=
  let c2_i32_128_r2 : BitVec 32 := 2#32
  let v115_r2 : BitVec 32 := Scalar.remui v85_16_r2 c2_i32_128_r2
  ![v115_r2.toNat]

def k0_off163 (v85_23_r2 : BitVec 32) : Fin 2 → Nat :=
  let c64_i32_130_r2 : BitVec 32 := 64#32
  let true_102_r2 : BitVec 1 := 1#1
  let c1_i32_101_r2 : BitVec 32 := 1#32
  let v86_r2 : BitVec 32 := Scalar.subi v85_23_r2 c1_i32_101_r2
  let v87_r2 : BitVec 32 := Scalar.select true_102_r2 v86_r2 v85_23_r2
  let c_m1_i32_103_r2 : BitVec 32 := 4294967295#32
  let v88_r2 : BitVec 1 := Scalar.cmpi .eq v87_r2 c_m1_i32_103_r2
  let c16_i32_104_r2 : BitVec 32 := 16#32
  let v89_r2 : BitVec 32 := Scalar.select v88_r2 c16_i32_104_r2 v87_r2
  let c0_i32_105_r2 : BitVec 32 := 0#32
  let v90_r2 : BitVec 32 := Scalar.addi v89_r2 c0_i32_105_r2
  let c15_i32_129_r2 : BitVec 32 := 15#32
  let v116_r2 : BitVec 32 := Scalar.minsi v90_r2 c15_i32_129_r2
  let v117_r2 : BitVec 32 := Scalar.muli c64_i32_130_r2 v116_r2
  let c0_i32_131_r2 : BitVec 32 := 0#32
  ![v117_r2.toNat, 0]
def k0_off164 (v85_16_r2 : BitVec 32) : Fin 3 → Nat :=
  let c2_i32_128_r2 : BitVec 32 := 2#32
  let v115_r2 : BitVec 32 := Scalar.remui v85_16_r2 c2_i32_128_r2
  let c0_i32_132_r2 : BitVec 32 := 0#32
  let c0_i32_133_r2 : BitVec 32 := 0#32
  ![v115_r2.toNat, 0, 0]

def k0_chk8 (v85_16_r2 : BitVec 32) : Prop :=
  (∀ a, (k0_off162 v85_16_r2) a + S1.size a ≤ S2.size a) ∧
  (∀ a, (k0_off164 v85_16_r2) a + S1x64x1280.size a ≤ S2x64x1280.size a) ∧
  (∀ (hinb : ∀ a, (k0_off164 v85_16_r2) a + S1x64x1280.size a ≤ S2x64x1280.size a), (Rect.unit (s := S2x64x1280) (k0_off164 v85_16_r2) S1x64x1280.size hinb).WholeWords (EltTy.packing .bf16))
theorem k0_off162_inb : ∀ (v85_16_r2 : BitVec 32) (k0_hw8 : k0_chk8 v85_16_r2), ∀ a, (k0_off162 v85_16_r2) a + S1.size a ≤ S2.size a := fun v85_16_r2 k0_hw8 => k0_hw8.1
theorem k0_off164_inb : ∀ (v85_16_r2 : BitVec 32) (k0_hw8 : k0_chk8 v85_16_r2), ∀ a, (k0_off164 v85_16_r2) a + S1x64x1280.size a ≤ S2x64x1280.size a := fun v85_16_r2 k0_hw8 => k0_hw8.2.1
theorem k0_off164_wordsbf16 : ∀ (v85_16_r2 : BitVec 32) (k0_hw8 : k0_chk8 v85_16_r2), (Rect.unit (s := S2x64x1280) (k0_off164 v85_16_r2) S1x64x1280.size (k0_off164_inb v85_16_r2 k0_hw8)).WholeWords (EltTy.packing .bf16) := fun v85_16_r2 k0_hw8 => k0_hw8.2.2 (k0_off164_inb v85_16_r2 k0_hw8)

def k0_off165 (v85_18_r2 : BitVec 32) : Fin 1 → Nat :=
  let c2_i32_134_r2 : BitVec 32 := 2#32
  let v123_r2 : BitVec 32 := Scalar.remui v85_18_r2 c2_i32_134_r2
  ![v123_r2.toNat]

def k0_off166 (v85_23_r2 : BitVec 32) : Fin 2 → Nat :=
  let c32_i32_136_r2 : BitVec 32 := 32#32
  let true_102_r2 : BitVec 1 := 1#1
  let c1_i32_101_r2 : BitVec 32 := 1#32
  let v86_r2 : BitVec 32 := Scalar.subi v85_23_r2 c1_i32_101_r2
  let v87_r2 : BitVec 32 := Scalar.select true_102_r2 v86_r2 v85_23_r2
  let c_m1_i32_103_r2 : BitVec 32 := 4294967295#32
  let v88_r2 : BitVec 1 := Scalar.cmpi .eq v87_r2 c_m1_i32_103_r2
  let c16_i32_104_r2 : BitVec 32 := 16#32
  let v89_r2 : BitVec 32 := Scalar.select v88_r2 c16_i32_104_r2 v87_r2
  let c0_i32_105_r2 : BitVec 32 := 0#32
  let v90_r2 : BitVec 32 := Scalar.addi v89_r2 c0_i32_105_r2
  let c15_i32_135_r2 : BitVec 32 := 15#32
  let v124_r2 : BitVec 32 := Scalar.minsi v90_r2 c15_i32_135_r2
  let v125_r2 : BitVec 32 := Scalar.muli c32_i32_136_r2 v124_r2
  let c0_i32_137_r2 : BitVec 32 := 0#32
  ![v125_r2.toNat, 0]
def k0_off167 (v85_18_r2 : BitVec 32) : Fin 3 → Nat :=
  let c2_i32_134_r2 : BitVec 32 := 2#32
  let v123_r2 : BitVec 32 := Scalar.remui v85_18_r2 c2_i32_134_r2
  let c0_i32_138_r2 : BitVec 32 := 0#32
  let c0_i32_139_r2 : BitVec 32 := 0#32
  ![v123_r2.toNat, 0, 0]

def k0_chk9 (v85_18_r2 : BitVec 32) : Prop :=
  (∀ a, (k0_off165 v85_18_r2) a + S1.size a ≤ S2.size a) ∧
  (∀ a, (k0_off167 v85_18_r2) a + S1x32x128.size a ≤ S2x32x128.size a) ∧
  (∀ (hinb : ∀ a, (k0_off167 v85_18_r2) a + S1x32x128.size a ≤ S2x32x128.size a), (Rect.unit (s := S2x32x128) (k0_off167 v85_18_r2) S1x32x128.size hinb).WholeWords (EltTy.packing .bf16))
theorem k0_off165_inb : ∀ (v85_18_r2 : BitVec 32) (k0_hw9 : k0_chk9 v85_18_r2), ∀ a, (k0_off165 v85_18_r2) a + S1.size a ≤ S2.size a := fun v85_18_r2 k0_hw9 => k0_hw9.1
theorem k0_off167_inb : ∀ (v85_18_r2 : BitVec 32) (k0_hw9 : k0_chk9 v85_18_r2), ∀ a, (k0_off167 v85_18_r2) a + S1x32x128.size a ≤ S2x32x128.size a := fun v85_18_r2 k0_hw9 => k0_hw9.2.1
theorem k0_off167_wordsbf16 : ∀ (v85_18_r2 : BitVec 32) (k0_hw9 : k0_chk9 v85_18_r2), (Rect.unit (s := S2x32x128) (k0_off167 v85_18_r2) S1x32x128.size (k0_off167_inb v85_18_r2 k0_hw9)).WholeWords (EltTy.packing .bf16) := fun v85_18_r2 k0_hw9 => k0_hw9.2.2 (k0_off167_inb v85_18_r2 k0_hw9)

def k0_off168 (v85_20_r2 : BitVec 32) : Fin 1 → Nat :=
  let c2_i32_140_r2 : BitVec 32 := 2#32
  let v131_r2 : BitVec 32 := Scalar.remui v85_20_r2 c2_i32_140_r2
  ![v131_r2.toNat]

def k0_off169 (v85_23_r2 : BitVec 32) : Fin 2 → Nat :=
  let c64_i32_142_r2 : BitVec 32 := 64#32
  let true_102_r2 : BitVec 1 := 1#1
  let c1_i32_101_r2 : BitVec 32 := 1#32
  let v86_r2 : BitVec 32 := Scalar.subi v85_23_r2 c1_i32_101_r2
  let v87_r2 : BitVec 32 := Scalar.select true_102_r2 v86_r2 v85_23_r2
  let c_m1_i32_103_r2 : BitVec 32 := 4294967295#32
  let v88_r2 : BitVec 1 := Scalar.cmpi .eq v87_r2 c_m1_i32_103_r2
  let c16_i32_104_r2 : BitVec 32 := 16#32
  let v89_r2 : BitVec 32 := Scalar.select v88_r2 c16_i32_104_r2 v87_r2
  let c0_i32_105_r2 : BitVec 32 := 0#32
  let v90_r2 : BitVec 32 := Scalar.addi v89_r2 c0_i32_105_r2
  let c15_i32_141_r2 : BitVec 32 := 15#32
  let v132_r2 : BitVec 32 := Scalar.minsi v90_r2 c15_i32_141_r2
  let v133_r2 : BitVec 32 := Scalar.muli c64_i32_142_r2 v132_r2
  let c0_i32_143_r2 : BitVec 32 := 0#32
  ![v133_r2.toNat, 0]
def k0_off170 (v85_20_r2 : BitVec 32) : Fin 3 → Nat :=
  let c2_i32_140_r2 : BitVec 32 := 2#32
  let v131_r2 : BitVec 32 := Scalar.remui v85_20_r2 c2_i32_140_r2
  let c0_i32_144_r2 : BitVec 32 := 0#32
  let c0_i32_145_r2 : BitVec 32 := 0#32
  ![v131_r2.toNat, 0, 0]

def k0_chk10 (v85_20_r2 : BitVec 32) : Prop :=
  (∀ a, (k0_off168 v85_20_r2) a + S1.size a ≤ S2.size a) ∧
  (∀ a, (k0_off170 v85_20_r2) a + S1x64x1024.size a ≤ S2x64x1024.size a) ∧
  (∀ (hinb : ∀ a, (k0_off170 v85_20_r2) a + S1x64x1024.size a ≤ S2x64x1024.size a), (Rect.unit (s := S2x64x1024) (k0_off170 v85_20_r2) S1x64x1024.size hinb).WholeWords (EltTy.packing .bf16))
theorem k0_off168_inb : ∀ (v85_20_r2 : BitVec 32) (k0_hw10 : k0_chk10 v85_20_r2), ∀ a, (k0_off168 v85_20_r2) a + S1.size a ≤ S2.size a := fun v85_20_r2 k0_hw10 => k0_hw10.1
theorem k0_off170_inb : ∀ (v85_20_r2 : BitVec 32) (k0_hw10 : k0_chk10 v85_20_r2), ∀ a, (k0_off170 v85_20_r2) a + S1x64x1024.size a ≤ S2x64x1024.size a := fun v85_20_r2 k0_hw10 => k0_hw10.2.1
theorem k0_off170_wordsbf16 : ∀ (v85_20_r2 : BitVec 32) (k0_hw10 : k0_chk10 v85_20_r2), (Rect.unit (s := S2x64x1024) (k0_off170 v85_20_r2) S1x64x1024.size (k0_off170_inb v85_20_r2 k0_hw10)).WholeWords (EltTy.packing .bf16) := fun v85_20_r2 k0_hw10 => k0_hw10.2.2 (k0_off170_inb v85_20_r2 k0_hw10)

def k0_off171 (v85_22_r2 : BitVec 32) : Fin 1 → Nat :=
  let c2_i32_146_r2 : BitVec 32 := 2#32
  let v139_r2 : BitVec 32 := Scalar.remui v85_22_r2 c2_i32_146_r2
  ![v139_r2.toNat]

def k0_off172 (v85_23_r2 : BitVec 32) : Fin 2 → Nat :=
  let c0_i32_149_r2 : BitVec 32 := 0#32
  let c384_i32_148_r2 : BitVec 32 := 384#32
  let true_102_r2 : BitVec 1 := 1#1
  let c1_i32_101_r2 : BitVec 32 := 1#32
  let v86_r2 : BitVec 32 := Scalar.subi v85_23_r2 c1_i32_101_r2
  let v87_r2 : BitVec 32 := Scalar.select true_102_r2 v86_r2 v85_23_r2
  let c_m1_i32_103_r2 : BitVec 32 := 4294967295#32
  let v88_r2 : BitVec 1 := Scalar.cmpi .eq v87_r2 c_m1_i32_103_r2
  let c16_i32_104_r2 : BitVec 32 := 16#32
  let v89_r2 : BitVec 32 := Scalar.select v88_r2 c16_i32_104_r2 v87_r2
  let c0_i32_105_r2 : BitVec 32 := 0#32
  let v90_r2 : BitVec 32 := Scalar.addi v89_r2 c0_i32_105_r2
  let c15_i32_147_r2 : BitVec 32 := 15#32
  let v140_r2 : BitVec 32 := Scalar.minsi v90_r2 c15_i32_147_r2
  let v141_r2 : BitVec 32 := Scalar.muli c384_i32_148_r2 v140_r2
  ![0, v141_r2.toNat]

def k0_chk7 (v85_23_r2 : BitVec 32) : Prop :=
  (∀ a, (k0_off160 v85_23_r2) a + S1024x1024.size a ≤ S16384x1024.size a) ∧
  (∀ a, (k0_off163 v85_23_r2) a + S64x1280.size a ≤ S1024x1280.size a) ∧
  (∀ (hinb : ∀ a, (k0_off163 v85_23_r2) a + S64x1280.size a ≤ S1024x1280.size a), (Rect.unit (s := S1024x1280) (k0_off163 v85_23_r2) S64x1280.size hinb).WholeWords (EltTy.packing .bf16)) ∧
  (∀ a, (k0_off166 v85_23_r2) a + S32x128.size a ≤ S512x128.size a) ∧
  (∀ (hinb : ∀ a, (k0_off166 v85_23_r2) a + S32x128.size a ≤ S512x128.size a), (Rect.unit (s := S512x128) (k0_off166 v85_23_r2) S32x128.size hinb).WholeWords (EltTy.packing .bf16)) ∧
  (∀ a, (k0_off169 v85_23_r2) a + S64x1024.size a ≤ S1024x1024.size a) ∧
  (∀ (hinb : ∀ a, (k0_off169 v85_23_r2) a + S64x1024.size a ≤ S1024x1024.size a), (Rect.unit (s := S1024x1024) (k0_off169 v85_23_r2) S64x1024.size hinb).WholeWords (EltTy.packing .bf16)) ∧
  (∀ a, (k0_off172 v85_23_r2) a + S8x384.size a ≤ S8x6144.size a)
theorem k0_off160_inb : ∀ (v85_23_r2 : BitVec 32) (k0_hw7 : k0_chk7 v85_23_r2), ∀ a, (k0_off160 v85_23_r2) a + S1024x1024.size a ≤ S16384x1024.size a := fun v85_23_r2 k0_hw7 => k0_hw7.1
theorem k0_off163_inb : ∀ (v85_23_r2 : BitVec 32) (k0_hw7 : k0_chk7 v85_23_r2), ∀ a, (k0_off163 v85_23_r2) a + S64x1280.size a ≤ S1024x1280.size a := fun v85_23_r2 k0_hw7 => k0_hw7.2.1
theorem k0_off163_wordsbf16 : ∀ (v85_23_r2 : BitVec 32) (k0_hw7 : k0_chk7 v85_23_r2), (Rect.unit (s := S1024x1280) (k0_off163 v85_23_r2) S64x1280.size (k0_off163_inb v85_23_r2 k0_hw7)).WholeWords (EltTy.packing .bf16) := fun v85_23_r2 k0_hw7 => k0_hw7.2.2.1 (k0_off163_inb v85_23_r2 k0_hw7)
theorem k0_off166_inb : ∀ (v85_23_r2 : BitVec 32) (k0_hw7 : k0_chk7 v85_23_r2), ∀ a, (k0_off166 v85_23_r2) a + S32x128.size a ≤ S512x128.size a := fun v85_23_r2 k0_hw7 => k0_hw7.2.2.2.1
theorem k0_off166_wordsbf16 : ∀ (v85_23_r2 : BitVec 32) (k0_hw7 : k0_chk7 v85_23_r2), (Rect.unit (s := S512x128) (k0_off166 v85_23_r2) S32x128.size (k0_off166_inb v85_23_r2 k0_hw7)).WholeWords (EltTy.packing .bf16) := fun v85_23_r2 k0_hw7 => k0_hw7.2.2.2.2.1 (k0_off166_inb v85_23_r2 k0_hw7)
theorem k0_off169_inb : ∀ (v85_23_r2 : BitVec 32) (k0_hw7 : k0_chk7 v85_23_r2), ∀ a, (k0_off169 v85_23_r2) a + S64x1024.size a ≤ S1024x1024.size a := fun v85_23_r2 k0_hw7 => k0_hw7.2.2.2.2.2.1
theorem k0_off169_wordsbf16 : ∀ (v85_23_r2 : BitVec 32) (k0_hw7 : k0_chk7 v85_23_r2), (Rect.unit (s := S1024x1024) (k0_off169 v85_23_r2) S64x1024.size (k0_off169_inb v85_23_r2 k0_hw7)).WholeWords (EltTy.packing .bf16) := fun v85_23_r2 k0_hw7 => k0_hw7.2.2.2.2.2.2.1 (k0_off169_inb v85_23_r2 k0_hw7)
theorem k0_off172_inb : ∀ (v85_23_r2 : BitVec 32) (k0_hw7 : k0_chk7 v85_23_r2), ∀ a, (k0_off172 v85_23_r2) a + S8x384.size a ≤ S8x6144.size a := fun v85_23_r2 k0_hw7 => k0_hw7.2.2.2.2.2.2.2

def k0_off173 (v85_22_r2 : BitVec 32) : Fin 3 → Nat :=
  let c2_i32_146_r2 : BitVec 32 := 2#32
  let v139_r2 : BitVec 32 := Scalar.remui v85_22_r2 c2_i32_146_r2
  let c0_i32_150_r2 : BitVec 32 := 0#32
  let c0_i32_151_r2 : BitVec 32 := 0#32
  ![v139_r2.toNat, 0, 0]

def k0_chk11 (v85_22_r2 : BitVec 32) : Prop :=
  (∀ a, (k0_off171 v85_22_r2) a + S1.size a ≤ S2.size a) ∧
  (∀ a, (k0_off173 v85_22_r2) a + S1x8x384.size a ≤ S2x8x384.size a)
theorem k0_off171_inb : ∀ (v85_22_r2 : BitVec 32) (k0_hw11 : k0_chk11 v85_22_r2), ∀ a, (k0_off171 v85_22_r2) a + S1.size a ≤ S2.size a := fun v85_22_r2 k0_hw11 => k0_hw11.1
theorem k0_off173_inb : ∀ (v85_22_r2 : BitVec 32) (k0_hw11 : k0_chk11 v85_22_r2), ∀ a, (k0_off173 v85_22_r2) a + S1x8x384.size a ≤ S2x8x384.size a := fun v85_22_r2 k0_hw11 => k0_hw11.2

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== FirstReferenceIdeal.lean ====
abbrev S8x2048x1024 : Shape := ⟨3, ![8, 2048, 1024]⟩
abbrev S8x1024 : Shape := ⟨2, ![8, 1024]⟩
abbrev S1024x9216 : Shape := ⟨2, ![1024, 9216]⟩
abbrev S9216 : Shape := ⟨1, ![9216]⟩
abbrev S1024x2816 : Shape := ⟨2, ![1024, 2816]⟩
abbrev S2816x1024 : Shape := ⟨2, ![2816, 1024]⟩
abbrev S1024 : Shape := ⟨1, ![1024]⟩
abbrev S1024x1280 : Shape := ⟨2, ![1024, 1280]⟩
abbrev S4x128x128 : Shape := ⟨3, ![4, 128, 128]⟩
abbrev S1024x1024 : Shape := ⟨2, ![1024, 1024]⟩
abbrev S_ : Shape := ⟨0, ![]⟩
abbrev S8x9216 : Shape := ⟨2, ![8, 9216]⟩
abbrev S1x9216 : Shape := ⟨2, ![1, 9216]⟩
abbrev S8x3072 : Shape := ⟨2, ![8, 3072]⟩
abbrev S8x1x1024 : Shape := ⟨3, ![8, 1, 1024]⟩
abbrev S8x2048x2816 : Shape := ⟨3, ![8, 2048, 2816]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩
abbrev S8x6144 : Shape := ⟨2, ![8, 6144]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S1024x9216, .f32⟩
  | .hbm, ⟨3, _⟩ => ⟨S9216, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x1280, .f32⟩
  | .hbm, ⟨10, _⟩ => ⟨S4x128x128, .f32⟩
  | .hbm, ⟨11, _⟩ => ⟨S1024x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x9216, .f32⟩
  | .hbm, ⟨22, _⟩ => ⟨S1x9216, .f32⟩
  | .hbm, ⟨23, _⟩ => ⟨S8x9216, .f32⟩
  | .hbm, ⟨24, _⟩ => ⟨S8x9216, .f32⟩
  | .hbm, ⟨25, _⟩ => ⟨S8x3072, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S16384x1024, .f32⟩
  | .hbm, ⟨94, _⟩ => ⟨S8x6144, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proof.Words.lean ====
/- The second feed-forward sub-layer's call: the control words of its software pipeline in closed form.

   The kernel streams sixteen tiles of 1024 rows through seventeen trips. Trip `k` starts the copy of input tile
   `k + 1`, waits for input tile `k`, stores the normalised residual of tile `k - 1` into the output ring and computes
   the residual of tile `k`; it starts the copy of output tile `k - 1` and waits for that of tile `k - 2`. Five words
   are carried from trip to trip: the numbers of input copies started and waited for, of output copies started and
   waited for, and the trip. Everything the trip computes from them is stated here as a function of `k`. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Ffn2

open Cert.KernelIdeal Cert.KernelIdeal.Gen
open Idealize.ShloMosaic
open Idealize.ShloMosaic.TcCoe Idealize.ShloMosaic.Tactic
open Idealize.SL Idealize.SL.RA Idealize.SL.BI

/-! ## The carried words before trip `k` -/

/-- Input copies started. -/
def inStarted (k : ℕ) : BitVec 32 := BitVec.ofNat 32 (min (k + 1) 16)
/-- Input copies waited for. -/
def inWaited (k : ℕ) : BitVec 32 := BitVec.ofNat 32 (if k ≤ 16 then min k 15 else 16)
/-- Output copies started. -/
def outStarted (k : ℕ) : BitVec 32 := BitVec.ofNat 32 (k - 1)
/-- Output copies waited for. -/
def outWaited (k : ℕ) : BitVec 32 := BitVec.ofNat 32 (k - 2)
/-- The trip, back to zero after the last. -/
def trip (k : ℕ) : BitVec 32 := BitVec.ofNat 32 (k % 17)

/-- The five of them. -/
abbrev carried (k : ℕ) : BitVec 32 × BitVec 32 × BitVec 32 × BitVec 32 × BitVec 32 :=
  (inStarted k, inWaited k, outStarted k, outWaited k, trip k)

abbrev K := Fin k0_t1_loop.trips

/-! ## The trip's conditions and its range check -/

theorem chk_trip : ∀ k : K, k0_chk1 k (inStarted k) (inWaited k) (outStarted k) (outWaited k) (trip k) := by decide +kernel
theorem start_in : ∀ k : K, k.val ≤ 14 → k0_cond1 k (trip k) = 1#1 := by decide +kernel
theorem no_start_in : ∀ k : K, 15 ≤ k.val → ¬k0_cond1 k (trip k) = 1#1 := by decide +kernel
theorem wait_in : ∀ k : K, k.val ≤ 15 → k0_cond2 k (trip k) = 1#1 := by decide +kernel
theorem no_wait_in : ∀ k : K, 16 ≤ k.val → ¬k0_cond2 k (trip k) = 1#1 := by decide +kernel
theorem computes : ∀ k : K, k.val ≤ 15 → k0_cond5 (trip k) = 1#1 := by decide +kernel
theorem no_computes : ∀ k : K, 16 ≤ k.val → ¬k0_cond5 (trip k) = 1#1 := by decide +kernel
theorem closes : ∀ k : K, 16 ≤ k.val → k0_cond6 (trip k) = 1#1 := by decide +kernel
theorem no_closes : ∀ k : K, k.val ≤ 15 → ¬k0_cond6 (trip k) = 1#1 := by decide +kernel
theorem start_out : ∀ k : K, 1 ≤ k.val → k0_cond8 k (trip k) = 1#1 := by decide +kernel
theorem no_start_out : ∀ k : K, k.val = 0 → ¬k0_cond8 k (trip k) = 1#1 := by decide +kernel
theorem wait_out : ∀ k : K, 2 ≤ k.val → k0_cond10 k (trip k) = 1#1 := by decide +kernel
theorem no_wait_out : ∀ k : K, k.val ≤ 1 → ¬k0_cond10 k (trip k) = 1#1 := by decide +kernel
/-- The condition under which the weights' copies are waited for: the first trip. -/
abbrev firstTrip (k : K) : BitVec 1 := Scalar.cmpi .ne (Scalar.extui (Scalar.cmpi .eq (Scalar.addi (trip k) 0#32) 0#32) : BitVec 32) 0#32
theorem first_trip : ∀ k : K, k.val = 0 → firstTrip k = 1#1 := by decide +kernel
theorem no_first_trip : ∀ k : K, 1 ≤ k.val → ¬firstTrip k = 1#1 := by decide +kernel
theorem chk_last3 : k0_chk3 (trip 17) := by decide +kernel
theorem chk_last2 : k0_chk2 (outWaited 17) := by decide +kernel

/-! ## Canonical names: tile `b` of the input and of the output, slot `s` of each ring, the slots' semaphores -/

abbrev xM : Memref sig .tc .hbm S16384x1024 .f32 := Memref.whole main_v0
abbrev yM : Memref sig .tc .hbm S16384x1024 .f32 := Memref.whole main_v6
abbrev inM : Memref sig .tc .vmem S2x1024x1024 .f32 := Memref.whole cc0_scoped0
abbrev outM : Memref sig .tc .vmem S2x1024x1024 .f32 := Memref.whole cc0_scoped2

abbrev tileOff (b : Fin 16) : Fin 2 → Nat := ![1024 * b.val, 0]
theorem tileOff_inb (b : Fin 16) : ∀ a, tileOff b a + S1024x1024.size a ≤ S16384x1024.size a := by
  revert b; decide
abbrev slotOff (s : Fin 2) : Fin 3 → Nat := ![s.val, 0, 0]
theorem slotOff_inb (s : Fin 2) : ∀ a, slotOff s a + S1x1024x1024.size a ≤ S2x1024x1024.size a := by
  revert s; decide
abbrev semOff (s : Fin 2) : Fin 1 → Nat := ![s.val]
theorem semOff_inb (s : Fin 2) : ∀ a, semOff s a + S1.size a ≤ S2.size a := by
  revert s; decide

/-- Tile `b` of the input. -/
def xTile (b : Fin 16) : Memref sig .tc .hbm S1024x1024 .f32 :=
  xM.slice (Rect.unit (s := S16384x1024) (tileOff b) S1024x1024.size (tileOff_inb b)) (fun _ => rfl)
/-- Tile `b` of the output. -/
def yTile (b : Fin 16) : Memref sig .tc .hbm S1024x1024 .f32 :=
  yM.slice (Rect.unit (s := S16384x1024) (tileOff b) S1024x1024.size (tileOff_inb b)) (fun _ => rfl)
/-- Slot `s` of the input ring. -/
def inSlot (s : Fin 2) : Memref sig .tc .vmem S1024x1024 .f32 :=
  (inM.slice (Rect.unit (s := S2x1024x1024) (slotOff s) S1x1024x1024.size (slotOff_inb s)) (fun _ => rfl)).squeeze S1024x1024 squeezes_S1x1024x1024_S1024x1024
/-- Slot `s` of the output ring. -/
def outSlot (s : Fin 2) : Memref sig .tc .vmem S1024x1024 .f32 :=
  (outM.slice (Rect.unit (s := S2x1024x1024) (slotOff s) S1x1024x1024.size (slotOff_inb s)) (fun _ => rfl)).squeeze S1024x1024 squeezes_S1x1024x1024_S1024x1024
/-- The input slot's semaphore, -/
def inSem (s : Fin 2) : DmaSems sig S_ := (cc0_scoped1.slice (Rect.unit (s := S2) (semOff s) S1.size (semOff_inb s))).squeeze S_ squeezes_S1_S_
/-- the output slot's, -/
def outSem (s : Fin 2) : DmaSems sig S_ := (cc0_scoped3.slice (Rect.unit (s := S2) (semOff s) S1.size (semOff_inb s))).squeeze S_ squeezes_S1_S_
/-- and those of the three weights' copies. -/
def wSem0 : DmaSems sig S_ := (cc0_scratch4.slice (Rect.unit (s := S3) ![0] S1.size inb_S3_S1_0)).squeeze S_ squeezes_S1_S_
def wSem1 : DmaSems sig S_ := (cc0_scratch4.slice (Rect.unit (s := S3) ![1] S1.size inb_S3_S1_1)).squeeze S_ squeezes_S1_S_
def wSem2 : DmaSems sig S_ := (cc0_scratch4.slice (Rect.unit (s := S3) ![2] S1.size inb_S3_S1_2)).squeeze S_ squeezes_S1_S_

instance (s : Fin 2) : ClosedOff (slotOff s) := ⟨slotOff s, rfl⟩
instance (b : Fin 16) : ClosedOff (tileOff b) := ⟨tileOff b, rfl⟩

/-! ## The trip's offsets -/

theorem off4_eq : ∀ k : K, k.val ≤ 14 → k0_off4 (inStarted k) = semOff (Ring.sl 2 (k.val + 1)) := by decide +kernel
theorem off5_eq : ∀ k : K, k.val ≤ 14 → k0_off5 (inStarted k) = slotOff (Ring.sl 2 (k.val + 1)) := by decide +kernel
theorem off6_eq : ∀ k : K, k.val ≤ 14 → k0_off6 (trip k) = tileOff (Ring.bk 16 (k.val + 1)) := by decide +kernel
theorem off7_eq : ∀ k : K, k.val ≤ 15 → k0_off7 (inWaited k) = semOff (Ring.sl 2 k.val) := by decide +kernel
theorem off8_eq : ∀ k : K, k.val ≤ 15 → k0_off8 (inWaited k) = slotOff (Ring.sl 2 k.val) := by decide +kernel
theorem off9_eq : ∀ k : K, k.val ≤ 15 → k0_off9 (trip k) = tileOff (Ring.bk 16 k.val) := by decide +kernel
/-- The slot the trip's input tile is read from. -/
def readSlot (k : ℕ) : Fin 2 := Ring.sl 2 (min k 15)
theorem off11_eq : ∀ k : K, k0_off11 (inWaited k) = slotOff (readSlot k) := by decide +kernel
theorem readSlot_le {k : ℕ} (h : k ≤ 15) : readSlot k = Ring.sl 2 k := by
  unfold readSlot; rw [min_eq_left h]
/-- The slot the normalised tile goes to: the free one — at the first trip, which normalises zeros, the other. -/
def storeSlot (k : ℕ) : Fin 2 := Ring.sl 2 (if k = 0 then 0 else k + 1)
theorem off10_eq : ∀ k : K, k0_off10 (outStarted k) = slotOff (storeSlot k) := by decide +kernel
theorem off15_eq : ∀ k : K, k0_off15 (outStarted k) = slotOff (storeSlot k) := by decide +kernel
theorem off12_eq : ∀ k : K, k.val ≤ 15 → k0_off12 (trip k) = ![k.val / 2, 0] := by decide +kernel
theorem off13_eq : ∀ k : K, k.val ≤ 15 → k0_off13 (trip k) = ![k.val / 2, 1024] := by decide +kernel
theorem off14_eq : ∀ k : K, k.val ≤ 15 → k0_off14 (trip k) = ![k.val / 2, 2048] := by decide +kernel
theorem off16_eq : ∀ k : K, 1 ≤ k.val → k0_off16 (outStarted k) = semOff (Ring.sl 2 (k.val + 1)) := by decide +kernel
theorem off17_eq : ∀ k : K, 1 ≤ k.val → k0_off17 (trip k) = tileOff (Ring.bk 16 (k.val - 1)) := by decide +kernel
theorem off18_eq : ∀ k : K, 1 ≤ k.val → k0_off18 (outStarted k) = slotOff (Ring.sl 2 (k.val + 1)) := by decide +kernel
theorem off19_eq : ∀ k : K, 2 ≤ k.val → k0_off19 (outWaited k) = semOff (Ring.sl 2 k.val) := by decide +kernel
theorem off20_eq : ∀ k : K, 2 ≤ k.val → k0_off20 (trip k) = tileOff (Ring.bk 16 (k.val - 2)) := by decide +kernel
theorem off21_eq : ∀ k : K, 2 ≤ k.val → k0_off21 (outWaited k) = slotOff (Ring.sl 2 k.val) := by decide +kernel

theorem storeSlot_zero {k : ℕ} (h : k = 0) : storeSlot k = Ring.sl 2 k := by subst h; rfl
theorem storeSlot_pos {k : ℕ} (h : 1 ≤ k) : storeSlot k = Ring.sl 2 (k + 1) := by
  unfold storeSlot; rw [if_neg (by omega)]
theorem sl2_add2 (k : ℕ) : Ring.sl 2 (k + 1 + 1) = Ring.sl 2 k := by rw [show k + 1 + 1 = k + 2 from rfl, Ring.sl_add]

/-! ## The body's slices are those names -/

private theorem sem_congr (A : DmaSems sig S2) {off : Fin 1 → Nat} {s : Fin 2} (e : off = semOff s) (hh) :
    (A.slice (Rect.unit (s := S2) off S1.size hh)).squeeze S_ squeezes_S1_S_
      = (A.slice (Rect.unit (s := S2) (semOff s) S1.size (semOff_inb s))).squeeze S_ squeezes_S1_S_ :=
  congrArg (fun A : DmaSems sig S1 => A.squeeze S_ squeezes_S1_S_) (SemArray.slice_unit_congr _ e _ _)
private theorem slot_congr (A : Memref sig .tc .vmem S2x1024x1024 .f32) {off : Fin 3 → Nat} {s : Fin 2} (e : off = slotOff s) (hh hs) :
    (A.slice (Rect.unit (s := S2x1024x1024) off S1x1024x1024.size hh) hs).squeeze S1024x1024 squeezes_S1x1024x1024_S1024x1024
      = (A.slice (Rect.unit (s := S2x1024x1024) (slotOff s) S1x1024x1024.size (slotOff_inb s)) (fun _ => rfl)).squeeze S1024x1024 squeezes_S1x1024x1024_S1024x1024 :=
  congrArg (fun M : Memref sig .tc .vmem S1x1024x1024 .f32 => M.squeeze S1024x1024 squeezes_S1x1024x1024_S1024x1024) (Memref.slice_unit_congr _ e _ _ _ _)
private theorem tile_congr (A : Memref sig .tc .hbm S16384x1024 .f32) {off : Fin 2 → Nat} {b : Fin 16} (e : off = tileOff b) (hh hs) :
    A.slice (Rect.unit (s := S16384x1024) off S1024x1024.size hh) hs
      = A.slice (Rect.unit (s := S16384x1024) (tileOff b) S1024x1024.size (tileOff_inb b)) (fun _ => rfl) :=
  Memref.slice_unit_congr _ e _ _ _ _

/- The weights' semaphores. -/
@[sl_canon] theorem wSem0_name (hh) : (cc0_scratch4.slice (Rect.unit (s := S3) ![0] S1.size hh)).squeeze S_ squeezes_S1_S_ = wSem0 := rfl
@[sl_canon] theorem wSem1_name (hh) : (cc0_scratch4.slice (Rect.unit (s := S3) ![1] S1.size hh)).squeeze S_ squeezes_S1_S_ = wSem1 := rfl
@[sl_canon] theorem wSem2_name (hh) : (cc0_scratch4.slice (Rect.unit (s := S3) ![2] S1.size hh)).squeeze S_ squeezes_S1_S_ = wSem2 := rfl

/- Before the loop: the first tile's copy, in slot 0. -/
@[sl_canon] theorem sem_first (hh) : (cc0_scoped1.slice (Rect.unit (s := S2) k0_off1 S1.size hh)).squeeze S_ squeezes_S1_S_ = inSem (Ring.sl 2 0) :=
  sem_congr _ (by decide) hh
@[sl_canon] theorem slot_first (hh hs) : (inM.slice (Rect.unit (s := S2x1024x1024) k0_off2 S1x1024x1024.size hh) hs).squeeze S1024x1024 squeezes_S1x1024x1024_S1024x1024 = inSlot (Ring.sl 2 0) :=
  slot_congr _ (by decide) hh hs
@[sl_canon] theorem tile_first (hh hs) : xM.slice (Rect.unit (s := S16384x1024) k0_off3 S1024x1024.size hh) hs = xTile (Ring.bk 16 0) :=
  tile_congr _ (by decide) hh hs

/- The next input tile's copy. -/
@[sl_canon] theorem sem_next (k : K) (hk : k.val ≤ 14) (hh) : (cc0_scoped1.slice (Rect.unit (s := S2) (k0_off4 (inStarted k)) S1.size hh)).squeeze S_ squeezes_S1_S_ = inSem (Ring.sl 2 (k.val + 1)) :=
  sem_congr _ (off4_eq k hk) hh
@[sl_canon] theorem slot_next (k : K) (hk : k.val ≤ 14) (hh hs) : (inM.slice (Rect.unit (s := S2x1024x1024) (k0_off5 (inStarted k)) S1x1024x1024.size hh) hs).squeeze S1024x1024 squeezes_S1x1024x1024_S1024x1024 = inSlot (Ring.sl 2 (k.val + 1)) :=
  slot_congr _ (off5_eq k hk) hh hs
@[sl_canon] theorem tile_next (k : K) (hk : k.val ≤ 14) (hh hs) : xM.slice (Rect.unit (s := S16384x1024) (k0_off6 (trip k)) S1024x1024.size hh) hs = xTile (Ring.bk 16 (k.val + 1)) :=
  tile_congr _ (off6_eq k hk) hh hs

/- The wait for this trip's input tile. -/
@[sl_canon] theorem sem_here (k : K) (hk : k.val ≤ 15) (hh) : (cc0_scoped1.slice (Rect.unit (s := S2) (k0_off7 (inWaited k)) S1.size hh)).squeeze S_ squeezes_S1_S_ = inSem (Ring.sl 2 k.val) :=
  sem_congr _ (off7_eq k hk) hh
@[sl_canon] theorem slot_here (k : K) (hk : k.val ≤ 15) (hh hs) : (inM.slice (Rect.unit (s := S2x1024x1024) (k0_off8 (inWaited k)) S1x1024x1024.size hh) hs).squeeze S1024x1024 squeezes_S1x1024x1024_S1024x1024 = inSlot (Ring.sl 2 k.val) :=
  slot_congr _ (off8_eq k hk) hh hs
@[sl_canon] theorem tile_here (k : K) (hk : k.val ≤ 15) (hh hs) : xM.slice (Rect.unit (s := S16384x1024) (k0_off9 (trip k)) S1024x1024.size hh) hs = xTile (Ring.bk 16 k.val) :=
  tile_congr _ (off9_eq k hk) hh hs

/- The previous tile's copy out. -/
@[sl_canon] theorem sem_out (k : K) (hk : 1 ≤ k.val) (hh) : (cc0_scoped3.slice (Rect.unit (s := S2) (k0_off16 (outStarted k)) S1.size hh)).squeeze S_ squeezes_S1_S_ = outSem (Ring.sl 2 (k.val + 1)) :=
  sem_congr _ (off16_eq k hk) hh
@[sl_canon] theorem tile_out (k : K) (hk : 1 ≤ k.val) (hh hs) : yM.slice (Rect.unit (s := S16384x1024) (k0_off17 (trip k)) S1024x1024.size hh) hs = yTile (Ring.bk 16 (k.val - 1)) :=
  tile_congr _ (off17_eq k hk) hh hs
@[sl_canon] theorem slot_out (k : K) (hk : 1 ≤ k.val) (hh hs) : (outM.slice (Rect.unit (s := S2x1024x1024) (k0_off18 (outStarted k)) S1x1024x1024.size hh) hs).squeeze S1024x1024 squeezes_S1x1024x1024_S1024x1024 = outSlot (Ring.sl 2 (k.val + 1)) :=
  slot_congr _ (off18_eq k hk) hh hs

/- The wait for the copy out of the tile before that. -/
@[sl_canon] theorem sem_back (k : K) (hk : 2 ≤ k.val) (hh) : (cc0_scoped3.slice (Rect.unit (s := S2) (k0_off19 (outWaited k)) S1.size hh)).squeeze S_ squeezes_S1_S_ = outSem (Ring.sl 2 k.val) :=
  sem_congr _ (off19_eq k hk) hh
@[sl_canon] theorem tile_back (k : K) (hk : 2 ≤ k.val) (hh hs) : yM.slice (Rect.unit (s := S16384x1024) (k0_off20 (trip k)) S1024x1024.size hh) hs = yTile (Ring.bk 16 (k.val - 2)) :=
  tile_congr _ (off20_eq k hk) hh hs
@[sl_canon] theorem slot_back (k : K) (hk : 2 ≤ k.val) (hh hs) : (outM.slice (Rect.unit (s := S2x1024x1024) (k0_off21 (outWaited k)) S1x1024x1024.size hh) hs).squeeze S1024x1024 squeezes_S1x1024x1024_S1024x1024 = outSlot (Ring.sl 2 k.val) :=
  slot_congr _ (off21_eq k hk) hh hs

/- After the loop: the wait for the last tile's copy out, in the slot trip 17 would wait for. -/
@[sl_canon] theorem sem_last (hh) : (cc0_scoped3.slice (Rect.unit (s := S2) (k0_off22 (outWaited 17)) S1.size hh)).squeeze S_ squeezes_S1_S_ = outSem (Ring.sl 2 17) :=
  sem_congr _ (by decide) hh
@[sl_canon] theorem tile_last (hh hs) : yM.slice (Rect.unit (s := S16384x1024) (k0_off23 (trip 17)) S1024x1024.size hh) hs = yTile (Ring.bk 16 15) :=
  tile_congr _ (by decide) hh hs
@[sl_canon] theorem slot_last (hh hs) : (outM.slice (Rect.unit (s := S2x1024x1024) (k0_off24 (outWaited 17)) S1x1024x1024.size hh) hs).squeeze S1024x1024 squeezes_S1x1024x1024_S1024x1024 = outSlot (Ring.sl 2 17) :=
  slot_congr _ (by decide) hh hs

instance (k : K) : ClosedOff (k0_off10 (outStarted k)) := ⟨slotOff (storeSlot k), off10_eq k⟩
instance (k : K) : ClosedOff (k0_off11 (inWaited k)) := ⟨slotOff (readSlot k), off11_eq k⟩
instance (k : K) : ClosedOff (k0_off15 (outStarted k)) := ⟨slotOff (storeSlot k), off15_eq k⟩

end Cert.Proof.Ffn2

end
-- ==== Proof.Values.lean ====
/- The second feed-forward sub-layer's call: what its trips compute, tile by tile, and what the run's loads and stores
   read back. -/
module

public import proofs.«01_k».proof.Proof.Words
public import Idealize.ShloMosaic.Lib.VecWindow
public import Idealize.ShloMosaic.Lib.Pipeline.Value

@[expose] public section

noncomputable section

namespace Cert.Proof.Ffn2

open Cert.KernelIdeal Cert.KernelIdeal.Gen
open Idealize.ShloMosaic
open Idealize.ShloMosaic.TcCoe

variable {F : FTy → Type} [FloatOps F]

/-! ## The tiles' values -/

theorem modCols_inb (r : Fin 8) (o : Fin 3) : ∀ a, (![r.val, 3072 + 1024 * o.val] : Fin 2 → ℕ) a + S1x1024.size a ≤ S8x6144.size a := by
  revert r o; decide
/-- The batch element's shift (0), scale (1) or gate (2): 1024 columns of its row of modulations. -/
def modCols (mods : Vec F S8x6144 .f32) (r : Fin 8) (o : Fin 3) : Vec F S1x1024 .f32 :=
  VecWindow.window mods ![r.val, 3072 + 1024 * o.val] S1x1024.size (modCols_inb r o)
/-- The row of modulations of tile `b`: two tiles to a batch element. -/
def modRow (b : Fin 16) : Fin 8 := ⟨b.val / 2, by omega⟩
/-- The residual of a tile `x`, before the layer norm. -/
def resid (mods : Vec F S8x6144 .f32) (w1 w3 : Vec F S1024x2816 .bf16) (w2 : Vec F S2816x1024 .bf16) (r : Fin 8) (x : Vec F S1024x1024 .f32) :
    Vec F S1024x1024 .f32 :=
  k0_pay4 (k0_pay3 x (modCols mods r 0) (modCols mods r 1) (modCols mods r 2) w1 w3 w2)
/-- A tile's residual normalised. -/
def normed (g b : Vec F S1x1024 .f32) (x : Vec F S1024x1024 .f32) : Vec F S1024x1024 .f32 :=
  k0_pay2 (k0_pay1 x g b)

/-! ## What the trip's accesses read -/

/-- A load of the input ring's slot through the whole ring, shape-cast, is the slot's reading. -/
theorem pay2_load {off : Fin 3 → ℕ} {s : Fin 2} (e : off = slotOff s) (inb) (f : inM.view.ty.Contents (Elt F)) :
    k0_pay2 (F := F) (inM.view.readAt (Elt F) (Rect.unit (s := S2x1024x1024) off S1x1024x1024.size inb).toLoadRect f) = (inSlot s).view.read (Elt F) f := by
  subst e
  exact (Memref.read_squeeze_slice inM _ (fun _ => rfl) squeezes_S1x1024x1024_S1024x1024 _ f).symm

/-- A store through a memref's slice, read through a squeeze of that slice: the payload, shape-cast. -/
theorem read_squeeze_write {κ : Kind} {sp : Space} {s s' : Shape} {e : EltTy} (M : Memref sig κ sp s e) {off off' size : Fin s.rank → ℕ} (h : off = off')
    (inb : ∀ a, off a + size a ≤ s.size a) (inb' : ∀ a, off' a + size a ≤ s.size a) (hq : (Rect.unit off' size inb').shape.Squeezes s')
    (hc : (Rect.unit off' size inb').shape.ShapeCasts s')
    (f : (M.access (Rect.unit off size inb)).ty.Contents (Elt F)) (w : (Rect.unit off size inb).shape.Idx → Elt F e) :
    ((M.slice (Rect.unit off' size inb') (fun _ => rfl)).squeeze s' hq).view.read (Elt F) ((M.access (Rect.unit off size inb)).write (Elt F) f w Finset.univ)
      = shapeCast s' (s := (Rect.unit off' size inb').shape) w hc := by
  subst h
  exact (Memref.read_squeeze_slice M _ (fun _ => rfl) hq hc _).trans (congrArg (fun v => shapeCast s' v hc) (View.read_write_univ _ _))

/-- A store to the output ring's slot through the whole ring, read through the slot: the payload, shape-cast. -/
theorem read_store {off : Fin 3 → ℕ} {s : Fin 2} (e : off = slotOff s) (inb)
    (f : (outM.access (Rect.unit (s := S2x1024x1024) off S1x1024x1024.size inb)).ty.Contents (Elt F)) (w : Vec F S1x1024x1024 .f32) :
    (outSlot s).view.read (Elt F) ((outM.access (Rect.unit (s := S2x1024x1024) off S1x1024x1024.size inb)).write (Elt F) f w Finset.univ) = k0_pay2 w :=
  read_squeeze_write outM e inb (slotOff_inb s) squeezes_S1x1024x1024_S1024x1024 shapeCasts_S1x1024x1024_S1024x1024 f w

/-- A load of a batch element's shift, scale or gate through the modulations' slice. -/
theorem load_mods (v : View sig .tc .vmem S8x6144 .f32) (f : v.ty.Contents (Elt F)) {off : Fin 2 → ℕ} {r : Fin 8} {o : Fin 3}
    (e : off = ![r.val, 1024 * o.val]) (inb₀) (inb) (h₀) :
    v.readAt (Elt F) ((Rect.unit (s := S8x6144) ![0, 3072] S8x3072.size inb₀).withinL (Rect.unit (s := S8x3072) off S1x1024.size inb).toLoadRect h₀) f
      = modCols (v.read (Elt F) f) r o := by
  subst e
  funext y
  rw [View.readAt_apply]
  refine (congrArg (v.read (Elt F) f) (Rect.idx_withinL _ _ h₀ y)).trans ?_
  refine congrArg (v.read (Elt F) f) (funext fun a => Fin.ext ?_)
  have e : (![r.val, 3072 + 1024 * o.val] : Fin 2 → ℕ) a = (![0, 3072] : Fin 2 → ℕ) a + (![r.val, 1024 * o.val] : Fin 2 → ℕ) a := by
    revert a; rw [Fin.forall_fin_two]; exact ⟨(Nat.zero_add _).symm, rfl⟩
  show (![0, 3072] : Fin 2 → ℕ) a + 1 * ((![r.val, 1024 * o.val] : Fin 2 → ℕ) a + 1 * (y a).val) = (![r.val, 3072 + 1024 * o.val] : Fin 2 → ℕ) a + 1 * (y a).val
  rw [e]; omega

theorem off12_row : ∀ k : K, k.val ≤ 15 → k0_off12 (trip k) = ![(modRow (Ring.bk 16 k.val)).val, 1024 * (0 : Fin 3).val] := by decide +kernel
theorem off13_row : ∀ k : K, k.val ≤ 15 → k0_off13 (trip k) = ![(modRow (Ring.bk 16 k.val)).val, 1024 * (1 : Fin 3).val] := by decide +kernel
theorem off14_row : ∀ k : K, k.val ≤ 15 → k0_off14 (trip k) = ![(modRow (Ring.bk 16 k.val)).val, 1024 * (2 : Fin 3).val] := by decide +kernel

/-- The residual a trip stores, from what its loads' buffers read. -/
theorem resid_of (k : K) (h : k.val ≤ 15) (vm : View sig .tc .vmem S8x6144 .f32) (v1 v3 : View sig .tc .vmem S1024x2816 .bf16) (v2 : View sig .tc .vmem S2816x1024 .bf16)
    (fi : inM.view.ty.Contents (Elt F)) (fm : vm.ty.Contents (Elt F)) (f1 : v1.ty.Contents (Elt F)) (f3 : v3.ty.Contents (Elt F)) (f2 : v2.ty.Contents (Elt F))
    (i0 i1 i2 i3 j h12 h13 h14 n1 n3 n2) :
    k0_pay4 (k0_pay3 (k0_pay2 (inM.view.readAt (Elt F) (Rect.unit (s := S2x1024x1024) (k0_off11 (inWaited k)) S1x1024x1024.size i0).toLoadRect fi))
        (vm.readAt (Elt F) ((Rect.unit (s := S8x6144) ![0, 3072] S8x3072.size j).withinL (Rect.unit (s := S8x3072) (k0_off12 (trip k)) S1x1024.size i1).toLoadRect h12) fm)
        (vm.readAt (Elt F) ((Rect.unit (s := S8x6144) ![0, 3072] S8x3072.size j).withinL (Rect.unit (s := S8x3072) (k0_off13 (trip k)) S1x1024.size i2).toLoadRect h13) fm)
        (vm.readAt (Elt F) ((Rect.unit (s := S8x6144) ![0, 3072] S8x3072.size j).withinL (Rect.unit (s := S8x3072) (k0_off14 (trip k)) S1x1024.size i3).toLoadRect h14) fm)
        (v1.readAt (Elt F) (Rect.unit (s := S1024x2816) ![0, 0] S1024x2816.size n1).toLoadRect f1)
        (v3.readAt (Elt F) (Rect.unit (s := S1024x2816) ![0, 0] S1024x2816.size n3).toLoadRect f3)
        (v2.readAt (Elt F) (Rect.unit (s := S2816x1024) ![0, 0] S2816x1024.size n2).toLoadRect f2))
      = resid (vm.read (Elt F) fm) (v1.read (Elt F) f1) (v3.read (Elt F) f3) (v2.read (Elt F) f2) (modRow (Ring.bk 16 k.val)) ((inSlot (Ring.sl 2 k.val)).view.read (Elt F) fi) := by
  unfold resid
  rw [pay2_load (s := Ring.sl 2 k.val) ((off11_eq k).trans (by rw [readSlot_le h])), load_mods vm fm (off12_row k h), load_mods vm fm (off13_row k h), load_mods vm fm (off14_row k h)]
  rw [View.readAt_full, View.readAt_full, View.readAt_full]

/-- The normalised tile a trip stores, read through its slot. -/
theorem normed_of {off : Fin 3 → ℕ} {s : Fin 2} (e : off = slotOff s) (inb)
    (f : (outM.access (Rect.unit (s := S2x1024x1024) off S1x1024x1024.size inb)).ty.Contents (Elt F))
    (vr : View sig .tc .vmem S1024x1024 .f32) (vg vb : View sig .tc .vmem S1x1024 .f32)
    (fr : vr.ty.Contents (Elt F)) (fg : vg.ty.Contents (Elt F)) (fb : vb.ty.Contents (Elt F)) (ir ig ib) :
    (outSlot s).view.read (Elt F) ((outM.access (Rect.unit (s := S2x1024x1024) off S1x1024x1024.size inb)).write (Elt F) f
        (k0_pay1 (vr.readAt (Elt F) (Rect.unit (s := S1024x1024) ![0, 0] S1024x1024.size ir).toLoadRect fr)
          (vg.readAt (Elt F) (Rect.unit (s := S1x1024) ![0, 0] S1x1024.size ig).toLoadRect fg)
          (vb.readAt (Elt F) (Rect.unit (s := S1x1024) ![0, 0] S1x1024.size ib).toLoadRect fb)) Finset.univ)
      = normed (vg.read (Elt F) fg) (vb.read (Elt F) fb) (vr.read (Elt F) fr) := by
  rw [read_store e, View.readAt_full, View.readAt_full, View.readAt_full]; rfl

end Cert.Proof.Ffn2

end
-- ==== Proof.Trip.lean ====
/- One trip of the second feed-forward sub-layer's software pipeline, at a symbolic trip number.

   `resAt k` is what the core holds before trip `k`: input tile `k` in flight into its slot, the other slot free; output
   tile `k - 2` in flight out of its slot, the other slot free; the residual of tile `k - 1` in its buffer; the output
   tiles before `k - 2` written. Five cases run it to `resAt (k + 1)`: the first trip, which waits for the weights, the
   second, the third to the fifteenth, the sixteenth, which has no further tile to fetch, and the seventeenth, which
   only normalises. -/
module

public import proofs.«01_k».proof.Proof.Values

@[expose] public section

noncomputable section

namespace Cert.Proof.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's beside the counters of the kernel's own copies -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD) (X : Buf (Elt F) (xM.view.loc (c : Thread nD τ)))

/-- A semaphore of the kernel's own at zero. -/
abbrev cellP (s : DmaSems sig S_) : sProp 𝕄 := semVal ((c : Thread nD τ), SemLoc.dma s.sem) 0
abbrev inP (s : Fin 2) (f : Buf (Elt F) ((inSlot s).view.loc (c : Thread nD τ))) : sProp 𝕄 :=
  (inSlot s).view.loc (c : Thread nD τ) ↦[(inSlot s).view.set]{fullShare} f
abbrev outP (s : Fin 2) (f : Buf (Elt F) ((outSlot s).view.loc (c : Thread nD τ))) : sProp 𝕄 :=
  (outSlot s).view.loc (c : Thread nD τ) ↦[(outSlot s).view.set]{fullShare} f
/-- Tile `b` of the input, held at the input's contents. -/
abbrev xP (b : Fin 16) : sProp 𝕄 := (xTile b).view.loc (c : Thread nD τ) ↦[(xTile b).view.set]{fullShare} X
abbrev yP (b : Fin 16) (f : Buf (Elt F) ((yTile b).view.loc (c : Thread nD τ))) : sProp 𝕄 :=
  (yTile b).view.loc (c : Thread nD τ) ↦[(yTile b).view.set]{fullShare} f
/-- What the copy of tile `b` leaves in slot `s`. -/
abbrev landed (s : Fin 2) (b : Fin 16) (f : Buf (Elt F) ((inSlot s).view.loc (c : Thread nD τ))) : Buf (Elt F) ((inSlot s).view.loc (c : Thread nD τ)) :=
  (inSlot s).view.writes (Elt F) f [⟨Rect.whole S1024x1024, ReadAs.same.apply ((xTile b).view.read (Elt F) X)⟩]
abbrev inFlight (s : Fin 2) (b : Fin 16) (f : Buf (Elt F) ((inSlot s).view.loc (c : Thread nD τ))) : sProp 𝕄 :=
  Transfers.Flight countersEmb (c : Thread nD τ) (SemLoc.dma (inSem s).sem) () 131072 iprop(inP c s (landed c X s b f) ∗ xP c X b)
/-- What the copy out of slot `s`, holding `g`, leaves in tile `b`. -/
abbrev sent (s : Fin 2) (b : Fin 16) (g : Buf (Elt F) ((outSlot s).view.loc (c : Thread nD τ))) (f : Buf (Elt F) ((yTile b).view.loc (c : Thread nD τ))) : Buf (Elt F) ((yTile b).view.loc (c : Thread nD τ)) :=
  (yTile b).view.writes (Elt F) f [⟨Rect.whole S1024x1024, ReadAs.same.apply ((outSlot s).view.read (Elt F) g)⟩]
abbrev outFlight (s : Fin 2) (b : Fin 16) (g : Buf (Elt F) ((outSlot s).view.loc (c : Thread nD τ))) (f : Buf (Elt F) ((yTile b).view.loc (c : Thread nD τ))) : sProp 𝕄 :=
  Transfers.Flight countersEmb (c : Thread nD τ) (SemLoc.dma (outSem s).sem) () 131072 iprop(yP c b (sent c s b g f) ∗ outP c s g)

end Pieces

section Trip
variable (c : Dev nD)

/-- A memref held on its own elements. -/
abbrev ownP {sp : Space} {s : Shape} {e : EltTy} (M : Memref sig .tc sp s e) (f : Buf (Elt F) (M.view.loc (c : Thread nD τ))) : sProp 𝕄 :=
  M.view.loc (c : Thread nD τ) ↦[M.view.set]{fullShare} f

abbrev rM : Memref sig .tc .vmem S1024x1024 .f32 := Memref.whole cc0_scratch0
abbrev w1M : Memref sig .tc .vmem S1024x2816 .bf16 := Memref.whole cc0_scratch1
abbrev w3M : Memref sig .tc .vmem S1024x2816 .bf16 := Memref.whole cc0_scratch2
abbrev w2M : Memref sig .tc .vmem S2816x1024 .bf16 := Memref.whole cc0_scratch3
abbrev w1H : Memref sig .tc .hbm S1024x2816 .bf16 := Memref.whole main_v1
abbrev w3H : Memref sig .tc .hbm S1024x2816 .bf16 := Memref.whole main_v2
abbrev w2H : Memref sig .tc .hbm S2816x1024 .bf16 := Memref.whole main_v3

variable (X : Buf (Elt F) (xM.view.loc (c : Thread nD τ)))
  (V1 : Buf (Elt F) (w1H.view.loc (c : Thread nD τ))) (V3 : Buf (Elt F) (w3H.view.loc (c : Thread nD τ))) (V2 : Buf (Elt F) (w2H.view.loc (c : Thread nD τ)))
  (arg1 : Memref sig .tc .vmem S8x6144 .f32) (harg1 : arg1.IsWhole)
  (arg5 : Memref sig .tc .vmem S1x1024 .f32) (harg5 : arg5.IsWhole)
  (arg6 : Memref sig .tc .vmem S1x1024 .f32) (harg6 : arg6.IsWhole)
  (f1 : Buf (Elt F) (arg1.view.loc (c : Thread nD τ))) (f5 : Buf (Elt F) (arg5.view.loc (c : Thread nD τ))) (f6 : Buf (Elt F) (arg6.view.loc (c : Thread nD τ)))
  (v26 c1024 : BitVec 32)

/-! ## The tiles' values at these contents -/

/-- The residual of tile `b`. -/
def residAt (b : Fin 16) : Vec F S1024x1024 .f32 :=
  resid (arg1.view.read (Elt F) f1) (w1H.view.read (Elt F) V1) (w3H.view.read (Elt F) V3) (w2H.view.read (Elt F) V2) (modRow b) ((xTile b).view.read (Elt F) X)
/-- Output tile `b`. -/
def tileOut (b : Fin 16) : Vec F S1024x1024 .f32 :=
  normed (arg5.view.read (Elt F) f5) (arg6.view.read (Elt F) f6) (residAt c X V1 V3 V2 arg1 f1 b)

/-! ## What the core holds before trip `k` -/

/-- A weight's copy, in flight. -/
abbrev wFlight {s : Shape} (sem : DmaSems sig S_) (D : Memref sig .tc .vmem s .bf16) (H : Memref sig .tc .hbm s .bf16) (N : ℕ)
    (f : Buf (Elt F) (D.view.loc (c : Thread nD τ))) (V : Buf (Elt F) (H.view.loc (c : Thread nD τ))) : sProp 𝕄 :=
  Transfers.Flight countersEmb (c : Thread nD τ) (SemLoc.dma sem.sem) () N
    iprop(ownP c D (D.view.writes (Elt F) f [⟨Rect.whole s, ReadAs.same.apply (H.view.read (Elt F) V)⟩]) ∗ ownP c H V)
/-- A weight arrived: its buffer reads what the source does; the source and the semaphore are back. -/
abbrev wHeld {s : Shape} (sem : DmaSems sig S_) (D : Memref sig .tc .vmem s .bf16) (H : Memref sig .tc .hbm s .bf16)
    (V : Buf (Elt F) (H.view.loc (c : Thread nD τ))) : sProp 𝕄 :=
  iprop((∃ f, ⌜D.view.read (Elt F) f = H.view.read (Elt F) V⌝ ∗ ownP c D f) ∗ ownP c H V ∗ cellP c sem)
/-- The weights: in flight before the first trip, arrived after it. -/
def wAt (k : ℕ) : sProp 𝕄 :=
  if k = 0 then iprop((∃ f, wFlight c wSem0 w1M w1H 180224 f V1) ∗ (∃ f, wFlight c wSem1 w3M w3H 180224 f V3) ∗ (∃ f, wFlight c wSem2 w2M w2H 180224 f V2))
  else iprop(wHeld c wSem0 w1M w1H V1 ∗ wHeld c wSem1 w3M w3H V3 ∗ wHeld c wSem2 w2M w2H V2)
theorem wAt_zero {k : ℕ} (h : k = 0) : wAt c V1 V3 V2 k = iprop((∃ f, wFlight c wSem0 w1M w1H 180224 f V1) ∗ (∃ f, wFlight c wSem1 w3M w3H 180224 f V3) ∗ (∃ f, wFlight c wSem2 w2M w2H 180224 f V2)) := if_pos h
theorem wAt_pos {k : ℕ} (h : k ≠ 0) : wAt c V1 V3 V2 k = iprop(wHeld c wSem0 w1M w1H V1 ∗ wHeld c wSem1 w3M w3H V3 ∗ wHeld c wSem2 w2M w2H V2) := if_neg h

/-- A whole buffer copied whole reads what its source does. -/
theorem arrived {s : Shape} (D : Memref sig .tc .vmem s .bf16) (H : Memref sig .tc .hbm s .bf16) (f : Buf (Elt F) (D.view.loc (c : Thread nD τ)))
    (V : Buf (Elt F) (H.view.loc (c : Thread nD τ))) :
    D.view.read (Elt F) (D.view.writes (Elt F) f [⟨Rect.whole s, ReadAs.same.apply (H.view.read (Elt F) V)⟩]) = H.view.read (Elt F) V :=
  View.read_writes_whole _ _ _
/-- A weight whose buffer reads what the source does has arrived. -/
theorem wHeld_intro {s : Shape} (sem : DmaSems sig S_) (D : Memref sig .tc .vmem s .bf16) (H : Memref sig .tc .hbm s .bf16)
    (V : Buf (Elt F) (H.view.loc (c : Thread nD τ))) {f} (h : D.view.read (Elt F) f = H.view.read (Elt F) V) :
    iprop(ownP c D f ∗ ownP c H V ∗ cellP c sem) ⊢ wHeld c sem D H V := by
  iintro ⟨HD, HH, HC⟩
  isplitl [HD]
  · iexists f; isplitr; · ipureintro; exact h
    iexact HD
  isplitl [HH]; · iexact HH
  iexact HC
/-- All three have. -/
theorem wAt_intro {k : ℕ} (hk : k ≠ 0) {g1 g3 g2} (h1 : w1M.view.read (Elt F) g1 = w1H.view.read (Elt F) V1)
    (h3 : w3M.view.read (Elt F) g3 = w3H.view.read (Elt F) V3) (h2 : w2M.view.read (Elt F) g2 = w2H.view.read (Elt F) V2) :
    iprop((ownP c w1M g1 ∗ ownP c w1H V1 ∗ cellP c wSem0) ∗ (ownP c w3M g3 ∗ ownP c w3H V3 ∗ cellP c wSem1) ∗ (ownP c w2M g2 ∗ ownP c w2H V2 ∗ cellP c wSem2))
      ⊢ wAt c V1 V3 V2 k := by
  rw [wAt_pos c V1 V3 V2 hk]
  exact BI.sep_mono (wHeld_intro c wSem0 w1M w1H V1 h1) (BI.sep_mono (wHeld_intro c wSem1 w3M w3H V3 h3) (wHeld_intro c wSem2 w2M w2H V2 h2))

/-- The residual's buffer: before trip `k` it holds tile `k - 1`'s. -/
def rAt (k : ℕ) : sProp 𝕄 := iprop(∃ f, ⌜1 ≤ k ∧ k ≤ 16 → rM.view.read (Elt F) f = residAt c X V1 V3 V2 arg1 f1 (Ring.bk 16 (k - 1))⌝ ∗ ownP c rM f)

abbrev inFree (s : Fin 2) : sProp 𝕄 := iprop((∃ f, inP c s f) ∗ cellP c (inSem s))
abbrev outFree (s : Fin 2) : sProp 𝕄 := iprop((∃ f, outP c s f) ∗ cellP c (outSem s))
/-- The input slot of tile `k`: the tile in flight, while there is one. -/
def inHere (k : ℕ) : sProp 𝕄 := if k ≤ 15 then iprop(∃ f, inFlight c X (Ring.sl 2 k) (Ring.bk 16 k) f) else inFree c (Ring.sl 2 k)
theorem inHere_le {k : ℕ} (h : k ≤ 15) : inHere c X k = iprop(∃ f, inFlight c X (Ring.sl 2 k) (Ring.bk 16 k) f) := if_pos h
theorem inHere_gt {k : ℕ} (h : ¬k ≤ 15) : inHere c X k = inFree c (Ring.sl 2 k) := if_neg h
/-- The output slot of tile `k - 2`: that tile in flight, once there is one. -/
def outBack (k : ℕ) : sProp 𝕄 :=
  if 2 ≤ k then iprop(∃ g f, ⌜(outSlot (Ring.sl 2 k)).view.read (Elt F) g = tileOut c X V1 V3 V2 arg1 arg5 arg6 f1 f5 f6 (Ring.bk 16 (k - 2))⌝
    ∗ outFlight c (Ring.sl 2 k) (Ring.bk 16 (k - 2)) g f) else outFree c (Ring.sl 2 k)
theorem outBack_ge {k : ℕ} (h : 2 ≤ k) : outBack c X V1 V3 V2 arg1 arg5 arg6 f1 f5 f6 k
    = iprop(∃ g f, ⌜(outSlot (Ring.sl 2 k)).view.read (Elt F) g = tileOut c X V1 V3 V2 arg1 arg5 arg6 f1 f5 f6 (Ring.bk 16 (k - 2))⌝
    ∗ outFlight c (Ring.sl 2 k) (Ring.bk 16 (k - 2)) g f) := if_pos h
theorem outBack_lt {k : ℕ} (h : ¬2 ≤ k) : outBack c X V1 V3 V2 arg1 arg5 arg6 f1 f5 f6 k = outFree c (Ring.sl 2 k) := if_neg h

/-- An output tile at home before trip `k`: written, if its copy was waited for. -/
def yItem (k : ℕ) (b : Fin 16) : sProp 𝕄 :=
  iprop(∃ f, ⌜b.val + 2 < k → (yTile b).view.read (Elt F) f = tileOut c X V1 V3 V2 arg1 arg5 arg6 f1 f5 f6 b⌝ ∗ yP c b f)
/-- The output tiles at home: all but `k - 2`. -/
def ySet (k : ℕ) : Finset (Fin 16) := Finset.univ.filter fun b => b.val + 2 ≠ k
def yRestSet (k : ℕ) : Finset (Fin 16) := Finset.univ.filter fun b => b.val + 2 ≠ k ∧ b.val + 1 ≠ k
def ys (k : ℕ) : sProp 𝕄 := bigSep (ySet k) (yItem c X V1 V3 V2 arg1 arg5 arg6 f1 f5 f6 k)
/-- Those of them that trip `k` doesn't touch: all but `k - 2` and `k - 1`. -/
def yRest (k : ℕ) : sProp 𝕄 := bigSep (yRestSet k) (yItem c X V1 V3 V2 arg1 arg5 arg6 f1 f5 f6 k)

/-- Trip `k` takes tile `k - 1` from home. -/
theorem ys_take {k : ℕ} (h1 : 1 ≤ k) (h16 : k ≤ 16) : ys c X V1 V3 V2 arg1 arg5 arg6 f1 f5 f6 k
    = iprop(yItem c X V1 V3 V2 arg1 arg5 arg6 f1 f5 f6 k (Ring.bk 16 (k - 1)) ∗ yRest c X V1 V3 V2 arg1 arg5 arg6 f1 f5 f6 k) := by
  have e : ySet k = insert (Ring.bk 16 (k - 1)) (yRestSet k) := by
    ext b; simp only [ySet, yRestSet, Finset.mem_insert, Finset.mem_filter, Finset.mem_univ, true_and, Fin.ext_iff, Ring.bk_val (show k - 1 < 16 by omega)]; omega
  unfold ys yRest; rw [e, bigSep_insert]; · rfl
  simp only [yRestSet, Finset.mem_filter, Finset.mem_univ, true_and, Ring.bk_val (show k - 1 < 16 by omega)]; omega
/-- Away from tile `k - 2`, the tiles at home are as good before trip `k + 1` as before trip `k`. -/
theorem yRest_succ (k : ℕ) : yRest c X V1 V3 V2 arg1 arg5 arg6 f1 f5 f6 k = bigSep (yRestSet k) (yItem c X V1 V3 V2 arg1 arg5 arg6 f1 f5 f6 (k + 1)) := by
  refine bigSep_congr fun b hb => ?_
  have hb' : b.val + 2 ≠ k := by simp only [yRestSet, Finset.mem_filter] at hb; exact hb.2.1
  unfold yItem; rw [show (b.val + 2 < k) = (b.val + 2 < k + 1) from propext (by omega)]
/-- Trip `k` brings tile `k - 2` home. -/
theorem ys_put {k : ℕ} (h2 : 2 ≤ k) (h16 : k ≤ 17) : ys c X V1 V3 V2 arg1 arg5 arg6 f1 f5 f6 (k + 1)
    = iprop(yItem c X V1 V3 V2 arg1 arg5 arg6 f1 f5 f6 (k + 1) (Ring.bk 16 (k - 2)) ∗ yRest c X V1 V3 V2 arg1 arg5 arg6 f1 f5 f6 k) := by
  have e : ySet (k + 1) = insert (Ring.bk 16 (k - 2)) (yRestSet k) := by
    ext b; simp only [ySet, yRestSet, Finset.mem_insert, Finset.mem_filter, Finset.mem_univ, true_and, Fin.ext_iff, Ring.bk_val (show k - 2 < 16 by omega)]; omega
  rw [yRest_succ]; unfold ys; rw [e, bigSep_insert]; · rfl
  simp only [yRestSet, Finset.mem_filter, Finset.mem_univ, true_and, Ring.bk_val (show k - 2 < 16 by omega)]; omega
/-- The second trip brings none home, -/
theorem ys_second {k : ℕ} (h : k = 1) : ys c X V1 V3 V2 arg1 arg5 arg6 f1 f5 f6 (k + 1) = yRest c X V1 V3 V2 arg1 arg5 arg6 f1 f5 f6 k := by
  subst h; rw [yRest_succ]; unfold ys; rw [show ySet 2 = yRestSet 1 by decide]
/-- and the first takes none. -/
theorem ys_first {k : ℕ} (h : k = 0) : ys c X V1 V3 V2 arg1 arg5 arg6 f1 f5 f6 (k + 1) = ys c X V1 V3 V2 arg1 arg5 arg6 f1 f5 f6 k := by
  subst h; unfold ys; rw [show ySet 1 = ySet 0 by decide]
  refine bigSep_congr fun b _ => ?_
  unfold yItem; rw [show (b.val + 2 < 0 + 1) = (b.val + 2 < 0) from propext (by omega)]

/-- Trip `k` takes input tile `k + 1` from home, -/
theorem xs_take {k : ℕ} (h : k + 1 < 16) : bigSep (Ring.homeSet 1 k) (xP c X) = iprop(xP c X (Ring.bk 16 (k + 1)) ∗ bigSep ((Ring.homeSet 1 k).erase (Ring.bk 16 (k + 1))) (xP c X)) := by
  conv_lhs => rw [Ring.homeSet_out 1 k h, bigSep_insert (Ring.bkL_not_mem_erase 1 k)]
  rfl
/-- and brings tile `k` home. -/
theorem xs_put {k : ℕ} (h : k + 1 < 16) : bigSep (Ring.homeSet 1 (k + 1)) (xP c X) = iprop(xP c X (Ring.bk 16 k) ∗ bigSep ((Ring.homeSet 1 k).erase (Ring.bk 16 (k + 1))) (xP c X)) := by
  conv_lhs => rw [Ring.homeSet_succ 1 k h, bigSep_insert (Ring.bk_not_mem_erase 1 k (by omega) (by decide))]
  rfl
theorem xs_put_last {k : ℕ} (h : 16 ≤ k + 1) (hk : k < 16) : bigSep (Ring.homeSet 1 (k + 1)) (xP c X) = iprop(xP c X (Ring.bk 16 k) ∗ bigSep (Ring.homeSet 1 k) (xP c X)) := by
  conv_lhs => rw [Ring.homeSet_succ_tail 1 k h hk, bigSep_insert (Ring.bk_not_mem_homeSet 1 k hk (by decide))]
  rfl
theorem xs_all {k : ℕ} (h : 16 ≤ k) : bigSep (Ring.homeSet 1 k) (xP c X) = bigSep Finset.univ (xP c X) := by
  rw [Ring.homeSet_last 1 k h]

/-- What the core holds before trip `k`. -/
def resAt (k : ℕ) : sProp 𝕄 :=
  iprop((∃ W, owes (c : Thread nD τ) 0 W) ∗ ownP c arg1 f1 ∗ ownP c arg5 f5 ∗ ownP c arg6 f6
    ∗ rAt c X V1 V3 V2 arg1 f1 k ∗ wAt c V1 V3 V2 k
    ∗ inHere c X k ∗ inFree c (Ring.sl 2 (k + 1)) ∗ bigSep (Ring.homeSet 1 k) (xP c X)
    ∗ outBack c X V1 V3 V2 arg1 arg5 arg6 f1 f5 f6 k ∗ outFree c (Ring.sl 2 (k + 1)) ∗ ys c X V1 V3 V2 arg1 arg5 arg6 f1 f5 f6 k)

/-! ## The trip -/

abbrev body (k : K) (acc : BitVec 32 × BitVec 32 × BitVec 32 × BitVec 32 × BitVec 32) : Prog (TpuEff nD τ sig (Elt F) Λ₀ .tc) (BitVec 32 × BitVec 32 × BitVec 32 × BitVec 32 × BitVec 32) :=
  k0_t1_body (F := F) xM (Memref.isWhole_whole _) arg1 harg1 w1H (Memref.isWhole_whole _) w3H (Memref.isWhole_whole _)
    w2H (Memref.isWhole_whole _) arg5 harg5 arg6 harg6 yM (Memref.isWhole_whole _) rM (Memref.isWhole_whole _)
    w1M (Memref.isWhole_whole _) w3M (Memref.isWhole_whole _) w2M (Memref.isWhole_whole _)
    cc0_scratch4 inM (Memref.isWhole_whole _) cc0_scoped1 outM (Memref.isWhole_whole _) cc0_scoped3 v26 c1024 k acc

/-- The trip's run, as the five cases state it. -/
abbrev TripRun (k : K) : Prop :=
  resAt c X V1 V3 V2 arg1 arg5 arg6 f1 f5 f6 k.val
    ⊢ wp frame (wpE (defs₀ (F := F)) 𝒱₀ (c : Thread nD τ) none) Set.univ (body arg1 harg1 arg5 harg5 arg6 harg6 v26 c1024 k (carried k.val))
      (fun acc => iprop(⌜acc = carried (k.val + 1)⌝ ∗ resAt c X V1 V3 V2 arg1 arg5 arg6 f1 f5 f6 (k.val + 1)))

/-- The normalised tile in its slot is the previous tile's output. -/
theorem outSlot_reads {k : K} {fr : Buf (Elt F) (rM.view.loc (c : Thread nD τ))} (h1 : 1 ≤ k.val)
    (hr : rM.view.read (Elt F) fr = residAt c X V1 V3 V2 arg1 f1 (Ring.bk 16 (k.val - 1)))
    {off : Fin 3 → ℕ} (e : off = slotOff (Ring.sl 2 (k.val + 1))) (inb) (f) (ir ig ib) :
    (outSlot (Ring.sl 2 (k.val + 1))).view.read (Elt F) ((outM.access (Rect.unit (s := S2x1024x1024) off S1x1024x1024.size inb)).write (Elt F) f
        (k0_pay1 (rM.view.readAt (Elt F) (Rect.unit (s := S1024x1024) ![0, 0] S1024x1024.size ir).toLoadRect fr)
          (arg5.view.readAt (Elt F) (Rect.unit (s := S1x1024) ![0, 0] S1x1024.size ig).toLoadRect f5)
          (arg6.view.readAt (Elt F) (Rect.unit (s := S1x1024) ![0, 0] S1x1024.size ib).toLoadRect f6)) Finset.univ)
      = tileOut c X V1 V3 V2 arg1 arg5 arg6 f1 f5 f6 (Ring.bk 16 (k.val + 1 - 2)) := by
  refine (normed_of e inb f _ _ _ fr f5 f6 ir ig ib).trans ?_
  rw [hr]; unfold tileOut; rw [show k.val + 1 - 2 = k.val - 1 by omega]

/-- The residual the trip stores is tile `k`'s. -/
theorem resid_reads {k : K} (h : k.val ≤ 15) {w : Vec F S1024x1024 .f32} {fw1 fw3 fw2} (e1 : w1M.view.read (Elt F) fw1 = w1H.view.read (Elt F) V1)
    (e3 : w3M.view.read (Elt F) fw3 = w3H.view.read (Elt F) V3) (e2 : w2M.view.read (Elt F) fw2 = w2H.view.read (Elt F) V2) (fi)
    (hw : w = resid (arg1.view.read (Elt F) f1) (w1M.view.read (Elt F) fw1) (w3M.view.read (Elt F) fw3) (w2M.view.read (Elt F) fw2) (modRow (Ring.bk 16 k.val))
      ((inSlot (Ring.sl 2 k.val)).view.read (Elt F) ((inSlot (Ring.sl 2 k.val)).view.writes (Elt F) fi [⟨Rect.whole S1024x1024, ReadAs.same.apply ((xTile (Ring.bk 16 k.val)).view.read (Elt F) X)⟩])))
    (fr) (inb) :
    1 ≤ k.val + 1 ∧ k.val + 1 ≤ 16 → rM.view.read (Elt F) (rM.view.writes (Elt F) fr [⟨Rect.unit (s := S1024x1024) ![0, 0] S1024x1024.size inb, w⟩])
      = residAt c X V1 V3 V2 arg1 f1 (Ring.bk 16 (k.val + 1 - 1)) := by
  intro _
  rw [View.read_writes_full, hw, e1, e3, e2, View.read_writes_whole]; rfl

/-- The tile whose copy out is waited for reads what its slot held. -/
theorem yTile_reads {k : ℕ} (h2 : 2 ≤ k) (h17 : k ≤ 17) {s : Fin 2} {g} (hg : (outSlot s).view.read (Elt F) g = tileOut c X V1 V3 V2 arg1 arg5 arg6 f1 f5 f6 (Ring.bk 16 (k - 2))) (f) (n : ℕ) :
    (Ring.bk 16 (k - 2)).val + 2 < n → (yTile (Ring.bk 16 (k - 2))).view.read (Elt F) (sent c s (Ring.bk 16 (k - 2)) g f) = tileOut c X V1 V3 V2 arg1 arg5 arg6 f1 f5 f6 (Ring.bk 16 (k - 2)) := by
  intro _; exact (View.read_writes_whole _ _ _).trans hg

/-- The third trip to the fifteenth. -/
theorem trip_mid (k : K) (h2 : 2 ≤ k.val) (h14 : k.val ≤ 14) : TripRun c X V1 V3 V2 arg1 harg1 arg5 harg5 arg6 harg6 f1 f5 f6 v26 c1024 k := by
  have h15 : k.val ≤ 15 := by omega
  have h1 : 1 ≤ k.val := by omega
  have hs := storeSlot_pos h1
  have hr := readSlot_le h15
  have e1 := chk_trip k
  have e3 := wait_in k h15
  have e4 := computes k h15
  have e5 := no_closes k h15
  have e2 := start_in k h14
  have e6 := start_out k h1
  have e7 := wait_out k h2
  have e8 := no_first_trip k h1
  unfold TripRun resAt
  rw [wAt_pos c V1 V3 V2 (show k.val ≠ 0 by omega), inHere_le c X h15, inHere_le c X (show k.val + 1 ≤ 15 by omega), xs_take c X (show k.val + 1 < 16 by omega), xs_put c X (show k.val + 1 < 16 by omega), outBack_ge c X V1 V3 V2 arg1 arg5 arg6 f1 f5 f6 h2, outBack_ge c X V1 V3 V2 arg1 arg5 arg6 f1 f5 f6 (show 2 ≤ k.val + 1 by omega), ys_take c X V1 V3 V2 arg1 arg5 arg6 f1 f5 f6 h1 (by omega), ys_put c X V1 V3 V2 arg1 arg5 arg6 f1 f5 f6 h2 (by omega), sl2_add2]
  unfold rAt yItem
  iintro ⟨⟨%W, HW⟩, H1, H5, H6, ⟨%fr, %hfr, HR⟩, ⟨⟨⟨%fw1, %hw1, HW1⟩, HS1, HC1⟩, ⟨⟨%fw3, %hw3, HW3⟩, HS3, HC3⟩, ⟨⟨%fw2, %hw2, HW2⟩, HS2, HC2⟩⟩,
    ⟨%fi, HIF⟩, ⟨⟨%fi', HI⟩, HIC⟩, ⟨HX, HXs⟩, ⟨%g, %fy, %hg, HOF⟩, ⟨⟨%go, HO⟩, HOC⟩, ⟨%fy', -, HY⟩, HYs⟩
  dsimp only [body]
  sl_unfold [k0_t1_body]
  sl_exec
  sl_step
  isplitr
  · ipureintro
    exact (show ∀ k : K, (trip_mid.sl.v94_r0 k, trip_mid.sl.v158_r0 k, trip_mid.sl.v140_r0 k, trip_mid.sl.v154_r0 k, trip_mid.sl.v76_r0 k) = carried (k.val + 1) by decide +kernel) k
  isplitl [HW]; · iexists _; iexact HW
  isplitl [H1]; · iexact H1
  isplitl [H5]; · iexact H5
  isplitl [H6]; · iexact H6
  isplitl [HR]
  · iexists _; isplitr; swap; · iexact HR
    ipureintro; exact resid_reads c X V1 V3 V2 arg1 f1 h15 hw1 hw3 hw2 _ (resid_of k h15 _ _ _ _ _ _ _ _ _ _ _ _ _ _ _ _ _ _ _ _) fr _
  isplitl [HW1 HS1 HC1 HW3 HS3 HC3 HW2 HS2 HC2]
  · iapply (wAt_intro c V1 V3 V2 (Nat.succ_ne_zero _) hw1 hw3 hw2)
    iframe
  isplitl [HIC]; · iexists _; iexact HIC
  isplitl [HIF_dst HIF]
  · isplitl [HIF_dst]; · iexists _; iexact HIF_dst
    iexact HIF
  isplitl [HIF_src HXs]
  · isplitl [HIF_src]; · iexact HIF_src
    iexact HXs
  isplitl [HOC]
  · iexists _; iexists _; isplitr; swap; · iexact HOC
    ipureintro; exact outSlot_reads c X V1 V3 V2 arg1 arg5 arg6 f1 f5 f6 h1 (hfr ⟨h1, by omega⟩) ((off10_eq k).trans (by rw [hs])) _ _ _ _ _
  isplitl [HOF_src HOF]
  · isplitl [HOF_src]; · iexists _; iexact HOF_src
    iexact HOF
  isplitl [HOF_dst]
  · iexists _; isplitr; swap; · iexact HOF_dst
    ipureintro; exact yTile_reads c X V1 V3 V2 arg1 arg5 arg6 f1 f5 f6 h2 (by omega) hg fy _
  iexact HYs

/-- The second trip: no copy out is waited for. -/
theorem trip_second (k : K) (hk : k.val = 1) : TripRun c X V1 V3 V2 arg1 harg1 arg5 harg5 arg6 harg6 f1 f5 f6 v26 c1024 k := by
  have h15 : k.val ≤ 15 := by omega
  have h1 : 1 ≤ k.val := by omega
  have h2 : ¬2 ≤ k.val := by omega
  have hs := storeSlot_pos h1
  have hr := readSlot_le h15
  have e1 := chk_trip k
  have e3 := wait_in k h15
  have e4 := computes k h15
  have e5 := no_closes k h15
  have e2 := start_in k (by omega)
  have e6 := start_out k h1
  have e7 := no_wait_out k (by omega)
  have e8 := no_first_trip k h1
  unfold TripRun resAt
  rw [wAt_pos c V1 V3 V2 (show k.val ≠ 0 by omega), inHere_le c X h15, inHere_le c X (show k.val + 1 ≤ 15 by omega), xs_take c X (show k.val + 1 < 16 by omega), xs_put c X (show k.val + 1 < 16 by omega), outBack_lt c X V1 V3 V2 arg1 arg5 arg6 f1 f5 f6 h2, outBack_ge c X V1 V3 V2 arg1 arg5 arg6 f1 f5 f6 (show 2 ≤ k.val + 1 by omega), ys_take c X V1 V3 V2 arg1 arg5 arg6 f1 f5 f6 h1 (by omega), ys_second c X V1 V3 V2 arg1 arg5 arg6 f1 f5 f6 hk, sl2_add2]
  unfold rAt yItem
  iintro ⟨⟨%W, HW⟩, H1, H5, H6, ⟨%fr, %hfr, HR⟩, ⟨⟨⟨%fw1, %hw1, HW1⟩, HS1, HC1⟩, ⟨⟨%fw3, %hw3, HW3⟩, HS3, HC3⟩, ⟨⟨%fw2, %hw2, HW2⟩, HS2, HC2⟩⟩,
    ⟨%fi, HIF⟩, ⟨⟨%fi', HI⟩, HIC⟩, ⟨HX, HXs⟩, ⟨⟨%g, HOF_src⟩, HOF⟩, ⟨⟨%go, HO⟩, HOC⟩, ⟨%fy', -, HY⟩, HYs⟩
  dsimp only [body]
  sl_unfold [k0_t1_body]
  sl_exec
  sl_step
  isplitr
  · ipureintro
    exact (show ∀ k : K, (trip_second.sl.v94_r0 k, trip_second.sl.v158_r0 k, trip_second.sl.v140_r0 k, trip_second.sl.v154_r0 k, trip_second.sl.v76_r0 k) = carried (k.val + 1) by decide +kernel) k
  isplitl [HW]; · iexists _; iexact HW
  isplitl [H1]; · iexact H1
  isplitl [H5]; · iexact H5
  isplitl [H6]; · iexact H6
  isplitl [HR]
  · iexists _; isplitr; swap; · iexact HR
    ipureintro; exact resid_reads c X V1 V3 V2 arg1 f1 h15 hw1 hw3 hw2 _ (resid_of k h15 _ _ _ _ _ _ _ _ _ _ _ _ _ _ _ _ _ _ _ _) fr _
  isplitl [HW1 HS1 HC1 HW3 HS3 HC3 HW2 HS2 HC2]
  · iapply (wAt_intro c V1 V3 V2 (Nat.succ_ne_zero _) hw1 hw3 hw2)
    iframe
  isplitl [HIC]; · iexists _; iexact HIC
  isplitl [HIF_dst HIF]
  · isplitl [HIF_dst]; · iexists _; iexact HIF_dst
    iexact HIF
  isplitl [HIF_src HXs]
  · isplitl [HIF_src]; · iexact HIF_src
    iexact HXs
  isplitl [HOC]
  · iexists _; iexists _; isplitr; swap; · iexact HOC
    ipureintro; exact outSlot_reads c X V1 V3 V2 arg1 arg5 arg6 f1 f5 f6 h1 (hfr ⟨h1, by omega⟩) ((off10_eq k).trans (by rw [hs])) _ _ _ _ _
  isplitl [HOF_src HOF]
  · isplitl [HOF_src]; · iexists g; iexact HOF_src
    iexact HOF
  iexact HYs

/-- The first trip: the weights' copies are waited for; nothing goes out yet. -/
theorem trip_first (k : K) (hk : k.val = 0) : TripRun c X V1 V3 V2 arg1 harg1 arg5 harg5 arg6 harg6 f1 f5 f6 v26 c1024 k := by
  have h15 : k.val ≤ 15 := by omega
  have h2 : ¬2 ≤ k.val := by omega
  have hs := storeSlot_zero hk
  have hr := readSlot_le h15
  have e1 := chk_trip k
  have e3 := wait_in k h15
  have e4 := computes k h15
  have e5 := no_closes k h15
  have e2 := start_in k (by omega)
  have e6 := no_start_out k hk
  have e7 := no_wait_out k (by omega)
  have e8 := first_trip k hk
  unfold TripRun resAt
  rw [wAt_zero c V1 V3 V2 hk, inHere_le c X h15, inHere_le c X (show k.val + 1 ≤ 15 by omega), xs_take c X (show k.val + 1 < 16 by omega), xs_put c X (show k.val + 1 < 16 by omega), outBack_lt c X V1 V3 V2 arg1 arg5 arg6 f1 f5 f6 h2, outBack_lt c X V1 V3 V2 arg1 arg5 arg6 f1 f5 f6 (show ¬2 ≤ k.val + 1 by omega), ys_first c X V1 V3 V2 arg1 arg5 arg6 f1 f5 f6 hk, sl2_add2]
  unfold rAt
  iintro ⟨⟨%W, HW⟩, H1, H5, H6, ⟨%fr, %hfr, HR⟩, ⟨⟨%fw1, HF1⟩, ⟨%fw3, HF3⟩, ⟨%fw2, HF2⟩⟩,
    ⟨%fi, HIF⟩, ⟨⟨%fi', HI⟩, HIC⟩, ⟨HX, HXs⟩, ⟨⟨%g, HO⟩, HOF⟩, ⟨⟨%go, HO'⟩, HOC⟩, HYs⟩
  dsimp only [body]
  sl_unfold [k0_t1_body]
  sl_exec
  sl_step
  isplitr
  · ipureintro
    exact (show ∀ k : K, (trip_first.sl.v94_r0 k, trip_first.sl.v158_r0 k, trip_first.sl.v140_r0 k, trip_first.sl.v154_r0 k, trip_first.sl.v76_r0 k) = carried (k.val + 1) by decide +kernel) k
  isplitl [HW]; · iexists _; iexact HW
  isplitl [H1]; · iexact H1
  isplitl [H5]; · iexact H5
  isplitl [H6]; · iexact H6
  isplitl [HR]
  · iexists _; isplitr; swap; · iexact HR
    ipureintro
    exact resid_reads c X V1 V3 V2 arg1 f1 h15 (arrived c w1M w1H w1M.view.junk V1) (arrived c w3M w3H w3M.view.junk V3) (arrived c w2M w2H w2M.view.junk V2) _
      (resid_of k h15 arg1.view w1M.view w3M.view w2M.view _ f1
        (w1M.view.writes (Elt F) w1M.view.junk [⟨Rect.whole _, ReadAs.same.apply (w1H.view.read (Elt F) V1)⟩])
        (w3M.view.writes (Elt F) w3M.view.junk [⟨Rect.whole _, ReadAs.same.apply (w3H.view.read (Elt F) V3)⟩])
        (w2M.view.writes (Elt F) w2M.view.junk [⟨Rect.whole _, ReadAs.same.apply (w2H.view.read (Elt F) V2)⟩])
        _ _ _ _ _ _ _ _ _ _ _) fr _
  isplitl [HF1_dst HF1_src HF1 HF3_dst HF3_src HF3 HF2_dst HF2_src HF2]
  · iapply (wAt_intro c V1 V3 V2 (Nat.succ_ne_zero _) (arrived c w1M w1H _ V1) (arrived c w3M w3H _ V3) (arrived c w2M w2H _ V2))
    iframe
    isplitl [HF1]; · iexact HF1
    isplitl [HF3]; · iexact HF3
    iexact HF2
  isplitl [HIC]; · iexists _; iexact HIC
  isplitl [HIF_dst HIF]
  · isplitl [HIF_dst]; · iexists _; iexact HIF_dst
    iexact HIF
  isplitl [HIF_src HXs]
  · isplitl [HIF_src]; · iexact HIF_src
    iexact HXs
  isplitl [HO' HOC]
  · isplitl [HO']; · iexists go; iexact HO'
    iexact HOC
  isplitl [HO HOF]
  · isplitl [HO]; · iexists _; iexact HO
    iexact HOF
  iexact HYs

/-- The sixteenth trip: no further tile is fetched. -/
theorem trip_sixteenth (k : K) (hk : k.val = 15) : TripRun c X V1 V3 V2 arg1 harg1 arg5 harg5 arg6 harg6 f1 f5 f6 v26 c1024 k := by
  have h15 : k.val ≤ 15 := by omega
  have h1 : 1 ≤ k.val := by omega
  have h2 : 2 ≤ k.val := by omega
  have hs := storeSlot_pos h1
  have hr := readSlot_le h15
  have e1 := chk_trip k
  have e3 := wait_in k h15
  have e4 := computes k h15
  have e5 := no_closes k h15
  have e2 := no_start_in k (by omega)
  have e6 := start_out k h1
  have e7 := wait_out k h2
  have e8 := no_first_trip k h1
  unfold TripRun resAt
  rw [wAt_pos c V1 V3 V2 (show k.val ≠ 0 by omega), inHere_le c X h15, inHere_gt c X (show ¬k.val + 1 ≤ 15 by omega), xs_put_last c X (show 16 ≤ k.val + 1 by omega) (by omega), outBack_ge c X V1 V3 V2 arg1 arg5 arg6 f1 f5 f6 h2, outBack_ge c X V1 V3 V2 arg1 arg5 arg6 f1 f5 f6 (show 2 ≤ k.val + 1 by omega), ys_take c X V1 V3 V2 arg1 arg5 arg6 f1 f5 f6 h1 (by omega), ys_put c X V1 V3 V2 arg1 arg5 arg6 f1 f5 f6 h2 (by omega), sl2_add2]
  unfold rAt yItem
  iintro ⟨⟨%W, HW⟩, H1, H5, H6, ⟨%fr, %hfr, HR⟩, ⟨⟨⟨%fw1, %hw1, HW1⟩, HS1, HC1⟩, ⟨⟨%fw3, %hw3, HW3⟩, HS3, HC3⟩, ⟨⟨%fw2, %hw2, HW2⟩, HS2, HC2⟩⟩,
    ⟨%fi, HIF⟩, ⟨⟨%fi', HI⟩, HIC⟩, HXs, ⟨%g, %fy, %hg, HOF⟩, ⟨⟨%go, HO⟩, HOC⟩, ⟨%fy', -, HY⟩, HYs⟩
  dsimp only [body]
  sl_unfold [k0_t1_body]
  sl_exec
  sl_step
  isplitr
  · ipureintro
    exact (show ∀ k : K, (trip_sixteenth.sl.v94_r0 k, trip_sixteenth.sl.v158_r0 k, trip_sixteenth.sl.v140_r0 k, trip_sixteenth.sl.v154_r0 k, trip_sixteenth.sl.v76_r0 k) = carried (k.val + 1) by decide +kernel) k
  isplitl [HW]; · iexists _; iexact HW
  isplitl [H1]; · iexact H1
  isplitl [H5]; · iexact H5
  isplitl [H6]; · iexact H6
  isplitl [HR]
  · iexists _; isplitr; swap; · iexact HR
    ipureintro; exact resid_reads c X V1 V3 V2 arg1 f1 h15 hw1 hw3 hw2 _ (resid_of k h15 _ _ _ _ _ _ _ _ _ _ _ _ _ _ _ _ _ _ _ _) fr _
  isplitl [HW1 HS1 HC1 HW3 HS3 HC3 HW2 HS2 HC2]
  · iapply (wAt_intro c V1 V3 V2 (Nat.succ_ne_zero _) hw1 hw3 hw2)
    iframe
  isplitl [HI HIC]
  · isplitl [HI]; · iexists fi'; iexact HI
    iexact HIC
  isplitl [HIF_dst HIF]
  · isplitl [HIF_dst]; · iexists _; iexact HIF_dst
    iexact HIF
  isplitl [HIF_src HXs]
  · isplitl [HIF_src]; · iexact HIF_src
    iexact HXs
  isplitl [HOC]
  · iexists _; iexists _; isplitr; swap; · iexact HOC
    ipureintro; exact outSlot_reads c X V1 V3 V2 arg1 arg5 arg6 f1 f5 f6 h1 (hfr ⟨h1, by omega⟩) ((off10_eq k).trans (by rw [hs])) _ _ _ _ _
  isplitl [HOF_src HOF]
  · isplitl [HOF_src]; · iexists _; iexact HOF_src
    iexact HOF
  isplitl [HOF_dst]
  · iexists _; isplitr; swap; · iexact HOF_dst
    ipureintro; exact yTile_reads c X V1 V3 V2 arg1 arg5 arg6 f1 f5 f6 h2 (by omega) hg fy _
  iexact HYs

/-- The seventeenth trip only normalises the last tile's residual. -/
theorem trip_last (k : K) (hk : k.val = 16) : TripRun c X V1 V3 V2 arg1 harg1 arg5 harg5 arg6 harg6 f1 f5 f6 v26 c1024 k := by
  have h1 : 1 ≤ k.val := by omega
  have h2 : 2 ≤ k.val := by omega
  have hs := storeSlot_pos h1
  have e1 := chk_trip k
  have e2 := no_start_in k (by omega)
  have e3 := no_wait_in k (by omega)
  have e4 := no_computes k (by omega)
  have e5 := closes k (by omega)
  have e6 := start_out k h1
  have e7 := wait_out k h2
  have e8 := no_first_trip k h1
  unfold TripRun resAt
  rw [wAt_pos c V1 V3 V2 (show k.val ≠ 0 by omega), inHere_gt c X (show ¬k.val ≤ 15 by omega), inHere_gt c X (show ¬k.val + 1 ≤ 15 by omega), xs_all c X (show 16 ≤ k.val by omega), xs_all c X (show 16 ≤ k.val + 1 by omega), outBack_ge c X V1 V3 V2 arg1 arg5 arg6 f1 f5 f6 h2, outBack_ge c X V1 V3 V2 arg1 arg5 arg6 f1 f5 f6 (show 2 ≤ k.val + 1 by omega), ys_take c X V1 V3 V2 arg1 arg5 arg6 f1 f5 f6 h1 (by omega), ys_put c X V1 V3 V2 arg1 arg5 arg6 f1 f5 f6 h2 (by omega), sl2_add2]
  unfold rAt yItem
  iintro ⟨⟨%W, HW⟩, H1, H5, H6, ⟨%fr, %hfr, HR⟩, ⟨⟨⟨%fw1, %hw1, HW1⟩, HS1, HC1⟩, ⟨⟨%fw3, %hw3, HW3⟩, HS3, HC3⟩, ⟨⟨%fw2, %hw2, HW2⟩, HS2, HC2⟩⟩,
    ⟨⟨%fi, HI⟩, HIC⟩, ⟨⟨%fi', HI'⟩, HIC'⟩, HXs, ⟨%g, %fy, %hg, HOF⟩, ⟨⟨%go, HO⟩, HOC⟩, ⟨%fy', -, HY⟩, HYs⟩
  dsimp only [body]
  sl_unfold [k0_t1_body]
  sl_exec
  sl_step
  isplitr
  · ipureintro
    exact (show ∀ k : K, (trip_last.sl.v94_r0 k, trip_last.sl.v158_r0 k, trip_last.sl.v140_r0 k, trip_last.sl.v154_r0 k, trip_last.sl.v76_r0 k) = carried (k.val + 1) by decide +kernel) k
  isplitl [HW]; · iexists _; iexact HW
  isplitl [H1]; · iexact H1
  isplitl [H5]; · iexact H5
  isplitl [H6]; · iexact H6
  isplitl [HR]
  · iexists fr; isplitr; · ipureintro; intro h; omega
    iexact HR
  isplitl [HW1 HS1 HC1 HW3 HS3 HC3 HW2 HS2 HC2]
  · iapply (wAt_intro c V1 V3 V2 (Nat.succ_ne_zero _) hw1 hw3 hw2)
    iframe
  isplitl [HI' HIC']
  · isplitl [HI']; · iexists fi'; iexact HI'
    iexact HIC'
  isplitl [HI HIC]
  · isplitl [HI]; · iexists fi; iexact HI
    iexact HIC
  isplitl [HXs]; · iexact HXs
  isplitl [HOC]
  · iexists _; iexists _; isplitr; swap; · iexact HOC
    ipureintro; exact outSlot_reads c X V1 V3 V2 arg1 arg5 arg6 f1 f5 f6 h1 (hfr ⟨h1, by omega⟩) ((off15_eq k).trans (by rw [hs])) _ _ _ _ _
  isplitl [HOF_src HOF]
  · isplitl [HOF_src]; · iexists _; iexact HOF_src
    iexact HOF
  isplitl [HOF_dst]
  · iexists _; isplitr; swap; · iexact HOF_dst
    ipureintro; exact yTile_reads c X V1 V3 V2 arg1 arg5 arg6 f1 f5 f6 h2 (by omega) hg fy _
  iexact HYs

/-- Every trip's run. -/
theorem trip_run (k : K) : TripRun c X V1 V3 V2 arg1 harg1 arg5 harg5 arg6 harg6 f1 f5 f6 v26 c1024 k := by
  have hk : k.val < 17 := k.isLt
  by_cases h0 : k.val = 0; · exact trip_first c X V1 V3 V2 arg1 harg1 arg5 harg5 arg6 harg6 f1 f5 f6 v26 c1024 k h0
  by_cases h1 : k.val = 1; · exact trip_second c X V1 V3 V2 arg1 harg1 arg5 harg5 arg6 harg6 f1 f5 f6 v26 c1024 k h1
  by_cases h15 : k.val = 15; · exact trip_sixteenth c X V1 V3 V2 arg1 harg1 arg5 harg5 arg6 harg6 f1 f5 f6 v26 c1024 k h15
  by_cases h16 : k.val = 16; · exact trip_last c X V1 V3 V2 arg1 harg1 arg5 harg5 arg6 harg6 f1 f5 f6 v26 c1024 k h16
  exact trip_mid c X V1 V3 V2 arg1 harg1 arg5 harg5 arg6 harg6 f1 f5 f6 v26 c1024 k (by omega) (by omega)

end Trip
end Cert.Proof.Ffn2
end
-- ==== Proof.Body.lean ====
/- The second feed-forward sub-layer's kernel body: the copies it starts with, the seventeen trips, the last wait. -/
module

public import proofs.«01_k».proof.Proof.Trip

@[expose] public section

noncomputable section

namespace Cert.Proof.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (X : Buf (Elt F) (xM.view.loc (c : Thread nD τ)))
  (V1 : Buf (Elt F) (w1H.view.loc (c : Thread nD τ))) (V3 : Buf (Elt F) (w3H.view.loc (c : Thread nD τ))) (V2 : Buf (Elt F) (w2H.view.loc (c : Thread nD τ)))
  (arg1 : Memref sig .tc .vmem S8x6144 .f32) (harg1 : arg1.IsWhole)
  (arg5 : Memref sig .tc .vmem S1x1024 .f32) (harg5 : arg5.IsWhole)
  (arg6 : Memref sig .tc .vmem S1x1024 .f32) (harg6 : arg6.IsWhole)
  (f1 : Buf (Elt F) (arg1.view.loc (c : Thread nD τ))) (f5 : Buf (Elt F) (arg5.view.loc (c : Thread nD τ))) (f6 : Buf (Elt F) (arg6.view.loc (c : Thread nD τ)))

/-- The kernel on these windows. -/
abbrev bodyG : Prog (TpuEff nD τ sig (Elt F) Λ₀ .tc) PUnit :=
  cc0_ffn_sublayer_2 xM (Memref.isWhole_whole _) arg1 harg1 w1H (Memref.isWhole_whole _) w3H (Memref.isWhole_whole _)
    w2H (Memref.isWhole_whole _) arg5 harg5 arg6 harg6 yM (Memref.isWhole_whole _) rM (Memref.isWhole_whole _)
    w1M (Memref.isWhole_whole _) w3M (Memref.isWhole_whole _) w2M (Memref.isWhole_whole _)
    cc0_scratch4 inM (Memref.isWhole_whole _) cc0_scoped1 outM (Memref.isWhole_whole _) cc0_scoped3

/-- A weight at home, its buffer at anything, its semaphore at zero. -/
abbrev wHome {s : Shape} (sem : DmaSems sig S_) (D : Memref sig .tc .vmem s .bf16) (H : Memref sig .tc .hbm s .bf16)
    (V : Buf (Elt F) (H.view.loc (c : Thread nD τ))) : sProp 𝕄 :=
  iprop((∃ f, ownP c D f) ∗ ownP c H V ∗ cellP c sem)

/-- What the body is given and gives back, at output tiles written as before trip `k`. -/
def handed (k : ℕ) : sProp 𝕄 :=
  iprop((∃ W, owes (c : Thread nD τ) 0 W) ∗ ownP c arg1 f1 ∗ ownP c arg5 f5 ∗ ownP c arg6 f6 ∗ (∃ f, ownP c rM f)
    ∗ (wHome c wSem0 w1M w1H V1 ∗ wHome c wSem1 w3M w3H V3 ∗ wHome c wSem2 w2M w2H V2)
    ∗ inFree c (Ring.sl 2 0) ∗ inFree c (Ring.sl 2 (0 + 1)) ∗ bigSep Finset.univ (xP c X) ∗ outFree c (Ring.sl 2 0) ∗ outFree c (Ring.sl 2 (0 + 1))
    ∗ bigSep Finset.univ (yItem c X V1 V3 V2 arg1 arg5 arg6 f1 f5 f6 k))

/-- Before the first trip every tile of the input but tile 0 is at home. -/
theorem xs_start : bigSep Finset.univ (xP c X) = iprop(xP c X (Ring.bk 16 0) ∗ bigSep (Ring.homeSet 1 0) (xP c X)) := by
  rw [show (Finset.univ : Finset (Fin 16)) = insert (Ring.bk 16 0) (Ring.homeSet 1 0) by decide, bigSep_insert (by decide)]; rfl
/-- Every tile of the output is at home then, -/
theorem ys_start : ys c X V1 V3 V2 arg1 arg5 arg6 f1 f5 f6 0 = bigSep Finset.univ (yItem c X V1 V3 V2 arg1 arg5 arg6 f1 f5 f6 0) := by
  unfold ys; rw [show ySet 0 = Finset.univ by decide]
/-- and once the last tile's copy was waited for. -/
theorem ys_end : bigSep Finset.univ (yItem c X V1 V3 V2 arg1 arg5 arg6 f1 f5 f6 18)
    = iprop(yItem c X V1 V3 V2 arg1 arg5 arg6 f1 f5 f6 18 (Ring.bk 16 (17 - 2)) ∗ ys c X V1 V3 V2 arg1 arg5 arg6 f1 f5 f6 17) := by
  have h := ys_put c X V1 V3 V2 arg1 arg5 arg6 f1 f5 f6 (k := 17) (by decide) (by decide)
  rw [yRest_succ, show yRestSet 17 = ySet 17 by decide] at h
  unfold ys at h ⊢
  rw [show ySet (17 + 1) = Finset.univ by decide] at h
  rw [h]
  congr 1
  refine bigSep_congr fun b hb => ?_
  have hb' : b.val + 2 ≠ 17 := by simp only [ySet, Finset.mem_filter] at hb; exact hb.2
  unfold yItem; rw [show (b.val + 2 < 17 + 1) = (b.val + 2 < 17) from propext (by omega)]

/-- The body's run. -/
theorem bodyRun (Q : PUnit → sProp 𝕄) :
    iprop(handed c X V1 V3 V2 arg1 arg5 arg6 f1 f5 f6 0 ∗ (handed c X V1 V3 V2 arg1 arg5 arg6 f1 f5 f6 18 -∗ Q ⟨⟩))
      ⊢ wp frame (wpE (defs₀ (F := F)) 𝒱₀ (c : Thread nD τ) none) Set.univ (bodyG arg1 harg1 arg5 harg5 arg6 harg6) Q := by
  unfold handed
  rw [xs_start, ← ys_start]
  iintro ⟨⟨⟨%W, HW⟩, H1, H5, H6, ⟨%fr, HR⟩, ⟨⟨⟨%fw1, HW1⟩, HS1, HC1⟩, ⟨⟨%fw3, HW3⟩, HS3, HC3⟩, ⟨⟨%fw2, HW2⟩, HS2, HC2⟩⟩,
    ⟨⟨%fi, HI⟩, HIC⟩, HI', ⟨HX, HXs⟩, HO, HO', HYs⟩, Hk⟩
  dsimp only [bodyG]
  sl_unfold [cc0_ffn_sublayer_2]
  sl_exec
  sl_for (fun k acc => iprop(⌜acc = carried k⌝ ∗ resAt c X V1 V3 V2 arg1 arg5 arg6 f1 f5 f6 k)) $$ [HW H1 H5 H6 HR HC1 HC3 HC2 HIC HI' HXs HO HO' HYs]
  case region =>
    intro k acc
    iintro ⟨%h, H⟩
    rw [h]
    iapply (trip_run c X V1 V3 V2 arg1 harg1 arg5 harg5 arg6 harg6 f1 f5 f6 _ _ k)
    iexact H
  · isplitr; · ipureintro; decide +kernel
    unfold resAt
    rw [wAt_zero c V1 V3 V2 rfl, inHere_le c X (Nat.zero_le _), outBack_lt c X V1 V3 V2 arg1 arg5 arg6 f1 f5 f6 (show ¬2 ≤ 0 by decide)]
    unfold rAt
    isplitl [HW]; · iexists _; iexact HW
    isplitl [H1]; · iexact H1
    isplitl [H5]; · iexact H5
    isplitl [H6]; · iexact H6
    isplitl [HR]
    · iexists _; isplitr; swap; · iexact HR
      ipureintro; intro h; omega
    isplitl [HC1 HC3 HC2]
    · isplitl [HC1]; · iexists _; iexact HC1
      isplitl [HC3]; · iexists _; iexact HC3
      iexists _; iexact HC2
    isplitl [HIC]; · iexists _; iexact HIC
    isplitl [HI']; · iexact HI'
    isplitl [HXs]; · iexact HXs
    isplitl [HO]; · iexact HO
    isplitl [HO']; · iexact HO'
    iexact HYs
  iintro %acc ⟨%h, H⟩
  rw [show Scf.trips k0_t1_loop.lb k0_t1_loop.ub k0_t1_loop.st = 17 by decide] at h
  rw [show Scf.trips k0_t1_loop.lb k0_t1_loop.ub k0_t1_loop.st = 17 by decide]
  subst h
  unfold resAt
  rw [wAt_pos c V1 V3 V2 (show 17 ≠ 0 by decide), inHere_gt c X (show ¬17 ≤ 15 by decide), outBack_ge c X V1 V3 V2 arg1 arg5 arg6 f1 f5 f6 (show 2 ≤ 17 by decide),
    xs_all c X (show 16 ≤ 17 by decide), ← xs_start, ys_end]
  unfold rAt
  icases H with ⟨⟨%W', HW⟩, H1, H5, H6, ⟨%fr, -, HR⟩, ⟨⟨⟨%fw1, -, HW1⟩, HS1, HC1⟩, ⟨⟨%fw3, -, HW3⟩, HS3, HC3⟩, ⟨⟨%fw2, -, HW2⟩, HS2, HC2⟩⟩,
    HI, HI', HX, ⟨%g, %fy, %hg, HOF⟩, HO, HYs⟩
  have e3 := chk_last3
  have e2 := chk_last2
  sl_exec
  sl_step
  iapply Hk
  isplitl [HW]; · iexists _; iexact HW
  isplitl [H1]; · iexact H1
  isplitl [H5]; · iexact H5
  isplitl [H6]; · iexact H6
  isplitl [HR]; · iexists _; iexact HR
  isplitl [HW1 HS1 HC1 HW3 HS3 HC3 HW2 HS2 HC2]
  · isplitl [HW1 HS1 HC1]
    · isplitl [HW1]; · iexists _; iexact HW1
      isplitl [HS1]; · iexact HS1
      iexact HC1
    isplitl [HW3 HS3 HC3]
    · isplitl [HW3]; · iexists _; iexact HW3
      isplitl [HS3]; · iexact HS3
      iexact HC3
    isplitl [HW2]; · iexists _; iexact HW2
    isplitl [HS2]; · iexact HS2
    iexact HC2
  isplitl [HI']; · iexact HI'
  isplitl [HI]; · iexact HI
  isplitl [HX]; · iexact HX
  isplitl [HO]; · iexact HO
  isplitl [HOF_src HOF]
  · isplitl [HOF_src]; · iexists g; iexact HOF_src
    iexact HOF
  isplitl [HOF_dst]
  · unfold yItem
    iexists _; isplitr; swap; · iexact HOF_dst
    ipureintro; exact yTile_reads c X V1 V3 V2 arg1 arg5 arg6 f1 f5 f6 (k := 17) (by decide) (by decide) hg fy _
  iexact HYs

end Body
end Cert.Proof.Ffn2
end
-- ==== Proof.Launch.lean ====
/- The second feed-forward sub-layer's launch: the buffers the kernel is given cut into tiles and slots, the kernel's run
   as the one point of its call, and the whole program's run, whose result holds the output tiles one above the other. -/
module

public import proofs.«01_k».proof.Proof.Body
public import proofs.«01_k».proof.Proof.Gen.KernelIdeal.Frame
public import Idealize.ShloMosaic.Lib.ValueIdxCore

@[expose] public section

noncomputable section

namespace Cert.Proof.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
local notation "𝕄" => MT nD τ sig Unit (Elt F) ℕ (UU nD τ) ℕ

/-- An equation of assertions, read from left to right. -/
theorem of_eq {P Q : sProp 𝕄} (e : P = Q) : P ⊢ Q := e ▸ .rfl

/-! ## The sixteen tiles of an array, the two slots of a ring -/

abbrev tileSet (b : Fin 16) : Finset S16384x1024.Idx := (Rect.unit (s := S16384x1024) (tileOff b) S1024x1024.size (tileOff_inb b)).set
abbrev slotSet (s : Fin 2) : Finset S2x1024x1024.Idx := (Rect.unit (s := S2x1024x1024) (slotOff s) S1x1024x1024.size (slotOff_inb s)).set

theorem xTile_set (b : Fin 16) : (xTile b).view.set = tileSet b := View.set_slice_whole _ _
theorem yTile_set (b : Fin 16) : (yTile b).view.set = tileSet b := View.set_slice_whole _ _
theorem inSlot_set (s : Fin 2) : (inSlot s).view.set = slotSet s := (View.set_reshape _ _).trans (View.set_slice_whole _ _)
theorem outSlot_set (s : Fin 2) : (outSlot s).view.set = slotSet s := (View.set_reshape _ _).trans (View.set_slice_whole _ _)

/-- A tile is 1024 whole rows, -/
theorem mem_tileSet (b : Fin 16) (y : S16384x1024.Idx) : y ∈ tileSet b ↔ (y 0).val / 1024 = b.val := by
  have hy : (y 1).val < 1024 := (y 1).isLt
  rw [Rect.mem_set_unit]
  refine ⟨fun H => ?_, fun H => Fin.forall_fin_two.2 ⟨?_, ?_⟩⟩
  · have h0 : 1024 * b.val ≤ (y 0).val ∧ (y 0).val < 1024 * b.val + 1024 := H 0
    omega
  · show 1024 * b.val ≤ (y 0).val ∧ (y 0).val < 1024 * b.val + 1024
    omega
  · show 0 ≤ (y 1).val ∧ (y 1).val < 0 + 1024
    omega
/-- a slot one leading index. -/
theorem mem_slotSet (s : Fin 2) (y : S2x1024x1024.Idx) : y ∈ slotSet s ↔ (y 0).val = s.val := by
  have h1 : (y 1).val < 1024 := (y 1).isLt
  have h2 : (y 2).val < 1024 := (y 2).isLt
  rw [Rect.mem_set_unit]
  refine ⟨fun H => ?_, fun H a => ?_⟩
  · have h0 : s.val ≤ (y 0).val ∧ (y 0).val < s.val + 1 := H 0
    omega
  · match a with
    | ⟨0, _⟩ => show s.val ≤ (y 0).val ∧ (y 0).val < s.val + 1; omega
    | ⟨1, _⟩ => show 0 ≤ (y 1).val ∧ (y 1).val < 0 + 1024; omega
    | ⟨2, _⟩ => show 0 ≤ (y 2).val ∧ (y 2).val < 0 + 1024; omega

/-- Sets told apart by a value of their elements are disjoint, -/
theorem disjoint_of_val {n : ℕ} {α : Type} {I : Fin n → Finset α} {v : α → ℕ} (h : ∀ b y, y ∈ I b ↔ v y = b.val) :
    ∀ b b', b ≠ b' → Disjoint (I b) (I b') := fun b b' hne =>
  Finset.disjoint_left.2 fun y hy hy' => hne (Fin.ext (((h b y).1 hy).symm.trans ((h b' y).1 hy')))
/-- and cover when the value is always in range. -/
theorem cover_of_val {n : ℕ} {α : Type} [Fintype α] [DecidableEq α] {I : Fin n → Finset α} {v : α → ℕ} (h : ∀ b y, y ∈ I b ↔ v y = b.val) (hv : ∀ y, v y < n) :
    Finset.univ.biUnion I = Finset.univ :=
  Finset.eq_univ_of_forall fun y => Finset.mem_biUnion.2 ⟨⟨v y, hv y⟩, Finset.mem_univ _, (h _ y).2 rfl⟩

theorem tile_lt (y : S16384x1024.Idx) : (y 0).val / 1024 < 16 := by
  have h : (y 0).val < 16384 := (y 0).isLt
  omega
theorem tiles_disjoint : ∀ b b' : Fin 16, b ≠ b' → Disjoint (tileSet b) (tileSet b') := disjoint_of_val mem_tileSet
theorem tiles_cover : (Finset.univ : Finset (Fin 16)).biUnion tileSet = Finset.univ := cover_of_val mem_tileSet tile_lt

/-! ## The tiles put together -/

/-- The array whose tile `b` is `T b`. -/
def stack {α : Type} (T : Fin 16 → S1024x1024.Idx → α) : S16384x1024.Idx → α := fun y =>
  T ⟨(y 0).val / 1024, tile_lt y⟩ (ix2 ⟨(y 0).val % 1024, Nat.mod_lt _ (by decide)⟩ ⟨(y 1).val, (y 1).isLt⟩)

/-- Where element `x` of tile `b` lies. -/
def tileIdx (b : Fin 16) (x : S1024x1024.Idx) : S16384x1024.Idx :=
  (Rect.unit (s := S16384x1024) (tileOff b) S1024x1024.size (tileOff_inb b)).idx x
theorem tileIdx_row (b : Fin 16) (x : S1024x1024.Idx) : ((tileIdx b x) 0).val = 1024 * b.val + 1 * (x 0).val := rfl
theorem tileIdx_col (b : Fin 16) (x : S1024x1024.Idx) : ((tileIdx b x) 1).val = 0 + 1 * (x 1).val := rfl

theorem stack_tile {α : Type} (T : Fin 16 → S1024x1024.Idx → α) (b : Fin 16) (x : S1024x1024.Idx) : stack T (tileIdx b x) = T b x := by
  have hx : (x 0).val < 1024 := (x 0).isLt
  unfold stack
  have hb : (⟨((tileIdx b x) 0).val / 1024, tile_lt _⟩ : Fin 16) = b := Fin.ext (by
    show ((tileIdx b x) 0).val / 1024 = b.val
    rw [tileIdx_row]; omega)
  rw [hb]
  refine congrArg (T b) (funext fun a => Fin.ext ?_)
  match a with
  | ⟨0, _⟩ => show ((tileIdx b x) 0).val % 1024 = (x 0).val; rw [tileIdx_row]; omega
  | ⟨1, _⟩ => show ((tileIdx b x) 1).val = (x 1).val; rw [tileIdx_col]; omega

/-- A tile reads an array at its elements. -/
theorem read_xTile (b : Fin 16) (X : S16384x1024.Idx → Elt F .f32) (x : S1024x1024.Idx) : (xTile b).view.read (Elt F) X x = X (tileIdx b x) := rfl
theorem read_yTile (b : Fin 16) (Y : S16384x1024.Idx → Elt F .f32) (x : S1024x1024.Idx) : (yTile b).view.read (Elt F) Y x = Y (tileIdx b x) := rfl

theorem read_stack (T : Fin 16 → Vec F S1024x1024 .f32) (b : Fin 16) :
    (yTile b).view.read (Elt F) (stack T : S16384x1024.Idx → Elt F .f32) = T b :=
  funext fun x => (read_yTile b _ x).trans (stack_tile T b x)

section Whole
variable (c : Dev nD)

/-- A tile of the output at contents that read the same is the same. -/
theorem yP_congr (b : Fin 16) (f g : Buf (Elt F) ((yTile b).view.loc (c : Thread nD τ))) (h : (yTile b).view.read (Elt F) f = (yTile b).view.read (Elt F) g) :
    (yP c b f : sProp 𝕄) = yP c b g :=
  (pointsTo_rep (c : Thread nD τ) (yTile b) f fullShare).trans
    ((congrArg (fun T => ((yTile b).view.loc (c : Thread nD τ) ↦[(yTile b).view.set]{fullShare} (yTile b).view.rep T : sProp 𝕄)) h).trans
      (pointsTo_rep (c : Thread nD τ) (yTile b) g fullShare).symm)

/-- The input whole is its tiles, -/
theorem xs_whole (X : Buf (Elt F) (xM.view.loc (c : Thread nD τ))) :
    (((c : Thread nD τ).loc main_v0) ↦{fullShare} X : sProp 𝕄) = bigSep Finset.univ (xP c X) := by
  rw [Ring.pointsTo_blocks (ℓ := (c : Thread nD τ).loc main_v0) tileSet tiles_disjoint tiles_cover]
  exact bigSep_congr fun b _ => by rw [← xTile_set]; rfl
/-- and so is the output. -/
theorem ys_whole (Y : Buf (Elt F) (yM.view.loc (c : Thread nD τ))) :
    (((c : Thread nD τ).loc main_v6) ↦{fullShare} Y : sProp 𝕄) = bigSep Finset.univ fun b => yP c b Y := by
  rw [Ring.pointsTo_blocks (ℓ := (c : Thread nD τ).loc main_v6) tileSet tiles_disjoint tiles_cover]
  exact bigSep_congr fun b _ => by rw [← yTile_set]; rfl

theorem two (Φ : Fin 2 → sProp 𝕄) : bigSep Finset.univ Φ = iprop(Φ (Ring.sl 2 0) ∗ Φ (Ring.sl 2 (0 + 1))) :=
  bigSep_univ_eq_bigSepL [Ring.sl 2 0, Ring.sl 2 (0 + 1)] (by decide) (by decide) Φ

/-- A ring's buffer at anything is its two slots at anything, -/
theorem ring_split {ℓ : Loc nD τ sig} (I : Fin 2 → Finset (Idx ℓ)) (hd : ∀ s s', s ≠ s' → Disjoint (I s) (I s')) (hc : Finset.univ.biUnion I = Finset.univ) :
    iprop(∃ f : Buf (Elt F) ℓ, ℓ ↦{fullShare} f)
      ⊢ (iprop((∃ f : Buf (Elt F) ℓ, ℓ ↦[I (Ring.sl 2 0)]{fullShare} f) ∗ ∃ f : Buf (Elt F) ℓ, ℓ ↦[I (Ring.sl 2 (0 + 1))]{fullShare} f) : sProp 𝕄) := by
  iintro ⟨%f, H⟩
  ihave H2 := (of_eq ((Ring.pointsTo_blocks (Ix := Unit) (Name := ℕ) (U := UU nD τ) (Lvl := ℕ) (q := fullShare) I hd hc f).trans (two _))) $$ H
  icases H2 with ⟨H0, H1⟩
  isplitl [H0]
  · iexists f; iexact H0
  · iexists f; iexact H1
/-- and back. -/
theorem ring_join {ℓ : Loc nD τ sig} (I : Fin 2 → Finset (Idx ℓ)) (hd : ∀ s s', s ≠ s' → Disjoint (I s) (I s')) (hc : Finset.univ.biUnion I = Finset.univ) :
    iprop((∃ f : Buf (Elt F) ℓ, ℓ ↦[I (Ring.sl 2 0)]{fullShare} f) ∗ ∃ f : Buf (Elt F) ℓ, ℓ ↦[I (Ring.sl 2 (0 + 1))]{fullShare} f)
      ⊢ (iprop(∃ f : Buf (Elt F) ℓ, ℓ ↦{fullShare} f) : sProp 𝕄) := by
  iintro ⟨⟨%f, H0⟩, H1⟩
  iapply (Ring.pointsTo_blocks_join_exists I hd hc f)
  irw [two]
  isplitl [H0]
  · iexists f; iexact H0
  · iexact H1

abbrev inSet (s : Fin 2) : Finset S2x1024x1024.Idx := (inSlot s).view.set
abbrev outSet (s : Fin 2) : Finset S2x1024x1024.Idx := (outSlot s).view.set
theorem mem_inSet (s : Fin 2) (y : S2x1024x1024.Idx) : y ∈ inSet s ↔ (y 0).val = s.val := (congrArg (y ∈ ·) (inSlot_set s)).to_iff.trans (mem_slotSet s y)
theorem mem_outSet (s : Fin 2) (y : S2x1024x1024.Idx) : y ∈ outSet s ↔ (y 0).val = s.val := (congrArg (y ∈ ·) (outSlot_set s)).to_iff.trans (mem_slotSet s y)

theorem in_split : iprop(∃ f : Buf (Elt F) ((c : Thread nD τ).loc cc0_scoped0), ((c : Thread nD τ).loc cc0_scoped0) ↦{fullShare} f)
    ⊢ (iprop((∃ f, inP c (Ring.sl 2 0) f) ∗ ∃ f, inP c (Ring.sl 2 (0 + 1)) f) : sProp 𝕄) :=
  ring_split (ℓ := (c : Thread nD τ).loc cc0_scoped0) inSet (disjoint_of_val mem_inSet) (cover_of_val mem_inSet fun y => (y 0).isLt)
theorem in_join : (iprop((∃ f, inP c (Ring.sl 2 0) f) ∗ ∃ f, inP c (Ring.sl 2 (0 + 1)) f) : sProp 𝕄)
    ⊢ iprop(∃ f : Buf (Elt F) ((c : Thread nD τ).loc cc0_scoped0), ((c : Thread nD τ).loc cc0_scoped0) ↦{fullShare} f) :=
  ring_join (ℓ := (c : Thread nD τ).loc cc0_scoped0) inSet (disjoint_of_val mem_inSet) (cover_of_val mem_inSet fun y => (y 0).isLt)
theorem out_split : iprop(∃ f : Buf (Elt F) ((c : Thread nD τ).loc cc0_scoped2), ((c : Thread nD τ).loc cc0_scoped2) ↦{fullShare} f)
    ⊢ (iprop((∃ f, outP c (Ring.sl 2 0) f) ∗ ∃ f, outP c (Ring.sl 2 (0 + 1)) f) : sProp 𝕄) :=
  ring_split (ℓ := (c : Thread nD τ).loc cc0_scoped2) outSet (disjoint_of_val mem_outSet) (cover_of_val mem_outSet fun y => (y 0).isLt)
theorem out_join : (iprop((∃ f, outP c (Ring.sl 2 0) f) ∗ ∃ f, outP c (Ring.sl 2 (0 + 1)) f) : sProp 𝕄)
    ⊢ iprop(∃ f : Buf (Elt F) ((c : Thread nD τ).loc cc0_scoped2), ((c : Thread nD τ).loc cc0_scoped2) ↦{fullShare} f) :=
  ring_join (ℓ := (c : Thread nD τ).loc cc0_scoped2) outSet (disjoint_of_val mem_outSet) (cover_of_val mem_outSet fun y => (y 0).isLt)

/-- A whole buffer's memref is held on all its elements. -/
theorem ownP_whole (r : Ref sig .tc) (f : Buf (Elt F) ((c : Thread nD τ).loc r)) :
    ownP c (Memref.whole r) f = (((c : Thread nD τ).loc r) ↦{fullShare} f : sProp 𝕄) :=
  congrArg (fun S => (_ ↦[S]{fullShare} f : sProp 𝕄)) (View.set_whole r)
theorem some_whole (r : Ref sig .tc) : iprop(∃ f, ownP (F := F) c (Memref.whole r) f)
    = (iprop(∃ f : Buf (Elt F) ((c : Thread nD τ).loc r), ((c : Thread nD τ).loc r) ↦{fullShare} f) : sProp 𝕄) :=
  congrArg _ (funext fun f => ownP_whole c r f)

end Whole

section Run
variable (m : (ℓ : Loc nD τ sig) → Buf (Elt F) ℓ) (ρ : Dev nD → PrngReg)

/-! ## The kernel's own semaphores -/

abbrev osem : Fin 7 → SemLoc sig :=
  ![.dma wSem0.sem, .dma wSem1.sem, .dma wSem2.sem, .dma (inSem (Ring.sl 2 0)).sem, .dma (inSem (Ring.sl 2 (0 + 1))).sem,
    .dma (outSem (Ring.sl 2 0)).sem, .dma (outSem (Ring.sl 2 (0 + 1))).sem]
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(cellP c wSem0 ∗ cellP c wSem1 ∗ cellP c wSem2 ∗ cellP c (inSem (Ring.sl 2 0)) ∗ cellP c (inSem (Ring.sl 2 (0 + 1)))
      ∗ cellP c (outSem (Ring.sl 2 0)) ∗ cellP c (outSem (Ring.sl 2 (0 + 1)))) := by
  unfold Pipeline.ownSems0
  exact bigSep_univ_eq_bigSepL [(0 : Fin 7), 1, 2, 3, 4, 5, 6] (by decide) (by decide) _

/-! ## The call's one point -/

abbrev at0 : Fin cfg0.N := t0_0
abbrev st0 (t : Fin cfg0.N) : Memref sig .tc .vmem S8x6144 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1x1024 .f32 := win0_2.stage (cfg0.slots t 2)
/-- The windows' staging buffers at the point, at their arrays' blocks. -/
abbrev g0 (c : Dev nD) (t : Fin cfg0.N) := (st0 t).view.rep (iblk m c 0 t)
abbrev g1 (c : Dev nD) (t : Fin cfg0.N) := (st1 t).view.rep (iblk m c 1 t)
abbrev g2 (c : Dev nD) (t : Fin cfg0.N) := (st2 t).view.rep (iblk m c 2 t)

/-- What the program leaves in output tile `b`. -/
def tileAt (c : Dev nD) (b : Fin 16) : Vec F S1024x1024 .f32 :=
  tileOut c (V m c main_v0) (V m c main_v1) (V m c main_v2) (V m c main_v3) (st0 at0) (st1 at0) (st2 at0) (g0 m c at0) (g1 m c at0) (g2 m c at0) b

/-- What the kernel is handed besides its windows. -/
def kept (c : Dev nD) (k : ℕ) : sProp 𝕄 :=
  iprop((∃ f, ownP c rM f)
    ∗ (wHome c wSem0 w1M w1H (V m c main_v1) ∗ wHome c wSem1 w3M w3H (V m c main_v2) ∗ wHome c wSem2 w2M w2H (V m c main_v3))
    ∗ inFree c (Ring.sl 2 0) ∗ inFree c (Ring.sl 2 (0 + 1)) ∗ bigSep Finset.univ (xP c (V m c main_v0)) ∗ outFree c (Ring.sl 2 0) ∗ outFree c (Ring.sl 2 (0 + 1))
    ∗ bigSep Finset.univ (yItem c (V m c main_v0) (V m c main_v1) (V m c main_v2) (V m c main_v3) (st0 at0) (st1 at0) (st2 at0) (g0 m c at0) (g1 m c at0) (g2 m c at0) k))

/-- At the start the output tiles are held as they are, -/
theorem ys_in (c : Dev nD) : bigSep Finset.univ (fun b => yP c b (V m c main_v6))
    ⊢ bigSep Finset.univ (yItem c (V m c main_v0) (V m c main_v1) (V m c main_v2) (V m c main_v3) (st0 at0) (st1 at0) (st2 at0) (g0 m c at0) (g1 m c at0) (g2 m c at0) 0) :=
  bigSep_mono fun b _ => by
    unfold yItem
    show (yP c b (V m c main_v6) : sProp 𝕄) ⊢ iprop(∃ f, _ ∗ yP c b f)
    iintro H
    iexists _
    isplitr; swap; · iexact H
    ipureintro; exact fun h => absurd h (Nat.not_lt_zero _)
/-- at the end each holds its value. -/
theorem ys_out (c : Dev nD) : bigSep Finset.univ (yItem c (V m c main_v0) (V m c main_v1) (V m c main_v2) (V m c main_v3) (st0 at0) (st1 at0) (st2 at0) (g0 m c at0) (g1 m c at0) (g2 m c at0) 18)
    ⊢ bigSep Finset.univ (fun b => yP c b (stack (tileAt m c))) :=
  bigSep_mono fun b _ => by
    unfold yItem
    show (iprop(∃ f, _ ∗ yP c b f) : sProp 𝕄) ⊢ yP c b (stack (tileAt m c))
    iintro ⟨%f, %hf, H⟩
    iapply (of_eq (yP_congr c b f (stack (tileAt m c)) ((hf (by omega)).trans (read_stack (tileAt m c) b).symm)))
    iexact H

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := kept m c (18 * t.val)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) :=
  (congrFun defs_tc _).trans rfl

set_option backward.isDefEq.respectTransparency.types false in
theorem body_obligation (c : Dev nD) : BodyObligation (dats (F := F) m 0 c) (defs₀ (F := F)) 𝒱₀ () Set.univ := fun t => by
  obtain rfl : t = at0 := fin_N0 t
  rw [bigSep_W0, bigSep_W0]
  dsimp only
  simp only [before_w0, before_w1, before_w2, after_w0, after_w1, after_w2]
  rw [show (dats m 0 c).Φ at0.castSucc = kept m c 0 from rfl, show (dats m 0 c).Φ at0.succ = kept m c 18 from rfl]
  unfold Dat.owesAt Pipeline.owesWithin
  rw [show (dats m 0 c).owed at0.castSucc = 0 from rfl, show (dats m 0 c).owed at0.succ = 0 from rfl]
  unfold owns
  iintro ⟨HK, ⟨%W, -, HW⟩, ⟨%d0, %f0, %hf0, H0⟩, ⟨%d1, %f1, %hf1, H1⟩, ⟨%d2, %f2, %hf2, H2⟩⟩
  ihave H0' := (pointsTo_rep_of_read (c : Thread nD τ) (st0 at0) f0 fullShare _ hf0) $$ H0
  ihave H1' := (pointsTo_rep_of_read (c : Thread nD τ) (st1 at0) f1 fullShare _ hf1) $$ H1
  ihave H2' := (pointsTo_rep_of_read (c : Thread nD τ) (st2 at0) f2 fullShare _ hf2) $$ H2
  sl_rw [prog_eq at0]
  iapply (bodyRun c (V m c main_v0) (V m c main_v1) (V m c main_v2) (V m c main_v3) (st0 at0) (hstage0_0 0) (st1 at0) (hstage0_1 0) (st2 at0) (hstage0_2 0)
    (g0 m c at0) (g1 m c at0) (g2 m c at0))
  unfold handed kept
  isplitl [HK H0' H1' H2' HW]
  · isplitl [HW]; · iexists W; iexact HW
    isplitl [H0']; · iexact H0'
    isplitl [H1']; · iexact H1'
    isplitl [H2']; · iexact H2'
    iexact HK
  · iintro ⟨⟨%W', HW⟩, H0, H1, H2, HK⟩
    isplitl [HK]; · iexact HK
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-! ## The run -/

/-- The call's arguments and result outside the windows, as the kernel takes them. -/
def taken (c : Dev nD) : sProp 𝕄 :=
  iprop((((c : Thread nD τ).loc main_v0) ↦{fullShare} V m c main_v0) ∗ (((c : Thread nD τ).loc main_v1) ↦{fullShare} V m c main_v1)
    ∗ (((c : Thread nD τ).loc main_v2) ↦{fullShare} V m c main_v2) ∗ (((c : Thread nD τ).loc main_v3) ↦{fullShare} V m c main_v3)
    ∗ (((c : Thread nD τ).loc main_v6) ↦{fullShare} V m c main_v6) ∗ Pipeline.ownSems0 osem c)
/-- The arguments no call reads. -/
def aside (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4)
    ∗ (((c : Thread nD τ).loc main_arg5) ↦{fullShare} V m c main_arg5) ∗ (((c : Thread nD τ).loc main_arg6) ↦{fullShare} V m c main_arg6))
/-- The result. -/
def result (c : Dev nD) : sProp 𝕄 := ((c : Thread nD τ).loc main_v6) ↦{fullShare} (stack (tileAt m c) : Buf (Elt F) ((c : Thread nD τ).loc main_v6))

def u₀ : UU nD τ := (initOf (Pipeline.cells cfgs cellOf_inj) (Pipeline.launchToks cfgs cellOf_inj), 1)
/-- The final memory on core `c`, outside the windows' arrays. -/
def QY (c : Dev nD) (s : MemSt nD τ sig (Elt F)) : Prop :=
  s.mem ((c : Thread nD τ).loc main_v6) = (stack (tileAt m c) : Buf (Elt F) ((c : Thread nD τ).loc main_v6))
  ∧ s.mem ((c : Thread nD τ).loc main_arg0) = V m c main_arg0 ∧ s.mem ((c : Thread nD τ).loc main_arg2) = V m c main_arg2
  ∧ s.mem ((c : Thread nD τ).loc main_arg3) = V m c main_arg3 ∧ s.mem ((c : Thread nD τ).loc main_arg4) = V m c main_arg4
  ∧ s.mem ((c : Thread nD τ).loc main_arg5) = V m c main_arg5 ∧ s.mem ((c : Thread nD τ).loc main_arg6) = V m c main_arg6

theorem kept_in (c : Dev nD) : iprop(taken m c ∗ Pipeline.scopedRest spec0 c) ⊢ (kept m c 0 : sProp 𝕄) := by
  rw [scopedRest0_eq]
  unfold taken kept
  rw [ownSems0_eq, xs_whole, ys_whole, ← some_whole, ← some_whole, ← some_whole, ← some_whole, ← ownP_whole, ← ownP_whole, ← ownP_whole]
  iintro ⟨⟨Hx, H1, H3, H2, Hy, Hc1, Hc3, Hc2, Hi0, Hi1, Ho0, Ho1⟩, Hr, Hb1, Hb3, Hb2, Hin, Hout⟩
  ihave Hin' := (in_split c) $$ Hin
  icases Hin' with ⟨Hin0, Hin1⟩
  ihave Hout' := (out_split c) $$ Hout
  icases Hout' with ⟨Hout0, Hout1⟩
  ihave Hy' := (ys_in m c) $$ Hy
  isplitl [Hr]; · iexact Hr
  isplitl [Hb1 Hb3 Hb2 H1 H3 H2 Hc1 Hc3 Hc2]
  · isplitl [Hb1 H1 Hc1]
    · isplitl [Hb1]; · iexact Hb1
      isplitl [H1]; · iexact H1
      iexact Hc1
    isplitl [Hb3 H3 Hc3]
    · isplitl [Hb3]; · iexact Hb3
      isplitl [H3]; · iexact H3
      iexact Hc3
    isplitl [Hb2]; · iexact Hb2
    isplitl [H2]; · iexact H2
    iexact Hc2
  isplitl [Hin0 Hi0]
  · isplitl [Hin0]; · iexact Hin0
    iexact Hi0
  isplitl [Hin1 Hi1]
  · isplitl [Hin1]; · iexact Hin1
    iexact Hi1
  isplitl [Hx]; · iexact Hx
  isplitl [Hout0 Ho0]
  · isplitl [Hout0]; · iexact Hout0
    iexact Ho0
  isplitl [Hout1 Ho1]
  · isplitl [Hout1]; · iexact Hout1
    iexact Ho1
  iexact Hy'

theorem kept_out (c : Dev nD) : (kept m c 18 : sProp 𝕄) ⊢ iprop(result m c ∗ Pipeline.ownSems0 osem c ∗ Pipeline.scopedRest spec0 c) := by
  rw [scopedRest0_eq, ownSems0_eq]
  unfold kept result
  rw [ys_whole, ← some_whole, ← some_whole, ← some_whole, ← some_whole]
  iintro ⟨Hr, ⟨⟨Hb1, H1, Hc1⟩, ⟨Hb3, H3, Hc3⟩, ⟨Hb2, H2, Hc2⟩⟩, ⟨Hin0, Hi0⟩, ⟨Hin1, Hi1⟩, Hx, ⟨Hout0, Ho0⟩, ⟨Hout1, Ho1⟩, Hy⟩
  ihave Hin := (in_join c) $$ [Hin0 Hin1]
  · isplitl [Hin0]; · iexact Hin0
    iexact Hin1
  ihave Hout := (out_join c) $$ [Hout0 Hout1]
  · isplitl [Hout0]; · iexact Hout0
    iexact Hout1
  ihave Hy' := (ys_out m c) $$ Hy
  iframe
  iexact Hy'

set_option backward.isDefEq.respectTransparency.types false in
/-- Every fair execution of the program from a memory with its semaphores at zero ends, with every semaphore at zero, the
    windows' arrays as they were and the rest of the memory as `QY` says. -/
theorem run_main : θ_run defs (onTc (τ := τ) (main (F := F))) (s₀ m ρ) (fun r =>
    (∀ c : Dev nD, (∀ w : Fin cfg0.W, r.2.mem ((cfg0.win w).arr.view.loc (c : Thread nD τ)) = (dats m 0 c).arrAt w cfg0.N) ∧ QY m c r.2)
      ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := taken m) (Y := result m) (Z := aside m)
    (hX := fun c => by
      rw [unscopedRest0_eq]
      unfold taken aside
      iintro ⟨⟨A0, A2, A3, A4, A5, A6, V0, V1, V2, V3, V6⟩, HS, -, -, -⟩
      imodintro
      iframe)
    (hin := kept_in m) (hout := kept_out m)
    (QY := QY m)
    (hY := fun c s' => by
      unfold result aside QY
      iintro ⟨HY, ⟨A0, A2, A3, A4, A5, A6⟩, HSI⟩
      icombine HSI HY gives %hy
      icombine HSI A0 gives %h0
      icombine HSI A2 gives %h2
      icombine HSI A3 gives %h3
      icombine HSI A4 gives %h4
      icombine HSI A5 gives %h5
      icombine HSI A6 gives %h6
      imodintro
      isplitr; swap; · iexact HSI
      ipureintro
      exact ⟨Buf.eq_of_forall_mem_univ hy, Buf.eq_of_forall_mem_univ h0, Buf.eq_of_forall_mem_univ h2, Buf.eq_of_forall_mem_univ h3,
        Buf.eq_of_forall_mem_univ h4, Buf.eq_of_forall_mem_univ h5, Buf.eq_of_forall_mem_univ h6⟩)
    (hQ := fun _ hh hz => ⟨hh, hz⟩)

end Run

end Cert.Proof.Ffn2

end
-- ==== Proof.Value.lean ====
/- The second feed-forward sub-layer's values: an element of the kernel's result and the same element of the reference's,
   both brought to one expression in the arguments' elements; the runs of the three programs. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Pointwise
public import Idealize.ShloMosaic.Lib.Claim
public import Idealize.ShloMosaic.Lib.Pipeline.ValueKit

@[expose] public section

noncomputable section

namespace Cert.Proof.Ffn2

open Cert.KernelIdeal Cert.KernelIdeal.Gen
open Idealize.ShloMosaic Idealize.SL.Sem
open Idealize.ShloMosaic.TcCoe Idealize.ShloMosaic.Tactic
open Idealize.ShloMosaic.Pointwise

/-! ## One row, as mathematics -/

/-- A hidden unit's projection of the modulated row. -/
def proj (x sh sc : Fin 1024 → EReal) (w : Fin 1024 → Fin 2816 → EReal) (j : Fin 2816) : EReal := ∑ k, (x k * (1 + sc k) + sh k) * w k j
/-- The row's residual: the gated SwiGLU beside the row itself. -/
def resE (x sh sc gt : Fin 1024 → EReal) (w1 w3 : Fin 1024 → Fin 2816 → EReal) (w2 : Fin 2816 → Fin 1024 → EReal) (l : Fin 1024) : EReal :=
  Ideal.ofBits .f32 0x3F9837F0#32 * x l + Ideal.ofBits .f32 0x3F000000#32 * (1 + gt l)
    * ∑ j, (proj x sh sc w1 j * Ideal.div 1 (1 + Ideal.exp (-proj x sh sc w1 j)) * proj x sh sc w3 j) * w2 j l
def meanE (r : Fin 1024 → EReal) : EReal := Ideal.div (∑ k, r k) (Ideal.ofBits .f32 0x44800000#32)
/-- The layer norm of a row. -/
def normE (r g b : Fin 1024 → EReal) (l : Fin 1024) : EReal :=
  (r l - meanE r) * Ideal.rsqrt (meanE (fun k => (r k - meanE r) * (r k - meanE r)) + Ideal.ofBits .f32 0x3727C5AC#32) * g l + b l

/-! ## The kernel's tiles, element by element -/

theorem normed_at (g b : Vec Ideal S1x1024 .f32) (x : Vec Ideal S1024x1024 .f32) (i l : Fin 1024) :
    normed g b x (ix2 i l) = normE (fun k => x (ix2 i k)) (fun k => g (ix2 0 k)) (fun k => b (ix2 0 k)) l := by
  pointwise [normed, k0_pay2, k0_pay1]
  rfl

theorem col_lt (o : Fin 3) (k : Fin 1024) : 3072 + (1024 * o.val + k.val) < 6144 := by omega
theorem modCols_at (mods : Vec Ideal S8x6144 .f32) (r : Fin 8) (o : Fin 3) (k : Fin 1024) :
    modCols mods r o (ix2 0 k) = mods (ix2 r ⟨3072 + (1024 * o.val + k.val), col_lt o k⟩) := by
  refine congrArg mods (funext fun a => Fin.ext ?_)
  match a with
  | ⟨0, _⟩ => show r.val + 1 * 0 = r.val; omega
  | ⟨1, _⟩ => show 3072 + 1024 * o.val + 1 * k.val = 3072 + (1024 * o.val + k.val); omega

theorem resid_at (mods : Vec Ideal S8x6144 .f32) (w1 w3 : Vec Ideal S1024x2816 .bf16) (w2 : Vec Ideal S2816x1024 .bf16) (r : Fin 8)
    (x : Vec Ideal S1024x1024 .f32) (i l : Fin 1024) :
    resid mods w1 w3 w2 r x (ix2 i l) = resE (fun k => x (ix2 i k)) (fun k => mods (ix2 r ⟨3072 + (1024 * (0 : Fin 3).val + k.val), col_lt 0 k⟩))
      (fun k => mods (ix2 r ⟨3072 + (1024 * (1 : Fin 3).val + k.val), col_lt 1 k⟩)) (fun k => mods (ix2 r ⟨3072 + (1024 * (2 : Fin 3).val + k.val), col_lt 2 k⟩))
      (fun k j => w1 (ix2 k j)) (fun k j => w3 (ix2 k j)) (fun j k => w2 (ix2 j k)) l := by
  simp only [← modCols_at]
  unfold resid
  pointwise [k0_pay4, k0_pay3]
  rfl

/-! ## An element of the result, from the arguments -/

/-- Element `l` of row `R` of the normalised residual, from the seven arguments. -/
def out (h : Vec Ideal S8x2048x1024 .f32) (mods : Vec Ideal S8x6144 .f32) (w1 w3 : Vec Ideal S1024x2816 .f32) (w2 : Vec Ideal S2816x1024 .f32)
    (g b : Vec Ideal S1024 .f32) (R : Fin 16384) (l : Fin 1024) : EReal :=
  normE
    (resE (fun k => h (ix3 ⟨R.val / 2048, by omega⟩ ⟨R.val % 2048, by omega⟩ k))
      (fun k => mods (ix2 ⟨R.val / 2048, by omega⟩ ⟨3072 + k.val, by omega⟩))
      (fun k => mods (ix2 ⟨R.val / 2048, by omega⟩ ⟨3072 + (1024 + k.val), by omega⟩))
      (fun k => mods (ix2 ⟨R.val / 2048, by omega⟩ ⟨3072 + (2048 + k.val), by omega⟩))
      (fun k j => w1 (ix2 k j)) (fun k j => w3 (ix2 k j)) (fun j k => w2 (ix2 j k)))
    (fun k => g (ix1 k)) (fun k => b (ix1 k)) l

theorem reference_at (m : (ℓ : Loc Cert.ReferenceIdeal.nD Cert.ReferenceIdeal.τ Cert.ReferenceIdeal.sig) → Buf (Elt Ideal) ℓ) (c : Dev Cert.ReferenceIdeal.nD)
    (R : Fin 16384) (l : Fin 1024) :
    Cert.ReferenceIdeal.Value.res_main_v51 m c (ix2 R l)
      = out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) R l := by
  pointwise [Cert.ReferenceIdeal.Value.res_main_v51]
  rfl

variable (m : (ℓ : Loc nD τ sig) → Buf (Elt Ideal) ℓ) (ρ : Dev nD → PrngReg) (c : Dev nD)

/-- The call's windows are whole arrays. -/
theorem window0 : ∀ a, win0_0.index at0 a = 0 := by decide
theorem window1 : ∀ a, win0_1.index at0 a = 0 := by decide
theorem window2 : ∀ a, win0_2.index at0 a = 0 := by decide

theorem block_mods : iblk m c 0 at0 = m ((c : Thread nD τ).loc main_arg1) := by
  blk_ext! [iblk, V, window0]
theorem block_gain (k : Fin 1024) : iblk m c 1 at0 (ix2 0 k) = m ((c : Thread nD τ).loc main_arg5) (ix1 k) := by
  blk_ext! [iblk, V, window1]
theorem block_bias (k : Fin 1024) : iblk m c 2 at0 (ix2 0 k) = m ((c : Thread nD τ).loc main_arg6) (ix1 k) := by
  blk_ext! [iblk, V, window2]
theorem rows_at (R : Fin 16384) (k : Fin 1024) :
    V m c main_v0 (ix2 R k) = m ((c : Thread nD τ).loc main_arg0) (ix3 ⟨R.val / 2048, by omega⟩ ⟨R.val % 2048, by omega⟩ k) := by
  entry_read
  pointwise
theorem w1_at (k : Fin 1024) (j : Fin 2816) : V m c main_v1 (ix2 k j) = m ((c : Thread nD τ).loc main_arg2) (ix2 k j) := by
  entry_read
  pointwise
theorem w3_at (k : Fin 1024) (j : Fin 2816) : V m c main_v2 (ix2 k j) = m ((c : Thread nD τ).loc main_arg3) (ix2 k j) := by
  entry_read
  pointwise
theorem w2_at (j : Fin 2816) (k : Fin 1024) : V m c main_v3 (ix2 j k) = m ((c : Thread nD τ).loc main_arg4) (ix2 j k) := by
  entry_read
  pointwise

/-- Element `l` of row `R` of the kernel's result: row `R % 1024` of tile `R / 1024`. -/
theorem kernel_at (R : Fin 16384) (l : Fin 1024) :
    stack (tileAt m c) (ix2 R l)
      = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) R l := by
  have hR : R.val / 1024 < 16 := by omega
  show tileAt m c ⟨R.val / 1024, hR⟩ (ix2 ⟨R.val % 1024, Nat.mod_lt _ (by decide)⟩ l) = _
  unfold tileAt tileOut residAt
  rw [normed_at, View.read_rep, View.read_rep, View.read_rep]
  have hrow : modRow ⟨R.val / 1024, hR⟩ = ⟨R.val / 2048, by omega⟩ := Fin.ext (by show R.val / 1024 / 2 = R.val / 2048; omega)
  have hx (k : Fin 1024) : tileIdx ⟨R.val / 1024, hR⟩ (ix2 ⟨R.val % 1024, Nat.mod_lt _ (by decide)⟩ k) = ix2 R k := funext fun a => Fin.ext (by
    match a with
    | ⟨0, _⟩ => show 1024 * (R.val / 1024) + 1 * (R.val % 1024) = R.val; omega
    | ⟨1, _⟩ => show 0 + 1 * k.val = k.val; omega)
  simp only [resid_at, read_xTile, hx, hrow, block_mods, block_gain, block_bias]
  have e1 (k : Fin 1024) (j : Fin 2816) : w1H.view.read (Elt Ideal) (V m c main_v1) (ix2 k j) = m ((c : Thread nD τ).loc main_arg2) (ix2 k j) := w1_at m c k j
  have e3 (k : Fin 1024) (j : Fin 2816) : w3H.view.read (Elt Ideal) (V m c main_v2) (ix2 k j) = m ((c : Thread nD τ).loc main_arg3) (ix2 k j) := w3_at m c k j
  have e2 (j : Fin 2816) (k : Fin 1024) : w2H.view.read (Elt Ideal) (V m c main_v3) (ix2 j k) = m ((c : Thread nD τ).loc main_arg4) (ix2 j k) := w2_at m c j k
  simp only [e1, e3, e2]
  unfold out
  simp only [Fin.isValue, Fin.val_zero, Fin.val_one, Fin.val_two, Nat.mul_zero, Nat.zero_add, Nat.mul_one, Nat.reduceMul]
  exact congrArg (fun r => normE r _ _ l) (funext fun l' => congrArg (fun x => resE x _ _ _ _ _ _ l') (funext fun k => rows_at m c R k))

/-! ## The runs -/

/-- From any memory, the kernel's program leaves its arguments as they were. -/
theorem kept_args {F : FTy → Type} [FloatOps F] (m : (ℓ : Loc nD τ sig) → Buf (Elt F) ℓ) (s) (c : Dev nD)
    (h : ∀ w : Fin cfg0.W, s.mem ((cfg0.win w).arr.view.loc (c : Thread nD τ)) = (dats m 0 c).arrAt w cfg0.N) (hq : QY m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6) := by
  obtain ⟨_, a0, a2, a3, a4, a5, a6⟩ := hq
  exact ⟨a0.trans (V_main_arg0 m c), (h 0).trans (((dats m 0 c).arrAt_in 0 rfl _).trans (V_main_arg1 m c)), a2.trans (V_main_arg2 m c),
    a3.trans (V_main_arg3 m c), a4.trans (V_main_arg4 m c), a5.trans (V_main_arg5 m c), a6.trans (V_main_arg6 m c)⟩

theorem run_kept {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun r h => ⟨fun c => kept_args m r.2 c (h.1 c).1 (h.1 c).2, h.2⟩) (run_main m ρ)

theorem frame_kernelIdeal : Cert.quiescent_KernelIdeal (hKernelIdeal := Cert.KernelIdeal.Gen.facts) := fun m ρ _ => run_kept (F := Ideal) m ρ

/-- The two programs have one body table. -/
theorem bodies_eq {F : FTy → Type} [FloatOps F] : Cert.Kernel.defs (F := F) = Cert.KernelIdeal.defs (F := F) := by
  refine congrArg (Pipeline.defs Cert.KernelIdeal.pcfgs) (show Cert.Kernel.defs₀ (F := F) = Cert.KernelIdeal.defs₀ (F := F) from ?_)
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

theorem frame_kernel : Cert.quiescent_Kernel (hKernel := Cert.Kernel.Gen.facts) := fun m ρ _ =>
  bodies_eq (F := Bits) ▸ run_kept (F := Bits) m ρ

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel's program and the reference end with the same result. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => stack (tileAt m c), ?_, ?_⟩
  · exact (θ_run defs _ _).mono (fun r h c => ⟨(h.1 c).2.1, kept_args m r.2 c (h.1 c).1 (h.1 c).2⟩) (run_main (F := Ideal) m ρ)
  · refine (θ_run Cert.ReferenceIdeal.defs _ _).mono (fun r h c => ⟨(h c).1.trans ?_, (h c).2⟩) (Cert.ReferenceIdeal.Value.run (F := Ideal) m' ρ')
    refine funext fun y => ?_
    obtain ⟨R, l, rfl⟩ : ∃ (R : Fin 16384) (l : Fin 1024), y = ix2 R l := ⟨y 0, y 1, eq_ix2 y⟩
    refine (reference_at m' c R l).trans (Eq.trans ?_ (kernel_at m c R l).symm)
    obtain ⟨a0, a1, a2, a3, a4, a5, a6⟩ := hagree c
    rw [a0, a1, a2, a3, a4, a5, a6]

end Cert.Proof.Ffn2

end
-- ==== Proof.FirstWords.lean ====
/- The first feed-forward sub-layer's call: names for the pieces its two software pipelines copy, and the control
   words of the two in closed form.

   The first pipeline, of eight trips, fills four buffers kept for the second: the modulations' 3072 columns this
   sub-layer uses, and the three weights cast to bf16. The second, of seventeen trips, is the sub-layer itself over
   sixteen tiles of 1024 rows, with the mixer's weights cast and the later modulations made beside it. -/
module

public import proofs.«01_k».proof.Proof.Gen.FirstIdeal.Launch
public import proofs.«01_k».proof.Proof.Gen.FirstIdeal.Skeleton
public import proofs.«01_k».proof.Proof.Gen.FirstIdeal.Loops
public import proofs.«01_k».proof.Proof.Gen.FirstIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI

abbrev K1 := Fin k0_t1_loop.trips
abbrev K2 := Fin k0_t2_loop.trips

/-! ## The words carried before trip `k` -/

/-- The first pipeline: copies started, copies waited for, the one resident copy, the trip. -/
def sStarted (k : ℕ) : BitVec 32 := BitVec.ofNat 32 (min (k + 1) 8)
def sWaited (k : ℕ) : BitVec 32 := BitVec.ofNat 32 k
def sKept (k : ℕ) : BitVec 32 := BitVec.ofNat 32 (if k < 8 then 0 else 1)
def sTrip (k : ℕ) : BitVec 32 := BitVec.ofNat 32 (k % 8)
abbrev carried1 (k : ℕ) : BitVec 32 × BitVec 32 × BitVec 32 × BitVec 32 × BitVec 32 × BitVec 32 × BitVec 32 × BitVec 32 × BitVec 32 × BitVec 32 × BitVec 32 × BitVec 32 :=
  (sKept k, sStarted k, sWaited k, sStarted k, sWaited k, sStarted k, sWaited k, sStarted k, sWaited k, sStarted k, sWaited k, sTrip k)

/-- The second pipeline: input copies started and waited for, -/
def mStarted (k : ℕ) : BitVec 32 := BitVec.ofNat 32 (min (k + 1) 16)
def mWaited (k : ℕ) : BitVec 32 := BitVec.ofNat 32 (if k ≤ 16 then min k 15 else 16)
def mKept (k : ℕ) : BitVec 32 := BitVec.ofNat 32 (if k < 17 then 0 else 1)
/-- copies of the result started and waited for, -/
def oStarted (k : ℕ) : BitVec 32 := BitVec.ofNat 32 (k - 1)
def oWaited (k : ℕ) : BitVec 32 := BitVec.ofNat 32 (k - 2)
/-- of the outputs made beside it, and the trip. -/
def eStarted (k : ℕ) : BitVec 32 := BitVec.ofNat 32 (if k ≤ 16 then min k 15 else 16)
def eWaited (k : ℕ) : BitVec 32 := BitVec.ofNat 32 (if k ≤ 16 then k - 1 else 15)
def mTrip (k : ℕ) : BitVec 32 := BitVec.ofNat 32 (k % 17)
abbrev carried2 (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (mStarted k, mWaited k, mStarted k, mWaited k, mStarted k, mWaited k, mStarted k, mWaited k, mKept k, mStarted k, mWaited k, mStarted k, mWaited k,
    oStarted k, oWaited k, eStarted k, eWaited k, eStarted k, eWaited k, eStarted k, eWaited k, eStarted k, eWaited k, mTrip k)

/-! ## The trips' conditions and range checks -/
theorem chk1 : ∀ k : K1, k0_chk1 k (sStarted k) (sWaited k) (sStarted k) (sWaited k) (sStarted k) (sWaited k) (sStarted k) (sWaited k) (sStarted k) (sWaited k) (sTrip k) := by decide +kernel
theorem chk2 : ∀ k : K1, k0_chk2 (sWaited k) := by decide +kernel
theorem chk3 : ∀ k : K1, k0_chk3 (sWaited k) := by decide +kernel
theorem chk4 : ∀ k : K1, k0_chk4 (sWaited k) := by decide +kernel
theorem a_start : ∀ k : K1, k.val ≤ 6 → k0_cond1 k (sTrip k) = 1#1 := by decide +kernel
theorem a_no_start : ∀ k : K1, 7 ≤ k.val → ¬k0_cond1 k (sTrip k) = 1#1 := by decide +kernel
theorem a_wait : ∀ k : K1, k0_cond6 k (sTrip k) = 1#1 := by decide +kernel
theorem b_start : ∀ k : K1, k.val ≤ 6 → k0_cond2 k (sTrip k) = 1#1 := by decide +kernel
theorem b_no_start : ∀ k : K1, 7 ≤ k.val → ¬k0_cond2 k (sTrip k) = 1#1 := by decide +kernel
theorem b_wait : ∀ k : K1, k0_cond7 k (sTrip k) = 1#1 := by decide +kernel
theorem c_start : ∀ k : K1, k.val ≤ 6 → k0_cond3 k (sTrip k) = 1#1 := by decide +kernel
theorem c_no_start : ∀ k : K1, 7 ≤ k.val → ¬k0_cond3 k (sTrip k) = 1#1 := by decide +kernel
theorem c_wait : ∀ k : K1, k0_cond8 k (sTrip k) = 1#1 := by decide +kernel
theorem d_start : ∀ k : K1, k.val ≤ 6 → k0_cond4 k (sTrip k) = 1#1 := by decide +kernel
theorem d_no_start : ∀ k : K1, 7 ≤ k.val → ¬k0_cond4 k (sTrip k) = 1#1 := by decide +kernel
theorem d_wait : ∀ k : K1, k0_cond9 k (sTrip k) = 1#1 := by decide +kernel
theorem e_start : ∀ k : K1, k.val ≤ 6 → k0_cond5 k (sTrip k) = 1#1 := by decide +kernel
theorem e_no_start : ∀ k : K1, 7 ≤ k.val → ¬k0_cond5 k (sTrip k) = 1#1 := by decide +kernel
theorem e_wait : ∀ k : K1, k0_cond10 k (sTrip k) = 1#1 := by decide +kernel
theorem block0 : ∀ k : K1, k.val = 0 → k0_cond11 (sTrip k) = 1#1 := by decide +kernel
theorem no_block0 : ∀ k : K1, k.val ≠ 0 → ¬k0_cond11 (sTrip k) = 1#1 := by decide +kernel
theorem block1 : ∀ k : K1, k.val = 1 → k0_cond12 (sTrip k) = 1#1 := by decide +kernel
theorem no_block1 : ∀ k : K1, k.val ≠ 1 → ¬k0_cond12 (sTrip k) = 1#1 := by decide +kernel
theorem block2 : ∀ k : K1, k.val = 2 → k0_cond13 (sTrip k) = 1#1 := by decide +kernel
theorem no_block2 : ∀ k : K1, k.val ≠ 2 → ¬k0_cond13 (sTrip k) = 1#1 := by decide +kernel
theorem block3 : ∀ k : K1, k.val = 3 → k0_cond14 (sTrip k) = 1#1 := by decide +kernel
theorem no_block3 : ∀ k : K1, k.val ≠ 3 → ¬k0_cond14 (sTrip k) = 1#1 := by decide +kernel
theorem block4 : ∀ k : K1, k.val = 4 → k0_cond15 (sTrip k) = 1#1 := by decide +kernel
theorem no_block4 : ∀ k : K1, k.val ≠ 4 → ¬k0_cond15 (sTrip k) = 1#1 := by decide +kernel
theorem block5 : ∀ k : K1, k.val = 5 → k0_cond16 (sTrip k) = 1#1 := by decide +kernel
theorem no_block5 : ∀ k : K1, k.val ≠ 5 → ¬k0_cond16 (sTrip k) = 1#1 := by decide +kernel
theorem block6 : ∀ k : K1, k.val = 6 → k0_cond17 (sTrip k) = 1#1 := by decide +kernel
theorem no_block6 : ∀ k : K1, k.val ≠ 6 → ¬k0_cond17 (sTrip k) = 1#1 := by decide +kernel
theorem block7 : ∀ k : K1, k.val = 7 → k0_cond18 (sTrip k) = 1#1 := by decide +kernel
theorem no_block7 : ∀ k : K1, k.val ≠ 7 → ¬k0_cond18 (sTrip k) = 1#1 := by decide +kernel
theorem chk5 : ∀ k : K2, k0_chk5 k (mStarted k) (mWaited k) (mStarted k) (mWaited k) (mStarted k) (mWaited k) (mStarted k) (mWaited k) (mStarted k) (mWaited k) (mStarted k) (mWaited k) (oStarted k) (oWaited k) (eStarted k) (eWaited k) (eStarted k) (eWaited k) (eStarted k) (eWaited k) (eStarted k) (eWaited k) (mTrip k) := by decide +kernel
theorem h_start : ∀ k : K2, k.val ≤ 14 → k0_cond29 k (mTrip k) = 1#1 := by decide +kernel
theorem h_no_start : ∀ k : K2, 15 ≤ k.val → ¬k0_cond29 k (mTrip k) = 1#1 := by decide +kernel
theorem h_wait : ∀ k : K2, k.val ≤ 15 → k0_cond35 k (mTrip k) = 1#1 := by decide +kernel
theorem h_no_wait : ∀ k : K2, 16 ≤ k.val → ¬k0_cond35 k (mTrip k) = 1#1 := by decide +kernel
theorem i_start : ∀ k : K2, k.val ≤ 14 → k0_cond30 k (mTrip k) = 1#1 := by decide +kernel
theorem i_no_start : ∀ k : K2, 15 ≤ k.val → ¬k0_cond30 k (mTrip k) = 1#1 := by decide +kernel
theorem i_wait : ∀ k : K2, k.val ≤ 15 → k0_cond36 k (mTrip k) = 1#1 := by decide +kernel
theorem i_no_wait : ∀ k : K2, 16 ≤ k.val → ¬k0_cond36 k (mTrip k) = 1#1 := by decide +kernel
theorem p_start : ∀ k : K2, k.val ≤ 14 → k0_cond31 k (mTrip k) = 1#1 := by decide +kernel
theorem p_no_start : ∀ k : K2, 15 ≤ k.val → ¬k0_cond31 k (mTrip k) = 1#1 := by decide +kernel
theorem p_wait : ∀ k : K2, k.val ≤ 15 → k0_cond37 k (mTrip k) = 1#1 := by decide +kernel
theorem p_no_wait : ∀ k : K2, 16 ≤ k.val → ¬k0_cond37 k (mTrip k) = 1#1 := by decide +kernel
theorem q_start : ∀ k : K2, k.val ≤ 14 → k0_cond32 k (mTrip k) = 1#1 := by decide +kernel
theorem q_no_start : ∀ k : K2, 15 ≤ k.val → ¬k0_cond32 k (mTrip k) = 1#1 := by decide +kernel
theorem q_wait : ∀ k : K2, k.val ≤ 15 → k0_cond38 k (mTrip k) = 1#1 := by decide +kernel
theorem q_no_wait : ∀ k : K2, 16 ≤ k.val → ¬k0_cond38 k (mTrip k) = 1#1 := by decide +kernel
theorem u_start : ∀ k : K2, k.val ≤ 14 → k0_cond33 k (mTrip k) = 1#1 := by decide +kernel
theorem u_no_start : ∀ k : K2, 15 ≤ k.val → ¬k0_cond33 k (mTrip k) = 1#1 := by decide +kernel
theorem u_wait : ∀ k : K2, k.val ≤ 15 → k0_cond39 k (mTrip k) = 1#1 := by decide +kernel
theorem u_no_wait : ∀ k : K2, 16 ≤ k.val → ¬k0_cond39 k (mTrip k) = 1#1 := by decide +kernel
theorem v_start : ∀ k : K2, k.val ≤ 14 → k0_cond34 k (mTrip k) = 1#1 := by decide +kernel
theorem v_no_start : ∀ k : K2, 15 ≤ k.val → ¬k0_cond34 k (mTrip k) = 1#1 := by decide +kernel
theorem v_wait : ∀ k : K2, k.val ≤ 15 → k0_cond40 k (mTrip k) = 1#1 := by decide +kernel
theorem v_no_wait : ∀ k : K2, 16 ≤ k.val → ¬k0_cond40 k (mTrip k) = 1#1 := by decide +kernel
theorem computes : ∀ k : K2, k.val ≤ 15 → k0_cond46 (mTrip k) = 1#1 := by decide +kernel
theorem no_computes : ∀ k : K2, 16 ≤ k.val → ¬k0_cond46 (mTrip k) = 1#1 := by decide +kernel
theorem closes : ∀ k : K2, 16 ≤ k.val → k0_cond47 (mTrip k) = 1#1 := by decide +kernel
theorem no_closes : ∀ k : K2, k.val ≤ 15 → ¬k0_cond47 (mTrip k) = 1#1 := by decide +kernel
theorem o_start : ∀ k : K2, 1 ≤ k.val → k0_cond54 k (mTrip k) = 1#1 := by decide +kernel
theorem o_no_start : ∀ k : K2, k.val = 0 → ¬k0_cond54 k (mTrip k) = 1#1 := by decide +kernel
theorem o_wait : ∀ k : K2, 2 ≤ k.val → k0_cond65 k (mTrip k) = 1#1 := by decide +kernel
theorem o_no_wait : ∀ k : K2, k.val ≤ 1 → ¬k0_cond65 k (mTrip k) = 1#1 := by decide +kernel
theorem x_start : ∀ k : K2, k.val ≠ 15 → k0_cond55 k (mTrip k) = 1#1 := by decide +kernel
theorem x_no_start : ∀ k : K2, k.val = 15 → ¬k0_cond55 k (mTrip k) = 1#1 := by decide +kernel
theorem x_wait : ∀ k : K2, 1 ≤ k.val → k.val ≤ 15 → k0_cond66 k (mTrip k) = 1#1 := by decide +kernel
theorem x_no_wait : ∀ k : K2, k.val = 0 ∨ k.val = 16 → ¬k0_cond66 k (mTrip k) = 1#1 := by decide +kernel
theorem y_start : ∀ k : K2, k.val ≠ 15 → k0_cond56 k (mTrip k) = 1#1 := by decide +kernel
theorem y_no_start : ∀ k : K2, k.val = 15 → ¬k0_cond56 k (mTrip k) = 1#1 := by decide +kernel
theorem y_wait : ∀ k : K2, 1 ≤ k.val → k.val ≤ 15 → k0_cond67 k (mTrip k) = 1#1 := by decide +kernel
theorem y_no_wait : ∀ k : K2, k.val = 0 ∨ k.val = 16 → ¬k0_cond67 k (mTrip k) = 1#1 := by decide +kernel
theorem z_start : ∀ k : K2, k.val ≠ 15 → k0_cond57 k (mTrip k) = 1#1 := by decide +kernel
theorem z_no_start : ∀ k : K2, k.val = 15 → ¬k0_cond57 k (mTrip k) = 1#1 := by decide +kernel
theorem z_wait : ∀ k : K2, 1 ≤ k.val → k.val ≤ 15 → k0_cond68 k (mTrip k) = 1#1 := by decide +kernel
theorem z_no_wait : ∀ k : K2, k.val = 0 ∨ k.val = 16 → ¬k0_cond68 k (mTrip k) = 1#1 := by decide +kernel
theorem t_start : ∀ k : K2, k.val ≠ 15 → k0_cond58 k (mTrip k) = 1#1 := by decide +kernel
theorem t_no_start : ∀ k : K2, k.val = 15 → ¬k0_cond58 k (mTrip k) = 1#1 := by decide +kernel
theorem t_wait : ∀ k : K2, 1 ≤ k.val → k.val ≤ 15 → k0_cond69 k (mTrip k) = 1#1 := by decide +kernel
theorem t_no_wait : ∀ k : K2, k.val = 0 ∨ k.val = 16 → ¬k0_cond69 k (mTrip k) = 1#1 := by decide +kernel
theorem chk6 : k0_chk6 (oWaited 17) := by decide +kernel
theorem chk7 : k0_chk7 (mTrip 17) := by decide +kernel
theorem chk8 : k0_chk8 (eWaited 17) := by decide +kernel
theorem chk9 : k0_chk9 (eWaited 17) := by decide +kernel
theorem chk10 : k0_chk10 (eWaited 17) := by decide +kernel
theorem chk11 : k0_chk11 (eWaited 17) := by decide +kernel

/-! ## The pieces' names -/

abbrev slotOff (s : Fin 2) : Fin 3 → Nat := ![s.val, 0, 0]
abbrev semOff (s : Fin 2) : Fin 1 → Nat := ![s.val]
theorem semOff_inb (s : Fin 2) : ∀ a, semOff s a + S1.size a ≤ S2.size a := by
  revert s; decide
instance (s : Fin 2) : ClosedOff (slotOff s) := ⟨slotOff s, rfl⟩

/- The projection's columns. -/
abbrev aOff (b : Fin 8) : Fin 2 → Nat := ![0, 384 * b.val]
theorem aOff_inb (b : Fin 8) : ∀ a, aOff b a + S1024x384.size a ≤ S1024x9216.size a := by
  revert b; decide
theorem aSlot_inb (s : Fin 2) : ∀ a, slotOff s a + S1x1024x384.size a ≤ S2x1024x384.size a := by
  revert s; decide
abbrev aRing : Memref sig .tc .vmem S2x1024x384 .f32 := Memref.whole cc0_scoped1
abbrev aArr : Memref sig .tc .hbm S1024x9216 .f32 := Memref.whole main_arg2
def aTi (b : Fin 8) : Memref sig .tc .hbm S1024x384 .f32 :=
  aArr.slice (Rect.unit (s := S1024x9216) (aOff b) S1024x384.size (aOff_inb b)) (fun _ => rfl)
def aSl (s : Fin 2) : Memref sig .tc .vmem S1024x384 .f32 :=
  (aRing.slice (Rect.unit (s := S2x1024x384) (slotOff s) S1x1024x384.size (aSlot_inb s)) (fun _ => rfl)).squeeze S1024x384 squeezes_S1x1024x384_S1024x384
def aSe (s : Fin 2) : DmaSems sig S_ := (cc0_scoped2.slice (Rect.unit (s := S2) (semOff s) S1.size (semOff_inb s))).squeeze S_ squeezes_S1_S_
instance (b : Fin 8) : ClosedOff (aOff b) := ⟨aOff b, rfl⟩
private theorem aSem_congr {off : Fin 1 → Nat} {s : Fin 2} (e : off = semOff s) (hh) :
    (cc0_scoped2.slice (Rect.unit (s := S2) off S1.size hh)).squeeze S_ squeezes_S1_S_ = aSe s :=
  congrArg (fun A : DmaSems sig S1 => A.squeeze S_ squeezes_S1_S_) (SemArray.slice_unit_congr _ e _ _)
private theorem aSlot_congr {off : Fin 3 → Nat} {s : Fin 2} (e : off = slotOff s) (hh hs) :
    (aRing.slice (Rect.unit (s := S2x1024x384) off S1x1024x384.size hh) hs).squeeze S1024x384 squeezes_S1x1024x384_S1024x384 = aSl s :=
  congrArg (fun M : Memref sig .tc .vmem S1x1024x384 .f32 => M.squeeze S1024x384 squeezes_S1x1024x384_S1024x384) (Memref.slice_unit_congr _ e _ _ _ _)
private theorem aTile_congr {off : Fin 2 → Nat} {b : Fin 8} (e : off = aOff b) (hh hs) :
    aArr.slice (Rect.unit (s := S1024x9216) off S1024x384.size hh) hs = aTi b :=
  Memref.slice_unit_congr _ e hh (aOff_inb b) hs (fun _ => rfl)
@[sl_canon] theorem a_sem_first (hh) : (cc0_scoped2.slice (Rect.unit (s := S2) (k0_off1) S1.size hh)).squeeze S_ squeezes_S1_S_ = aSe (Ring.sl 2 0) :=
  aSem_congr (by decide) hh
@[sl_canon] theorem a_slot_first (hh hs) : (aRing.slice (Rect.unit (s := S2x1024x384) (k0_off2) S1x1024x384.size hh) hs).squeeze S1024x384 squeezes_S1x1024x384_S1024x384 = aSl (Ring.sl 2 0) :=
  aSlot_congr (by decide) hh hs
@[sl_canon] theorem a_tile_first (hh hs) : aArr.slice (Rect.unit (s := S1024x9216) (k0_off3) S1024x384.size hh) hs = aTi (Ring.bk 8 0) :=
  aTile_congr (by decide) hh hs
theorem off8_eq : ∀ k : K1, k.val ≤ 6 → k0_off8 (sStarted k) = semOff (Ring.sl 2 (k.val + 1)) := by decide +kernel
theorem off9_eq : ∀ k : K1, k.val ≤ 6 → k0_off9 (sStarted k) = slotOff (Ring.sl 2 (k.val + 1)) := by decide +kernel
theorem off10_eq : ∀ k : K1, k.val ≤ 6 → k0_off10 (sTrip k) = aOff (Ring.bk 8 (k.val + 1)) := by decide +kernel
theorem off23_eq : ∀ k : K1, k0_off23 (sWaited k) = semOff (Ring.sl 2 k.val) := by decide +kernel
theorem off24_eq : ∀ k : K1, k0_off24 (sWaited k) = slotOff (Ring.sl 2 k.val) := by decide +kernel
theorem off25_eq : ∀ k : K1, k0_off25 (sTrip k) = aOff (Ring.bk 8 k.val) := by decide +kernel
@[sl_canon] theorem a_sem_next (k : K1) (hk : k.val ≤ 6) (hh) : (cc0_scoped2.slice (Rect.unit (s := S2) (k0_off8 (sStarted k)) S1.size hh)).squeeze S_ squeezes_S1_S_ = aSe (Ring.sl 2 (k.val + 1)) :=
  aSem_congr (off8_eq k hk) hh
@[sl_canon] theorem a_slot_next (k : K1) (hk : k.val ≤ 6) (hh hs) : (aRing.slice (Rect.unit (s := S2x1024x384) (k0_off9 (sStarted k)) S1x1024x384.size hh) hs).squeeze S1024x384 squeezes_S1x1024x384_S1024x384 = aSl (Ring.sl 2 (k.val + 1)) :=
  aSlot_congr (off9_eq k hk) hh hs
@[sl_canon] theorem a_tile_next (k : K1) (hk : k.val ≤ 6) (hh hs) : aArr.slice (Rect.unit (s := S1024x9216) (k0_off10 (sTrip k)) S1024x384.size hh) hs = aTi (Ring.bk 8 (k.val + 1)) :=
  aTile_congr (off10_eq k hk) hh hs
@[sl_canon] theorem a_sem_here (k : K1) (hh) : (cc0_scoped2.slice (Rect.unit (s := S2) (k0_off23 (sWaited k)) S1.size hh)).squeeze S_ squeezes_S1_S_ = aSe (Ring.sl 2 k.val) :=
  aSem_congr (off23_eq k) hh
@[sl_canon] theorem a_slot_here (k : K1) (hh hs) : (aRing.slice (Rect.unit (s := S2x1024x384) (k0_off24 (sWaited k)) S1x1024x384.size hh) hs).squeeze S1024x384 squeezes_S1x1024x384_S1024x384 = aSl (Ring.sl 2 k.val) :=
  aSlot_congr (off24_eq k) hh hs
@[sl_canon] theorem a_tile_here (k : K1) (hh hs) : aArr.slice (Rect.unit (s := S1024x9216) (k0_off25 (sTrip k)) S1024x384.size hh) hs = aTi (Ring.bk 8 k.val) :=
  aTile_congr (off25_eq k) hh hs

/- The bias's columns. -/
abbrev bOff (b : Fin 8) : Fin 2 → Nat := ![0, 384 * b.val]
theorem bOff_inb (b : Fin 8) : ∀ a, bOff b a + S1x384.size a ≤ S1x9216.size a := by
  revert b; decide
theorem bSlot_inb (s : Fin 2) : ∀ a, slotOff s a + S1x1x384.size a ≤ S2x1x384.size a := by
  revert s; decide
abbrev bRing : Memref sig .tc .vmem S2x1x384 .f32 := Memref.whole cc0_scoped3
abbrev bArr : Memref sig .tc .hbm S1x9216 .f32 := Memref.whole main_v3
def bTi (b : Fin 8) : Memref sig .tc .hbm S1x384 .f32 :=
  bArr.slice (Rect.unit (s := S1x9216) (bOff b) S1x384.size (bOff_inb b)) (fun _ => rfl)
def bSl (s : Fin 2) : Memref sig .tc .vmem S1x384 .f32 :=
  (bRing.slice (Rect.unit (s := S2x1x384) (slotOff s) S1x1x384.size (bSlot_inb s)) (fun _ => rfl)).squeeze S1x384 squeezes_S1x1x384_S1x384
def bSe (s : Fin 2) : DmaSems sig S_ := (cc0_scoped4.slice (Rect.unit (s := S2) (semOff s) S1.size (semOff_inb s))).squeeze S_ squeezes_S1_S_
instance (b : Fin 8) : ClosedOff (bOff b) := ⟨bOff b, rfl⟩
private theorem bSem_congr {off : Fin 1 → Nat} {s : Fin 2} (e : off = semOff s) (hh) :
    (cc0_scoped4.slice (Rect.unit (s := S2) off S1.size hh)).squeeze S_ squeezes_S1_S_ = bSe s :=
  congrArg (fun A : DmaSems sig S1 => A.squeeze S_ squeezes_S1_S_) (SemArray.slice_unit_congr _ e _ _)
private theorem bSlot_congr {off : Fin 3 → Nat} {s : Fin 2} (e : off = slotOff s) (hh hs) :
    (bRing.slice (Rect.unit (s := S2x1x384) off S1x1x384.size hh) hs).squeeze S1x384 squeezes_S1x1x384_S1x384 = bSl s :=
  congrArg (fun M : Memref sig .tc .vmem S1x1x384 .f32 => M.squeeze S1x384 squeezes_S1x1x384_S1x384) (Memref.slice_unit_congr _ e _ _ _ _)
private theorem bTile_congr {off : Fin 2 → Nat} {b : Fin 8} (e : off = bOff b) (hh hs) :
    bArr.slice (Rect.unit (s := S1x9216) off S1x384.size hh) hs = bTi b :=
  Memref.slice_unit_congr _ e hh (bOff_inb b) hs (fun _ => rfl)
@[sl_canon] theorem b_sem_first (hh) : (cc0_scoped4.slice (Rect.unit (s := S2) (k0_off1) S1.size hh)).squeeze S_ squeezes_S1_S_ = bSe (Ring.sl 2 0) :=
  bSem_congr (by decide) hh
@[sl_canon] theorem b_slot_first (hh hs) : (bRing.slice (Rect.unit (s := S2x1x384) (k0_off4) S1x1x384.size hh) hs).squeeze S1x384 squeezes_S1x1x384_S1x384 = bSl (Ring.sl 2 0) :=
  bSlot_congr (by decide) hh hs
@[sl_canon] theorem b_tile_first (hh hs) : bArr.slice (Rect.unit (s := S1x9216) (k0_off5) S1x384.size hh) hs = bTi (Ring.bk 8 0) :=
  bTile_congr (by decide) hh hs
theorem off11_eq : ∀ k : K1, k.val ≤ 6 → k0_off11 (sStarted k) = semOff (Ring.sl 2 (k.val + 1)) := by decide +kernel
theorem off12_eq : ∀ k : K1, k.val ≤ 6 → k0_off12 (sStarted k) = slotOff (Ring.sl 2 (k.val + 1)) := by decide +kernel
theorem off13_eq : ∀ k : K1, k.val ≤ 6 → k0_off13 (sTrip k) = bOff (Ring.bk 8 (k.val + 1)) := by decide +kernel
theorem off26_eq : ∀ k : K1, k0_off26 (sWaited k) = semOff (Ring.sl 2 k.val) := by decide +kernel
theorem off27_eq : ∀ k : K1, k0_off27 (sWaited k) = slotOff (Ring.sl 2 k.val) := by decide +kernel
theorem off28_eq : ∀ k : K1, k0_off28 (sTrip k) = bOff (Ring.bk 8 k.val) := by decide +kernel
@[sl_canon] theorem b_sem_next (k : K1) (hk : k.val ≤ 6) (hh) : (cc0_scoped4.slice (Rect.unit (s := S2) (k0_off11 (sStarted k)) S1.size hh)).squeeze S_ squeezes_S1_S_ = bSe (Ring.sl 2 (k.val + 1)) :=
  bSem_congr (off11_eq k hk) hh
@[sl_canon] theorem b_slot_next (k : K1) (hk : k.val ≤ 6) (hh hs) : (bRing.slice (Rect.unit (s := S2x1x384) (k0_off12 (sStarted k)) S1x1x384.size hh) hs).squeeze S1x384 squeezes_S1x1x384_S1x384 = bSl (Ring.sl 2 (k.val + 1)) :=
  bSlot_congr (off12_eq k hk) hh hs
@[sl_canon] theorem b_tile_next (k : K1) (hk : k.val ≤ 6) (hh hs) : bArr.slice (Rect.unit (s := S1x9216) (k0_off13 (sTrip k)) S1x384.size hh) hs = bTi (Ring.bk 8 (k.val + 1)) :=
  bTile_congr (off13_eq k hk) hh hs
@[sl_canon] theorem b_sem_here (k : K1) (hh) : (cc0_scoped4.slice (Rect.unit (s := S2) (k0_off26 (sWaited k)) S1.size hh)).squeeze S_ squeezes_S1_S_ = bSe (Ring.sl 2 k.val) :=
  bSem_congr (off26_eq k) hh
@[sl_canon] theorem b_slot_here (k : K1) (hh hs) : (bRing.slice (Rect.unit (s := S2x1x384) (k0_off27 (sWaited k)) S1x1x384.size hh) hs).squeeze S1x384 squeezes_S1x1x384_S1x384 = bSl (Ring.sl 2 k.val) :=
  bSlot_congr (off27_eq k) hh hs
@[sl_canon] theorem b_tile_here (k : K1) (hh hs) : bArr.slice (Rect.unit (s := S1x9216) (k0_off28 (sTrip k)) S1x384.size hh) hs = bTi (Ring.bk 8 k.val) :=
  bTile_congr (off28_eq k) hh hs

/- The first weight's rows. -/
abbrev cOff (b : Fin 8) : Fin 2 → Nat := ![128 * b.val, 0]
theorem cOff_inb (b : Fin 8) : ∀ a, cOff b a + S128x2816.size a ≤ S1024x2816.size a := by
  revert b; decide
theorem cSlot_inb (s : Fin 2) : ∀ a, slotOff s a + S1x128x2816.size a ≤ S2x128x2816.size a := by
  revert s; decide
abbrev cRing : Memref sig .tc .vmem S2x128x2816 .f32 := Memref.whole cc0_scoped5
abbrev cArr : Memref sig .tc .hbm S1024x2816 .f32 := Memref.whole main_arg4
def cTi (b : Fin 8) : Memref sig .tc .hbm S128x2816 .f32 :=
  cArr.slice (Rect.unit (s := S1024x2816) (cOff b) S128x2816.size (cOff_inb b)) (fun _ => rfl)
def cSl (s : Fin 2) : Memref sig .tc .vmem S128x2816 .f32 :=
  (cRing.slice (Rect.unit (s := S2x128x2816) (slotOff s) S1x128x2816.size (cSlot_inb s)) (fun _ => rfl)).squeeze S128x2816 squeezes_S1x128x2816_S128x2816
def cSe (s : Fin 2) : DmaSems sig S_ := (cc0_scoped6.slice (Rect.unit (s := S2) (semOff s) S1.size (semOff_inb s))).squeeze S_ squeezes_S1_S_
instance (b : Fin 8) : ClosedOff (cOff b) := ⟨cOff b, rfl⟩
private theorem cSem_congr {off : Fin 1 → Nat} {s : Fin 2} (e : off = semOff s) (hh) :
    (cc0_scoped6.slice (Rect.unit (s := S2) off S1.size hh)).squeeze S_ squeezes_S1_S_ = cSe s :=
  congrArg (fun A : DmaSems sig S1 => A.squeeze S_ squeezes_S1_S_) (SemArray.slice_unit_congr _ e _ _)
private theorem cSlot_congr {off : Fin 3 → Nat} {s : Fin 2} (e : off = slotOff s) (hh hs) :
    (cRing.slice (Rect.unit (s := S2x128x2816) off S1x128x2816.size hh) hs).squeeze S128x2816 squeezes_S1x128x2816_S128x2816 = cSl s :=
  congrArg (fun M : Memref sig .tc .vmem S1x128x2816 .f32 => M.squeeze S128x2816 squeezes_S1x128x2816_S128x2816) (Memref.slice_unit_congr _ e _ _ _ _)
private theorem cTile_congr {off : Fin 2 → Nat} {b : Fin 8} (e : off = cOff b) (hh hs) :
    cArr.slice (Rect.unit (s := S1024x2816) off S128x2816.size hh) hs = cTi b :=
  Memref.slice_unit_congr _ e hh (cOff_inb b) hs (fun _ => rfl)
@[sl_canon] theorem c_sem_first (hh) : (cc0_scoped6.slice (Rect.unit (s := S2) (k0_off1) S1.size hh)).squeeze S_ squeezes_S1_S_ = cSe (Ring.sl 2 0) :=
  cSem_congr (by decide) hh
@[sl_canon] theorem c_slot_first (hh hs) : (cRing.slice (Rect.unit (s := S2x128x2816) (k0_off6) S1x128x2816.size hh) hs).squeeze S128x2816 squeezes_S1x128x2816_S128x2816 = cSl (Ring.sl 2 0) :=
  cSlot_congr (by decide) hh hs
@[sl_canon] theorem c_tile_first (hh hs) : cArr.slice (Rect.unit (s := S1024x2816) (![0, 0]) S128x2816.size hh) hs = cTi (Ring.bk 8 0) :=
  cTile_congr (by decide) hh hs
theorem off14_eq : ∀ k : K1, k.val ≤ 6 → k0_off14 (sStarted k) = semOff (Ring.sl 2 (k.val + 1)) := by decide +kernel
theorem off15_eq : ∀ k : K1, k.val ≤ 6 → k0_off15 (sStarted k) = slotOff (Ring.sl 2 (k.val + 1)) := by decide +kernel
theorem off16_eq : ∀ k : K1, k.val ≤ 6 → k0_off16 (sTrip k) = cOff (Ring.bk 8 (k.val + 1)) := by decide +kernel
theorem off29_eq : ∀ k : K1, k0_off29 (sWaited k) = semOff (Ring.sl 2 k.val) := by decide +kernel
theorem off30_eq : ∀ k : K1, k0_off30 (sWaited k) = slotOff (Ring.sl 2 k.val) := by decide +kernel
theorem off31_eq : ∀ k : K1, k0_off31 (sTrip k) = cOff (Ring.bk 8 k.val) := by decide +kernel
@[sl_canon] theorem c_sem_next (k : K1) (hk : k.val ≤ 6) (hh) : (cc0_scoped6.slice (Rect.unit (s := S2) (k0_off14 (sStarted k)) S1.size hh)).squeeze S_ squeezes_S1_S_ = cSe (Ring.sl 2 (k.val + 1)) :=
  cSem_congr (off14_eq k hk) hh
@[sl_canon] theorem c_slot_next (k : K1) (hk : k.val ≤ 6) (hh hs) : (cRing.slice (Rect.unit (s := S2x128x2816) (k0_off15 (sStarted k)) S1x128x2816.size hh) hs).squeeze S128x2816 squeezes_S1x128x2816_S128x2816 = cSl (Ring.sl 2 (k.val + 1)) :=
  cSlot_congr (off15_eq k hk) hh hs
@[sl_canon] theorem c_tile_next (k : K1) (hk : k.val ≤ 6) (hh hs) : cArr.slice (Rect.unit (s := S1024x2816) (k0_off16 (sTrip k)) S128x2816.size hh) hs = cTi (Ring.bk 8 (k.val + 1)) :=
  cTile_congr (off16_eq k hk) hh hs
@[sl_canon] theorem c_sem_here (k : K1) (hh) : (cc0_scoped6.slice (Rect.unit (s := S2) (k0_off29 (sWaited k)) S1.size hh)).squeeze S_ squeezes_S1_S_ = cSe (Ring.sl 2 k.val) :=
  cSem_congr (off29_eq k) hh
@[sl_canon] theorem c_slot_here (k : K1) (hh hs) : (cRing.slice (Rect.unit (s := S2x128x2816) (k0_off30 (sWaited k)) S1x128x2816.size hh) hs).squeeze S128x2816 squeezes_S1x128x2816_S128x2816 = cSl (Ring.sl 2 k.val) :=
  cSlot_congr (off30_eq k) hh hs
@[sl_canon] theorem c_tile_here (k : K1) (hh hs) : cArr.slice (Rect.unit (s := S1024x2816) (k0_off31 (sTrip k)) S128x2816.size hh) hs = cTi (Ring.bk 8 k.val) :=
  cTile_congr (off31_eq k) hh hs

/- The gate weight's rows. -/
abbrev dOff (b : Fin 8) : Fin 2 → Nat := ![128 * b.val, 0]
theorem dOff_inb (b : Fin 8) : ∀ a, dOff b a + S128x2816.size a ≤ S1024x2816.size a := by
  revert b; decide
theorem dSlot_inb (s : Fin 2) : ∀ a, slotOff s a + S1x128x2816.size a ≤ S2x128x2816.size a := by
  revert s; decide
abbrev dRing : Memref sig .tc .vmem S2x128x2816 .f32 := Memref.whole cc0_scoped7
abbrev dArr : Memref sig .tc .hbm S1024x2816 .f32 := Memref.whole main_arg5
def dTi (b : Fin 8) : Memref sig .tc .hbm S128x2816 .f32 :=
  dArr.slice (Rect.unit (s := S1024x2816) (dOff b) S128x2816.size (dOff_inb b)) (fun _ => rfl)
def dSl (s : Fin 2) : Memref sig .tc .vmem S128x2816 .f32 :=
  (dRing.slice (Rect.unit (s := S2x128x2816) (slotOff s) S1x128x2816.size (dSlot_inb s)) (fun _ => rfl)).squeeze S128x2816 squeezes_S1x128x2816_S128x2816
def dSe (s : Fin 2) : DmaSems sig S_ := (cc0_scoped8.slice (Rect.unit (s := S2) (semOff s) S1.size (semOff_inb s))).squeeze S_ squeezes_S1_S_
instance (b : Fin 8) : ClosedOff (dOff b) := ⟨dOff b, rfl⟩
private theorem dSem_congr {off : Fin 1 → Nat} {s : Fin 2} (e : off = semOff s) (hh) :
    (cc0_scoped8.slice (Rect.unit (s := S2) off S1.size hh)).squeeze S_ squeezes_S1_S_ = dSe s :=
  congrArg (fun A : DmaSems sig S1 => A.squeeze S_ squeezes_S1_S_) (SemArray.slice_unit_congr _ e _ _)
private theorem dSlot_congr {off : Fin 3 → Nat} {s : Fin 2} (e : off = slotOff s) (hh hs) :
    (dRing.slice (Rect.unit (s := S2x128x2816) off S1x128x2816.size hh) hs).squeeze S128x2816 squeezes_S1x128x2816_S128x2816 = dSl s :=
  congrArg (fun M : Memref sig .tc .vmem S1x128x2816 .f32 => M.squeeze S128x2816 squeezes_S1x128x2816_S128x2816) (Memref.slice_unit_congr _ e _ _ _ _)
private theorem dTile_congr {off : Fin 2 → Nat} {b : Fin 8} (e : off = dOff b) (hh hs) :
    dArr.slice (Rect.unit (s := S1024x2816) off S128x2816.size hh) hs = dTi b :=
  Memref.slice_unit_congr _ e hh (dOff_inb b) hs (fun _ => rfl)
@[sl_canon] theorem d_sem_first (hh) : (cc0_scoped8.slice (Rect.unit (s := S2) (k0_off1) S1.size hh)).squeeze S_ squeezes_S1_S_ = dSe (Ring.sl 2 0) :=
  dSem_congr (by decide) hh
@[sl_canon] theorem d_slot_first (hh hs) : (dRing.slice (Rect.unit (s := S2x128x2816) (k0_off6) S1x128x2816.size hh) hs).squeeze S128x2816 squeezes_S1x128x2816_S128x2816 = dSl (Ring.sl 2 0) :=
  dSlot_congr (by decide) hh hs
@[sl_canon] theorem d_tile_first (hh hs) : dArr.slice (Rect.unit (s := S1024x2816) (![0, 0]) S128x2816.size hh) hs = dTi (Ring.bk 8 0) :=
  dTile_congr (by decide) hh hs
theorem off17_eq : ∀ k : K1, k.val ≤ 6 → k0_off17 (sStarted k) = semOff (Ring.sl 2 (k.val + 1)) := by decide +kernel
theorem off18_eq : ∀ k : K1, k.val ≤ 6 → k0_off18 (sStarted k) = slotOff (Ring.sl 2 (k.val + 1)) := by decide +kernel
theorem off19_eq : ∀ k : K1, k.val ≤ 6 → k0_off19 (sTrip k) = dOff (Ring.bk 8 (k.val + 1)) := by decide +kernel
theorem off32_eq : ∀ k : K1, k0_off32 (sWaited k) = semOff (Ring.sl 2 k.val) := by decide +kernel
theorem off33_eq : ∀ k : K1, k0_off33 (sWaited k) = slotOff (Ring.sl 2 k.val) := by decide +kernel
theorem off34_eq : ∀ k : K1, k0_off34 (sTrip k) = dOff (Ring.bk 8 k.val) := by decide +kernel
@[sl_canon] theorem d_sem_next (k : K1) (hk : k.val ≤ 6) (hh) : (cc0_scoped8.slice (Rect.unit (s := S2) (k0_off17 (sStarted k)) S1.size hh)).squeeze S_ squeezes_S1_S_ = dSe (Ring.sl 2 (k.val + 1)) :=
  dSem_congr (off17_eq k hk) hh
@[sl_canon] theorem d_slot_next (k : K1) (hk : k.val ≤ 6) (hh hs) : (dRing.slice (Rect.unit (s := S2x128x2816) (k0_off18 (sStarted k)) S1x128x2816.size hh) hs).squeeze S128x2816 squeezes_S1x128x2816_S128x2816 = dSl (Ring.sl 2 (k.val + 1)) :=
  dSlot_congr (off18_eq k hk) hh hs
@[sl_canon] theorem d_tile_next (k : K1) (hk : k.val ≤ 6) (hh hs) : dArr.slice (Rect.unit (s := S1024x2816) (k0_off19 (sTrip k)) S128x2816.size hh) hs = dTi (Ring.bk 8 (k.val + 1)) :=
  dTile_congr (off19_eq k hk) hh hs
@[sl_canon] theorem d_sem_here (k : K1) (hh) : (cc0_scoped8.slice (Rect.unit (s := S2) (k0_off32 (sWaited k)) S1.size hh)).squeeze S_ squeezes_S1_S_ = dSe (Ring.sl 2 k.val) :=
  dSem_congr (off32_eq k) hh
@[sl_canon] theorem d_slot_here (k : K1) (hh hs) : (dRing.slice (Rect.unit (s := S2x128x2816) (k0_off33 (sWaited k)) S1x128x2816.size hh) hs).squeeze S128x2816 squeezes_S1x128x2816_S128x2816 = dSl (Ring.sl 2 k.val) :=
  dSlot_congr (off33_eq k) hh hs
@[sl_canon] theorem d_tile_here (k : K1) (hh hs) : dArr.slice (Rect.unit (s := S1024x2816) (k0_off34 (sTrip k)) S128x2816.size hh) hs = dTi (Ring.bk 8 k.val) :=
  dTile_congr (off34_eq k) hh hs

/- The second weight's rows. -/
abbrev eOff (b : Fin 8) : Fin 2 → Nat := ![352 * b.val, 0]
theorem eOff_inb (b : Fin 8) : ∀ a, eOff b a + S352x1024.size a ≤ S2816x1024.size a := by
  revert b; decide
theorem eSlot_inb (s : Fin 2) : ∀ a, slotOff s a + S1x352x1024.size a ≤ S2x352x1024.size a := by
  revert s; decide
abbrev eRing : Memref sig .tc .vmem S2x352x1024 .f32 := Memref.whole cc0_scoped9
abbrev eArr : Memref sig .tc .hbm S2816x1024 .f32 := Memref.whole main_arg6
def eTi (b : Fin 8) : Memref sig .tc .hbm S352x1024 .f32 :=
  eArr.slice (Rect.unit (s := S2816x1024) (eOff b) S352x1024.size (eOff_inb b)) (fun _ => rfl)
def eSl (s : Fin 2) : Memref sig .tc .vmem S352x1024 .f32 :=
  (eRing.slice (Rect.unit (s := S2x352x1024) (slotOff s) S1x352x1024.size (eSlot_inb s)) (fun _ => rfl)).squeeze S352x1024 squeezes_S1x352x1024_S352x1024
def eSe (s : Fin 2) : DmaSems sig S_ := (cc0_scoped10.slice (Rect.unit (s := S2) (semOff s) S1.size (semOff_inb s))).squeeze S_ squeezes_S1_S_
instance (b : Fin 8) : ClosedOff (eOff b) := ⟨eOff b, rfl⟩
private theorem eSem_congr {off : Fin 1 → Nat} {s : Fin 2} (e : off = semOff s) (hh) :
    (cc0_scoped10.slice (Rect.unit (s := S2) off S1.size hh)).squeeze S_ squeezes_S1_S_ = eSe s :=
  congrArg (fun A : DmaSems sig S1 => A.squeeze S_ squeezes_S1_S_) (SemArray.slice_unit_congr _ e _ _)
private theorem eSlot_congr {off : Fin 3 → Nat} {s : Fin 2} (e : off = slotOff s) (hh hs) :
    (eRing.slice (Rect.unit (s := S2x352x1024) off S1x352x1024.size hh) hs).squeeze S352x1024 squeezes_S1x352x1024_S352x1024 = eSl s :=
  congrArg (fun M : Memref sig .tc .vmem S1x352x1024 .f32 => M.squeeze S352x1024 squeezes_S1x352x1024_S352x1024) (Memref.slice_unit_congr _ e _ _ _ _)
private theorem eTile_congr {off : Fin 2 → Nat} {b : Fin 8} (e : off = eOff b) (hh hs) :
    eArr.slice (Rect.unit (s := S2816x1024) off S352x1024.size hh) hs = eTi b :=
  Memref.slice_unit_congr _ e hh (eOff_inb b) hs (fun _ => rfl)
@[sl_canon] theorem e_sem_first (hh) : (cc0_scoped10.slice (Rect.unit (s := S2) (k0_off1) S1.size hh)).squeeze S_ squeezes_S1_S_ = eSe (Ring.sl 2 0) :=
  eSem_congr (by decide) hh
@[sl_canon] theorem e_slot_first (hh hs) : (eRing.slice (Rect.unit (s := S2x352x1024) (k0_off7) S1x352x1024.size hh) hs).squeeze S352x1024 squeezes_S1x352x1024_S352x1024 = eSl (Ring.sl 2 0) :=
  eSlot_congr (by decide) hh hs
@[sl_canon] theorem e_tile_first (hh hs) : eArr.slice (Rect.unit (s := S2816x1024) (![0, 0]) S352x1024.size hh) hs = eTi (Ring.bk 8 0) :=
  eTile_congr (by decide) hh hs
theorem off20_eq : ∀ k : K1, k.val ≤ 6 → k0_off20 (sStarted k) = semOff (Ring.sl 2 (k.val + 1)) := by decide +kernel
theorem off21_eq : ∀ k : K1, k.val ≤ 6 → k0_off21 (sStarted k) = slotOff (Ring.sl 2 (k.val + 1)) := by decide +kernel
theorem off22_eq : ∀ k : K1, k.val ≤ 6 → k0_off22 (sTrip k) = eOff (Ring.bk 8 (k.val + 1)) := by decide +kernel
theorem off35_eq : ∀ k : K1, k0_off35 (sWaited k) = semOff (Ring.sl 2 k.val) := by decide +kernel
theorem off36_eq : ∀ k : K1, k0_off36 (sWaited k) = slotOff (Ring.sl 2 k.val) := by decide +kernel
theorem off37_eq : ∀ k : K1, k0_off37 (sTrip k) = eOff (Ring.bk 8 k.val) := by decide +kernel
@[sl_canon] theorem e_sem_next (k : K1) (hk : k.val ≤ 6) (hh) : (cc0_scoped10.slice (Rect.unit (s := S2) (k0_off20 (sStarted k)) S1.size hh)).squeeze S_ squeezes_S1_S_ = eSe (Ring.sl 2 (k.val + 1)) :=
  eSem_congr (off20_eq k hk) hh
@[sl_canon] theorem e_slot_next (k : K1) (hk : k.val ≤ 6) (hh hs) : (eRing.slice (Rect.unit (s := S2x352x1024) (k0_off21 (sStarted k)) S1x352x1024.size hh) hs).squeeze S352x1024 squeezes_S1x352x1024_S352x1024 = eSl (Ring.sl 2 (k.val + 1)) :=
  eSlot_congr (off21_eq k hk) hh hs
@[sl_canon] theorem e_tile_next (k : K1) (hk : k.val ≤ 6) (hh hs) : eArr.slice (Rect.unit (s := S2816x1024) (k0_off22 (sTrip k)) S352x1024.size hh) hs = eTi (Ring.bk 8 (k.val + 1)) :=
  eTile_congr (off22_eq k hk) hh hs
@[sl_canon] theorem e_sem_here (k : K1) (hh) : (cc0_scoped10.slice (Rect.unit (s := S2) (k0_off35 (sWaited k)) S1.size hh)).squeeze S_ squeezes_S1_S_ = eSe (Ring.sl 2 k.val) :=
  eSem_congr (off35_eq k) hh
@[sl_canon] theorem e_slot_here (k : K1) (hh hs) : (eRing.slice (Rect.unit (s := S2x352x1024) (k0_off36 (sWaited k)) S1x352x1024.size hh) hs).squeeze S352x1024 squeezes_S1x352x1024_S352x1024 = eSl (Ring.sl 2 k.val) :=
  eSlot_congr (off36_eq k) hh hs
@[sl_canon] theorem e_tile_here (k : K1) (hh hs) : eArr.slice (Rect.unit (s := S2816x1024) (k0_off37 (sTrip k)) S352x1024.size hh) hs = eTi (Ring.bk 8 k.val) :=
  eTile_congr (off37_eq k) hh hs

/- The input's rows. -/
abbrev hOff (b : Fin 16) : Fin 2 → Nat := ![1024 * b.val, 0]
theorem hOff_inb (b : Fin 16) : ∀ a, hOff b a + S1024x1024.size a ≤ S16384x1024.size a := by
  revert b; decide
theorem hSlot_inb (s : Fin 2) : ∀ a, slotOff s a + S1x1024x1024.size a ≤ S2x1024x1024.size a := by
  revert s; decide
abbrev hRing : Memref sig .tc .vmem S2x1024x1024 .f32 := Memref.whole cc0_scoped12
abbrev hArr : Memref sig .tc .hbm S16384x1024 .f32 := Memref.whole main_v0
def hTi (b : Fin 16) : Memref sig .tc .hbm S1024x1024 .f32 :=
  hArr.slice (Rect.unit (s := S16384x1024) (hOff b) S1024x1024.size (hOff_inb b)) (fun _ => rfl)
def hSl (s : Fin 2) : Memref sig .tc .vmem S1024x1024 .f32 :=
  (hRing.slice (Rect.unit (s := S2x1024x1024) (slotOff s) S1x1024x1024.size (hSlot_inb s)) (fun _ => rfl)).squeeze S1024x1024 squeezes_S1x1024x1024_S1024x1024
def hSe (s : Fin 2) : DmaSems sig S_ := (cc0_scoped13.slice (Rect.unit (s := S2) (semOff s) S1.size (semOff_inb s))).squeeze S_ squeezes_S1_S_
instance (b : Fin 16) : ClosedOff (hOff b) := ⟨hOff b, rfl⟩
private theorem hSem_congr {off : Fin 1 → Nat} {s : Fin 2} (e : off = semOff s) (hh) :
    (cc0_scoped13.slice (Rect.unit (s := S2) off S1.size hh)).squeeze S_ squeezes_S1_S_ = hSe s :=
  congrArg (fun A : DmaSems sig S1 => A.squeeze S_ squeezes_S1_S_) (SemArray.slice_unit_congr _ e _ _)
private theorem hSlot_congr {off : Fin 3 → Nat} {s : Fin 2} (e : off = slotOff s) (hh hs) :
    (hRing.slice (Rect.unit (s := S2x1024x1024) off S1x1024x1024.size hh) hs).squeeze S1024x1024 squeezes_S1x1024x1024_S1024x1024 = hSl s :=
  congrArg (fun M : Memref sig .tc .vmem S1x1024x1024 .f32 => M.squeeze S1024x1024 squeezes_S1x1024x1024_S1024x1024) (Memref.slice_unit_congr _ e _ _ _ _)
private theorem hTile_congr {off : Fin 2 → Nat} {b : Fin 16} (e : off = hOff b) (hh hs) :
    hArr.slice (Rect.unit (s := S16384x1024) off S1024x1024.size hh) hs = hTi b :=
  Memref.slice_unit_congr _ e hh (hOff_inb b) hs (fun _ => rfl)
@[sl_canon] theorem h_sem_first (hh) : (cc0_scoped13.slice (Rect.unit (s := S2) (k0_off1) S1.size hh)).squeeze S_ squeezes_S1_S_ = hSe (Ring.sl 2 0) :=
  hSem_congr (by decide) hh
@[sl_canon] theorem h_slot_first (hh hs) : (hRing.slice (Rect.unit (s := S2x1024x1024) (k0_off59) S1x1024x1024.size hh) hs).squeeze S1024x1024 squeezes_S1x1024x1024_S1024x1024 = hSl (Ring.sl 2 0) :=
  hSlot_congr (by decide) hh hs
@[sl_canon] theorem h_tile_first (hh hs) : hArr.slice (Rect.unit (s := S16384x1024) (k0_off60) S1024x1024.size hh) hs = hTi (Ring.bk 16 0) :=
  hTile_congr (by decide) hh hs
theorem off69_eq : ∀ k : K2, k.val ≤ 14 → k0_off69 (mStarted k) = semOff (Ring.sl 2 (k.val + 1)) := by decide +kernel
theorem off70_eq : ∀ k : K2, k.val ≤ 14 → k0_off70 (mStarted k) = slotOff (Ring.sl 2 (k.val + 1)) := by decide +kernel
theorem off71_eq : ∀ k : K2, k.val ≤ 14 → k0_off71 (mTrip k) = hOff (Ring.bk 16 (k.val + 1)) := by decide +kernel
theorem off87_eq : ∀ k : K2, k.val ≤ 15 → k0_off87 (mWaited k) = semOff (Ring.sl 2 k.val) := by decide +kernel
theorem off88_eq : ∀ k : K2, k.val ≤ 15 → k0_off88 (mWaited k) = slotOff (Ring.sl 2 k.val) := by decide +kernel
theorem off89_eq : ∀ k : K2, k.val ≤ 15 → k0_off89 (mTrip k) = hOff (Ring.bk 16 k.val) := by decide +kernel
@[sl_canon] theorem h_sem_next (k : K2) (hk : k.val ≤ 14) (hh) : (cc0_scoped13.slice (Rect.unit (s := S2) (k0_off69 (mStarted k)) S1.size hh)).squeeze S_ squeezes_S1_S_ = hSe (Ring.sl 2 (k.val + 1)) :=
  hSem_congr (off69_eq k hk) hh
@[sl_canon] theorem h_slot_next (k : K2) (hk : k.val ≤ 14) (hh hs) : (hRing.slice (Rect.unit (s := S2x1024x1024) (k0_off70 (mStarted k)) S1x1024x1024.size hh) hs).squeeze S1024x1024 squeezes_S1x1024x1024_S1024x1024 = hSl (Ring.sl 2 (k.val + 1)) :=
  hSlot_congr (off70_eq k hk) hh hs
@[sl_canon] theorem h_tile_next (k : K2) (hk : k.val ≤ 14) (hh hs) : hArr.slice (Rect.unit (s := S16384x1024) (k0_off71 (mTrip k)) S1024x1024.size hh) hs = hTi (Ring.bk 16 (k.val + 1)) :=
  hTile_congr (off71_eq k hk) hh hs
@[sl_canon] theorem h_sem_here (k : K2) (hk : k.val ≤ 15) (hh) : (cc0_scoped13.slice (Rect.unit (s := S2) (k0_off87 (mWaited k)) S1.size hh)).squeeze S_ squeezes_S1_S_ = hSe (Ring.sl 2 k.val) :=
  hSem_congr (off87_eq k hk) hh
@[sl_canon] theorem h_slot_here (k : K2) (hk : k.val ≤ 15) (hh hs) : (hRing.slice (Rect.unit (s := S2x1024x1024) (k0_off88 (mWaited k)) S1x1024x1024.size hh) hs).squeeze S1024x1024 squeezes_S1x1024x1024_S1024x1024 = hSl (Ring.sl 2 k.val) :=
  hSlot_congr (off88_eq k hk) hh hs
@[sl_canon] theorem h_tile_here (k : K2) (hk : k.val ≤ 15) (hh hs) : hArr.slice (Rect.unit (s := S16384x1024) (k0_off89 (mTrip k)) S1024x1024.size hh) hs = hTi (Ring.bk 16 k.val) :=
  hTile_congr (off89_eq k hk) hh hs

/- The mixer's input weight's rows. -/
abbrev iOff (b : Fin 16) : Fin 2 → Nat := ![64 * b.val, 0]
theorem iOff_inb (b : Fin 16) : ∀ a, iOff b a + S64x1280.size a ≤ S1024x1280.size a := by
  revert b; decide
theorem iSlot_inb (s : Fin 2) : ∀ a, slotOff s a + S1x64x1280.size a ≤ S2x64x1280.size a := by
  revert s; decide
abbrev iRing : Memref sig .tc .vmem S2x64x1280 .f32 := Memref.whole cc0_scoped14
abbrev iArr : Memref sig .tc .hbm S1024x1280 .f32 := Memref.whole main_arg9
def iTi (b : Fin 16) : Memref sig .tc .hbm S64x1280 .f32 :=
  iArr.slice (Rect.unit (s := S1024x1280) (iOff b) S64x1280.size (iOff_inb b)) (fun _ => rfl)
def iSl (s : Fin 2) : Memref sig .tc .vmem S64x1280 .f32 :=
  (iRing.slice (Rect.unit (s := S2x64x1280) (slotOff s) S1x64x1280.size (iSlot_inb s)) (fun _ => rfl)).squeeze S64x1280 squeezes_S1x64x1280_S64x1280
def iSe (s : Fin 2) : DmaSems sig S_ := (cc0_scoped15.slice (Rect.unit (s := S2) (semOff s) S1.size (semOff_inb s))).squeeze S_ squeezes_S1_S_
instance (b : Fin 16) : ClosedOff (iOff b) := ⟨iOff b, rfl⟩
private theorem iSem_congr {off : Fin 1 → Nat} {s : Fin 2} (e : off = semOff s) (hh) :
    (cc0_scoped15.slice (Rect.unit (s := S2) off S1.size hh)).squeeze S_ squeezes_S1_S_ = iSe s :=
  congrArg (fun A : DmaSems sig S1 => A.squeeze S_ squeezes_S1_S_) (SemArray.slice_unit_congr _ e _ _)
private theorem iSlot_congr {off : Fin 3 → Nat} {s : Fin 2} (e : off = slotOff s) (hh hs) :
    (iRing.slice (Rect.unit (s := S2x64x1280) off S1x64x1280.size hh) hs).squeeze S64x1280 squeezes_S1x64x1280_S64x1280 = iSl s :=
  congrArg (fun M : Memref sig .tc .vmem S1x64x1280 .f32 => M.squeeze S64x1280 squeezes_S1x64x1280_S64x1280) (Memref.slice_unit_congr _ e _ _ _ _)
private theorem iTile_congr {off : Fin 2 → Nat} {b : Fin 16} (e : off = iOff b) (hh hs) :
    iArr.slice (Rect.unit (s := S1024x1280) off S64x1280.size hh) hs = iTi b :=
  Memref.slice_unit_congr _ e hh (iOff_inb b) hs (fun _ => rfl)
@[sl_canon] theorem i_sem_first (hh) : (cc0_scoped15.slice (Rect.unit (s := S2) (k0_off1) S1.size hh)).squeeze S_ squeezes_S1_S_ = iSe (Ring.sl 2 0) :=
  iSem_congr (by decide) hh
@[sl_canon] theorem i_slot_first (hh hs) : (iRing.slice (Rect.unit (s := S2x64x1280) (k0_off61) S1x64x1280.size hh) hs).squeeze S64x1280 squeezes_S1x64x1280_S64x1280 = iSl (Ring.sl 2 0) :=
  iSlot_congr (by decide) hh hs
@[sl_canon] theorem i_tile_first (hh hs) : iArr.slice (Rect.unit (s := S1024x1280) (k0_off62) S64x1280.size hh) hs = iTi (Ring.bk 16 0) :=
  iTile_congr (by decide) hh hs
theorem off72_eq : ∀ k : K2, k.val ≤ 14 → k0_off72 (mStarted k) = semOff (Ring.sl 2 (k.val + 1)) := by decide +kernel
theorem off73_eq : ∀ k : K2, k.val ≤ 14 → k0_off73 (mStarted k) = slotOff (Ring.sl 2 (k.val + 1)) := by decide +kernel
theorem off74_eq : ∀ k : K2, k.val ≤ 14 → k0_off74 (mTrip k) = iOff (Ring.bk 16 (k.val + 1)) := by decide +kernel
theorem off90_eq : ∀ k : K2, k.val ≤ 15 → k0_off90 (mWaited k) = semOff (Ring.sl 2 k.val) := by decide +kernel
theorem off91_eq : ∀ k : K2, k.val ≤ 15 → k0_off91 (mWaited k) = slotOff (Ring.sl 2 k.val) := by decide +kernel
theorem off92_eq : ∀ k : K2, k.val ≤ 15 → k0_off92 (mTrip k) = iOff (Ring.bk 16 k.val) := by decide +kernel
@[sl_canon] theorem i_sem_next (k : K2) (hk : k.val ≤ 14) (hh) : (cc0_scoped15.slice (Rect.unit (s := S2) (k0_off72 (mStarted k)) S1.size hh)).squeeze S_ squeezes_S1_S_ = iSe (Ring.sl 2 (k.val + 1)) :=
  iSem_congr (off72_eq k hk) hh
@[sl_canon] theorem i_slot_next (k : K2) (hk : k.val ≤ 14) (hh hs) : (iRing.slice (Rect.unit (s := S2x64x1280) (k0_off73 (mStarted k)) S1x64x1280.size hh) hs).squeeze S64x1280 squeezes_S1x64x1280_S64x1280 = iSl (Ring.sl 2 (k.val + 1)) :=
  iSlot_congr (off73_eq k hk) hh hs
@[sl_canon] theorem i_tile_next (k : K2) (hk : k.val ≤ 14) (hh hs) : iArr.slice (Rect.unit (s := S1024x1280) (k0_off74 (mTrip k)) S64x1280.size hh) hs = iTi (Ring.bk 16 (k.val + 1)) :=
  iTile_congr (off74_eq k hk) hh hs
@[sl_canon] theorem i_sem_here (k : K2) (hk : k.val ≤ 15) (hh) : (cc0_scoped15.slice (Rect.unit (s := S2) (k0_off90 (mWaited k)) S1.size hh)).squeeze S_ squeezes_S1_S_ = iSe (Ring.sl 2 k.val) :=
  iSem_congr (off90_eq k hk) hh
@[sl_canon] theorem i_slot_here (k : K2) (hk : k.val ≤ 15) (hh hs) : (iRing.slice (Rect.unit (s := S2x64x1280) (k0_off91 (mWaited k)) S1x64x1280.size hh) hs).squeeze S64x1280 squeezes_S1x64x1280_S64x1280 = iSl (Ring.sl 2 k.val) :=
  iSlot_congr (off91_eq k hk) hh hs
@[sl_canon] theorem i_tile_here (k : K2) (hk : k.val ≤ 15) (hh hs) : iArr.slice (Rect.unit (s := S1024x1280) (k0_off92 (mTrip k)) S64x1280.size hh) hs = iTi (Ring.bk 16 k.val) :=
  iTile_congr (off92_eq k hk) hh hs

/- The pooling weight's rows. -/
abbrev pOff (b : Fin 16) : Fin 2 → Nat := ![32 * b.val, 0]
theorem pOff_inb (b : Fin 16) : ∀ a, pOff b a + S32x128.size a ≤ S512x128.size a := by
  revert b; decide
theorem pSlot_inb (s : Fin 2) : ∀ a, slotOff s a + S1x32x128.size a ≤ S2x32x128.size a := by
  revert s; decide
abbrev pRing : Memref sig .tc .vmem S2x32x128 .f32 := Memref.whole cc0_scoped16
abbrev pArr : Memref sig .tc .hbm S512x128 .f32 := Memref.whole main_v1
def pTi (b : Fin 16) : Memref sig .tc .hbm S32x128 .f32 :=
  pArr.slice (Rect.unit (s := S512x128) (pOff b) S32x128.size (pOff_inb b)) (fun _ => rfl)
def pSl (s : Fin 2) : Memref sig .tc .vmem S32x128 .f32 :=
  (pRing.slice (Rect.unit (s := S2x32x128) (slotOff s) S1x32x128.size (pSlot_inb s)) (fun _ => rfl)).squeeze S32x128 squeezes_S1x32x128_S32x128
def pSe (s : Fin 2) : DmaSems sig S_ := (cc0_scoped17.slice (Rect.unit (s := S2) (semOff s) S1.size (semOff_inb s))).squeeze S_ squeezes_S1_S_
instance (b : Fin 16) : ClosedOff (pOff b) := ⟨pOff b, rfl⟩
private theorem pSem_congr {off : Fin 1 → Nat} {s : Fin 2} (e : off = semOff s) (hh) :
    (cc0_scoped17.slice (Rect.unit (s := S2) off S1.size hh)).squeeze S_ squeezes_S1_S_ = pSe s :=
  congrArg (fun A : DmaSems sig S1 => A.squeeze S_ squeezes_S1_S_) (SemArray.slice_unit_congr _ e _ _)
private theorem pSlot_congr {off : Fin 3 → Nat} {s : Fin 2} (e : off = slotOff s) (hh hs) :
    (pRing.slice (Rect.unit (s := S2x32x128) off S1x32x128.size hh) hs).squeeze S32x128 squeezes_S1x32x128_S32x128 = pSl s :=
  congrArg (fun M : Memref sig .tc .vmem S1x32x128 .f32 => M.squeeze S32x128 squeezes_S1x32x128_S32x128) (Memref.slice_unit_congr _ e _ _ _ _)
private theorem pTile_congr {off : Fin 2 → Nat} {b : Fin 16} (e : off = pOff b) (hh hs) :
    pArr.slice (Rect.unit (s := S512x128) off S32x128.size hh) hs = pTi b :=
  Memref.slice_unit_congr _ e hh (pOff_inb b) hs (fun _ => rfl)
@[sl_canon] theorem p_sem_first (hh) : (cc0_scoped17.slice (Rect.unit (s := S2) (k0_off1) S1.size hh)).squeeze S_ squeezes_S1_S_ = pSe (Ring.sl 2 0) :=
  pSem_congr (by decide) hh
@[sl_canon] theorem p_slot_first (hh hs) : (pRing.slice (Rect.unit (s := S2x32x128) (k0_off63) S1x32x128.size hh) hs).squeeze S32x128 squeezes_S1x32x128_S32x128 = pSl (Ring.sl 2 0) :=
  pSlot_congr (by decide) hh hs
@[sl_canon] theorem p_tile_first (hh hs) : pArr.slice (Rect.unit (s := S512x128) (k0_off64) S32x128.size hh) hs = pTi (Ring.bk 16 0) :=
  pTile_congr (by decide) hh hs
theorem off75_eq : ∀ k : K2, k.val ≤ 14 → k0_off75 (mStarted k) = semOff (Ring.sl 2 (k.val + 1)) := by decide +kernel
theorem off76_eq : ∀ k : K2, k.val ≤ 14 → k0_off76 (mStarted k) = slotOff (Ring.sl 2 (k.val + 1)) := by decide +kernel
theorem off77_eq : ∀ k : K2, k.val ≤ 14 → k0_off77 (mTrip k) = pOff (Ring.bk 16 (k.val + 1)) := by decide +kernel
theorem off93_eq : ∀ k : K2, k.val ≤ 15 → k0_off93 (mWaited k) = semOff (Ring.sl 2 k.val) := by decide +kernel
theorem off94_eq : ∀ k : K2, k.val ≤ 15 → k0_off94 (mWaited k) = slotOff (Ring.sl 2 k.val) := by decide +kernel
theorem off95_eq : ∀ k : K2, k.val ≤ 15 → k0_off95 (mTrip k) = pOff (Ring.bk 16 k.val) := by decide +kernel
@[sl_canon] theorem p_sem_next (k : K2) (hk : k.val ≤ 14) (hh) : (cc0_scoped17.slice (Rect.unit (s := S2) (k0_off75 (mStarted k)) S1.size hh)).squeeze S_ squeezes_S1_S_ = pSe (Ring.sl 2 (k.val + 1)) :=
  pSem_congr (off75_eq k hk) hh
@[sl_canon] theorem p_slot_next (k : K2) (hk : k.val ≤ 14) (hh hs) : (pRing.slice (Rect.unit (s := S2x32x128) (k0_off76 (mStarted k)) S1x32x128.size hh) hs).squeeze S32x128 squeezes_S1x32x128_S32x128 = pSl (Ring.sl 2 (k.val + 1)) :=
  pSlot_congr (off76_eq k hk) hh hs
@[sl_canon] theorem p_tile_next (k : K2) (hk : k.val ≤ 14) (hh hs) : pArr.slice (Rect.unit (s := S512x128) (k0_off77 (mTrip k)) S32x128.size hh) hs = pTi (Ring.bk 16 (k.val + 1)) :=
  pTile_congr (off77_eq k hk) hh hs
@[sl_canon] theorem p_sem_here (k : K2) (hk : k.val ≤ 15) (hh) : (cc0_scoped17.slice (Rect.unit (s := S2) (k0_off93 (mWaited k)) S1.size hh)).squeeze S_ squeezes_S1_S_ = pSe (Ring.sl 2 k.val) :=
  pSem_congr (off93_eq k hk) hh
@[sl_canon] theorem p_slot_here (k : K2) (hk : k.val ≤ 15) (hh hs) : (pRing.slice (Rect.unit (s := S2x32x128) (k0_off94 (mWaited k)) S1x32x128.size hh) hs).squeeze S32x128 squeezes_S1x32x128_S32x128 = pSl (Ring.sl 2 k.val) :=
  pSlot_congr (off94_eq k hk) hh hs
@[sl_canon] theorem p_tile_here (k : K2) (hk : k.val ≤ 15) (hh hs) : pArr.slice (Rect.unit (s := S512x128) (k0_off95 (mTrip k)) S32x128.size hh) hs = pTi (Ring.bk 16 k.val) :=
  pTile_congr (off95_eq k hk) hh hs

/- The mixer's output weight's rows. -/
abbrev qOff (b : Fin 16) : Fin 2 → Nat := ![64 * b.val, 0]
theorem qOff_inb (b : Fin 16) : ∀ a, qOff b a + S64x1024.size a ≤ S1024x1024.size a := by
  revert b; decide
theorem qSlot_inb (s : Fin 2) : ∀ a, slotOff s a + S1x64x1024.size a ≤ S2x64x1024.size a := by
  revert s; decide
abbrev qRing : Memref sig .tc .vmem S2x64x1024 .f32 := Memref.whole cc0_scoped18
abbrev qArr : Memref sig .tc .hbm S1024x1024 .f32 := Memref.whole main_arg11
def qTi (b : Fin 16) : Memref sig .tc .hbm S64x1024 .f32 :=
  qArr.slice (Rect.unit (s := S1024x1024) (qOff b) S64x1024.size (qOff_inb b)) (fun _ => rfl)
def qSl (s : Fin 2) : Memref sig .tc .vmem S64x1024 .f32 :=
  (qRing.slice (Rect.unit (s := S2x64x1024) (slotOff s) S1x64x1024.size (qSlot_inb s)) (fun _ => rfl)).squeeze S64x1024 squeezes_S1x64x1024_S64x1024
def qSe (s : Fin 2) : DmaSems sig S_ := (cc0_scoped19.slice (Rect.unit (s := S2) (semOff s) S1.size (semOff_inb s))).squeeze S_ squeezes_S1_S_
instance (b : Fin 16) : ClosedOff (qOff b) := ⟨qOff b, rfl⟩
private theorem qSem_congr {off : Fin 1 → Nat} {s : Fin 2} (e : off = semOff s) (hh) :
    (cc0_scoped19.slice (Rect.unit (s := S2) off S1.size hh)).squeeze S_ squeezes_S1_S_ = qSe s :=
  congrArg (fun A : DmaSems sig S1 => A.squeeze S_ squeezes_S1_S_) (SemArray.slice_unit_congr _ e _ _)
private theorem qSlot_congr {off : Fin 3 → Nat} {s : Fin 2} (e : off = slotOff s) (hh hs) :
    (qRing.slice (Rect.unit (s := S2x64x1024) off S1x64x1024.size hh) hs).squeeze S64x1024 squeezes_S1x64x1024_S64x1024 = qSl s :=
  congrArg (fun M : Memref sig .tc .vmem S1x64x1024 .f32 => M.squeeze S64x1024 squeezes_S1x64x1024_S64x1024) (Memref.slice_unit_congr _ e _ _ _ _)
private theorem qTile_congr {off : Fin 2 → Nat} {b : Fin 16} (e : off = qOff b) (hh hs) :
    qArr.slice (Rect.unit (s := S1024x1024) off S64x1024.size hh) hs = qTi b :=
  Memref.slice_unit_congr _ e hh (qOff_inb b) hs (fun _ => rfl)
@[sl_canon] theorem q_sem_first (hh) : (cc0_scoped19.slice (Rect.unit (s := S2) (k0_off1) S1.size hh)).squeeze S_ squeezes_S1_S_ = qSe (Ring.sl 2 0) :=
  qSem_congr (by decide) hh
@[sl_canon] theorem q_slot_first (hh hs) : (qRing.slice (Rect.unit (s := S2x64x1024) (k0_off65) S1x64x1024.size hh) hs).squeeze S64x1024 squeezes_S1x64x1024_S64x1024 = qSl (Ring.sl 2 0) :=
  qSlot_congr (by decide) hh hs
@[sl_canon] theorem q_tile_first (hh hs) : qArr.slice (Rect.unit (s := S1024x1024) (k0_off66) S64x1024.size hh) hs = qTi (Ring.bk 16 0) :=
  qTile_congr (by decide) hh hs
theorem off78_eq : ∀ k : K2, k.val ≤ 14 → k0_off78 (mStarted k) = semOff (Ring.sl 2 (k.val + 1)) := by decide +kernel
theorem off79_eq : ∀ k : K2, k.val ≤ 14 → k0_off79 (mStarted k) = slotOff (Ring.sl 2 (k.val + 1)) := by decide +kernel
theorem off80_eq : ∀ k : K2, k.val ≤ 14 → k0_off80 (mTrip k) = qOff (Ring.bk 16 (k.val + 1)) := by decide +kernel
theorem off96_eq : ∀ k : K2, k.val ≤ 15 → k0_off96 (mWaited k) = semOff (Ring.sl 2 k.val) := by decide +kernel
theorem off97_eq : ∀ k : K2, k.val ≤ 15 → k0_off97 (mWaited k) = slotOff (Ring.sl 2 k.val) := by decide +kernel
theorem off98_eq : ∀ k : K2, k.val ≤ 15 → k0_off98 (mTrip k) = qOff (Ring.bk 16 k.val) := by decide +kernel
@[sl_canon] theorem q_sem_next (k : K2) (hk : k.val ≤ 14) (hh) : (cc0_scoped19.slice (Rect.unit (s := S2) (k0_off78 (mStarted k)) S1.size hh)).squeeze S_ squeezes_S1_S_ = qSe (Ring.sl 2 (k.val + 1)) :=
  qSem_congr (off78_eq k hk) hh
@[sl_canon] theorem q_slot_next (k : K2) (hk : k.val ≤ 14) (hh hs) : (qRing.slice (Rect.unit (s := S2x64x1024) (k0_off79 (mStarted k)) S1x64x1024.size hh) hs).squeeze S64x1024 squeezes_S1x64x1024_S64x1024 = qSl (Ring.sl 2 (k.val + 1)) :=
  qSlot_congr (off79_eq k hk) hh hs
@[sl_canon] theorem q_tile_next (k : K2) (hk : k.val ≤ 14) (hh hs) : qArr.slice (Rect.unit (s := S1024x1024) (k0_off80 (mTrip k)) S64x1024.size hh) hs = qTi (Ring.bk 16 (k.val + 1)) :=
  qTile_congr (off80_eq k hk) hh hs
@[sl_canon] theorem q_sem_here (k : K2) (hk : k.val ≤ 15) (hh) : (cc0_scoped19.slice (Rect.unit (s := S2) (k0_off96 (mWaited k)) S1.size hh)).squeeze S_ squeezes_S1_S_ = qSe (Ring.sl 2 k.val) :=
  qSem_congr (off96_eq k hk) hh
@[sl_canon] theorem q_slot_here (k : K2) (hk : k.val ≤ 15) (hh hs) : (qRing.slice (Rect.unit (s := S2x64x1024) (k0_off97 (mWaited k)) S1x64x1024.size hh) hs).squeeze S64x1024 squeezes_S1x64x1024_S64x1024 = qSl (Ring.sl 2 k.val) :=
  qSlot_congr (off97_eq k hk) hh hs
@[sl_canon] theorem q_tile_here (k : K2) (hk : k.val ≤ 15) (hh hs) : qArr.slice (Rect.unit (s := S1024x1024) (k0_off98 (mTrip k)) S64x1024.size hh) hs = qTi (Ring.bk 16 k.val) :=
  qTile_congr (off98_eq k hk) hh hs

/- The projection's later columns. -/
abbrev uOff (b : Fin 16) : Fin 2 → Nat := ![0, 384 * (8 + b.val)]
theorem uOff_inb (b : Fin 16) : ∀ a, uOff b a + S1024x384.size a ≤ S1024x9216.size a := by
  revert b; decide
theorem uSlot_inb (s : Fin 2) : ∀ a, slotOff s a + S1x1024x384.size a ≤ S2x1024x384.size a := by
  revert s; decide
abbrev uRing : Memref sig .tc .vmem S2x1024x384 .f32 := Memref.whole cc0_scoped21
abbrev uArr : Memref sig .tc .hbm S1024x9216 .f32 := Memref.whole main_arg2
def uTi (b : Fin 16) : Memref sig .tc .hbm S1024x384 .f32 :=
  uArr.slice (Rect.unit (s := S1024x9216) (uOff b) S1024x384.size (uOff_inb b)) (fun _ => rfl)
def uSl (s : Fin 2) : Memref sig .tc .vmem S1024x384 .f32 :=
  (uRing.slice (Rect.unit (s := S2x1024x384) (slotOff s) S1x1024x384.size (uSlot_inb s)) (fun _ => rfl)).squeeze S1024x384 squeezes_S1x1024x384_S1024x384
def uSe (s : Fin 2) : DmaSems sig S_ := (cc0_scoped22.slice (Rect.unit (s := S2) (semOff s) S1.size (semOff_inb s))).squeeze S_ squeezes_S1_S_
instance (b : Fin 16) : ClosedOff (uOff b) := ⟨uOff b, rfl⟩
private theorem uSem_congr {off : Fin 1 → Nat} {s : Fin 2} (e : off = semOff s) (hh) :
    (cc0_scoped22.slice (Rect.unit (s := S2) off S1.size hh)).squeeze S_ squeezes_S1_S_ = uSe s :=
  congrArg (fun A : DmaSems sig S1 => A.squeeze S_ squeezes_S1_S_) (SemArray.slice_unit_congr _ e _ _)
private theorem uSlot_congr {off : Fin 3 → Nat} {s : Fin 2} (e : off = slotOff s) (hh hs) :
    (uRing.slice (Rect.unit (s := S2x1024x384) off S1x1024x384.size hh) hs).squeeze S1024x384 squeezes_S1x1024x384_S1024x384 = uSl s :=
  congrArg (fun M : Memref sig .tc .vmem S1x1024x384 .f32 => M.squeeze S1024x384 squeezes_S1x1024x384_S1024x384) (Memref.slice_unit_congr _ e _ _ _ _)
private theorem uTile_congr {off : Fin 2 → Nat} {b : Fin 16} (e : off = uOff b) (hh hs) :
    uArr.slice (Rect.unit (s := S1024x9216) off S1024x384.size hh) hs = uTi b :=
  Memref.slice_unit_congr _ e hh (uOff_inb b) hs (fun _ => rfl)
@[sl_canon] theorem u_sem_first (hh) : (cc0_scoped22.slice (Rect.unit (s := S2) (k0_off1) S1.size hh)).squeeze S_ squeezes_S1_S_ = uSe (Ring.sl 2 0) :=
  uSem_congr (by decide) hh
@[sl_canon] theorem u_slot_first (hh hs) : (uRing.slice (Rect.unit (s := S2x1024x384) (k0_off2) S1x1024x384.size hh) hs).squeeze S1024x384 squeezes_S1x1024x384_S1024x384 = uSl (Ring.sl 2 0) :=
  uSlot_congr (by decide) hh hs
@[sl_canon] theorem u_tile_first (hh hs) : uArr.slice (Rect.unit (s := S1024x9216) (k0_off67) S1024x384.size hh) hs = uTi (Ring.bk 16 0) :=
  uTile_congr (by decide) hh hs
theorem off81_eq : ∀ k : K2, k.val ≤ 14 → k0_off81 (mStarted k) = semOff (Ring.sl 2 (k.val + 1)) := by decide +kernel
theorem off82_eq : ∀ k : K2, k.val ≤ 14 → k0_off82 (mStarted k) = slotOff (Ring.sl 2 (k.val + 1)) := by decide +kernel
theorem off83_eq : ∀ k : K2, k.val ≤ 14 → k0_off83 (mTrip k) = uOff (Ring.bk 16 (k.val + 1)) := by decide +kernel
theorem off99_eq : ∀ k : K2, k.val ≤ 15 → k0_off99 (mWaited k) = semOff (Ring.sl 2 k.val) := by decide +kernel
theorem off100_eq : ∀ k : K2, k.val ≤ 15 → k0_off100 (mWaited k) = slotOff (Ring.sl 2 k.val) := by decide +kernel
theorem off101_eq : ∀ k : K2, k.val ≤ 15 → k0_off101 (mTrip k) = uOff (Ring.bk 16 k.val) := by decide +kernel
@[sl_canon] theorem u_sem_next (k : K2) (hk : k.val ≤ 14) (hh) : (cc0_scoped22.slice (Rect.unit (s := S2) (k0_off81 (mStarted k)) S1.size hh)).squeeze S_ squeezes_S1_S_ = uSe (Ring.sl 2 (k.val + 1)) :=
  uSem_congr (off81_eq k hk) hh
@[sl_canon] theorem u_slot_next (k : K2) (hk : k.val ≤ 14) (hh hs) : (uRing.slice (Rect.unit (s := S2x1024x384) (k0_off82 (mStarted k)) S1x1024x384.size hh) hs).squeeze S1024x384 squeezes_S1x1024x384_S1024x384 = uSl (Ring.sl 2 (k.val + 1)) :=
  uSlot_congr (off82_eq k hk) hh hs
@[sl_canon] theorem u_tile_next (k : K2) (hk : k.val ≤ 14) (hh hs) : uArr.slice (Rect.unit (s := S1024x9216) (k0_off83 (mTrip k)) S1024x384.size hh) hs = uTi (Ring.bk 16 (k.val + 1)) :=
  uTile_congr (off83_eq k hk) hh hs
@[sl_canon] theorem u_sem_here (k : K2) (hk : k.val ≤ 15) (hh) : (cc0_scoped22.slice (Rect.unit (s := S2) (k0_off99 (mWaited k)) S1.size hh)).squeeze S_ squeezes_S1_S_ = uSe (Ring.sl 2 k.val) :=
  uSem_congr (off99_eq k hk) hh
@[sl_canon] theorem u_slot_here (k : K2) (hk : k.val ≤ 15) (hh hs) : (uRing.slice (Rect.unit (s := S2x1024x384) (k0_off100 (mWaited k)) S1x1024x384.size hh) hs).squeeze S1024x384 squeezes_S1x1024x384_S1024x384 = uSl (Ring.sl 2 k.val) :=
  uSlot_congr (off100_eq k hk) hh hs
@[sl_canon] theorem u_tile_here (k : K2) (hk : k.val ≤ 15) (hh hs) : uArr.slice (Rect.unit (s := S1024x9216) (k0_off101 (mTrip k)) S1024x384.size hh) hs = uTi (Ring.bk 16 k.val) :=
  uTile_congr (off101_eq k hk) hh hs

/- The bias's later columns. -/
abbrev vOff (b : Fin 16) : Fin 2 → Nat := ![0, 384 * (8 + b.val)]
theorem vOff_inb (b : Fin 16) : ∀ a, vOff b a + S1x384.size a ≤ S1x9216.size a := by
  revert b; decide
theorem vSlot_inb (s : Fin 2) : ∀ a, slotOff s a + S1x1x384.size a ≤ S2x1x384.size a := by
  revert s; decide
abbrev vRing : Memref sig .tc .vmem S2x1x384 .f32 := Memref.whole cc0_scoped23
abbrev vArr : Memref sig .tc .hbm S1x9216 .f32 := Memref.whole main_v2
def vTi (b : Fin 16) : Memref sig .tc .hbm S1x384 .f32 :=
  vArr.slice (Rect.unit (s := S1x9216) (vOff b) S1x384.size (vOff_inb b)) (fun _ => rfl)
def vSl (s : Fin 2) : Memref sig .tc .vmem S1x384 .f32 :=
  (vRing.slice (Rect.unit (s := S2x1x384) (slotOff s) S1x1x384.size (vSlot_inb s)) (fun _ => rfl)).squeeze S1x384 squeezes_S1x1x384_S1x384
def vSe (s : Fin 2) : DmaSems sig S_ := (cc0_scoped24.slice (Rect.unit (s := S2) (semOff s) S1.size (semOff_inb s))).squeeze S_ squeezes_S1_S_
instance (b : Fin 16) : ClosedOff (vOff b) := ⟨vOff b, rfl⟩
private theorem vSem_congr {off : Fin 1 → Nat} {s : Fin 2} (e : off = semOff s) (hh) :
    (cc0_scoped24.slice (Rect.unit (s := S2) off S1.size hh)).squeeze S_ squeezes_S1_S_ = vSe s :=
  congrArg (fun A : DmaSems sig S1 => A.squeeze S_ squeezes_S1_S_) (SemArray.slice_unit_congr _ e _ _)
private theorem vSlot_congr {off : Fin 3 → Nat} {s : Fin 2} (e : off = slotOff s) (hh hs) :
    (vRing.slice (Rect.unit (s := S2x1x384) off S1x1x384.size hh) hs).squeeze S1x384 squeezes_S1x1x384_S1x384 = vSl s :=
  congrArg (fun M : Memref sig .tc .vmem S1x1x384 .f32 => M.squeeze S1x384 squeezes_S1x1x384_S1x384) (Memref.slice_unit_congr _ e _ _ _ _)
private theorem vTile_congr {off : Fin 2 → Nat} {b : Fin 16} (e : off = vOff b) (hh hs) :
    vArr.slice (Rect.unit (s := S1x9216) off S1x384.size hh) hs = vTi b :=
  Memref.slice_unit_congr _ e hh (vOff_inb b) hs (fun _ => rfl)
@[sl_canon] theorem v_sem_first (hh) : (cc0_scoped24.slice (Rect.unit (s := S2) (k0_off1) S1.size hh)).squeeze S_ squeezes_S1_S_ = vSe (Ring.sl 2 0) :=
  vSem_congr (by decide) hh
@[sl_canon] theorem v_slot_first (hh hs) : (vRing.slice (Rect.unit (s := S2x1x384) (k0_off4) S1x1x384.size hh) hs).squeeze S1x384 squeezes_S1x1x384_S1x384 = vSl (Ring.sl 2 0) :=
  vSlot_congr (by decide) hh hs
@[sl_canon] theorem v_tile_first (hh hs) : vArr.slice (Rect.unit (s := S1x9216) (k0_off68) S1x384.size hh) hs = vTi (Ring.bk 16 0) :=
  vTile_congr (by decide) hh hs
theorem off84_eq : ∀ k : K2, k.val ≤ 14 → k0_off84 (mStarted k) = semOff (Ring.sl 2 (k.val + 1)) := by decide +kernel
theorem off85_eq : ∀ k : K2, k.val ≤ 14 → k0_off85 (mStarted k) = slotOff (Ring.sl 2 (k.val + 1)) := by decide +kernel
theorem off86_eq : ∀ k : K2, k.val ≤ 14 → k0_off86 (mTrip k) = vOff (Ring.bk 16 (k.val + 1)) := by decide +kernel
theorem off102_eq : ∀ k : K2, k.val ≤ 15 → k0_off102 (mWaited k) = semOff (Ring.sl 2 k.val) := by decide +kernel
theorem off103_eq : ∀ k : K2, k.val ≤ 15 → k0_off103 (mWaited k) = slotOff (Ring.sl 2 k.val) := by decide +kernel
theorem off104_eq : ∀ k : K2, k.val ≤ 15 → k0_off104 (mTrip k) = vOff (Ring.bk 16 k.val) := by decide +kernel
@[sl_canon] theorem v_sem_next (k : K2) (hk : k.val ≤ 14) (hh) : (cc0_scoped24.slice (Rect.unit (s := S2) (k0_off84 (mStarted k)) S1.size hh)).squeeze S_ squeezes_S1_S_ = vSe (Ring.sl 2 (k.val + 1)) :=
  vSem_congr (off84_eq k hk) hh
@[sl_canon] theorem v_slot_next (k : K2) (hk : k.val ≤ 14) (hh hs) : (vRing.slice (Rect.unit (s := S2x1x384) (k0_off85 (mStarted k)) S1x1x384.size hh) hs).squeeze S1x384 squeezes_S1x1x384_S1x384 = vSl (Ring.sl 2 (k.val + 1)) :=
  vSlot_congr (off85_eq k hk) hh hs
@[sl_canon] theorem v_tile_next (k : K2) (hk : k.val ≤ 14) (hh hs) : vArr.slice (Rect.unit (s := S1x9216) (k0_off86 (mTrip k)) S1x384.size hh) hs = vTi (Ring.bk 16 (k.val + 1)) :=
  vTile_congr (off86_eq k hk) hh hs
@[sl_canon] theorem v_sem_here (k : K2) (hk : k.val ≤ 15) (hh) : (cc0_scoped24.slice (Rect.unit (s := S2) (k0_off102 (mWaited k)) S1.size hh)).squeeze S_ squeezes_S1_S_ = vSe (Ring.sl 2 k.val) :=
  vSem_congr (off102_eq k hk) hh
@[sl_canon] theorem v_slot_here (k : K2) (hk : k.val ≤ 15) (hh hs) : (vRing.slice (Rect.unit (s := S2x1x384) (k0_off103 (mWaited k)) S1x1x384.size hh) hs).squeeze S1x384 squeezes_S1x1x384_S1x384 = vSl (Ring.sl 2 k.val) :=
  vSlot_congr (off103_eq k hk) hh hs
@[sl_canon] theorem v_tile_here (k : K2) (hk : k.val ≤ 15) (hh hs) : vArr.slice (Rect.unit (s := S1x9216) (k0_off104 (mTrip k)) S1x384.size hh) hs = vTi (Ring.bk 16 k.val) :=
  vTile_congr (off104_eq k hk) hh hs

/- The result's rows. -/
abbrev oOff (b : Fin 16) : Fin 2 → Nat := ![1024 * b.val, 0]
theorem oOff_inb (b : Fin 16) : ∀ a, oOff b a + S1024x1024.size a ≤ S16384x1024.size a := by
  revert b; decide
theorem oSlot_inb (s : Fin 2) : ∀ a, slotOff s a + S1x1024x1024.size a ≤ S2x1024x1024.size a := by
  revert s; decide
abbrev oRing : Memref sig .tc .vmem S2x1024x1024 .f32 := Memref.whole cc0_scoped25
abbrev oArr : Memref sig .tc .hbm S16384x1024 .f32 := Memref.whole main_v6_0
def oTi (b : Fin 16) : Memref sig .tc .hbm S1024x1024 .f32 :=
  oArr.slice (Rect.unit (s := S16384x1024) (oOff b) S1024x1024.size (oOff_inb b)) (fun _ => rfl)
def oSl (s : Fin 2) : Memref sig .tc .vmem S1024x1024 .f32 :=
  (oRing.slice (Rect.unit (s := S2x1024x1024) (slotOff s) S1x1024x1024.size (oSlot_inb s)) (fun _ => rfl)).squeeze S1024x1024 squeezes_S1x1024x1024_S1024x1024
def oSe (s : Fin 2) : DmaSems sig S_ := (cc0_scoped26.slice (Rect.unit (s := S2) (semOff s) S1.size (semOff_inb s))).squeeze S_ squeezes_S1_S_
instance (b : Fin 16) : ClosedOff (oOff b) := ⟨oOff b, rfl⟩
private theorem oSem_congr {off : Fin 1 → Nat} {s : Fin 2} (e : off = semOff s) (hh) :
    (cc0_scoped26.slice (Rect.unit (s := S2) off S1.size hh)).squeeze S_ squeezes_S1_S_ = oSe s :=
  congrArg (fun A : DmaSems sig S1 => A.squeeze S_ squeezes_S1_S_) (SemArray.slice_unit_congr _ e _ _)
private theorem oSlot_congr {off : Fin 3 → Nat} {s : Fin 2} (e : off = slotOff s) (hh hs) :
    (oRing.slice (Rect.unit (s := S2x1024x1024) off S1x1024x1024.size hh) hs).squeeze S1024x1024 squeezes_S1x1024x1024_S1024x1024 = oSl s :=
  congrArg (fun M : Memref sig .tc .vmem S1x1024x1024 .f32 => M.squeeze S1024x1024 squeezes_S1x1024x1024_S1024x1024) (Memref.slice_unit_congr _ e _ _ _ _)
private theorem oTile_congr {off : Fin 2 → Nat} {b : Fin 16} (e : off = oOff b) (hh hs) :
    oArr.slice (Rect.unit (s := S16384x1024) off S1024x1024.size hh) hs = oTi b :=
  Memref.slice_unit_congr _ e hh (oOff_inb b) hs (fun _ => rfl)
theorem off129_eq : ∀ k : K2, 1 ≤ k.val → k0_off129 (oStarted k) = semOff (Ring.sl 2 (k.val + 1)) := by decide +kernel
theorem off130_eq : ∀ k : K2, 1 ≤ k.val → k0_off130 (mTrip k) = oOff (Ring.bk 16 (k.val - 1)) := by decide +kernel
theorem off131_eq : ∀ k : K2, 1 ≤ k.val → k0_off131 (oStarted k) = slotOff (Ring.sl 2 (k.val + 1)) := by decide +kernel
theorem off144_eq : ∀ k : K2, 2 ≤ k.val → k0_off144 (oWaited k) = semOff (Ring.sl 2 k.val) := by decide +kernel
theorem off145_eq : ∀ k : K2, 2 ≤ k.val → k0_off145 (mTrip k) = oOff (Ring.bk 16 (k.val - 2)) := by decide +kernel
theorem off146_eq : ∀ k : K2, 2 ≤ k.val → k0_off146 (oWaited k) = slotOff (Ring.sl 2 k.val) := by decide +kernel
@[sl_canon] theorem o_sem_out (k : K2) (hk : 1 ≤ k.val) (hh) : (cc0_scoped26.slice (Rect.unit (s := S2) (k0_off129 (oStarted k)) S1.size hh)).squeeze S_ squeezes_S1_S_ = oSe (Ring.sl 2 (k.val + 1)) :=
  oSem_congr (off129_eq k hk) hh
@[sl_canon] theorem o_tile_out (k : K2) (hk : 1 ≤ k.val) (hh hs) : oArr.slice (Rect.unit (s := S16384x1024) (k0_off130 (mTrip k)) S1024x1024.size hh) hs = oTi (Ring.bk 16 (k.val - 1)) :=
  oTile_congr (off130_eq k hk) hh hs
@[sl_canon] theorem o_slot_out (k : K2) (hk : 1 ≤ k.val) (hh hs) : (oRing.slice (Rect.unit (s := S2x1024x1024) (k0_off131 (oStarted k)) S1x1024x1024.size hh) hs).squeeze S1024x1024 squeezes_S1x1024x1024_S1024x1024 = oSl (Ring.sl 2 (k.val + 1)) :=
  oSlot_congr (off131_eq k hk) hh hs
@[sl_canon] theorem o_sem_back (k : K2) (hk : 2 ≤ k.val) (hh) : (cc0_scoped26.slice (Rect.unit (s := S2) (k0_off144 (oWaited k)) S1.size hh)).squeeze S_ squeezes_S1_S_ = oSe (Ring.sl 2 k.val) :=
  oSem_congr (off144_eq k hk) hh
@[sl_canon] theorem o_tile_back (k : K2) (hk : 2 ≤ k.val) (hh hs) : oArr.slice (Rect.unit (s := S16384x1024) (k0_off145 (mTrip k)) S1024x1024.size hh) hs = oTi (Ring.bk 16 (k.val - 2)) :=
  oTile_congr (off145_eq k hk) hh hs
@[sl_canon] theorem o_slot_back (k : K2) (hk : 2 ≤ k.val) (hh hs) : (oRing.slice (Rect.unit (s := S2x1024x1024) (k0_off146 (oWaited k)) S1x1024x1024.size hh) hs).squeeze S1024x1024 squeezes_S1x1024x1024_S1024x1024 = oSl (Ring.sl 2 k.val) :=
  oSlot_congr (off146_eq k hk) hh hs
@[sl_canon] theorem o_sem_last (hh) : (cc0_scoped26.slice (Rect.unit (s := S2) (k0_off159 (oWaited 17)) S1.size hh)).squeeze S_ squeezes_S1_S_ = oSe (Ring.sl 2 17) :=
  oSem_congr (by decide) hh
@[sl_canon] theorem o_tile_last (hh hs) : oArr.slice (Rect.unit (s := S16384x1024) (k0_off160 (mTrip 17)) S1024x1024.size hh) hs = oTi (Ring.bk 16 15) :=
  oTile_congr (by decide) hh hs
@[sl_canon] theorem o_slot_last (hh hs) : (oRing.slice (Rect.unit (s := S2x1024x1024) (k0_off161 (oWaited 17)) S1x1024x1024.size hh) hs).squeeze S1024x1024 squeezes_S1x1024x1024_S1024x1024 = oSl (Ring.sl 2 17) :=
  oSlot_congr (by decide) hh hs

/- The mixer's input weight's rows, cast. -/
abbrev xOff (b : Fin 16) : Fin 2 → Nat := ![64 * b.val, 0]
theorem xOff_inb (b : Fin 16) : ∀ a, xOff b a + S64x1280.size a ≤ S1024x1280.size a := by
  revert b; decide
theorem xSlot_inb (s : Fin 2) : ∀ a, slotOff s a + S1x64x1280.size a ≤ S2x64x1280.size a := by
  revert s; decide
abbrev xRing : Memref sig .tc .vmem S2x64x1280 .bf16 := Memref.whole cc0_scoped27
abbrev xArr : Memref sig .tc .hbm S1024x1280 .bf16 := Memref.whole main_v6_1
def xTi (b : Fin 16) : Memref sig .tc .hbm S64x1280 .bf16 :=
  xArr.slice (Rect.unit (s := S1024x1280) (xOff b) S64x1280.size (xOff_inb b)) (fun _ => rfl)
def xSl (s : Fin 2) : Memref sig .tc .vmem S64x1280 .bf16 :=
  (xRing.slice (Rect.unit (s := S2x64x1280) (slotOff s) S1x64x1280.size (xSlot_inb s)) (fun _ => rfl)).squeeze S64x1280 squeezes_S1x64x1280_S64x1280
def xSe (s : Fin 2) : DmaSems sig S_ := (cc0_scoped28.slice (Rect.unit (s := S2) (semOff s) S1.size (semOff_inb s))).squeeze S_ squeezes_S1_S_
instance (b : Fin 16) : ClosedOff (xOff b) := ⟨xOff b, rfl⟩
private theorem xSem_congr {off : Fin 1 → Nat} {s : Fin 2} (e : off = semOff s) (hh) :
    (cc0_scoped28.slice (Rect.unit (s := S2) off S1.size hh)).squeeze S_ squeezes_S1_S_ = xSe s :=
  congrArg (fun A : DmaSems sig S1 => A.squeeze S_ squeezes_S1_S_) (SemArray.slice_unit_congr _ e _ _)
private theorem xSlot_congr {off : Fin 3 → Nat} {s : Fin 2} (e : off = slotOff s) (hh hs) :
    (xRing.slice (Rect.unit (s := S2x64x1280) off S1x64x1280.size hh) hs).squeeze S64x1280 squeezes_S1x64x1280_S64x1280 = xSl s :=
  congrArg (fun M : Memref sig .tc .vmem S1x64x1280 .bf16 => M.squeeze S64x1280 squeezes_S1x64x1280_S64x1280) (Memref.slice_unit_congr _ e _ _ _ _)
private theorem xTile_congr {off : Fin 2 → Nat} {b : Fin 16} (e : off = xOff b) (hh hs) :
    xArr.slice (Rect.unit (s := S1024x1280) off S64x1280.size hh) hs = xTi b :=
  Memref.slice_unit_congr _ e hh (xOff_inb b) hs (fun _ => rfl)
theorem off132_eq : ∀ k : K2, k.val ≤ 14 → k0_off132 (eStarted k) = semOff (Ring.sl 2 (k.val)) := by decide +kernel
theorem off132_last : ∀ k : K2, k.val = 16 → k0_off132 (eStarted k) = semOff (Ring.sl 2 (k.val + 1)) := by decide +kernel
theorem off147_eq : ∀ k : K2, 1 ≤ k.val → k.val ≤ 15 → k0_off147 (eWaited k) = semOff (Ring.sl 2 (k.val + 1)) := by decide +kernel
@[sl_canon] theorem x_sem_out (k : K2) (hk : k.val ≤ 14) (hh) : (cc0_scoped28.slice (Rect.unit (s := S2) (k0_off132 (eStarted k)) S1.size hh)).squeeze S_ squeezes_S1_S_ = xSe (Ring.sl 2 k.val) :=
  xSem_congr (off132_eq k hk) hh
@[sl_canon] theorem x_sem_close (k : K2) (hk : k.val = 16) (hh) : (cc0_scoped28.slice (Rect.unit (s := S2) (k0_off132 (eStarted k)) S1.size hh)).squeeze S_ squeezes_S1_S_ = xSe (Ring.sl 2 (k.val + 1)) :=
  xSem_congr (off132_last k hk) hh
@[sl_canon] theorem x_sem_back (k : K2) (h1 : 1 ≤ k.val) (hk : k.val ≤ 15) (hh) : (cc0_scoped28.slice (Rect.unit (s := S2) (k0_off147 (eWaited k)) S1.size hh)).squeeze S_ squeezes_S1_S_ = xSe (Ring.sl 2 (k.val + 1)) :=
  xSem_congr (off147_eq k h1 hk) hh
@[sl_canon] theorem x_sem_last (hh) : (cc0_scoped28.slice (Rect.unit (s := S2) (k0_off162 (eWaited 17)) S1.size hh)).squeeze S_ squeezes_S1_S_ = xSe (Ring.sl 2 17) :=
  xSem_congr (by decide) hh
theorem off133_eq : ∀ k : K2, k.val ≤ 14 → k0_off133 (mTrip k) = xOff (Ring.bk 16 (k.val)) := by decide +kernel
theorem off133_last : ∀ k : K2, k.val = 16 → k0_off133 (mTrip k) = xOff (Ring.bk 16 (15)) := by decide +kernel
theorem off148_eq : ∀ k : K2, 1 ≤ k.val → k.val ≤ 15 → k0_off148 (mTrip k) = xOff (Ring.bk 16 (k.val - 1)) := by decide +kernel
@[sl_canon] theorem x_tile_out (k : K2) (hk : k.val ≤ 14) (hh hs) : xArr.slice (Rect.unit (s := S1024x1280) (k0_off133 (mTrip k)) S64x1280.size hh) hs = xTi (Ring.bk 16 k.val) :=
  xTile_congr (off133_eq k hk) hh hs
@[sl_canon] theorem x_tile_close (k : K2) (hk : k.val = 16) (hh hs) : xArr.slice (Rect.unit (s := S1024x1280) (k0_off133 (mTrip k)) S64x1280.size hh) hs = xTi (Ring.bk 16 15) :=
  xTile_congr (off133_last k hk) hh hs
@[sl_canon] theorem x_tile_back (k : K2) (h1 : 1 ≤ k.val) (hk : k.val ≤ 15) (hh hs) : xArr.slice (Rect.unit (s := S1024x1280) (k0_off148 (mTrip k)) S64x1280.size hh) hs = xTi (Ring.bk 16 (k.val - 1)) :=
  xTile_congr (off148_eq k h1 hk) hh hs
@[sl_canon] theorem x_tile_last (hh hs) : xArr.slice (Rect.unit (s := S1024x1280) (k0_off163 (mTrip 17)) S64x1280.size hh) hs = xTi (Ring.bk 16 15) :=
  xTile_congr (by decide) hh hs
theorem off134_eq : ∀ k : K2, k.val ≤ 14 → k0_off134 (eStarted k) = slotOff (Ring.sl 2 (k.val)) := by decide +kernel
theorem off134_last : ∀ k : K2, k.val = 16 → k0_off134 (eStarted k) = slotOff (Ring.sl 2 (k.val + 1)) := by decide +kernel
theorem off149_eq : ∀ k : K2, 1 ≤ k.val → k.val ≤ 15 → k0_off149 (eWaited k) = slotOff (Ring.sl 2 (k.val + 1)) := by decide +kernel
@[sl_canon] theorem x_slot_out (k : K2) (hk : k.val ≤ 14) (hh hs) : (xRing.slice (Rect.unit (s := S2x64x1280) (k0_off134 (eStarted k)) S1x64x1280.size hh) hs).squeeze S64x1280 squeezes_S1x64x1280_S64x1280 = xSl (Ring.sl 2 k.val) :=
  xSlot_congr (off134_eq k hk) hh hs
@[sl_canon] theorem x_slot_close (k : K2) (hk : k.val = 16) (hh hs) : (xRing.slice (Rect.unit (s := S2x64x1280) (k0_off134 (eStarted k)) S1x64x1280.size hh) hs).squeeze S64x1280 squeezes_S1x64x1280_S64x1280 = xSl (Ring.sl 2 (k.val + 1)) :=
  xSlot_congr (off134_last k hk) hh hs
@[sl_canon] theorem x_slot_back (k : K2) (h1 : 1 ≤ k.val) (hk : k.val ≤ 15) (hh hs) : (xRing.slice (Rect.unit (s := S2x64x1280) (k0_off149 (eWaited k)) S1x64x1280.size hh) hs).squeeze S64x1280 squeezes_S1x64x1280_S64x1280 = xSl (Ring.sl 2 (k.val + 1)) :=
  xSlot_congr (off149_eq k h1 hk) hh hs
@[sl_canon] theorem x_slot_last (hh hs) : (xRing.slice (Rect.unit (s := S2x64x1280) (k0_off164 (eWaited 17)) S1x64x1280.size hh) hs).squeeze S64x1280 squeezes_S1x64x1280_S64x1280 = xSl (Ring.sl 2 17) :=
  xSlot_congr (by decide) hh hs

/- The pooling weight's rows, cast. -/
abbrev yOff (b : Fin 16) : Fin 2 → Nat := ![32 * b.val, 0]
theorem yOff_inb (b : Fin 16) : ∀ a, yOff b a + S32x128.size a ≤ S512x128.size a := by
  revert b; decide
theorem ySlot_inb (s : Fin 2) : ∀ a, slotOff s a + S1x32x128.size a ≤ S2x32x128.size a := by
  revert s; decide
abbrev yRing : Memref sig .tc .vmem S2x32x128 .bf16 := Memref.whole cc0_scoped29
abbrev yArr : Memref sig .tc .hbm S512x128 .bf16 := Memref.whole main_v6_2
def yTi (b : Fin 16) : Memref sig .tc .hbm S32x128 .bf16 :=
  yArr.slice (Rect.unit (s := S512x128) (yOff b) S32x128.size (yOff_inb b)) (fun _ => rfl)
def ySl (s : Fin 2) : Memref sig .tc .vmem S32x128 .bf16 :=
  (yRing.slice (Rect.unit (s := S2x32x128) (slotOff s) S1x32x128.size (ySlot_inb s)) (fun _ => rfl)).squeeze S32x128 squeezes_S1x32x128_S32x128
def ySe (s : Fin 2) : DmaSems sig S_ := (cc0_scoped30.slice (Rect.unit (s := S2) (semOff s) S1.size (semOff_inb s))).squeeze S_ squeezes_S1_S_
instance (b : Fin 16) : ClosedOff (yOff b) := ⟨yOff b, rfl⟩
private theorem ySem_congr {off : Fin 1 → Nat} {s : Fin 2} (e : off = semOff s) (hh) :
    (cc0_scoped30.slice (Rect.unit (s := S2) off S1.size hh)).squeeze S_ squeezes_S1_S_ = ySe s :=
  congrArg (fun A : DmaSems sig S1 => A.squeeze S_ squeezes_S1_S_) (SemArray.slice_unit_congr _ e _ _)
private theorem ySlot_congr {off : Fin 3 → Nat} {s : Fin 2} (e : off = slotOff s) (hh hs) :
    (yRing.slice (Rect.unit (s := S2x32x128) off S1x32x128.size hh) hs).squeeze S32x128 squeezes_S1x32x128_S32x128 = ySl s :=
  congrArg (fun M : Memref sig .tc .vmem S1x32x128 .bf16 => M.squeeze S32x128 squeezes_S1x32x128_S32x128) (Memref.slice_unit_congr _ e _ _ _ _)
private theorem yTile_congr {off : Fin 2 → Nat} {b : Fin 16} (e : off = yOff b) (hh hs) :
    yArr.slice (Rect.unit (s := S512x128) off S32x128.size hh) hs = yTi b :=
  Memref.slice_unit_congr _ e hh (yOff_inb b) hs (fun _ => rfl)
theorem off135_eq : ∀ k : K2, k.val ≤ 14 → k0_off135 (eStarted k) = semOff (Ring.sl 2 (k.val)) := by decide +kernel
theorem off135_last : ∀ k : K2, k.val = 16 → k0_off135 (eStarted k) = semOff (Ring.sl 2 (k.val + 1)) := by decide +kernel
theorem off150_eq : ∀ k : K2, 1 ≤ k.val → k.val ≤ 15 → k0_off150 (eWaited k) = semOff (Ring.sl 2 (k.val + 1)) := by decide +kernel
@[sl_canon] theorem y_sem_out (k : K2) (hk : k.val ≤ 14) (hh) : (cc0_scoped30.slice (Rect.unit (s := S2) (k0_off135 (eStarted k)) S1.size hh)).squeeze S_ squeezes_S1_S_ = ySe (Ring.sl 2 k.val) :=
  ySem_congr (off135_eq k hk) hh
@[sl_canon] theorem y_sem_close (k : K2) (hk : k.val = 16) (hh) : (cc0_scoped30.slice (Rect.unit (s := S2) (k0_off135 (eStarted k)) S1.size hh)).squeeze S_ squeezes_S1_S_ = ySe (Ring.sl 2 (k.val + 1)) :=
  ySem_congr (off135_last k hk) hh
@[sl_canon] theorem y_sem_back (k : K2) (h1 : 1 ≤ k.val) (hk : k.val ≤ 15) (hh) : (cc0_scoped30.slice (Rect.unit (s := S2) (k0_off150 (eWaited k)) S1.size hh)).squeeze S_ squeezes_S1_S_ = ySe (Ring.sl 2 (k.val + 1)) :=
  ySem_congr (off150_eq k h1 hk) hh
@[sl_canon] theorem y_sem_last (hh) : (cc0_scoped30.slice (Rect.unit (s := S2) (k0_off165 (eWaited 17)) S1.size hh)).squeeze S_ squeezes_S1_S_ = ySe (Ring.sl 2 17) :=
  ySem_congr (by decide) hh
theorem off136_eq : ∀ k : K2, k.val ≤ 14 → k0_off136 (mTrip k) = yOff (Ring.bk 16 (k.val)) := by decide +kernel
theorem off136_last : ∀ k : K2, k.val = 16 → k0_off136 (mTrip k) = yOff (Ring.bk 16 (15)) := by decide +kernel
theorem off151_eq : ∀ k : K2, 1 ≤ k.val → k.val ≤ 15 → k0_off151 (mTrip k) = yOff (Ring.bk 16 (k.val - 1)) := by decide +kernel
@[sl_canon] theorem y_tile_out (k : K2) (hk : k.val ≤ 14) (hh hs) : yArr.slice (Rect.unit (s := S512x128) (k0_off136 (mTrip k)) S32x128.size hh) hs = yTi (Ring.bk 16 k.val) :=
  yTile_congr (off136_eq k hk) hh hs
@[sl_canon] theorem y_tile_close (k : K2) (hk : k.val = 16) (hh hs) : yArr.slice (Rect.unit (s := S512x128) (k0_off136 (mTrip k)) S32x128.size hh) hs = yTi (Ring.bk 16 15) :=
  yTile_congr (off136_last k hk) hh hs
@[sl_canon] theorem y_tile_back (k : K2) (h1 : 1 ≤ k.val) (hk : k.val ≤ 15) (hh hs) : yArr.slice (Rect.unit (s := S512x128) (k0_off151 (mTrip k)) S32x128.size hh) hs = yTi (Ring.bk 16 (k.val - 1)) :=
  yTile_congr (off151_eq k h1 hk) hh hs
@[sl_canon] theorem y_tile_last (hh hs) : yArr.slice (Rect.unit (s := S512x128) (k0_off166 (mTrip 17)) S32x128.size hh) hs = yTi (Ring.bk 16 15) :=
  yTile_congr (by decide) hh hs
theorem off137_eq : ∀ k : K2, k.val ≤ 14 → k0_off137 (eStarted k) = slotOff (Ring.sl 2 (k.val)) := by decide +kernel
theorem off137_last : ∀ k : K2, k.val = 16 → k0_off137 (eStarted k) = slotOff (Ring.sl 2 (k.val + 1)) := by decide +kernel
theorem off152_eq : ∀ k : K2, 1 ≤ k.val → k.val ≤ 15 → k0_off152 (eWaited k) = slotOff (Ring.sl 2 (k.val + 1)) := by decide +kernel
@[sl_canon] theorem y_slot_out (k : K2) (hk : k.val ≤ 14) (hh hs) : (yRing.slice (Rect.unit (s := S2x32x128) (k0_off137 (eStarted k)) S1x32x128.size hh) hs).squeeze S32x128 squeezes_S1x32x128_S32x128 = ySl (Ring.sl 2 k.val) :=
  ySlot_congr (off137_eq k hk) hh hs
@[sl_canon] theorem y_slot_close (k : K2) (hk : k.val = 16) (hh hs) : (yRing.slice (Rect.unit (s := S2x32x128) (k0_off137 (eStarted k)) S1x32x128.size hh) hs).squeeze S32x128 squeezes_S1x32x128_S32x128 = ySl (Ring.sl 2 (k.val + 1)) :=
  ySlot_congr (off137_last k hk) hh hs
@[sl_canon] theorem y_slot_back (k : K2) (h1 : 1 ≤ k.val) (hk : k.val ≤ 15) (hh hs) : (yRing.slice (Rect.unit (s := S2x32x128) (k0_off152 (eWaited k)) S1x32x128.size hh) hs).squeeze S32x128 squeezes_S1x32x128_S32x128 = ySl (Ring.sl 2 (k.val + 1)) :=
  ySlot_congr (off152_eq k h1 hk) hh hs
@[sl_canon] theorem y_slot_last (hh hs) : (yRing.slice (Rect.unit (s := S2x32x128) (k0_off167 (eWaited 17)) S1x32x128.size hh) hs).squeeze S32x128 squeezes_S1x32x128_S32x128 = ySl (Ring.sl 2 17) :=
  ySlot_congr (by decide) hh hs

/- The mixer's output weight's rows, cast. -/
abbrev zOff (b : Fin 16) : Fin 2 → Nat := ![64 * b.val, 0]
theorem zOff_inb (b : Fin 16) : ∀ a, zOff b a + S64x1024.size a ≤ S1024x1024.size a := by
  revert b; decide
theorem zSlot_inb (s : Fin 2) : ∀ a, slotOff s a + S1x64x1024.size a ≤ S2x64x1024.size a := by
  revert s; decide
abbrev zRing : Memref sig .tc .vmem S2x64x1024 .bf16 := Memref.whole cc0_scoped31
abbrev zArr : Memref sig .tc .hbm S1024x1024 .bf16 := Memref.whole main_v6_3
def zTi (b : Fin 16) : Memref sig .tc .hbm S64x1024 .bf16 :=
  zArr.slice (Rect.unit (s := S1024x1024) (zOff b) S64x1024.size (zOff_inb b)) (fun _ => rfl)
def zSl (s : Fin 2) : Memref sig .tc .vmem S64x1024 .bf16 :=
  (zRing.slice (Rect.unit (s := S2x64x1024) (slotOff s) S1x64x1024.size (zSlot_inb s)) (fun _ => rfl)).squeeze S64x1024 squeezes_S1x64x1024_S64x1024
def zSe (s : Fin 2) : DmaSems sig S_ := (cc0_scoped32.slice (Rect.unit (s := S2) (semOff s) S1.size (semOff_inb s))).squeeze S_ squeezes_S1_S_
instance (b : Fin 16) : ClosedOff (zOff b) := ⟨zOff b, rfl⟩
private theorem zSem_congr {off : Fin 1 → Nat} {s : Fin 2} (e : off = semOff s) (hh) :
    (cc0_scoped32.slice (Rect.unit (s := S2) off S1.size hh)).squeeze S_ squeezes_S1_S_ = zSe s :=
  congrArg (fun A : DmaSems sig S1 => A.squeeze S_ squeezes_S1_S_) (SemArray.slice_unit_congr _ e _ _)
private theorem zSlot_congr {off : Fin 3 → Nat} {s : Fin 2} (e : off = slotOff s) (hh hs) :
    (zRing.slice (Rect.unit (s := S2x64x1024) off S1x64x1024.size hh) hs).squeeze S64x1024 squeezes_S1x64x1024_S64x1024 = zSl s :=
  congrArg (fun M : Memref sig .tc .vmem S1x64x1024 .bf16 => M.squeeze S64x1024 squeezes_S1x64x1024_S64x1024) (Memref.slice_unit_congr _ e _ _ _ _)
private theorem zTile_congr {off : Fin 2 → Nat} {b : Fin 16} (e : off = zOff b) (hh hs) :
    zArr.slice (Rect.unit (s := S1024x1024) off S64x1024.size hh) hs = zTi b :=
  Memref.slice_unit_congr _ e hh (zOff_inb b) hs (fun _ => rfl)
theorem off138_eq : ∀ k : K2, k.val ≤ 14 → k0_off138 (eStarted k) = semOff (Ring.sl 2 (k.val)) := by decide +kernel
theorem off138_last : ∀ k : K2, k.val = 16 → k0_off138 (eStarted k) = semOff (Ring.sl 2 (k.val + 1)) := by decide +kernel
theorem off153_eq : ∀ k : K2, 1 ≤ k.val → k.val ≤ 15 → k0_off153 (eWaited k) = semOff (Ring.sl 2 (k.val + 1)) := by decide +kernel
@[sl_canon] theorem z_sem_out (k : K2) (hk : k.val ≤ 14) (hh) : (cc0_scoped32.slice (Rect.unit (s := S2) (k0_off138 (eStarted k)) S1.size hh)).squeeze S_ squeezes_S1_S_ = zSe (Ring.sl 2 k.val) :=
  zSem_congr (off138_eq k hk) hh
@[sl_canon] theorem z_sem_close (k : K2) (hk : k.val = 16) (hh) : (cc0_scoped32.slice (Rect.unit (s := S2) (k0_off138 (eStarted k)) S1.size hh)).squeeze S_ squeezes_S1_S_ = zSe (Ring.sl 2 (k.val + 1)) :=
  zSem_congr (off138_last k hk) hh
@[sl_canon] theorem z_sem_back (k : K2) (h1 : 1 ≤ k.val) (hk : k.val ≤ 15) (hh) : (cc0_scoped32.slice (Rect.unit (s := S2) (k0_off153 (eWaited k)) S1.size hh)).squeeze S_ squeezes_S1_S_ = zSe (Ring.sl 2 (k.val + 1)) :=
  zSem_congr (off153_eq k h1 hk) hh
@[sl_canon] theorem z_sem_last (hh) : (cc0_scoped32.slice (Rect.unit (s := S2) (k0_off168 (eWaited 17)) S1.size hh)).squeeze S_ squeezes_S1_S_ = zSe (Ring.sl 2 17) :=
  zSem_congr (by decide) hh
theorem off139_eq : ∀ k : K2, k.val ≤ 14 → k0_off139 (mTrip k) = zOff (Ring.bk 16 (k.val)) := by decide +kernel
theorem off139_last : ∀ k : K2, k.val = 16 → k0_off139 (mTrip k) = zOff (Ring.bk 16 (15)) := by decide +kernel
theorem off154_eq : ∀ k : K2, 1 ≤ k.val → k.val ≤ 15 → k0_off154 (mTrip k) = zOff (Ring.bk 16 (k.val - 1)) := by decide +kernel
@[sl_canon] theorem z_tile_out (k : K2) (hk : k.val ≤ 14) (hh hs) : zArr.slice (Rect.unit (s := S1024x1024) (k0_off139 (mTrip k)) S64x1024.size hh) hs = zTi (Ring.bk 16 k.val) :=
  zTile_congr (off139_eq k hk) hh hs
@[sl_canon] theorem z_tile_close (k : K2) (hk : k.val = 16) (hh hs) : zArr.slice (Rect.unit (s := S1024x1024) (k0_off139 (mTrip k)) S64x1024.size hh) hs = zTi (Ring.bk 16 15) :=
  zTile_congr (off139_last k hk) hh hs
@[sl_canon] theorem z_tile_back (k : K2) (h1 : 1 ≤ k.val) (hk : k.val ≤ 15) (hh hs) : zArr.slice (Rect.unit (s := S1024x1024) (k0_off154 (mTrip k)) S64x1024.size hh) hs = zTi (Ring.bk 16 (k.val - 1)) :=
  zTile_congr (off154_eq k h1 hk) hh hs
@[sl_canon] theorem z_tile_last (hh hs) : zArr.slice (Rect.unit (s := S1024x1024) (k0_off169 (mTrip 17)) S64x1024.size hh) hs = zTi (Ring.bk 16 15) :=
  zTile_congr (by decide) hh hs
theorem off140_eq : ∀ k : K2, k.val ≤ 14 → k0_off140 (eStarted k) = slotOff (Ring.sl 2 (k.val)) := by decide +kernel
theorem off140_last : ∀ k : K2, k.val = 16 → k0_off140 (eStarted k) = slotOff (Ring.sl 2 (k.val + 1)) := by decide +kernel
theorem off155_eq : ∀ k : K2, 1 ≤ k.val → k.val ≤ 15 → k0_off155 (eWaited k) = slotOff (Ring.sl 2 (k.val + 1)) := by decide +kernel
@[sl_canon] theorem z_slot_out (k : K2) (hk : k.val ≤ 14) (hh hs) : (zRing.slice (Rect.unit (s := S2x64x1024) (k0_off140 (eStarted k)) S1x64x1024.size hh) hs).squeeze S64x1024 squeezes_S1x64x1024_S64x1024 = zSl (Ring.sl 2 k.val) :=
  zSlot_congr (off140_eq k hk) hh hs
@[sl_canon] theorem z_slot_close (k : K2) (hk : k.val = 16) (hh hs) : (zRing.slice (Rect.unit (s := S2x64x1024) (k0_off140 (eStarted k)) S1x64x1024.size hh) hs).squeeze S64x1024 squeezes_S1x64x1024_S64x1024 = zSl (Ring.sl 2 (k.val + 1)) :=
  zSlot_congr (off140_last k hk) hh hs
@[sl_canon] theorem z_slot_back (k : K2) (h1 : 1 ≤ k.val) (hk : k.val ≤ 15) (hh hs) : (zRing.slice (Rect.unit (s := S2x64x1024) (k0_off155 (eWaited k)) S1x64x1024.size hh) hs).squeeze S64x1024 squeezes_S1x64x1024_S64x1024 = zSl (Ring.sl 2 (k.val + 1)) :=
  zSlot_congr (off155_eq k h1 hk) hh hs
@[sl_canon] theorem z_slot_last (hh hs) : (zRing.slice (Rect.unit (s := S2x64x1024) (k0_off170 (eWaited 17)) S1x64x1024.size hh) hs).squeeze S64x1024 squeezes_S1x64x1024_S64x1024 = zSl (Ring.sl 2 17) :=
  zSlot_congr (by decide) hh hs

/- The modulations' columns. -/
abbrev tOff (b : Fin 16) : Fin 2 → Nat := ![0, 384 * b.val]
theorem tOff_inb (b : Fin 16) : ∀ a, tOff b a + S8x384.size a ≤ S8x6144.size a := by
  revert b; decide
theorem tSlot_inb (s : Fin 2) : ∀ a, slotOff s a + S1x8x384.size a ≤ S2x8x384.size a := by
  revert s; decide
abbrev tRing : Memref sig .tc .vmem S2x8x384 .f32 := Memref.whole cc0_scoped33
abbrev tArr : Memref sig .tc .hbm S8x6144 .f32 := Memref.whole main_v6_4
def tTi (b : Fin 16) : Memref sig .tc .hbm S8x384 .f32 :=
  tArr.slice (Rect.unit (s := S8x6144) (tOff b) S8x384.size (tOff_inb b)) (fun _ => rfl)
def tSl (s : Fin 2) : Memref sig .tc .vmem S8x384 .f32 :=
  (tRing.slice (Rect.unit (s := S2x8x384) (slotOff s) S1x8x384.size (tSlot_inb s)) (fun _ => rfl)).squeeze S8x384 squeezes_S1x8x384_S8x384
def tSe (s : Fin 2) : DmaSems sig S_ := (cc0_scoped34.slice (Rect.unit (s := S2) (semOff s) S1.size (semOff_inb s))).squeeze S_ squeezes_S1_S_
instance (b : Fin 16) : ClosedOff (tOff b) := ⟨tOff b, rfl⟩
private theorem tSem_congr {off : Fin 1 → Nat} {s : Fin 2} (e : off = semOff s) (hh) :
    (cc0_scoped34.slice (Rect.unit (s := S2) off S1.size hh)).squeeze S_ squeezes_S1_S_ = tSe s :=
  congrArg (fun A : DmaSems sig S1 => A.squeeze S_ squeezes_S1_S_) (SemArray.slice_unit_congr _ e _ _)
private theorem tSlot_congr {off : Fin 3 → Nat} {s : Fin 2} (e : off = slotOff s) (hh hs) :
    (tRing.slice (Rect.unit (s := S2x8x384) off S1x8x384.size hh) hs).squeeze S8x384 squeezes_S1x8x384_S8x384 = tSl s :=
  congrArg (fun M : Memref sig .tc .vmem S1x8x384 .f32 => M.squeeze S8x384 squeezes_S1x8x384_S8x384) (Memref.slice_unit_congr _ e _ _ _ _)
private theorem tTile_congr {off : Fin 2 → Nat} {b : Fin 16} (e : off = tOff b) (hh hs) :
    tArr.slice (Rect.unit (s := S8x6144) off S8x384.size hh) hs = tTi b :=
  Memref.slice_unit_congr _ e hh (tOff_inb b) hs (fun _ => rfl)
theorem off141_eq : ∀ k : K2, k.val ≤ 14 → k0_off141 (eStarted k) = semOff (Ring.sl 2 (k.val)) := by decide +kernel
theorem off141_last : ∀ k : K2, k.val = 16 → k0_off141 (eStarted k) = semOff (Ring.sl 2 (k.val + 1)) := by decide +kernel
theorem off156_eq : ∀ k : K2, 1 ≤ k.val → k.val ≤ 15 → k0_off156 (eWaited k) = semOff (Ring.sl 2 (k.val + 1)) := by decide +kernel
@[sl_canon] theorem t_sem_out (k : K2) (hk : k.val ≤ 14) (hh) : (cc0_scoped34.slice (Rect.unit (s := S2) (k0_off141 (eStarted k)) S1.size hh)).squeeze S_ squeezes_S1_S_ = tSe (Ring.sl 2 k.val) :=
  tSem_congr (off141_eq k hk) hh
@[sl_canon] theorem t_sem_close (k : K2) (hk : k.val = 16) (hh) : (cc0_scoped34.slice (Rect.unit (s := S2) (k0_off141 (eStarted k)) S1.size hh)).squeeze S_ squeezes_S1_S_ = tSe (Ring.sl 2 (k.val + 1)) :=
  tSem_congr (off141_last k hk) hh
@[sl_canon] theorem t_sem_back (k : K2) (h1 : 1 ≤ k.val) (hk : k.val ≤ 15) (hh) : (cc0_scoped34.slice (Rect.unit (s := S2) (k0_off156 (eWaited k)) S1.size hh)).squeeze S_ squeezes_S1_S_ = tSe (Ring.sl 2 (k.val + 1)) :=
  tSem_congr (off156_eq k h1 hk) hh
@[sl_canon] theorem t_sem_last (hh) : (cc0_scoped34.slice (Rect.unit (s := S2) (k0_off171 (eWaited 17)) S1.size hh)).squeeze S_ squeezes_S1_S_ = tSe (Ring.sl 2 17) :=
  tSem_congr (by decide) hh
theorem off142_eq : ∀ k : K2, k.val ≤ 14 → k0_off142 (mTrip k) = tOff (Ring.bk 16 (k.val)) := by decide +kernel
theorem off142_last : ∀ k : K2, k.val = 16 → k0_off142 (mTrip k) = tOff (Ring.bk 16 (15)) := by decide +kernel
theorem off157_eq : ∀ k : K2, 1 ≤ k.val → k.val ≤ 15 → k0_off157 (mTrip k) = tOff (Ring.bk 16 (k.val - 1)) := by decide +kernel
@[sl_canon] theorem t_tile_out (k : K2) (hk : k.val ≤ 14) (hh hs) : tArr.slice (Rect.unit (s := S8x6144) (k0_off142 (mTrip k)) S8x384.size hh) hs = tTi (Ring.bk 16 k.val) :=
  tTile_congr (off142_eq k hk) hh hs
@[sl_canon] theorem t_tile_close (k : K2) (hk : k.val = 16) (hh hs) : tArr.slice (Rect.unit (s := S8x6144) (k0_off142 (mTrip k)) S8x384.size hh) hs = tTi (Ring.bk 16 15) :=
  tTile_congr (off142_last k hk) hh hs
@[sl_canon] theorem t_tile_back (k : K2) (h1 : 1 ≤ k.val) (hk : k.val ≤ 15) (hh hs) : tArr.slice (Rect.unit (s := S8x6144) (k0_off157 (mTrip k)) S8x384.size hh) hs = tTi (Ring.bk 16 (k.val - 1)) :=
  tTile_congr (off157_eq k h1 hk) hh hs
@[sl_canon] theorem t_tile_last (hh hs) : tArr.slice (Rect.unit (s := S8x6144) (k0_off172 (mTrip 17)) S8x384.size hh) hs = tTi (Ring.bk 16 15) :=
  tTile_congr (by decide) hh hs
theorem off143_eq : ∀ k : K2, k.val ≤ 14 → k0_off143 (eStarted k) = slotOff (Ring.sl 2 (k.val)) := by decide +kernel
theorem off143_last : ∀ k : K2, k.val = 16 → k0_off143 (eStarted k) = slotOff (Ring.sl 2 (k.val + 1)) := by decide +kernel
theorem off158_eq : ∀ k : K2, 1 ≤ k.val → k.val ≤ 15 → k0_off158 (eWaited k) = slotOff (Ring.sl 2 (k.val + 1)) := by decide +kernel
@[sl_canon] theorem t_slot_out (k : K2) (hk : k.val ≤ 14) (hh hs) : (tRing.slice (Rect.unit (s := S2x8x384) (k0_off143 (eStarted k)) S1x8x384.size hh) hs).squeeze S8x384 squeezes_S1x8x384_S8x384 = tSl (Ring.sl 2 k.val) :=
  tSlot_congr (off143_eq k hk) hh hs
@[sl_canon] theorem t_slot_close (k : K2) (hk : k.val = 16) (hh hs) : (tRing.slice (Rect.unit (s := S2x8x384) (k0_off143 (eStarted k)) S1x8x384.size hh) hs).squeeze S8x384 squeezes_S1x8x384_S8x384 = tSl (Ring.sl 2 (k.val + 1)) :=
  tSlot_congr (off143_last k hk) hh hs
@[sl_canon] theorem t_slot_back (k : K2) (h1 : 1 ≤ k.val) (hk : k.val ≤ 15) (hh hs) : (tRing.slice (Rect.unit (s := S2x8x384) (k0_off158 (eWaited k)) S1x8x384.size hh) hs).squeeze S8x384 squeezes_S1x8x384_S8x384 = tSl (Ring.sl 2 (k.val + 1)) :=
  tSlot_congr (off158_eq k h1 hk) hh hs
@[sl_canon] theorem t_slot_last (hh hs) : (tRing.slice (Rect.unit (s := S2x8x384) (k0_off173 (eWaited 17)) S1x8x384.size hh) hs).squeeze S8x384 squeezes_S1x8x384_S8x384 = tSl (Ring.sl 2 17) :=
  tSlot_congr (by decide) hh hs

/-! ## Where the trips load and store -/
theorem off38_eq : ∀ k : K1, k0_off38 (sWaited k) = slotOff (Ring.sl 2 k.val) := by decide +kernel
instance (k : K1) : ClosedOff (k0_off38 (sWaited k)) := ⟨slotOff (Ring.sl 2 k.val), off38_eq k⟩
theorem off39_eq : ∀ k : K1, k0_off39 (sWaited k) = slotOff (Ring.sl 2 k.val) := by decide +kernel
instance (k : K1) : ClosedOff (k0_off39 (sWaited k)) := ⟨slotOff (Ring.sl 2 k.val), off39_eq k⟩
theorem off40_eq : ∀ k : K1, k0_off40 (sWaited k) = slotOff (Ring.sl 2 k.val) := by decide +kernel
instance (k : K1) : ClosedOff (k0_off40 (sWaited k)) := ⟨slotOff (Ring.sl 2 k.val), off40_eq k⟩
theorem off41_eq : ∀ k : K1, k0_off41 (sWaited k) = slotOff (Ring.sl 2 k.val) := by decide +kernel
instance (k : K1) : ClosedOff (k0_off41 (sWaited k)) := ⟨slotOff (Ring.sl 2 k.val), off41_eq k⟩
theorem off42_eq : ∀ k : K1, k0_off42 (sWaited k) = slotOff (Ring.sl 2 k.val) := by decide +kernel
instance (k : K1) : ClosedOff (k0_off42 (sWaited k)) := ⟨slotOff (Ring.sl 2 k.val), off42_eq k⟩
theorem off43_eq : ∀ k : K1, k0_off43 (sWaited k) = slotOff (Ring.sl 2 k.val) := by decide +kernel
instance (k : K1) : ClosedOff (k0_off43 (sWaited k)) := ⟨slotOff (Ring.sl 2 k.val), off43_eq k⟩
theorem off44_eq : ∀ k : K1, k0_off44 (sWaited k) = slotOff (Ring.sl 2 k.val) := by decide +kernel
instance (k : K1) : ClosedOff (k0_off44 (sWaited k)) := ⟨slotOff (Ring.sl 2 k.val), off44_eq k⟩
theorem off45_eq : ∀ k : K1, k0_off45 (sWaited k) = slotOff (Ring.sl 2 k.val) := by decide +kernel
instance (k : K1) : ClosedOff (k0_off45 (sWaited k)) := ⟨slotOff (Ring.sl 2 k.val), off45_eq k⟩
theorem off46_eq : ∀ k : K1, k0_off46 (sWaited k) = slotOff (Ring.sl 2 k.val) := by decide +kernel
instance (k : K1) : ClosedOff (k0_off46 (sWaited k)) := ⟨slotOff (Ring.sl 2 k.val), off46_eq k⟩
theorem off47_eq : ∀ k : K1, k0_off47 (sWaited k) = slotOff (Ring.sl 2 k.val) := by decide +kernel
instance (k : K1) : ClosedOff (k0_off47 (sWaited k)) := ⟨slotOff (Ring.sl 2 k.val), off47_eq k⟩
theorem off48_eq : ∀ k : K1, k0_off48 (sWaited k) = slotOff (Ring.sl 2 k.val) := by decide +kernel
instance (k : K1) : ClosedOff (k0_off48 (sWaited k)) := ⟨slotOff (Ring.sl 2 k.val), off48_eq k⟩
theorem off49_eq : ∀ k : K1, k0_off49 (sWaited k) = slotOff (Ring.sl 2 k.val) := by decide +kernel
instance (k : K1) : ClosedOff (k0_off49 (sWaited k)) := ⟨slotOff (Ring.sl 2 k.val), off49_eq k⟩
theorem off50_eq : ∀ k : K1, k0_off50 (sWaited k) = slotOff (Ring.sl 2 k.val) := by decide +kernel
instance (k : K1) : ClosedOff (k0_off50 (sWaited k)) := ⟨slotOff (Ring.sl 2 k.val), off50_eq k⟩
theorem off51_eq : ∀ k : K1, k0_off51 (sWaited k) = slotOff (Ring.sl 2 k.val) := by decide +kernel
instance (k : K1) : ClosedOff (k0_off51 (sWaited k)) := ⟨slotOff (Ring.sl 2 k.val), off51_eq k⟩
theorem off52_eq : ∀ k : K1, k0_off52 (sWaited k) = slotOff (Ring.sl 2 k.val) := by decide +kernel
instance (k : K1) : ClosedOff (k0_off52 (sWaited k)) := ⟨slotOff (Ring.sl 2 k.val), off52_eq k⟩
theorem off53_eq : ∀ k : K1, k0_off53 (sWaited k) = slotOff (Ring.sl 2 k.val) := by decide +kernel
instance (k : K1) : ClosedOff (k0_off53 (sWaited k)) := ⟨slotOff (Ring.sl 2 k.val), off53_eq k⟩
theorem off54_eq : ∀ k : K1, k0_off54 (sWaited k) = slotOff (Ring.sl 2 k.val) := by decide +kernel
instance (k : K1) : ClosedOff (k0_off54 (sWaited k)) := ⟨slotOff (Ring.sl 2 k.val), off54_eq k⟩
theorem off56_eq : ∀ k : K1, k0_off56 (sWaited k) = slotOff (Ring.sl 2 k.val) := by decide +kernel
instance (k : K1) : ClosedOff (k0_off56 (sWaited k)) := ⟨slotOff (Ring.sl 2 k.val), off56_eq k⟩
theorem off57_eq : ∀ k : K1, k0_off57 (sWaited k) = slotOff (Ring.sl 2 k.val) := by decide +kernel
instance (k : K1) : ClosedOff (k0_off57 (sWaited k)) := ⟨slotOff (Ring.sl 2 k.val), off57_eq k⟩
theorem off55_eq : ∀ k : K1, k0_off55 (sTrip k) = ![128 * k.val, 0] := by decide +kernel
instance (k : K1) : ClosedOff (k0_off55 (sTrip k)) := ⟨![128 * k.val, 0], off55_eq k⟩
theorem off58_eq : ∀ k : K1, k0_off58 (sTrip k) = ![352 * k.val, 0] := by decide +kernel
instance (k : K1) : ClosedOff (k0_off58 (sTrip k)) := ⟨![352 * k.val, 0], off58_eq k⟩
/-- The slot the second pipeline's inputs are read from, -/
def readSlot (k : ℕ) : Fin 2 := Ring.sl 2 (min k 15)
theorem readSlot_le {k : ℕ} (h : k ≤ 15) : readSlot k = Ring.sl 2 k := by
  unfold readSlot; rw [min_eq_left h]
theorem readSlot_last {k : ℕ} (h : k = 16) : readSlot k = Ring.sl 2 (k + 1) := by subst h; rfl
/-- and the one the normalised tile goes to: the free one — at the first trip, which normalises zeros, the other. -/
def storeSlot (k : ℕ) : Fin 2 := Ring.sl 2 (if k = 0 then 0 else k + 1)
theorem storeSlot_zero {k : ℕ} (h : k = 0) : storeSlot k = Ring.sl 2 k := by subst h; rfl
theorem storeSlot_pos {k : ℕ} (h : 1 ≤ k) : storeSlot k = Ring.sl 2 (k + 1) := by
  unfold storeSlot; rw [if_neg (by omega)]
theorem sl2_add2 (k : ℕ) : Ring.sl 2 (k + 1 + 1) = Ring.sl 2 k := by rw [show k + 1 + 1 = k + 2 from rfl, Ring.sl_add]
theorem off106_eq : ∀ k : K2, k0_off106 (mWaited k) = slotOff (readSlot k) := by decide +kernel
instance (k : K2) : ClosedOff (k0_off106 (mWaited k)) := ⟨slotOff (readSlot k), off106_eq k⟩
theorem off108_eq : ∀ k : K2, k0_off108 (mWaited k) = slotOff (readSlot k) := by decide +kernel
instance (k : K2) : ClosedOff (k0_off108 (mWaited k)) := ⟨slotOff (readSlot k), off108_eq k⟩
theorem off110_eq : ∀ k : K2, k0_off110 (mWaited k) = slotOff (readSlot k) := by decide +kernel
instance (k : K2) : ClosedOff (k0_off110 (mWaited k)) := ⟨slotOff (readSlot k), off110_eq k⟩
theorem off112_eq : ∀ k : K2, k0_off112 (mWaited k) = slotOff (readSlot k) := by decide +kernel
instance (k : K2) : ClosedOff (k0_off112 (mWaited k)) := ⟨slotOff (readSlot k), off112_eq k⟩
theorem off113_eq : ∀ k : K2, k0_off113 (mWaited k) = slotOff (readSlot k) := by decide +kernel
instance (k : K2) : ClosedOff (k0_off113 (mWaited k)) := ⟨slotOff (readSlot k), off113_eq k⟩
theorem off115_eq : ∀ k : K2, k0_off115 (mWaited k) = slotOff (readSlot k) := by decide +kernel
instance (k : K2) : ClosedOff (k0_off115 (mWaited k)) := ⟨slotOff (readSlot k), off115_eq k⟩
theorem off120_eq : ∀ k : K2, k0_off120 (mWaited k) = slotOff (readSlot k) := by decide +kernel
instance (k : K2) : ClosedOff (k0_off120 (mWaited k)) := ⟨slotOff (readSlot k), off120_eq k⟩
theorem off122_eq : ∀ k : K2, k0_off122 (mWaited k) = slotOff (readSlot k) := by decide +kernel
instance (k : K2) : ClosedOff (k0_off122 (mWaited k)) := ⟨slotOff (readSlot k), off122_eq k⟩
theorem off124_eq : ∀ k : K2, k0_off124 (mWaited k) = slotOff (readSlot k) := by decide +kernel
instance (k : K2) : ClosedOff (k0_off124 (mWaited k)) := ⟨slotOff (readSlot k), off124_eq k⟩
theorem off126_eq : ∀ k : K2, k0_off126 (mWaited k) = slotOff (readSlot k) := by decide +kernel
instance (k : K2) : ClosedOff (k0_off126 (mWaited k)) := ⟨slotOff (readSlot k), off126_eq k⟩
theorem off127_eq : ∀ k : K2, k0_off127 (mWaited k) = slotOff (readSlot k) := by decide +kernel
instance (k : K2) : ClosedOff (k0_off127 (mWaited k)) := ⟨slotOff (readSlot k), off127_eq k⟩
theorem off107_eq : ∀ k : K2, k0_off107 (eStarted k) = slotOff (readSlot k) := by decide +kernel
instance (k : K2) : ClosedOff (k0_off107 (eStarted k)) := ⟨slotOff (readSlot k), off107_eq k⟩
theorem off109_eq : ∀ k : K2, k0_off109 (eStarted k) = slotOff (readSlot k) := by decide +kernel
instance (k : K2) : ClosedOff (k0_off109 (eStarted k)) := ⟨slotOff (readSlot k), off109_eq k⟩
theorem off111_eq : ∀ k : K2, k0_off111 (eStarted k) = slotOff (readSlot k) := by decide +kernel
instance (k : K2) : ClosedOff (k0_off111 (eStarted k)) := ⟨slotOff (readSlot k), off111_eq k⟩
theorem off114_eq : ∀ k : K2, k0_off114 (eStarted k) = slotOff (readSlot k) := by decide +kernel
instance (k : K2) : ClosedOff (k0_off114 (eStarted k)) := ⟨slotOff (readSlot k), off114_eq k⟩
theorem off121_eq : ∀ k : K2, k0_off121 (eStarted k) = slotOff (readSlot k) := by decide +kernel
instance (k : K2) : ClosedOff (k0_off121 (eStarted k)) := ⟨slotOff (readSlot k), off121_eq k⟩
theorem off123_eq : ∀ k : K2, k0_off123 (eStarted k) = slotOff (readSlot k) := by decide +kernel
instance (k : K2) : ClosedOff (k0_off123 (eStarted k)) := ⟨slotOff (readSlot k), off123_eq k⟩
theorem off125_eq : ∀ k : K2, k0_off125 (eStarted k) = slotOff (readSlot k) := by decide +kernel
instance (k : K2) : ClosedOff (k0_off125 (eStarted k)) := ⟨slotOff (readSlot k), off125_eq k⟩
theorem off128_eq : ∀ k : K2, k0_off128 (eStarted k) = slotOff (readSlot k) := by decide +kernel
instance (k : K2) : ClosedOff (k0_off128 (eStarted k)) := ⟨slotOff (readSlot k), off128_eq k⟩
theorem off105_eq : ∀ k : K2, k0_off105 (oStarted k) = slotOff (storeSlot k) := by decide +kernel
instance (k : K2) : ClosedOff (k0_off105 (oStarted k)) := ⟨slotOff (storeSlot k), off105_eq k⟩
theorem off119_eq : ∀ k : K2, k0_off119 (oStarted k) = slotOff (storeSlot k) := by decide +kernel
instance (k : K2) : ClosedOff (k0_off119 (oStarted k)) := ⟨slotOff (storeSlot k), off119_eq k⟩
theorem off116_eq : ∀ k : K2, k.val ≤ 15 → k0_off116 (mTrip k) = ![k.val / 2, 0] := by decide +kernel
theorem off117_eq : ∀ k : K2, k.val ≤ 15 → k0_off117 (mTrip k) = ![k.val / 2, 1024] := by decide +kernel
theorem off118_eq : ∀ k : K2, k.val ≤ 15 → k0_off118 (mTrip k) = ![k.val / 2, 2048] := by decide +kernel

end Cert.Proof.Ffn0

end
-- ==== Proof.FirstHeld.lean ====
/- The first feed-forward sub-layer's call: what its two pipelines compute, piece by piece, and what the core holds
   between their trips. -/
module

public import proofs.«01_k».proof.Proof.FirstWords
public import Idealize.ShloMosaic.Lib.VecWindow
public import Idealize.ShloMosaic.Lib.WritesUnit
public import Idealize.ShloMosaic.Lib.Pipeline.Value
public import Idealize.ShloMosaic.Lib.Pointwise.Index

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The values, piece by piece -/

/-- 384 columns of modulations: SiLU of `c` times the projection's columns, plus the bias's. -/
def modBlk (c : Vec F S8x1024 .f32) (w : Vec F S1024x384 .f32) (b : Vec F S1x384 .f32) : FVec F S8x384 .f32 :=
  addf (matmul dot_S8x1024_S1024x384_S8x384_1_0_0_1_n_n none (truncf .bf16 (mulf c (logistic c)) bitsLt_bf16_f32) (truncf .bf16 w bitsLt_bf16_f32)
    (constant S8x384 .f32 0x00000000#32)) (broadcastTo S8x384 b broadcasts_S1x384_S8x384)
theorem pay1_eq (c : Vec F S8x1024 .f32) (w : Vec F S1x1024x384 .f32) (b : Vec F S1x1x384 .f32) :
    k0_pay1 c w b = modBlk c (shapeCast S1024x384 w shapeCasts_S1x1024x384_S1024x384) (shapeCast S1x384 b shapeCasts_S1x1x384_S1x384) := by
  unfold k0_pay1 modBlk; dsimp only; rw [shapeCast_self]
theorem pay2_eq (c : Vec F S8x1024 .f32) (w : Vec F S1x1024x384 .f32) (b : Vec F S1x1x384 .f32) :
    k0_pay2 c w b = modBlk c (shapeCast S1024x384 w shapeCasts_S1x1024x384_S1024x384) (shapeCast S1x384 b shapeCasts_S1x1x384_S1x384) := by
  unfold k0_pay2 modBlk; dsimp only; rw [shapeCast_self]
theorem pay3_eq (c : Vec F S8x1024 .f32) (w : Vec F S1x1024x384 .f32) (b : Vec F S1x1x384 .f32) :
    k0_pay3 c w b = modBlk c (shapeCast S1024x384 w shapeCasts_S1x1024x384_S1024x384) (shapeCast S1x384 b shapeCasts_S1x1x384_S1x384) := by
  unfold k0_pay3 modBlk; dsimp only; rw [shapeCast_self]
theorem pay4_eq (c : Vec F S8x1024 .f32) (w : Vec F S1x1024x384 .f32) (b : Vec F S1x1x384 .f32) :
    k0_pay4 c w b = modBlk c (shapeCast S1024x384 w shapeCasts_S1x1024x384_S1024x384) (shapeCast S1x384 b shapeCasts_S1x1x384_S1x384) := by
  unfold k0_pay4 modBlk; dsimp only; rw [shapeCast_self]
theorem pay5_eq (c : Vec F S8x1024 .f32) (w : Vec F S1x1024x384 .f32) (b : Vec F S1x1x384 .f32) :
    k0_pay5 c w b = modBlk c (shapeCast S1024x384 w shapeCasts_S1x1024x384_S1024x384) (shapeCast S1x384 b shapeCasts_S1x1x384_S1x384) := by
  unfold k0_pay5 modBlk; dsimp only; rw [shapeCast_self]
theorem pay6_eq (c : Vec F S8x1024 .f32) (w : Vec F S1x1024x384 .f32) (b : Vec F S1x1x384 .f32) :
    k0_pay6 c w b = modBlk c (shapeCast S1024x384 w shapeCasts_S1x1024x384_S1024x384) (shapeCast S1x384 b shapeCasts_S1x1x384_S1x384) := by
  unfold k0_pay6 modBlk; dsimp only; rw [shapeCast_self]
theorem pay7_eq (c : Vec F S8x1024 .f32) (w : Vec F S1x1024x384 .f32) (b : Vec F S1x1x384 .f32) :
    k0_pay7 c w b = modBlk c (shapeCast S1024x384 w shapeCasts_S1x1024x384_S1024x384) (shapeCast S1x384 b shapeCasts_S1x1x384_S1x384) := by
  unfold k0_pay7 modBlk; dsimp only; rw [shapeCast_self]
theorem pay8_eq (c : Vec F S8x1024 .f32) (w : Vec F S1x1024x384 .f32) (b : Vec F S1x1x384 .f32) :
    k0_pay8 c w b = modBlk c (shapeCast S1024x384 w shapeCasts_S1x1024x384_S1024x384) (shapeCast S1x384 b shapeCasts_S1x1x384_S1x384) := by
  unfold k0_pay8 modBlk; dsimp only; rw [shapeCast_self]
theorem pay16_eq (c : Vec F S8x1024 .f32) (w : Vec F S1x1024x384 .f32) (b : Vec F S1x1x384 .f32) :
    k0_pay16 c w b = shapeCast S1x8x384 (modBlk c (shapeCast S1024x384 w shapeCasts_S1x1024x384_S1024x384) (shapeCast S1x384 b shapeCasts_S1x1x384_S1x384)) shapeCasts_S8x384_S1x8x384 := rfl
theorem pay23_eq (c : Vec F S8x1024 .f32) (w : Vec F S1x1024x384 .f32) (b : Vec F S1x1x384 .f32) :
    k0_pay23 c w b = shapeCast S1x8x384 (modBlk c (shapeCast S1024x384 w shapeCasts_S1x1024x384_S1024x384) (shapeCast S1x384 b shapeCasts_S1x1x384_S1x384)) shapeCasts_S8x384_S1x8x384 := rfl
theorem pay9_eq (w : Vec F S1x128x2816 .f32) :
    k0_pay9 w = truncf .bf16 (shapeCast S128x2816 w shapeCasts_S1x128x2816_S128x2816 : FVec F S128x2816 .f32) bitsLt_bf16_f32 := by
  unfold k0_pay9; dsimp only; rw [shapeCast_self]
theorem pay10_eq (w : Vec F S1x128x2816 .f32) :
    k0_pay10 w = truncf .bf16 (shapeCast S128x2816 w shapeCasts_S1x128x2816_S128x2816 : FVec F S128x2816 .f32) bitsLt_bf16_f32 := by
  unfold k0_pay10; dsimp only; rw [shapeCast_self]
theorem pay11_eq (w : Vec F S1x352x1024 .f32) :
    k0_pay11 w = truncf .bf16 (shapeCast S352x1024 w shapeCasts_S1x352x1024_S352x1024 : FVec F S352x1024 .f32) bitsLt_bf16_f32 := by
  unfold k0_pay11; dsimp only; rw [shapeCast_self]
theorem pay19_eq (x : Vec F S1024x1024 .f32) (g b : Vec F S1x1024 .f32) : k0_pay19 x g b = k0_pay12 x g b := rfl

/-- 1024 columns of a row of the modulations. -/
theorem modCols_inb (r : Fin 8) (o : Fin 3) : ∀ a, (![r.val, 1024 * o.val] : Fin 2 → ℕ) a + S1x1024.size a ≤ S8x3072.size a := by
  revert r o; decide
def modCols (mods : Vec F S8x3072 .f32) (r : Fin 8) (o : Fin 3) : Vec F S1x1024 .f32 :=
  VecWindow.window mods ![r.val, 1024 * o.val] S1x1024.size (modCols_inb r o)
/-- The row of modulations of tile `b`: two tiles to a batch element. -/
def modRow (b : Fin 16) : Fin 8 := ⟨b.val / 2, by omega⟩

/-! ## The resource algebra: the pipeline library's beside the counters of the kernel's own copies -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev rM : Memref sig .tc .vmem S1024x1024 .f32 := Memref.whole cc0_scratch0
abbrev w1M : Memref sig .tc .vmem S1024x2816 .bf16 := Memref.whole cc0_scratch1
abbrev w3M : Memref sig .tc .vmem S1024x2816 .bf16 := Memref.whole cc0_scratch2
abbrev w2M : Memref sig .tc .vmem S2816x1024 .bf16 := Memref.whole cc0_scratch3
abbrev mM : Memref sig .tc .vmem S8x3072 .f32 := Memref.whole cc0_scratch4
abbrev cH : Memref sig .tc .hbm S8x1024 .f32 := Memref.whole main_arg1
abbrev c1M : Memref sig .tc .vmem S8x1024 .f32 := Memref.whole cc0_scoped0
abbrev c2M : Memref sig .tc .vmem S8x1024 .f32 := Memref.whole cc0_scoped20

/-- What the call is given: the arrays it copies from, and the layer norm's two rows. -/
structure Ins (F : FTy → Type) (c : Dev nD) where
  C : Buf (Elt F) (cH.view.loc (c : Thread nD τ))
  A : Buf (Elt F) (aArr.view.loc (c : Thread nD τ))
  B : Buf (Elt F) (bArr.view.loc (c : Thread nD τ))
  C1 : Buf (Elt F) (cArr.view.loc (c : Thread nD τ))
  C3 : Buf (Elt F) (dArr.view.loc (c : Thread nD τ))
  C2 : Buf (Elt F) (eArr.view.loc (c : Thread nD τ))
  H : Buf (Elt F) (hArr.view.loc (c : Thread nD τ))
  I : Buf (Elt F) (iArr.view.loc (c : Thread nD τ))
  P : Buf (Elt F) (pArr.view.loc (c : Thread nD τ))
  Q : Buf (Elt F) (qArr.view.loc (c : Thread nD τ))
  V : Buf (Elt F) (vArr.view.loc (c : Thread nD τ))
  G : Vec F S1x1024 .f32
  N : Vec F S1x1024 .f32

section Pieces
variable {c : Dev nD} (X : Ins F c)

theorem col8 (y : S8x3072.Idx) : (y 1).val / 384 < 8 := by
  have h : (y 1).val < 3072 := (y 1).isLt
  omega
/-- The modulations the sub-layer uses, -/
def mods : Vec F S8x3072 .f32 := fun y =>
  modBlk (cH.view.read (Elt F) X.C) ((aTi ⟨(y 1).val / 384, col8 y⟩).view.read (Elt F) X.A) ((bTi ⟨(y 1).val / 384, col8 y⟩).view.read (Elt F) X.B)
    (ix2 ⟨(y 0).val, (y 0).isLt⟩ ⟨(y 1).val % 384, Nat.mod_lt _ (by decide)⟩)
theorem row8 (y : S1024x2816.Idx) : (y 0).val / 128 < 8 := by
  have h : (y 0).val < 1024 := (y 0).isLt
  omega
theorem row8' (y : S2816x1024.Idx) : (y 0).val / 352 < 8 := by
  have h : (y 0).val < 2816 := (y 0).isLt
  omega
/-- and the three weights cast. -/
def w1 : Vec F S1024x2816 .bf16 := fun y =>
  (truncf .bf16 ((cTi ⟨(y 0).val / 128, row8 y⟩).view.read (Elt F) X.C1 : FVec F S128x2816 .f32) bitsLt_bf16_f32 : FVec F S128x2816 .bf16)
    (ix2 ⟨(y 0).val % 128, Nat.mod_lt _ (by decide)⟩ ⟨(y 1).val, (y 1).isLt⟩)
def w3 : Vec F S1024x2816 .bf16 := fun y =>
  (truncf .bf16 ((dTi ⟨(y 0).val / 128, row8 y⟩).view.read (Elt F) X.C3 : FVec F S128x2816 .f32) bitsLt_bf16_f32 : FVec F S128x2816 .bf16)
    (ix2 ⟨(y 0).val % 128, Nat.mod_lt _ (by decide)⟩ ⟨(y 1).val, (y 1).isLt⟩)
def w2 : Vec F S2816x1024 .bf16 := fun y =>
  (truncf .bf16 ((eTi ⟨(y 0).val / 352, row8' y⟩).view.read (Elt F) X.C2 : FVec F S352x1024 .f32) bitsLt_bf16_f32 : FVec F S352x1024 .bf16)
    (ix2 ⟨(y 0).val % 352, Nat.mod_lt _ (by decide)⟩ ⟨(y 1).val, (y 1).isLt⟩)
/-- The residual of tile `b`, before the layer norm, -/
def resid (b : Fin 16) : Vec F S1024x1024 .f32 :=
  k0_pay18 ((hTi b).view.read (Elt F) X.H) (modCols (mods X) (modRow b) 0) (modCols (mods X) (modRow b) 1) (modCols (mods X) (modRow b) 2) (w1 X) (w3 X) (w2 X)
/-- tile `b` of the result, -/
def tileOut (b : Fin 16) : Vec F S1024x1024 .f32 := k0_pay17 (k0_pay12 (resid X b) X.G X.N)
/-- and block `b` of the later modulations. -/
def adaOut (b : Fin 16) : Vec F S8x384 .f32 :=
  modBlk (cH.view.read (Elt F) X.C) ((uTi b).view.read (Elt F) X.A) ((vTi b).view.read (Elt F) X.V)

/-! ## What is held -/

variable (c) in
/-- A semaphore of the kernel's own at zero. -/
abbrev cellP (s : DmaSems sig S_) : sProp 𝕄 := semVal ((c : Thread nD τ), SemLoc.dma s.sem) 0
variable (c) in
/-- A memref held on its own elements. -/
abbrev ownP {sp : Space} {s : Shape} {e : EltTy} (M : Memref sig .tc sp s e) (f : Buf (Elt F) (M.view.loc (c : Thread nD τ))) : sProp 𝕄 :=
  M.view.loc (c : Thread nD τ) ↦[M.view.set]{fullShare} f
variable (c) in
/-- A memref held, reading `T`. -/
abbrev reads {sp : Space} {s : Shape} {e : EltTy} (M : Memref sig .tc sp s e) (T : s.Idx → Elt F e) : sProp 𝕄 :=
  iprop(∃ f, ⌜M.view.read (Elt F) f = T⌝ ∗ ownP c M f)
variable (c) in
/-- A memref held at anything. -/
abbrev some_ {sp : Space} {s : Shape} {e : EltTy} (M : Memref sig .tc sp s e) : sProp 𝕄 := iprop(∃ f, ownP (F := F) c M f)

/- The projection's columns: tile `b` at home, slot `s` free, the copy of one into the other in flight. -/
abbrev aP (b : Fin 8) : sProp 𝕄 := ownP c (aTi b) X.A
variable (F c) in
abbrev aFr (s : Fin 2) : sProp 𝕄 := iprop(some_ (F := F) c (aSl s) ∗ cellP c (aSe s))
abbrev aFl (s : Fin 2) (b : Fin 8) : sProp 𝕄 :=
  iprop(∃ f, Transfers.Flight countersEmb (c : Thread nD τ) (SemLoc.dma (aSe s).sem) () 49152
    iprop(ownP c (aSl s) ((aSl s).view.writes (Elt F) f [⟨Rect.whole S1024x384, ReadAs.same.apply ((aTi b).view.read (Elt F) X.A)⟩]) ∗ aP X b))

/- The bias's columns: tile `b` at home, slot `s` free, the copy of one into the other in flight. -/
abbrev bP (b : Fin 8) : sProp 𝕄 := ownP c (bTi b) X.B
variable (F c) in
abbrev bFr (s : Fin 2) : sProp 𝕄 := iprop(some_ (F := F) c (bSl s) ∗ cellP c (bSe s))
abbrev bFl (s : Fin 2) (b : Fin 8) : sProp 𝕄 :=
  iprop(∃ f, Transfers.Flight countersEmb (c : Thread nD τ) (SemLoc.dma (bSe s).sem) () 48
    iprop(ownP c (bSl s) ((bSl s).view.writes (Elt F) f [⟨Rect.whole S1x384, ReadAs.same.apply ((bTi b).view.read (Elt F) X.B)⟩]) ∗ bP X b))

/- The first weight's rows: tile `b` at home, slot `s` free, the copy of one into the other in flight. -/
abbrev cP (b : Fin 8) : sProp 𝕄 := ownP c (cTi b) X.C1
variable (F c) in
abbrev cFr (s : Fin 2) : sProp 𝕄 := iprop(some_ (F := F) c (cSl s) ∗ cellP c (cSe s))
abbrev cFl (s : Fin 2) (b : Fin 8) : sProp 𝕄 :=
  iprop(∃ f, Transfers.Flight countersEmb (c : Thread nD τ) (SemLoc.dma (cSe s).sem) () 45056
    iprop(ownP c (cSl s) ((cSl s).view.writes (Elt F) f [⟨Rect.whole S128x2816, ReadAs.same.apply ((cTi b).view.read (Elt F) X.C1)⟩]) ∗ cP X b))

/- The gate weight's rows: tile `b` at home, slot `s` free, the copy of one into the other in flight. -/
abbrev dP (b : Fin 8) : sProp 𝕄 := ownP c (dTi b) X.C3
variable (F c) in
abbrev dFr (s : Fin 2) : sProp 𝕄 := iprop(some_ (F := F) c (dSl s) ∗ cellP c (dSe s))
abbrev dFl (s : Fin 2) (b : Fin 8) : sProp 𝕄 :=
  iprop(∃ f, Transfers.Flight countersEmb (c : Thread nD τ) (SemLoc.dma (dSe s).sem) () 45056
    iprop(ownP c (dSl s) ((dSl s).view.writes (Elt F) f [⟨Rect.whole S128x2816, ReadAs.same.apply ((dTi b).view.read (Elt F) X.C3)⟩]) ∗ dP X b))

/- The second weight's rows: tile `b` at home, slot `s` free, the copy of one into the other in flight. -/
abbrev eP (b : Fin 8) : sProp 𝕄 := ownP c (eTi b) X.C2
variable (F c) in
abbrev eFr (s : Fin 2) : sProp 𝕄 := iprop(some_ (F := F) c (eSl s) ∗ cellP c (eSe s))
abbrev eFl (s : Fin 2) (b : Fin 8) : sProp 𝕄 :=
  iprop(∃ f, Transfers.Flight countersEmb (c : Thread nD τ) (SemLoc.dma (eSe s).sem) () 45056
    iprop(ownP c (eSl s) ((eSl s).view.writes (Elt F) f [⟨Rect.whole S352x1024, ReadAs.same.apply ((eTi b).view.read (Elt F) X.C2)⟩]) ∗ eP X b))

/- The input's rows: tile `b` at home, slot `s` free, the copy of one into the other in flight. -/
abbrev hP (b : Fin 16) : sProp 𝕄 := ownP c (hTi b) X.H
variable (F c) in
abbrev hFr (s : Fin 2) : sProp 𝕄 := iprop(some_ (F := F) c (hSl s) ∗ cellP c (hSe s))
abbrev hFl (s : Fin 2) (b : Fin 16) : sProp 𝕄 :=
  iprop(∃ f, Transfers.Flight countersEmb (c : Thread nD τ) (SemLoc.dma (hSe s).sem) () 131072
    iprop(ownP c (hSl s) ((hSl s).view.writes (Elt F) f [⟨Rect.whole S1024x1024, ReadAs.same.apply ((hTi b).view.read (Elt F) X.H)⟩]) ∗ hP X b))

/- The mixer's input weight's rows: tile `b` at home, slot `s` free, the copy of one into the other in flight. -/
abbrev iP (b : Fin 16) : sProp 𝕄 := ownP c (iTi b) X.I
variable (F c) in
abbrev iFr (s : Fin 2) : sProp 𝕄 := iprop(some_ (F := F) c (iSl s) ∗ cellP c (iSe s))
abbrev iFl (s : Fin 2) (b : Fin 16) : sProp 𝕄 :=
  iprop(∃ f, Transfers.Flight countersEmb (c : Thread nD τ) (SemLoc.dma (iSe s).sem) () 10240
    iprop(ownP c (iSl s) ((iSl s).view.writes (Elt F) f [⟨Rect.whole S64x1280, ReadAs.same.apply ((iTi b).view.read (Elt F) X.I)⟩]) ∗ iP X b))

/- The pooling weight's rows: tile `b` at home, slot `s` free, the copy of one into the other in flight. -/
abbrev pP (b : Fin 16) : sProp 𝕄 := ownP c (pTi b) X.P
variable (F c) in
abbrev pFr (s : Fin 2) : sProp 𝕄 := iprop(some_ (F := F) c (pSl s) ∗ cellP c (pSe s))
abbrev pFl (s : Fin 2) (b : Fin 16) : sProp 𝕄 :=
  iprop(∃ f, Transfers.Flight countersEmb (c : Thread nD τ) (SemLoc.dma (pSe s).sem) () 512
    iprop(ownP c (pSl s) ((pSl s).view.writes (Elt F) f [⟨Rect.whole S32x128, ReadAs.same.apply ((pTi b).view.read (Elt F) X.P)⟩]) ∗ pP X b))

/- The mixer's output weight's rows: tile `b` at home, slot `s` free, the copy of one into the other in flight. -/
abbrev qP (b : Fin 16) : sProp 𝕄 := ownP c (qTi b) X.Q
variable (F c) in
abbrev qFr (s : Fin 2) : sProp 𝕄 := iprop(some_ (F := F) c (qSl s) ∗ cellP c (qSe s))
abbrev qFl (s : Fin 2) (b : Fin 16) : sProp 𝕄 :=
  iprop(∃ f, Transfers.Flight countersEmb (c : Thread nD τ) (SemLoc.dma (qSe s).sem) () 8192
    iprop(ownP c (qSl s) ((qSl s).view.writes (Elt F) f [⟨Rect.whole S64x1024, ReadAs.same.apply ((qTi b).view.read (Elt F) X.Q)⟩]) ∗ qP X b))

/- The projection's later columns: tile `b` at home, slot `s` free, the copy of one into the other in flight. -/
abbrev uP (b : Fin 16) : sProp 𝕄 := ownP c (uTi b) X.A
variable (F c) in
abbrev uFr (s : Fin 2) : sProp 𝕄 := iprop(some_ (F := F) c (uSl s) ∗ cellP c (uSe s))
abbrev uFl (s : Fin 2) (b : Fin 16) : sProp 𝕄 :=
  iprop(∃ f, Transfers.Flight countersEmb (c : Thread nD τ) (SemLoc.dma (uSe s).sem) () 49152
    iprop(ownP c (uSl s) ((uSl s).view.writes (Elt F) f [⟨Rect.whole S1024x384, ReadAs.same.apply ((uTi b).view.read (Elt F) X.A)⟩]) ∗ uP X b))

/- The bias's later columns: tile `b` at home, slot `s` free, the copy of one into the other in flight. -/
abbrev vP (b : Fin 16) : sProp 𝕄 := ownP c (vTi b) X.V
variable (F c) in
abbrev vFr (s : Fin 2) : sProp 𝕄 := iprop(some_ (F := F) c (vSl s) ∗ cellP c (vSe s))
abbrev vFl (s : Fin 2) (b : Fin 16) : sProp 𝕄 :=
  iprop(∃ f, Transfers.Flight countersEmb (c : Thread nD τ) (SemLoc.dma (vSe s).sem) () 48
    iprop(ownP c (vSl s) ((vSl s).view.writes (Elt F) f [⟨Rect.whole S1x384, ReadAs.same.apply ((vTi b).view.read (Elt F) X.V)⟩]) ∗ vP X b))

/- The result's rows: slot `s` free, the copy of slot `s` out to tile `b` in flight, tile `b` at home before trip `k`. -/
variable (F c) in
abbrev oFr (s : Fin 2) : sProp 𝕄 := iprop(some_ (F := F) c (oSl s) ∗ cellP c (oSe s))
abbrev oFl (s : Fin 2) (b : Fin 16) : sProp 𝕄 :=
  iprop(∃ g f, ⌜(oSl s).view.read (Elt F) g = tileOut X b⌝ ∗ Transfers.Flight countersEmb (c : Thread nD τ) (SemLoc.dma (oSe s).sem) () 131072
    iprop(ownP c (oTi b) ((oTi b).view.writes (Elt F) f [⟨Rect.whole S1024x1024, ReadAs.same.apply ((oSl s).view.read (Elt F) g)⟩]) ∗ ownP c (oSl s) g))
abbrev oIt (k : ℕ) (b : Fin 16) : sProp 𝕄 := iprop(∃ f, ⌜b.val + 2 < k → (oTi b).view.read (Elt F) f = tileOut X b⌝ ∗ ownP c (oTi b) f)

/- The mixer's input weight's rows, cast: slot `s` free, the copy of slot `s` out to tile `b` in flight, tile `b` at home before trip `k`. -/
variable (F c) in
abbrev xFr (s : Fin 2) : sProp 𝕄 := iprop(some_ (F := F) c (xSl s) ∗ cellP c (xSe s))
variable (F c) in
abbrev xFl (s : Fin 2) (b : Fin 16) : sProp 𝕄 :=
  iprop(∃ g f, Transfers.Flight countersEmb (c : Thread nD τ) (SemLoc.dma (xSe s).sem) () 5120
    iprop(ownP c (xTi b) ((xTi b).view.writes (Elt F) f [⟨Rect.whole S64x1280, ReadAs.same.apply ((xSl s).view.read (Elt F) g)⟩]) ∗ ownP c (xSl s) g))
variable (F c) in
abbrev xIt (_ : ℕ) (b : Fin 16) : sProp 𝕄 := iprop(∃ f, ownP (F := F) c (xTi b) f)

/- The pooling weight's rows, cast: slot `s` free, the copy of slot `s` out to tile `b` in flight, tile `b` at home before trip `k`. -/
variable (F c) in
abbrev yFr (s : Fin 2) : sProp 𝕄 := iprop(some_ (F := F) c (ySl s) ∗ cellP c (ySe s))
variable (F c) in
abbrev yFl (s : Fin 2) (b : Fin 16) : sProp 𝕄 :=
  iprop(∃ g f, Transfers.Flight countersEmb (c : Thread nD τ) (SemLoc.dma (ySe s).sem) () 256
    iprop(ownP c (yTi b) ((yTi b).view.writes (Elt F) f [⟨Rect.whole S32x128, ReadAs.same.apply ((ySl s).view.read (Elt F) g)⟩]) ∗ ownP c (ySl s) g))
variable (F c) in
abbrev yIt (_ : ℕ) (b : Fin 16) : sProp 𝕄 := iprop(∃ f, ownP (F := F) c (yTi b) f)

/- The mixer's output weight's rows, cast: slot `s` free, the copy of slot `s` out to tile `b` in flight, tile `b` at home before trip `k`. -/
variable (F c) in
abbrev zFr (s : Fin 2) : sProp 𝕄 := iprop(some_ (F := F) c (zSl s) ∗ cellP c (zSe s))
variable (F c) in
abbrev zFl (s : Fin 2) (b : Fin 16) : sProp 𝕄 :=
  iprop(∃ g f, Transfers.Flight countersEmb (c : Thread nD τ) (SemLoc.dma (zSe s).sem) () 4096
    iprop(ownP c (zTi b) ((zTi b).view.writes (Elt F) f [⟨Rect.whole S64x1024, ReadAs.same.apply ((zSl s).view.read (Elt F) g)⟩]) ∗ ownP c (zSl s) g))
variable (F c) in
abbrev zIt (_ : ℕ) (b : Fin 16) : sProp 𝕄 := iprop(∃ f, ownP (F := F) c (zTi b) f)

/- The modulations' columns: slot `s` free, the copy of slot `s` out to tile `b` in flight, tile `b` at home before trip `k`. -/
variable (F c) in
abbrev tFr (s : Fin 2) : sProp 𝕄 := iprop(some_ (F := F) c (tSl s) ∗ cellP c (tSe s))
abbrev tFl (s : Fin 2) (b : Fin 16) : sProp 𝕄 :=
  iprop(∃ g f, ⌜(tSl s).view.read (Elt F) g = adaOut X b⌝ ∗ Transfers.Flight countersEmb (c : Thread nD τ) (SemLoc.dma (tSe s).sem) () 384
    iprop(ownP c (tTi b) ((tTi b).view.writes (Elt F) f [⟨Rect.whole S8x384, ReadAs.same.apply ((tSl s).view.read (Elt F) g)⟩]) ∗ ownP c (tSl s) g))
abbrev tIt (k : ℕ) (b : Fin 16) : sProp 𝕄 := iprop(∃ f, ⌜b.val + 1 < k → (tTi b).view.read (Elt F) f = adaOut X b⌝ ∗ ownP c (tTi b) f)

/-! ## The schedule of one ring -/

section Ring
variable {n : ℕ} [NeZero n] (P : Fin n → sProp (MT nD τ sig Unit (Elt F) ℕ (UU nD τ) ℕ)) (Fl : Fin 2 → Fin n → sProp (MT nD τ sig Unit (Elt F) ℕ (UU nD τ) ℕ)) (Fr : Fin 2 → sProp (MT nD τ sig Unit (Elt F) ℕ (UU nD τ) ℕ))

/-- An input's slot of tile `k`: the tile in flight, while there is one. -/
def hereIn (k : ℕ) : sProp 𝕄 := if k < n then Fl (Ring.sl 2 k) (Ring.bk n k) else Fr (Ring.sl 2 k)
theorem hereIn_lt {k : ℕ} (h : k < n) : hereIn Fl Fr k = Fl (Ring.sl 2 k) (Ring.bk n k) := if_pos h
theorem hereIn_ge {k : ℕ} (h : ¬k < n) : hereIn Fl Fr k = Fr (Ring.sl 2 k) := if_neg h

/-- Trip `k` takes input tile `k + 1` from home, -/
theorem in_take {k : ℕ} (h : k + 1 < n) : bigSep (Ring.homeSet 1 k) P = iprop(P (Ring.bk n (k + 1)) ∗ bigSep ((Ring.homeSet 1 k).erase (Ring.bk n (k + 1))) P) := by
  conv_lhs => rw [Ring.homeSet_out 1 k h, bigSep_insert (Ring.bkL_not_mem_erase 1 k)]
  rfl
/-- and brings tile `k` home. -/
theorem in_put {k : ℕ} (h : k + 1 < n) : bigSep (Ring.homeSet 1 (k + 1)) P = iprop(P (Ring.bk n k) ∗ bigSep ((Ring.homeSet 1 k).erase (Ring.bk n (k + 1))) P) := by
  conv_lhs => rw [Ring.homeSet_succ 1 k h, bigSep_insert (Ring.bk_not_mem_erase 1 k (by omega) (by decide))]
  rfl
theorem in_put_last {k : ℕ} (h : n ≤ k + 1) (hk : k < n) : bigSep (Ring.homeSet 1 (k + 1)) P = iprop(P (Ring.bk n k) ∗ bigSep (Ring.homeSet 1 k) P) := by
  conv_lhs => rw [Ring.homeSet_succ_tail 1 k h hk, bigSep_insert (Ring.bk_not_mem_homeSet 1 k hk (by decide))]
  rfl
theorem in_all {k : ℕ} (h : n ≤ k) : bigSep (Ring.homeSet 1 k) P = bigSep Finset.univ P := by
  rw [Ring.homeSet_last 1 k h]
/-- Before the first trip every tile but tile 0 is at home. -/
theorem in_start : bigSep Finset.univ P = iprop(P (Ring.bk n 0) ∗ bigSep (Ring.homeSet 1 0) P) := by
  have hn : 0 < n := Nat.pos_of_neZero n
  rw [show (Finset.univ : Finset (Fin n)) = insert (Ring.bk n 0) (Ring.homeSet 1 0) from ?_, bigSep_insert ?_]; · rfl
  · rw [Ring.mem_homeSet, Ring.bk_val hn]; omega
  · ext b
    simp only [Finset.mem_univ, Finset.mem_insert, Ring.mem_homeSet, Fin.ext_iff, Ring.bk_val hn, true_iff]; omega
end Ring

section Late
variable (Fl : Fin 2 → Fin 16 → sProp (MT nD τ sig Unit (Elt F) ℕ (UU nD τ) ℕ)) (Fr : Fin 2 → sProp (MT nD τ sig Unit (Elt F) ℕ (UU nD τ) ℕ)) (It : ℕ → Fin 16 → sProp (MT nD τ sig Unit (Elt F) ℕ (UU nD τ) ℕ))

/-- The result's slot of tile `k - 2`: that tile in flight, once there is one. -/
def backO (k : ℕ) : sProp 𝕄 := if 2 ≤ k then Fl (Ring.sl 2 k) (Ring.bk 16 (k - 2)) else Fr (Ring.sl 2 k)
theorem backO_ge {k : ℕ} (h : 2 ≤ k) : backO Fl Fr k = Fl (Ring.sl 2 k) (Ring.bk 16 (k - 2)) := if_pos h
theorem backO_lt {k : ℕ} (h : ¬2 ≤ k) : backO Fl Fr k = Fr (Ring.sl 2 k) := if_neg h
def setO (k : ℕ) : Finset (Fin 16) := Finset.univ.filter fun b => b.val + 2 ≠ k
def restO (k : ℕ) : Finset (Fin 16) := Finset.univ.filter fun b => b.val + 2 ≠ k ∧ b.val + 1 ≠ k
/-- The result's tiles at home before trip `k`: all but `k - 2`. -/
def homeO (k : ℕ) : sProp 𝕄 := bigSep (setO k) (It k)
/-- Those of them trip `k` doesn't touch, as good before trip `k + 1`. -/
def keepO (k : ℕ) : sProp 𝕄 := bigSep (restO k) (It k)
variable (hIt : ∀ (k : ℕ) (b : Fin 16), b.val + 2 ≠ k → It (k + 1) b = It k b)
theorem homeO_take {k : ℕ} (h1 : 1 ≤ k) (h16 : k ≤ 16) : homeO It k = iprop(It k (Ring.bk 16 (k - 1)) ∗ keepO It k) := by
  have e : setO k = insert (Ring.bk 16 (k - 1)) (restO k) := by
    ext b; simp only [setO, restO, Finset.mem_insert, Finset.mem_filter, Finset.mem_univ, _root_.true_and, Fin.ext_iff, Ring.bk_val (show k - 1 < 16 by omega)]; omega
  unfold homeO keepO; rw [e, bigSep_insert]; · rfl
  simp only [restO, Finset.mem_filter, Finset.mem_univ, _root_.true_and, Ring.bk_val (show k - 1 < 16 by omega)]; omega
include hIt in
theorem keepO_succ (k : ℕ) : keepO It k = bigSep (restO k) (It (k + 1)) :=
  bigSep_congr fun b hb => (hIt k b (by simp only [restO, Finset.mem_filter] at hb; exact hb.2.1)).symm
include hIt in
theorem homeO_put {k : ℕ} (h2 : 2 ≤ k) (h16 : k ≤ 17) : homeO It (k + 1) = iprop(It (k + 1) (Ring.bk 16 (k - 2)) ∗ keepO It k) := by
  have e : setO (k + 1) = insert (Ring.bk 16 (k - 2)) (restO k) := by
    ext b; simp only [setO, restO, Finset.mem_insert, Finset.mem_filter, Finset.mem_univ, _root_.true_and, Fin.ext_iff, Ring.bk_val (show k - 2 < 16 by omega)]; omega
  rw [keepO_succ It hIt]; unfold homeO; rw [e, bigSep_insert]; · rfl
  simp only [restO, Finset.mem_filter, Finset.mem_univ, _root_.true_and, Ring.bk_val (show k - 2 < 16 by omega)]; omega
include hIt in
theorem homeO_second {k : ℕ} (h : k = 1) : homeO It (k + 1) = keepO It k := by
  subst h; rw [keepO_succ It hIt]; unfold homeO; rw [show setO 2 = restO 1 by decide]
include hIt in
theorem homeO_first {k : ℕ} (h : k = 0) : homeO It (k + 1) = homeO It k := by
  subst h; unfold homeO; rw [show setO 1 = setO 0 by decide]
  exact bigSep_congr fun b _ => hIt 0 b (by omega)
theorem homeO_start : homeO It 0 = bigSep Finset.univ (It 0) := by
  unfold homeO; rw [show setO 0 = Finset.univ by decide]
include hIt in
theorem homeO_end : bigSep Finset.univ (It 18) = iprop(It 18 (Ring.bk 16 (17 - 2)) ∗ homeO It 17) := by
  have h := homeO_put It hIt (k := 17) (by decide) (by decide)
  rw [keepO_succ It hIt, show restO 17 = setO 17 by decide] at h
  unfold homeO at h ⊢
  rw [show setO (17 + 1) = Finset.univ by decide] at h
  rw [h]
  congr 1
  exact bigSep_congr fun b hb => hIt 17 b (by simp only [setO, Finset.mem_filter] at hb; exact hb.2)

/-- An output made beside the result: the slot of the trip, -/
def hereE (k : ℕ) : sProp 𝕄 := if k = 17 then Fl (Ring.sl 2 k) (Ring.bk 16 15) else Fr (Ring.sl 2 k)
theorem hereE_end {k : ℕ} (h : k = 17) : hereE Fl Fr k = Fl (Ring.sl 2 k) (Ring.bk 16 15) := if_pos h
theorem hereE_free {k : ℕ} (h : k ≠ 17) : hereE Fl Fr k = Fr (Ring.sl 2 k) := if_neg h
/-- the other slot: the tile before in flight, -/
def backE (k : ℕ) : sProp 𝕄 := if 1 ≤ k ∧ k ≤ 15 then Fl (Ring.sl 2 (k + 1)) (Ring.bk 16 (k - 1)) else Fr (Ring.sl 2 (k + 1))
theorem backE_in {k : ℕ} (h : 1 ≤ k ∧ k ≤ 15) : backE Fl Fr k = Fl (Ring.sl 2 (k + 1)) (Ring.bk 16 (k - 1)) := if_pos h
theorem backE_out {k : ℕ} (h : ¬(1 ≤ k ∧ k ≤ 15)) : backE Fl Fr k = Fr (Ring.sl 2 (k + 1)) := if_neg h
def setE (k : ℕ) : Finset (Fin 16) := Finset.univ.filter fun b => if k = 16 then True else if k = 17 then b.val ≠ 15 else b.val + 1 ≠ k
def restE (k : ℕ) : Finset (Fin 16) := Finset.univ.filter fun b => if k = 16 then b.val ≠ 15 else if k = 15 then b.val + 1 ≠ k else b.val + 1 ≠ k ∧ b.val ≠ k
/-- the tiles at home before trip `k`, -/
def homeE (k : ℕ) : sProp 𝕄 := bigSep (setE k) (It k)
/-- and those of them trip `k` doesn't touch. -/
def keepE (k : ℕ) : sProp 𝕄 := bigSep (restE k) (It k)
variable (hE : ∀ (k : ℕ) (b : Fin 16), b.val + 1 ≠ k → It (k + 1) b = It k b)
theorem homeE_take {k : ℕ} (h : k ≤ 14) : homeE It k = iprop(It k (Ring.bk 16 k) ∗ keepE It k) := by
  have e : setE k = insert (Ring.bk 16 k) (restE k) := by
    ext b; simp only [setE, restE, Finset.mem_insert, Finset.mem_filter, Finset.mem_univ, _root_.true_and, Fin.ext_iff, Ring.bk_val (show k < 16 by omega),
      if_neg (show ¬k = 16 by omega), if_neg (show ¬k = 17 by omega), if_neg (show ¬k = 15 by omega)]; omega
  unfold homeE keepE; rw [e, bigSep_insert]; · rfl
  simp only [restE, Finset.mem_filter, Finset.mem_univ, _root_.true_and, Ring.bk_val (show k < 16 by omega), if_neg (show ¬k = 16 by omega), if_neg (show ¬k = 15 by omega)]; omega
theorem homeE_take_none {k : ℕ} (h : k = 15) : homeE It k = keepE It k := by
  subst h; unfold homeE keepE; rw [show setE 15 = restE 15 by decide]
theorem homeE_take_last {k : ℕ} (h : k = 16) : homeE It k = iprop(It k (Ring.bk 16 15) ∗ keepE It k) := by
  subst h; unfold homeE keepE; rw [show setE 16 = insert (Ring.bk 16 15) (restE 16) by decide, bigSep_insert (by decide)]; rfl
include hE in
theorem homeE_put {k : ℕ} (h1 : 1 ≤ k) (h : k ≤ 15) : homeE It (k + 1) = iprop(It (k + 1) (Ring.bk 16 (k - 1)) ∗ keepE It k) := by
  have e : ∀ k : Fin 17, 1 ≤ k.val → k.val ≤ 15 → setE (k.val + 1) = insert (Ring.bk 16 (k.val - 1)) (restE k.val) ∧ Ring.bk 16 (k.val - 1) ∉ restE k.val := by decide +kernel
  obtain ⟨e1, e2⟩ := e ⟨k, by omega⟩ h1 h
  unfold homeE keepE
  rw [show setE (k + 1) = _ from e1, bigSep_insert e2]
  refine congrArg (fun R => iprop(It (k + 1) (Ring.bk 16 (k - 1)) ∗ R)) (bigSep_congr fun b hb => hE k b fun hb' => e2 ?_)
  have : b = Ring.bk 16 (k - 1) := Fin.ext (by rw [Ring.bk_val (show k - 1 < 16 by omega)]; omega)
  exact this ▸ hb
include hE in
theorem homeE_first {k : ℕ} (h : k = 0) : homeE It (k + 1) = keepE It k := by
  subst h; unfold homeE keepE; rw [show setE 1 = restE 0 by decide]
  exact bigSep_congr fun b _ => hE 0 b (by omega)
include hE in
theorem homeE_close {k : ℕ} (h : k = 16) : homeE It (k + 1) = keepE It k := by
  subst h; unfold homeE keepE; rw [show setE 17 = restE 16 by decide]
  exact bigSep_congr fun b hb => hE 16 b fun h => by simp only [restE, Finset.mem_filter, if_pos] at hb; omega
theorem homeE_start : homeE It 0 = bigSep Finset.univ (It 0) := by
  unfold homeE; rw [show setE 0 = Finset.univ by decide]
theorem homeE_end : bigSep Finset.univ (It 17) = iprop(It 17 (Ring.bk 16 15) ∗ homeE It 17) := by
  unfold homeE; rw [show (Finset.univ : Finset (Fin 16)) = insert (Ring.bk 16 15) (setE 17) by decide, bigSep_insert (by decide)]; rfl
end Late

theorem oIt_keep (k : ℕ) (b : Fin 16) (h : b.val + 2 ≠ k) : oIt X (k + 1) b = oIt X k b := by
  unfold oIt; rw [show (b.val + 2 < k + 1) = (b.val + 2 < k) from propext (by omega)]
theorem tIt_keep (k : ℕ) (b : Fin 16) (h : b.val + 1 ≠ k) : tIt X (k + 1) b = tIt X k b := by
  unfold tIt; rw [show (b.val + 1 < k + 1) = (b.val + 1 < k) from propext (by omega)]
variable (c) in
theorem xIt_keep (k : ℕ) (b : Fin 16) (_ : b.val + 1 ≠ k) : xIt F c (k + 1) b = xIt F c k b := rfl
variable (c) in
theorem yIt_keep (k : ℕ) (b : Fin 16) (_ : b.val + 1 ≠ k) : yIt F c (k + 1) b = yIt F c k b := rfl
variable (c) in
theorem zIt_keep (k : ℕ) (b : Fin 16) (_ : b.val + 1 ≠ k) : zIt F c (k + 1) b = zIt F c k b := rfl

/-! ## Before a trip of the first pipeline -/

/-- The buffers it fills, as far as they are filled before trip `k`. -/
def mAt (k : ℕ) : sProp 𝕄 := iprop(∃ f, ⌜∀ y : S8x3072.Idx, (y 1).val < 384 * k → mM.view.read (Elt F) f y = mods X y⌝ ∗ ownP c mM f)
def w1At (k : ℕ) : sProp 𝕄 := iprop(∃ f, ⌜∀ y : S1024x2816.Idx, (y 0).val < 128 * k → w1M.view.read (Elt F) f y = w1 X y⌝ ∗ ownP c w1M f)
def w3At (k : ℕ) : sProp 𝕄 := iprop(∃ f, ⌜∀ y : S1024x2816.Idx, (y 0).val < 128 * k → w3M.view.read (Elt F) f y = w3 X y⌝ ∗ ownP c w3M f)
def w2At (k : ℕ) : sProp 𝕄 := iprop(∃ f, ⌜∀ y : S2816x1024.Idx, (y 0).val < 352 * k → w2M.view.read (Elt F) f y = w2 X y⌝ ∗ ownP c w2M f)
def res1 (k : ℕ) : sProp 𝕄 :=
  iprop((∃ W, owes (c : Thread nD τ) 0 W) ∗ reads c c1M (cH.view.read (Elt F) X.C) ∗ mAt X k ∗ w1At X k ∗ w3At X k ∗ w2At X k
    ∗ hereIn (aFl X) (aFr F c) k ∗ aFr F c (Ring.sl 2 (k + 1)) ∗ bigSep (Ring.homeSet 1 k) (aP X)
    ∗ hereIn (bFl X) (bFr F c) k ∗ bFr F c (Ring.sl 2 (k + 1)) ∗ bigSep (Ring.homeSet 1 k) (bP X)
    ∗ hereIn (cFl X) (cFr F c) k ∗ cFr F c (Ring.sl 2 (k + 1)) ∗ bigSep (Ring.homeSet 1 k) (cP X)
    ∗ hereIn (dFl X) (dFr F c) k ∗ dFr F c (Ring.sl 2 (k + 1)) ∗ bigSep (Ring.homeSet 1 k) (dP X)
    ∗ hereIn (eFl X) (eFr F c) k ∗ eFr F c (Ring.sl 2 (k + 1)) ∗ bigSep (Ring.homeSet 1 k) (eP X))

/-! ## Before a trip of the second -/

/-- The residual's buffer: before trip `k` it holds tile `k - 1`'s. -/
def rAt (k : ℕ) : sProp 𝕄 := iprop(∃ f, ⌜1 ≤ k ∧ k ≤ 16 → rM.view.read (Elt F) f = resid X (Ring.bk 16 (k - 1))⌝ ∗ ownP c rM f)
/- The projection's and the bias's other slot: before the last trip it still holds the last block. -/
abbrev uKp (k : ℕ) (s : Fin 2) : sProp 𝕄 := iprop((∃ f, ⌜k = 16 → (uSl s).view.read (Elt F) f = (uTi (Ring.bk 16 15)).view.read (Elt F) X.A⌝ ∗ ownP c (uSl s) f) ∗ cellP c (uSe s))
abbrev vKp (k : ℕ) (s : Fin 2) : sProp 𝕄 := iprop((∃ f, ⌜k = 16 → (vSl s).view.read (Elt F) f = (vTi (Ring.bk 16 15)).view.read (Elt F) X.V⌝ ∗ ownP c (vSl s) f) ∗ cellP c (vSe s))
def res2 (arg7 arg8 : Memref sig .tc .vmem S1x1024 .f32) (k : ℕ) : sProp 𝕄 :=
  iprop((∃ W, owes (c : Thread nD τ) 0 W) ∗ reads c arg7 X.G ∗ reads c arg8 X.N ∗ rAt X k ∗ reads c c2M (cH.view.read (Elt F) X.C)
    ∗ reads c mM (mods X) ∗ reads c w1M (w1 X) ∗ reads c w3M (w3 X) ∗ reads c w2M (w2 X)
    ∗ hereIn (hFl X) (hFr F c) k ∗ hFr F c (Ring.sl 2 (k + 1)) ∗ bigSep (Ring.homeSet 1 k) (hP X)
    ∗ hereIn (iFl X) (iFr F c) k ∗ iFr F c (Ring.sl 2 (k + 1)) ∗ bigSep (Ring.homeSet 1 k) (iP X)
    ∗ hereIn (pFl X) (pFr F c) k ∗ pFr F c (Ring.sl 2 (k + 1)) ∗ bigSep (Ring.homeSet 1 k) (pP X)
    ∗ hereIn (qFl X) (qFr F c) k ∗ qFr F c (Ring.sl 2 (k + 1)) ∗ bigSep (Ring.homeSet 1 k) (qP X)
    ∗ hereIn (uFl X) (uFr F c) k ∗ uKp X k (Ring.sl 2 (k + 1)) ∗ bigSep (Ring.homeSet 1 k) (uP X)
    ∗ hereIn (vFl X) (vFr F c) k ∗ vKp X k (Ring.sl 2 (k + 1)) ∗ bigSep (Ring.homeSet 1 k) (vP X)
    ∗ backO (oFl X) (oFr F c) k ∗ oFr F c (Ring.sl 2 (k + 1)) ∗ homeO (oIt X) k
    ∗ hereE (xFl F c) (xFr F c) k ∗ backE (xFl F c) (xFr F c) k ∗ homeE (xIt F c) k
    ∗ hereE (yFl F c) (yFr F c) k ∗ backE (yFl F c) (yFr F c) k ∗ homeE (yIt F c) k
    ∗ hereE (zFl F c) (zFr F c) k ∗ backE (zFl F c) (zFr F c) k ∗ homeE (zIt F c) k
    ∗ hereE (tFl X) (tFr F c) k ∗ backE (tFl X) (tFr F c) k ∗ homeE (tIt X) k)

end Pieces

section Bodies
variable (arg7 : Memref sig .tc .vmem S1x1024 .f32) (harg7 : arg7.IsWhole) (arg8 : Memref sig .tc .vmem S1x1024 .f32) (harg8 : arg8.IsWhole)

/-- The kernel on its windows, -/
abbrev bodyG : Prog (TpuEff nD τ sig (Elt F) Λ₀ .tc) PUnit :=
  cc0_ffn_sublayer_0
    (Memref.whole main_v0) (Memref.isWhole_whole _) (Memref.whole main_arg1) (Memref.isWhole_whole _) (Memref.whole main_arg2) (Memref.isWhole_whole _)
    (Memref.whole main_v3) (Memref.isWhole_whole _) (Memref.whole main_arg4) (Memref.isWhole_whole _) (Memref.whole main_arg5) (Memref.isWhole_whole _)
    (Memref.whole main_arg6) (Memref.isWhole_whole _) arg7 harg7 arg8 harg8 (Memref.whole main_arg9) (Memref.isWhole_whole _) (Memref.whole main_v1)
    (Memref.isWhole_whole _) (Memref.whole main_arg11) (Memref.isWhole_whole _) (Memref.whole main_arg1) (Memref.isWhole_whole _) (Memref.whole main_arg2)
    (Memref.isWhole_whole _) (Memref.whole main_v2) (Memref.isWhole_whole _) (Memref.whole main_v6_0) (Memref.isWhole_whole _) (Memref.whole main_v6_1)
    (Memref.isWhole_whole _) (Memref.whole main_v6_2) (Memref.isWhole_whole _) (Memref.whole main_v6_3) (Memref.isWhole_whole _) (Memref.whole main_v6_4)
    (Memref.isWhole_whole _) (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _) (Memref.whole cc0_scoped0)
    (Memref.isWhole_whole _) (Memref.whole cc0_scoped1) (Memref.isWhole_whole _) cc0_scoped2 (Memref.whole cc0_scoped3) (Memref.isWhole_whole _) cc0_scoped4
    (Memref.whole cc0_scoped5) (Memref.isWhole_whole _) cc0_scoped6 (Memref.whole cc0_scoped7) (Memref.isWhole_whole _) cc0_scoped8 (Memref.whole cc0_scoped9)
    (Memref.isWhole_whole _) cc0_scoped10 cc0_scoped11 (Memref.whole cc0_scoped12) (Memref.isWhole_whole _) cc0_scoped13 (Memref.whole cc0_scoped14)
    (Memref.isWhole_whole _) cc0_scoped15 (Memref.whole cc0_scoped16) (Memref.isWhole_whole _) cc0_scoped17 (Memref.whole cc0_scoped18) (Memref.isWhole_whole _)
    cc0_scoped19 (Memref.whole cc0_scoped20) (Memref.isWhole_whole _) (Memref.whole cc0_scoped21) (Memref.isWhole_whole _) cc0_scoped22 (Memref.whole cc0_scoped23)
    (Memref.isWhole_whole _) cc0_scoped24 (Memref.whole cc0_scoped25) (Memref.isWhole_whole _) cc0_scoped26 (Memref.whole cc0_scoped27) (Memref.isWhole_whole _)
    cc0_scoped28 (Memref.whole cc0_scoped29) (Memref.isWhole_whole _) cc0_scoped30 (Memref.whole cc0_scoped31) (Memref.isWhole_whole _) cc0_scoped32
    (Memref.whole cc0_scoped33) (Memref.isWhole_whole _) cc0_scoped34 cc0_scoped35
/-- and a trip of each of its two loops. -/
abbrev body1 (d0 d1 d2 d3 : BitVec 32) (k : K1) (acc : BitVec 32 × BitVec 32 × BitVec 32 × BitVec 32 × BitVec 32 × BitVec 32 × BitVec 32 × BitVec 32 × BitVec 32 × BitVec 32 × BitVec 32 × BitVec 32) : Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32) :=
  k0_t1_body (F := F)
    (Memref.whole main_v0) (Memref.isWhole_whole _) (Memref.whole main_arg1) (Memref.isWhole_whole _) (Memref.whole main_arg2) (Memref.isWhole_whole _)
    (Memref.whole main_v3) (Memref.isWhole_whole _) (Memref.whole main_arg4) (Memref.isWhole_whole _) (Memref.whole main_arg5) (Memref.isWhole_whole _)
    (Memref.whole main_arg6) (Memref.isWhole_whole _) arg7 harg7 arg8 harg8 (Memref.whole main_arg9) (Memref.isWhole_whole _) (Memref.whole main_v1)
    (Memref.isWhole_whole _) (Memref.whole main_arg11) (Memref.isWhole_whole _) (Memref.whole main_arg1) (Memref.isWhole_whole _) (Memref.whole main_arg2)
    (Memref.isWhole_whole _) (Memref.whole main_v2) (Memref.isWhole_whole _) (Memref.whole main_v6_0) (Memref.isWhole_whole _) (Memref.whole main_v6_1)
    (Memref.isWhole_whole _) (Memref.whole main_v6_2) (Memref.isWhole_whole _) (Memref.whole main_v6_3) (Memref.isWhole_whole _) (Memref.whole main_v6_4)
    (Memref.isWhole_whole _) (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _) (Memref.whole cc0_scoped0)
    (Memref.isWhole_whole _) (Memref.whole cc0_scoped1) (Memref.isWhole_whole _) cc0_scoped2 (Memref.whole cc0_scoped3) (Memref.isWhole_whole _) cc0_scoped4
    (Memref.whole cc0_scoped5) (Memref.isWhole_whole _) cc0_scoped6 (Memref.whole cc0_scoped7) (Memref.isWhole_whole _) cc0_scoped8 (Memref.whole cc0_scoped9)
    (Memref.isWhole_whole _) cc0_scoped10 cc0_scoped11 (Memref.whole cc0_scoped12) (Memref.isWhole_whole _) cc0_scoped13 (Memref.whole cc0_scoped14)
    (Memref.isWhole_whole _) cc0_scoped15 (Memref.whole cc0_scoped16) (Memref.isWhole_whole _) cc0_scoped17 (Memref.whole cc0_scoped18) (Memref.isWhole_whole _)
    cc0_scoped19 (Memref.whole cc0_scoped20) (Memref.isWhole_whole _) (Memref.whole cc0_scoped21) (Memref.isWhole_whole _) cc0_scoped22 (Memref.whole cc0_scoped23)
    (Memref.isWhole_whole _) cc0_scoped24 (Memref.whole cc0_scoped25) (Memref.isWhole_whole _) cc0_scoped26 (Memref.whole cc0_scoped27) (Memref.isWhole_whole _)
    cc0_scoped28 (Memref.whole cc0_scoped29) (Memref.isWhole_whole _) cc0_scoped30 (Memref.whole cc0_scoped31) (Memref.isWhole_whole _) cc0_scoped32
    (Memref.whole cc0_scoped33) (Memref.isWhole_whole _) cc0_scoped34 cc0_scoped35
    d0 d1 d2 d3 k acc
abbrev body2 (d0 d1 d2 d3 d4 d5 d6 d7 d8 d9 d10 d11 d12 d13 d14 d15 d16 d17 d18 d19 d20 d21 d22 d23 d24 : BitVec 32) (k : K2) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t2_body (F := F)
    (Memref.whole main_v0) (Memref.isWhole_whole _) (Memref.whole main_arg1) (Memref.isWhole_whole _) (Memref.whole main_arg2) (Memref.isWhole_whole _)
    (Memref.whole main_v3) (Memref.isWhole_whole _) (Memref.whole main_arg4) (Memref.isWhole_whole _) (Memref.whole main_arg5) (Memref.isWhole_whole _)
    (Memref.whole main_arg6) (Memref.isWhole_whole _) arg7 harg7 arg8 harg8 (Memref.whole main_arg9) (Memref.isWhole_whole _) (Memref.whole main_v1)
    (Memref.isWhole_whole _) (Memref.whole main_arg11) (Memref.isWhole_whole _) (Memref.whole main_arg1) (Memref.isWhole_whole _) (Memref.whole main_arg2)
    (Memref.isWhole_whole _) (Memref.whole main_v2) (Memref.isWhole_whole _) (Memref.whole main_v6_0) (Memref.isWhole_whole _) (Memref.whole main_v6_1)
    (Memref.isWhole_whole _) (Memref.whole main_v6_2) (Memref.isWhole_whole _) (Memref.whole main_v6_3) (Memref.isWhole_whole _) (Memref.whole main_v6_4)
    (Memref.isWhole_whole _) (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _) (Memref.whole cc0_scoped0)
    (Memref.isWhole_whole _) (Memref.whole cc0_scoped1) (Memref.isWhole_whole _) cc0_scoped2 (Memref.whole cc0_scoped3) (Memref.isWhole_whole _) cc0_scoped4
    (Memref.whole cc0_scoped5) (Memref.isWhole_whole _) cc0_scoped6 (Memref.whole cc0_scoped7) (Memref.isWhole_whole _) cc0_scoped8 (Memref.whole cc0_scoped9)
    (Memref.isWhole_whole _) cc0_scoped10 cc0_scoped11 (Memref.whole cc0_scoped12) (Memref.isWhole_whole _) cc0_scoped13 (Memref.whole cc0_scoped14)
    (Memref.isWhole_whole _) cc0_scoped15 (Memref.whole cc0_scoped16) (Memref.isWhole_whole _) cc0_scoped17 (Memref.whole cc0_scoped18) (Memref.isWhole_whole _)
    cc0_scoped19 (Memref.whole cc0_scoped20) (Memref.isWhole_whole _) (Memref.whole cc0_scoped21) (Memref.isWhole_whole _) cc0_scoped22 (Memref.whole cc0_scoped23)
    (Memref.isWhole_whole _) cc0_scoped24 (Memref.whole cc0_scoped25) (Memref.isWhole_whole _) cc0_scoped26 (Memref.whole cc0_scoped27) (Memref.isWhole_whole _)
    cc0_scoped28 (Memref.whole cc0_scoped29) (Memref.isWhole_whole _) cc0_scoped30 (Memref.whole cc0_scoped31) (Memref.isWhole_whole _) cc0_scoped32
    (Memref.whole cc0_scoped33) (Memref.isWhole_whole _) cc0_scoped34 cc0_scoped35
    d0 d1 d2 d3 d4 d5 d6 d7 d8 d9 d10 d11 d12 d13 d14 d15 d16 d17 d18 d19 d20 d21 d22 d23 d24 k acc
end Bodies

end Cert.Proof.Ffn0

end
-- ==== Proof.FirstSteps.lean ====
/- The first feed-forward sub-layer's call, first pipeline: what a trip stores. -/
module

public import proofs.«01_k».proof.Proof.FirstHeld

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

section Loads
/-- Both operands of a block of modulations, loaded from their slots. -/
theorem mod_of {offa offb : Fin 3 → ℕ} {s : Fin 2} (ea : offa = slotOff s) (eb : offb = slotOff s) (ic ia ib)
    (fc : c1M.view.ty.Contents (Elt F)) (fa : aRing.view.ty.Contents (Elt F)) (fb : bRing.view.ty.Contents (Elt F)) (ha hb) :
    modBlk (c1M.view.readAt (Elt F) (Rect.unit (s := S8x1024) ![0, 0] S8x1024.size ic).toLoadRect fc)
        (shapeCast S1024x384 (aRing.view.readAt (Elt F) (Rect.unit (s := S2x1024x384) offa S1x1024x384.size ia).toLoadRect fa) ha)
        (shapeCast S1x384 (bRing.view.readAt (Elt F) (Rect.unit (s := S2x1x384) offb S1x1x384.size ib).toLoadRect fb) hb)
      = modBlk (c1M.view.read (Elt F) fc) ((aSl s).view.read (Elt F) fa) ((bSl s).view.read (Elt F) fb) := by
  subst ea; subst eb
  rw [View.readAt_full]
  exact congrArg₂ (modBlk _) (Memref.read_squeeze_slice aRing _ (fun _ => rfl) squeezes_S1x1024x384_S1024x384 _ fa).symm
    (Memref.read_squeeze_slice bRing _ (fun _ => rfl) squeezes_S1x1x384_S1x384 _ fb).symm
theorem pay9_load {off : Fin 3 → ℕ} {s : Fin 2} (e : off = slotOff s) (i) (f : cRing.view.ty.Contents (Elt F)) :
    k0_pay9 (cRing.view.readAt (Elt F) (Rect.unit (s := S2x128x2816) off S1x128x2816.size i).toLoadRect f)
      = truncf .bf16 ((cSl s).view.read (Elt F) f : FVec F S128x2816 .f32) bitsLt_bf16_f32 := by
  subst e
  rw [pay9_eq]
  exact congrArg (fun v => truncf .bf16 v bitsLt_bf16_f32) (Memref.read_squeeze_slice cRing _ (fun _ => rfl) squeezes_S1x128x2816_S128x2816 _ f).symm
theorem pay10_load {off : Fin 3 → ℕ} {s : Fin 2} (e : off = slotOff s) (i) (f : dRing.view.ty.Contents (Elt F)) :
    k0_pay10 (dRing.view.readAt (Elt F) (Rect.unit (s := S2x128x2816) off S1x128x2816.size i).toLoadRect f)
      = truncf .bf16 ((dSl s).view.read (Elt F) f : FVec F S128x2816 .f32) bitsLt_bf16_f32 := by
  subst e
  rw [pay10_eq]
  exact congrArg (fun v => truncf .bf16 v bitsLt_bf16_f32) (Memref.read_squeeze_slice dRing _ (fun _ => rfl) squeezes_S1x128x2816_S128x2816 _ f).symm
theorem pay11_load {off : Fin 3 → ℕ} {s : Fin 2} (e : off = slotOff s) (i) (f : eRing.view.ty.Contents (Elt F)) :
    k0_pay11 (eRing.view.readAt (Elt F) (Rect.unit (s := S2x352x1024) off S1x352x1024.size i).toLoadRect f)
      = truncf .bf16 ((eSl s).view.read (Elt F) f : FVec F S352x1024 .f32) bitsLt_bf16_f32 := by
  subst e
  rw [pay11_eq]
  exact congrArg (fun v => truncf .bf16 v bitsLt_bf16_f32) (Memref.read_squeeze_slice eRing _ (fun _ => rfl) squeezes_S1x352x1024_S352x1024 _ f).symm
end Loads

section Steps
variable {c}

theorem mods_step (k : K1) {fc : Buf (Elt F) (c1M.view.loc (c : Thread nD τ))} {fm : Buf (Elt F) (mM.view.loc (c : Thread nD τ))}
    (hfc : c1M.view.read (Elt F) fc = cH.view.read (Elt F) X.C) (hfm : ∀ y : S8x3072.Idx, (y 1).val < 384 * k.val → mM.view.read (Elt F) fm y = mods X y)
    {off : Fin 2 → ℕ} (inb) (hoff : off = ![0, 384 * k.val]) (w : Vec F S8x384 .f32) {fa fb}
    (hw : w = modBlk (c1M.view.read (Elt F) fc)
      ((aSl (Ring.sl 2 k.val)).view.read (Elt F) ((aSl (Ring.sl 2 k.val)).view.writes (Elt F) fa [⟨Rect.whole S1024x384, ReadAs.same.apply ((aTi (Ring.bk 8 k.val)).view.read (Elt F) X.A)⟩]))
      ((bSl (Ring.sl 2 k.val)).view.read (Elt F) ((bSl (Ring.sl 2 k.val)).view.writes (Elt F) fb [⟨Rect.whole S1x384, ReadAs.same.apply ((bTi (Ring.bk 8 k.val)).view.read (Elt F) X.B)⟩]))) :
    ∀ y : S8x3072.Idx, (y 1).val < 384 * (k.val + 1) → mM.view.read (Elt F) (mM.view.writes (Elt F) fm [⟨Rect.unit (s := S8x3072) off S8x384.size inb, w⟩]) y = mods X y := by
  intro y hy
  have hk : k.val < 8 := k.isLt
  by_cases h : (y 1).val < 384 * k.val
  · rw [View.read_writes_cons_unit_of_not_mem mM.view fm inb w [] y hoff 1 (Or.inl h)]
    exact hfm y h
  · have hb : (⟨(y 1).val / 384, col8 y⟩ : Fin 8) = Ring.bk 8 k.val := Fin.ext (by rw [Ring.bk_val hk]; show (y 1).val / 384 = k.val; omega)
    rw [View.read_writes_cons_unit_of_mem mM.view fm inb w [] y (ix2 ⟨(y 0).val, (y 0).isLt⟩ ⟨(y 1).val % 384, Nat.mod_lt _ (by decide)⟩) hoff
      (Fin.forall_fin_two.mpr ⟨(Nat.zero_add _).symm, show (y 1).val = 384 * k.val + (y 1).val % 384 by omega⟩), hw, hfc, View.read_writes_whole, View.read_writes_whole]
    unfold mods
    rw [hb]

theorem w1_step (k : K1) {fm : Buf (Elt F) (w1M.view.loc (c : Thread nD τ))}
    (hfm : ∀ y : S1024x2816.Idx, (y 0).val < 128 * k.val → w1M.view.read (Elt F) fm y = w1 X y)
    (inb) (w : Vec F S128x2816 .bf16) {fa}
    (hw : w = truncf .bf16 ((cSl (Ring.sl 2 k.val)).view.read (Elt F) ((cSl (Ring.sl 2 k.val)).view.writes (Elt F) fa [⟨Rect.whole S128x2816, ReadAs.same.apply ((cTi (Ring.bk 8 k.val)).view.read (Elt F) X.C1)⟩]) : FVec F S128x2816 .f32) bitsLt_bf16_f32) :
    ∀ y : S1024x2816.Idx, (y 0).val < 128 * (k.val + 1) → w1M.view.read (Elt F) (w1M.view.writes (Elt F) fm [⟨Rect.unit (s := S1024x2816) (k0_off55 (sTrip k)) S128x2816.size inb, w⟩]) y = w1 X y := by
  intro y hy
  have hk : k.val < 8 := k.isLt
  have hoff := off55_eq k
  by_cases h : (y 0).val < 128 * k.val
  · rw [View.read_writes_cons_unit_of_not_mem w1M.view fm inb w [] y hoff 0 (Or.inl h)]
    exact hfm y h
  · have hb : (⟨(y 0).val / 128, row8 y⟩ : Fin 8) = Ring.bk 8 k.val := Fin.ext (by rw [Ring.bk_val hk]; show (y 0).val / 128 = k.val; omega)
    rw [View.read_writes_cons_unit_of_mem w1M.view fm inb w [] y (ix2 ⟨(y 0).val % 128, Nat.mod_lt _ (by decide)⟩ ⟨(y 1).val, (y 1).isLt⟩) hoff
      (Fin.forall_fin_two.mpr ⟨show (y 0).val = 128 * k.val + (y 0).val % 128 by omega, (Nat.zero_add _).symm⟩), hw, View.read_writes_whole]
    unfold w1
    rw [hb]

theorem w3_step (k : K1) {fm : Buf (Elt F) (w3M.view.loc (c : Thread nD τ))}
    (hfm : ∀ y : S1024x2816.Idx, (y 0).val < 128 * k.val → w3M.view.read (Elt F) fm y = w3 X y)
    (inb) (w : Vec F S128x2816 .bf16) {fa}
    (hw : w = truncf .bf16 ((dSl (Ring.sl 2 k.val)).view.read (Elt F) ((dSl (Ring.sl 2 k.val)).view.writes (Elt F) fa [⟨Rect.whole S128x2816, ReadAs.same.apply ((dTi (Ring.bk 8 k.val)).view.read (Elt F) X.C3)⟩]) : FVec F S128x2816 .f32) bitsLt_bf16_f32) :
    ∀ y : S1024x2816.Idx, (y 0).val < 128 * (k.val + 1) → w3M.view.read (Elt F) (w3M.view.writes (Elt F) fm [⟨Rect.unit (s := S1024x2816) (k0_off55 (sTrip k)) S128x2816.size inb, w⟩]) y = w3 X y := by
  intro y hy
  have hk : k.val < 8 := k.isLt
  have hoff := off55_eq k
  by_cases h : (y 0).val < 128 * k.val
  · rw [View.read_writes_cons_unit_of_not_mem w3M.view fm inb w [] y hoff 0 (Or.inl h)]
    exact hfm y h
  · have hb : (⟨(y 0).val / 128, row8 y⟩ : Fin 8) = Ring.bk 8 k.val := Fin.ext (by rw [Ring.bk_val hk]; show (y 0).val / 128 = k.val; omega)
    rw [View.read_writes_cons_unit_of_mem w3M.view fm inb w [] y (ix2 ⟨(y 0).val % 128, Nat.mod_lt _ (by decide)⟩ ⟨(y 1).val, (y 1).isLt⟩) hoff
      (Fin.forall_fin_two.mpr ⟨show (y 0).val = 128 * k.val + (y 0).val % 128 by omega, (Nat.zero_add _).symm⟩), hw, View.read_writes_whole]
    unfold w3
    rw [hb]

theorem w2_step (k : K1) {fm : Buf (Elt F) (w2M.view.loc (c : Thread nD τ))}
    (hfm : ∀ y : S2816x1024.Idx, (y 0).val < 352 * k.val → w2M.view.read (Elt F) fm y = w2 X y)
    (inb) (w : Vec F S352x1024 .bf16) {fa}
    (hw : w = truncf .bf16 ((eSl (Ring.sl 2 k.val)).view.read (Elt F) ((eSl (Ring.sl 2 k.val)).view.writes (Elt F) fa [⟨Rect.whole S352x1024, ReadAs.same.apply ((eTi (Ring.bk 8 k.val)).view.read (Elt F) X.C2)⟩]) : FVec F S352x1024 .f32) bitsLt_bf16_f32) :
    ∀ y : S2816x1024.Idx, (y 0).val < 352 * (k.val + 1) → w2M.view.read (Elt F) (w2M.view.writes (Elt F) fm [⟨Rect.unit (s := S2816x1024) (k0_off58 (sTrip k)) S352x1024.size inb, w⟩]) y = w2 X y := by
  intro y hy
  have hk : k.val < 8 := k.isLt
  have hoff := off58_eq k
  by_cases h : (y 0).val < 352 * k.val
  · rw [View.read_writes_cons_unit_of_not_mem w2M.view fm inb w [] y hoff 0 (Or.inl h)]
    exact hfm y h
  · have hb : (⟨(y 0).val / 352, row8' y⟩ : Fin 8) = Ring.bk 8 k.val := Fin.ext (by rw [Ring.bk_val hk]; show (y 0).val / 352 = k.val; omega)
    rw [View.read_writes_cons_unit_of_mem w2M.view fm inb w [] y (ix2 ⟨(y 0).val % 352, Nat.mod_lt _ (by decide)⟩ ⟨(y 1).val, (y 1).isLt⟩) hoff
      (Fin.forall_fin_two.mpr ⟨show (y 0).val = 352 * k.val + (y 0).val % 352 by omega, (Nat.zero_add _).symm⟩), hw, View.read_writes_whole]
    unfold w2
    rw [hb]
end Steps

/-- A trip of the first pipeline from the state before it to the state before the next. -/
def StageRun (d0 d1 d2 d3 : BitVec 32) (k : K1) : Prop :=
  res1 X k.val
    ⊢ wp frame (wpE (defs₀ (F := F)) 𝒱₀ (c : Thread nD τ) none) Set.univ (body1 arg7 harg7 arg8 harg8 d0 d1 d2 d3 k (carried1 k.val))
      (fun acc => iprop(⌜acc = carried1 (k.val + 1)⌝ ∗ res1 X (k.val + 1)))

end Cert.Proof.Ffn0

end
-- ==== Proof.FirstStageA.lean ====
/- The first feed-forward sub-layer's call, first pipeline: trips 0 and 1. -/
module

public import proofs.«01_k».proof.Proof.FirstSteps

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- Trip 0. -/
theorem stage0 (d0 d1 d2 d3 : BitVec 32) (k : K1) (hk : k.val = 0) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := block0 k hk
  have bl1 := no_block1 k (by omega)
  have bl2 := no_block2 k (by omega)
  have bl3 := no_block3 k (by omega)
  have bl4 := no_block4 k (by omega)
  have bl5 := no_block5 k (by omega)
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay1_eq _ _ _).trans (mod_of (s := Ring.sl 2 k.val) (off38_eq k) (off39_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

/-- Trip 1. -/
theorem stage1 (d0 d1 d2 d3 : BitVec 32) (k : K1) (hk : k.val = 1) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := block1 k hk
  have bl2 := no_block2 k (by omega)
  have bl3 := no_block3 k (by omega)
  have bl4 := no_block4 k (by omega)
  have bl5 := no_block5 k (by omega)
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay2_eq _ _ _).trans (mod_of (s := Ring.sl 2 k.val) (off40_eq k) (off41_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

end Cert.Proof.Ffn0

end
-- ==== Proof.FirstStageB.lean ====
/- The first feed-forward sub-layer's call, first pipeline: trips 2 and 3. -/
module

public import proofs.«01_k».proof.Proof.FirstSteps

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- Trip 2. -/
theorem stage2 (d0 d1 d2 d3 : BitVec 32) (k : K1) (hk : k.val = 2) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := no_block1 k (by omega)
  have bl2 := block2 k hk
  have bl3 := no_block3 k (by omega)
  have bl4 := no_block4 k (by omega)
  have bl5 := no_block5 k (by omega)
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay3_eq _ _ _).trans (mod_of (s := Ring.sl 2 k.val) (off42_eq k) (off43_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

/-- Trip 3. -/
theorem stage3 (d0 d1 d2 d3 : BitVec 32) (k : K1) (hk : k.val = 3) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := no_block1 k (by omega)
  have bl2 := no_block2 k (by omega)
  have bl3 := block3 k hk
  have bl4 := no_block4 k (by omega)
  have bl5 := no_block5 k (by omega)
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay4_eq _ _ _).trans (mod_of (s := Ring.sl 2 k.val) (off44_eq k) (off45_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

end Cert.Proof.Ffn0

end
-- ==== Proof.FirstStageC.lean ====
/- The first feed-forward sub-layer's call, first pipeline: trips 4 and 5. -/
module

public import proofs.«01_k».proof.Proof.FirstSteps

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- Trip 4. -/
theorem stage4 (d0 d1 d2 d3 : BitVec 32) (k : K1) (hk : k.val = 4) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := no_block1 k (by omega)
  have bl2 := no_block2 k (by omega)
  have bl3 := no_block3 k (by omega)
  have bl4 := block4 k hk
  have bl5 := no_block5 k (by omega)
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay5_eq _ _ _).trans (mod_of (s := Ring.sl 2 k.val) (off46_eq k) (off47_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

/-- Trip 5. -/
theorem stage5 (d0 d1 d2 d3 : BitVec 32) (k : K1) (hk : k.val = 5) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := no_block1 k (by omega)
  have bl2 := no_block2 k (by omega)
  have bl3 := no_block3 k (by omega)
  have bl4 := no_block4 k (by omega)
  have bl5 := block5 k hk
  have bl6 := no_block6 k (by omega)
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay6_eq _ _ _).trans (mod_of (s := Ring.sl 2 k.val) (off48_eq k) (off49_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

end Cert.Proof.Ffn0

end
-- ==== Proof.FirstStageD.lean ====
/- The first feed-forward sub-layer's call, first pipeline: trips 6 and 7. -/
module

public import proofs.«01_k».proof.Proof.FirstSteps

@[expose] public section

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- Trip 6. -/
theorem stage6 (d0 d1 d2 d3 : BitVec 32) (k : K1) (hk : k.val = 6) : StageRun c X arg7 harg7 arg8 harg8 d0 d1 d2 d3 k := by
  have e1 := chk1 k
  have e2 := chk2 k
  have e3 := chk3 k
  have e4 := chk4 k
  have h6 : k.val ≤ 6 := by omega
  have st_a := a_start k (by omega)
  have wt_a := a_wait k
  have st_b := b_start k (by omega)
  have wt_b := b_wait k
  have st_c := c_start k (by omega)
  have wt_c := c_wait k
  have st_d := d_start k (by omega)
  have wt_d := d_wait k
  have st_e := e_start k (by omega)
  have wt_e := e_wait k
  have bl0 := no_block0 k (by omega)
  have bl1 := no_block1 k (by omega)
  have bl2 := no_block2 k (by omega)
  have bl3 := no_block3 k (by omega)
  have bl4 := no_block4 k (by omega)
  have bl5 := no_block5 k (by omega)
  have bl6 := block6 k hk
  have bl7 := no_block7 k (by omega)
  unfold StageRun res1
  rw [hereIn_lt (aFl X) (aFr F c) (k := k.val) (by omega), hereIn_lt (aFl X) (aFr F c) (k := k.val + 1) (by omega), in_take (aP X) (k := k.val) (by omega), in_put (aP X) (k := k.val) (by omega), hereIn_lt (bFl X) (bFr F c) (k := k.val) (by omega), hereIn_lt (bFl X) (bFr F c) (k := k.val + 1) (by omega), in_take (bP X) (k := k.val) (by omega), in_put (bP X) (k := k.val) (by omega), hereIn_lt (cFl X) (cFr F c) (k := k.val) (by omega), hereIn_lt (cFl X) (cFr F c) (k := k.val + 1) (by omega), in_take (cP X) (k := k.val) (by omega), in_put (cP X) (k := k.val) (by omega), hereIn_lt (dFl X) (dFr F c) (k := k.val) (by omega), hereIn_lt (dFl X) (dFr F c) (k := k.val + 1) (by omega), in_take (dP X) (k := k.val) (by omega), in_put (dP X) (k := k.val) (by omega), hereIn_lt (eFl X) (eFr F c) (k := k.val) (by omega), hereIn_lt (eFl X) (eFr F c) (k := k.val + 1) (by omega), in_take (eP X) (k := k.val) (by omega), in_put (eP X) (k := k.val) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, ⟨HaX, Has⟩, ⟨%fb, HbF⟩, ⟨⟨%gb, HbI⟩, HbC⟩, ⟨HbX, Hbs⟩, ⟨%fc, HcF⟩, ⟨⟨%gc, HcI⟩, HcC⟩, ⟨HcX, Hcs⟩, ⟨%fd, HdF⟩, ⟨⟨%gd, HdI⟩, HdC⟩, ⟨HdX, Hds⟩, ⟨%fe, HeF⟩, ⟨⟨%ge, HeI⟩, HeC⟩, ⟨HeX, Hes⟩⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay7_eq _ _ _).trans (mod_of (s := Ring.sl 2 k.val) (off50_eq k) (off51_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaC]; · iexists _; iexact HaC
  isplitl [HaF_dst HaF]
  · isplitl [HaF_dst]; · iexists _; iexact HaF_dst
    iexact HaF
  isplitl [HaF_src Has]
  · isplitl [HaF_src]; · iexact HaF_src
    iexact Has
  isplitl [HbC]; · iexists _; iexact HbC
  isplitl [HbF_dst HbF]
  · isplitl [HbF_dst]; · iexists _; iexact HbF_dst
    iexact HbF
  isplitl [HbF_src Hbs]
  · isplitl [HbF_src]; · iexact HbF_src
    iexact Hbs
  isplitl [HcC]; · iexists _; iexact HcC
  isplitl [HcF_dst HcF]
  · isplitl [HcF_dst]; · iexists _; iexact HcF_dst
    iexact HcF
  isplitl [HcF_src Hcs]
  · isplitl [HcF_src]; · iexact HcF_src
    iexact Hcs
  isplitl [HdC]; · iexists _; iexact HdC
  isplitl [HdF_dst HdF]
  · isplitl [HdF_dst]; · iexists _; iexact HdF_dst
    iexact HdF
  isplitl [HdF_src Hds]
  · isplitl [HdF_src]; · iexact HdF_src
    iexact Hds
  isplitl [HeC]; · iexists _; iexact HeC
  isplitl [HeF_dst HeF]
  · isplitl [HeF_dst]; · iexists _; iexact HeF_dst
    iexact HeF
  isplitl [HeF_src]; · iexact HeF_src
  iexact Hes

/-- Trip 7. -/
theorem stage7 (d0 d1 d2 d3 : BitVec 32) (k : K1) (hk : k.val = 7) : StageRun c X arg7 harg7 arg8 harg8 d0 d1 d2 d3 k := by
  have e1 := chk1 k
  have e2 := chk2 k
  have e3 := chk3 k
  have e4 := chk4 k
  have st_a := a_no_start k (by omega)
  have wt_a := a_wait k
  have st_b := b_no_start k (by omega)
  have wt_b := b_wait k
  have st_c := c_no_start k (by omega)
  have wt_c := c_wait k
  have st_d := d_no_start k (by omega)
  have wt_d := d_wait k
  have st_e := e_no_start k (by omega)
  have wt_e := e_wait k
  have bl0 := no_block0 k (by omega)
  have bl1 := no_block1 k (by omega)
  have bl2 := no_block2 k (by omega)
  have bl3 := no_block3 k (by omega)
  have bl4 := no_block4 k (by omega)
  have bl5 := no_block5 k (by omega)
  have bl6 := no_block6 k (by omega)
  have bl7 := block7 k hk
  unfold StageRun res1
  rw [hereIn_lt (aFl X) (aFr F c) (k := k.val) (by omega), hereIn_ge (aFl X) (aFr F c) (k := k.val + 1) (by omega), in_put_last (aP X) (k := k.val) (by omega) (by omega), hereIn_lt (bFl X) (bFr F c) (k := k.val) (by omega), hereIn_ge (bFl X) (bFr F c) (k := k.val + 1) (by omega), in_put_last (bP X) (k := k.val) (by omega) (by omega), hereIn_lt (cFl X) (cFr F c) (k := k.val) (by omega), hereIn_ge (cFl X) (cFr F c) (k := k.val + 1) (by omega), in_put_last (cP X) (k := k.val) (by omega) (by omega), hereIn_lt (dFl X) (dFr F c) (k := k.val) (by omega), hereIn_ge (dFl X) (dFr F c) (k := k.val + 1) (by omega), in_put_last (dP X) (k := k.val) (by omega) (by omega), hereIn_lt (eFl X) (eFr F c) (k := k.val) (by omega), hereIn_ge (eFl X) (eFr F c) (k := k.val + 1) (by omega), in_put_last (eP X) (k := k.val) (by omega) (by omega), sl2_add2]
  unfold mAt w1At w3At w2At
  iintro ⟨⟨%W, HW⟩, ⟨%fc0, %hfc, HCC⟩, ⟨%fm, %hfm, HM⟩, ⟨%f1, %hf1, H1⟩, ⟨%f3, %hf3, H3⟩, ⟨%f2, %hf2, H2⟩, ⟨%fa, HaF⟩, ⟨⟨%ga, HaI⟩, HaC⟩, Has, ⟨%fb, HbF⟩, ⟨⟨%gb, HbI⟩, HbC⟩, Hbs, ⟨%fc, HcF⟩, ⟨⟨%gc, HcI⟩, HcC⟩, Hcs, ⟨%fd, HdF⟩, ⟨⟨%gd, HdI⟩, HdC⟩, Hds, ⟨%fe, HeF⟩, ⟨⟨%ge, HeI⟩, HeC⟩, Hes⟩
  dsimp only [body1]
  sl_unfold [k0_t1_body, k0_part1, k0_part2, k0_part3, k0_part4, k0_part5, k0_part6, k0_part7]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> (revert k; decide +kernel)
  isplitl [HW]; · iexists _; iexact HW
  isplitl [HCC]
  · iexists _; isplitr; swap; · iexact HCC
    ipureintro; exact hfc
  isplitl [HM]
  · iexists _; isplitr; swap; · iexact HM
    ipureintro
    exact mods_step X k hfc hfm _ (by rw [hk]) _ ((pay8_eq _ _ _).trans (mod_of (s := Ring.sl 2 k.val) (off52_eq k) (off53_eq k) _ _ _ _ _ _ _ _))
  isplitl [H1]
  · iexists _; isplitr; swap; · iexact H1
    ipureintro
    exact w1_step X k hf1 _ _ (pay9_load (s := Ring.sl 2 k.val) (off54_eq k) _ _)
  isplitl [H3]
  · iexists _; isplitr; swap; · iexact H3
    ipureintro
    exact w3_step X k hf3 _ _ (pay10_load (s := Ring.sl 2 k.val) (off56_eq k) _ _)
  isplitl [H2]
  · iexists _; isplitr; swap; · iexact H2
    ipureintro
    exact w2_step X k hf2 _ _ (pay11_load (s := Ring.sl 2 k.val) (off57_eq k) _ _)
  isplitl [HaI HaC]
  · isplitl [HaI]; · iexists _; iexact HaI
    iexact HaC
  isplitl [HaF_dst HaF]
  · isplitl [HaF_dst]; · iexists _; iexact HaF_dst
    iexact HaF
  isplitl [HaF_src Has]
  · isplitl [HaF_src]; · iexact HaF_src
    iexact Has
  isplitl [HbI HbC]
  · isplitl [HbI]; · iexists _; iexact HbI
    iexact HbC
  isplitl [HbF_dst HbF]
  · isplitl [HbF_dst]; · iexists _; iexact HbF_dst
    iexact HbF
  isplitl [HbF_src Hbs]
  · isplitl [HbF_src]; · iexact HbF_src
    iexact Hbs
  isplitl [HcI HcC]
  · isplitl [HcI]; · iexists _; iexact HcI
    iexact HcC
  isplitl [HcF_dst HcF]
  · isplitl [HcF_dst]; · iexists _; iexact HcF_dst
    iexact HcF
  isplitl [HcF_src Hcs]
  · isplitl [HcF_src]; · iexact HcF_src
    iexact Hcs
  isplitl [HdI HdC]
  · isplitl [HdI]; · iexists _; iexact HdI
    iexact HdC
  isplitl [HdF_dst HdF]
  · isplitl [HdF_dst]; · iexists _; iexact HdF_dst
    iexact HdF
  isplitl [HdF_src Hds]
  · isplitl [HdF_src]; · iexact HdF_src
    iexact Hds
  isplitl [HeI HeC]
  · isplitl [HeI]; · iexists _; iexact HeI
    iexact HeC
  isplitl [HeF_dst HeF]
  · isplitl [HeF_dst]; · iexists _; iexact HeF_dst
    iexact HeF
  isplitl [HeF_src]; · iexact HeF_src
  iexact Hes

end Cert.Proof.Ffn0

end
-- ==== Proof.FirstRounds.lean ====
/- The first feed-forward sub-layer's call, second pipeline: what a trip stores. -/
module

public import proofs.«01_k».proof.Proof.FirstHeld

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

section Loads
theorem load_mods (fm : mM.view.ty.Contents (Elt F)) {off : Fin 2 → ℕ} {r : Fin 8} {o : Fin 3} (e : off = ![r.val, 1024 * o.val]) (inb) :
    mM.view.readAt (Elt F) (Rect.unit (s := S8x3072) off S1x1024.size inb).toLoadRect fm = modCols (mM.view.read (Elt F) fm) r o := by
  subst e
  funext y
  rw [View.readAt_apply]
  refine congrArg (mM.view.read (Elt F) fm) (funext fun a => Fin.ext ?_)
  show (![r.val, 1024 * o.val] : Fin 2 → ℕ) a + 1 * (y a).val = (![r.val, 1024 * o.val] : Fin 2 → ℕ) a + 1 * (y a).val
  rfl
theorem row_eq {k : ℕ} (h : k ≤ 15) : (modRow (Ring.bk 16 k)).val = k / 2 := by
  show (Ring.bk 16 k).val / 2 = k / 2
  rw [Ring.bk_val (show k < 16 by omega)]
theorem off116_row (k : K2) (h : k.val ≤ 15) : k0_off116 (mTrip k) = ![(modRow (Ring.bk 16 k.val)).val, 1024 * (0 : Fin 3).val] := by rw [row_eq h]; exact off116_eq k h
theorem off117_row (k : K2) (h : k.val ≤ 15) : k0_off117 (mTrip k) = ![(modRow (Ring.bk 16 k.val)).val, 1024 * (1 : Fin 3).val] := by rw [row_eq h]; exact off117_eq k h
theorem off118_row (k : K2) (h : k.val ≤ 15) : k0_off118 (mTrip k) = ![(modRow (Ring.bk 16 k.val)).val, 1024 * (2 : Fin 3).val] := by rw [row_eq h]; exact off118_eq k h

/-- A store through a memref's slice, read through a squeeze of that slice: the payload, shape-cast. -/
theorem read_squeeze_write {κ : Kind} {sp : Space} {s s' : Shape} {e : EltTy} (M : Memref sig κ sp s e) {off off' size : Fin s.rank → ℕ} (h : off = off')
    (inb : ∀ a, off a + size a ≤ s.size a) (inb' : ∀ a, off' a + size a ≤ s.size a) (hq : (Rect.unit off' size inb').shape.Squeezes s')
    (hc : (Rect.unit off' size inb').shape.ShapeCasts s')
    (f : (M.access (Rect.unit off size inb)).ty.Contents (Elt F)) (w : (Rect.unit off size inb).shape.Idx → Elt F e) :
    ((M.slice (Rect.unit off' size inb') (fun _ => rfl)).squeeze s' hq).view.read (Elt F) ((M.access (Rect.unit off size inb)).write (Elt F) f w Finset.univ)
      = shapeCast s' (s := (Rect.unit off' size inb').shape) w hc := by
  subst h
  exact (Memref.read_squeeze_slice M _ (fun _ => rfl) hq hc _).trans (congrArg (fun v => shapeCast s' v hc) (View.read_write_univ _ _))
end Loads

section Steps
variable {c}

/-- The residual a trip stores is its tile's. -/
theorem r_step (k : K2) (h : k.val ≤ 15) {fm : Buf (Elt F) (mM.view.loc (c : Thread nD τ))} {f1 : Buf (Elt F) (w1M.view.loc (c : Thread nD τ))}
    {f3 : Buf (Elt F) (w3M.view.loc (c : Thread nD τ))} {f2 : Buf (Elt F) (w2M.view.loc (c : Thread nD τ))}
    (hm : mM.view.read (Elt F) fm = mods X) (h1 : w1M.view.read (Elt F) f1 = w1 X) (h3 : w3M.view.read (Elt F) f3 = w3 X) (h2 : w2M.view.read (Elt F) f2 = w2 X)
    {s : Fin 2} (hs : readSlot k.val = s) {fh : hRing.view.ty.Contents (Elt F)} (hh : (hSl s).view.read (Elt F) fh = (hTi (Ring.bk 16 k.val)).view.read (Elt F) X.H) (fr : Buf (Elt F) (rM.view.loc (c : Thread nD τ))) (i0 i1 i2 i3 n1 n3 n2 inb) :
    1 ≤ k.val + 1 ∧ k.val + 1 ≤ 16 → rM.view.read (Elt F) (rM.view.writes (Elt F) fr [⟨Rect.unit (s := S1024x1024) ![0, 0] S1024x1024.size inb,
      k0_pay18 (k0_pay17 (hRing.view.readAt (Elt F) (Rect.unit (s := S2x1024x1024) (k0_off115 (mWaited k)) S1x1024x1024.size i0).toLoadRect fh))
        (mM.view.readAt (Elt F) (Rect.unit (s := S8x3072) (k0_off116 (mTrip k)) S1x1024.size i1).toLoadRect fm)
        (mM.view.readAt (Elt F) (Rect.unit (s := S8x3072) (k0_off117 (mTrip k)) S1x1024.size i2).toLoadRect fm)
        (mM.view.readAt (Elt F) (Rect.unit (s := S8x3072) (k0_off118 (mTrip k)) S1x1024.size i3).toLoadRect fm)
        (w1M.view.readAt (Elt F) (Rect.unit (s := S1024x2816) ![0, 0] S1024x2816.size n1).toLoadRect f1)
        (w3M.view.readAt (Elt F) (Rect.unit (s := S1024x2816) ![0, 0] S1024x2816.size n3).toLoadRect f3)
        (w2M.view.readAt (Elt F) (Rect.unit (s := S2816x1024) ![0, 0] S2816x1024.size n2).toLoadRect f2)⟩])
      = resid X (Ring.bk 16 (k.val + 1 - 1)) := by
  intro _
  have e17 : ∀ {off : Fin 3 → ℕ} (e : off = slotOff s) (i0) (f : hRing.view.ty.Contents (Elt F)),
      k0_pay17 (hRing.view.readAt (Elt F) (Rect.unit (s := S2x1024x1024) off S1x1024x1024.size i0).toLoadRect f) = (hSl s).view.read (Elt F) f := by
    intro off e i0 f
    subst e
    exact (Memref.read_squeeze_slice hRing _ (fun _ => rfl) squeezes_S1x1024x1024_S1024x1024 _ f).symm
  rw [View.read_writes_full, e17 ((off115_eq k).trans (by rw [hs])), load_mods fm (off116_row k h), load_mods fm (off117_row k h), load_mods fm (off118_row k h)]
  rw [View.readAt_full, View.readAt_full, View.readAt_full, hm, h1, h3, h2, hh]; rfl

/-- The normalised tile in its slot is the previous tile's output. -/
theorem o_step (k : K2) (h1 : 1 ≤ k.val) {fr : Buf (Elt F) (rM.view.loc (c : Thread nD τ))} (hr : rM.view.read (Elt F) fr = resid X (Ring.bk 16 (k.val - 1)))
    {arg7 arg8 : Memref sig .tc .vmem S1x1024 .f32} {f7 : Buf (Elt F) (arg7.view.loc (c : Thread nD τ))} {f8 : Buf (Elt F) (arg8.view.loc (c : Thread nD τ))}
    (h7 : arg7.view.read (Elt F) f7 = X.G) (h8 : arg8.view.read (Elt F) f8 = X.N)
    {s : Fin 2} (hs : storeSlot k.val = s) {off : Fin 3 → ℕ} (e : off = slotOff (storeSlot k.val)) (inb) (f) (ir ig ib) (w) (hw : w = k0_pay12 (rM.view.readAt (Elt F) (Rect.unit (s := S1024x1024) ![0, 0] S1024x1024.size ir).toLoadRect fr)
          (arg7.view.readAt (Elt F) (Rect.unit (s := S1x1024) ![0, 0] S1x1024.size ig).toLoadRect f7)
          (arg8.view.readAt (Elt F) (Rect.unit (s := S1x1024) ![0, 0] S1x1024.size ib).toLoadRect f8)) :
    (oSl s).view.read (Elt F) ((oRing.access (Rect.unit (s := S2x1024x1024) off S1x1024x1024.size inb)).write (Elt F) f w Finset.univ)
      = tileOut X (Ring.bk 16 (k.val + 1 - 2)) := by
  subst hs
  refine (read_squeeze_write oRing e inb (oSlot_inb _) squeezes_S1x1024x1024_S1024x1024 shapeCasts_S1x1024x1024_S1024x1024 f w).trans ?_
  rw [hw, View.readAt_full, View.readAt_full, View.readAt_full, hr, h7, h8, show k.val + 1 - 2 = k.val - 1 by omega]; rfl

/-- The block of later modulations in its slot. -/
theorem t_step (k : K2) {fc : Buf (Elt F) (c2M.view.loc (c : Thread nD τ))} (hc : c2M.view.read (Elt F) fc = cH.view.read (Elt F) X.C) {s : Fin 2} (hs : readSlot k.val = s) {b : Fin 16}
    {fu : uRing.view.ty.Contents (Elt F)} {fv : vRing.view.ty.Contents (Elt F)} (hu : (uSl s).view.read (Elt F) fu = (uTi b).view.read (Elt F) X.A) (hv : (vSl s).view.read (Elt F) fv = (vTi b).view.read (Elt F) X.V)
    {offu offv off : Fin 3 → ℕ} (eu : offu = slotOff (readSlot k.val)) (ev : offv = slotOff (readSlot k.val)) (e : off = slotOff (readSlot k.val)) (inb) (f) (ic iu iv) (w)
    (hw : w = k0_pay16 (c2M.view.readAt (Elt F) (Rect.unit (s := S8x1024) ![0, 0] S8x1024.size ic).toLoadRect fc)
        (uRing.view.readAt (Elt F) (Rect.unit (s := S2x1024x384) offu S1x1024x384.size iu).toLoadRect fu)
        (vRing.view.readAt (Elt F) (Rect.unit (s := S2x1x384) offv S1x1x384.size iv).toLoadRect fv)) :
    (tSl s).view.read (Elt F) ((tRing.access (Rect.unit (s := S2x8x384) off S1x8x384.size inb)).write (Elt F) f w Finset.univ) = adaOut X b := by
  subst hs
  refine (read_squeeze_write tRing e inb (tSlot_inb _) squeezes_S1x8x384_S8x384 shapeCasts_S1x8x384_S8x384 f w).trans ?_
  rw [hw, pay16_eq, View.readAt_full, hc]
  refine (shapeCast_shapeCast _ _ _).trans ?_
  unfold adaOut
  subst eu; subst ev
  exact congrArg₂ (modBlk _) ((Memref.read_squeeze_slice uRing _ (fun _ => rfl) squeezes_S1x1024x384_S1024x384 _ fu).symm.trans hu)
    ((Memref.read_squeeze_slice vRing _ (fun _ => rfl) squeezes_S1x1x384_S1x384 _ fv).symm.trans hv)
end Steps

/-- A trip of the second pipeline from the state before it to the state before the next. -/
def MainRun (d0 d1 d2 d3 d4 d5 d6 d7 d8 d9 d10 d11 d12 d13 d14 d15 d16 d17 d18 d19 d20 d21 d22 d23 : BitVec 32) (k : K2) : Prop :=
  res2 X arg7 arg8 k.val
    ⊢ wp frame (wpE (defs₀ (F := F)) 𝒱₀ (c : Thread nD τ) none) Set.univ (body2 arg7 harg7 arg8 harg8 d0 d1 d2 d3 d4 d5 d6 d7 d8 d9 d10 d11 d12 d13 d14 d15 d16 d17 d18 d19 d20 d21 d22 d23 0#32 k (carried2 k.val))
      (fun acc => iprop(⌜acc = carried2 (k.val + 1)⌝ ∗ res2 X arg7 arg8 (k.val + 1)))

end Cert.Proof.Ffn0

end
-- ==== Proof.FirstRoundA.lean ====
/- The first feed-forward sub-layer's call, second pipeline. The first trip. -/
module

public import proofs.«01_k».proof.Proof.FirstRounds

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- The first trip. -/
theorem round_first (d0 d1 d2 d3 d4 d5 d6 d7 d8 d9 d10 d11 d12 d13 d14 d15 d16 d17 d18 d19 d20 d21 d22 d23 : BitVec 32) (k : K2) (hk : k.val = 0) : MainRun c X arg7 harg7 arg8 harg8 d0 d1 d2 d3 d4 d5 d6 d7 d8 d9 d10 d11 d12 d13 d14 d15 d16 d17 d18 d19 d20 d21 d22 d23 k := by
  have h15 : k.val ≤ 15 := by omega
  have h14 : k.val ≤ 14 := by omega
  have hs := storeSlot_zero hk
  have hr := readSlot_le h15
  have e1 := chk5 k
  have st_h := h_start k h14
  have wt_h := h_wait k h15
  have st_i := i_start k h14
  have wt_i := i_wait k h15
  have st_p := p_start k h14
  have wt_p := p_wait k h15
  have st_q := q_start k h14
  have wt_q := q_wait k h15
  have st_u := u_start k h14
  have wt_u := u_wait k h15
  have st_v := v_start k h14
  have wt_v := v_wait k h15
  have e2 := computes k h15
  have e3 := no_closes k h15
  have st_o := o_no_start k hk
  have wt_o := o_no_wait k (by omega)
  have st_x := x_start k (by omega)
  have wt_x := x_no_wait k (by omega)
  have st_y := y_start k (by omega)
  have wt_y := y_no_wait k (by omega)
  have st_z := z_start k (by omega)
  have wt_z := z_no_wait k (by omega)
  have st_t := t_start k (by omega)
  have wt_t := t_no_wait k (by omega)
  unfold MainRun res2
  rw [hereIn_lt (hFl X) (hFr F c) (k := k.val) (by omega), hereIn_lt (hFl X) (hFr F c) (k := k.val + 1) (by omega), in_take (hP X) (k := k.val) (by omega), in_put (hP X) (k := k.val) (by omega), hereIn_lt (iFl X) (iFr F c) (k := k.val) (by omega), hereIn_lt (iFl X) (iFr F c) (k := k.val + 1) (by omega), in_take (iP X) (k := k.val) (by omega), in_put (iP X) (k := k.val) (by omega), hereIn_lt (pFl X) (pFr F c) (k := k.val) (by omega), hereIn_lt (pFl X) (pFr F c) (k := k.val + 1) (by omega), in_take (pP X) (k := k.val) (by omega), in_put (pP X) (k := k.val) (by omega), hereIn_lt (qFl X) (qFr F c) (k := k.val) (by omega), hereIn_lt (qFl X) (qFr F c) (k := k.val + 1) (by omega), in_take (qP X) (k := k.val) (by omega), in_put (qP X) (k := k.val) (by omega), hereIn_lt (uFl X) (uFr F c) (k := k.val) (by omega), hereIn_lt (uFl X) (uFr F c) (k := k.val + 1) (by omega), in_take (uP X) (k := k.val) (by omega), in_put (uP X) (k := k.val) (by omega), hereIn_lt (vFl X) (vFr F c) (k := k.val) (by omega), hereIn_lt (vFl X) (vFr F c) (k := k.val + 1) (by omega), in_take (vP X) (k := k.val) (by omega), in_put (vP X) (k := k.val) (by omega), backO_lt (oFl X) (oFr F c) (k := k.val) (by omega), backO_lt (oFl X) (oFr F c) (k := k.val + 1) (by omega), homeO_first (oIt X) (oIt_keep X) hk, hereE_free (xFl F c) (xFr F c) (k := k.val) (by omega), hereE_free (xFl F c) (xFr F c) (k := k.val + 1) (by omega), backE_out (xFl F c) (xFr F c) (k := k.val) (by omega), backE_in (xFl F c) (xFr F c) (k := k.val + 1) (by omega), homeE_take (xIt F c) (k := k.val) h14, homeE_first (xIt F c) (xIt_keep c) hk, hereE_free (yFl F c) (yFr F c) (k := k.val) (by omega), hereE_free (yFl F c) (yFr F c) (k := k.val + 1) (by omega), backE_out (yFl F c) (yFr F c) (k := k.val) (by omega), backE_in (yFl F c) (yFr F c) (k := k.val + 1) (by omega), homeE_take (yIt F c) (k := k.val) h14, homeE_first (yIt F c) (yIt_keep c) hk, hereE_free (zFl F c) (zFr F c) (k := k.val) (by omega), hereE_free (zFl F c) (zFr F c) (k := k.val + 1) (by omega), backE_out (zFl F c) (zFr F c) (k := k.val) (by omega), backE_in (zFl F c) (zFr F c) (k := k.val + 1) (by omega), homeE_take (zIt F c) (k := k.val) h14, homeE_first (zIt F c) (zIt_keep c) hk, hereE_free (tFl X) (tFr F c) (k := k.val) (by omega), hereE_free (tFl X) (tFr F c) (k := k.val + 1) (by omega), backE_out (tFl X) (tFr F c) (k := k.val) (by omega), backE_in (tFl X) (tFr F c) (k := k.val + 1) (by omega), homeE_take (tIt X) (k := k.val) h14, homeE_first (tIt X) (tIt_keep X) hk, sl2_add2]
  unfold rAt
  iintro ⟨⟨%W, HW⟩, ⟨%f7, %hf7, H7⟩, ⟨%f8, %hf8, H8⟩, ⟨%fr, %hfr, HR⟩, ⟨%fc0, %hfc, HCC⟩, ⟨%fm, %hfm, HM⟩, ⟨%f1, %hf1, H1⟩, ⟨%f3, %hf3, H3⟩, ⟨%f2, %hf2, H2⟩, ⟨%fh, HhF⟩, ⟨⟨%gh, HhI⟩, HhC⟩, ⟨HhX, Hhs⟩, ⟨%fi, HiF⟩, ⟨⟨%gi, HiI⟩, HiC⟩, ⟨HiX, His⟩, ⟨%fp, HpF⟩, ⟨⟨%gp, HpI⟩, HpC⟩, ⟨HpX, Hps⟩, ⟨%fq, HqF⟩, ⟨⟨%gq, HqI⟩, HqC⟩, ⟨HqX, Hqs⟩, ⟨%fu, HuF⟩, ⟨⟨%gu, %hgu, HuI⟩, HuC⟩, ⟨HuX, Hus⟩, ⟨%fv, HvF⟩, ⟨⟨%gv, %hgv, HvI⟩, HvC⟩, ⟨HvX, Hvs⟩, ⟨⟨%go, HoF_src⟩, HoF⟩, ⟨⟨%go', HoI⟩, HoC⟩, Hos, ⟨⟨%fx, HxI⟩, HxC⟩, ⟨⟨%gx, HxJ⟩, HxD⟩, ⟨⟨%fx', HxX⟩, Hxs⟩, ⟨⟨%fy, HyI⟩, HyC⟩, ⟨⟨%gy, HyJ⟩, HyD⟩, ⟨⟨%fy', HyX⟩, Hys⟩, ⟨⟨%fz, HzI⟩, HzC⟩, ⟨⟨%gz, HzJ⟩, HzD⟩, ⟨⟨%fz', HzX⟩, Hzs⟩, ⟨⟨%ft, HtI⟩, HtC⟩, ⟨⟨%gt, HtJ⟩, HtD⟩, ⟨⟨%ft', -, HtX⟩, Hts⟩⟩
  dsimp only [body2]
  sl_unfold [k0_t2_body, k0_part8, k0_part9, k0_part10, k0_part11, k0_part12, k0_part13, k0_part14, k0_part15, k0_part16, k0_part17, k0_part18, k0_part19, k0_part20, k0_part21, k0_part22]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> (revert k; decide +kernel)
  isplitl [HW]; · iexists _; iexact HW
  isplitl [H7]
  · iexists _; isplitr; swap; · iexact H7
    ipureintro; exact hf7
  isplitl [H8]
  · iexists _; isplitr; swap; · iexact H8
    ipureintro; exact hf8
  isplitl [HR]
  · iexists _; isplitr; swap; · iexact HR
    ipureintro; exact r_step X k h15 hfm hf1 hf3 hf2 hr (View.read_writes_whole _ _ _) _ _ _ _ _ _ _ _ _
  isplitl [HCC]
  · iexists _; isplitr; swap; · iexact HCC
    ipureintro; exact hfc
  isplitl [HM]
  · iexists _; isplitr; swap; · iexact HM
    ipureintro; exact hfm
  isplitl [H1]
  · iexists _; isplitr; swap; · iexact H1
    ipureintro; exact hf1
  isplitl [H3]
  · iexists _; isplitr; swap; · iexact H3
    ipureintro; exact hf3
  isplitl [H2]
  · iexists _; isplitr; swap; · iexact H2
    ipureintro; exact hf2
  isplitl [HhC]; · iexists _; iexact HhC
  isplitl [HhF_dst HhF]
  · isplitl [HhF_dst]; · iexists _; iexact HhF_dst
    iexact HhF
  isplitl [HhF_src Hhs]
  · isplitl [HhF_src]; · iexact HhF_src
    iexact Hhs
  isplitl [HiC]; · iexists _; iexact HiC
  isplitl [HiF_dst HiF]
  · isplitl [HiF_dst]; · iexists _; iexact HiF_dst
    iexact HiF
  isplitl [HiF_src His]
  · isplitl [HiF_src]; · iexact HiF_src
    iexact His
  isplitl [HpC]; · iexists _; iexact HpC
  isplitl [HpF_dst HpF]
  · isplitl [HpF_dst]; · iexists _; iexact HpF_dst
    iexact HpF
  isplitl [HpF_src Hps]
  · isplitl [HpF_src]; · iexact HpF_src
    iexact Hps
  isplitl [HqC]; · iexists _; iexact HqC
  isplitl [HqF_dst HqF]
  · isplitl [HqF_dst]; · iexists _; iexact HqF_dst
    iexact HqF
  isplitl [HqF_src Hqs]
  · isplitl [HqF_src]; · iexact HqF_src
    iexact Hqs
  isplitl [HuC]; · iexists _; iexact HuC
  isplitl [HuF_dst HuF]
  · isplitl [HuF_dst]
    · iexists _; isplitr; swap; · iexact HuF_dst
      ipureintro; intro h; omega
    iexact HuF
  isplitl [HuF_src Hus]
  · isplitl [HuF_src]; · iexact HuF_src
    iexact Hus
  isplitl [HvC]; · iexists _; iexact HvC
  isplitl [HvF_dst HvF]
  · isplitl [HvF_dst]
    · iexists _; isplitr; swap; · iexact HvF_dst
      ipureintro; intro h; omega
    iexact HvF
  isplitl [HvF_src Hvs]
  · isplitl [HvF_src]; · iexact HvF_src
    iexact Hvs
  isplitl [HoI HoC]
  · isplitl [HoI]; · iexists _; iexact HoI
    iexact HoC
  isplitl [HoF_src HoF]
  · isplitl [HoF_src]; · iexists _; iexact HoF_src
    iexact HoF
  isplitl [Hos]; · iexact Hos
  isplitl [HxJ HxD]
  · isplitl [HxJ]; · iexists _; iexact HxJ
    iexact HxD
  isplitl [HxC]; · iexists _; iexists _; iexact HxC
  isplitl [Hxs]; · iexact Hxs
  isplitl [HyJ HyD]
  · isplitl [HyJ]; · iexists _; iexact HyJ
    iexact HyD
  isplitl [HyC]; · iexists _; iexists _; iexact HyC
  isplitl [Hys]; · iexact Hys
  isplitl [HzJ HzD]
  · isplitl [HzJ]; · iexists _; iexact HzJ
    iexact HzD
  isplitl [HzC]; · iexists _; iexists _; iexact HzC
  isplitl [Hzs]; · iexact Hzs
  isplitl [HtJ HtD]
  · isplitl [HtJ]; · iexists _; iexact HtJ
    iexact HtD
  isplitl [HtC]
  · iexists _; iexists _; isplitr; swap; · iexact HtC
    ipureintro; exact t_step X k hfc hr (View.read_writes_whole _ _ _) (View.read_writes_whole _ _ _) (off112_eq k) (off113_eq k) (off114_eq k) _ _ _ _ _ _ rfl
  iexact Hts

end Cert.Proof.Ffn0

end
-- ==== Proof.FirstRoundB.lean ====
/- The first feed-forward sub-layer's call, second pipeline. The second trip. -/
module

public import proofs.«01_k».proof.Proof.FirstRounds

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- The second trip. -/
theorem round_second (d0 d1 d2 d3 d4 d5 d6 d7 d8 d9 d10 d11 d12 d13 d14 d15 d16 d17 d18 d19 d20 d21 d22 d23 : BitVec 32) (k : K2) (hk : k.val = 1) : MainRun c X arg7 harg7 arg8 harg8 d0 d1 d2 d3 d4 d5 d6 d7 d8 d9 d10 d11 d12 d13 d14 d15 d16 d17 d18 d19 d20 d21 d22 d23 k := by
  have h15 : k.val ≤ 15 := by omega
  have h14 : k.val ≤ 14 := by omega
  have h1 : 1 ≤ k.val := by omega
  have hs := storeSlot_pos h1
  have hr := readSlot_le h15
  have e1 := chk5 k
  have st_h := h_start k h14
  have wt_h := h_wait k h15
  have st_i := i_start k h14
  have wt_i := i_wait k h15
  have st_p := p_start k h14
  have wt_p := p_wait k h15
  have st_q := q_start k h14
  have wt_q := q_wait k h15
  have st_u := u_start k h14
  have wt_u := u_wait k h15
  have st_v := v_start k h14
  have wt_v := v_wait k h15
  have e2 := computes k h15
  have e3 := no_closes k h15
  have st_o := o_start k h1
  have wt_o := o_no_wait k (by omega)
  have st_x := x_start k (by omega)
  have wt_x := x_wait k h1 h15
  have st_y := y_start k (by omega)
  have wt_y := y_wait k h1 h15
  have st_z := z_start k (by omega)
  have wt_z := z_wait k h1 h15
  have st_t := t_start k (by omega)
  have wt_t := t_wait k h1 h15
  unfold MainRun res2
  rw [hereIn_lt (hFl X) (hFr F c) (k := k.val) (by omega), hereIn_lt (hFl X) (hFr F c) (k := k.val + 1) (by omega), in_take (hP X) (k := k.val) (by omega), in_put (hP X) (k := k.val) (by omega), hereIn_lt (iFl X) (iFr F c) (k := k.val) (by omega), hereIn_lt (iFl X) (iFr F c) (k := k.val + 1) (by omega), in_take (iP X) (k := k.val) (by omega), in_put (iP X) (k := k.val) (by omega), hereIn_lt (pFl X) (pFr F c) (k := k.val) (by omega), hereIn_lt (pFl X) (pFr F c) (k := k.val + 1) (by omega), in_take (pP X) (k := k.val) (by omega), in_put (pP X) (k := k.val) (by omega), hereIn_lt (qFl X) (qFr F c) (k := k.val) (by omega), hereIn_lt (qFl X) (qFr F c) (k := k.val + 1) (by omega), in_take (qP X) (k := k.val) (by omega), in_put (qP X) (k := k.val) (by omega), hereIn_lt (uFl X) (uFr F c) (k := k.val) (by omega), hereIn_lt (uFl X) (uFr F c) (k := k.val + 1) (by omega), in_take (uP X) (k := k.val) (by omega), in_put (uP X) (k := k.val) (by omega), hereIn_lt (vFl X) (vFr F c) (k := k.val) (by omega), hereIn_lt (vFl X) (vFr F c) (k := k.val + 1) (by omega), in_take (vP X) (k := k.val) (by omega), in_put (vP X) (k := k.val) (by omega), backO_lt (oFl X) (oFr F c) (k := k.val) (by omega), backO_ge (oFl X) (oFr F c) (k := k.val + 1) (by omega), homeO_take (oIt X) (k := k.val) (by omega) (by omega), homeO_second (oIt X) (oIt_keep X) hk, hereE_free (xFl F c) (xFr F c) (k := k.val) (by omega), hereE_free (xFl F c) (xFr F c) (k := k.val + 1) (by omega), backE_in (xFl F c) (xFr F c) (k := k.val) (by omega), backE_in (xFl F c) (xFr F c) (k := k.val + 1) (by omega), homeE_take (xIt F c) (k := k.val) h14, homeE_put (xIt F c) (xIt_keep c) h1 h15, hereE_free (yFl F c) (yFr F c) (k := k.val) (by omega), hereE_free (yFl F c) (yFr F c) (k := k.val + 1) (by omega), backE_in (yFl F c) (yFr F c) (k := k.val) (by omega), backE_in (yFl F c) (yFr F c) (k := k.val + 1) (by omega), homeE_take (yIt F c) (k := k.val) h14, homeE_put (yIt F c) (yIt_keep c) h1 h15, hereE_free (zFl F c) (zFr F c) (k := k.val) (by omega), hereE_free (zFl F c) (zFr F c) (k := k.val + 1) (by omega), backE_in (zFl F c) (zFr F c) (k := k.val) (by omega), backE_in (zFl F c) (zFr F c) (k := k.val + 1) (by omega), homeE_take (zIt F c) (k := k.val) h14, homeE_put (zIt F c) (zIt_keep c) h1 h15, hereE_free (tFl X) (tFr F c) (k := k.val) (by omega), hereE_free (tFl X) (tFr F c) (k := k.val + 1) (by omega), backE_in (tFl X) (tFr F c) (k := k.val) (by omega), backE_in (tFl X) (tFr F c) (k := k.val + 1) (by omega), homeE_take (tIt X) (k := k.val) h14, homeE_put (tIt X) (tIt_keep X) h1 h15, sl2_add2]
  unfold rAt
  iintro ⟨⟨%W, HW⟩, ⟨%f7, %hf7, H7⟩, ⟨%f8, %hf8, H8⟩, ⟨%fr, %hfr, HR⟩, ⟨%fc0, %hfc, HCC⟩, ⟨%fm, %hfm, HM⟩, ⟨%f1, %hf1, H1⟩, ⟨%f3, %hf3, H3⟩, ⟨%f2, %hf2, H2⟩, ⟨%fh, HhF⟩, ⟨⟨%gh, HhI⟩, HhC⟩, ⟨HhX, Hhs⟩, ⟨%fi, HiF⟩, ⟨⟨%gi, HiI⟩, HiC⟩, ⟨HiX, His⟩, ⟨%fp, HpF⟩, ⟨⟨%gp, HpI⟩, HpC⟩, ⟨HpX, Hps⟩, ⟨%fq, HqF⟩, ⟨⟨%gq, HqI⟩, HqC⟩, ⟨HqX, Hqs⟩, ⟨%fu, HuF⟩, ⟨⟨%gu, %hgu, HuI⟩, HuC⟩, ⟨HuX, Hus⟩, ⟨%fv, HvF⟩, ⟨⟨%gv, %hgv, HvI⟩, HvC⟩, ⟨HvX, Hvs⟩, ⟨⟨%go, HoF_src⟩, HoF⟩, ⟨⟨%go', HoI⟩, HoC⟩, ⟨⟨%fo', -, HoX⟩, Hos⟩, ⟨⟨%fx, HxI⟩, HxC⟩, ⟨%gx, %gx', HxF⟩, ⟨⟨%fx', HxX⟩, Hxs⟩, ⟨⟨%fy, HyI⟩, HyC⟩, ⟨%gy, %gy', HyF⟩, ⟨⟨%fy', HyX⟩, Hys⟩, ⟨⟨%fz, HzI⟩, HzC⟩, ⟨%gz, %gz', HzF⟩, ⟨⟨%fz', HzX⟩, Hzs⟩, ⟨⟨%ft, HtI⟩, HtC⟩, ⟨%gt, %gt', %hgt, HtF⟩, ⟨⟨%ft', -, HtX⟩, Hts⟩⟩
  dsimp only [body2]
  sl_unfold [k0_t2_body, k0_part8, k0_part9, k0_part10, k0_part11, k0_part12, k0_part13, k0_part14, k0_part15, k0_part16, k0_part17, k0_part18, k0_part19, k0_part20, k0_part21, k0_part22]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> (revert k; decide +kernel)
  isplitl [HW]; · iexists _; iexact HW
  isplitl [H7]
  · iexists _; isplitr; swap; · iexact H7
    ipureintro; exact hf7
  isplitl [H8]
  · iexists _; isplitr; swap; · iexact H8
    ipureintro; exact hf8
  isplitl [HR]
  · iexists _; isplitr; swap; · iexact HR
    ipureintro; exact r_step X k h15 hfm hf1 hf3 hf2 hr (View.read_writes_whole _ _ _) _ _ _ _ _ _ _ _ _
  isplitl [HCC]
  · iexists _; isplitr; swap; · iexact HCC
    ipureintro; exact hfc
  isplitl [HM]
  · iexists _; isplitr; swap; · iexact HM
    ipureintro; exact hfm
  isplitl [H1]
  · iexists _; isplitr; swap; · iexact H1
    ipureintro; exact hf1
  isplitl [H3]
  · iexists _; isplitr; swap; · iexact H3
    ipureintro; exact hf3
  isplitl [H2]
  · iexists _; isplitr; swap; · iexact H2
    ipureintro; exact hf2
  isplitl [HhC]; · iexists _; iexact HhC
  isplitl [HhF_dst HhF]
  · isplitl [HhF_dst]; · iexists _; iexact HhF_dst
    iexact HhF
  isplitl [HhF_src Hhs]
  · isplitl [HhF_src]; · iexact HhF_src
    iexact Hhs
  isplitl [HiC]; · iexists _; iexact HiC
  isplitl [HiF_dst HiF]
  · isplitl [HiF_dst]; · iexists _; iexact HiF_dst
    iexact HiF
  isplitl [HiF_src His]
  · isplitl [HiF_src]; · iexact HiF_src
    iexact His
  isplitl [HpC]; · iexists _; iexact HpC
  isplitl [HpF_dst HpF]
  · isplitl [HpF_dst]; · iexists _; iexact HpF_dst
    iexact HpF
  isplitl [HpF_src Hps]
  · isplitl [HpF_src]; · iexact HpF_src
    iexact Hps
  isplitl [HqC]; · iexists _; iexact HqC
  isplitl [HqF_dst HqF]
  · isplitl [HqF_dst]; · iexists _; iexact HqF_dst
    iexact HqF
  isplitl [HqF_src Hqs]
  · isplitl [HqF_src]; · iexact HqF_src
    iexact Hqs
  isplitl [HuC]; · iexists _; iexact HuC
  isplitl [HuF_dst HuF]
  · isplitl [HuF_dst]
    · iexists _; isplitr; swap; · iexact HuF_dst
      ipureintro; intro h; omega
    iexact HuF
  isplitl [HuF_src Hus]
  · isplitl [HuF_src]; · iexact HuF_src
    iexact Hus
  isplitl [HvC]; · iexists _; iexact HvC
  isplitl [HvF_dst HvF]
  · isplitl [HvF_dst]
    · iexists _; isplitr; swap; · iexact HvF_dst
      ipureintro; intro h; omega
    iexact HvF
  isplitl [HvF_src Hvs]
  · isplitl [HvF_src]; · iexact HvF_src
    iexact Hvs
  isplitl [HoC]
  · iexists _; iexists _; isplitr; swap; · iexact HoC
    ipureintro; exact o_step X k h1 (hfr ⟨h1, by omega⟩) hf7 hf8 hs (off105_eq k) _ _ _ _ _ _ rfl
  isplitl [HoF_src HoF]
  · isplitl [HoF_src]; · iexists _; iexact HoF_src
    iexact HoF
  isplitl [Hos]; · iexact Hos
  isplitl [HxF_src HxF]
  · isplitl [HxF_src]; · iexists _; iexact HxF_src
    iexact HxF
  isplitl [HxC]; · iexists _; iexists _; iexact HxC
  isplitl [HxF_dst Hxs]
  · isplitl [HxF_dst]; · iexists _; iexact HxF_dst
    iexact Hxs
  isplitl [HyF_src HyF]
  · isplitl [HyF_src]; · iexists _; iexact HyF_src
    iexact HyF
  isplitl [HyC]; · iexists _; iexists _; iexact HyC
  isplitl [HyF_dst Hys]
  · isplitl [HyF_dst]; · iexists _; iexact HyF_dst
    iexact Hys
  isplitl [HzF_src HzF]
  · isplitl [HzF_src]; · iexists _; iexact HzF_src
    iexact HzF
  isplitl [HzC]; · iexists _; iexists _; iexact HzC
  isplitl [HzF_dst Hzs]
  · isplitl [HzF_dst]; · iexists _; iexact HzF_dst
    iexact Hzs
  isplitl [HtF_src HtF]
  · isplitl [HtF_src]; · iexists _; iexact HtF_src
    iexact HtF
  isplitl [HtC]
  · iexists _; iexists _; isplitr; swap; · iexact HtC
    ipureintro; exact t_step X k hfc hr (View.read_writes_whole _ _ _) (View.read_writes_whole _ _ _) (off112_eq k) (off113_eq k) (off114_eq k) _ _ _ _ _ _ rfl
  isplitl [HtF_dst]
  · iexists _; isplitr; swap; · iexact HtF_dst
    ipureintro; intro _; exact (View.read_writes_whole _ _ _).trans hgt
  iexact Hts

end Cert.Proof.Ffn0

end
-- ==== Proof.FirstRoundC.lean ====
/- The first feed-forward sub-layer's call, second pipeline. The third trip to the fifteenth. -/
module

public import proofs.«01_k».proof.Proof.FirstRounds

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- The third trip to the fifteenth. -/
theorem round_mid (d0 d1 d2 d3 d4 d5 d6 d7 d8 d9 d10 d11 d12 d13 d14 d15 d16 d17 d18 d19 d20 d21 d22 d23 : BitVec 32) (k : K2) (h2 : 2 ≤ k.val) (h14 : k.val ≤ 14) : MainRun c X arg7 harg7 arg8 harg8 d0 d1 d2 d3 d4 d5 d6 d7 d8 d9 d10 d11 d12 d13 d14 d15 d16 d17 d18 d19 d20 d21 d22 d23 k := by
  have h15 : k.val ≤ 15 := by omega
  have h1 : 1 ≤ k.val := by omega
  have hs := storeSlot_pos h1
  have hr := readSlot_le h15
  have e1 := chk5 k
  have st_h := h_start k h14
  have wt_h := h_wait k h15
  have st_i := i_start k h14
  have wt_i := i_wait k h15
  have st_p := p_start k h14
  have wt_p := p_wait k h15
  have st_q := q_start k h14
  have wt_q := q_wait k h15
  have st_u := u_start k h14
  have wt_u := u_wait k h15
  have st_v := v_start k h14
  have wt_v := v_wait k h15
  have e2 := computes k h15
  have e3 := no_closes k h15
  have st_o := o_start k h1
  have wt_o := o_wait k h2
  have st_x := x_start k (by omega)
  have wt_x := x_wait k h1 h15
  have st_y := y_start k (by omega)
  have wt_y := y_wait k h1 h15
  have st_z := z_start k (by omega)
  have wt_z := z_wait k h1 h15
  have st_t := t_start k (by omega)
  have wt_t := t_wait k h1 h15
  unfold MainRun res2
  rw [hereIn_lt (hFl X) (hFr F c) (k := k.val) (by omega), hereIn_lt (hFl X) (hFr F c) (k := k.val + 1) (by omega), in_take (hP X) (k := k.val) (by omega), in_put (hP X) (k := k.val) (by omega), hereIn_lt (iFl X) (iFr F c) (k := k.val) (by omega), hereIn_lt (iFl X) (iFr F c) (k := k.val + 1) (by omega), in_take (iP X) (k := k.val) (by omega), in_put (iP X) (k := k.val) (by omega), hereIn_lt (pFl X) (pFr F c) (k := k.val) (by omega), hereIn_lt (pFl X) (pFr F c) (k := k.val + 1) (by omega), in_take (pP X) (k := k.val) (by omega), in_put (pP X) (k := k.val) (by omega), hereIn_lt (qFl X) (qFr F c) (k := k.val) (by omega), hereIn_lt (qFl X) (qFr F c) (k := k.val + 1) (by omega), in_take (qP X) (k := k.val) (by omega), in_put (qP X) (k := k.val) (by omega), hereIn_lt (uFl X) (uFr F c) (k := k.val) (by omega), hereIn_lt (uFl X) (uFr F c) (k := k.val + 1) (by omega), in_take (uP X) (k := k.val) (by omega), in_put (uP X) (k := k.val) (by omega), hereIn_lt (vFl X) (vFr F c) (k := k.val) (by omega), hereIn_lt (vFl X) (vFr F c) (k := k.val + 1) (by omega), in_take (vP X) (k := k.val) (by omega), in_put (vP X) (k := k.val) (by omega), backO_ge (oFl X) (oFr F c) (k := k.val) (by omega), backO_ge (oFl X) (oFr F c) (k := k.val + 1) (by omega), homeO_take (oIt X) (k := k.val) (by omega) (by omega), homeO_put (oIt X) (oIt_keep X) (k := k.val) (by omega) (by omega), hereE_free (xFl F c) (xFr F c) (k := k.val) (by omega), hereE_free (xFl F c) (xFr F c) (k := k.val + 1) (by omega), backE_in (xFl F c) (xFr F c) (k := k.val) (by omega), backE_in (xFl F c) (xFr F c) (k := k.val + 1) (by omega), homeE_take (xIt F c) (k := k.val) h14, homeE_put (xIt F c) (xIt_keep c) h1 h15, hereE_free (yFl F c) (yFr F c) (k := k.val) (by omega), hereE_free (yFl F c) (yFr F c) (k := k.val + 1) (by omega), backE_in (yFl F c) (yFr F c) (k := k.val) (by omega), backE_in (yFl F c) (yFr F c) (k := k.val + 1) (by omega), homeE_take (yIt F c) (k := k.val) h14, homeE_put (yIt F c) (yIt_keep c) h1 h15, hereE_free (zFl F c) (zFr F c) (k := k.val) (by omega), hereE_free (zFl F c) (zFr F c) (k := k.val + 1) (by omega), backE_in (zFl F c) (zFr F c) (k := k.val) (by omega), backE_in (zFl F c) (zFr F c) (k := k.val + 1) (by omega), homeE_take (zIt F c) (k := k.val) h14, homeE_put (zIt F c) (zIt_keep c) h1 h15, hereE_free (tFl X) (tFr F c) (k := k.val) (by omega), hereE_free (tFl X) (tFr F c) (k := k.val + 1) (by omega), backE_in (tFl X) (tFr F c) (k := k.val) (by omega), backE_in (tFl X) (tFr F c) (k := k.val + 1) (by omega), homeE_take (tIt X) (k := k.val) h14, homeE_put (tIt X) (tIt_keep X) h1 h15, sl2_add2]
  unfold rAt
  iintro ⟨⟨%W, HW⟩, ⟨%f7, %hf7, H7⟩, ⟨%f8, %hf8, H8⟩, ⟨%fr, %hfr, HR⟩, ⟨%fc0, %hfc, HCC⟩, ⟨%fm, %hfm, HM⟩, ⟨%f1, %hf1, H1⟩, ⟨%f3, %hf3, H3⟩, ⟨%f2, %hf2, H2⟩, ⟨%fh, HhF⟩, ⟨⟨%gh, HhI⟩, HhC⟩, ⟨HhX, Hhs⟩, ⟨%fi, HiF⟩, ⟨⟨%gi, HiI⟩, HiC⟩, ⟨HiX, His⟩, ⟨%fp, HpF⟩, ⟨⟨%gp, HpI⟩, HpC⟩, ⟨HpX, Hps⟩, ⟨%fq, HqF⟩, ⟨⟨%gq, HqI⟩, HqC⟩, ⟨HqX, Hqs⟩, ⟨%fu, HuF⟩, ⟨⟨%gu, %hgu, HuI⟩, HuC⟩, ⟨HuX, Hus⟩, ⟨%fv, HvF⟩, ⟨⟨%gv, %hgv, HvI⟩, HvC⟩, ⟨HvX, Hvs⟩, ⟨%go, %fo, %hgo, HoF⟩, ⟨⟨%go', HoI⟩, HoC⟩, ⟨⟨%fo', -, HoX⟩, Hos⟩, ⟨⟨%fx, HxI⟩, HxC⟩, ⟨%gx, %gx', HxF⟩, ⟨⟨%fx', HxX⟩, Hxs⟩, ⟨⟨%fy, HyI⟩, HyC⟩, ⟨%gy, %gy', HyF⟩, ⟨⟨%fy', HyX⟩, Hys⟩, ⟨⟨%fz, HzI⟩, HzC⟩, ⟨%gz, %gz', HzF⟩, ⟨⟨%fz', HzX⟩, Hzs⟩, ⟨⟨%ft, HtI⟩, HtC⟩, ⟨%gt, %gt', %hgt, HtF⟩, ⟨⟨%ft', -, HtX⟩, Hts⟩⟩
  dsimp only [body2]
  sl_unfold [k0_t2_body, k0_part8, k0_part9, k0_part10, k0_part11, k0_part12, k0_part13, k0_part14, k0_part15, k0_part16, k0_part17, k0_part18, k0_part19, k0_part20, k0_part21, k0_part22]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> (revert k; decide +kernel)
  isplitl [HW]; · iexists _; iexact HW
  isplitl [H7]
  · iexists _; isplitr; swap; · iexact H7
    ipureintro; exact hf7
  isplitl [H8]
  · iexists _; isplitr; swap; · iexact H8
    ipureintro; exact hf8
  isplitl [HR]
  · iexists _; isplitr; swap; · iexact HR
    ipureintro; exact r_step X k h15 hfm hf1 hf3 hf2 hr (View.read_writes_whole _ _ _) _ _ _ _ _ _ _ _ _
  isplitl [HCC]
  · iexists _; isplitr; swap; · iexact HCC
    ipureintro; exact hfc
  isplitl [HM]
  · iexists _; isplitr; swap; · iexact HM
    ipureintro; exact hfm
  isplitl [H1]
  · iexists _; isplitr; swap; · iexact H1
    ipureintro; exact hf1
  isplitl [H3]
  · iexists _; isplitr; swap; · iexact H3
    ipureintro; exact hf3
  isplitl [H2]
  · iexists _; isplitr; swap; · iexact H2
    ipureintro; exact hf2
  isplitl [HhC]; · iexists _; iexact HhC
  isplitl [HhF_dst HhF]
  · isplitl [HhF_dst]; · iexists _; iexact HhF_dst
    iexact HhF
  isplitl [HhF_src Hhs]
  · isplitl [HhF_src]; · iexact HhF_src
    iexact Hhs
  isplitl [HiC]; · iexists _; iexact HiC
  isplitl [HiF_dst HiF]
  · isplitl [HiF_dst]; · iexists _; iexact HiF_dst
    iexact HiF
  isplitl [HiF_src His]
  · isplitl [HiF_src]; · iexact HiF_src
    iexact His
  isplitl [HpC]; · iexists _; iexact HpC
  isplitl [HpF_dst HpF]
  · isplitl [HpF_dst]; · iexists _; iexact HpF_dst
    iexact HpF
  isplitl [HpF_src Hps]
  · isplitl [HpF_src]; · iexact HpF_src
    iexact Hps
  isplitl [HqC]; · iexists _; iexact HqC
  isplitl [HqF_dst HqF]
  · isplitl [HqF_dst]; · iexists _; iexact HqF_dst
    iexact HqF
  isplitl [HqF_src Hqs]
  · isplitl [HqF_src]; · iexact HqF_src
    iexact Hqs
  isplitl [HuC]; · iexists _; iexact HuC
  isplitl [HuF_dst HuF]
  · isplitl [HuF_dst]
    · iexists _; isplitr; swap; · iexact HuF_dst
      ipureintro; intro h; omega
    iexact HuF
  isplitl [HuF_src Hus]
  · isplitl [HuF_src]; · iexact HuF_src
    iexact Hus
  isplitl [HvC]; · iexists _; iexact HvC
  isplitl [HvF_dst HvF]
  · isplitl [HvF_dst]
    · iexists _; isplitr; swap; · iexact HvF_dst
      ipureintro; intro h; omega
    iexact HvF
  isplitl [HvF_src Hvs]
  · isplitl [HvF_src]; · iexact HvF_src
    iexact Hvs
  isplitl [HoC]
  · iexists _; iexists _; isplitr; swap; · iexact HoC
    ipureintro; exact o_step X k h1 (hfr ⟨h1, by omega⟩) hf7 hf8 hs (off105_eq k) _ _ _ _ _ _ rfl
  isplitl [HoF_src HoF]
  · isplitl [HoF_src]; · iexists _; iexact HoF_src
    iexact HoF
  isplitl [HoF_dst Hos]
  · isplitl [HoF_dst]
    · iexists _; isplitr; swap; · iexact HoF_dst
      ipureintro; intro _; exact (View.read_writes_whole _ _ _).trans hgo
    iexact Hos
  isplitl [HxF_src HxF]
  · isplitl [HxF_src]; · iexists _; iexact HxF_src
    iexact HxF
  isplitl [HxC]; · iexists _; iexists _; iexact HxC
  isplitl [HxF_dst Hxs]
  · isplitl [HxF_dst]; · iexists _; iexact HxF_dst
    iexact Hxs
  isplitl [HyF_src HyF]
  · isplitl [HyF_src]; · iexists _; iexact HyF_src
    iexact HyF
  isplitl [HyC]; · iexists _; iexists _; iexact HyC
  isplitl [HyF_dst Hys]
  · isplitl [HyF_dst]; · iexists _; iexact HyF_dst
    iexact Hys
  isplitl [HzF_src HzF]
  · isplitl [HzF_src]; · iexists _; iexact HzF_src
    iexact HzF
  isplitl [HzC]; · iexists _; iexists _; iexact HzC
  isplitl [HzF_dst Hzs]
  · isplitl [HzF_dst]; · iexists _; iexact HzF_dst
    iexact Hzs
  isplitl [HtF_src HtF]
  · isplitl [HtF_src]; · iexists _; iexact HtF_src
    iexact HtF
  isplitl [HtC]
  · iexists _; iexists _; isplitr; swap; · iexact HtC
    ipureintro; exact t_step X k hfc hr (View.read_writes_whole _ _ _) (View.read_writes_whole _ _ _) (off112_eq k) (off113_eq k) (off114_eq k) _ _ _ _ _ _ rfl
  isplitl [HtF_dst]
  · iexists _; isplitr; swap; · iexact HtF_dst
    ipureintro; intro _; exact (View.read_writes_whole _ _ _).trans hgt
  iexact Hts

end Cert.Proof.Ffn0

end
-- ==== Proof.FirstRoundD.lean ====
/- The first feed-forward sub-layer's call, second pipeline. The sixteenth trip. -/
module

public import proofs.«01_k».proof.Proof.FirstRounds

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- The sixteenth trip. -/
theorem round_late (d0 d1 d2 d3 d4 d5 d6 d7 d8 d9 d10 d11 d12 d13 d14 d15 d16 d17 d18 d19 d20 d21 d22 d23 : BitVec 32) (k : K2) (hk : k.val = 15) : MainRun c X arg7 harg7 arg8 harg8 d0 d1 d2 d3 d4 d5 d6 d7 d8 d9 d10 d11 d12 d13 d14 d15 d16 d17 d18 d19 d20 d21 d22 d23 k := by
  have h15 : k.val ≤ 15 := by omega
  have h1 : 1 ≤ k.val := by omega
  have h2 : 2 ≤ k.val := by omega
  have hs := storeSlot_pos h1
  have hr := readSlot_le h15
  have e1 := chk5 k
  have st_h := h_no_start k (by omega)
  have wt_h := h_wait k h15
  have st_i := i_no_start k (by omega)
  have wt_i := i_wait k h15
  have st_p := p_no_start k (by omega)
  have wt_p := p_wait k h15
  have st_q := q_no_start k (by omega)
  have wt_q := q_wait k h15
  have st_u := u_no_start k (by omega)
  have wt_u := u_wait k h15
  have st_v := v_no_start k (by omega)
  have wt_v := v_wait k h15
  have e2 := computes k h15
  have e3 := no_closes k h15
  have st_o := o_start k h1
  have wt_o := o_wait k h2
  have st_x := x_no_start k hk
  have wt_x := x_wait k h1 h15
  have st_y := y_no_start k hk
  have wt_y := y_wait k h1 h15
  have st_z := z_no_start k hk
  have wt_z := z_wait k h1 h15
  have st_t := t_no_start k hk
  have wt_t := t_wait k h1 h15
  unfold MainRun res2
  rw [hereIn_lt (hFl X) (hFr F c) (k := k.val) (by omega), hereIn_ge (hFl X) (hFr F c) (k := k.val + 1) (by omega), in_put_last (hP X) (k := k.val) (by omega) (by omega), hereIn_lt (iFl X) (iFr F c) (k := k.val) (by omega), hereIn_ge (iFl X) (iFr F c) (k := k.val + 1) (by omega), in_put_last (iP X) (k := k.val) (by omega) (by omega), hereIn_lt (pFl X) (pFr F c) (k := k.val) (by omega), hereIn_ge (pFl X) (pFr F c) (k := k.val + 1) (by omega), in_put_last (pP X) (k := k.val) (by omega) (by omega), hereIn_lt (qFl X) (qFr F c) (k := k.val) (by omega), hereIn_ge (qFl X) (qFr F c) (k := k.val + 1) (by omega), in_put_last (qP X) (k := k.val) (by omega) (by omega), hereIn_lt (uFl X) (uFr F c) (k := k.val) (by omega), hereIn_ge (uFl X) (uFr F c) (k := k.val + 1) (by omega), in_put_last (uP X) (k := k.val) (by omega) (by omega), hereIn_lt (vFl X) (vFr F c) (k := k.val) (by omega), hereIn_ge (vFl X) (vFr F c) (k := k.val + 1) (by omega), in_put_last (vP X) (k := k.val) (by omega) (by omega), backO_ge (oFl X) (oFr F c) (k := k.val) (by omega), backO_ge (oFl X) (oFr F c) (k := k.val + 1) (by omega), homeO_take (oIt X) (k := k.val) (by omega) (by omega), homeO_put (oIt X) (oIt_keep X) (k := k.val) (by omega) (by omega), hereE_free (xFl F c) (xFr F c) (k := k.val) (by omega), hereE_free (xFl F c) (xFr F c) (k := k.val + 1) (by omega), backE_in (xFl F c) (xFr F c) (k := k.val) (by omega), backE_out (xFl F c) (xFr F c) (k := k.val + 1) (by omega), homeE_take_none (xIt F c) hk, homeE_put (xIt F c) (xIt_keep c) h1 h15, hereE_free (yFl F c) (yFr F c) (k := k.val) (by omega), hereE_free (yFl F c) (yFr F c) (k := k.val + 1) (by omega), backE_in (yFl F c) (yFr F c) (k := k.val) (by omega), backE_out (yFl F c) (yFr F c) (k := k.val + 1) (by omega), homeE_take_none (yIt F c) hk, homeE_put (yIt F c) (yIt_keep c) h1 h15, hereE_free (zFl F c) (zFr F c) (k := k.val) (by omega), hereE_free (zFl F c) (zFr F c) (k := k.val + 1) (by omega), backE_in (zFl F c) (zFr F c) (k := k.val) (by omega), backE_out (zFl F c) (zFr F c) (k := k.val + 1) (by omega), homeE_take_none (zIt F c) hk, homeE_put (zIt F c) (zIt_keep c) h1 h15, hereE_free (tFl X) (tFr F c) (k := k.val) (by omega), hereE_free (tFl X) (tFr F c) (k := k.val + 1) (by omega), backE_in (tFl X) (tFr F c) (k := k.val) (by omega), backE_out (tFl X) (tFr F c) (k := k.val + 1) (by omega), homeE_take_none (tIt X) hk, homeE_put (tIt X) (tIt_keep X) h1 h15, sl2_add2]
  unfold rAt
  iintro ⟨⟨%W, HW⟩, ⟨%f7, %hf7, H7⟩, ⟨%f8, %hf8, H8⟩, ⟨%fr, %hfr, HR⟩, ⟨%fc0, %hfc, HCC⟩, ⟨%fm, %hfm, HM⟩, ⟨%f1, %hf1, H1⟩, ⟨%f3, %hf3, H3⟩, ⟨%f2, %hf2, H2⟩, ⟨%fh, HhF⟩, ⟨⟨%gh, HhI⟩, HhC⟩, Hhs, ⟨%fi, HiF⟩, ⟨⟨%gi, HiI⟩, HiC⟩, His, ⟨%fp, HpF⟩, ⟨⟨%gp, HpI⟩, HpC⟩, Hps, ⟨%fq, HqF⟩, ⟨⟨%gq, HqI⟩, HqC⟩, Hqs, ⟨%fu, HuF⟩, ⟨⟨%gu, %hgu, HuI⟩, HuC⟩, Hus, ⟨%fv, HvF⟩, ⟨⟨%gv, %hgv, HvI⟩, HvC⟩, Hvs, ⟨%go, %fo, %hgo, HoF⟩, ⟨⟨%go', HoI⟩, HoC⟩, ⟨⟨%fo', -, HoX⟩, Hos⟩, ⟨⟨%fx, HxI⟩, HxC⟩, ⟨%gx, %gx', HxF⟩, Hxs, ⟨⟨%fy, HyI⟩, HyC⟩, ⟨%gy, %gy', HyF⟩, Hys, ⟨⟨%fz, HzI⟩, HzC⟩, ⟨%gz, %gz', HzF⟩, Hzs, ⟨⟨%ft, HtI⟩, HtC⟩, ⟨%gt, %gt', %hgt, HtF⟩, Hts⟩
  dsimp only [body2]
  sl_unfold [k0_t2_body, k0_part8, k0_part9, k0_part10, k0_part11, k0_part12, k0_part13, k0_part14, k0_part15, k0_part16, k0_part17, k0_part18, k0_part19, k0_part20, k0_part21, k0_part22]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> (revert k; decide +kernel)
  isplitl [HW]; · iexists _; iexact HW
  isplitl [H7]
  · iexists _; isplitr; swap; · iexact H7
    ipureintro; exact hf7
  isplitl [H8]
  · iexists _; isplitr; swap; · iexact H8
    ipureintro; exact hf8
  isplitl [HR]
  · iexists _; isplitr; swap; · iexact HR
    ipureintro; exact r_step X k h15 hfm hf1 hf3 hf2 hr (View.read_writes_whole _ _ _) _ _ _ _ _ _ _ _ _
  isplitl [HCC]
  · iexists _; isplitr; swap; · iexact HCC
    ipureintro; exact hfc
  isplitl [HM]
  · iexists _; isplitr; swap; · iexact HM
    ipureintro; exact hfm
  isplitl [H1]
  · iexists _; isplitr; swap; · iexact H1
    ipureintro; exact hf1
  isplitl [H3]
  · iexists _; isplitr; swap; · iexact H3
    ipureintro; exact hf3
  isplitl [H2]
  · iexists _; isplitr; swap; · iexact H2
    ipureintro; exact hf2
  isplitl [HhI HhC]
  · isplitl [HhI]; · iexists _; iexact HhI
    iexact HhC
  isplitl [HhF_dst HhF]
  · isplitl [HhF_dst]; · iexists _; iexact HhF_dst
    iexact HhF
  isplitl [HhF_src Hhs]
  · isplitl [HhF_src]; · iexact HhF_src
    iexact Hhs
  isplitl [HiI HiC]
  · isplitl [HiI]; · iexists _; iexact HiI
    iexact HiC
  isplitl [HiF_dst HiF]
  · isplitl [HiF_dst]; · iexists _; iexact HiF_dst
    iexact HiF
  isplitl [HiF_src His]
  · isplitl [HiF_src]; · iexact HiF_src
    iexact His
  isplitl [HpI HpC]
  · isplitl [HpI]; · iexists _; iexact HpI
    iexact HpC
  isplitl [HpF_dst HpF]
  · isplitl [HpF_dst]; · iexists _; iexact HpF_dst
    iexact HpF
  isplitl [HpF_src Hps]
  · isplitl [HpF_src]; · iexact HpF_src
    iexact Hps
  isplitl [HqI HqC]
  · isplitl [HqI]; · iexists _; iexact HqI
    iexact HqC
  isplitl [HqF_dst HqF]
  · isplitl [HqF_dst]; · iexists _; iexact HqF_dst
    iexact HqF
  isplitl [HqF_src Hqs]
  · isplitl [HqF_src]; · iexact HqF_src
    iexact Hqs
  isplitl [HuI HuC]
  · isplitl [HuI]; · iexists _; iexact HuI
    iexact HuC
  isplitl [HuF_dst HuF]
  · isplitl [HuF_dst]
    · iexists _; isplitr; swap; · iexact HuF_dst
      ipureintro; intro _; exact (View.read_writes_whole _ _ _).trans (by rw [hk])
    iexact HuF
  isplitl [HuF_src Hus]
  · isplitl [HuF_src]; · iexact HuF_src
    iexact Hus
  isplitl [HvI HvC]
  · isplitl [HvI]; · iexists _; iexact HvI
    iexact HvC
  isplitl [HvF_dst HvF]
  · isplitl [HvF_dst]
    · iexists _; isplitr; swap; · iexact HvF_dst
      ipureintro; intro _; exact (View.read_writes_whole _ _ _).trans (by rw [hk])
    iexact HvF
  isplitl [HvF_src Hvs]
  · isplitl [HvF_src]; · iexact HvF_src
    iexact Hvs
  isplitl [HoC]
  · iexists _; iexists _; isplitr; swap; · iexact HoC
    ipureintro; exact o_step X k h1 (hfr ⟨h1, by omega⟩) hf7 hf8 hs (off105_eq k) _ _ _ _ _ _ rfl
  isplitl [HoF_src HoF]
  · isplitl [HoF_src]; · iexists _; iexact HoF_src
    iexact HoF
  isplitl [HoF_dst Hos]
  · isplitl [HoF_dst]
    · iexists _; isplitr; swap; · iexact HoF_dst
      ipureintro; intro _; exact (View.read_writes_whole _ _ _).trans hgo
    iexact Hos
  isplitl [HxF_src HxF]
  · isplitl [HxF_src]; · iexists _; iexact HxF_src
    iexact HxF
  isplitl [HxI HxC]
  · isplitl [HxI]; · iexists _; iexact HxI
    iexact HxC
  isplitl [HxF_dst Hxs]
  · isplitl [HxF_dst]; · iexists _; iexact HxF_dst
    iexact Hxs
  isplitl [HyF_src HyF]
  · isplitl [HyF_src]; · iexists _; iexact HyF_src
    iexact HyF
  isplitl [HyI HyC]
  · isplitl [HyI]; · iexists _; iexact HyI
    iexact HyC
  isplitl [HyF_dst Hys]
  · isplitl [HyF_dst]; · iexists _; iexact HyF_dst
    iexact Hys
  isplitl [HzF_src HzF]
  · isplitl [HzF_src]; · iexists _; iexact HzF_src
    iexact HzF
  isplitl [HzI HzC]
  · isplitl [HzI]; · iexists _; iexact HzI
    iexact HzC
  isplitl [HzF_dst Hzs]
  · isplitl [HzF_dst]; · iexists _; iexact HzF_dst
    iexact Hzs
  isplitl [HtF_src HtF]
  · isplitl [HtF_src]; · iexists _; iexact HtF_src
    iexact HtF
  isplitl [HtI HtC]
  · isplitl [HtI]; · iexists _; iexact HtI
    iexact HtC
  isplitl [HtF_dst]
  · iexists _; isplitr; swap; · iexact HtF_dst
    ipureintro; intro _; exact (View.read_writes_whole _ _ _).trans hgt
  iexact Hts

end Cert.Proof.Ffn0

end
-- ==== Proof.FirstRoundE.lean ====
/- The first feed-forward sub-layer's call, second pipeline. The last trip. -/
module

public import proofs.«01_k».proof.Proof.FirstRounds

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

/-- The last trip. -/
theorem round_close (d0 d1 d2 d3 d4 d5 d6 d7 d8 d9 d10 d11 d12 d13 d14 d15 d16 d17 d18 d19 d20 d21 d22 d23 : BitVec 32) (k : K2) (hk : k.val = 16) : MainRun c X arg7 harg7 arg8 harg8 d0 d1 d2 d3 d4 d5 d6 d7 d8 d9 d10 d11 d12 d13 d14 d15 d16 d17 d18 d19 d20 d21 d22 d23 k := by
  have h1 : 1 ≤ k.val := by omega
  have h2 : 2 ≤ k.val := by omega
  have hs := storeSlot_pos h1
  have hr := readSlot_last hk
  have e1 := chk5 k
  have st_h := h_no_start k (by omega)
  have wt_h := h_no_wait k (by omega)
  have st_i := i_no_start k (by omega)
  have wt_i := i_no_wait k (by omega)
  have st_p := p_no_start k (by omega)
  have wt_p := p_no_wait k (by omega)
  have st_q := q_no_start k (by omega)
  have wt_q := q_no_wait k (by omega)
  have st_u := u_no_start k (by omega)
  have wt_u := u_no_wait k (by omega)
  have st_v := v_no_start k (by omega)
  have wt_v := v_no_wait k (by omega)
  have e2 := no_computes k (by omega)
  have e3 := closes k (by omega)
  have st_o := o_start k h1
  have wt_o := o_wait k h2
  have st_x := x_start k (by omega)
  have wt_x := x_no_wait k (by omega)
  have st_y := y_start k (by omega)
  have wt_y := y_no_wait k (by omega)
  have st_z := z_start k (by omega)
  have wt_z := z_no_wait k (by omega)
  have st_t := t_start k (by omega)
  have wt_t := t_no_wait k (by omega)
  unfold MainRun res2
  rw [hereIn_ge (hFl X) (hFr F c) (k := k.val) (by omega), hereIn_ge (hFl X) (hFr F c) (k := k.val + 1) (by omega), in_all (hP X) (k := k.val) (by omega), in_all (hP X) (k := k.val + 1) (by omega), hereIn_ge (iFl X) (iFr F c) (k := k.val) (by omega), hereIn_ge (iFl X) (iFr F c) (k := k.val + 1) (by omega), in_all (iP X) (k := k.val) (by omega), in_all (iP X) (k := k.val + 1) (by omega), hereIn_ge (pFl X) (pFr F c) (k := k.val) (by omega), hereIn_ge (pFl X) (pFr F c) (k := k.val + 1) (by omega), in_all (pP X) (k := k.val) (by omega), in_all (pP X) (k := k.val + 1) (by omega), hereIn_ge (qFl X) (qFr F c) (k := k.val) (by omega), hereIn_ge (qFl X) (qFr F c) (k := k.val + 1) (by omega), in_all (qP X) (k := k.val) (by omega), in_all (qP X) (k := k.val + 1) (by omega), hereIn_ge (uFl X) (uFr F c) (k := k.val) (by omega), hereIn_ge (uFl X) (uFr F c) (k := k.val + 1) (by omega), in_all (uP X) (k := k.val) (by omega), in_all (uP X) (k := k.val + 1) (by omega), hereIn_ge (vFl X) (vFr F c) (k := k.val) (by omega), hereIn_ge (vFl X) (vFr F c) (k := k.val + 1) (by omega), in_all (vP X) (k := k.val) (by omega), in_all (vP X) (k := k.val + 1) (by omega), backO_ge (oFl X) (oFr F c) (k := k.val) (by omega), backO_ge (oFl X) (oFr F c) (k := k.val + 1) (by omega), homeO_take (oIt X) (k := k.val) (by omega) (by omega), homeO_put (oIt X) (oIt_keep X) (k := k.val) (by omega) (by omega), hereE_free (xFl F c) (xFr F c) (k := k.val) (by omega), hereE_end (xFl F c) (xFr F c) (k := k.val + 1) (by omega), backE_out (xFl F c) (xFr F c) (k := k.val) (by omega), backE_out (xFl F c) (xFr F c) (k := k.val + 1) (by omega), homeE_take_last (xIt F c) hk, homeE_close (xIt F c) (xIt_keep c) hk, hereE_free (yFl F c) (yFr F c) (k := k.val) (by omega), hereE_end (yFl F c) (yFr F c) (k := k.val + 1) (by omega), backE_out (yFl F c) (yFr F c) (k := k.val) (by omega), backE_out (yFl F c) (yFr F c) (k := k.val + 1) (by omega), homeE_take_last (yIt F c) hk, homeE_close (yIt F c) (yIt_keep c) hk, hereE_free (zFl F c) (zFr F c) (k := k.val) (by omega), hereE_end (zFl F c) (zFr F c) (k := k.val + 1) (by omega), backE_out (zFl F c) (zFr F c) (k := k.val) (by omega), backE_out (zFl F c) (zFr F c) (k := k.val + 1) (by omega), homeE_take_last (zIt F c) hk, homeE_close (zIt F c) (zIt_keep c) hk, hereE_free (tFl X) (tFr F c) (k := k.val) (by omega), hereE_end (tFl X) (tFr F c) (k := k.val + 1) (by omega), backE_out (tFl X) (tFr F c) (k := k.val) (by omega), backE_out (tFl X) (tFr F c) (k := k.val + 1) (by omega), homeE_take_last (tIt X) hk, homeE_close (tIt X) (tIt_keep X) hk, sl2_add2]
  unfold rAt
  iintro ⟨⟨%W, HW⟩, ⟨%f7, %hf7, H7⟩, ⟨%f8, %hf8, H8⟩, ⟨%fr, %hfr, HR⟩, ⟨%fc0, %hfc, HCC⟩, ⟨%fm, %hfm, HM⟩, ⟨%f1, %hf1, H1⟩, ⟨%f3, %hf3, H3⟩, ⟨%f2, %hf2, H2⟩, ⟨⟨%fh, HhJ⟩, HhD⟩, ⟨⟨%gh, HhI⟩, HhC⟩, Hhs, ⟨⟨%fi, HiJ⟩, HiD⟩, ⟨⟨%gi, HiI⟩, HiC⟩, His, ⟨⟨%fp, HpJ⟩, HpD⟩, ⟨⟨%gp, HpI⟩, HpC⟩, Hps, ⟨⟨%fq, HqJ⟩, HqD⟩, ⟨⟨%gq, HqI⟩, HqC⟩, Hqs, ⟨⟨%fu, HuJ⟩, HuD⟩, ⟨⟨%gu, %hgu, HuI⟩, HuC⟩, Hus, ⟨⟨%fv, HvJ⟩, HvD⟩, ⟨⟨%gv, %hgv, HvI⟩, HvC⟩, Hvs, ⟨%go, %fo, %hgo, HoF⟩, ⟨⟨%go', HoI⟩, HoC⟩, ⟨⟨%fo', -, HoX⟩, Hos⟩, ⟨⟨%fx, HxI⟩, HxC⟩, ⟨⟨%gx, HxJ⟩, HxD⟩, ⟨⟨%fx', HxX⟩, Hxs⟩, ⟨⟨%fy, HyI⟩, HyC⟩, ⟨⟨%gy, HyJ⟩, HyD⟩, ⟨⟨%fy', HyX⟩, Hys⟩, ⟨⟨%fz, HzI⟩, HzC⟩, ⟨⟨%gz, HzJ⟩, HzD⟩, ⟨⟨%fz', HzX⟩, Hzs⟩, ⟨⟨%ft, HtI⟩, HtC⟩, ⟨⟨%gt, HtJ⟩, HtD⟩, ⟨⟨%ft', -, HtX⟩, Hts⟩⟩
  dsimp only [body2]
  sl_unfold [k0_t2_body, k0_part8, k0_part9, k0_part10, k0_part11, k0_part12, k0_part13, k0_part14, k0_part15, k0_part16, k0_part17, k0_part18, k0_part19, k0_part20, k0_part21, k0_part22]
  sl_exec
  sl_step
  isplitr
  · ipureintro
    clear * -
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> (revert k; decide +kernel)
  isplitl [HW]; · iexists _; iexact HW
  isplitl [H7]
  · iexists _; isplitr; swap; · iexact H7
    ipureintro; exact hf7
  isplitl [H8]
  · iexists _; isplitr; swap; · iexact H8
    ipureintro; exact hf8
  isplitl [HR]
  · iexists _; isplitr; swap; · iexact HR
    ipureintro; intro h; omega
  isplitl [HCC]
  · iexists _; isplitr; swap; · iexact HCC
    ipureintro; exact hfc
  isplitl [HM]
  · iexists _; isplitr; swap; · iexact HM
    ipureintro; exact hfm
  isplitl [H1]
  · iexists _; isplitr; swap; · iexact H1
    ipureintro; exact hf1
  isplitl [H3]
  · iexists _; isplitr; swap; · iexact H3
    ipureintro; exact hf3
  isplitl [H2]
  · iexists _; isplitr; swap; · iexact H2
    ipureintro; exact hf2
  isplitl [HhI HhC]
  · isplitl [HhI]; · iexists _; iexact HhI
    iexact HhC
  isplitl [HhJ HhD]
  · isplitl [HhJ]; · iexists _; iexact HhJ
    iexact HhD
  isplitl [Hhs]; · iexact Hhs
  isplitl [HiI HiC]
  · isplitl [HiI]; · iexists _; iexact HiI
    iexact HiC
  isplitl [HiJ HiD]
  · isplitl [HiJ]; · iexists _; iexact HiJ
    iexact HiD
  isplitl [His]; · iexact His
  isplitl [HpI HpC]
  · isplitl [HpI]; · iexists _; iexact HpI
    iexact HpC
  isplitl [HpJ HpD]
  · isplitl [HpJ]; · iexists _; iexact HpJ
    iexact HpD
  isplitl [Hps]; · iexact Hps
  isplitl [HqI HqC]
  · isplitl [HqI]; · iexists _; iexact HqI
    iexact HqC
  isplitl [HqJ HqD]
  · isplitl [HqJ]; · iexists _; iexact HqJ
    iexact HqD
  isplitl [Hqs]; · iexact Hqs
  isplitl [HuI HuC]
  · isplitl [HuI]; · iexists _; iexact HuI
    iexact HuC
  isplitl [HuJ HuD]
  · isplitl [HuJ]
    · iexists _; isplitr; swap; · iexact HuJ
      ipureintro; intro h; omega
    iexact HuD
  isplitl [Hus]; · iexact Hus
  isplitl [HvI HvC]
  · isplitl [HvI]; · iexists _; iexact HvI
    iexact HvC
  isplitl [HvJ HvD]
  · isplitl [HvJ]
    · iexists _; isplitr; swap; · iexact HvJ
      ipureintro; intro h; omega
    iexact HvD
  isplitl [Hvs]; · iexact Hvs
  isplitl [HoC]
  · iexists _; iexists _; isplitr; swap; · iexact HoC
    ipureintro; exact o_step X k h1 (hfr ⟨h1, by omega⟩) hf7 hf8 hs (off119_eq k) _ _ _ _ _ _ (pay19_eq _ _ _)
  isplitl [HoF_src HoF]
  · isplitl [HoF_src]; · iexists _; iexact HoF_src
    iexact HoF
  isplitl [HoF_dst Hos]
  · isplitl [HoF_dst]
    · iexists _; isplitr; swap; · iexact HoF_dst
      ipureintro; intro _; exact (View.read_writes_whole _ _ _).trans hgo
    iexact Hos
  isplitl [HxD]; · iexists _; iexists _; iexact HxD
  isplitl [HxI HxC]
  · isplitl [HxI]; · iexists _; iexact HxI
    iexact HxC
  isplitl [Hxs]; · iexact Hxs
  isplitl [HyD]; · iexists _; iexists _; iexact HyD
  isplitl [HyI HyC]
  · isplitl [HyI]; · iexists _; iexact HyI
    iexact HyC
  isplitl [Hys]; · iexact Hys
  isplitl [HzD]; · iexists _; iexists _; iexact HzD
  isplitl [HzI HzC]
  · isplitl [HzI]; · iexists _; iexact HzI
    iexact HzC
  isplitl [Hzs]; · iexact Hzs
  isplitl [HtD]
  · iexists _; iexists _; isplitr; swap; · iexact HtD
    ipureintro; exact t_step X k hfc hr (hgu hk) (hgv hk) (off126_eq k) (off127_eq k) (off128_eq k) _ _ _ _ _ _ rfl
  isplitl [HtI HtC]
  · isplitl [HtI]; · iexists _; iexact HtI
    iexact HtC
  iexact Hts

end Cert.Proof.Ffn0

end
-- ==== Proof.FirstBody.lean ====
/- The first feed-forward sub-layer's call: its body's run. -/
module

public import proofs.«01_k».proof.Proof.FirstStageA
public import proofs.«01_k».proof.Proof.FirstStageB
public import proofs.«01_k».proof.Proof.FirstStageC
public import proofs.«01_k».proof.Proof.FirstStageD
public import proofs.«01_k».proof.Proof.FirstRoundA
public import proofs.«01_k».proof.Proof.FirstRoundB
public import proofs.«01_k».proof.Proof.FirstRoundC
public import proofs.«01_k».proof.Proof.FirstRoundD
public import proofs.«01_k».proof.Proof.FirstRoundE

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Ins F c)
variable (arg7 : Memref sig .tc .vmem S1x1024 .f32) (harg7 : arg7.IsWhole) (arg8 : Memref sig .tc .vmem S1x1024 .f32) (harg8 : arg8.IsWhole)

theorem stage_run (d0 d1 d2 d3 : BitVec 32) (k : K1) :
    res1 X k.val ⊢ wp frame (wpE (defs₀ (F := F)) 𝒱₀ (c : Thread nD τ) none) Set.univ (body1 arg7 harg7 arg8 harg8 d0 d1 d2 d3 k (carried1 k.val))
      (fun acc => iprop(⌜acc = carried1 (k.val + 1)⌝ ∗ res1 X (k.val + 1))) := by
  have h8 : k.val < 8 := k.isLt
  have H : StageRun c X arg7 harg7 arg8 harg8 d0 d1 d2 d3 k := by
    obtain h | h | h | h | h | h | h | h : k.val = 0 ∨ k.val = 1 ∨ k.val = 2 ∨ k.val = 3 ∨ k.val = 4 ∨ k.val = 5 ∨ k.val = 6 ∨ k.val = 7 := by omega
    · exact stage0 c X arg7 harg7 arg8 harg8 d0 d1 d2 d3 k h
    · exact stage1 c X arg7 harg7 arg8 harg8 d0 d1 d2 d3 k h
    · exact stage2 c X arg7 harg7 arg8 harg8 d0 d1 d2 d3 k h
    · exact stage3 c X arg7 harg7 arg8 harg8 d0 d1 d2 d3 k h
    · exact stage4 c X arg7 harg7 arg8 harg8 d0 d1 d2 d3 k h
    · exact stage5 c X arg7 harg7 arg8 harg8 d0 d1 d2 d3 k h
    · exact stage6 c X arg7 harg7 arg8 harg8 d0 d1 d2 d3 k h
    · exact stage7 c X arg7 harg7 arg8 harg8 d0 d1 d2 d3 k h
  exact H
theorem round_run (d0 d1 d2 d3 d4 d5 d6 d7 d8 d9 d10 d11 d12 d13 d14 d15 d16 d17 d18 d19 d20 d21 d22 d23 : BitVec 32) (k : K2) :
    res2 X arg7 arg8 k.val ⊢ wp frame (wpE (defs₀ (F := F)) 𝒱₀ (c : Thread nD τ) none) Set.univ (body2 arg7 harg7 arg8 harg8 d0 d1 d2 d3 d4 d5 d6 d7 d8 d9 d10 d11 d12 d13 d14 d15 d16 d17 d18 d19 d20 d21 d22 d23 0#32 k (carried2 k.val))
      (fun acc => iprop(⌜acc = carried2 (k.val + 1)⌝ ∗ res2 X arg7 arg8 (k.val + 1))) := by
  have h17 : k.val < 17 := k.isLt
  have H : MainRun c X arg7 harg7 arg8 harg8 d0 d1 d2 d3 d4 d5 d6 d7 d8 d9 d10 d11 d12 d13 d14 d15 d16 d17 d18 d19 d20 d21 d22 d23 k := by
    obtain h | h | h | h | h : k.val = 0 ∨ k.val = 1 ∨ (2 ≤ k.val ∧ k.val ≤ 14) ∨ k.val = 15 ∨ k.val = 16 := by omega
    · exact round_first c X arg7 harg7 arg8 harg8 d0 d1 d2 d3 d4 d5 d6 d7 d8 d9 d10 d11 d12 d13 d14 d15 d16 d17 d18 d19 d20 d21 d22 d23 k h
    · exact round_second c X arg7 harg7 arg8 harg8 d0 d1 d2 d3 d4 d5 d6 d7 d8 d9 d10 d11 d12 d13 d14 d15 d16 d17 d18 d19 d20 d21 d22 d23 k h
    · exact round_mid c X arg7 harg7 arg8 harg8 d0 d1 d2 d3 d4 d5 d6 d7 d8 d9 d10 d11 d12 d13 d14 d15 d16 d17 d18 d19 d20 d21 d22 d23 k h.1 h.2
    · exact round_late c X arg7 harg7 arg8 harg8 d0 d1 d2 d3 d4 d5 d6 d7 d8 d9 d10 d11 d12 d13 d14 d15 d16 d17 d18 d19 d20 d21 d22 d23 k h
    · exact round_close c X arg7 harg7 arg8 harg8 d0 d1 d2 d3 d4 d5 d6 d7 d8 d9 d10 d11 d12 d13 d14 d15 d16 d17 d18 d19 d20 d21 d22 d23 k h
  exact H

/-- What the call holds besides its windows: its buffers at anything, its semaphores at zero, its arrays with the result's
    and the modulations' tiles as written before trips `ko` and `kt`. -/
def kept (ko kt : ℕ) : sProp 𝕄 :=
  iprop(some_ c rM ∗ ownP c cH X.C ∗ cellP c cc0_scoped11 ∗ cellP c cc0_scoped35 ∗ some_ c c1M ∗ some_ c c2M
    ∗ some_ c mM ∗ some_ c w1M ∗ some_ c w3M ∗ some_ c w2M
    ∗ aFr F c (Ring.sl 2 0) ∗ aFr F c (Ring.sl 2 (0 + 1)) ∗ bigSep Finset.univ (aP X)
    ∗ bFr F c (Ring.sl 2 0) ∗ bFr F c (Ring.sl 2 (0 + 1)) ∗ bigSep Finset.univ (bP X)
    ∗ cFr F c (Ring.sl 2 0) ∗ cFr F c (Ring.sl 2 (0 + 1)) ∗ bigSep Finset.univ (cP X)
    ∗ dFr F c (Ring.sl 2 0) ∗ dFr F c (Ring.sl 2 (0 + 1)) ∗ bigSep Finset.univ (dP X)
    ∗ eFr F c (Ring.sl 2 0) ∗ eFr F c (Ring.sl 2 (0 + 1)) ∗ bigSep Finset.univ (eP X)
    ∗ hFr F c (Ring.sl 2 0) ∗ hFr F c (Ring.sl 2 (0 + 1)) ∗ bigSep Finset.univ (hP X)
    ∗ iFr F c (Ring.sl 2 0) ∗ iFr F c (Ring.sl 2 (0 + 1)) ∗ bigSep Finset.univ (iP X)
    ∗ pFr F c (Ring.sl 2 0) ∗ pFr F c (Ring.sl 2 (0 + 1)) ∗ bigSep Finset.univ (pP X)
    ∗ qFr F c (Ring.sl 2 0) ∗ qFr F c (Ring.sl 2 (0 + 1)) ∗ bigSep Finset.univ (qP X)
    ∗ uFr F c (Ring.sl 2 0) ∗ uFr F c (Ring.sl 2 (0 + 1)) ∗ bigSep Finset.univ (uP X)
    ∗ vFr F c (Ring.sl 2 0) ∗ vFr F c (Ring.sl 2 (0 + 1)) ∗ bigSep Finset.univ (vP X)
    ∗ oFr F c (Ring.sl 2 0) ∗ oFr F c (Ring.sl 2 (0 + 1)) ∗ bigSep Finset.univ (oIt X ko)
    ∗ xFr F c (Ring.sl 2 0) ∗ xFr F c (Ring.sl 2 (0 + 1)) ∗ bigSep Finset.univ (xIt F c kt)
    ∗ yFr F c (Ring.sl 2 0) ∗ yFr F c (Ring.sl 2 (0 + 1)) ∗ bigSep Finset.univ (yIt F c kt)
    ∗ zFr F c (Ring.sl 2 0) ∗ zFr F c (Ring.sl 2 (0 + 1)) ∗ bigSep Finset.univ (zIt F c kt)
    ∗ tFr F c (Ring.sl 2 0) ∗ tFr F c (Ring.sl 2 (0 + 1)) ∗ bigSep Finset.univ (tIt X kt))
/-- What the body is given, and gives back. -/
def handed (ko kt : ℕ) : sProp 𝕄 :=
  iprop((∃ W, owes (c : Thread nD τ) 0 W) ∗ reads c arg7 X.G ∗ reads c arg8 X.N ∗ kept c X ko kt)

/-- The body's run. -/
theorem bodyRun (Q : PUnit → sProp 𝕄) :
    iprop(handed c X arg7 arg8 0 0 ∗ (handed c X arg7 arg8 18 17 -∗ Q ⟨⟩))
      ⊢ wp frame (wpE (defs₀ (F := F)) 𝒱₀ (c : Thread nD τ) none) Set.univ (bodyG arg7 harg7 arg8 harg8) Q := by
  unfold handed kept
  rw [in_start (aP X), in_start (bP X), in_start (cP X), in_start (dP X), in_start (eP X), in_start (hP X), in_start (iP X), in_start (pP X), in_start (qP X), in_start (uP X), in_start (vP X)]
  iintro ⟨⟨⟨%W, HW⟩, H7, H8, ⟨%fr, HR⟩, HCS, HK1, HK2, ⟨%fc1, HCC⟩, ⟨%fc2, HCD⟩, ⟨%fm, HM⟩, ⟨%f1, H1⟩, ⟨%f3, H3⟩, ⟨%f2, H2⟩, ⟨⟨%ga, HaA⟩, HaF⟩, ⟨⟨%ga', HaI⟩, HaC⟩, ⟨HaX, Has⟩, ⟨⟨%gb, HbA⟩, HbF⟩, ⟨⟨%gb', HbI⟩, HbC⟩, ⟨HbX, Hbs⟩, ⟨⟨%gc, HcA⟩, HcF⟩, ⟨⟨%gc', HcI⟩, HcC⟩, ⟨HcX, Hcs⟩, ⟨⟨%gd, HdA⟩, HdF⟩, ⟨⟨%gd', HdI⟩, HdC⟩, ⟨HdX, Hds⟩, ⟨⟨%ge, HeA⟩, HeF⟩, ⟨⟨%ge', HeI⟩, HeC⟩, ⟨HeX, Hes⟩, ⟨⟨%gh, HhA⟩, HhF⟩, ⟨⟨%gh', HhI⟩, HhC⟩, ⟨HhX, Hhs⟩, ⟨⟨%gi, HiA⟩, HiF⟩, ⟨⟨%gi', HiI⟩, HiC⟩, ⟨HiX, His⟩, ⟨⟨%gp, HpA⟩, HpF⟩, ⟨⟨%gp', HpI⟩, HpC⟩, ⟨HpX, Hps⟩, ⟨⟨%gq, HqA⟩, HqF⟩, ⟨⟨%gq', HqI⟩, HqC⟩, ⟨HqX, Hqs⟩, ⟨⟨%gu, HuA⟩, HuF⟩, ⟨⟨%gu', HuI⟩, HuC⟩, ⟨HuX, Hus⟩, ⟨⟨%gv, HvA⟩, HvF⟩, ⟨⟨%gv', HvI⟩, HvC⟩, ⟨HvX, Hvs⟩, ⟨⟨%go, HoA⟩, HoF⟩, ⟨⟨%go', HoI⟩, HoC⟩, Hos, ⟨⟨%gx, HxA⟩, HxF⟩, ⟨⟨%gx', HxI⟩, HxC⟩, Hxs, ⟨⟨%gy, HyA⟩, HyF⟩, ⟨⟨%gy', HyI⟩, HyC⟩, Hys, ⟨⟨%gz, HzA⟩, HzF⟩, ⟨⟨%gz', HzI⟩, HzC⟩, Hzs, ⟨⟨%gt, HtA⟩, HtF⟩, ⟨⟨%gt', HtI⟩, HtC⟩, Hts⟩, Hk⟩
  dsimp only [bodyG]
  sl_unfold [cc0_ffn_sublayer_0, k0_part23, k0_part24, k0_part25, k0_part26, k0_part27, k0_part28, k0_part29, k0_part30]
  sl_exec
  sl_for (fun k acc => iprop(⌜acc = carried1 k⌝ ∗ res1 X k)) $$ [HW HCC HM H1 H3 H2 HaF HaI HaC Has HbF HbI HbC Hbs HcF HcI HcC Hcs HdF HdI HdC Hds HeF HeI HeC Hes]
  case region =>
    intro k acc
    iintro ⟨%h, H⟩
    rw [h]
    iapply (stage_run c X arg7 harg7 arg8 harg8 _ _ _ _ k)
    iexact H
  · isplitr
    · ipureintro
      refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))) <;> decide +kernel
    unfold res1 mAt w1At w3At w2At
    rw [hereIn_lt (aFl X) (aFr F c) (k := 0) (by decide), hereIn_lt (bFl X) (bFr F c) (k := 0) (by decide), hereIn_lt (cFl X) (cFr F c) (k := 0) (by decide), hereIn_lt (dFl X) (dFr F c) (k := 0) (by decide), hereIn_lt (eFl X) (eFr F c) (k := 0) (by decide)]
    isplitl [HW]; · iexists _; iexact HW
    isplitl [HCC]
    · iexists _; isplitr; swap; · iexact HCC
      ipureintro; exact View.read_writes_whole _ _ _
    isplitl [HM]
    · iexists _; isplitr; swap; · iexact HM
      ipureintro; intro y h; omega
    isplitl [H1]
    · iexists _; isplitr; swap; · iexact H1
      ipureintro; intro y h; omega
    isplitl [H3]
    · iexists _; isplitr; swap; · iexact H3
      ipureintro; intro y h; omega
    isplitl [H2]
    · iexists _; isplitr; swap; · iexact H2
      ipureintro; intro y h; omega
    isplitl [HaF]; · iexists _; iexact HaF
    isplitl [HaI HaC]
    · isplitl [HaI]
      · iexists _; iexact HaI
      iexact HaC
    isplitl [Has]; · iexact Has
    isplitl [HbF]; · iexists _; iexact HbF
    isplitl [HbI HbC]
    · isplitl [HbI]
      · iexists _; iexact HbI
      iexact HbC
    isplitl [Hbs]; · iexact Hbs
    isplitl [HcF]; · iexists _; iexact HcF
    isplitl [HcI HcC]
    · isplitl [HcI]
      · iexists _; iexact HcI
      iexact HcC
    isplitl [Hcs]; · iexact Hcs
    isplitl [HdF]; · iexists _; iexact HdF
    isplitl [HdI HdC]
    · isplitl [HdI]
      · iexists _; iexact HdI
      iexact HdC
    isplitl [Hds]; · iexact Hds
    isplitl [HeF]; · iexists _; iexact HeF
    isplitl [HeI HeC]
    · isplitl [HeI]
      · iexists _; iexact HeI
      iexact HeC
    iexact Hes
  iintro %acc ⟨%h, H⟩
  rw [show Scf.trips k0_t1_loop.lb k0_t1_loop.ub k0_t1_loop.st = 8 by decide]
  clear h
  unfold res1 mAt w1At w3At w2At
  rw [hereIn_ge (aFl X) (aFr F c) (k := 8) (by decide), in_all (aP X) (k := 8) (by decide), hereIn_ge (bFl X) (bFr F c) (k := 8) (by decide), in_all (bP X) (k := 8) (by decide), hereIn_ge (cFl X) (cFr F c) (k := 8) (by decide), in_all (cP X) (k := 8) (by decide), hereIn_ge (dFl X) (dFr F c) (k := 8) (by decide), in_all (dP X) (k := 8) (by decide), hereIn_ge (eFl X) (eFr F c) (k := 8) (by decide), in_all (eP X) (k := 8) (by decide)]
  icases H with ⟨⟨%W1, HW⟩, ⟨%fc1, -, HCC⟩, ⟨%fm, %hfm, HM⟩, ⟨%f1, %hf1, H1⟩, ⟨%f3, %hf3, H3⟩, ⟨%f2, %hf2, H2⟩, Ha0, Ha1, Has, Hb0, Hb1, Hbs, Hc0, Hc1, Hcs, Hd0, Hd1, Hds, He0, He1, Hes⟩
  have efm : mM.view.read (Elt F) fm = mods X := funext fun y => hfm y (by
    have h : (y 1).val < 3072 := (y 1).isLt
    omega)
  have ef1 : w1M.view.read (Elt F) f1 = w1 X := funext fun y => hf1 y (by
    have h : (y 0).val < 1024 := (y 0).isLt
    omega)
  have ef3 : w3M.view.read (Elt F) f3 = w3 X := funext fun y => hf3 y (by
    have h : (y 0).val < 1024 := (y 0).isLt
    omega)
  have ef2 : w2M.view.read (Elt F) f2 = w2 X := funext fun y => hf2 y (by
    have h : (y 0).val < 2816 := (y 0).isLt
    omega)
  sl_exec
  sl_for (fun k acc => iprop(⌜acc = carried2 k⌝ ∗ res2 X arg7 arg8 k)) $$ [HW H7 H8 HR HCD HM H1 H3 H2 HhF HhI HhC Hhs HiF HiI HiC His HpF HpI HpC Hps HqF HqI HqC Hqs HuF HuI HuC Hus HvF HvI HvC Hvs HoA HoF HoI HoC Hos HxA HxF HxI HxC Hxs HyA HyF HyI HyC Hys HzA HzF HzI HzC Hzs HtA HtF HtI HtC Hts]
  case region =>
    intro k acc
    iintro ⟨%h, H⟩
    rw [h]
    iapply (round_run c X arg7 harg7 arg8 harg8 _ _ _ _ _ _ _ _ _ _ _ _ _ _ _ _ _ _ _ _ _ _ _ _ k)
    iexact H
  · isplitr
    · ipureintro
      refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))))))))))))))) <;> decide +kernel
    unfold res2 rAt
    rw [hereIn_lt (hFl X) (hFr F c) (k := 0) (by decide), hereIn_lt (iFl X) (iFr F c) (k := 0) (by decide), hereIn_lt (pFl X) (pFr F c) (k := 0) (by decide), hereIn_lt (qFl X) (qFr F c) (k := 0) (by decide), hereIn_lt (uFl X) (uFr F c) (k := 0) (by decide), hereIn_lt (vFl X) (vFr F c) (k := 0) (by decide), backO_lt (oFl X) (oFr F c) (k := 0) (by decide), homeO_start (oIt X), hereE_free (xFl F c) (xFr F c) (k := 0) (by decide), backE_out (xFl F c) (xFr F c) (k := 0) (by decide), homeE_start (xIt F c), hereE_free (yFl F c) (yFr F c) (k := 0) (by decide), backE_out (yFl F c) (yFr F c) (k := 0) (by decide), homeE_start (yIt F c), hereE_free (zFl F c) (zFr F c) (k := 0) (by decide), backE_out (zFl F c) (zFr F c) (k := 0) (by decide), homeE_start (zIt F c), hereE_free (tFl X) (tFr F c) (k := 0) (by decide), backE_out (tFl X) (tFr F c) (k := 0) (by decide), homeE_start (tIt X)]
    isplitl [HW]; · iexists _; iexact HW
    isplitl [H7]; · iexact H7
    isplitl [H8]; · iexact H8
    isplitl [HR]
    · iexists _; isplitr; swap; · iexact HR
      ipureintro; intro h; omega
    isplitl [HCD]
    · iexists _; isplitr; swap; · iexact HCD
      ipureintro; exact View.read_writes_whole _ _ _
    isplitl [HM]
    · iexists _; isplitr; swap; · iexact HM
      ipureintro; exact efm
    isplitl [H1]
    · iexists _; isplitr; swap; · iexact H1
      ipureintro; exact ef1
    isplitl [H3]
    · iexists _; isplitr; swap; · iexact H3
      ipureintro; exact ef3
    isplitl [H2]
    · iexists _; isplitr; swap; · iexact H2
      ipureintro; exact ef2
    isplitl [HhF]; · iexists _; iexact HhF
    isplitl [HhI HhC]
    · isplitl [HhI]
      · iexists _; iexact HhI
      iexact HhC
    isplitl [Hhs]; · iexact Hhs
    isplitl [HiF]; · iexists _; iexact HiF
    isplitl [HiI HiC]
    · isplitl [HiI]
      · iexists _; iexact HiI
      iexact HiC
    isplitl [His]; · iexact His
    isplitl [HpF]; · iexists _; iexact HpF
    isplitl [HpI HpC]
    · isplitl [HpI]
      · iexists _; iexact HpI
      iexact HpC
    isplitl [Hps]; · iexact Hps
    isplitl [HqF]; · iexists _; iexact HqF
    isplitl [HqI HqC]
    · isplitl [HqI]
      · iexists _; iexact HqI
      iexact HqC
    isplitl [Hqs]; · iexact Hqs
    isplitl [HuF]; · iexists _; iexact HuF
    isplitl [HuI HuC]
    · isplitl [HuI]
      · iexists _; isplitr; swap; · iexact HuI
        ipureintro; intro h; omega
      iexact HuC
    isplitl [Hus]; · iexact Hus
    isplitl [HvF]; · iexists _; iexact HvF
    isplitl [HvI HvC]
    · isplitl [HvI]
      · iexists _; isplitr; swap; · iexact HvI
        ipureintro; intro h; omega
      iexact HvC
    isplitl [Hvs]; · iexact Hvs
    isplitl [HoA HoF]
    · isplitl [HoA]; · iexists _; iexact HoA
      iexact HoF
    isplitl [HoI HoC]
    · isplitl [HoI]; · iexists _; iexact HoI
      iexact HoC
    isplitl [Hos]; · iexact Hos
    isplitl [HxA HxF]
    · isplitl [HxA]; · iexists _; iexact HxA
      iexact HxF
    isplitl [HxI HxC]
    · isplitl [HxI]; · iexists _; iexact HxI
      iexact HxC
    isplitl [Hxs]; · iexact Hxs
    isplitl [HyA HyF]
    · isplitl [HyA]; · iexists _; iexact HyA
      iexact HyF
    isplitl [HyI HyC]
    · isplitl [HyI]; · iexists _; iexact HyI
      iexact HyC
    isplitl [Hys]; · iexact Hys
    isplitl [HzA HzF]
    · isplitl [HzA]; · iexists _; iexact HzA
      iexact HzF
    isplitl [HzI HzC]
    · isplitl [HzI]; · iexists _; iexact HzI
      iexact HzC
    isplitl [Hzs]; · iexact Hzs
    isplitl [HtA HtF]
    · isplitl [HtA]; · iexists _; iexact HtA
      iexact HtF
    isplitl [HtI HtC]
    · isplitl [HtI]; · iexists _; iexact HtI
      iexact HtC
    iexact Hts
  iintro %acc ⟨%h, H⟩
  rw [show Scf.trips k0_t2_loop.lb k0_t2_loop.ub k0_t2_loop.st = 17 by decide] at h
  rw [show Scf.trips k0_t2_loop.lb k0_t2_loop.ub k0_t2_loop.st = 17 by decide]
  subst h
  unfold res2 rAt
  rw [hereIn_ge (hFl X) (hFr F c) (k := 17) (by decide), in_all (hP X) (k := 17) (by decide), hereIn_ge (iFl X) (iFr F c) (k := 17) (by decide), in_all (iP X) (k := 17) (by decide), hereIn_ge (pFl X) (pFr F c) (k := 17) (by decide), in_all (pP X) (k := 17) (by decide), hereIn_ge (qFl X) (qFr F c) (k := 17) (by decide), in_all (qP X) (k := 17) (by decide), hereIn_ge (uFl X) (uFr F c) (k := 17) (by decide), in_all (uP X) (k := 17) (by decide), hereIn_ge (vFl X) (vFr F c) (k := 17) (by decide), in_all (vP X) (k := 17) (by decide), backO_ge (oFl X) (oFr F c) (k := 17) (by decide), homeO_end (oIt X) (oIt_keep X), hereE_end (xFl F c) (xFr F c) (k := 17) rfl, backE_out (xFl F c) (xFr F c) (k := 17) (by decide), homeE_end (xIt F c), hereE_end (yFl F c) (yFr F c) (k := 17) rfl, backE_out (yFl F c) (yFr F c) (k := 17) (by decide), homeE_end (yIt F c), hereE_end (zFl F c) (zFr F c) (k := 17) rfl, backE_out (zFl F c) (zFr F c) (k := 17) (by decide), homeE_end (zIt F c), hereE_end (tFl X) (tFr F c) (k := 17) rfl, backE_out (tFl X) (tFr F c) (k := 17) (by decide), homeE_end (tIt X), show 17 - 2 = 15 from rfl]
  rw [← in_start (aP X), ← in_start (bP X), ← in_start (cP X), ← in_start (dP X), ← in_start (eP X), ← in_start (hP X), ← in_start (iP X), ← in_start (pP X), ← in_start (qP X), ← in_start (uP X), ← in_start (vP X)]
  icases H with ⟨⟨%W2, HW⟩, H7, H8, ⟨%fr2, -, HR⟩, ⟨%fc2, -, HCD⟩, ⟨%fm2, -, HM⟩, ⟨%f12, -, H1⟩, ⟨%f32, -, H3⟩, ⟨%f22, -, H2⟩, Hh1, Hh0, Hhs, Hi1, Hi0, His, Hp1, Hp0, Hps, Hq1, Hq0, Hqs, Hu1, ⟨⟨%gu2, -, HuI⟩, HuC⟩, Hus, Hv1, ⟨⟨%gv2, -, HvI⟩, HvC⟩, Hvs, ⟨%go2, %fo2, %hgo, HoF⟩, Ho0, Hos, ⟨%gx2, %fx2, HxF⟩, Hx0, Hxs, ⟨%gy2, %fy2, HyF⟩, Hy0, Hys, ⟨%gz2, %fz2, HzF⟩, Hz0, Hzs, ⟨%gt2, %ft2, %hgt, HtF⟩, Ht0, Hts⟩
  have e6 := chk6
  have e7 := chk7
  have e8 := chk8
  have e9 := chk9
  have e10 := chk10
  have e11 := chk11
  sl_exec
  sl_step
  rw [show Ring.sl 2 8 = Ring.sl 2 0 by decide, show Ring.sl 2 (8 + 1) = Ring.sl 2 (0 + 1) by decide, show Ring.sl 2 17 = Ring.sl 2 (0 + 1) by decide,
    show Ring.sl 2 (17 + 1) = Ring.sl 2 0 by decide]
  iapply Hk
  isplitl [HW]; · iexists _; iexact HW
  isplitl [H7]; · iexact H7
  isplitl [H8]; · iexact H8
  isplitl [HR]; · iexists _; iexact HR
  isplitl [HCS]; · iexact HCS
  isplitl [HK1]; · iexact HK1
  isplitl [HK2]; · iexact HK2
  isplitl [HCC]; · iexists _; iexact HCC
  isplitl [HCD]; · iexists _; iexact HCD
  isplitl [HM]; · iexists _; iexact HM
  isplitl [H1]; · iexists _; iexact H1
  isplitl [H3]; · iexists _; iexact H3
  isplitl [H2]; · iexists _; iexact H2
  isplitl [Ha0]; · iexact Ha0
  isplitl [Ha1]; · iexact Ha1
  isplitl [Has]; · iexact Has
  isplitl [Hb0]; · iexact Hb0
  isplitl [Hb1]; · iexact Hb1
  isplitl [Hbs]; · iexact Hbs
  isplitl [Hc0]; · iexact Hc0
  isplitl [Hc1]; · iexact Hc1
  isplitl [Hcs]; · iexact Hcs
  isplitl [Hd0]; · iexact Hd0
  isplitl [Hd1]; · iexact Hd1
  isplitl [Hds]; · iexact Hds
  isplitl [He0]; · iexact He0
  isplitl [He1]; · iexact He1
  isplitl [Hes]; · iexact Hes
  isplitl [Hh0]; · iexact Hh0
  isplitl [Hh1]; · iexact Hh1
  isplitl [Hhs]; · iexact Hhs
  isplitl [Hi0]; · iexact Hi0
  isplitl [Hi1]; · iexact Hi1
  isplitl [His]; · iexact His
  isplitl [Hp0]; · iexact Hp0
  isplitl [Hp1]; · iexact Hp1
  isplitl [Hps]; · iexact Hps
  isplitl [Hq0]; · iexact Hq0
  isplitl [Hq1]; · iexact Hq1
  isplitl [Hqs]; · iexact Hqs
  isplitl [HuI HuC]
  · isplitl [HuI]; · iexists _; iexact HuI
    iexact HuC
  isplitl [Hu1]; · iexact Hu1
  isplitl [Hus]; · iexact Hus
  isplitl [HvI HvC]
  · isplitl [HvI]; · iexists _; iexact HvI
    iexact HvC
  isplitl [Hv1]; · iexact Hv1
  isplitl [Hvs]; · iexact Hvs
  isplitl [Ho0]; · iexact Ho0
  isplitl [HoF_src HoF]
  · isplitl [HoF_src]; · iexists _; iexact HoF_src
    iexact HoF
  isplitl [HoF_dst Hos]
  · isplitl [HoF_dst]
    · iexists _; isplitr; swap; · iexact HoF_dst
      ipureintro; intro _; exact (View.read_writes_whole _ _ _).trans hgo
    iexact Hos
  isplitl [Hx0]; · iexact Hx0
  isplitl [HxF_src HxF]
  · isplitl [HxF_src]; · iexists _; iexact HxF_src
    iexact HxF
  isplitl [HxF_dst Hxs]
  · isplitl [HxF_dst]
    · iexists _; iexact HxF_dst
    iexact Hxs
  isplitl [Hy0]; · iexact Hy0
  isplitl [HyF_src HyF]
  · isplitl [HyF_src]; · iexists _; iexact HyF_src
    iexact HyF
  isplitl [HyF_dst Hys]
  · isplitl [HyF_dst]
    · iexists _; iexact HyF_dst
    iexact Hys
  isplitl [Hz0]; · iexact Hz0
  isplitl [HzF_src HzF]
  · isplitl [HzF_src]; · iexists _; iexact HzF_src
    iexact HzF
  isplitl [HzF_dst Hzs]
  · isplitl [HzF_dst]
    · iexists _; iexact HzF_dst
    iexact Hzs
  isplitl [Ht0]; · iexact Ht0
  isplitl [HtF_src HtF]
  · isplitl [HtF_src]; · iexists _; iexact HtF_src
    iexact HtF
  isplitl [HtF_dst]
  · iexists _; isplitr; swap; · iexact HtF_dst
    ipureintro; intro _; exact (View.read_writes_whole _ _ _).trans hgt
  iexact Hts

end Cert.Proof.Ffn0

end
-- ==== Proof.FirstTiles.lean ====
/- The first feed-forward sub-layer's call: the buffers the kernel is given, cut into tiles and slots. -/
module

public import proofs.«01_k».proof.Proof.FirstHeld

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)

/-! ## Pieces of a buffer -/

/-- An equation of assertions, read from left to right. -/
theorem of_eq {P Q : sProp 𝕄} (e : P = Q) : P ⊢ Q := e ▸ .rfl

theorem two (Φ : Fin 2 → sProp 𝕄) : bigSep Finset.univ Φ = iprop(Φ (Ring.sl 2 0) ∗ Φ (Ring.sl 2 (0 + 1))) :=
  bigSep_univ_eq_bigSepL [Ring.sl 2 0, Ring.sl 2 (0 + 1)] (by decide) (by decide) Φ

/-- A ring's buffer at anything is its two slots at anything, -/
theorem slots_out {ℓ : Loc nD τ sig} (I : Fin 2 → Finset (Idx ℓ)) (hd : ∀ s s', s ≠ s' → Disjoint (I s) (I s')) (hc : Finset.univ.biUnion I = Finset.univ) :
    iprop(∃ f : Buf (Elt F) ℓ, ℓ ↦{fullShare} f)
      ⊢ (iprop((∃ f : Buf (Elt F) ℓ, ℓ ↦[I (Ring.sl 2 0)]{fullShare} f) ∗ ∃ f : Buf (Elt F) ℓ, ℓ ↦[I (Ring.sl 2 (0 + 1))]{fullShare} f) : sProp 𝕄) := by
  iintro ⟨%f, H⟩
  ihave H2 := (of_eq ((Ring.pointsTo_blocks (Ix := Unit) (Name := ℕ) (U := UU nD τ) (Lvl := ℕ) (q := fullShare) I hd hc f).trans (two _))) $$ H
  icases H2 with ⟨H0, H1⟩
  isplitl [H0]
  · iexists f; iexact H0
  · iexists f; iexact H1
/-- and the slots the buffer. -/
theorem slots_in {ℓ : Loc nD τ sig} (I : Fin 2 → Finset (Idx ℓ)) (hd : ∀ s s', s ≠ s' → Disjoint (I s) (I s')) (hc : Finset.univ.biUnion I = Finset.univ) :
    iprop((∃ f : Buf (Elt F) ℓ, ℓ ↦[I (Ring.sl 2 0)]{fullShare} f) ∗ ∃ f : Buf (Elt F) ℓ, ℓ ↦[I (Ring.sl 2 (0 + 1))]{fullShare} f)
      ⊢ (iprop(∃ f : Buf (Elt F) ℓ, ℓ ↦{fullShare} f) : sProp 𝕄) := by
  iintro ⟨⟨%f, H0⟩, H1⟩
  iapply (Ring.pointsTo_blocks_join_exists I hd hc f)
  irw [two]
  isplitl [H0]
  · iexists f; iexact H0
  · iexact H1

/-- A whole buffer's memref is held on all its elements. -/
theorem ownP_whole (r : Ref sig .tc) (f : Buf (Elt F) ((c : Thread nD τ).loc r)) :
    ownP c (Memref.whole r) f = (((c : Thread nD τ).loc r) ↦{fullShare} f : sProp 𝕄) :=
  congrArg (fun S => (_ ↦[S]{fullShare} f : sProp 𝕄)) (View.set_whole r)
theorem some_whole (r : Ref sig .tc) : some_ (F := F) c (Memref.whole r)
    = (iprop(∃ f : Buf (Elt F) ((c : Thread nD τ).loc r), ((c : Thread nD τ).loc r) ↦{fullShare} f) : sProp 𝕄) :=
  congrArg _ (funext fun f => ownP_whole c r f)

/-! ## Each ring's two slots -/

theorem aSl_set (s : Fin 2) : (aSl s).view.set = (Rect.unit (s := S2x1024x384) (slotOff s) S1x1024x384.size (aSlot_inb s)).set := (View.set_reshape _ _).trans (View.set_slice_whole _ _)
abbrev aSlSet (s : Fin 2) : Finset S2x1024x384.Idx := (aSl s).view.set
theorem aSlSet_eq : aSlSet = fun s => (Rect.unit (s := S2x1024x384) (slotOff s) S1x1024x384.size (aSlot_inb s)).set := funext aSl_set
theorem aSl_disjoint : ∀ s s', s ≠ s' → Disjoint (aSlSet s) (aSlSet s') := fun s s' h => by
  rw [aSlSet_eq]
  exact Ring.lead_disjoint (s := S2x1024x384) 0 1 slotOff S1x1024x384.size aSlot_inb (by decide) rfl s s' h
theorem aSl_cover : (Finset.univ : Finset (Fin 2)).biUnion aSlSet = Finset.univ := by
  rw [aSlSet_eq]
  exact Ring.lead_cover (s := S2x1024x384) 0 1 slotOff S1x1024x384.size aSlot_inb (by decide) (by decide) rfl (by decide) rfl
theorem a_out : iprop(∃ f : Buf (Elt F) ((c : Thread nD τ).loc cc0_scoped1), ((c : Thread nD τ).loc cc0_scoped1) ↦{fullShare} f)
    ⊢ (iprop(some_ c (aSl (Ring.sl 2 0)) ∗ some_ c (aSl (Ring.sl 2 (0 + 1)))) : sProp 𝕄) :=
  slots_out (ℓ := (c : Thread nD τ).loc cc0_scoped1) aSlSet aSl_disjoint aSl_cover
theorem a_in : (iprop(some_ c (aSl (Ring.sl 2 0)) ∗ some_ c (aSl (Ring.sl 2 (0 + 1)))) : sProp 𝕄)
    ⊢ iprop(∃ f : Buf (Elt F) ((c : Thread nD τ).loc cc0_scoped1), ((c : Thread nD τ).loc cc0_scoped1) ↦{fullShare} f) :=
  slots_in (ℓ := (c : Thread nD τ).loc cc0_scoped1) aSlSet aSl_disjoint aSl_cover

theorem bSl_set (s : Fin 2) : (bSl s).view.set = (Rect.unit (s := S2x1x384) (slotOff s) S1x1x384.size (bSlot_inb s)).set := (View.set_reshape _ _).trans (View.set_slice_whole _ _)
abbrev bSlSet (s : Fin 2) : Finset S2x1x384.Idx := (bSl s).view.set
theorem bSlSet_eq : bSlSet = fun s => (Rect.unit (s := S2x1x384) (slotOff s) S1x1x384.size (bSlot_inb s)).set := funext bSl_set
theorem bSl_disjoint : ∀ s s', s ≠ s' → Disjoint (bSlSet s) (bSlSet s') := fun s s' h => by
  rw [bSlSet_eq]
  exact Ring.lead_disjoint (s := S2x1x384) 0 1 slotOff S1x1x384.size bSlot_inb (by decide) rfl s s' h
theorem bSl_cover : (Finset.univ : Finset (Fin 2)).biUnion bSlSet = Finset.univ := by
  rw [bSlSet_eq]
  exact Ring.lead_cover (s := S2x1x384) 0 1 slotOff S1x1x384.size bSlot_inb (by decide) (by decide) rfl (by decide) rfl
theorem b_out : iprop(∃ f : Buf (Elt F) ((c : Thread nD τ).loc cc0_scoped3), ((c : Thread nD τ).loc cc0_scoped3) ↦{fullShare} f)
    ⊢ (iprop(some_ c (bSl (Ring.sl 2 0)) ∗ some_ c (bSl (Ring.sl 2 (0 + 1)))) : sProp 𝕄) :=
  slots_out (ℓ := (c : Thread nD τ).loc cc0_scoped3) bSlSet bSl_disjoint bSl_cover
theorem b_in : (iprop(some_ c (bSl (Ring.sl 2 0)) ∗ some_ c (bSl (Ring.sl 2 (0 + 1)))) : sProp 𝕄)
    ⊢ iprop(∃ f : Buf (Elt F) ((c : Thread nD τ).loc cc0_scoped3), ((c : Thread nD τ).loc cc0_scoped3) ↦{fullShare} f) :=
  slots_in (ℓ := (c : Thread nD τ).loc cc0_scoped3) bSlSet bSl_disjoint bSl_cover

theorem cSl_set (s : Fin 2) : (cSl s).view.set = (Rect.unit (s := S2x128x2816) (slotOff s) S1x128x2816.size (cSlot_inb s)).set := (View.set_reshape _ _).trans (View.set_slice_whole _ _)
abbrev cSlSet (s : Fin 2) : Finset S2x128x2816.Idx := (cSl s).view.set
theorem cSlSet_eq : cSlSet = fun s => (Rect.unit (s := S2x128x2816) (slotOff s) S1x128x2816.size (cSlot_inb s)).set := funext cSl_set
theorem cSl_disjoint : ∀ s s', s ≠ s' → Disjoint (cSlSet s) (cSlSet s') := fun s s' h => by
  rw [cSlSet_eq]
  exact Ring.lead_disjoint (s := S2x128x2816) 0 1 slotOff S1x128x2816.size cSlot_inb (by decide) rfl s s' h
theorem cSl_cover : (Finset.univ : Finset (Fin 2)).biUnion cSlSet = Finset.univ := by
  rw [cSlSet_eq]
  exact Ring.lead_cover (s := S2x128x2816) 0 1 slotOff S1x128x2816.size cSlot_inb (by decide) (by decide) rfl (by decide) rfl
theorem c_out : iprop(∃ f : Buf (Elt F) ((c : Thread nD τ).loc cc0_scoped5), ((c : Thread nD τ).loc cc0_scoped5) ↦{fullShare} f)
    ⊢ (iprop(some_ c (cSl (Ring.sl 2 0)) ∗ some_ c (cSl (Ring.sl 2 (0 + 1)))) : sProp 𝕄) :=
  slots_out (ℓ := (c : Thread nD τ).loc cc0_scoped5) cSlSet cSl_disjoint cSl_cover
theorem c_in : (iprop(some_ c (cSl (Ring.sl 2 0)) ∗ some_ c (cSl (Ring.sl 2 (0 + 1)))) : sProp 𝕄)
    ⊢ iprop(∃ f : Buf (Elt F) ((c : Thread nD τ).loc cc0_scoped5), ((c : Thread nD τ).loc cc0_scoped5) ↦{fullShare} f) :=
  slots_in (ℓ := (c : Thread nD τ).loc cc0_scoped5) cSlSet cSl_disjoint cSl_cover

theorem dSl_set (s : Fin 2) : (dSl s).view.set = (Rect.unit (s := S2x128x2816) (slotOff s) S1x128x2816.size (dSlot_inb s)).set := (View.set_reshape _ _).trans (View.set_slice_whole _ _)
abbrev dSlSet (s : Fin 2) : Finset S2x128x2816.Idx := (dSl s).view.set
theorem dSlSet_eq : dSlSet = fun s => (Rect.unit (s := S2x128x2816) (slotOff s) S1x128x2816.size (dSlot_inb s)).set := funext dSl_set
theorem dSl_disjoint : ∀ s s', s ≠ s' → Disjoint (dSlSet s) (dSlSet s') := fun s s' h => by
  rw [dSlSet_eq]
  exact Ring.lead_disjoint (s := S2x128x2816) 0 1 slotOff S1x128x2816.size dSlot_inb (by decide) rfl s s' h
theorem dSl_cover : (Finset.univ : Finset (Fin 2)).biUnion dSlSet = Finset.univ := by
  rw [dSlSet_eq]
  exact Ring.lead_cover (s := S2x128x2816) 0 1 slotOff S1x128x2816.size dSlot_inb (by decide) (by decide) rfl (by decide) rfl
theorem d_out : iprop(∃ f : Buf (Elt F) ((c : Thread nD τ).loc cc0_scoped7), ((c : Thread nD τ).loc cc0_scoped7) ↦{fullShare} f)
    ⊢ (iprop(some_ c (dSl (Ring.sl 2 0)) ∗ some_ c (dSl (Ring.sl 2 (0 + 1)))) : sProp 𝕄) :=
  slots_out (ℓ := (c : Thread nD τ).loc cc0_scoped7) dSlSet dSl_disjoint dSl_cover
theorem d_in : (iprop(some_ c (dSl (Ring.sl 2 0)) ∗ some_ c (dSl (Ring.sl 2 (0 + 1)))) : sProp 𝕄)
    ⊢ iprop(∃ f : Buf (Elt F) ((c : Thread nD τ).loc cc0_scoped7), ((c : Thread nD τ).loc cc0_scoped7) ↦{fullShare} f) :=
  slots_in (ℓ := (c : Thread nD τ).loc cc0_scoped7) dSlSet dSl_disjoint dSl_cover

theorem eSl_set (s : Fin 2) : (eSl s).view.set = (Rect.unit (s := S2x352x1024) (slotOff s) S1x352x1024.size (eSlot_inb s)).set := (View.set_reshape _ _).trans (View.set_slice_whole _ _)
abbrev eSlSet (s : Fin 2) : Finset S2x352x1024.Idx := (eSl s).view.set
theorem eSlSet_eq : eSlSet = fun s => (Rect.unit (s := S2x352x1024) (slotOff s) S1x352x1024.size (eSlot_inb s)).set := funext eSl_set
theorem eSl_disjoint : ∀ s s', s ≠ s' → Disjoint (eSlSet s) (eSlSet s') := fun s s' h => by
  rw [eSlSet_eq]
  exact Ring.lead_disjoint (s := S2x352x1024) 0 1 slotOff S1x352x1024.size eSlot_inb (by decide) rfl s s' h
theorem eSl_cover : (Finset.univ : Finset (Fin 2)).biUnion eSlSet = Finset.univ := by
  rw [eSlSet_eq]
  exact Ring.lead_cover (s := S2x352x1024) 0 1 slotOff S1x352x1024.size eSlot_inb (by decide) (by decide) rfl (by decide) rfl
theorem e_out : iprop(∃ f : Buf (Elt F) ((c : Thread nD τ).loc cc0_scoped9), ((c : Thread nD τ).loc cc0_scoped9) ↦{fullShare} f)
    ⊢ (iprop(some_ c (eSl (Ring.sl 2 0)) ∗ some_ c (eSl (Ring.sl 2 (0 + 1)))) : sProp 𝕄) :=
  slots_out (ℓ := (c : Thread nD τ).loc cc0_scoped9) eSlSet eSl_disjoint eSl_cover
theorem e_in : (iprop(some_ c (eSl (Ring.sl 2 0)) ∗ some_ c (eSl (Ring.sl 2 (0 + 1)))) : sProp 𝕄)
    ⊢ iprop(∃ f : Buf (Elt F) ((c : Thread nD τ).loc cc0_scoped9), ((c : Thread nD τ).loc cc0_scoped9) ↦{fullShare} f) :=
  slots_in (ℓ := (c : Thread nD τ).loc cc0_scoped9) eSlSet eSl_disjoint eSl_cover

theorem hSl_set (s : Fin 2) : (hSl s).view.set = (Rect.unit (s := S2x1024x1024) (slotOff s) S1x1024x1024.size (hSlot_inb s)).set := (View.set_reshape _ _).trans (View.set_slice_whole _ _)
abbrev hSlSet (s : Fin 2) : Finset S2x1024x1024.Idx := (hSl s).view.set
theorem hSlSet_eq : hSlSet = fun s => (Rect.unit (s := S2x1024x1024) (slotOff s) S1x1024x1024.size (hSlot_inb s)).set := funext hSl_set
theorem hSl_disjoint : ∀ s s', s ≠ s' → Disjoint (hSlSet s) (hSlSet s') := fun s s' h => by
  rw [hSlSet_eq]
  exact Ring.lead_disjoint (s := S2x1024x1024) 0 1 slotOff S1x1024x1024.size hSlot_inb (by decide) rfl s s' h
theorem hSl_cover : (Finset.univ : Finset (Fin 2)).biUnion hSlSet = Finset.univ := by
  rw [hSlSet_eq]
  exact Ring.lead_cover (s := S2x1024x1024) 0 1 slotOff S1x1024x1024.size hSlot_inb (by decide) (by decide) rfl (by decide) rfl
theorem h_out : iprop(∃ f : Buf (Elt F) ((c : Thread nD τ).loc cc0_scoped12), ((c : Thread nD τ).loc cc0_scoped12) ↦{fullShare} f)
    ⊢ (iprop(some_ c (hSl (Ring.sl 2 0)) ∗ some_ c (hSl (Ring.sl 2 (0 + 1)))) : sProp 𝕄) :=
  slots_out (ℓ := (c : Thread nD τ).loc cc0_scoped12) hSlSet hSl_disjoint hSl_cover
theorem h_in : (iprop(some_ c (hSl (Ring.sl 2 0)) ∗ some_ c (hSl (Ring.sl 2 (0 + 1)))) : sProp 𝕄)
    ⊢ iprop(∃ f : Buf (Elt F) ((c : Thread nD τ).loc cc0_scoped12), ((c : Thread nD τ).loc cc0_scoped12) ↦{fullShare} f) :=
  slots_in (ℓ := (c : Thread nD τ).loc cc0_scoped12) hSlSet hSl_disjoint hSl_cover

theorem iSl_set (s : Fin 2) : (iSl s).view.set = (Rect.unit (s := S2x64x1280) (slotOff s) S1x64x1280.size (iSlot_inb s)).set := (View.set_reshape _ _).trans (View.set_slice_whole _ _)
abbrev iSlSet (s : Fin 2) : Finset S2x64x1280.Idx := (iSl s).view.set
theorem iSlSet_eq : iSlSet = fun s => (Rect.unit (s := S2x64x1280) (slotOff s) S1x64x1280.size (iSlot_inb s)).set := funext iSl_set
theorem iSl_disjoint : ∀ s s', s ≠ s' → Disjoint (iSlSet s) (iSlSet s') := fun s s' h => by
  rw [iSlSet_eq]
  exact Ring.lead_disjoint (s := S2x64x1280) 0 1 slotOff S1x64x1280.size iSlot_inb (by decide) rfl s s' h
theorem iSl_cover : (Finset.univ : Finset (Fin 2)).biUnion iSlSet = Finset.univ := by
  rw [iSlSet_eq]
  exact Ring.lead_cover (s := S2x64x1280) 0 1 slotOff S1x64x1280.size iSlot_inb (by decide) (by decide) rfl (by decide) rfl
theorem i_out : iprop(∃ f : Buf (Elt F) ((c : Thread nD τ).loc cc0_scoped14), ((c : Thread nD τ).loc cc0_scoped14) ↦{fullShare} f)
    ⊢ (iprop(some_ c (iSl (Ring.sl 2 0)) ∗ some_ c (iSl (Ring.sl 2 (0 + 1)))) : sProp 𝕄) :=
  slots_out (ℓ := (c : Thread nD τ).loc cc0_scoped14) iSlSet iSl_disjoint iSl_cover
theorem i_in : (iprop(some_ c (iSl (Ring.sl 2 0)) ∗ some_ c (iSl (Ring.sl 2 (0 + 1)))) : sProp 𝕄)
    ⊢ iprop(∃ f : Buf (Elt F) ((c : Thread nD τ).loc cc0_scoped14), ((c : Thread nD τ).loc cc0_scoped14) ↦{fullShare} f) :=
  slots_in (ℓ := (c : Thread nD τ).loc cc0_scoped14) iSlSet iSl_disjoint iSl_cover

theorem pSl_set (s : Fin 2) : (pSl s).view.set = (Rect.unit (s := S2x32x128) (slotOff s) S1x32x128.size (pSlot_inb s)).set := (View.set_reshape _ _).trans (View.set_slice_whole _ _)
abbrev pSlSet (s : Fin 2) : Finset S2x32x128.Idx := (pSl s).view.set
theorem pSlSet_eq : pSlSet = fun s => (Rect.unit (s := S2x32x128) (slotOff s) S1x32x128.size (pSlot_inb s)).set := funext pSl_set
theorem pSl_disjoint : ∀ s s', s ≠ s' → Disjoint (pSlSet s) (pSlSet s') := fun s s' h => by
  rw [pSlSet_eq]
  exact Ring.lead_disjoint (s := S2x32x128) 0 1 slotOff S1x32x128.size pSlot_inb (by decide) rfl s s' h
theorem pSl_cover : (Finset.univ : Finset (Fin 2)).biUnion pSlSet = Finset.univ := by
  rw [pSlSet_eq]
  exact Ring.lead_cover (s := S2x32x128) 0 1 slotOff S1x32x128.size pSlot_inb (by decide) (by decide) rfl (by decide) rfl
theorem p_out : iprop(∃ f : Buf (Elt F) ((c : Thread nD τ).loc cc0_scoped16), ((c : Thread nD τ).loc cc0_scoped16) ↦{fullShare} f)
    ⊢ (iprop(some_ c (pSl (Ring.sl 2 0)) ∗ some_ c (pSl (Ring.sl 2 (0 + 1)))) : sProp 𝕄) :=
  slots_out (ℓ := (c : Thread nD τ).loc cc0_scoped16) pSlSet pSl_disjoint pSl_cover
theorem p_in : (iprop(some_ c (pSl (Ring.sl 2 0)) ∗ some_ c (pSl (Ring.sl 2 (0 + 1)))) : sProp 𝕄)
    ⊢ iprop(∃ f : Buf (Elt F) ((c : Thread nD τ).loc cc0_scoped16), ((c : Thread nD τ).loc cc0_scoped16) ↦{fullShare} f) :=
  slots_in (ℓ := (c : Thread nD τ).loc cc0_scoped16) pSlSet pSl_disjoint pSl_cover

theorem qSl_set (s : Fin 2) : (qSl s).view.set = (Rect.unit (s := S2x64x1024) (slotOff s) S1x64x1024.size (qSlot_inb s)).set := (View.set_reshape _ _).trans (View.set_slice_whole _ _)
abbrev qSlSet (s : Fin 2) : Finset S2x64x1024.Idx := (qSl s).view.set
theorem qSlSet_eq : qSlSet = fun s => (Rect.unit (s := S2x64x1024) (slotOff s) S1x64x1024.size (qSlot_inb s)).set := funext qSl_set
theorem qSl_disjoint : ∀ s s', s ≠ s' → Disjoint (qSlSet s) (qSlSet s') := fun s s' h => by
  rw [qSlSet_eq]
  exact Ring.lead_disjoint (s := S2x64x1024) 0 1 slotOff S1x64x1024.size qSlot_inb (by decide) rfl s s' h
theorem qSl_cover : (Finset.univ : Finset (Fin 2)).biUnion qSlSet = Finset.univ := by
  rw [qSlSet_eq]
  exact Ring.lead_cover (s := S2x64x1024) 0 1 slotOff S1x64x1024.size qSlot_inb (by decide) (by decide) rfl (by decide) rfl
theorem q_out : iprop(∃ f : Buf (Elt F) ((c : Thread nD τ).loc cc0_scoped18), ((c : Thread nD τ).loc cc0_scoped18) ↦{fullShare} f)
    ⊢ (iprop(some_ c (qSl (Ring.sl 2 0)) ∗ some_ c (qSl (Ring.sl 2 (0 + 1)))) : sProp 𝕄) :=
  slots_out (ℓ := (c : Thread nD τ).loc cc0_scoped18) qSlSet qSl_disjoint qSl_cover
theorem q_in : (iprop(some_ c (qSl (Ring.sl 2 0)) ∗ some_ c (qSl (Ring.sl 2 (0 + 1)))) : sProp 𝕄)
    ⊢ iprop(∃ f : Buf (Elt F) ((c : Thread nD τ).loc cc0_scoped18), ((c : Thread nD τ).loc cc0_scoped18) ↦{fullShare} f) :=
  slots_in (ℓ := (c : Thread nD τ).loc cc0_scoped18) qSlSet qSl_disjoint qSl_cover

theorem uSl_set (s : Fin 2) : (uSl s).view.set = (Rect.unit (s := S2x1024x384) (slotOff s) S1x1024x384.size (uSlot_inb s)).set := (View.set_reshape _ _).trans (View.set_slice_whole _ _)
abbrev uSlSet (s : Fin 2) : Finset S2x1024x384.Idx := (uSl s).view.set
theorem uSlSet_eq : uSlSet = fun s => (Rect.unit (s := S2x1024x384) (slotOff s) S1x1024x384.size (uSlot_inb s)).set := funext uSl_set
theorem uSl_disjoint : ∀ s s', s ≠ s' → Disjoint (uSlSet s) (uSlSet s') := fun s s' h => by
  rw [uSlSet_eq]
  exact Ring.lead_disjoint (s := S2x1024x384) 0 1 slotOff S1x1024x384.size uSlot_inb (by decide) rfl s s' h
theorem uSl_cover : (Finset.univ : Finset (Fin 2)).biUnion uSlSet = Finset.univ := by
  rw [uSlSet_eq]
  exact Ring.lead_cover (s := S2x1024x384) 0 1 slotOff S1x1024x384.size uSlot_inb (by decide) (by decide) rfl (by decide) rfl
theorem u_out : iprop(∃ f : Buf (Elt F) ((c : Thread nD τ).loc cc0_scoped21), ((c : Thread nD τ).loc cc0_scoped21) ↦{fullShare} f)
    ⊢ (iprop(some_ c (uSl (Ring.sl 2 0)) ∗ some_ c (uSl (Ring.sl 2 (0 + 1)))) : sProp 𝕄) :=
  slots_out (ℓ := (c : Thread nD τ).loc cc0_scoped21) uSlSet uSl_disjoint uSl_cover
theorem u_in : (iprop(some_ c (uSl (Ring.sl 2 0)) ∗ some_ c (uSl (Ring.sl 2 (0 + 1)))) : sProp 𝕄)
    ⊢ iprop(∃ f : Buf (Elt F) ((c : Thread nD τ).loc cc0_scoped21), ((c : Thread nD τ).loc cc0_scoped21) ↦{fullShare} f) :=
  slots_in (ℓ := (c : Thread nD τ).loc cc0_scoped21) uSlSet uSl_disjoint uSl_cover

theorem vSl_set (s : Fin 2) : (vSl s).view.set = (Rect.unit (s := S2x1x384) (slotOff s) S1x1x384.size (vSlot_inb s)).set := (View.set_reshape _ _).trans (View.set_slice_whole _ _)
abbrev vSlSet (s : Fin 2) : Finset S2x1x384.Idx := (vSl s).view.set
theorem vSlSet_eq : vSlSet = fun s => (Rect.unit (s := S2x1x384) (slotOff s) S1x1x384.size (vSlot_inb s)).set := funext vSl_set
theorem vSl_disjoint : ∀ s s', s ≠ s' → Disjoint (vSlSet s) (vSlSet s') := fun s s' h => by
  rw [vSlSet_eq]
  exact Ring.lead_disjoint (s := S2x1x384) 0 1 slotOff S1x1x384.size vSlot_inb (by decide) rfl s s' h
theorem vSl_cover : (Finset.univ : Finset (Fin 2)).biUnion vSlSet = Finset.univ := by
  rw [vSlSet_eq]
  exact Ring.lead_cover (s := S2x1x384) 0 1 slotOff S1x1x384.size vSlot_inb (by decide) (by decide) rfl (by decide) rfl
theorem v_out : iprop(∃ f : Buf (Elt F) ((c : Thread nD τ).loc cc0_scoped23), ((c : Thread nD τ).loc cc0_scoped23) ↦{fullShare} f)
    ⊢ (iprop(some_ c (vSl (Ring.sl 2 0)) ∗ some_ c (vSl (Ring.sl 2 (0 + 1)))) : sProp 𝕄) :=
  slots_out (ℓ := (c : Thread nD τ).loc cc0_scoped23) vSlSet vSl_disjoint vSl_cover
theorem v_in : (iprop(some_ c (vSl (Ring.sl 2 0)) ∗ some_ c (vSl (Ring.sl 2 (0 + 1)))) : sProp 𝕄)
    ⊢ iprop(∃ f : Buf (Elt F) ((c : Thread nD τ).loc cc0_scoped23), ((c : Thread nD τ).loc cc0_scoped23) ↦{fullShare} f) :=
  slots_in (ℓ := (c : Thread nD τ).loc cc0_scoped23) vSlSet vSl_disjoint vSl_cover

theorem oSl_set (s : Fin 2) : (oSl s).view.set = (Rect.unit (s := S2x1024x1024) (slotOff s) S1x1024x1024.size (oSlot_inb s)).set := (View.set_reshape _ _).trans (View.set_slice_whole _ _)
abbrev oSlSet (s : Fin 2) : Finset S2x1024x1024.Idx := (oSl s).view.set
theorem oSlSet_eq : oSlSet = fun s => (Rect.unit (s := S2x1024x1024) (slotOff s) S1x1024x1024.size (oSlot_inb s)).set := funext oSl_set
theorem oSl_disjoint : ∀ s s', s ≠ s' → Disjoint (oSlSet s) (oSlSet s') := fun s s' h => by
  rw [oSlSet_eq]
  exact Ring.lead_disjoint (s := S2x1024x1024) 0 1 slotOff S1x1024x1024.size oSlot_inb (by decide) rfl s s' h
theorem oSl_cover : (Finset.univ : Finset (Fin 2)).biUnion oSlSet = Finset.univ := by
  rw [oSlSet_eq]
  exact Ring.lead_cover (s := S2x1024x1024) 0 1 slotOff S1x1024x1024.size oSlot_inb (by decide) (by decide) rfl (by decide) rfl
theorem o_out : iprop(∃ f : Buf (Elt F) ((c : Thread nD τ).loc cc0_scoped25), ((c : Thread nD τ).loc cc0_scoped25) ↦{fullShare} f)
    ⊢ (iprop(some_ c (oSl (Ring.sl 2 0)) ∗ some_ c (oSl (Ring.sl 2 (0 + 1)))) : sProp 𝕄) :=
  slots_out (ℓ := (c : Thread nD τ).loc cc0_scoped25) oSlSet oSl_disjoint oSl_cover
theorem o_in : (iprop(some_ c (oSl (Ring.sl 2 0)) ∗ some_ c (oSl (Ring.sl 2 (0 + 1)))) : sProp 𝕄)
    ⊢ iprop(∃ f : Buf (Elt F) ((c : Thread nD τ).loc cc0_scoped25), ((c : Thread nD τ).loc cc0_scoped25) ↦{fullShare} f) :=
  slots_in (ℓ := (c : Thread nD τ).loc cc0_scoped25) oSlSet oSl_disjoint oSl_cover

theorem xSl_set (s : Fin 2) : (xSl s).view.set = (Rect.unit (s := S2x64x1280) (slotOff s) S1x64x1280.size (xSlot_inb s)).set := (View.set_reshape _ _).trans (View.set_slice_whole _ _)
abbrev xSlSet (s : Fin 2) : Finset S2x64x1280.Idx := (xSl s).view.set
theorem xSlSet_eq : xSlSet = fun s => (Rect.unit (s := S2x64x1280) (slotOff s) S1x64x1280.size (xSlot_inb s)).set := funext xSl_set
theorem xSl_disjoint : ∀ s s', s ≠ s' → Disjoint (xSlSet s) (xSlSet s') := fun s s' h => by
  rw [xSlSet_eq]
  exact Ring.lead_disjoint (s := S2x64x1280) 0 1 slotOff S1x64x1280.size xSlot_inb (by decide) rfl s s' h
theorem xSl_cover : (Finset.univ : Finset (Fin 2)).biUnion xSlSet = Finset.univ := by
  rw [xSlSet_eq]
  exact Ring.lead_cover (s := S2x64x1280) 0 1 slotOff S1x64x1280.size xSlot_inb (by decide) (by decide) rfl (by decide) rfl
theorem x_out : iprop(∃ f : Buf (Elt F) ((c : Thread nD τ).loc cc0_scoped27), ((c : Thread nD τ).loc cc0_scoped27) ↦{fullShare} f)
    ⊢ (iprop(some_ c (xSl (Ring.sl 2 0)) ∗ some_ c (xSl (Ring.sl 2 (0 + 1)))) : sProp 𝕄) :=
  slots_out (ℓ := (c : Thread nD τ).loc cc0_scoped27) xSlSet xSl_disjoint xSl_cover
theorem x_in : (iprop(some_ c (xSl (Ring.sl 2 0)) ∗ some_ c (xSl (Ring.sl 2 (0 + 1)))) : sProp 𝕄)
    ⊢ iprop(∃ f : Buf (Elt F) ((c : Thread nD τ).loc cc0_scoped27), ((c : Thread nD τ).loc cc0_scoped27) ↦{fullShare} f) :=
  slots_in (ℓ := (c : Thread nD τ).loc cc0_scoped27) xSlSet xSl_disjoint xSl_cover

theorem ySl_set (s : Fin 2) : (ySl s).view.set = (Rect.unit (s := S2x32x128) (slotOff s) S1x32x128.size (ySlot_inb s)).set := (View.set_reshape _ _).trans (View.set_slice_whole _ _)
abbrev ySlSet (s : Fin 2) : Finset S2x32x128.Idx := (ySl s).view.set
theorem ySlSet_eq : ySlSet = fun s => (Rect.unit (s := S2x32x128) (slotOff s) S1x32x128.size (ySlot_inb s)).set := funext ySl_set
theorem ySl_disjoint : ∀ s s', s ≠ s' → Disjoint (ySlSet s) (ySlSet s') := fun s s' h => by
  rw [ySlSet_eq]
  exact Ring.lead_disjoint (s := S2x32x128) 0 1 slotOff S1x32x128.size ySlot_inb (by decide) rfl s s' h
theorem ySl_cover : (Finset.univ : Finset (Fin 2)).biUnion ySlSet = Finset.univ := by
  rw [ySlSet_eq]
  exact Ring.lead_cover (s := S2x32x128) 0 1 slotOff S1x32x128.size ySlot_inb (by decide) (by decide) rfl (by decide) rfl
theorem y_out : iprop(∃ f : Buf (Elt F) ((c : Thread nD τ).loc cc0_scoped29), ((c : Thread nD τ).loc cc0_scoped29) ↦{fullShare} f)
    ⊢ (iprop(some_ c (ySl (Ring.sl 2 0)) ∗ some_ c (ySl (Ring.sl 2 (0 + 1)))) : sProp 𝕄) :=
  slots_out (ℓ := (c : Thread nD τ).loc cc0_scoped29) ySlSet ySl_disjoint ySl_cover
theorem y_in : (iprop(some_ c (ySl (Ring.sl 2 0)) ∗ some_ c (ySl (Ring.sl 2 (0 + 1)))) : sProp 𝕄)
    ⊢ iprop(∃ f : Buf (Elt F) ((c : Thread nD τ).loc cc0_scoped29), ((c : Thread nD τ).loc cc0_scoped29) ↦{fullShare} f) :=
  slots_in (ℓ := (c : Thread nD τ).loc cc0_scoped29) ySlSet ySl_disjoint ySl_cover

theorem zSl_set (s : Fin 2) : (zSl s).view.set = (Rect.unit (s := S2x64x1024) (slotOff s) S1x64x1024.size (zSlot_inb s)).set := (View.set_reshape _ _).trans (View.set_slice_whole _ _)
abbrev zSlSet (s : Fin 2) : Finset S2x64x1024.Idx := (zSl s).view.set
theorem zSlSet_eq : zSlSet = fun s => (Rect.unit (s := S2x64x1024) (slotOff s) S1x64x1024.size (zSlot_inb s)).set := funext zSl_set
theorem zSl_disjoint : ∀ s s', s ≠ s' → Disjoint (zSlSet s) (zSlSet s') := fun s s' h => by
  rw [zSlSet_eq]
  exact Ring.lead_disjoint (s := S2x64x1024) 0 1 slotOff S1x64x1024.size zSlot_inb (by decide) rfl s s' h
theorem zSl_cover : (Finset.univ : Finset (Fin 2)).biUnion zSlSet = Finset.univ := by
  rw [zSlSet_eq]
  exact Ring.lead_cover (s := S2x64x1024) 0 1 slotOff S1x64x1024.size zSlot_inb (by decide) (by decide) rfl (by decide) rfl
theorem z_out : iprop(∃ f : Buf (Elt F) ((c : Thread nD τ).loc cc0_scoped31), ((c : Thread nD τ).loc cc0_scoped31) ↦{fullShare} f)
    ⊢ (iprop(some_ c (zSl (Ring.sl 2 0)) ∗ some_ c (zSl (Ring.sl 2 (0 + 1)))) : sProp 𝕄) :=
  slots_out (ℓ := (c : Thread nD τ).loc cc0_scoped31) zSlSet zSl_disjoint zSl_cover
theorem z_in : (iprop(some_ c (zSl (Ring.sl 2 0)) ∗ some_ c (zSl (Ring.sl 2 (0 + 1)))) : sProp 𝕄)
    ⊢ iprop(∃ f : Buf (Elt F) ((c : Thread nD τ).loc cc0_scoped31), ((c : Thread nD τ).loc cc0_scoped31) ↦{fullShare} f) :=
  slots_in (ℓ := (c : Thread nD τ).loc cc0_scoped31) zSlSet zSl_disjoint zSl_cover

theorem tSl_set (s : Fin 2) : (tSl s).view.set = (Rect.unit (s := S2x8x384) (slotOff s) S1x8x384.size (tSlot_inb s)).set := (View.set_reshape _ _).trans (View.set_slice_whole _ _)
abbrev tSlSet (s : Fin 2) : Finset S2x8x384.Idx := (tSl s).view.set
theorem tSlSet_eq : tSlSet = fun s => (Rect.unit (s := S2x8x384) (slotOff s) S1x8x384.size (tSlot_inb s)).set := funext tSl_set
theorem tSl_disjoint : ∀ s s', s ≠ s' → Disjoint (tSlSet s) (tSlSet s') := fun s s' h => by
  rw [tSlSet_eq]
  exact Ring.lead_disjoint (s := S2x8x384) 0 1 slotOff S1x8x384.size tSlot_inb (by decide) rfl s s' h
theorem tSl_cover : (Finset.univ : Finset (Fin 2)).biUnion tSlSet = Finset.univ := by
  rw [tSlSet_eq]
  exact Ring.lead_cover (s := S2x8x384) 0 1 slotOff S1x8x384.size tSlot_inb (by decide) (by decide) rfl (by decide) rfl
theorem t_out : iprop(∃ f : Buf (Elt F) ((c : Thread nD τ).loc cc0_scoped33), ((c : Thread nD τ).loc cc0_scoped33) ↦{fullShare} f)
    ⊢ (iprop(some_ c (tSl (Ring.sl 2 0)) ∗ some_ c (tSl (Ring.sl 2 (0 + 1)))) : sProp 𝕄) :=
  slots_out (ℓ := (c : Thread nD τ).loc cc0_scoped33) tSlSet tSl_disjoint tSl_cover
theorem t_in : (iprop(some_ c (tSl (Ring.sl 2 0)) ∗ some_ c (tSl (Ring.sl 2 (0 + 1)))) : sProp 𝕄)
    ⊢ iprop(∃ f : Buf (Elt F) ((c : Thread nD τ).loc cc0_scoped33), ((c : Thread nD τ).loc cc0_scoped33) ↦{fullShare} f) :=
  slots_in (ℓ := (c : Thread nD τ).loc cc0_scoped33) tSlSet tSl_disjoint tSl_cover

/-! ## Each array's tiles -/

theorem aTi_set (b : Fin 8) : (aTi b).view.set = (Rect.unit (s := S1024x9216) (aOff b) S1024x384.size (aOff_inb b)).set := View.set_slice_whole _ _

theorem bTi_set (b : Fin 8) : (bTi b).view.set = (Rect.unit (s := S1x9216) (bOff b) S1x384.size (bOff_inb b)).set := View.set_slice_whole _ _

theorem cTi_set (b : Fin 8) : (cTi b).view.set = (Rect.unit (s := S1024x2816) (cOff b) S128x2816.size (cOff_inb b)).set := View.set_slice_whole _ _
theorem c_tiles (f : Buf (Elt F) ((c : Thread nD τ).loc main_arg4)) : (((c : Thread nD τ).loc main_arg4) ↦{fullShare} f : sProp 𝕄) = bigSep Finset.univ fun b => ownP c (cTi b) f := by
  rw [Ring.pointsTo_blocks (ℓ := (c : Thread nD τ).loc main_arg4) (fun b => (Rect.unit (s := S1024x2816) (cOff b) S128x2816.size (cOff_inb b)).set)
    (Ring.lead_disjoint (s := S1024x2816) 0 128 cOff S128x2816.size cOff_inb (fun _ => rfl) rfl)
    (Ring.lead_cover (s := S1024x2816) 0 128 cOff S128x2816.size cOff_inb (fun _ => rfl) (by decide) rfl (by decide) rfl)]
  exact bigSep_congr fun b _ => by rw [← cTi_set]; rfl

theorem dTi_set (b : Fin 8) : (dTi b).view.set = (Rect.unit (s := S1024x2816) (dOff b) S128x2816.size (dOff_inb b)).set := View.set_slice_whole _ _
theorem d_tiles (f : Buf (Elt F) ((c : Thread nD τ).loc main_arg5)) : (((c : Thread nD τ).loc main_arg5) ↦{fullShare} f : sProp 𝕄) = bigSep Finset.univ fun b => ownP c (dTi b) f := by
  rw [Ring.pointsTo_blocks (ℓ := (c : Thread nD τ).loc main_arg5) (fun b => (Rect.unit (s := S1024x2816) (dOff b) S128x2816.size (dOff_inb b)).set)
    (Ring.lead_disjoint (s := S1024x2816) 0 128 dOff S128x2816.size dOff_inb (fun _ => rfl) rfl)
    (Ring.lead_cover (s := S1024x2816) 0 128 dOff S128x2816.size dOff_inb (fun _ => rfl) (by decide) rfl (by decide) rfl)]
  exact bigSep_congr fun b _ => by rw [← dTi_set]; rfl

theorem eTi_set (b : Fin 8) : (eTi b).view.set = (Rect.unit (s := S2816x1024) (eOff b) S352x1024.size (eOff_inb b)).set := View.set_slice_whole _ _
theorem e_tiles (f : Buf (Elt F) ((c : Thread nD τ).loc main_arg6)) : (((c : Thread nD τ).loc main_arg6) ↦{fullShare} f : sProp 𝕄) = bigSep Finset.univ fun b => ownP c (eTi b) f := by
  rw [Ring.pointsTo_blocks (ℓ := (c : Thread nD τ).loc main_arg6) (fun b => (Rect.unit (s := S2816x1024) (eOff b) S352x1024.size (eOff_inb b)).set)
    (Ring.lead_disjoint (s := S2816x1024) 0 352 eOff S352x1024.size eOff_inb (fun _ => rfl) rfl)
    (Ring.lead_cover (s := S2816x1024) 0 352 eOff S352x1024.size eOff_inb (fun _ => rfl) (by decide) rfl (by decide) rfl)]
  exact bigSep_congr fun b _ => by rw [← eTi_set]; rfl

theorem hTi_set (b : Fin 16) : (hTi b).view.set = (Rect.unit (s := S16384x1024) (hOff b) S1024x1024.size (hOff_inb b)).set := View.set_slice_whole _ _
theorem h_tiles (f : Buf (Elt F) ((c : Thread nD τ).loc main_v0)) : (((c : Thread nD τ).loc main_v0) ↦{fullShare} f : sProp 𝕄) = bigSep Finset.univ fun b => ownP c (hTi b) f := by
  rw [Ring.pointsTo_blocks (ℓ := (c : Thread nD τ).loc main_v0) (fun b => (Rect.unit (s := S16384x1024) (hOff b) S1024x1024.size (hOff_inb b)).set)
    (Ring.lead_disjoint (s := S16384x1024) 0 1024 hOff S1024x1024.size hOff_inb (fun _ => rfl) rfl)
    (Ring.lead_cover (s := S16384x1024) 0 1024 hOff S1024x1024.size hOff_inb (fun _ => rfl) (by decide) rfl (by decide) rfl)]
  exact bigSep_congr fun b _ => by rw [← hTi_set]; rfl

theorem iTi_set (b : Fin 16) : (iTi b).view.set = (Rect.unit (s := S1024x1280) (iOff b) S64x1280.size (iOff_inb b)).set := View.set_slice_whole _ _
theorem i_tiles (f : Buf (Elt F) ((c : Thread nD τ).loc main_arg9)) : (((c : Thread nD τ).loc main_arg9) ↦{fullShare} f : sProp 𝕄) = bigSep Finset.univ fun b => ownP c (iTi b) f := by
  rw [Ring.pointsTo_blocks (ℓ := (c : Thread nD τ).loc main_arg9) (fun b => (Rect.unit (s := S1024x1280) (iOff b) S64x1280.size (iOff_inb b)).set)
    (Ring.lead_disjoint (s := S1024x1280) 0 64 iOff S64x1280.size iOff_inb (fun _ => rfl) rfl)
    (Ring.lead_cover (s := S1024x1280) 0 64 iOff S64x1280.size iOff_inb (fun _ => rfl) (by decide) rfl (by decide) rfl)]
  exact bigSep_congr fun b _ => by rw [← iTi_set]; rfl

theorem pTi_set (b : Fin 16) : (pTi b).view.set = (Rect.unit (s := S512x128) (pOff b) S32x128.size (pOff_inb b)).set := View.set_slice_whole _ _
theorem p_tiles (f : Buf (Elt F) ((c : Thread nD τ).loc main_v1)) : (((c : Thread nD τ).loc main_v1) ↦{fullShare} f : sProp 𝕄) = bigSep Finset.univ fun b => ownP c (pTi b) f := by
  rw [Ring.pointsTo_blocks (ℓ := (c : Thread nD τ).loc main_v1) (fun b => (Rect.unit (s := S512x128) (pOff b) S32x128.size (pOff_inb b)).set)
    (Ring.lead_disjoint (s := S512x128) 0 32 pOff S32x128.size pOff_inb (fun _ => rfl) rfl)
    (Ring.lead_cover (s := S512x128) 0 32 pOff S32x128.size pOff_inb (fun _ => rfl) (by decide) rfl (by decide) rfl)]
  exact bigSep_congr fun b _ => by rw [← pTi_set]; rfl

theorem qTi_set (b : Fin 16) : (qTi b).view.set = (Rect.unit (s := S1024x1024) (qOff b) S64x1024.size (qOff_inb b)).set := View.set_slice_whole _ _
theorem q_tiles (f : Buf (Elt F) ((c : Thread nD τ).loc main_arg11)) : (((c : Thread nD τ).loc main_arg11) ↦{fullShare} f : sProp 𝕄) = bigSep Finset.univ fun b => ownP c (qTi b) f := by
  rw [Ring.pointsTo_blocks (ℓ := (c : Thread nD τ).loc main_arg11) (fun b => (Rect.unit (s := S1024x1024) (qOff b) S64x1024.size (qOff_inb b)).set)
    (Ring.lead_disjoint (s := S1024x1024) 0 64 qOff S64x1024.size qOff_inb (fun _ => rfl) rfl)
    (Ring.lead_cover (s := S1024x1024) 0 64 qOff S64x1024.size qOff_inb (fun _ => rfl) (by decide) rfl (by decide) rfl)]
  exact bigSep_congr fun b _ => by rw [← qTi_set]; rfl

theorem uTi_set (b : Fin 16) : (uTi b).view.set = (Rect.unit (s := S1024x9216) (uOff b) S1024x384.size (uOff_inb b)).set := View.set_slice_whole _ _

theorem vTi_set (b : Fin 16) : (vTi b).view.set = (Rect.unit (s := S1x9216) (vOff b) S1x384.size (vOff_inb b)).set := View.set_slice_whole _ _

theorem oTi_set (b : Fin 16) : (oTi b).view.set = (Rect.unit (s := S16384x1024) (oOff b) S1024x1024.size (oOff_inb b)).set := View.set_slice_whole _ _
theorem o_tiles (f : Buf (Elt F) ((c : Thread nD τ).loc main_v6_0)) : (((c : Thread nD τ).loc main_v6_0) ↦{fullShare} f : sProp 𝕄) = bigSep Finset.univ fun b => ownP c (oTi b) f := by
  rw [Ring.pointsTo_blocks (ℓ := (c : Thread nD τ).loc main_v6_0) (fun b => (Rect.unit (s := S16384x1024) (oOff b) S1024x1024.size (oOff_inb b)).set)
    (Ring.lead_disjoint (s := S16384x1024) 0 1024 oOff S1024x1024.size oOff_inb (fun _ => rfl) rfl)
    (Ring.lead_cover (s := S16384x1024) 0 1024 oOff S1024x1024.size oOff_inb (fun _ => rfl) (by decide) rfl (by decide) rfl)]
  exact bigSep_congr fun b _ => by rw [← oTi_set]; rfl

theorem xTi_set (b : Fin 16) : (xTi b).view.set = (Rect.unit (s := S1024x1280) (xOff b) S64x1280.size (xOff_inb b)).set := View.set_slice_whole _ _
theorem x_tiles (f : Buf (Elt F) ((c : Thread nD τ).loc main_v6_1)) : (((c : Thread nD τ).loc main_v6_1) ↦{fullShare} f : sProp 𝕄) = bigSep Finset.univ fun b => ownP c (xTi b) f := by
  rw [Ring.pointsTo_blocks (ℓ := (c : Thread nD τ).loc main_v6_1) (fun b => (Rect.unit (s := S1024x1280) (xOff b) S64x1280.size (xOff_inb b)).set)
    (Ring.lead_disjoint (s := S1024x1280) 0 64 xOff S64x1280.size xOff_inb (fun _ => rfl) rfl)
    (Ring.lead_cover (s := S1024x1280) 0 64 xOff S64x1280.size xOff_inb (fun _ => rfl) (by decide) rfl (by decide) rfl)]
  exact bigSep_congr fun b _ => by rw [← xTi_set]; rfl

theorem yTi_set (b : Fin 16) : (yTi b).view.set = (Rect.unit (s := S512x128) (yOff b) S32x128.size (yOff_inb b)).set := View.set_slice_whole _ _
theorem y_tiles (f : Buf (Elt F) ((c : Thread nD τ).loc main_v6_2)) : (((c : Thread nD τ).loc main_v6_2) ↦{fullShare} f : sProp 𝕄) = bigSep Finset.univ fun b => ownP c (yTi b) f := by
  rw [Ring.pointsTo_blocks (ℓ := (c : Thread nD τ).loc main_v6_2) (fun b => (Rect.unit (s := S512x128) (yOff b) S32x128.size (yOff_inb b)).set)
    (Ring.lead_disjoint (s := S512x128) 0 32 yOff S32x128.size yOff_inb (fun _ => rfl) rfl)
    (Ring.lead_cover (s := S512x128) 0 32 yOff S32x128.size yOff_inb (fun _ => rfl) (by decide) rfl (by decide) rfl)]
  exact bigSep_congr fun b _ => by rw [← yTi_set]; rfl

theorem zTi_set (b : Fin 16) : (zTi b).view.set = (Rect.unit (s := S1024x1024) (zOff b) S64x1024.size (zOff_inb b)).set := View.set_slice_whole _ _
theorem z_tiles (f : Buf (Elt F) ((c : Thread nD τ).loc main_v6_3)) : (((c : Thread nD τ).loc main_v6_3) ↦{fullShare} f : sProp 𝕄) = bigSep Finset.univ fun b => ownP c (zTi b) f := by
  rw [Ring.pointsTo_blocks (ℓ := (c : Thread nD τ).loc main_v6_3) (fun b => (Rect.unit (s := S1024x1024) (zOff b) S64x1024.size (zOff_inb b)).set)
    (Ring.lead_disjoint (s := S1024x1024) 0 64 zOff S64x1024.size zOff_inb (fun _ => rfl) rfl)
    (Ring.lead_cover (s := S1024x1024) 0 64 zOff S64x1024.size zOff_inb (fun _ => rfl) (by decide) rfl (by decide) rfl)]
  exact bigSep_congr fun b _ => by rw [← zTi_set]; rfl

theorem tTi_set (b : Fin 16) : (tTi b).view.set = (Rect.unit (s := S8x6144) (tOff b) S8x384.size (tOff_inb b)).set := View.set_slice_whole _ _
theorem t_tiles (f : Buf (Elt F) ((c : Thread nD τ).loc main_v6_4)) : (((c : Thread nD τ).loc main_v6_4) ↦{fullShare} f : sProp 𝕄) = bigSep Finset.univ fun b => ownP c (tTi b) f := by
  rw [Ring.pointsTo_blocks (ℓ := (c : Thread nD τ).loc main_v6_4) (fun b => (Rect.unit (s := S8x6144) (tOff b) S8x384.size (tOff_inb b)).set)
    (Ring.lead_disjoint (s := S8x6144) 1 384 tOff S8x384.size tOff_inb (fun _ => rfl) rfl)
    (Ring.lead_cover (s := S8x6144) 1 384 tOff S8x384.size tOff_inb (fun _ => rfl) (by decide) rfl (by decide) rfl)]
  exact bigSep_congr fun b _ => by rw [← tTi_set]; rfl

/-! ## The projection and the bias: eight blocks of columns for this sub-layer, sixteen for the later ones -/

abbrev blockNo : Fin 8 ⊕ Fin 16 → ℕ := Sum.elim (fun b => b.val) fun b => 8 + b.val
theorem blockNo_ne : ∀ i j : Fin 8 ⊕ Fin 16, i ≠ j → blockNo i ≠ blockNo j := by decide +kernel
theorem blockNo_onto : ∀ n : Fin 24, ∃ i : Fin 8 ⊕ Fin 16, blockNo i = n.val := by decide +kernel
/-- Sets told apart by a value of their elements are disjoint, and cover when the value is always in range. -/
theorem blocks_disjoint {α : Type} {I : Fin 8 ⊕ Fin 16 → Finset α} {v : α → ℕ} (h : ∀ i y, y ∈ I i ↔ v y = blockNo i) :
    ∀ i j, i ≠ j → Disjoint (I i) (I j) := fun i j hne =>
  Finset.disjoint_left.2 fun y hy hy' => blockNo_ne i j hne (((h i y).1 hy).symm.trans ((h j y).1 hy'))
theorem blocks_cover {α : Type} [Fintype α] [DecidableEq α] {I : Fin 8 ⊕ Fin 16 → Finset α} {v : α → ℕ} (h : ∀ i y, y ∈ I i ↔ v y = blockNo i)
    (hv : ∀ y, v y < 24) : Finset.univ.biUnion I = Finset.univ :=
  Finset.eq_univ_of_forall fun y => by
    obtain ⟨i, hi⟩ := blockNo_onto ⟨v y, hv y⟩
    exact Finset.mem_biUnion.2 ⟨i, Finset.mem_univ _, (h i y).2 hi.symm⟩

abbrev wideSet : Fin 8 ⊕ Fin 16 → Finset S1024x9216.Idx :=
  Sum.elim (fun b => (Rect.unit (s := S1024x9216) (aOff b) S1024x384.size (aOff_inb b)).set) fun b => (Rect.unit (s := S1024x9216) (uOff b) S1024x384.size (uOff_inb b)).set
theorem mem_wideSet : ∀ (i) (y : S1024x9216.Idx), y ∈ wideSet i ↔ (y 1).val / 384 = blockNo i := by
  have hr : ∀ y : S1024x9216.Idx, (y 0).val < 1024 := fun y => (y 0).isLt
  rintro (b | b) y
  · show y ∈ (Rect.unit (s := S1024x9216) (aOff b) S1024x384.size (aOff_inb b)).set ↔ (y 1).val / 384 = b.val
    have h0 := hr y
    rw [Rect.mem_set_unit]
    refine ⟨fun H => ?_, fun H => Fin.forall_fin_two.2 ⟨?_, ?_⟩⟩
    · have h1 : 384 * b.val ≤ (y 1).val ∧ (y 1).val < 384 * b.val + 384 := H 1
      omega
    · show 0 ≤ (y 0).val ∧ (y 0).val < 0 + 1024
      omega
    · show 384 * b.val ≤ (y 1).val ∧ (y 1).val < 384 * b.val + 384
      omega
  · show y ∈ (Rect.unit (s := S1024x9216) (uOff b) S1024x384.size (uOff_inb b)).set ↔ (y 1).val / 384 = 8 + b.val
    have h0 := hr y
    rw [Rect.mem_set_unit]
    refine ⟨fun H => ?_, fun H => Fin.forall_fin_two.2 ⟨?_, ?_⟩⟩
    · have h1 : 384 * (8 + b.val) ≤ (y 1).val ∧ (y 1).val < 384 * (8 + b.val) + 384 := H 1
      omega
    · show 0 ≤ (y 0).val ∧ (y 0).val < 0 + 1024
      omega
    · show 384 * (8 + b.val) ≤ (y 1).val ∧ (y 1).val < 384 * (8 + b.val) + 384
      omega
theorem wide_lt (y : S1024x9216.Idx) : (y 1).val / 384 < 24 := by
  have h : (y 1).val < 9216 := (y 1).isLt
  omega

abbrev thinSet : Fin 8 ⊕ Fin 16 → Finset S1x9216.Idx :=
  Sum.elim (fun b => (Rect.unit (s := S1x9216) (bOff b) S1x384.size (bOff_inb b)).set) fun b => (Rect.unit (s := S1x9216) (vOff b) S1x384.size (vOff_inb b)).set
theorem mem_thinSet : ∀ (i) (y : S1x9216.Idx), y ∈ thinSet i ↔ (y 1).val / 384 = blockNo i := by
  have hr : ∀ y : S1x9216.Idx, (y 0).val < 1 := fun y => (y 0).isLt
  rintro (b | b) y
  · show y ∈ (Rect.unit (s := S1x9216) (bOff b) S1x384.size (bOff_inb b)).set ↔ (y 1).val / 384 = b.val
    have h0 := hr y
    rw [Rect.mem_set_unit]
    refine ⟨fun H => ?_, fun H => Fin.forall_fin_two.2 ⟨?_, ?_⟩⟩
    · have h1 : 384 * b.val ≤ (y 1).val ∧ (y 1).val < 384 * b.val + 384 := H 1
      omega
    · show 0 ≤ (y 0).val ∧ (y 0).val < 0 + 1
      omega
    · show 384 * b.val ≤ (y 1).val ∧ (y 1).val < 384 * b.val + 384
      omega
  · show y ∈ (Rect.unit (s := S1x9216) (vOff b) S1x384.size (vOff_inb b)).set ↔ (y 1).val / 384 = 8 + b.val
    have h0 := hr y
    rw [Rect.mem_set_unit]
    refine ⟨fun H => ?_, fun H => Fin.forall_fin_two.2 ⟨?_, ?_⟩⟩
    · have h1 : 384 * (8 + b.val) ≤ (y 1).val ∧ (y 1).val < 384 * (8 + b.val) + 384 := H 1
      omega
    · show 0 ≤ (y 0).val ∧ (y 0).val < 0 + 1
      omega
    · show 384 * (8 + b.val) ≤ (y 1).val ∧ (y 1).val < 384 * (8 + b.val) + 384
      omega
theorem thin_lt (y : S1x9216.Idx) : (y 1).val / 384 < 24 := by
  have h : (y 1).val < 9216 := (y 1).isLt
  omega
theorem wide_tiles (f : Buf (Elt F) ((c : Thread nD τ).loc main_arg2)) : (((c : Thread nD τ).loc main_arg2) ↦{fullShare} f : sProp 𝕄)
    = iprop((bigSep Finset.univ fun b => ownP c (aTi b) f) ∗ bigSep Finset.univ fun b => ownP c (uTi b) f) := by
  rw [Ring.pointsTo_blocks (ℓ := (c : Thread nD τ).loc main_arg2) wideSet (blocks_disjoint mem_wideSet) (blocks_cover mem_wideSet wide_lt), bigSep_univ_sum]
  refine congrArg₂ (fun P Q : sProp 𝕄 => iprop(P ∗ Q)) (bigSep_congr fun b _ => ?_) (bigSep_congr fun b _ => ?_)
  · show (((c : Thread nD τ).loc main_arg2) ↦[(Rect.unit (s := S1024x9216) (aOff b) S1024x384.size (aOff_inb b)).set]{fullShare} f : sProp 𝕄) = _
    rw [← aTi_set]; rfl
  · show (((c : Thread nD τ).loc main_arg2) ↦[(Rect.unit (s := S1024x9216) (uOff b) S1024x384.size (uOff_inb b)).set]{fullShare} f : sProp 𝕄) = _
    rw [← uTi_set]; rfl
theorem b_tiles (f : Buf (Elt F) ((c : Thread nD τ).loc main_v3)) : (((c : Thread nD τ).loc main_v3) ↦{fullShare} f : sProp 𝕄)
    ⊢ bigSep Finset.univ fun b => ownP c (bTi b) f := by
  rw [Ring.pointsTo_blocks (ℓ := (c : Thread nD τ).loc main_v3) thinSet (blocks_disjoint mem_thinSet) (blocks_cover mem_thinSet thin_lt), bigSep_univ_sum]
  rw [show (bigSep Finset.univ fun b => ownP c (bTi b) f : sProp 𝕄)
    = bigSep Finset.univ fun b => ((c : Thread nD τ).loc main_v3) ↦[(Rect.unit (s := S1x9216) (bOff b) S1x384.size (bOff_inb b)).set]{fullShare} f from
      bigSep_congr fun b _ => by rw [← bTi_set]; rfl]
  show iprop((bigSep Finset.univ fun b => ((c : Thread nD τ).loc main_v3) ↦[(Rect.unit (s := S1x9216) (bOff b) S1x384.size (bOff_inb b)).set]{fullShare} f)
    ∗ bigSep Finset.univ fun b => ((c : Thread nD τ).loc main_v3) ↦[(Rect.unit (s := S1x9216) (vOff b) S1x384.size (vOff_inb b)).set]{fullShare} f) ⊢ (_ : sProp 𝕄)
  iintro ⟨H, -⟩
  iexact H
theorem v_tiles (f : Buf (Elt F) ((c : Thread nD τ).loc main_v2)) : (((c : Thread nD τ).loc main_v2) ↦{fullShare} f : sProp 𝕄)
    ⊢ bigSep Finset.univ fun b => ownP c (vTi b) f := by
  rw [Ring.pointsTo_blocks (ℓ := (c : Thread nD τ).loc main_v2) thinSet (blocks_disjoint mem_thinSet) (blocks_cover mem_thinSet thin_lt), bigSep_univ_sum]
  rw [show (bigSep Finset.univ fun b => ownP c (vTi b) f : sProp 𝕄)
    = bigSep Finset.univ fun b => ((c : Thread nD τ).loc main_v2) ↦[(Rect.unit (s := S1x9216) (vOff b) S1x384.size (vOff_inb b)).set]{fullShare} f from
      bigSep_congr fun b _ => by rw [← vTi_set]; rfl]
  show iprop((bigSep Finset.univ fun b => ((c : Thread nD τ).loc main_v2) ↦[(Rect.unit (s := S1x9216) (bOff b) S1x384.size (bOff_inb b)).set]{fullShare} f)
    ∗ bigSep Finset.univ fun b => ((c : Thread nD τ).loc main_v2) ↦[(Rect.unit (s := S1x9216) (vOff b) S1x384.size (vOff_inb b)).set]{fullShare} f) ⊢ (_ : sProp 𝕄)
  iintro ⟨-, H⟩
  iexact H

/-! ## The two results, tile by tile -/

theorem oRow_lt (y : S16384x1024.Idx) : (y 0).val / 1024 < 16 := by
  have h : (y 0).val < 16384 := (y 0).isLt
  omega
theorem tCol_lt (y : S8x6144.Idx) : (y 1).val / 384 < 16 := by
  have h : (y 1).val < 6144 := (y 1).isLt
  omega
/-- The array whose rows' tile `b` is `T b`, -/
def stackO {α : Type} (T : Fin 16 → S1024x1024.Idx → α) : S16384x1024.Idx → α := fun y =>
  T ⟨(y 0).val / 1024, oRow_lt y⟩ (ix2 ⟨(y 0).val % 1024, Nat.mod_lt _ (by decide)⟩ ⟨(y 1).val, (y 1).isLt⟩)
/-- and the one whose columns' block `b` is. -/
def stackT {α : Type} (T : Fin 16 → S8x384.Idx → α) : S8x6144.Idx → α := fun y =>
  T ⟨(y 1).val / 384, tCol_lt y⟩ (ix2 ⟨(y 0).val, (y 0).isLt⟩ ⟨(y 1).val % 384, Nat.mod_lt _ (by decide)⟩)
theorem read_stackO (T : Fin 16 → Vec F S1024x1024 .f32) (b : Fin 16) :
    (oTi b).view.read (Elt F) (stackO T : S16384x1024.Idx → Elt F .f32) = T b := funext fun x => by
  have hx : (x 0).val < 1024 := (x 0).isLt
  show T ⟨(1024 * b.val + 1 * (x 0).val) / 1024, _⟩ (ix2 ⟨(1024 * b.val + 1 * (x 0).val) % 1024, _⟩ ⟨0 + 1 * (x 1).val, _⟩) = T b x
  have hb : (⟨(1024 * b.val + 1 * (x 0).val) / 1024, by omega⟩ : Fin 16) = b := Fin.ext (by show (1024 * b.val + 1 * (x 0).val) / 1024 = b.val; omega)
  rw [hb]
  refine congrArg (T b) (funext fun a => Fin.ext ?_)
  match a with
  | ⟨0, _⟩ => show (1024 * b.val + 1 * (x 0).val) % 1024 = (x 0).val; omega
  | ⟨1, _⟩ => show 0 + 1 * (x 1).val = (x 1).val; omega
theorem read_stackT (T : Fin 16 → Vec F S8x384 .f32) (b : Fin 16) :
    (tTi b).view.read (Elt F) (stackT T : S8x6144.Idx → Elt F .f32) = T b := funext fun x => by
  have hx : (x 1).val < 384 := (x 1).isLt
  show T ⟨(384 * b.val + 1 * (x 1).val) / 384, _⟩ (ix2 ⟨0 + 1 * (x 0).val, _⟩ ⟨(384 * b.val + 1 * (x 1).val) % 384, _⟩) = T b x
  have hb : (⟨(384 * b.val + 1 * (x 1).val) / 384, by omega⟩ : Fin 16) = b := Fin.ext (by show (384 * b.val + 1 * (x 1).val) / 384 = b.val; omega)
  rw [hb]
  refine congrArg (T b) (funext fun a => Fin.ext ?_)
  match a with
  | ⟨0, _⟩ => show 0 + 1 * (x 0).val = (x 0).val; omega
  | ⟨1, _⟩ => show (384 * b.val + 1 * (x 1).val) % 384 = (x 1).val; omega

/-- A memref at contents that read the same is the same. -/
theorem ownP_congr {sp : Space} {s : Shape} {e : EltTy} (M : Memref sig .tc sp s e) (f g : Buf (Elt F) (M.view.loc (c : Thread nD τ)))
    (h : M.view.read (Elt F) f = M.view.read (Elt F) g) : (ownP c M f : sProp 𝕄) = ownP c M g :=
  (pointsTo_rep (c : Thread nD τ) M f fullShare).trans
    ((congrArg (fun T => (M.view.loc (c : Thread nD τ) ↦[M.view.set]{fullShare} M.view.rep T : sProp 𝕄)) h).trans
      (pointsTo_rep (c : Thread nD τ) M g fullShare).symm)

end Cert.Proof.Ffn0

end
-- ==== Proof.FirstLaunch.lean ====
/- The first feed-forward sub-layer's launch: the kernel's run as the one point of its call, and the whole program's run. -/
module

public import proofs.«01_k».proof.Proof.FirstBody
public import proofs.«01_k».proof.Proof.FirstTiles
public import proofs.«01_k».proof.Proof.Gen.FirstIdeal.Frame
public import Idealize.ShloMosaic.Lib.ValueIdxCore

@[expose] public section

set_option maxHeartbeats 0

noncomputable section

namespace Cert.Proof.Ffn0

open Cert.FirstIdeal Cert.FirstIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 34 → SemLoc sig :=
  ![.dma cc0_scoped11.sem, .dma cc0_scoped35.sem, .dma (aSe (Ring.sl 2 0)).sem, .dma (aSe (Ring.sl 2 (0 + 1))).sem, .dma (bSe (Ring.sl 2 0)).sem, .dma (bSe (Ring.sl 2 (0 + 1))).sem, .dma (cSe (Ring.sl 2 0)).sem, .dma (cSe (Ring.sl 2 (0 + 1))).sem, .dma (dSe (Ring.sl 2 0)).sem, .dma (dSe (Ring.sl 2 (0 + 1))).sem, .dma (eSe (Ring.sl 2 0)).sem, .dma (eSe (Ring.sl 2 (0 + 1))).sem, .dma (hSe (Ring.sl 2 0)).sem, .dma (hSe (Ring.sl 2 (0 + 1))).sem, .dma (iSe (Ring.sl 2 0)).sem, .dma (iSe (Ring.sl 2 (0 + 1))).sem, .dma (pSe (Ring.sl 2 0)).sem, .dma (pSe (Ring.sl 2 (0 + 1))).sem, .dma (qSe (Ring.sl 2 0)).sem, .dma (qSe (Ring.sl 2 (0 + 1))).sem, .dma (uSe (Ring.sl 2 0)).sem, .dma (uSe (Ring.sl 2 (0 + 1))).sem, .dma (vSe (Ring.sl 2 0)).sem, .dma (vSe (Ring.sl 2 (0 + 1))).sem, .dma (oSe (Ring.sl 2 0)).sem, .dma (oSe (Ring.sl 2 (0 + 1))).sem, .dma (xSe (Ring.sl 2 0)).sem, .dma (xSe (Ring.sl 2 (0 + 1))).sem, .dma (ySe (Ring.sl 2 0)).sem, .dma (ySe (Ring.sl 2 (0 + 1))).sem, .dma (zSe (Ring.sl 2 0)).sem, .dma (zSe (Ring.sl 2 (0 + 1))).sem, .dma (tSe (Ring.sl 2 0)).sem, .dma (tSe (Ring.sl 2 (0 + 1))).sem]
theorem ownSemFacts : Pipeline.OwnSemFacts spec0 osem := by decide +kernel
theorem ownSems0_eq (c : Dev nD) : (Pipeline.ownSems0 (Ix := Unit) (Name := ℕ) (U := UU nD τ) (Lvl := ℕ) (Val := Elt F) (τ := τ) osem c : sProp 𝕄)
    = iprop(cellP c cc0_scoped11 ∗ cellP c cc0_scoped35 ∗ cellP c (aSe (Ring.sl 2 0)) ∗ cellP c (aSe (Ring.sl 2 (0 + 1))) ∗ cellP c (bSe (Ring.sl 2 0)) ∗ cellP c (bSe (Ring.sl 2 (0 + 1))) ∗ cellP c (cSe (Ring.sl 2 0)) ∗ cellP c (cSe (Ring.sl 2 (0 + 1))) ∗ cellP c (dSe (Ring.sl 2 0)) ∗ cellP c (dSe (Ring.sl 2 (0 + 1))) ∗ cellP c (eSe (Ring.sl 2 0)) ∗ cellP c (eSe (Ring.sl 2 (0 + 1))) ∗ cellP c (hSe (Ring.sl 2 0)) ∗ cellP c (hSe (Ring.sl 2 (0 + 1))) ∗ cellP c (iSe (Ring.sl 2 0)) ∗ cellP c (iSe (Ring.sl 2 (0 + 1))) ∗ cellP c (pSe (Ring.sl 2 0)) ∗ cellP c (pSe (Ring.sl 2 (0 + 1))) ∗ cellP c (qSe (Ring.sl 2 0)) ∗ cellP c (qSe (Ring.sl 2 (0 + 1))) ∗ cellP c (uSe (Ring.sl 2 0)) ∗ cellP c (uSe (Ring.sl 2 (0 + 1))) ∗ cellP c (vSe (Ring.sl 2 0)) ∗ cellP c (vSe (Ring.sl 2 (0 + 1))) ∗ cellP c (oSe (Ring.sl 2 0)) ∗ cellP c (oSe (Ring.sl 2 (0 + 1))) ∗ cellP c (xSe (Ring.sl 2 0)) ∗ cellP c (xSe (Ring.sl 2 (0 + 1))) ∗ cellP c (ySe (Ring.sl 2 0)) ∗ cellP c (ySe (Ring.sl 2 (0 + 1))) ∗ cellP c (zSe (Ring.sl 2 0)) ∗ cellP c (zSe (Ring.sl 2 (0 + 1))) ∗ cellP c (tSe (Ring.sl 2 0)) ∗ cellP c (tSe (Ring.sl 2 (0 + 1)))) := by
  unfold Pipeline.ownSems0
  exact bigSep_univ_eq_bigSepL [(0 : Fin 34), 1, 2, 3, 4, 5, 6, 7, 8, 9, 10, 11, 12, 13, 14, 15, 16, 17, 18, 19, 20, 21, 22, 23, 24, 25, 26, 27, 28, 29, 30, 31, 32, 33] (by decide +kernel) (by decide +kernel) _

/-! ## The call's one point -/

abbrev at0 : Fin cfg0.N := t0_0
abbrev st0 (t : Fin cfg0.N) : Memref sig .tc .vmem S1x1024 .f32 := win0_0.stage (cfg0.slots t 0)
abbrev st1 (t : Fin cfg0.N) : Memref sig .tc .vmem S1x1024 .f32 := win0_1.stage (cfg0.slots t 1)

/-- What the call is given. -/
abbrev given (c : Dev nD) : Ins F c where
  C := V m c main_arg1
  A := V m c main_arg2
  B := V m c main_v3
  C1 := V m c main_arg4
  C3 := V m c main_arg5
  C2 := V m c main_arg6
  H := V m c main_v0
  I := V m c main_arg9
  P := V m c main_v1
  Q := V m c main_arg11
  V := V m c main_v2
  G := iblk m c 0 at0
  N := iblk m c 1 at0

/-- The two results' arrays at the end. -/
def outBuf (c : Dev nD) (X : Ins F c) : Buf (Elt F) ((c : Thread nD τ).loc main_v6_0) := stackO (tileOut X)
def adaBuf (c : Dev nD) (X : Ins F c) : Buf (Elt F) ((c : Thread nD τ).loc main_v6_4) := stackT (adaOut X)

/-- At the start the output tiles are held as they are, -/
theorem o_home (c : Dev nD) (X : Ins F c) (f : Buf (Elt F) ((c : Thread nD τ).loc main_v6_0)) :
    bigSep Finset.univ (fun b => ownP c (oTi b) f) ⊢ bigSep Finset.univ (oIt X 0) := bigSep_mono fun b _ => by
  show (ownP c (oTi b) f : sProp 𝕄) ⊢ iprop(∃ f, _ ∗ ownP c (oTi b) f)
  iintro H
  iexists _
  isplitr; swap; · iexact H
  ipureintro; exact fun h => absurd h (Nat.not_lt_zero _)
theorem t_home (c : Dev nD) (X : Ins F c) (f : Buf (Elt F) ((c : Thread nD τ).loc main_v6_4)) :
    bigSep Finset.univ (fun b => ownP c (tTi b) f) ⊢ bigSep Finset.univ (tIt X 0) := bigSep_mono fun b _ => by
  show (ownP c (tTi b) f : sProp 𝕄) ⊢ iprop(∃ f, _ ∗ ownP c (tTi b) f)
  iintro H
  iexists _
  isplitr; swap; · iexact H
  ipureintro; exact fun h => absurd h (Nat.not_lt_zero _)
theorem x_home (c : Dev nD) (f : Buf (Elt F) ((c : Thread nD τ).loc main_v6_1)) :
    bigSep Finset.univ (fun b => ownP c (xTi b) f) ⊢ bigSep Finset.univ (xIt F c 0) := bigSep_mono fun b _ => by
  show (ownP c (xTi b) f : sProp 𝕄) ⊢ iprop(∃ f, ownP (F := F) c (xTi b) f)
  iintro H
  iexists _
  iexact H
theorem y_home (c : Dev nD) (f : Buf (Elt F) ((c : Thread nD τ).loc main_v6_2)) :
    bigSep Finset.univ (fun b => ownP c (yTi b) f) ⊢ bigSep Finset.univ (yIt F c 0) := bigSep_mono fun b _ => by
  show (ownP c (yTi b) f : sProp 𝕄) ⊢ iprop(∃ f, ownP (F := F) c (yTi b) f)
  iintro H
  iexists _
  iexact H
theorem z_home (c : Dev nD) (f : Buf (Elt F) ((c : Thread nD τ).loc main_v6_3)) :
    bigSep Finset.univ (fun b => ownP c (zTi b) f) ⊢ bigSep Finset.univ (zIt F c 0) := bigSep_mono fun b _ => by
  show (ownP c (zTi b) f : sProp 𝕄) ⊢ iprop(∃ f, ownP (F := F) c (zTi b) f)
  iintro H
  iexists _
  iexact H
/-- at the end the two results' tiles hold their values. -/
theorem o_close (c : Dev nD) (X : Ins F c) :
    bigSep Finset.univ (oIt X 18) ⊢ bigSep Finset.univ (fun b => ownP c (oTi b) (outBuf c X)) := bigSep_mono fun b _ => by
  show (iprop(∃ f, _ ∗ ownP c (oTi b) f) : sProp 𝕄) ⊢ ownP c (oTi b) (outBuf c X)
  iintro ⟨%f, %hf, H⟩
  iapply (of_eq (ownP_congr c (oTi b) f (outBuf c X) ((hf (by omega)).trans (read_stackO (tileOut X) b).symm)))
  iexact H
theorem t_close (c : Dev nD) (X : Ins F c) :
    bigSep Finset.univ (tIt X 17) ⊢ bigSep Finset.univ (fun b => ownP c (tTi b) (adaBuf c X)) := bigSep_mono fun b _ => by
  show (iprop(∃ f, _ ∗ ownP c (tTi b) f) : sProp 𝕄) ⊢ ownP c (tTi b) (adaBuf c X)
  iintro ⟨%f, %hf, H⟩
  iapply (of_eq (ownP_congr c (tTi b) f (adaBuf c X) ((hf (by omega)).trans (read_stackT (adaOut X) b).symm)))
  iexact H

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := kept c (given m c) (18 * t.val) (17 * t.val)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t))
    = bodyG (st0 t) (hstage0_0 0) (st1 t) (hstage0_1 0) :=
  (congrFun defs_tc _).trans rfl

set_option backward.isDefEq.respectTransparency.types false in
theorem body_obligation (c : Dev nD) : BodyObligation (dats (F := F) m 0 c) (defs₀ (F := F)) 𝒱₀ () Set.univ := fun t => by
  obtain rfl : t = at0 := fin_N0 t
  rw [bigSep_W0, bigSep_W0]
  dsimp only
  simp only [before_w0, before_w1, after_w0, after_w1]
  rw [show (dats m 0 c).Φ at0.castSucc = kept c (given m c) 0 0 from rfl, show (dats m 0 c).Φ at0.succ = kept c (given m c) 18 17 from rfl]
  unfold Dat.owesAt Pipeline.owesWithin
  rw [show (dats m 0 c).owed at0.castSucc = 0 from rfl, show (dats m 0 c).owed at0.succ = 0 from rfl]
  unfold owns
  iintro ⟨HK, ⟨%W, -, HW⟩, ⟨%d0, %f0, %hf0, H0⟩, ⟨%d1, %f1, %hf1, H1⟩⟩
  sl_rw [prog_eq at0]
  iapply (bodyRun c (given m c) (st0 at0) (hstage0_0 0) (st1 at0) (hstage0_1 0))
  unfold handed
  isplitl [HK H0 H1 HW]
  · isplitl [HW]; · iexists W; iexact HW
    isplitl [H0]
    · iexists f0; isplitr; · ipureintro; exact hf0
      iexact H0
    isplitl [H1]
    · iexists f1; isplitr; · ipureintro; exact hf1
      iexact H1
    iexact HK
  · iintro ⟨⟨%W', HW⟩, ⟨%g0, %hg0, H0⟩, ⟨%g1, %hg1, H1⟩, HK⟩
    isplitl [HK]; · iexact HK
    isplitl [HW]
    · iexists W'; isplitr; · ipureintro; exact fun _ _ => Or.inl trivial
      iexact HW
    isplitl [H0]
    · iexists g0; isplitr; · ipureintro; exact hg0
      iexact H0
    iexists g1; isplitr; · ipureintro; exact hg1
    iexact H1

/-! ## The run -/

/-- The call's arguments and results outside the windows, as the kernel takes them. -/
def taken (c : Dev nD) : sProp 𝕄 :=
  iprop((((c : Thread nD τ).loc main_arg1) ↦{fullShare} V m c main_arg1) ∗ (((c : Thread nD τ).loc main_arg2) ↦{fullShare} V m c main_arg2) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg9) ↦{fullShare} V m c main_arg9) ∗ (((c : Thread nD τ).loc main_arg11) ↦{fullShare} V m c main_arg11) ∗ (((c : Thread nD τ).loc main_v0) ↦{fullShare} V m c main_v0) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v6_0) ↦{fullShare} V m c main_v6_0) ∗ (((c : Thread nD τ).loc main_v6_1) ↦{fullShare} V m c main_v6_1) ∗ (((c : Thread nD τ).loc main_v6_2) ↦{fullShare} V m c main_v6_2) ∗ (((c : Thread nD τ).loc main_v6_3) ↦{fullShare} V m c main_v6_3) ∗ (((c : Thread nD τ).loc main_v6_4) ↦{fullShare} V m c main_v6_4) ∗ Pipeline.ownSems0 osem c)
/-- The arguments the call doesn't read. -/
def aside (c : Dev nD) : sProp 𝕄 :=
  iprop((((c : Thread nD τ).loc main_arg0) ↦{fullShare} V m c main_arg0) ∗ (((c : Thread nD τ).loc main_arg3) ↦{fullShare} V m c main_arg3) ∗ (((c : Thread nD τ).loc main_arg7) ↦{fullShare} V m c main_arg7) ∗ (((c : Thread nD τ).loc main_arg8) ↦{fullShare} V m c main_arg8) ∗ (((c : Thread nD τ).loc main_arg10) ↦{fullShare} V m c main_arg10))
/-- The two results, and the arguments the call has read. -/
def result (c : Dev nD) : sProp 𝕄 :=
  iprop((((c : Thread nD τ).loc main_v6_0) ↦{fullShare} outBuf c (given m c))
    ∗ (((c : Thread nD τ).loc main_v6_4) ↦{fullShare} adaBuf c (given m c))
    ∗ (((c : Thread nD τ).loc main_arg1) ↦{fullShare} V m c main_arg1) ∗ (((c : Thread nD τ).loc main_arg2) ↦{fullShare} V m c main_arg2) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg9) ↦{fullShare} V m c main_arg9) ∗ (((c : Thread nD τ).loc main_arg11) ↦{fullShare} V m c main_arg11))

def u₀ : UU nD τ := (initOf (Pipeline.cells cfgs cellOf_inj) (Pipeline.launchToks cfgs cellOf_inj), 1)
/-- The final memory on core `c`, outside the windows' arrays. -/
def QY (c : Dev nD) (s : MemSt nD τ sig (Elt F)) : Prop :=
  s.mem ((c : Thread nD τ).loc main_v6_0) = outBuf c (given m c)
  ∧ s.mem ((c : Thread nD τ).loc main_v6_4) = adaBuf c (given m c)
  ∧ s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6 ∧ s.mem ((c : Thread nD τ).loc main_arg7) = V m c main_arg7 ∧ s.mem ((c : Thread nD τ).loc main_arg8) = V m c main_arg8 ∧ s.mem ((c : Thread nD τ).loc main_arg9) = V m c main_arg9 ∧ s.mem ((c : Thread nD τ).loc main_arg10) = V m c main_arg10 ∧ s.mem ((c : Thread nD τ).loc main_arg11) = V m c main_arg11

theorem kept_in (c : Dev nD) : iprop(taken m c ∗ Pipeline.scopedRest spec0 c) ⊢ (kept c (given m c) 0 0 : sProp 𝕄) := by
  rw [scopedRest0_eq]
  unfold taken kept
  rw [ownSems0_eq]
  iintro ⟨⟨Ac, Aa, A1, A3, A2, Ai, Aq, Ah, Ap, Av, Ab, Ao, Ax, Ay, Az, At, K1, K2, Ka0, Ka1, Kb0, Kb1, Kc0, Kc1, Kd0, Kd1, Ke0, Ke1, Kh0, Kh1, Ki0, Ki1, Kp0, Kp1, Kq0, Kq1, Ku0, Ku1, Kv0, Kv1, Ko0, Ko1, Kx0, Kx1, Ky0, Ky1, Kz0, Kz1, Kt0, Kt1⟩, R0, R1, R2, R3, R4, Bc1, Ba, Bb, Bc, Bd, Be, Bh, Bi, Bp, Bq, Bc2, Bu, Bv, Bo, Bx, By, Bz, Bt⟩
  ihave R0w := (of_eq (some_whole c cc0_scratch0).symm) $$ R0
  ihave R1w := (of_eq (some_whole c cc0_scratch1).symm) $$ R1
  ihave R2w := (of_eq (some_whole c cc0_scratch2).symm) $$ R2
  ihave R3w := (of_eq (some_whole c cc0_scratch3).symm) $$ R3
  ihave R4w := (of_eq (some_whole c cc0_scratch4).symm) $$ R4
  ihave Bc1w := (of_eq (some_whole c cc0_scoped0).symm) $$ Bc1
  ihave Bc2w := (of_eq (some_whole c cc0_scoped20).symm) $$ Bc2
  ihave Acw := (of_eq (ownP_whole c main_arg1 (V m c main_arg1)).symm) $$ Ac
  ihave Aw := (of_eq (wide_tiles c (V m c main_arg2))) $$ Aa
  icases Aw with ⟨Pa, Pu⟩
  ihave Pb := (b_tiles c (V m c main_v3)) $$ Ab
  ihave Pv := (v_tiles c (V m c main_v2)) $$ Av
  ihave Pc := (of_eq (c_tiles c (V m c main_arg4))) $$ A1
  ihave Pd := (of_eq (d_tiles c (V m c main_arg5))) $$ A3
  ihave Pe := (of_eq (e_tiles c (V m c main_arg6))) $$ A2
  ihave Ph := (of_eq (h_tiles c (V m c main_v0))) $$ Ah
  ihave Pi := (of_eq (i_tiles c (V m c main_arg9))) $$ Ai
  ihave Pp := (of_eq (p_tiles c (V m c main_v1))) $$ Ap
  ihave Pq := (of_eq (q_tiles c (V m c main_arg11))) $$ Aq
  ihave Qo := (of_eq (o_tiles c (V m c main_v6_0))) $$ Ao
  ihave Po := (o_home c (given m c) (V m c main_v6_0)) $$ Qo
  ihave Qx := (of_eq (x_tiles c (V m c main_v6_1))) $$ Ax
  ihave Px := (x_home c (V m c main_v6_1)) $$ Qx
  ihave Qy := (of_eq (y_tiles c (V m c main_v6_2))) $$ Ay
  ihave Py := (y_home c (V m c main_v6_2)) $$ Qy
  ihave Qz := (of_eq (z_tiles c (V m c main_v6_3))) $$ Az
  ihave Pz := (z_home c (V m c main_v6_3)) $$ Qz
  ihave Qt := (of_eq (t_tiles c (V m c main_v6_4))) $$ At
  ihave Pt := (t_home c (given m c) (V m c main_v6_4)) $$ Qt
  ihave Baw := (a_out c) $$ Ba
  icases Baw with ⟨Sa0, Sa1⟩
  ihave Bbw := (b_out c) $$ Bb
  icases Bbw with ⟨Sb0, Sb1⟩
  ihave Bcw := (c_out c) $$ Bc
  icases Bcw with ⟨Sc0, Sc1⟩
  ihave Bdw := (d_out c) $$ Bd
  icases Bdw with ⟨Sd0, Sd1⟩
  ihave Bew := (e_out c) $$ Be
  icases Bew with ⟨Se0, Se1⟩
  ihave Bhw := (h_out c) $$ Bh
  icases Bhw with ⟨Sh0, Sh1⟩
  ihave Biw := (i_out c) $$ Bi
  icases Biw with ⟨Si0, Si1⟩
  ihave Bpw := (p_out c) $$ Bp
  icases Bpw with ⟨Sp0, Sp1⟩
  ihave Bqw := (q_out c) $$ Bq
  icases Bqw with ⟨Sq0, Sq1⟩
  ihave Buw := (u_out c) $$ Bu
  icases Buw with ⟨Su0, Su1⟩
  ihave Bvw := (v_out c) $$ Bv
  icases Bvw with ⟨Sv0, Sv1⟩
  ihave Bow := (o_out c) $$ Bo
  icases Bow with ⟨So0, So1⟩
  ihave Bxw := (x_out c) $$ Bx
  icases Bxw with ⟨Sx0, Sx1⟩
  ihave Byw := (y_out c) $$ By
  icases Byw with ⟨Sy0, Sy1⟩
  ihave Bzw := (z_out c) $$ Bz
  icases Bzw with ⟨Sz0, Sz1⟩
  ihave Btw := (t_out c) $$ Bt
  icases Btw with ⟨St0, St1⟩
  isplitl [R0w]; · iexact R0w
  isplitl [Acw]; · iexact Acw
  isplitl [K1]; · iexact K1
  isplitl [K2]; · iexact K2
  isplitl [Bc1w]; · iexact Bc1w
  isplitl [Bc2w]; · iexact Bc2w
  isplitl [R4w]; · iexact R4w
  isplitl [R1w]; · iexact R1w
  isplitl [R2w]; · iexact R2w
  isplitl [R3w]; · iexact R3w
  isplitl [Sa0 Ka0]
  · isplitl [Sa0]; · iexact Sa0
    iexact Ka0
  isplitl [Sa1 Ka1]
  · isplitl [Sa1]; · iexact Sa1
    iexact Ka1
  isplitl [Pa]; · iexact Pa
  isplitl [Sb0 Kb0]
  · isplitl [Sb0]; · iexact Sb0
    iexact Kb0
  isplitl [Sb1 Kb1]
  · isplitl [Sb1]; · iexact Sb1
    iexact Kb1
  isplitl [Pb]; · iexact Pb
  isplitl [Sc0 Kc0]
  · isplitl [Sc0]; · iexact Sc0
    iexact Kc0
  isplitl [Sc1 Kc1]
  · isplitl [Sc1]; · iexact Sc1
    iexact Kc1
  isplitl [Pc]; · iexact Pc
  isplitl [Sd0 Kd0]
  · isplitl [Sd0]; · iexact Sd0
    iexact Kd0
  isplitl [Sd1 Kd1]
  · isplitl [Sd1]; · iexact Sd1
    iexact Kd1
  isplitl [Pd]; · iexact Pd
  isplitl [Se0 Ke0]
  · isplitl [Se0]; · iexact Se0
    iexact Ke0
  isplitl [Se1 Ke1]
  · isplitl [Se1]; · iexact Se1
    iexact Ke1
  isplitl [Pe]; · iexact Pe
  isplitl [Sh0 Kh0]
  · isplitl [Sh0]; · iexact Sh0
    iexact Kh0
  isplitl [Sh1 Kh1]
  · isplitl [Sh1]; · iexact Sh1
    iexact Kh1
  isplitl [Ph]; · iexact Ph
  isplitl [Si0 Ki0]
  · isplitl [Si0]; · iexact Si0
    iexact Ki0
  isplitl [Si1 Ki1]
  · isplitl [Si1]; · iexact Si1
    iexact Ki1
  isplitl [Pi]; · iexact Pi
  isplitl [Sp0 Kp0]
  · isplitl [Sp0]; · iexact Sp0
    iexact Kp0
  isplitl [Sp1 Kp1]
  · isplitl [Sp1]; · iexact Sp1
    iexact Kp1
  isplitl [Pp]; · iexact Pp
  isplitl [Sq0 Kq0]
  · isplitl [Sq0]; · iexact Sq0
    iexact Kq0
  isplitl [Sq1 Kq1]
  · isplitl [Sq1]; · iexact Sq1
    iexact Kq1
  isplitl [Pq]; · iexact Pq
  isplitl [Su0 Ku0]
  · isplitl [Su0]; · iexact Su0
    iexact Ku0
  isplitl [Su1 Ku1]
  · isplitl [Su1]; · iexact Su1
    iexact Ku1
  isplitl [Pu]; · iexact Pu
  isplitl [Sv0 Kv0]
  · isplitl [Sv0]; · iexact Sv0
    iexact Kv0
  isplitl [Sv1 Kv1]
  · isplitl [Sv1]; · iexact Sv1
    iexact Kv1
  isplitl [Pv]; · iexact Pv
  isplitl [So0 Ko0]
  · isplitl [So0]; · iexact So0
    iexact Ko0
  isplitl [So1 Ko1]
  · isplitl [So1]; · iexact So1
    iexact Ko1
  isplitl [Po]; · iexact Po
  isplitl [Sx0 Kx0]
  · isplitl [Sx0]; · iexact Sx0
    iexact Kx0
  isplitl [Sx1 Kx1]
  · isplitl [Sx1]; · iexact Sx1
    iexact Kx1
  isplitl [Px]; · iexact Px
  isplitl [Sy0 Ky0]
  · isplitl [Sy0]; · iexact Sy0
    iexact Ky0
  isplitl [Sy1 Ky1]
  · isplitl [Sy1]; · iexact Sy1
    iexact Ky1
  isplitl [Py]; · iexact Py
  isplitl [Sz0 Kz0]
  · isplitl [Sz0]; · iexact Sz0
    iexact Kz0
  isplitl [Sz1 Kz1]
  · isplitl [Sz1]; · iexact Sz1
    iexact Kz1
  isplitl [Pz]; · iexact Pz
  isplitl [St0 Kt0]
  · isplitl [St0]; · iexact St0
    iexact Kt0
  isplitl [St1 Kt1]
  · isplitl [St1]; · iexact St1
    iexact Kt1
  iexact Pt

theorem kept_out (c : Dev nD) : (kept c (given m c) 18 17 : sProp 𝕄) ⊢ iprop(result m c ∗ Pipeline.ownSems0 osem c ∗ Pipeline.scopedRest spec0 c) := by
  rw [scopedRest0_eq, ownSems0_eq]
  unfold kept result
  iintro ⟨R0, Ac, K1, K2, Bc1, Bc2, R4, R1, R2, R3, ⟨Sa0, Ka0⟩, ⟨Sa1, Ka1⟩, Pa, ⟨Sb0, Kb0⟩, ⟨Sb1, Kb1⟩, Pb, ⟨Sc0, Kc0⟩, ⟨Sc1, Kc1⟩, Pc, ⟨Sd0, Kd0⟩, ⟨Sd1, Kd1⟩, Pd, ⟨Se0, Ke0⟩, ⟨Se1, Ke1⟩, Pe, ⟨Sh0, Kh0⟩, ⟨Sh1, Kh1⟩, Ph, ⟨Si0, Ki0⟩, ⟨Si1, Ki1⟩, Pi, ⟨Sp0, Kp0⟩, ⟨Sp1, Kp1⟩, Pp, ⟨Sq0, Kq0⟩, ⟨Sq1, Kq1⟩, Pq, ⟨Su0, Ku0⟩, ⟨Su1, Ku1⟩, Pu, ⟨Sv0, Kv0⟩, ⟨Sv1, Kv1⟩, Pv, ⟨So0, Ko0⟩, ⟨So1, Ko1⟩, Po, ⟨Sx0, Kx0⟩, ⟨Sx1, Kx1⟩, Px, ⟨Sy0, Ky0⟩, ⟨Sy1, Ky1⟩, Py, ⟨Sz0, Kz0⟩, ⟨Sz1, Kz1⟩, Pz, ⟨St0, Kt0⟩, ⟨St1, Kt1⟩, Pt⟩
  ihave R0w := (of_eq (some_whole c cc0_scratch0)) $$ R0
  ihave R1w := (of_eq (some_whole c cc0_scratch1)) $$ R1
  ihave R2w := (of_eq (some_whole c cc0_scratch2)) $$ R2
  ihave R3w := (of_eq (some_whole c cc0_scratch3)) $$ R3
  ihave R4w := (of_eq (some_whole c cc0_scratch4)) $$ R4
  ihave Bc1w := (of_eq (some_whole c cc0_scoped0)) $$ Bc1
  ihave Bc2w := (of_eq (some_whole c cc0_scoped20)) $$ Bc2
  ihave Acw := (of_eq (ownP_whole c main_arg1 (V m c main_arg1))) $$ Ac
  ihave Aaw := (of_eq (wide_tiles c (V m c main_arg2)).symm) $$ [Pa Pu]
  · isplitl [Pa]; · iexact Pa
    iexact Pu
  ihave A1w := (of_eq (c_tiles c (V m c main_arg4)).symm) $$ Pc
  ihave A3w := (of_eq (d_tiles c (V m c main_arg5)).symm) $$ Pd
  ihave A2w := (of_eq (e_tiles c (V m c main_arg6)).symm) $$ Pe
  ihave Aiw := (of_eq (i_tiles c (V m c main_arg9)).symm) $$ Pi
  ihave Aqw := (of_eq (q_tiles c (V m c main_arg11)).symm) $$ Pq
  ihave Qo := (o_close c (given m c)) $$ Po
  ihave Qt := (t_close c (given m c)) $$ Pt
  ihave Aow := (of_eq (o_tiles c (outBuf c (given m c))).symm) $$ Qo
  ihave Atw := (of_eq (t_tiles c (adaBuf c (given m c))).symm) $$ Qt
  ihave Ba := (a_in c) $$ [Sa0 Sa1]
  · isplitl [Sa0]; · iexact Sa0
    iexact Sa1
  ihave Bb := (b_in c) $$ [Sb0 Sb1]
  · isplitl [Sb0]; · iexact Sb0
    iexact Sb1
  ihave Bc := (c_in c) $$ [Sc0 Sc1]
  · isplitl [Sc0]; · iexact Sc0
    iexact Sc1
  ihave Bd := (d_in c) $$ [Sd0 Sd1]
  · isplitl [Sd0]; · iexact Sd0
    iexact Sd1
  ihave Be := (e_in c) $$ [Se0 Se1]
  · isplitl [Se0]; · iexact Se0
    iexact Se1
  ihave Bh := (h_in c) $$ [Sh0 Sh1]
  · isplitl [Sh0]; · iexact Sh0
    iexact Sh1
  ihave Bi := (i_in c) $$ [Si0 Si1]
  · isplitl [Si0]; · iexact Si0
    iexact Si1
  ihave Bp := (p_in c) $$ [Sp0 Sp1]
  · isplitl [Sp0]; · iexact Sp0
    iexact Sp1
  ihave Bq := (q_in c) $$ [Sq0 Sq1]
  · isplitl [Sq0]; · iexact Sq0
    iexact Sq1
  ihave Bu := (u_in c) $$ [Su0 Su1]
  · isplitl [Su0]; · iexact Su0
    iexact Su1
  ihave Bv := (v_in c) $$ [Sv0 Sv1]
  · isplitl [Sv0]; · iexact Sv0
    iexact Sv1
  ihave Bo := (o_in c) $$ [So0 So1]
  · isplitl [So0]; · iexact So0
    iexact So1
  ihave Bx := (x_in c) $$ [Sx0 Sx1]
  · isplitl [Sx0]; · iexact Sx0
    iexact Sx1
  ihave By := (y_in c) $$ [Sy0 Sy1]
  · isplitl [Sy0]; · iexact Sy0
    iexact Sy1
  ihave Bz := (z_in c) $$ [Sz0 Sz1]
  · isplitl [Sz0]; · iexact Sz0
    iexact Sz1
  ihave Bt := (t_in c) $$ [St0 St1]
  · isplitl [St0]; · iexact St0
    iexact St1
  isplitl [Aow Atw Acw Aaw A1w A3w A2w Aiw Aqw]
  · isplitl [Aow]; · iexact Aow
    isplitl [Atw]; · iexact Atw
    isplitl [Acw]; · iexact Acw
    isplitl [Aaw]; · iexact Aaw
    isplitl [A1w]; · iexact A1w
    isplitl [A3w]; · iexact A3w
    isplitl [A2w]; · iexact A2w
    isplitl [Aiw]; · iexact Aiw
    iexact Aqw
  isplitl [K1 K2 Ka0 Ka1 Kb0 Kb1 Kc0 Kc1 Kd0 Kd1 Ke0 Ke1 Kh0 Kh1 Ki0 Ki1 Kp0 Kp1 Kq0 Kq1 Ku0 Ku1 Kv0 Kv1 Ko0 Ko1 Kx0 Kx1 Ky0 Ky1 Kz0 Kz1 Kt0 Kt1]
  · isplitl [K1]; · iexact K1
    isplitl [K2]; · iexact K2
    isplitl [Ka0]; · iexact Ka0
    isplitl [Ka1]; · iexact Ka1
    isplitl [Kb0]; · iexact Kb0
    isplitl [Kb1]; · iexact Kb1
    isplitl [Kc0]; · iexact Kc0
    isplitl [Kc1]; · iexact Kc1
    isplitl [Kd0]; · iexact Kd0
    isplitl [Kd1]; · iexact Kd1
    isplitl [Ke0]; · iexact Ke0
    isplitl [Ke1]; · iexact Ke1
    isplitl [Kh0]; · iexact Kh0
    isplitl [Kh1]; · iexact Kh1
    isplitl [Ki0]; · iexact Ki0
    isplitl [Ki1]; · iexact Ki1
    isplitl [Kp0]; · iexact Kp0
    isplitl [Kp1]; · iexact Kp1
    isplitl [Kq0]; · iexact Kq0
    isplitl [Kq1]; · iexact Kq1
    isplitl [Ku0]; · iexact Ku0
    isplitl [Ku1]; · iexact Ku1
    isplitl [Kv0]; · iexact Kv0
    isplitl [Kv1]; · iexact Kv1
    isplitl [Ko0]; · iexact Ko0
    isplitl [Ko1]; · iexact Ko1
    isplitl [Kx0]; · iexact Kx0
    isplitl [Kx1]; · iexact Kx1
    isplitl [Ky0]; · iexact Ky0
    isplitl [Ky1]; · iexact Ky1
    isplitl [Kz0]; · iexact Kz0
    isplitl [Kz1]; · iexact Kz1
    isplitl [Kt0]; · iexact Kt0
    iexact Kt1
  isplitl [R0w]; · iexact R0w
  isplitl [R1w]; · iexact R1w
  isplitl [R2w]; · iexact R2w
  isplitl [R3w]; · iexact R3w
  isplitl [R4w]; · iexact R4w
  isplitl [Bc1w]; · iexact Bc1w
  isplitl [Ba]; · iexact Ba
  isplitl [Bb]; · iexact Bb
  isplitl [Bc]; · iexact Bc
  isplitl [Bd]; · iexact Bd
  isplitl [Be]; · iexact Be
  isplitl [Bh]; · iexact Bh
  isplitl [Bi]; · iexact Bi
  isplitl [Bp]; · iexact Bp
  isplitl [Bq]; · iexact Bq
  isplitl [Bc2w]; · iexact Bc2w
  isplitl [Bu]; · iexact Bu
  isplitl [Bv]; · iexact Bv
  isplitl [Bo]; · iexact Bo
  isplitl [Bx]; · iexact Bx
  isplitl [By]; · iexact By
  isplitl [Bz]; · iexact Bz
  iexact Bt

set_option backward.isDefEq.respectTransparency.types false in
/-- Every fair execution of the program from a memory with its semaphores at zero ends, with every semaphore at zero, the
    windows' arrays as they were and the rest of the memory as `QY` says. -/
theorem run_main : θ_run defs (onTc (τ := τ) (main (F := F))) (s₀ m ρ) (fun r =>
    (∀ c : Dev nD, (∀ w : Fin cfg0.W, r.2.mem ((cfg0.win w).arr.view.loc (c : Thread nD τ)) = (dats m 0 c).arrAt w cfg0.N) ∧ QY m c r.2)
      ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := taken m) (Y := result m) (Z := aside m)
    (hX := fun c => by
      rw [unscopedRest0_eq]
      unfold taken aside
      iintro ⟨⟨A0, A1, A2, A3, A4, A5, A6, A7, A8, A9, A10, A11, V0, V1, V2, V3, O0, O1, O2, O3, O4⟩, HS, -, -, -⟩
      imodintro
      iframe)
    (hin := kept_in m) (hout := kept_out m)
    (QY := QY m)
    (hY := fun c s' => by
      unfold result aside QY
      iintro ⟨⟨HO, HT, A1, A2, A4, A5, A6, A9, A11⟩, ⟨A0, A3, A7, A8, A10⟩, HSI⟩
      icombine HSI HO gives %hO
      icombine HSI HT gives %hT
      icombine HSI A0 gives %h0
      icombine HSI A1 gives %h1
      icombine HSI A2 gives %h2
      icombine HSI A3 gives %h3
      icombine HSI A4 gives %h4
      icombine HSI A5 gives %h5
      icombine HSI A6 gives %h6
      icombine HSI A7 gives %h7
      icombine HSI A8 gives %h8
      icombine HSI A9 gives %h9
      icombine HSI A10 gives %h10
      icombine HSI A11 gives %h11
      imodintro
      isplitr; swap; · iexact HSI
      ipureintro
      exact ⟨Buf.eq_of_forall_mem_univ hO, Buf.eq_of_forall_mem_univ hT, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11⟩)
    (hQ := fun _ hh hz => ⟨hh, hz⟩)

end Cert.Proof.Ffn0

end
-- ==== Proof.FirstMaths.lean ====
/- The first feed-forward sub-layer's values: an element of the reference's two results, and the same element of what the
   kernel's tiles hold, as one expression. -/
module

public import proofs.«01_k».proof.Proof.Value
public import proofs.«01_k».proof.Proof.FirstTiles
public import proofs.«01_k».proof.Proof.Gen.FirstReferenceIdeal.Run
public import Idealize.ShloMosaic.Lib.Pointwise

@[expose] public section

noncomputable section

namespace Cert.Proof.Ffn0

open Idealize.ShloMosaic Idealize.SL.Sem
open Idealize.ShloMosaic.TcCoe Idealize.ShloMosaic.Tactic
open Idealize.ShloMosaic.Pointwise
open Cert.Proof.Ffn2 (resE normE)

section Maths
open Cert.FirstIdeal

/-! ## As mathematics -/

/-- Modulation `n` of batch element `r`: SiLU of the conditioning, projected. -/
def modE (c : Vec Ideal S8x1024 .f32) (w : Vec Ideal S1024x9216 .f32) (b : Vec Ideal S9216 .f32) (r : Fin 8) (n : Fin 9216) : EReal :=
  (∑ k : Fin 1024, c (ix2 r k) * Ideal.div 1 (1 + Ideal.exp (-c (ix2 r k))) * w (ix2 k n)) + b (ix1 n)

/-- Element `l` of row `R` of the normalised residual, from the arguments. -/
def out (h : Vec Ideal S8x2048x1024 .f32) (c : Vec Ideal S8x1024 .f32) (w : Vec Ideal S1024x9216 .f32) (b : Vec Ideal S9216 .f32)
    (w1 w3 : Vec Ideal S1024x2816 .f32) (w2 : Vec Ideal S2816x1024 .f32) (g n : Vec Ideal S1024 .f32) (R : Fin 16384) (l : Fin 1024) : EReal :=
  normE
    (resE (fun k => h (ix3 ⟨R.val / 2048, by omega⟩ ⟨R.val % 2048, by omega⟩ k))
      (fun k => modE c w b ⟨R.val / 2048, by omega⟩ ⟨k.val, by omega⟩)
      (fun k => modE c w b ⟨R.val / 2048, by omega⟩ ⟨1024 + k.val, by omega⟩)
      (fun k => modE c w b ⟨R.val / 2048, by omega⟩ ⟨2048 + k.val, by omega⟩)
      (fun k j => w1 (ix2 k j)) (fun k j => w3 (ix2 k j)) (fun j k => w2 (ix2 j k)))
    (fun k => g (ix1 k)) (fun k => n (ix1 k)) l

end Maths

/-! ## The reference -/

section Reference
open Cert.FirstReferenceIdeal Cert.FirstReferenceIdeal.Gen

theorem reference_at (m : (ℓ : Loc Cert.FirstReferenceIdeal.nD Cert.FirstReferenceIdeal.τ Cert.FirstReferenceIdeal.sig) → Buf (Elt Ideal) ℓ)
    (c : Dev Cert.FirstReferenceIdeal.nD) (R : Fin 16384) (l : Fin 1024) :
    Cert.FirstReferenceIdeal.Value.res_main_v56 m c (ix2 R l)
      = out (m ((c.tc : Thread Cert.FirstReferenceIdeal.nD Cert.FirstReferenceIdeal.τ).loc Cert.FirstReferenceIdeal.main_arg0))
          (m ((c.tc : Thread Cert.FirstReferenceIdeal.nD Cert.FirstReferenceIdeal.τ).loc Cert.FirstReferenceIdeal.main_arg1))
          (m ((c.tc : Thread Cert.FirstReferenceIdeal.nD Cert.FirstReferenceIdeal.τ).loc Cert.FirstReferenceIdeal.main_arg2))
          (m ((c.tc : Thread Cert.FirstReferenceIdeal.nD Cert.FirstReferenceIdeal.τ).loc Cert.FirstReferenceIdeal.main_arg3))
          (m ((c.tc : Thread Cert.FirstReferenceIdeal.nD Cert.FirstReferenceIdeal.τ).loc Cert.FirstReferenceIdeal.main_arg4))
          (m ((c.tc : Thread Cert.FirstReferenceIdeal.nD Cert.FirstReferenceIdeal.τ).loc Cert.FirstReferenceIdeal.main_arg5))
          (m ((c.tc : Thread Cert.FirstReferenceIdeal.nD Cert.FirstReferenceIdeal.τ).loc Cert.FirstReferenceIdeal.main_arg6))
          (m ((c.tc : Thread Cert.FirstReferenceIdeal.nD Cert.FirstReferenceIdeal.τ).loc Cert.FirstReferenceIdeal.main_arg7))
          (m ((c.tc : Thread Cert.FirstReferenceIdeal.nD Cert.FirstReferenceIdeal.τ).loc Cert.FirstReferenceIdeal.main_arg8)) R l := by
  pointwise [Cert.FirstReferenceIdeal.Value.res_main_v56]
  rfl

/-- The reference's modulations, from the conditioning, the projection and the bias. -/
def refMods (c : FVec Ideal S8x1024 .f32) (w : FVec Ideal S1024x9216 .f32) (b : FVec Ideal S9216 .f32) : Vec Ideal S8x6144 .f32 :=
  extractStridedSlice S8x6144 ![0, 3072] ((addf (Host.dotGeneral dot_S8x1024_S1024x9216_S8x9216_1_0_0_1_n_n none (mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))) w) (broadcastInDim S8x9216 ![0, 1] bcast_S1x9216_S8x9216_0_1 (broadcastInDim S1x9216 ![1] bcast_S9216_S1x9216_1 b))) : FVec Ideal S8x9216 .f32) slices_S8x9216_S8x6144_0_3072
theorem refMods_at (c : Vec Ideal S8x1024 .f32) (w : Vec Ideal S1024x9216 .f32) (b : Vec Ideal S9216 .f32) (r : Fin 8) (n : Fin 6144) :
    refMods c w b (ix2 r n) = modE c w b r ⟨3072 + n.val, by omega⟩ := by
  pointwise [refMods]
  rfl
end Reference

open Cert.FirstIdeal Cert.FirstIdeal.Gen

/-! ## The kernel's pieces -/

theorem modBlk_at (c : Vec Ideal S8x1024 .f32) (w : Vec Ideal S1024x384 .f32) (b : Vec Ideal S1x384 .f32) (r : Fin 8) (j : Fin 384) :
    modBlk c w b (ix2 r j) = (∑ k : Fin 1024, c (ix2 r k) * Ideal.div 1 (1 + Ideal.exp (-c (ix2 r k))) * w (ix2 k j)) + b (ix2 0 j) := by
  pointwise [modBlk]
  rfl

theorem normed_at (g b : Vec Ideal S1x1024 .f32) (x : Vec Ideal S1024x1024 .f32) (i l : Fin 1024) :
    k0_pay17 (k0_pay12 x g b) (ix2 i l) = normE (fun k => x (ix2 i k)) (fun k => g (ix2 0 k)) (fun k => b (ix2 0 k)) l := by
  pointwise [k0_pay17, k0_pay12]
  rfl

theorem resid_at (x : Vec Ideal S1024x1024 .f32) (sh sc gt : Vec Ideal S1x1024 .f32) (w1 w3 : Vec Ideal S1024x2816 .bf16) (w2 : Vec Ideal S2816x1024 .bf16)
    (i l : Fin 1024) :
    k0_pay18 x sh sc gt w1 w3 w2 (ix2 i l) = resE (fun k => x (ix2 i k)) (fun k => sh (ix2 0 k)) (fun k => sc (ix2 0 k)) (fun k => gt (ix2 0 k))
      (fun k j => w1 (ix2 k j)) (fun k j => w3 (ix2 k j)) (fun j k => w2 (ix2 j k)) l := by
  pointwise [k0_pay18]
  rfl

theorem col_lt (o : Fin 3) (k : Fin 1024) : 1024 * o.val + k.val < 3072 := by omega
theorem modCols_at (mods : Vec Ideal S8x3072 .f32) (r : Fin 8) (o : Fin 3) (k : Fin 1024) :
    modCols mods r o (ix2 0 k) = mods (ix2 r ⟨1024 * o.val + k.val, col_lt o k⟩) := by
  refine congrArg mods (funext fun a => Fin.ext ?_)
  match a with
  | ⟨0, _⟩ => show r.val + 1 * 0 = r.val; omega
  | ⟨1, _⟩ => show 1024 * o.val + 1 * k.val = 1024 * o.val + k.val; omega

/-! ## What the call is given, read through the tiles -/

section Tiles
variable {c : Dev nD} (X : Ins Ideal c)

theorem aTi_at (b : Fin 8) (k : Fin 1024) (j : Fin 384) :
    (aTi b).view.read (Elt Ideal) X.A (ix2 k j) = X.A (ix2 k (⟨384 * b.val + j.val, by omega⟩ : Fin 9216)) :=
  congrArg X.A (funext fun a => Fin.ext (by
    match a with
    | ⟨0, _⟩ => show 0 + 1 * k.val = k.val; omega
    | ⟨1, _⟩ => show 384 * b.val + 1 * j.val = 384 * b.val + j.val; omega))
theorem bTi_at (b : Fin 8) (j : Fin 384) :
    (bTi b).view.read (Elt Ideal) X.B (ix2 0 j) = X.B (ix2 0 (⟨384 * b.val + j.val, by omega⟩ : Fin 9216)) :=
  congrArg X.B (funext fun a => Fin.ext (by
    match a with
    | ⟨0, _⟩ => show 0 + 1 * 0 = 0; omega
    | ⟨1, _⟩ => show 384 * b.val + 1 * j.val = 384 * b.val + j.val; omega))
theorem block_at (b : Fin 8) (r : Fin 8) (j : Fin 384) (B : Vec Ideal S9216 .f32) (hB : ∀ j : Fin 9216, X.B (ix2 0 j) = B (ix1 j)) :
    modBlk (cH.view.read (Elt Ideal) X.C) ((aTi b).view.read (Elt Ideal) X.A) ((bTi b).view.read (Elt Ideal) X.B) (ix2 r j)
      = modE X.C X.A B r ⟨384 * b.val + j.val, by omega⟩ := by
  refine (modBlk_at _ _ _ r j).trans ?_
  exact congrArg₂ (· + ·) (Finset.sum_congr rfl fun k _ => congrArg _ (aTi_at X b k j)) ((bTi_at X b j).trans (hB _))
theorem mods_at (r : Fin 8) (n : Fin 3072) (B : Vec Ideal S9216 .f32) (hB : ∀ j : Fin 9216, X.B (ix2 0 j) = B (ix1 j)) :
    mods X (ix2 r n) = modE X.C X.A B r ⟨n.val, by omega⟩ := by
  have hn : n.val / 384 < 8 := by omega
  refine (block_at X ⟨n.val / 384, hn⟩ r ⟨n.val % 384, Nat.mod_lt _ (by decide)⟩ B hB).trans ?_
  exact congrArg (modE X.C X.A B r) (Fin.ext (Nat.div_add_mod n.val 384))

theorem adaOut_at (b : Fin 16) (r : Fin 8) (j : Fin 384) (B : Vec Ideal S9216 .f32) (hB : ∀ j : Fin 9216, X.V (ix2 0 j) = B (ix1 j)) :
    adaOut X b (ix2 r j) = modE X.C X.A B r ⟨384 * (8 + b.val) + j.val, by omega⟩ := by
  have hA (k : Fin 1024) : (uTi b).view.read (Elt Ideal) X.A (ix2 k j) = X.A (ix2 k (⟨384 * (8 + b.val) + j.val, by omega⟩ : Fin 9216)) :=
    congrArg X.A (funext fun a => Fin.ext (by
      match a with
      | ⟨0, _⟩ => show 0 + 1 * k.val = k.val; omega
      | ⟨1, _⟩ => show 384 * (8 + b.val) + 1 * j.val = 384 * (8 + b.val) + j.val; omega))
  have hb : (vTi b).view.read (Elt Ideal) X.V (ix2 0 j) = X.V (ix2 0 (⟨384 * (8 + b.val) + j.val, by omega⟩ : Fin 9216)) :=
    congrArg X.V (funext fun a => Fin.ext (by
      match a with
      | ⟨0, _⟩ => show 0 + 1 * 0 = 0; omega
      | ⟨1, _⟩ => show 384 * (8 + b.val) + 1 * j.val = 384 * (8 + b.val) + j.val; omega))
  refine (modBlk_at _ _ _ r j).trans ?_
  exact congrArg₂ (· + ·) (Finset.sum_congr rfl fun k _ => congrArg _ (hA k)) (hb.trans (hB _))

theorem w1_at (k : Fin 1024) (j : Fin 2816) : w1 X (ix2 k j) = X.C1 (ix2 k j) := by
  refine congrArg X.C1 (funext fun a => Fin.ext ?_)
  match a with
  | ⟨0, _⟩ => show 128 * (k.val / 128) + 1 * (k.val % 128) = k.val; omega
  | ⟨1, _⟩ => show 0 + 1 * j.val = j.val; omega
theorem w3_at (k : Fin 1024) (j : Fin 2816) : w3 X (ix2 k j) = X.C3 (ix2 k j) := by
  refine congrArg X.C3 (funext fun a => Fin.ext ?_)
  match a with
  | ⟨0, _⟩ => show 128 * (k.val / 128) + 1 * (k.val % 128) = k.val; omega
  | ⟨1, _⟩ => show 0 + 1 * j.val = j.val; omega
theorem w2_at (j : Fin 2816) (k : Fin 1024) : w2 X (ix2 j k) = X.C2 (ix2 j k) := by
  refine congrArg X.C2 (funext fun a => Fin.ext ?_)
  match a with
  | ⟨0, _⟩ => show 352 * (j.val / 352) + 1 * (j.val % 352) = j.val; omega
  | ⟨1, _⟩ => show 0 + 1 * k.val = k.val; omega
theorem row_at (b : Fin 16) (i k : Fin 1024) : (hTi b).view.read (Elt Ideal) X.H (ix2 i k) = X.H (ix2 (⟨1024 * b.val + i.val, by omega⟩ : Fin 16384) k) := by
  refine congrArg X.H (funext fun a => Fin.ext ?_)
  match a with
  | ⟨0, _⟩ => show 1024 * b.val + 1 * i.val = 1024 * b.val + i.val; omega
  | ⟨1, _⟩ => show 0 + 1 * k.val = k.val; omega

/-- An element of a tile of the result. -/
theorem tileOut_at (b : Fin 16) (i l : Fin 1024) (B : Vec Ideal S9216 .f32) (hB : ∀ j : Fin 9216, X.B (ix2 0 j) = B (ix1 j)) :
    tileOut X b (ix2 i l)
      = normE (resE (fun k => X.H (ix2 (⟨1024 * b.val + i.val, by omega⟩ : Fin 16384) k))
          (fun k => modE X.C X.A B (modRow b) ⟨k.val, by omega⟩) (fun k => modE X.C X.A B (modRow b) ⟨1024 + k.val, by omega⟩)
          (fun k => modE X.C X.A B (modRow b) ⟨2048 + k.val, by omega⟩)
          (fun k j => X.C1 (ix2 k j)) (fun k j => X.C3 (ix2 k j)) (fun j k => X.C2 (ix2 j k)))
        (fun k => X.G (ix2 0 k)) (fun k => X.N (ix2 0 k)) l := by
  unfold tileOut
  rw [normed_at]
  unfold resid
  simp only [resid_at, modCols_at, mods_at X _ _ B hB, w1_at, w3_at, w2_at, row_at]
  simp only [Fin.isValue, Fin.val_zero, Fin.val_one, Fin.val_two, Nat.mul_zero, Nat.zero_add, Nat.mul_one, Nat.reduceMul]
end Tiles

end Cert.Proof.Ffn0

end
-- ==== Proof.FirstValue.lean ====
/- The first feed-forward sub-layer's results, element by element, and the runs of its three programs. -/
module

public import proofs.«01_k».proof.Defs
public import proofs.«01_k».proof.Proof.FirstLaunch
public import proofs.«01_k».proof.Proof.FirstMaths
public import proofs.«01_k».proof.Proof.Gen.First
public import Idealize.ShloMosaic.Lib.Claim
public import Idealize.ShloMosaic.Lib.Pipeline.ValueKit

@[expose] public section

noncomputable section

namespace Cert.Proof.Ffn0

open Cert.FirstIdeal Cert.FirstIdeal.Gen
open Idealize.ShloMosaic Idealize.SL.Sem
open Idealize.ShloMosaic.TcCoe Idealize.ShloMosaic.Tactic
open Idealize.ShloMosaic.Pointwise
open Cert.Proof.Ffn2 (resE normE)

variable (m : (ℓ : Loc nD τ sig) → Buf (Elt Ideal) ℓ) (ρ : Dev nD → PrngReg) (c : Dev nD)

/-! ## What the call is given, from the arguments -/

theorem window0 : ∀ a, win0_0.index at0 a = 0 := by decide
theorem window1 : ∀ a, win0_1.index at0 a = 0 := by decide

theorem block_gain (k : Fin 1024) : iblk m c 0 at0 (ix2 0 k) = m ((c : Thread nD τ).loc main_arg7) (ix1 k) := by
  blk_ext! [iblk, V, window0]
theorem block_bias (k : Fin 1024) : iblk m c 1 at0 (ix2 0 k) = m ((c : Thread nD τ).loc main_arg8) (ix1 k) := by
  blk_ext! [iblk, V, window1]
theorem rows_at (R : Fin 16384) (k : Fin 1024) :
    V m c main_v0 (ix2 R k) = m ((c : Thread nD τ).loc main_arg0) (ix3 ⟨R.val / 2048, by omega⟩ ⟨R.val % 2048, by omega⟩ k) := by
  entry_read
  pointwise
theorem bias_at (j : Fin 9216) : V m c main_v3 (ix2 0 j) = m ((c : Thread nD τ).loc main_arg3) (ix1 j) := by
  entry_read
  pointwise
theorem later_bias_at (j : Fin 9216) : V m c main_v2 (ix2 0 j) = m ((c : Thread nD τ).loc main_arg3) (ix1 j) := by
  entry_read
  pointwise

/-! ## An element of each result -/

/-- Element `l` of row `R` of the kernel's result: row `R % 1024` of tile `R / 1024`. -/
theorem kernel_at (R : Fin 16384) (l : Fin 1024) :
    outBuf c (given m c) (ix2 R l) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R l := by
  have hR : R.val / 1024 < 16 := by omega
  refine (tileOut_at (given m c) ⟨R.val / 1024, hR⟩ ⟨R.val % 1024, Nat.mod_lt _ (by decide)⟩ l (m ((c : Thread nD τ).loc main_arg3)) (bias_at m c)).trans ?_
  have hrow : modRow ⟨R.val / 1024, hR⟩ = ⟨R.val / 2048, by omega⟩ := Fin.ext (by show R.val / 1024 / 2 = R.val / 2048; omega)
  have hx : (⟨1024 * (R.val / 1024) + R.val % 1024, by omega⟩ : Fin 16384) = R := Fin.ext (Nat.div_add_mod R.val 1024)
  rw [hrow]
  simp only [hx]
  show normE (resE (fun k => V m c main_v0 (ix2 R k)) (fun k => modE (V m c main_arg1) (V m c main_arg2) _ _ _) (fun k => modE (V m c main_arg1) (V m c main_arg2) _ _ _)
      (fun k => modE (V m c main_arg1) (V m c main_arg2) _ _ _) (fun k j => V m c main_arg4 (ix2 k j)) (fun k j => V m c main_arg5 (ix2 k j)) (fun j k => V m c main_arg6 (ix2 j k)))
    (fun k => iblk m c 0 at0 (ix2 0 k)) (fun k => iblk m c 1 at0 (ix2 0 k)) l = _
  simp only [block_gain, block_bias]
  rw [V_main_arg1, V_main_arg2, V_main_arg4, V_main_arg5, V_main_arg6]
  exact congrArg (fun r => normE r _ _ l) (congrArg (fun x => resE x _ _ _ _ _ _) (funext fun k => rows_at m c R k))

/-- Column `n` of row `r` of the later modulations: column `n % 384` of block `n / 384`. -/
theorem later_mods_at (r : Fin 8) (n : Fin 6144) :
    adaBuf c (given m c) (ix2 r n) = modE (m ((c : Thread nD τ).loc main_arg1)) (m ((c : Thread nD τ).loc main_arg2)) (m ((c : Thread nD τ).loc main_arg3)) r ⟨3072 + n.val, by omega⟩ := by
  have hn : n.val / 384 < 16 := by omega
  refine (adaOut_at (given m c) ⟨n.val / 384, hn⟩ r ⟨n.val % 384, Nat.mod_lt _ (by decide)⟩ (m ((c : Thread nD τ).loc main_arg3)) (later_bias_at m c)).trans ?_
  have hx : (⟨384 * (8 + n.val / 384) + n.val % 384, by omega⟩ : Fin 9216) = ⟨3072 + n.val, by omega⟩ := Fin.ext (by
    show 384 * (8 + n.val / 384) + n.val % 384 = 3072 + n.val
    omega)
  show modE (V m c main_arg1) (V m c main_arg2) (m ((c : Thread nD τ).loc main_arg3)) r ⟨384 * (8 + n.val / 384) + n.val % 384, _⟩ = _
  rw [hx, V_main_arg1, V_main_arg2]

/-! ## The runs -/

/-- From any memory, the kernel's program leaves its arguments as they were. -/
theorem kept_args {F : FTy → Type} [FloatOps F] (m : (ℓ : Loc nD τ sig) → Buf (Elt F) ℓ) (s) (c : Dev nD) (hq : QY m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8)
      ∧ s.mem ((c : Thread nD τ).loc main_arg9) = m ((c : Thread nD τ).loc main_arg9)
      ∧ s.mem ((c : Thread nD τ).loc main_arg10) = m ((c : Thread nD τ).loc main_arg10)
      ∧ s.mem ((c : Thread nD τ).loc main_arg11) = m ((c : Thread nD τ).loc main_arg11) := by
  obtain ⟨_, _, a0, a1, a2, a3, a4, a5, a6, a7, a8, a9, a10, a11⟩ := hq
  exact ⟨a0.trans (V_main_arg0 m c), a1.trans (V_main_arg1 m c), a2.trans (V_main_arg2 m c), a3.trans (V_main_arg3 m c), a4.trans (V_main_arg4 m c), a5.trans (V_main_arg5 m c), a6.trans (V_main_arg6 m c), a7.trans (V_main_arg7 m c), a8.trans (V_main_arg8 m c), a9.trans (V_main_arg9 m c), a10.trans (V_main_arg10 m c), a11.trans (V_main_arg11 m c)⟩

theorem run_kept {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) ∧ r.2.sem = fun _ => 0) :=
  (θ_run defs _ _).mono (fun r h => ⟨fun c => kept_args m r.2 c (h.1 c).2, h.2⟩) (run_main m ρ)

theorem frame_firstIdeal : Cert.quiescent_FirstIdeal (hFirstIdeal := Cert.FirstIdeal.Gen.facts) := fun m ρ _ => run_kept (F := Ideal) m ρ

/-- The two programs have one body table. -/
theorem bodies_eq {F : FTy → Type} [FloatOps F] : Cert.First.defs (F := F) = Cert.FirstIdeal.defs (F := F) := by
  refine congrArg (Pipeline.defs Cert.FirstIdeal.pcfgs) (show Cert.First.defs₀ (F := F) = Cert.FirstIdeal.defs₀ (F := F) from ?_)
  unfold Cert.First.defs₀ Cert.FirstIdeal.defs₀
  refine congrArg Defs.onTc (funext fun l => ?_)
  match l with
  | 0 => rfl
  | ⟨_ + 1, h⟩ => exact absurd h (Nat.not_lt.2 (Nat.le_add_left _ _))

theorem frame_first : Cert.quiescent_First (hFirst := Cert.First.Gen.facts) := fun m ρ _ =>
  bodies_eq (F := Bits) ▸ run_kept (F := Bits) m ρ

/-- The reference declares no semaphore. -/
theorem frame_reference : Cert.quiescent_FirstReferenceIdeal (hFirstReferenceIdeal := Cert.FirstReferenceIdeal.Gen.facts) := fun m ρ _ =>
  (θ_run Cert.FirstReferenceIdeal.defs _ _).mono (fun r h => ⟨fun c => (h c).2.2, sem_eq_zero_of_no_sems (by decide) r.2⟩)
    (Cert.FirstReferenceIdeal.Value.run (F := Ideal) m ρ)

/-- On equal arguments the kernel's program and the reference end with the same two results. -/
theorem algebraic : Cert.algebraic_FirstIdeal_FirstReferenceIdeal (hFirstIdeal := Cert.FirstIdeal.Gen.facts)
    (hFirstReferenceIdeal := Cert.FirstReferenceIdeal.Gen.facts) := by
  intro m ρ m' ρ' _ hagree
  refine ⟨fun c => outBuf c (given m c), fun c => adaBuf c (given m c), ?_, ?_⟩
  · exact (θ_run defs _ _).mono (fun r h c => ⟨(h.1 c).2.1, (h.1 c).2.2.1, kept_args m r.2 c (h.1 c).2⟩) (run_main (F := Ideal) m ρ)
  · refine (θ_run Cert.FirstReferenceIdeal.defs _ _).mono (fun r h c => ⟨(h c).1.trans ?_, (h c).2.1.trans ?_, (h c).2.2⟩)
      (Cert.FirstReferenceIdeal.Value.run (F := Ideal) m' ρ')
    · refine funext fun y => ?_
      obtain ⟨R, l, rfl⟩ : ∃ (R : Fin 16384) (l : Fin 1024), y = ix2 R l := ⟨y 0, y 1, eq_ix2 y⟩
      refine (reference_at m' c R l).trans (Eq.trans ?_ (kernel_at m c R l).symm)
      obtain ⟨a0, a1, a2, a3, a4, a5, a6, a7, a8, a9, a10, a11⟩ := hagree c
      rw [a0, a1, a2, a3, a4, a5, a6, a7, a8]
    · refine funext fun y => ?_
      obtain ⟨r', n, rfl⟩ : ∃ (r' : Fin 8) (n : Fin 6144), y = ix2 r' n := ⟨y 0, y 1, eq_ix2 y⟩
      refine (refMods_at _ _ _ r' n).trans (Eq.trans ?_ (later_mods_at m c r' n).symm)
      obtain ⟨a0, a1, a2, a3, a4, a5, a6, a7, a8, a9, a10, a11⟩ := hagree c
      rw [a1, a2, a3]

end Cert.Proof.Ffn0

end
-- ==== Proof.lean ====
/- The claims about the two feed-forward sub-layers: the run of each kernel, read at both number formats, gives its two
   frames; its results at the ideal reading are the reference's. -/
module

public import proofs.«01_k».proof.Defs
public import proofs.«01_k».proof.Proof.Gen.Kernel
public import proofs.«01_k».proof.Proof.Value
public import proofs.«01_k».proof.Proof.FirstValue
public import proofs.«01_k».proof.Proof.Gen.First
public import proofs.«01_k».proof.Proof.Gen.FirstIdeal.Launch
public import proofs.«01_k».proof.Proof.Gen.FirstIdeal.Loops
public import proofs.«01_k».proof.Proof.Gen.FirstIdeal.Points
public import proofs.«01_k».proof.Proof.Gen.FirstIdeal.Frame
public import proofs.«01_k».proof.Proof.Gen.FirstReferenceIdeal.Run

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.First.Gen.facts, Cert.FirstIdeal.Gen.facts, Cert.FirstReferenceIdeal.Gen.facts,
    Ffn2.frame_kernel, Ffn2.frame_kernelIdeal, Ffn2.frame_reference,
    Ffn0.frame_first, Ffn0.frame_firstIdeal, Ffn0.frame_reference,
    trivial, Ffn2.algebraic, trivial, Ffn0.algebraic⟩

end Cert.Proof

end
